-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Kernel15Ideal_finite15 [hPre_finite15 : Cert.Pre_finite15.Facts] (m : (ℓ : Loc Cert.Kernel15Ideal.nD Cert.Kernel15Ideal.τ Cert.Kernel15Ideal.sig) → Buf (Elt Ideal) ℓ) : Prop :=
  ∀ c : Dev Cert.Kernel15Ideal.nD,
    (Cert.Pre_finite15.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3)) (m ((c.tc : Thread Cert.Kernel15Ideal.nD Cert.Kernel15Ideal.τ).loc Cert.Kernel15Ideal.main_arg4)) (m ((c.tc : Thread Cert.Kernel15Ideal.nD Cert.Kernel15Ideal.τ).loc Cert.Kernel15Ideal.main_arg5)) (m ((c.tc : Thread Cert.Kernel15Ideal.nD Cert.Kernel15Ideal.τ).loc Cert.Kernel15Ideal.main_arg6)) (m ((c.tc : Thread Cert.Kernel15Ideal.nD Cert.Kernel15Ideal.τ).loc Cert.Kernel15Ideal.main_arg7)) (m ((c.tc : Thread Cert.Kernel15Ideal.nD Cert.Kernel15Ideal.τ).loc Cert.Kernel15Ideal.main_arg8)) (m ((c.tc : Thread Cert.Kernel15Ideal.nD Cert.Kernel15Ideal.τ).loc Cert.Kernel15Ideal.main_arg9))) = (fun _ => 1#1)

def Pre_Reference15Ideal (m : (ℓ : Loc Cert.Reference15Ideal.nD Cert.Reference15Ideal.τ Cert.Reference15Ideal.sig) → Buf (Elt Ideal) ℓ) : Prop :=
  True

def Pre_Reference15Ideal_finite15 [hPre_finite15 : Cert.Pre_finite15.Facts] (m : (ℓ : Loc Cert.Reference15Ideal.nD Cert.Reference15Ideal.τ Cert.Reference15Ideal.sig) → Buf (Elt Ideal) ℓ) : Prop :=
  ∀ c : Dev Cert.Reference15Ideal.nD,
    (Cert.Pre_finite15.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3)) (m ((c.tc : Thread Cert.Reference15Ideal.nD Cert.Reference15Ideal.τ).loc Cert.Reference15Ideal.main_arg4)) (m ((c.tc : Thread Cert.Reference15Ideal.nD Cert.Reference15Ideal.τ).loc Cert.Reference15Ideal.main_arg5)) (m ((c.tc : Thread Cert.Reference15Ideal.nD Cert.Reference15Ideal.τ).loc Cert.Reference15Ideal.main_arg6)) (m ((c.tc : Thread Cert.Reference15Ideal.nD Cert.Reference15Ideal.τ).loc Cert.Reference15Ideal.main_arg7)) (m ((c.tc : Thread Cert.Reference15Ideal.nD Cert.Reference15Ideal.τ).loc Cert.Reference15Ideal.main_arg8)) (m ((c.tc : Thread Cert.Reference15Ideal.nD Cert.Reference15Ideal.τ).loc Cert.Reference15Ideal.main_arg9))) = (fun _ => 1#1)

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Kernel16Ideal_finite16 [hPre_finite16 : Cert.Pre_finite16.Facts] (m : (ℓ : Loc Cert.Kernel16Ideal.nD Cert.Kernel16Ideal.τ Cert.Kernel16Ideal.sig) → Buf (Elt Ideal) ℓ) : Prop :=
  ∀ c : Dev Cert.Kernel16Ideal.nD,
    (Cert.Pre_finite16.fn (F := Ideal) (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2)) (m ((c.tc : Thread Cert.Kernel16Ideal.nD Cert.Kernel16Ideal.τ).loc Cert.Kernel16Ideal.main_arg3)) (m ((c.tc : Thread Cert.Kernel16Ideal.nD Cert.Kernel16Ideal.τ).loc Cert.Kernel16Ideal.main_arg4)) (m ((c.tc : Thread Cert.Kernel16Ideal.nD Cert.Kernel16Ideal.τ).loc Cert.Kernel16Ideal.main_arg5)) (m ((c.tc : Thread Cert.Kernel16Ideal.nD Cert.Kernel16Ideal.τ).loc Cert.Kernel16Ideal.main_arg6)) (m ((c.tc : Thread Cert.Kernel16Ideal.nD Cert.Kernel16Ideal.τ).loc Cert.Kernel16Ideal.main_arg7)) (m ((c.tc : Thread Cert.Kernel16Ideal.nD Cert.Kernel16Ideal.τ).loc Cert.Kernel16Ideal.main_arg8)) (m ((c.tc : Thread Cert.Kernel16Ideal.nD Cert.Kernel16Ideal.τ).loc Cert.Kernel16Ideal.main_arg9)) (m ((c.tc : Thread Cert.Kernel16Ideal.nD Cert.Kernel16Ideal.τ).loc Cert.Kernel16Ideal.main_arg10))) = (fun _ => 1#1)

def Pre_Reference16Ideal (m : (ℓ : Loc Cert.Reference16Ideal.nD Cert.Reference16Ideal.τ Cert.Reference16Ideal.sig) → Buf (Elt Ideal) ℓ) : Prop :=
  True

def Pre_Reference16Ideal_finite16 [hPre_finite16 : Cert.Pre_finite16.Facts] (m : (ℓ : Loc Cert.Reference16Ideal.nD Cert.Reference16Ideal.τ Cert.Reference16Ideal.sig) → Buf (Elt Ideal) ℓ) : Prop :=
  ∀ c : Dev Cert.Reference16Ideal.nD,
    (Cert.Pre_finite16.fn (F := Ideal) (m ((c.tc : Thread Cert.Reference16Ideal.nD Cert.Reference16Ideal.τ).loc Cert.Reference16Ideal.main_arg0)) (m ((c.tc : Thread Cert.Reference16Ideal.nD Cert.Reference16Ideal.τ).loc Cert.Reference16Ideal.main_arg1)) (m ((c.tc : Thread Cert.Reference16Ideal.nD Cert.Reference16Ideal.τ).loc Cert.Reference16Ideal.main_arg2)) (m ((c.tc : Thread Cert.Reference16Ideal.nD Cert.Reference16Ideal.τ).loc Cert.Reference16Ideal.main_arg3)) (m ((c.tc : Thread Cert.Reference16Ideal.nD Cert.Reference16Ideal.τ).loc Cert.Reference16Ideal.main_arg4)) (m ((c.tc : Thread Cert.Reference16Ideal.nD Cert.Reference16Ideal.τ).loc Cert.Reference16Ideal.main_arg5)) (m ((c.tc : Thread Cert.Reference16Ideal.nD Cert.Reference16Ideal.τ).loc Cert.Reference16Ideal.main_arg6)) (m ((c.tc : Thread Cert.Reference16Ideal.nD Cert.Reference16Ideal.τ).loc Cert.Reference16Ideal.main_arg7)) (m ((c.tc : Thread Cert.Reference16Ideal.nD Cert.Reference16Ideal.τ).loc Cert.Reference16Ideal.main_arg8)) (m ((c.tc : Thread Cert.Reference16Ideal.nD Cert.Reference16Ideal.τ).loc Cert.Reference16Ideal.main_arg9)) (m ((c.tc : Thread Cert.Reference16Ideal.nD Cert.Reference16Ideal.τ).loc Cert.Reference16Ideal.main_arg10))) = (fun _ => 1#1)

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Kernel17Ideal_finite17 [hPre_finite17 : Cert.Pre_finite17.Facts] (m : (ℓ : Loc Cert.Kernel17Ideal.nD Cert.Kernel17Ideal.τ Cert.Kernel17Ideal.sig) → Buf (Elt Ideal) ℓ) : Prop :=
  ∀ c : Dev Cert.Kernel17Ideal.nD,
    (Cert.Pre_finite17.fn (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2)) (m ((c.tc : Thread Cert.Kernel17Ideal.nD Cert.Kernel17Ideal.τ).loc Cert.Kernel17Ideal.main_arg3)) (m ((c.tc : Thread Cert.Kernel17Ideal.nD Cert.Kernel17Ideal.τ).loc Cert.Kernel17Ideal.main_arg4)) (m ((c.tc : Thread Cert.Kernel17Ideal.nD Cert.Kernel17Ideal.τ).loc Cert.Kernel17Ideal.main_arg5)) (m ((c.tc : Thread Cert.Kernel17Ideal.nD Cert.Kernel17Ideal.τ).loc Cert.Kernel17Ideal.main_arg6)) (m ((c.tc : Thread Cert.Kernel17Ideal.nD Cert.Kernel17Ideal.τ).loc Cert.Kernel17Ideal.main_arg7)) (m ((c.tc : Thread Cert.Kernel17Ideal.nD Cert.Kernel17Ideal.τ).loc Cert.Kernel17Ideal.main_arg8)) (m ((c.tc : Thread Cert.Kernel17Ideal.nD Cert.Kernel17Ideal.τ).loc Cert.Kernel17Ideal.main_arg9))) = (fun _ => 1#1)

def Pre_Reference17Ideal (m : (ℓ : Loc Cert.Reference17Ideal.nD Cert.Reference17Ideal.τ Cert.Reference17Ideal.sig) → Buf (Elt Ideal) ℓ) : Prop :=
  True

def Pre_Reference17Ideal_finite17 [hPre_finite17 : Cert.Pre_finite17.Facts] (m : (ℓ : Loc Cert.Reference17Ideal.nD Cert.Reference17Ideal.τ Cert.Reference17Ideal.sig) → Buf (Elt Ideal) ℓ) : Prop :=
  ∀ c : Dev Cert.Reference17Ideal.nD,
    (Cert.Pre_finite17.fn (F := Ideal) (m ((c.tc : Thread Cert.Reference17Ideal.nD Cert.Reference17Ideal.τ).loc Cert.Reference17Ideal.main_arg0)) (m ((c.tc : Thread Cert.Reference17Ideal.nD Cert.Reference17Ideal.τ).loc Cert.Reference17Ideal.main_arg1)) (m ((c.tc : Thread Cert.Reference17Ideal.nD Cert.Reference17Ideal.τ).loc Cert.Reference17Ideal.main_arg2)) (m ((c.tc : Thread Cert.Reference17Ideal.nD Cert.Reference17Ideal.τ).loc Cert.Reference17Ideal.main_arg3)) (m ((c.tc : Thread Cert.Reference17Ideal.nD Cert.Reference17Ideal.τ).loc Cert.Reference17Ideal.main_arg4)) (m ((c.tc : Thread Cert.Reference17Ideal.nD Cert.Reference17Ideal.τ).loc Cert.Reference17Ideal.main_arg5)) (m ((c.tc : Thread Cert.Reference17Ideal.nD Cert.Reference17Ideal.τ).loc Cert.Reference17Ideal.main_arg6)) (m ((c.tc : Thread Cert.Reference17Ideal.nD Cert.Reference17Ideal.τ).loc Cert.Reference17Ideal.main_arg7)) (m ((c.tc : Thread Cert.Reference17Ideal.nD Cert.Reference17Ideal.τ).loc Cert.Reference17Ideal.main_arg8)) (m ((c.tc : Thread Cert.Reference17Ideal.nD Cert.Reference17Ideal.τ).loc Cert.Reference17Ideal.main_arg9))) = (fun _ => 1#1)

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5)
      ∧ r.2.mem ((c.tc : Thread Cert.Kernel15.nD Cert.Kernel15.τ).loc Cert.Kernel15.main_arg6) = m ((c.tc : Thread Cert.Kernel15.nD Cert.Kernel15.τ).loc Cert.Kernel15.main_arg6)
      ∧ r.2.mem ((c.tc : Thread Cert.Kernel15.nD Cert.Kernel15.τ).loc Cert.Kernel15.main_arg7) = m ((c.tc : Thread Cert.Kernel15.nD Cert.Kernel15.τ).loc Cert.Kernel15.main_arg7)
      ∧ r.2.mem ((c.tc : Thread Cert.Kernel15.nD Cert.Kernel15.τ).loc Cert.Kernel15.main_arg8) = m ((c.tc : Thread Cert.Kernel15.nD Cert.Kernel15.τ).loc Cert.Kernel15.main_arg8)
      ∧ r.2.mem ((c.tc : Thread Cert.Kernel15.nD Cert.Kernel15.τ).loc Cert.Kernel15.main_arg9) = m ((c.tc : Thread Cert.Kernel15.nD Cert.Kernel15.τ).loc Cert.Kernel15.main_arg9))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
      ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
      ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7)
      ∧ r.2.mem ((c.tc : Thread Cert.Kernel15Ideal.nD Cert.Kernel15Ideal.τ).loc Cert.Kernel15Ideal.main_arg8) = m ((c.tc : Thread Cert.Kernel15Ideal.nD Cert.Kernel15Ideal.τ).loc Cert.Kernel15Ideal.main_arg8)
      ∧ r.2.mem ((c.tc : Thread Cert.Kernel15Ideal.nD Cert.Kernel15Ideal.τ).loc Cert.Kernel15Ideal.main_arg9) = m ((c.tc : Thread Cert.Kernel15Ideal.nD Cert.Kernel15Ideal.τ).loc Cert.Kernel15Ideal.main_arg9))
      ∧ r.2.sem = fun _ => 0)

def quiescent_Kernel15Ideal_pre_finite15 [hKernel15Ideal : Cert.Kernel15Ideal.Facts] [hPre_finite15 : Cert.Pre_finite15.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal_finite15 m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
      ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
      ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7)
      ∧ r.2.mem ((c.tc : Thread Cert.Kernel15Ideal.nD Cert.Kernel15Ideal.τ).loc Cert.Kernel15Ideal.main_arg8) = m ((c.tc : Thread Cert.Kernel15Ideal.nD Cert.Kernel15Ideal.τ).loc Cert.Kernel15Ideal.main_arg8)
      ∧ r.2.mem ((c.tc : Thread Cert.Kernel15Ideal.nD Cert.Kernel15Ideal.τ).loc Cert.Kernel15Ideal.main_arg9) = m ((c.tc : Thread Cert.Kernel15Ideal.nD Cert.Kernel15Ideal.τ).loc Cert.Kernel15Ideal.main_arg9))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5)
      ∧ r.2.mem ((c.tc : Thread Cert.Reference15Ideal.nD Cert.Reference15Ideal.τ).loc Cert.Reference15Ideal.main_arg6) = m ((c.tc : Thread Cert.Reference15Ideal.nD Cert.Reference15Ideal.τ).loc Cert.Reference15Ideal.main_arg6)
      ∧ r.2.mem ((c.tc : Thread Cert.Reference15Ideal.nD Cert.Reference15Ideal.τ).loc Cert.Reference15Ideal.main_arg7) = m ((c.tc : Thread Cert.Reference15Ideal.nD Cert.Reference15Ideal.τ).loc Cert.Reference15Ideal.main_arg7)
      ∧ r.2.mem ((c.tc : Thread Cert.Reference15Ideal.nD Cert.Reference15Ideal.τ).loc Cert.Reference15Ideal.main_arg8) = m ((c.tc : Thread Cert.Reference15Ideal.nD Cert.Reference15Ideal.τ).loc Cert.Reference15Ideal.main_arg8)
      ∧ r.2.mem ((c.tc : Thread Cert.Reference15Ideal.nD Cert.Reference15Ideal.τ).loc Cert.Reference15Ideal.main_arg9) = m ((c.tc : Thread Cert.Reference15Ideal.nD Cert.Reference15Ideal.τ).loc Cert.Reference15Ideal.main_arg9))
      ∧ r.2.sem = fun _ => 0)

def quiescent_Reference15Ideal_pre_finite15 [hReference15Ideal : Cert.Reference15Ideal.Facts] [hPre_finite15 : Cert.Pre_finite15.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal_finite15 m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5)
      ∧ r.2.mem ((c.tc : Thread Cert.Reference15Ideal.nD Cert.Reference15Ideal.τ).loc Cert.Reference15Ideal.main_arg6) = m ((c.tc : Thread Cert.Reference15Ideal.nD Cert.Reference15Ideal.τ).loc Cert.Reference15Ideal.main_arg6)
      ∧ r.2.mem ((c.tc : Thread Cert.Reference15Ideal.nD Cert.Reference15Ideal.τ).loc Cert.Reference15Ideal.main_arg7) = m ((c.tc : Thread Cert.Reference15Ideal.nD Cert.Reference15Ideal.τ).loc Cert.Reference15Ideal.main_arg7)
      ∧ r.2.mem ((c.tc : Thread Cert.Reference15Ideal.nD Cert.Reference15Ideal.τ).loc Cert.Reference15Ideal.main_arg8) = m ((c.tc : Thread Cert.Reference15Ideal.nD Cert.Reference15Ideal.τ).loc Cert.Reference15Ideal.main_arg8)
      ∧ r.2.mem ((c.tc : Thread Cert.Reference15Ideal.nD Cert.Reference15Ideal.τ).loc Cert.Reference15Ideal.main_arg9) = m ((c.tc : Thread Cert.Reference15Ideal.nD Cert.Reference15Ideal.τ).loc Cert.Reference15Ideal.main_arg9))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4)
      ∧ r.2.mem ((c.tc : Thread Cert.Kernel16.nD Cert.Kernel16.τ).loc Cert.Kernel16.main_arg5) = m ((c.tc : Thread Cert.Kernel16.nD Cert.Kernel16.τ).loc Cert.Kernel16.main_arg5)
      ∧ r.2.mem ((c.tc : Thread Cert.Kernel16.nD Cert.Kernel16.τ).loc Cert.Kernel16.main_arg6) = m ((c.tc : Thread Cert.Kernel16.nD Cert.Kernel16.τ).loc Cert.Kernel16.main_arg6)
      ∧ r.2.mem ((c.tc : Thread Cert.Kernel16.nD Cert.Kernel16.τ).loc Cert.Kernel16.main_arg7) = m ((c.tc : Thread Cert.Kernel16.nD Cert.Kernel16.τ).loc Cert.Kernel16.main_arg7)
      ∧ r.2.mem ((c.tc : Thread Cert.Kernel16.nD Cert.Kernel16.τ).loc Cert.Kernel16.main_arg8) = m ((c.tc : Thread Cert.Kernel16.nD Cert.Kernel16.τ).loc Cert.Kernel16.main_arg8)
      ∧ r.2.mem ((c.tc : Thread Cert.Kernel16.nD Cert.Kernel16.τ).loc Cert.Kernel16.main_arg9) = m ((c.tc : Thread Cert.Kernel16.nD Cert.Kernel16.τ).loc Cert.Kernel16.main_arg9)
      ∧ r.2.mem ((c.tc : Thread Cert.Kernel16.nD Cert.Kernel16.τ).loc Cert.Kernel16.main_arg10) = m ((c.tc : Thread Cert.Kernel16.nD Cert.Kernel16.τ).loc Cert.Kernel16.main_arg10))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
      ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
      ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6)
      ∧ r.2.mem ((c.tc : Thread Cert.Kernel16Ideal.nD Cert.Kernel16Ideal.τ).loc Cert.Kernel16Ideal.main_arg7) = m ((c.tc : Thread Cert.Kernel16Ideal.nD Cert.Kernel16Ideal.τ).loc Cert.Kernel16Ideal.main_arg7)
      ∧ r.2.mem ((c.tc : Thread Cert.Kernel16Ideal.nD Cert.Kernel16Ideal.τ).loc Cert.Kernel16Ideal.main_arg8) = m ((c.tc : Thread Cert.Kernel16Ideal.nD Cert.Kernel16Ideal.τ).loc Cert.Kernel16Ideal.main_arg8)
      ∧ r.2.mem ((c.tc : Thread Cert.Kernel16Ideal.nD Cert.Kernel16Ideal.τ).loc Cert.Kernel16Ideal.main_arg9) = m ((c.tc : Thread Cert.Kernel16Ideal.nD Cert.Kernel16Ideal.τ).loc Cert.Kernel16Ideal.main_arg9)
      ∧ r.2.mem ((c.tc : Thread Cert.Kernel16Ideal.nD Cert.Kernel16Ideal.τ).loc Cert.Kernel16Ideal.main_arg10) = m ((c.tc : Thread Cert.Kernel16Ideal.nD Cert.Kernel16Ideal.τ).loc Cert.Kernel16Ideal.main_arg10))
      ∧ r.2.sem = fun _ => 0)

def quiescent_Kernel16Ideal_pre_finite16 [hKernel16Ideal : Cert.Kernel16Ideal.Facts] [hPre_finite16 : Cert.Pre_finite16.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal_finite16 m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
      ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
      ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6)
      ∧ r.2.mem ((c.tc : Thread Cert.Kernel16Ideal.nD Cert.Kernel16Ideal.τ).loc Cert.Kernel16Ideal.main_arg7) = m ((c.tc : Thread Cert.Kernel16Ideal.nD Cert.Kernel16Ideal.τ).loc Cert.Kernel16Ideal.main_arg7)
      ∧ r.2.mem ((c.tc : Thread Cert.Kernel16Ideal.nD Cert.Kernel16Ideal.τ).loc Cert.Kernel16Ideal.main_arg8) = m ((c.tc : Thread Cert.Kernel16Ideal.nD Cert.Kernel16Ideal.τ).loc Cert.Kernel16Ideal.main_arg8)
      ∧ r.2.mem ((c.tc : Thread Cert.Kernel16Ideal.nD Cert.Kernel16Ideal.τ).loc Cert.Kernel16Ideal.main_arg9) = m ((c.tc : Thread Cert.Kernel16Ideal.nD Cert.Kernel16Ideal.τ).loc Cert.Kernel16Ideal.main_arg9)
      ∧ r.2.mem ((c.tc : Thread Cert.Kernel16Ideal.nD Cert.Kernel16Ideal.τ).loc Cert.Kernel16Ideal.main_arg10) = m ((c.tc : Thread Cert.Kernel16Ideal.nD Cert.Kernel16Ideal.τ).loc Cert.Kernel16Ideal.main_arg10))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4)
      ∧ r.2.mem ((c.tc : Thread Cert.Reference16Ideal.nD Cert.Reference16Ideal.τ).loc Cert.Reference16Ideal.main_arg5) = m ((c.tc : Thread Cert.Reference16Ideal.nD Cert.Reference16Ideal.τ).loc Cert.Reference16Ideal.main_arg5)
      ∧ r.2.mem ((c.tc : Thread Cert.Reference16Ideal.nD Cert.Reference16Ideal.τ).loc Cert.Reference16Ideal.main_arg6) = m ((c.tc : Thread Cert.Reference16Ideal.nD Cert.Reference16Ideal.τ).loc Cert.Reference16Ideal.main_arg6)
      ∧ r.2.mem ((c.tc : Thread Cert.Reference16Ideal.nD Cert.Reference16Ideal.τ).loc Cert.Reference16Ideal.main_arg7) = m ((c.tc : Thread Cert.Reference16Ideal.nD Cert.Reference16Ideal.τ).loc Cert.Reference16Ideal.main_arg7)
      ∧ r.2.mem ((c.tc : Thread Cert.Reference16Ideal.nD Cert.Reference16Ideal.τ).loc Cert.Reference16Ideal.main_arg8) = m ((c.tc : Thread Cert.Reference16Ideal.nD Cert.Reference16Ideal.τ).loc Cert.Reference16Ideal.main_arg8)
      ∧ r.2.mem ((c.tc : Thread Cert.Reference16Ideal.nD Cert.Reference16Ideal.τ).loc Cert.Reference16Ideal.main_arg9) = m ((c.tc : Thread Cert.Reference16Ideal.nD Cert.Reference16Ideal.τ).loc Cert.Reference16Ideal.main_arg9)
      ∧ r.2.mem ((c.tc : Thread Cert.Reference16Ideal.nD Cert.Reference16Ideal.τ).loc Cert.Reference16Ideal.main_arg10) = m ((c.tc : Thread Cert.Reference16Ideal.nD Cert.Reference16Ideal.τ).loc Cert.Reference16Ideal.main_arg10))
      ∧ r.2.sem = fun _ => 0)

def quiescent_Reference16Ideal_pre_finite16 [hReference16Ideal : Cert.Reference16Ideal.Facts] [hPre_finite16 : Cert.Pre_finite16.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal_finite16 m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4)
      ∧ r.2.mem ((c.tc : Thread Cert.Reference16Ideal.nD Cert.Reference16Ideal.τ).loc Cert.Reference16Ideal.main_arg5) = m ((c.tc : Thread Cert.Reference16Ideal.nD Cert.Reference16Ideal.τ).loc Cert.Reference16Ideal.main_arg5)
      ∧ r.2.mem ((c.tc : Thread Cert.Reference16Ideal.nD Cert.Reference16Ideal.τ).loc Cert.Reference16Ideal.main_arg6) = m ((c.tc : Thread Cert.Reference16Ideal.nD Cert.Reference16Ideal.τ).loc Cert.Reference16Ideal.main_arg6)
      ∧ r.2.mem ((c.tc : Thread Cert.Reference16Ideal.nD Cert.Reference16Ideal.τ).loc Cert.Reference16Ideal.main_arg7) = m ((c.tc : Thread Cert.Reference16Ideal.nD Cert.Reference16Ideal.τ).loc Cert.Reference16Ideal.main_arg7)
      ∧ r.2.mem ((c.tc : Thread Cert.Reference16Ideal.nD Cert.Reference16Ideal.τ).loc Cert.Reference16Ideal.main_arg8) = m ((c.tc : Thread Cert.Reference16Ideal.nD Cert.Reference16Ideal.τ).loc Cert.Reference16Ideal.main_arg8)
      ∧ r.2.mem ((c.tc : Thread Cert.Reference16Ideal.nD Cert.Reference16Ideal.τ).loc Cert.Reference16Ideal.main_arg9) = m ((c.tc : Thread Cert.Reference16Ideal.nD Cert.Reference16Ideal.τ).loc Cert.Reference16Ideal.main_arg9)
      ∧ r.2.mem ((c.tc : Thread Cert.Reference16Ideal.nD Cert.Reference16Ideal.τ).loc Cert.Reference16Ideal.main_arg10) = m ((c.tc : Thread Cert.Reference16Ideal.nD Cert.Reference16Ideal.τ).loc Cert.Reference16Ideal.main_arg10))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4)
      ∧ r.2.mem ((c.tc : Thread Cert.Kernel17.nD Cert.Kernel17.τ).loc Cert.Kernel17.main_arg5) = m ((c.tc : Thread Cert.Kernel17.nD Cert.Kernel17.τ).loc Cert.Kernel17.main_arg5)
      ∧ r.2.mem ((c.tc : Thread Cert.Kernel17.nD Cert.Kernel17.τ).loc Cert.Kernel17.main_arg6) = m ((c.tc : Thread Cert.Kernel17.nD Cert.Kernel17.τ).loc Cert.Kernel17.main_arg6)
      ∧ r.2.mem ((c.tc : Thread Cert.Kernel17.nD Cert.Kernel17.τ).loc Cert.Kernel17.main_arg7) = m ((c.tc : Thread Cert.Kernel17.nD Cert.Kernel17.τ).loc Cert.Kernel17.main_arg7)
      ∧ r.2.mem ((c.tc : Thread Cert.Kernel17.nD Cert.Kernel17.τ).loc Cert.Kernel17.main_arg8) = m ((c.tc : Thread Cert.Kernel17.nD Cert.Kernel17.τ).loc Cert.Kernel17.main_arg8)
      ∧ r.2.mem ((c.tc : Thread Cert.Kernel17.nD Cert.Kernel17.τ).loc Cert.Kernel17.main_arg9) = m ((c.tc : Thread Cert.Kernel17.nD Cert.Kernel17.τ).loc Cert.Kernel17.main_arg9))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
      ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5)
      ∧ r.2.mem ((c.tc : Thread Cert.Kernel17Ideal.nD Cert.Kernel17Ideal.τ).loc Cert.Kernel17Ideal.main_arg6) = m ((c.tc : Thread Cert.Kernel17Ideal.nD Cert.Kernel17Ideal.τ).loc Cert.Kernel17Ideal.main_arg6)
      ∧ r.2.mem ((c.tc : Thread Cert.Kernel17Ideal.nD Cert.Kernel17Ideal.τ).loc Cert.Kernel17Ideal.main_arg7) = m ((c.tc : Thread Cert.Kernel17Ideal.nD Cert.Kernel17Ideal.τ).loc Cert.Kernel17Ideal.main_arg7)
      ∧ r.2.mem ((c.tc : Thread Cert.Kernel17Ideal.nD Cert.Kernel17Ideal.τ).loc Cert.Kernel17Ideal.main_arg8) = m ((c.tc : Thread Cert.Kernel17Ideal.nD Cert.Kernel17Ideal.τ).loc Cert.Kernel17Ideal.main_arg8)
      ∧ r.2.mem ((c.tc : Thread Cert.Kernel17Ideal.nD Cert.Kernel17Ideal.τ).loc Cert.Kernel17Ideal.main_arg9) = m ((c.tc : Thread Cert.Kernel17Ideal.nD Cert.Kernel17Ideal.τ).loc Cert.Kernel17Ideal.main_arg9))
      ∧ r.2.sem = fun _ => 0)

def quiescent_Kernel17Ideal_pre_finite17 [hKernel17Ideal : Cert.Kernel17Ideal.Facts] [hPre_finite17 : Cert.Pre_finite17.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal_finite17 m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
      ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5)
      ∧ r.2.mem ((c.tc : Thread Cert.Kernel17Ideal.nD Cert.Kernel17Ideal.τ).loc Cert.Kernel17Ideal.main_arg6) = m ((c.tc : Thread Cert.Kernel17Ideal.nD Cert.Kernel17Ideal.τ).loc Cert.Kernel17Ideal.main_arg6)
      ∧ r.2.mem ((c.tc : Thread Cert.Kernel17Ideal.nD Cert.Kernel17Ideal.τ).loc Cert.Kernel17Ideal.main_arg7) = m ((c.tc : Thread Cert.Kernel17Ideal.nD Cert.Kernel17Ideal.τ).loc Cert.Kernel17Ideal.main_arg7)
      ∧ r.2.mem ((c.tc : Thread Cert.Kernel17Ideal.nD Cert.Kernel17Ideal.τ).loc Cert.Kernel17Ideal.main_arg8) = m ((c.tc : Thread Cert.Kernel17Ideal.nD Cert.Kernel17Ideal.τ).loc Cert.Kernel17Ideal.main_arg8)
      ∧ r.2.mem ((c.tc : Thread Cert.Kernel17Ideal.nD Cert.Kernel17Ideal.τ).loc Cert.Kernel17Ideal.main_arg9) = m ((c.tc : Thread Cert.Kernel17Ideal.nD Cert.Kernel17Ideal.τ).loc Cert.Kernel17Ideal.main_arg9))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4)
      ∧ r.2.mem ((c.tc : Thread Cert.Reference17Ideal.nD Cert.Reference17Ideal.τ).loc Cert.Reference17Ideal.main_arg5) = m ((c.tc : Thread Cert.Reference17Ideal.nD Cert.Reference17Ideal.τ).loc Cert.Reference17Ideal.main_arg5)
      ∧ r.2.mem ((c.tc : Thread Cert.Reference17Ideal.nD Cert.Reference17Ideal.τ).loc Cert.Reference17Ideal.main_arg6) = m ((c.tc : Thread Cert.Reference17Ideal.nD Cert.Reference17Ideal.τ).loc Cert.Reference17Ideal.main_arg6)
      ∧ r.2.mem ((c.tc : Thread Cert.Reference17Ideal.nD Cert.Reference17Ideal.τ).loc Cert.Reference17Ideal.main_arg7) = m ((c.tc : Thread Cert.Reference17Ideal.nD Cert.Reference17Ideal.τ).loc Cert.Reference17Ideal.main_arg7)
      ∧ r.2.mem ((c.tc : Thread Cert.Reference17Ideal.nD Cert.Reference17Ideal.τ).loc Cert.Reference17Ideal.main_arg8) = m ((c.tc : Thread Cert.Reference17Ideal.nD Cert.Reference17Ideal.τ).loc Cert.Reference17Ideal.main_arg8)
      ∧ r.2.mem ((c.tc : Thread Cert.Reference17Ideal.nD Cert.Reference17Ideal.τ).loc Cert.Reference17Ideal.main_arg9) = m ((c.tc : Thread Cert.Reference17Ideal.nD Cert.Reference17Ideal.τ).loc Cert.Reference17Ideal.main_arg9))
      ∧ r.2.sem = fun _ => 0)

def quiescent_Reference17Ideal_pre_finite17 [hReference17Ideal : Cert.Reference17Ideal.Facts] [hPre_finite17 : Cert.Pre_finite17.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal_finite17 m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4)
      ∧ r.2.mem ((c.tc : Thread Cert.Reference17Ideal.nD Cert.Reference17Ideal.τ).loc Cert.Reference17Ideal.main_arg5) = m ((c.tc : Thread Cert.Reference17Ideal.nD Cert.Reference17Ideal.τ).loc Cert.Reference17Ideal.main_arg5)
      ∧ r.2.mem ((c.tc : Thread Cert.Reference17Ideal.nD Cert.Reference17Ideal.τ).loc Cert.Reference17Ideal.main_arg6) = m ((c.tc : Thread Cert.Reference17Ideal.nD Cert.Reference17Ideal.τ).loc Cert.Reference17Ideal.main_arg6)
      ∧ r.2.mem ((c.tc : Thread Cert.Reference17Ideal.nD Cert.Reference17Ideal.τ).loc Cert.Reference17Ideal.main_arg7) = m ((c.tc : Thread Cert.Reference17Ideal.nD Cert.Reference17Ideal.τ).loc Cert.Reference17Ideal.main_arg7)
      ∧ r.2.mem ((c.tc : Thread Cert.Reference17Ideal.nD Cert.Reference17Ideal.τ).loc Cert.Reference17Ideal.main_arg8) = m ((c.tc : Thread Cert.Reference17Ideal.nD Cert.Reference17Ideal.τ).loc Cert.Reference17Ideal.main_arg8)
      ∧ r.2.mem ((c.tc : Thread Cert.Reference17Ideal.nD Cert.Reference17Ideal.τ).loc Cert.Reference17Ideal.main_arg9) = m ((c.tc : Thread Cert.Reference17Ideal.nD Cert.Reference17Ideal.τ).loc Cert.Reference17Ideal.main_arg9))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4)
      ∧ r.2.mem ((c.tc : Thread Cert.Kernel18.nD Cert.Kernel18.τ).loc Cert.Kernel18.main_arg5) = m ((c.tc : Thread Cert.Kernel18.nD Cert.Kernel18.τ).loc Cert.Kernel18.main_arg5))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
      ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4)
      ∧ r.2.mem ((c.tc : Thread Cert.Reference18Ideal.nD Cert.Reference18Ideal.τ).loc Cert.Reference18Ideal.main_arg5) = m ((c.tc : Thread Cert.Reference18Ideal.nD Cert.Reference18Ideal.τ).loc Cert.Reference18Ideal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v27_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27_0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v4) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v15) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v10)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v10) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v25) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)) →
    ∃ (v0 : (c : Dev Cert.Kernel6Ideal.nD) → Buf (Elt Ideal) ((c.tc : Thread Cert.Kernel6Ideal.nD Cert.Kernel6Ideal.τ).loc Cert.Kernel6Ideal.main_v10_0)) (v1 : (c : Dev Cert.Kernel6Ideal.nD) → Buf (Elt Ideal) ((c.tc : Thread Cert.Kernel6Ideal.nD Cert.Kernel6Ideal.τ).loc Cert.Kernel6Ideal.main_v10_1)) (v2 : (c : Dev Cert.Kernel6Ideal.nD) → Buf (Elt Ideal) ((c.tc : Thread Cert.Kernel6Ideal.nD Cert.Kernel6Ideal.τ).loc Cert.Kernel6Ideal.main_v10_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v10_0) = v0 c
          ∧ r.2.mem ((c.tc : Thread Cert.Kernel6Ideal.nD Cert.Kernel6Ideal.τ).loc Cert.Kernel6Ideal.main_v10_1) = v1 c
          ∧ r.2.mem ((c.tc : Thread Cert.Kernel6Ideal.nD Cert.Kernel6Ideal.τ).loc Cert.Kernel6Ideal.main_v10_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v34) = v0 c
          ∧ r.2.mem ((c.tc : Thread Cert.Reference6Ideal.nD Cert.Reference6Ideal.τ).loc Cert.Reference6Ideal.main_v33) = v1 c
          ∧ r.2.mem ((c.tc : Thread Cert.Reference6Ideal.nD Cert.Reference6Ideal.τ).loc Cert.Reference6Ideal.main_v41) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)) →
    ∃ (v0 : (c : Dev Cert.Kernel7Ideal.nD) → Buf (Elt Ideal) ((c.tc : Thread Cert.Kernel7Ideal.nD Cert.Kernel7Ideal.τ).loc Cert.Kernel7Ideal.main_v4_0)) (v1 : (c : Dev Cert.Kernel7Ideal.nD) → Buf (Elt Ideal) ((c.tc : Thread Cert.Kernel7Ideal.nD Cert.Kernel7Ideal.τ).loc Cert.Kernel7Ideal.main_v4_1)) (v2 : (c : Dev Cert.Kernel7Ideal.nD) → Buf (Elt Ideal) ((c.tc : Thread Cert.Kernel7Ideal.nD Cert.Kernel7Ideal.τ).loc Cert.Kernel7Ideal.main_v4_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4_0) = v0 c
          ∧ r.2.mem ((c.tc : Thread Cert.Kernel7Ideal.nD Cert.Kernel7Ideal.τ).loc Cert.Kernel7Ideal.main_v4_1) = v1 c
          ∧ r.2.mem ((c.tc : Thread Cert.Kernel7Ideal.nD Cert.Kernel7Ideal.τ).loc Cert.Kernel7Ideal.main_v4_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v31) = v0 c
          ∧ r.2.mem ((c.tc : Thread Cert.Reference7Ideal.nD Cert.Reference7Ideal.τ).loc Cert.Reference7Ideal.main_v30) = v1 c
          ∧ r.2.mem ((c.tc : Thread Cert.Reference7Ideal.nD Cert.Reference7Ideal.τ).loc Cert.Reference7Ideal.main_v38) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v4) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v22) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v4) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v2) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v3) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal_pre_finite15 [hKernel15Ideal : Cert.Kernel15Ideal.Facts] [hReference15Ideal : Cert.Reference15Ideal.Facts] [hPre_finite15 : Cert.Pre_finite15.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal_finite15 m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)
      ∧ m' ((c.tc : Thread Cert.Reference15Ideal.nD Cert.Reference15Ideal.τ).loc Cert.Reference15Ideal.main_arg6) = m ((c.tc : Thread Cert.Kernel15Ideal.nD Cert.Kernel15Ideal.τ).loc Cert.Kernel15Ideal.main_arg6)
      ∧ m' ((c.tc : Thread Cert.Reference15Ideal.nD Cert.Reference15Ideal.τ).loc Cert.Reference15Ideal.main_arg7) = m ((c.tc : Thread Cert.Kernel15Ideal.nD Cert.Kernel15Ideal.τ).loc Cert.Kernel15Ideal.main_arg7)
      ∧ m' ((c.tc : Thread Cert.Reference15Ideal.nD Cert.Reference15Ideal.τ).loc Cert.Reference15Ideal.main_arg8) = m ((c.tc : Thread Cert.Kernel15Ideal.nD Cert.Kernel15Ideal.τ).loc Cert.Kernel15Ideal.main_arg8)
      ∧ m' ((c.tc : Thread Cert.Reference15Ideal.nD Cert.Reference15Ideal.τ).loc Cert.Reference15Ideal.main_arg9) = m ((c.tc : Thread Cert.Kernel15Ideal.nD Cert.Kernel15Ideal.τ).loc Cert.Kernel15Ideal.main_arg9)) →
    ∃ (v0 : (c : Dev Cert.Kernel15Ideal.nD) → Buf (Elt Ideal) ((c.tc : Thread Cert.Kernel15Ideal.nD Cert.Kernel15Ideal.τ).loc Cert.Kernel15Ideal.main_v34_0)) (v1 : (c : Dev Cert.Kernel15Ideal.nD) → Buf (Elt Ideal) ((c.tc : Thread Cert.Kernel15Ideal.nD Cert.Kernel15Ideal.τ).loc Cert.Kernel15Ideal.main_v34_1)) (v2 : (c : Dev Cert.Kernel15Ideal.nD) → Buf (Elt Ideal) ((c.tc : Thread Cert.Kernel15Ideal.nD Cert.Kernel15Ideal.τ).loc Cert.Kernel15Ideal.main_v34_2)) (v3 : (c : Dev Cert.Kernel15Ideal.nD) → Buf (Elt Ideal) ((c.tc : Thread Cert.Kernel15Ideal.nD Cert.Kernel15Ideal.τ).loc Cert.Kernel15Ideal.main_v34_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v34_0) = v0 c
          ∧ r.2.mem ((c.tc : Thread Cert.Kernel15Ideal.nD Cert.Kernel15Ideal.τ).loc Cert.Kernel15Ideal.main_v34_1) = v1 c
          ∧ r.2.mem ((c.tc : Thread Cert.Kernel15Ideal.nD Cert.Kernel15Ideal.τ).loc Cert.Kernel15Ideal.main_v34_2) = v2 c
          ∧ r.2.mem ((c.tc : Thread Cert.Kernel15Ideal.nD Cert.Kernel15Ideal.τ).loc Cert.Kernel15Ideal.main_v34_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
          ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
          ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7)
          ∧ r.2.mem ((c.tc : Thread Cert.Kernel15Ideal.nD Cert.Kernel15Ideal.τ).loc Cert.Kernel15Ideal.main_arg8) = m ((c.tc : Thread Cert.Kernel15Ideal.nD Cert.Kernel15Ideal.τ).loc Cert.Kernel15Ideal.main_arg8)
          ∧ r.2.mem ((c.tc : Thread Cert.Kernel15Ideal.nD Cert.Kernel15Ideal.τ).loc Cert.Kernel15Ideal.main_arg9) = m ((c.tc : Thread Cert.Kernel15Ideal.nD Cert.Kernel15Ideal.τ).loc Cert.Kernel15Ideal.main_arg9))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v86) = v0 c
          ∧ r.2.mem ((c.tc : Thread Cert.Reference15Ideal.nD Cert.Reference15Ideal.τ).loc Cert.Reference15Ideal.main_v92) = v1 c
          ∧ r.2.mem ((c.tc : Thread Cert.Reference15Ideal.nD Cert.Reference15Ideal.τ).loc Cert.Reference15Ideal.main_v94) = v2 c
          ∧ r.2.mem ((c.tc : Thread Cert.Reference15Ideal.nD Cert.Reference15Ideal.τ).loc Cert.Reference15Ideal.main_v96) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5)
          ∧ r.2.mem ((c.tc : Thread Cert.Reference15Ideal.nD Cert.Reference15Ideal.τ).loc Cert.Reference15Ideal.main_arg6) = m' ((c.tc : Thread Cert.Reference15Ideal.nD Cert.Reference15Ideal.τ).loc Cert.Reference15Ideal.main_arg6)
          ∧ r.2.mem ((c.tc : Thread Cert.Reference15Ideal.nD Cert.Reference15Ideal.τ).loc Cert.Reference15Ideal.main_arg7) = m' ((c.tc : Thread Cert.Reference15Ideal.nD Cert.Reference15Ideal.τ).loc Cert.Reference15Ideal.main_arg7)
          ∧ r.2.mem ((c.tc : Thread Cert.Reference15Ideal.nD Cert.Reference15Ideal.τ).loc Cert.Reference15Ideal.main_arg8) = m' ((c.tc : Thread Cert.Reference15Ideal.nD Cert.Reference15Ideal.τ).loc Cert.Reference15Ideal.main_arg8)
          ∧ r.2.mem ((c.tc : Thread Cert.Reference15Ideal.nD Cert.Reference15Ideal.τ).loc Cert.Reference15Ideal.main_arg9) = m' ((c.tc : Thread Cert.Reference15Ideal.nD Cert.Reference15Ideal.τ).loc Cert.Reference15Ideal.main_arg9))

def preserves_Kernel16_Kernel16Ideal : Prop :=
  True

def algebraic_Kernel16Ideal_Reference16Ideal_pre_finite16 [hKernel16Ideal : Cert.Kernel16Ideal.Facts] [hReference16Ideal : Cert.Reference16Ideal.Facts] [hPre_finite16 : Cert.Pre_finite16.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal_finite16 m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)
      ∧ m' ((c.tc : Thread Cert.Reference16Ideal.nD Cert.Reference16Ideal.τ).loc Cert.Reference16Ideal.main_arg5) = m ((c.tc : Thread Cert.Kernel16Ideal.nD Cert.Kernel16Ideal.τ).loc Cert.Kernel16Ideal.main_arg5)
      ∧ m' ((c.tc : Thread Cert.Reference16Ideal.nD Cert.Reference16Ideal.τ).loc Cert.Reference16Ideal.main_arg6) = m ((c.tc : Thread Cert.Kernel16Ideal.nD Cert.Kernel16Ideal.τ).loc Cert.Kernel16Ideal.main_arg6)
      ∧ m' ((c.tc : Thread Cert.Reference16Ideal.nD Cert.Reference16Ideal.τ).loc Cert.Reference16Ideal.main_arg7) = m ((c.tc : Thread Cert.Kernel16Ideal.nD Cert.Kernel16Ideal.τ).loc Cert.Kernel16Ideal.main_arg7)
      ∧ m' ((c.tc : Thread Cert.Reference16Ideal.nD Cert.Reference16Ideal.τ).loc Cert.Reference16Ideal.main_arg8) = m ((c.tc : Thread Cert.Kernel16Ideal.nD Cert.Kernel16Ideal.τ).loc Cert.Kernel16Ideal.main_arg8)
      ∧ m' ((c.tc : Thread Cert.Reference16Ideal.nD Cert.Reference16Ideal.τ).loc Cert.Reference16Ideal.main_arg9) = m ((c.tc : Thread Cert.Kernel16Ideal.nD Cert.Kernel16Ideal.τ).loc Cert.Kernel16Ideal.main_arg9)
      ∧ m' ((c.tc : Thread Cert.Reference16Ideal.nD Cert.Reference16Ideal.τ).loc Cert.Reference16Ideal.main_arg10) = m ((c.tc : Thread Cert.Kernel16Ideal.nD Cert.Kernel16Ideal.τ).loc Cert.Kernel16Ideal.main_arg10)) →
    ∃ (v0 : (c : Dev Cert.Kernel16Ideal.nD) → Buf (Elt Ideal) ((c.tc : Thread Cert.Kernel16Ideal.nD Cert.Kernel16Ideal.τ).loc Cert.Kernel16Ideal.main_v34_0)) (v1 : (c : Dev Cert.Kernel16Ideal.nD) → Buf (Elt Ideal) ((c.tc : Thread Cert.Kernel16Ideal.nD Cert.Kernel16Ideal.τ).loc Cert.Kernel16Ideal.main_v34_1)) (v2 : (c : Dev Cert.Kernel16Ideal.nD) → Buf (Elt Ideal) ((c.tc : Thread Cert.Kernel16Ideal.nD Cert.Kernel16Ideal.τ).loc Cert.Kernel16Ideal.main_v34_2)) (v3 : (c : Dev Cert.Kernel16Ideal.nD) → Buf (Elt Ideal) ((c.tc : Thread Cert.Kernel16Ideal.nD Cert.Kernel16Ideal.τ).loc Cert.Kernel16Ideal.main_v34_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v34_0) = v0 c
          ∧ r.2.mem ((c.tc : Thread Cert.Kernel16Ideal.nD Cert.Kernel16Ideal.τ).loc Cert.Kernel16Ideal.main_v34_1) = v1 c
          ∧ r.2.mem ((c.tc : Thread Cert.Kernel16Ideal.nD Cert.Kernel16Ideal.τ).loc Cert.Kernel16Ideal.main_v34_2) = v2 c
          ∧ r.2.mem ((c.tc : Thread Cert.Kernel16Ideal.nD Cert.Kernel16Ideal.τ).loc Cert.Kernel16Ideal.main_v34_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
          ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
          ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6)
          ∧ r.2.mem ((c.tc : Thread Cert.Kernel16Ideal.nD Cert.Kernel16Ideal.τ).loc Cert.Kernel16Ideal.main_arg7) = m ((c.tc : Thread Cert.Kernel16Ideal.nD Cert.Kernel16Ideal.τ).loc Cert.Kernel16Ideal.main_arg7)
          ∧ r.2.mem ((c.tc : Thread Cert.Kernel16Ideal.nD Cert.Kernel16Ideal.τ).loc Cert.Kernel16Ideal.main_arg8) = m ((c.tc : Thread Cert.Kernel16Ideal.nD Cert.Kernel16Ideal.τ).loc Cert.Kernel16Ideal.main_arg8)
          ∧ r.2.mem ((c.tc : Thread Cert.Kernel16Ideal.nD Cert.Kernel16Ideal.τ).loc Cert.Kernel16Ideal.main_arg9) = m ((c.tc : Thread Cert.Kernel16Ideal.nD Cert.Kernel16Ideal.τ).loc Cert.Kernel16Ideal.main_arg9)
          ∧ r.2.mem ((c.tc : Thread Cert.Kernel16Ideal.nD Cert.Kernel16Ideal.τ).loc Cert.Kernel16Ideal.main_arg10) = m ((c.tc : Thread Cert.Kernel16Ideal.nD Cert.Kernel16Ideal.τ).loc Cert.Kernel16Ideal.main_arg10))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v97) = v0 c
          ∧ r.2.mem ((c.tc : Thread Cert.Reference16Ideal.nD Cert.Reference16Ideal.τ).loc Cert.Reference16Ideal.main_v103) = v1 c
          ∧ r.2.mem ((c.tc : Thread Cert.Reference16Ideal.nD Cert.Reference16Ideal.τ).loc Cert.Reference16Ideal.main_v108) = v2 c
          ∧ r.2.mem ((c.tc : Thread Cert.Reference16Ideal.nD Cert.Reference16Ideal.τ).loc Cert.Reference16Ideal.main_v110) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4)
          ∧ r.2.mem ((c.tc : Thread Cert.Reference16Ideal.nD Cert.Reference16Ideal.τ).loc Cert.Reference16Ideal.main_arg5) = m' ((c.tc : Thread Cert.Reference16Ideal.nD Cert.Reference16Ideal.τ).loc Cert.Reference16Ideal.main_arg5)
          ∧ r.2.mem ((c.tc : Thread Cert.Reference16Ideal.nD Cert.Reference16Ideal.τ).loc Cert.Reference16Ideal.main_arg6) = m' ((c.tc : Thread Cert.Reference16Ideal.nD Cert.Reference16Ideal.τ).loc Cert.Reference16Ideal.main_arg6)
          ∧ r.2.mem ((c.tc : Thread Cert.Reference16Ideal.nD Cert.Reference16Ideal.τ).loc Cert.Reference16Ideal.main_arg7) = m' ((c.tc : Thread Cert.Reference16Ideal.nD Cert.Reference16Ideal.τ).loc Cert.Reference16Ideal.main_arg7)
          ∧ r.2.mem ((c.tc : Thread Cert.Reference16Ideal.nD Cert.Reference16Ideal.τ).loc Cert.Reference16Ideal.main_arg8) = m' ((c.tc : Thread Cert.Reference16Ideal.nD Cert.Reference16Ideal.τ).loc Cert.Reference16Ideal.main_arg8)
          ∧ r.2.mem ((c.tc : Thread Cert.Reference16Ideal.nD Cert.Reference16Ideal.τ).loc Cert.Reference16Ideal.main_arg9) = m' ((c.tc : Thread Cert.Reference16Ideal.nD Cert.Reference16Ideal.τ).loc Cert.Reference16Ideal.main_arg9)
          ∧ r.2.mem ((c.tc : Thread Cert.Reference16Ideal.nD Cert.Reference16Ideal.τ).loc Cert.Reference16Ideal.main_arg10) = m' ((c.tc : Thread Cert.Reference16Ideal.nD Cert.Reference16Ideal.τ).loc Cert.Reference16Ideal.main_arg10))

def preserves_Kernel17_Kernel17Ideal : Prop :=
  True

def algebraic_Kernel17Ideal_Reference17Ideal_pre_finite17 [hKernel17Ideal : Cert.Kernel17Ideal.Facts] [hReference17Ideal : Cert.Reference17Ideal.Facts] [hPre_finite17 : Cert.Pre_finite17.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal_finite17 m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)
      ∧ m' ((c.tc : Thread Cert.Reference17Ideal.nD Cert.Reference17Ideal.τ).loc Cert.Reference17Ideal.main_arg5) = m ((c.tc : Thread Cert.Kernel17Ideal.nD Cert.Kernel17Ideal.τ).loc Cert.Kernel17Ideal.main_arg5)
      ∧ m' ((c.tc : Thread Cert.Reference17Ideal.nD Cert.Reference17Ideal.τ).loc Cert.Reference17Ideal.main_arg6) = m ((c.tc : Thread Cert.Kernel17Ideal.nD Cert.Kernel17Ideal.τ).loc Cert.Kernel17Ideal.main_arg6)
      ∧ m' ((c.tc : Thread Cert.Reference17Ideal.nD Cert.Reference17Ideal.τ).loc Cert.Reference17Ideal.main_arg7) = m ((c.tc : Thread Cert.Kernel17Ideal.nD Cert.Kernel17Ideal.τ).loc Cert.Kernel17Ideal.main_arg7)
      ∧ m' ((c.tc : Thread Cert.Reference17Ideal.nD Cert.Reference17Ideal.τ).loc Cert.Reference17Ideal.main_arg8) = m ((c.tc : Thread Cert.Kernel17Ideal.nD Cert.Kernel17Ideal.τ).loc Cert.Kernel17Ideal.main_arg8)
      ∧ m' ((c.tc : Thread Cert.Reference17Ideal.nD Cert.Reference17Ideal.τ).loc Cert.Reference17Ideal.main_arg9) = m ((c.tc : Thread Cert.Kernel17Ideal.nD Cert.Kernel17Ideal.τ).loc Cert.Kernel17Ideal.main_arg9)) →
    ∃ (v0 : (c : Dev Cert.Kernel17Ideal.nD) → Buf (Elt Ideal) ((c.tc : Thread Cert.Kernel17Ideal.nD Cert.Kernel17Ideal.τ).loc Cert.Kernel17Ideal.main_v36_0)) (v1 : (c : Dev Cert.Kernel17Ideal.nD) → Buf (Elt Ideal) ((c.tc : Thread Cert.Kernel17Ideal.nD Cert.Kernel17Ideal.τ).loc Cert.Kernel17Ideal.main_v36_1)) (v2 : (c : Dev Cert.Kernel17Ideal.nD) → Buf (Elt Ideal) ((c.tc : Thread Cert.Kernel17Ideal.nD Cert.Kernel17Ideal.τ).loc Cert.Kernel17Ideal.main_v36_2)) (v3 : (c : Dev Cert.Kernel17Ideal.nD) → Buf (Elt Ideal) ((c.tc : Thread Cert.Kernel17Ideal.nD Cert.Kernel17Ideal.τ).loc Cert.Kernel17Ideal.main_v36_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v36_0) = v0 c
          ∧ r.2.mem ((c.tc : Thread Cert.Kernel17Ideal.nD Cert.Kernel17Ideal.τ).loc Cert.Kernel17Ideal.main_v36_1) = v1 c
          ∧ r.2.mem ((c.tc : Thread Cert.Kernel17Ideal.nD Cert.Kernel17Ideal.τ).loc Cert.Kernel17Ideal.main_v36_2) = v2 c
          ∧ r.2.mem ((c.tc : Thread Cert.Kernel17Ideal.nD Cert.Kernel17Ideal.τ).loc Cert.Kernel17Ideal.main_v36_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
          ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5)
          ∧ r.2.mem ((c.tc : Thread Cert.Kernel17Ideal.nD Cert.Kernel17Ideal.τ).loc Cert.Kernel17Ideal.main_arg6) = m ((c.tc : Thread Cert.Kernel17Ideal.nD Cert.Kernel17Ideal.τ).loc Cert.Kernel17Ideal.main_arg6)
          ∧ r.2.mem ((c.tc : Thread Cert.Kernel17Ideal.nD Cert.Kernel17Ideal.τ).loc Cert.Kernel17Ideal.main_arg7) = m ((c.tc : Thread Cert.Kernel17Ideal.nD Cert.Kernel17Ideal.τ).loc Cert.Kernel17Ideal.main_arg7)
          ∧ r.2.mem ((c.tc : Thread Cert.Kernel17Ideal.nD Cert.Kernel17Ideal.τ).loc Cert.Kernel17Ideal.main_arg8) = m ((c.tc : Thread Cert.Kernel17Ideal.nD Cert.Kernel17Ideal.τ).loc Cert.Kernel17Ideal.main_arg8)
          ∧ r.2.mem ((c.tc : Thread Cert.Kernel17Ideal.nD Cert.Kernel17Ideal.τ).loc Cert.Kernel17Ideal.main_arg9) = m ((c.tc : Thread Cert.Kernel17Ideal.nD Cert.Kernel17Ideal.τ).loc Cert.Kernel17Ideal.main_arg9))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v86) = v0 c
          ∧ r.2.mem ((c.tc : Thread Cert.Reference17Ideal.nD Cert.Reference17Ideal.τ).loc Cert.Reference17Ideal.main_v92) = v1 c
          ∧ r.2.mem ((c.tc : Thread Cert.Reference17Ideal.nD Cert.Reference17Ideal.τ).loc Cert.Reference17Ideal.main_v94) = v2 c
          ∧ r.2.mem ((c.tc : Thread Cert.Reference17Ideal.nD Cert.Reference17Ideal.τ).loc Cert.Reference17Ideal.main_v96) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4)
          ∧ r.2.mem ((c.tc : Thread Cert.Reference17Ideal.nD Cert.Reference17Ideal.τ).loc Cert.Reference17Ideal.main_arg5) = m' ((c.tc : Thread Cert.Reference17Ideal.nD Cert.Reference17Ideal.τ).loc Cert.Reference17Ideal.main_arg5)
          ∧ r.2.mem ((c.tc : Thread Cert.Reference17Ideal.nD Cert.Reference17Ideal.τ).loc Cert.Reference17Ideal.main_arg6) = m' ((c.tc : Thread Cert.Reference17Ideal.nD Cert.Reference17Ideal.τ).loc Cert.Reference17Ideal.main_arg6)
          ∧ r.2.mem ((c.tc : Thread Cert.Reference17Ideal.nD Cert.Reference17Ideal.τ).loc Cert.Reference17Ideal.main_arg7) = m' ((c.tc : Thread Cert.Reference17Ideal.nD Cert.Reference17Ideal.τ).loc Cert.Reference17Ideal.main_arg7)
          ∧ r.2.mem ((c.tc : Thread Cert.Reference17Ideal.nD Cert.Reference17Ideal.τ).loc Cert.Reference17Ideal.main_arg8) = m' ((c.tc : Thread Cert.Reference17Ideal.nD Cert.Reference17Ideal.τ).loc Cert.Reference17Ideal.main_arg8)
          ∧ r.2.mem ((c.tc : Thread Cert.Reference17Ideal.nD Cert.Reference17Ideal.τ).loc Cert.Reference17Ideal.main_arg9) = m' ((c.tc : Thread Cert.Reference17Ideal.nD Cert.Reference17Ideal.τ).loc Cert.Reference17Ideal.main_arg9))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)
      ∧ m' ((c.tc : Thread Cert.Reference18Ideal.nD Cert.Reference18Ideal.τ).loc Cert.Reference18Ideal.main_arg5) = m ((c.tc : Thread Cert.Kernel18Ideal.nD Cert.Kernel18Ideal.τ).loc Cert.Kernel18Ideal.main_arg5)) →
    ∃ (v0 : (c : Dev Cert.Kernel18Ideal.nD) → Buf (Elt Ideal) ((c.tc : Thread Cert.Kernel18Ideal.nD Cert.Kernel18Ideal.τ).loc Cert.Kernel18Ideal.main_v6_0)) (v1 : (c : Dev Cert.Kernel18Ideal.nD) → Buf (Elt Ideal) ((c.tc : Thread Cert.Kernel18Ideal.nD Cert.Kernel18Ideal.τ).loc Cert.Kernel18Ideal.main_v6_1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v6_0) = v0 c
          ∧ r.2.mem ((c.tc : Thread Cert.Kernel18Ideal.nD Cert.Kernel18Ideal.τ).loc Cert.Kernel18Ideal.main_v6_1) = v1 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
          ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v20) = v0 c
          ∧ r.2.mem ((c.tc : Thread Cert.Reference18Ideal.nD Cert.Reference18Ideal.τ).loc Cert.Reference18Ideal.main_v22) = v1 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4)
          ∧ r.2.mem ((c.tc : Thread Cert.Reference18Ideal.nD Cert.Reference18Ideal.τ).loc Cert.Reference18Ideal.main_arg5) = m' ((c.tc : Thread Cert.Reference18Ideal.nD Cert.Reference18Ideal.τ).loc Cert.Reference18Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hPre_finite : Cert.Pre_finite.Facts) (hPre_finite15 : Cert.Pre_finite15.Facts) (hPre_finite16 : Cert.Pre_finite16.Facts) (hPre_finite17 : Cert.Pre_finite17.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Kernel15Ideal_pre_finite15 (hKernel15Ideal := hKernel15Ideal) (hPre_finite15 := hPre_finite15)
    ∧ quiescent_Reference15Ideal (hReference15Ideal := hReference15Ideal)
    ∧ quiescent_Reference15Ideal_pre_finite15 (hReference15Ideal := hReference15Ideal) (hPre_finite15 := hPre_finite15)
    ∧ quiescent_Kernel16 (hKernel16 := hKernel16)
    ∧ quiescent_Kernel16Ideal (hKernel16Ideal := hKernel16Ideal)
    ∧ quiescent_Kernel16Ideal_pre_finite16 (hKernel16Ideal := hKernel16Ideal) (hPre_finite16 := hPre_finite16)
    ∧ quiescent_Reference16Ideal (hReference16Ideal := hReference16Ideal)
    ∧ quiescent_Reference16Ideal_pre_finite16 (hReference16Ideal := hReference16Ideal) (hPre_finite16 := hPre_finite16)
    ∧ quiescent_Kernel17 (hKernel17 := hKernel17)
    ∧ quiescent_Kernel17Ideal (hKernel17Ideal := hKernel17Ideal)
    ∧ quiescent_Kernel17Ideal_pre_finite17 (hKernel17Ideal := hKernel17Ideal) (hPre_finite17 := hPre_finite17)
    ∧ quiescent_Reference17Ideal (hReference17Ideal := hReference17Ideal)
    ∧ quiescent_Reference17Ideal_pre_finite17 (hReference17Ideal := hReference17Ideal) (hPre_finite17 := hPre_finite17)
    ∧ quiescent_Kernel18 (hKernel18 := hKernel18)
    ∧ quiescent_Kernel18Ideal (hKernel18Ideal := hKernel18Ideal)
    ∧ quiescent_Reference18Ideal (hReference18Ideal := hReference18Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal_pre_finite15 (hKernel15Ideal := hKernel15Ideal) (hReference15Ideal := hReference15Ideal) (hPre_finite15 := hPre_finite15)
    ∧ preserves_Kernel16_Kernel16Ideal
    ∧ algebraic_Kernel16Ideal_Reference16Ideal_pre_finite16 (hKernel16Ideal := hKernel16Ideal) (hReference16Ideal := hReference16Ideal) (hPre_finite16 := hPre_finite16)
    ∧ preserves_Kernel17_Kernel17Ideal
    ∧ algebraic_Kernel17Ideal_Reference17Ideal_pre_finite17 (hKernel17Ideal := hKernel17Ideal) (hReference17Ideal := hReference17Ideal) (hPre_finite17 := hPre_finite17)
    ∧ preserves_Kernel18_Kernel18Ideal
    ∧ algebraic_Kernel18Ideal_Reference18Ideal (hKernel18Ideal := hKernel18Ideal) (hReference18Ideal := hReference18Ideal)
-- ==== Pre_finite.lean ====
abbrev S8192x3072 : Shape := ⟨2, ![8192, 3072]⟩
abbrev S16x257 : Shape := ⟨2, ![16, 257]⟩
abbrev S8192x1024 : Shape := ⟨2, ![8192, 1024]⟩
abbrev S_ : Shape := ⟨0, ![]⟩

class Facts : Prop where
  bitsLt_bf16_f32 : FTy.bits .bf16 < FTy.bits .f32
  bcast_S_S8192x3072 : S_.BroadcastsInDim S8192x3072 (![] : Fin 0 → Fin S8192x3072.rank)
  reducesTo_S8192x3072_S_d0_1 : S8192x3072.ReducesTo [0, 1] S_
  h_S_ : 0 < S_.numel
  bcast_S_S16x257 : S_.BroadcastsInDim S16x257 (![] : Fin 0 → Fin S16x257.rank)
  reducesTo_S16x257_S_d0_1 : S16x257.ReducesTo [0, 1] S_
  bcast_S_S8192x1024 : S_.BroadcastsInDim S8192x1024 (![] : Fin 0 → Fin S8192x1024.rank)
  reducesTo_S8192x1024_S_d0_1 : S8192x1024.ReducesTo [0, 1] S_

variable [Facts]

def fn {F : FTy → Type} [FloatOps F] (main_arg0 : FVec F S8192x3072 .bf16) (main_arg1 : FVec F S16x257 .f32) (main_arg2 : FVec F S8192x1024 .bf16) : IVec S_ 1 :=
  let main_v0 : FVec F S8192x3072 .f32 := (extf .f32 · bitsLt_bf16_f32) main_arg0
  let main_v1 : FVec F S8192x3072 .f32 := Host.absf main_v0
  let main_cst : FVec F S_ .f32 := constant S_ .f32 0x7F800000#32
  let main_v2 : FVec F S8192x3072 .f32 := broadcastInDim S8192x3072 ![] bcast_S_S8192x3072 main_cst
  let main_v3 : IVec S8192x3072 1 := cmpf .olt main_v1 main_v2
  let main_c : IVec S_ 1 := constantI S_ 1 1#1
  let main_v4 : IVec S_ 1 := (fun x v => Host.reduce IntOp.andi x v reducesTo_S8192x3072_S_d0_1 h_S_) main_v3 main_c
  let main_v5 : FVec F S16x257 .f32 := Host.absf main_arg1
  let main_cst_0 : FVec F S_ .f32 := constant S_ .f32 0x7F800000#32
  let main_v6 : FVec F S16x257 .f32 := broadcastInDim S16x257 ![] bcast_S_S16x257 main_cst_0
  let main_v7 : IVec S16x257 1 := cmpf .olt main_v5 main_v6
  let main_c_1 : IVec S_ 1 := constantI S_ 1 1#1
  let main_v8 : IVec S_ 1 := (fun x v => Host.reduce IntOp.andi x v reducesTo_S16x257_S_d0_1 h_S_) main_v7 main_c_1
  let main_v9 : IVec S_ 1 := andi main_v4 main_v8
  let main_v10 : FVec F S8192x1024 .f32 := (extf .f32 · bitsLt_bf16_f32) main_arg2
  let main_v11 : FVec F S8192x1024 .f32 := Host.absf main_v10
  let main_cst_2 : FVec F S_ .f32 := constant S_ .f32 0x7F800000#32
  let main_v12 : FVec F S8192x1024 .f32 := broadcastInDim S8192x1024 ![] bcast_S_S8192x1024 main_cst_2
  let main_v13 : IVec S8192x1024 1 := cmpf .olt main_v11 main_v12
  let main_c_3 : IVec S_ 1 := constantI S_ 1 1#1
  let main_v14 : IVec S_ 1 := (fun x v => Host.reduce IntOp.andi x v reducesTo_S8192x1024_S_d0_1 h_S_) main_v13 main_c_3
  let main_v15 : IVec S_ 1 := andi main_v9 main_v14
  main_v15
-- ==== Pre_finite15.lean ====
abbrev S8192x1024 : Shape := ⟨2, ![8192, 1024]⟩
abbrev S1x1024 : Shape := ⟨2, ![1, 1024]⟩
abbrev S1024x4096 : Shape := ⟨2, ![1024, 4096]⟩
abbrev S8192x4096 : Shape := ⟨2, ![8192, 4096]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bitsLt_bf16_f32 : FTy.bits .bf16 < FTy.bits .f32
  bcast_S_S1x1024 : S_.BroadcastsInDim S1x1024 (![] : Fin 0 → Fin S1x1024.rank)
  reducesTo_S1x1024_S_d0_1 : S1x1024.ReducesTo [0, 1] S_
  bcast_S_S1024x4096 : S_.BroadcastsInDim S1024x4096 (![] : Fin 0 → Fin S1024x4096.rank)
  reducesTo_S1024x4096_S_d0_1 : S1024x4096.ReducesTo [0, 1] S_
  bcast_S_S8192x4096 : S_.BroadcastsInDim S8192x4096 (![] : Fin 0 → Fin S8192x4096.rank)
  reducesTo_S8192x4096_S_d0_1 : S8192x4096.ReducesTo [0, 1] S_

variable [Facts]

def fn_part2 {F : FTy → Type} [FloatOps F] (main_arg9 : FVec F S8192x4096 .bf16) (main_v29 : IVec S_ 1) (main_v33 : IVec S_ 1) : IVec S_ 1 :=
  let main_v34 : IVec S_ 1 := andi main_v29 main_v33
  let main_v35 : FVec F S8192x4096 .f32 := (extf .f32 · bitsLt_bf16_f32) main_arg9
  let main_v36 : FVec F S8192x4096 .f32 := Host.absf main_v35
  let main_cst_12 : FVec F S_ .f32 := constant S_ .f32 0x7F800000#32
  let main_v37 : FVec F S8192x4096 .f32 := broadcastInDim S8192x4096 ![] bcast_S_S8192x4096 main_cst_12
  let main_v38 : IVec S8192x4096 1 := cmpf .olt main_v36 main_v37
  let main_c_13 : IVec S_ 1 := constantI S_ 1 1#1
  let main_v39 : IVec S_ 1 := (fun x v => Host.reduce IntOp.andi x v reducesTo_S8192x4096_S_d0_1 h_S_) main_v38 main_c_13
  let main_v40 : IVec S_ 1 := andi main_v34 main_v39
  main_v40

def fn_part1 {F : FTy → Type} [FloatOps F] (main_arg5 : FVec F S1x1024 .f32) (main_arg7 : FVec F S1024x4096 .f32) (main_arg8 : FVec F S8192x1024 .f32) (main_arg9 : FVec F S8192x4096 .bf16) (main_v14 : IVec S_ 1) (main_v15 : FVec F S1x1024 .f32) (main_v16 : FVec F S1x1024 .f32) : IVec S_ 1 :=
  let main_v17 : IVec S1x1024 1 := cmpf .olt main_v15 main_v16
  let main_c_5 : IVec S_ 1 := constantI S_ 1 1#1
  let main_v18 : IVec S_ 1 := (fun x v => Host.reduce IntOp.andi x v reducesTo_S1x1024_S_d0_1 h_S_) main_v17 main_c_5
  let main_v19 : IVec S_ 1 := andi main_v14 main_v18
  let main_v20 : FVec F S1x1024 .f32 := Host.absf main_arg5
  let main_cst_6 : FVec F S_ .f32 := constant S_ .f32 0x7F800000#32
  let main_v21 : FVec F S1x1024 .f32 := broadcastInDim S1x1024 ![] bcast_S_S1x1024 main_cst_6
  let main_v22 : IVec S1x1024 1 := cmpf .olt main_v20 main_v21
  let main_c_7 : IVec S_ 1 := constantI S_ 1 1#1
  let main_v23 : IVec S_ 1 := (fun x v => Host.reduce IntOp.andi x v reducesTo_S1x1024_S_d0_1 h_S_) main_v22 main_c_7
  let main_v24 : IVec S_ 1 := andi main_v19 main_v23
  let main_v25 : FVec F S1024x4096 .f32 := Host.absf main_arg7
  let main_cst_8 : FVec F S_ .f32 := constant S_ .f32 0x7F800000#32
  let main_v26 : FVec F S1024x4096 .f32 := broadcastInDim S1024x4096 ![] bcast_S_S1024x4096 main_cst_8
  let main_v27 : IVec S1024x4096 1 := cmpf .olt main_v25 main_v26
  let main_c_9 : IVec S_ 1 := constantI S_ 1 1#1
  let main_v28 : IVec S_ 1 := (fun x v => Host.reduce IntOp.andi x v reducesTo_S1024x4096_S_d0_1 h_S_) main_v27 main_c_9
  let main_v29 : IVec S_ 1 := andi main_v24 main_v28
  let main_v30 : FVec F S8192x1024 .f32 := Host.absf main_arg8
  let main_cst_10 : FVec F S_ .f32 := constant S_ .f32 0x7F800000#32
  let main_v31 : FVec F S8192x1024 .f32 := broadcastInDim S8192x1024 ![] bcast_S_S8192x1024 main_cst_10
  let main_v32 : IVec S8192x1024 1 := cmpf .olt main_v30 main_v31
  let main_c_11 : IVec S_ 1 := constantI S_ 1 1#1
  let main_v33 : IVec S_ 1 := (fun x v => Host.reduce IntOp.andi x v reducesTo_S8192x1024_S_d0_1 h_S_) main_v32 main_c_11
  fn_part2 (F := F) main_arg9 main_v29 main_v33

def fn {F : FTy → Type} [FloatOps F] (main_arg0 : FVec F S8192x1024 .f32) (main_arg1 : FVec F S8192x1024 .bf16) (main_arg2 : FVec F S1x1024 .f32) (main_arg3 : FVec F S1x1024 .f32) (main_arg4 : FVec F S1x1024 .f32) (main_arg5 : FVec F S1x1024 .f32) (main_arg6 : FVec F S1x1024 .f32) (main_arg7 : FVec F S1024x4096 .f32) (main_arg8 : FVec F S8192x1024 .f32) (main_arg9 : FVec F S8192x4096 .bf16) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := (extf .f32 · bitsLt_bf16_f32) main_arg1
  let main_v5 : FVec F S8192x1024 .f32 := Host.absf main_v4
  let main_cst_0 : FVec F S_ .f32 := constant S_ .f32 0x7F800000#32
  let main_v6 : FVec F S8192x1024 .f32 := broadcastInDim S8192x1024 ![] bcast_S_S8192x1024 main_cst_0
  let main_v7 : IVec S8192x1024 1 := cmpf .olt main_v5 main_v6
  let main_c_1 : IVec S_ 1 := constantI S_ 1 1#1
  let main_v8 : IVec S_ 1 := (fun x v => Host.reduce IntOp.andi x v reducesTo_S8192x1024_S_d0_1 h_S_) main_v7 main_c_1
  let main_v9 : IVec S_ 1 := andi main_v3 main_v8
  let main_v10 : FVec F S1x1024 .f32 := Host.absf main_arg2
  let main_cst_2 : FVec F S_ .f32 := constant S_ .f32 0x7F800000#32
  let main_v11 : FVec F S1x1024 .f32 := broadcastInDim S1x1024 ![] bcast_S_S1x1024 main_cst_2
  let main_v12 : IVec S1x1024 1 := cmpf .olt main_v10 main_v11
  let main_c_3 : IVec S_ 1 := constantI S_ 1 1#1
  let main_v13 : IVec S_ 1 := (fun x v => Host.reduce IntOp.andi x v reducesTo_S1x1024_S_d0_1 h_S_) main_v12 main_c_3
  let main_v14 : IVec S_ 1 := andi main_v9 main_v13
  let main_v15 : FVec F S1x1024 .f32 := Host.absf main_arg3
  let main_cst_4 : FVec F S_ .f32 := constant S_ .f32 0x7F800000#32
  let main_v16 : FVec F S1x1024 .f32 := broadcastInDim S1x1024 ![] bcast_S_S1x1024 main_cst_4
  fn_part1 (F := F) main_arg5 main_arg7 main_arg8 main_arg9 main_v14 main_v15 main_v16
-- ==== Pre_finite16.lean ====
abbrev S8192x1024 : Shape := ⟨2, ![8192, 1024]⟩
abbrev S1x1024 : Shape := ⟨2, ![1, 1024]⟩
abbrev S1024x3072 : Shape := ⟨2, ![1024, 3072]⟩
abbrev S3x8192x1024 : Shape := ⟨3, ![3, 8192, 1024]⟩
abbrev S1x3072 : Shape := ⟨2, ![1, 3072]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bitsLt_bf16_f32 : FTy.bits .bf16 < FTy.bits .f32
  bcast_S_S1x1024 : S_.BroadcastsInDim S1x1024 (![] : Fin 0 → Fin S1x1024.rank)
  reducesTo_S1x1024_S_d0_1 : S1x1024.ReducesTo [0, 1] S_
  bcast_S_S1024x3072 : S_.BroadcastsInDim S1024x3072 (![] : Fin 0 → Fin S1024x3072.rank)
  reducesTo_S1024x3072_S_d0_1 : S1024x3072.ReducesTo [0, 1] S_
  bcast_S_S3x8192x1024 : S_.BroadcastsInDim S3x8192x1024 (![] : Fin 0 → Fin S3x8192x1024.rank)
  reducesTo_S3x8192x1024_S_d0_1_2 : S3x8192x1024.ReducesTo [0, 1, 2] S_

variable [Facts]

def fn_part2 {F : FTy → Type} [FloatOps F] (main_arg9 : FVec F S3x8192x1024 .bf16) (main_v29 : IVec S_ 1) (main_v33 : IVec S_ 1) : IVec S_ 1 :=
  let main_v34 : IVec S_ 1 := andi main_v29 main_v33
  let main_v35 : FVec F S3x8192x1024 .f32 := (extf .f32 · bitsLt_bf16_f32) main_arg9
  let main_v36 : FVec F S3x8192x1024 .f32 := Host.absf main_v35
  let main_cst_12 : FVec F S_ .f32 := constant S_ .f32 0x7F800000#32
  let main_v37 : FVec F S3x8192x1024 .f32 := broadcastInDim S3x8192x1024 ![] bcast_S_S3x8192x1024 main_cst_12
  let main_v38 : IVec S3x8192x1024 1 := cmpf .olt main_v36 main_v37
  let main_c_13 : IVec S_ 1 := constantI S_ 1 1#1
  let main_v39 : IVec S_ 1 := (fun x v => Host.reduce IntOp.andi x v reducesTo_S3x8192x1024_S_d0_1_2 h_S_) main_v38 main_c_13
  let main_v40 : IVec S_ 1 := andi main_v34 main_v39
  main_v40

def fn_part1 {F : FTy → Type} [FloatOps F] (main_arg5 : FVec F S1x1024 .f32) (main_arg7 : FVec F S1024x3072 .f32) (main_arg8 : FVec F S8192x1024 .f32) (main_arg9 : FVec F S3x8192x1024 .bf16) (main_v14 : IVec S_ 1) (main_v15 : FVec F S1x1024 .f32) (main_v16 : FVec F S1x1024 .f32) : IVec S_ 1 :=
  let main_v17 : IVec S1x1024 1 := cmpf .olt main_v15 main_v16
  let main_c_5 : IVec S_ 1 := constantI S_ 1 1#1
  let main_v18 : IVec S_ 1 := (fun x v => Host.reduce IntOp.andi x v reducesTo_S1x1024_S_d0_1 h_S_) main_v17 main_c_5
  let main_v19 : IVec S_ 1 := andi main_v14 main_v18
  let main_v20 : FVec F S1x1024 .f32 := Host.absf main_arg5
  let main_cst_6 : FVec F S_ .f32 := constant S_ .f32 0x7F800000#32
  let main_v21 : FVec F S1x1024 .f32 := broadcastInDim S1x1024 ![] bcast_S_S1x1024 main_cst_6
  let main_v22 : IVec S1x1024 1 := cmpf .olt main_v20 main_v21
  let main_c_7 : IVec S_ 1 := constantI S_ 1 1#1
  let main_v23 : IVec S_ 1 := (fun x v => Host.reduce IntOp.andi x v reducesTo_S1x1024_S_d0_1 h_S_) main_v22 main_c_7
  let main_v24 : IVec S_ 1 := andi main_v19 main_v23
  let main_v25 : FVec F S1024x3072 .f32 := Host.absf main_arg7
  let main_cst_8 : FVec F S_ .f32 := constant S_ .f32 0x7F800000#32
  let main_v26 : FVec F S1024x3072 .f32 := broadcastInDim S1024x3072 ![] bcast_S_S1024x3072 main_cst_8
  let main_v27 : IVec S1024x3072 1 := cmpf .olt main_v25 main_v26
  let main_c_9 : IVec S_ 1 := constantI S_ 1 1#1
  let main_v28 : IVec S_ 1 := (fun x v => Host.reduce IntOp.andi x v reducesTo_S1024x3072_S_d0_1 h_S_) main_v27 main_c_9
  let main_v29 : IVec S_ 1 := andi main_v24 main_v28
  let main_v30 : FVec F S8192x1024 .f32 := Host.absf main_arg8
  let main_cst_10 : FVec F S_ .f32 := constant S_ .f32 0x7F800000#32
  let main_v31 : FVec F S8192x1024 .f32 := broadcastInDim S8192x1024 ![] bcast_S_S8192x1024 main_cst_10
  let main_v32 : IVec S8192x1024 1 := cmpf .olt main_v30 main_v31
  let main_c_11 : IVec S_ 1 := constantI S_ 1 1#1
  let main_v33 : IVec S_ 1 := (fun x v => Host.reduce IntOp.andi x v reducesTo_S8192x1024_S_d0_1 h_S_) main_v32 main_c_11
  fn_part2 (F := F) main_arg9 main_v29 main_v33

def fn {F : FTy → Type} [FloatOps F] (main_arg0 : FVec F S8192x1024 .f32) (main_arg1 : FVec F S8192x1024 .bf16) (main_arg2 : FVec F S1x1024 .f32) (main_arg3 : FVec F S1x1024 .f32) (main_arg4 : FVec F S1x1024 .f32) (main_arg5 : FVec F S1x1024 .f32) (main_arg6 : FVec F S1x1024 .f32) (main_arg7 : FVec F S1024x3072 .f32) (main_arg8 : FVec F S8192x1024 .f32) (main_arg9 : FVec F S3x8192x1024 .bf16) (main_arg10 : FVec F S1x3072 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := (extf .f32 · bitsLt_bf16_f32) main_arg1
  let main_v5 : FVec F S8192x1024 .f32 := Host.absf main_v4
  let main_cst_0 : FVec F S_ .f32 := constant S_ .f32 0x7F800000#32
  let main_v6 : FVec F S8192x1024 .f32 := broadcastInDim S8192x1024 ![] bcast_S_S8192x1024 main_cst_0
  let main_v7 : IVec S8192x1024 1 := cmpf .olt main_v5 main_v6
  let main_c_1 : IVec S_ 1 := constantI S_ 1 1#1
  let main_v8 : IVec S_ 1 := (fun x v => Host.reduce IntOp.andi x v reducesTo_S8192x1024_S_d0_1 h_S_) main_v7 main_c_1
  let main_v9 : IVec S_ 1 := andi main_v3 main_v8
  let main_v10 : FVec F S1x1024 .f32 := Host.absf main_arg2
  let main_cst_2 : FVec F S_ .f32 := constant S_ .f32 0x7F800000#32
  let main_v11 : FVec F S1x1024 .f32 := broadcastInDim S1x1024 ![] bcast_S_S1x1024 main_cst_2
  let main_v12 : IVec S1x1024 1 := cmpf .olt main_v10 main_v11
  let main_c_3 : IVec S_ 1 := constantI S_ 1 1#1
  let main_v13 : IVec S_ 1 := (fun x v => Host.reduce IntOp.andi x v reducesTo_S1x1024_S_d0_1 h_S_) main_v12 main_c_3
  let main_v14 : IVec S_ 1 := andi main_v9 main_v13
  let main_v15 : FVec F S1x1024 .f32 := Host.absf main_arg3
  let main_cst_4 : FVec F S_ .f32 := constant S_ .f32 0x7F800000#32
  let main_v16 : FVec F S1x1024 .f32 := broadcastInDim S1x1024 ![] bcast_S_S1x1024 main_cst_4
  fn_part1 (F := F) main_arg5 main_arg7 main_arg8 main_arg9 main_v14 main_v15 main_v16
-- ==== Pre_finite17.lean ====
abbrev S8192x1024 : Shape := ⟨2, ![8192, 1024]⟩
abbrev S1x1024 : Shape := ⟨2, ![1, 1024]⟩
abbrev S1024x3088 : Shape := ⟨2, ![1024, 3088]⟩
abbrev S8192x3088 : Shape := ⟨2, ![8192, 3088]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bitsLt_bf16_f32 : FTy.bits .bf16 < FTy.bits .f32
  bcast_S_S1x1024 : S_.BroadcastsInDim S1x1024 (![] : Fin 0 → Fin S1x1024.rank)
  reducesTo_S1x1024_S_d0_1 : S1x1024.ReducesTo [0, 1] S_
  bcast_S_S1024x3088 : S_.BroadcastsInDim S1024x3088 (![] : Fin 0 → Fin S1024x3088.rank)
  reducesTo_S1024x3088_S_d0_1 : S1024x3088.ReducesTo [0, 1] S_
  bcast_S_S8192x3088 : S_.BroadcastsInDim S8192x3088 (![] : Fin 0 → Fin S8192x3088.rank)
  reducesTo_S8192x3088_S_d0_1 : S8192x3088.ReducesTo [0, 1] S_

variable [Facts]

def fn_part2 {F : FTy → Type} [FloatOps F] (main_arg9 : FVec F S8192x3088 .bf16) (main_v29 : IVec S_ 1) (main_v33 : IVec S_ 1) : IVec S_ 1 :=
  let main_v34 : IVec S_ 1 := andi main_v29 main_v33
  let main_v35 : FVec F S8192x3088 .f32 := (extf .f32 · bitsLt_bf16_f32) main_arg9
  let main_v36 : FVec F S8192x3088 .f32 := Host.absf main_v35
  let main_cst_12 : FVec F S_ .f32 := constant S_ .f32 0x7F800000#32
  let main_v37 : FVec F S8192x3088 .f32 := broadcastInDim S8192x3088 ![] bcast_S_S8192x3088 main_cst_12
  let main_v38 : IVec S8192x3088 1 := cmpf .olt main_v36 main_v37
  let main_c_13 : IVec S_ 1 := constantI S_ 1 1#1
  let main_v39 : IVec S_ 1 := (fun x v => Host.reduce IntOp.andi x v reducesTo_S8192x3088_S_d0_1 h_S_) main_v38 main_c_13
  let main_v40 : IVec S_ 1 := andi main_v34 main_v39
  main_v40

def fn_part1 {F : FTy → Type} [FloatOps F] (main_arg5 : FVec F S1x1024 .f32) (main_arg7 : FVec F S1024x3088 .f32) (main_arg8 : FVec F S8192x1024 .f32) (main_arg9 : FVec F S8192x3088 .bf16) (main_v14 : IVec S_ 1) (main_v15 : FVec F S1x1024 .f32) (main_v16 : FVec F S1x1024 .f32) : IVec S_ 1 :=
  let main_v17 : IVec S1x1024 1 := cmpf .olt main_v15 main_v16
  let main_c_5 : IVec S_ 1 := constantI S_ 1 1#1
  let main_v18 : IVec S_ 1 := (fun x v => Host.reduce IntOp.andi x v reducesTo_S1x1024_S_d0_1 h_S_) main_v17 main_c_5
  let main_v19 : IVec S_ 1 := andi main_v14 main_v18
  let main_v20 : FVec F S1x1024 .f32 := Host.absf main_arg5
  let main_cst_6 : FVec F S_ .f32 := constant S_ .f32 0x7F800000#32
  let main_v21 : FVec F S1x1024 .f32 := broadcastInDim S1x1024 ![] bcast_S_S1x1024 main_cst_6
  let main_v22 : IVec S1x1024 1 := cmpf .olt main_v20 main_v21
  let main_c_7 : IVec S_ 1 := constantI S_ 1 1#1
  let main_v23 : IVec S_ 1 := (fun x v => Host.reduce IntOp.andi x v reducesTo_S1x1024_S_d0_1 h_S_) main_v22 main_c_7
  let main_v24 : IVec S_ 1 := andi main_v19 main_v23
  let main_v25 : FVec F S1024x3088 .f32 := Host.absf main_arg7
  let main_cst_8 : FVec F S_ .f32 := constant S_ .f32 0x7F800000#32
  let main_v26 : FVec F S1024x3088 .f32 := broadcastInDim S1024x3088 ![] bcast_S_S1024x3088 main_cst_8
  let main_v27 : IVec S1024x3088 1 := cmpf .olt main_v25 main_v26
  let main_c_9 : IVec S_ 1 := constantI S_ 1 1#1
  let main_v28 : IVec S_ 1 := (fun x v => Host.reduce IntOp.andi x v reducesTo_S1024x3088_S_d0_1 h_S_) main_v27 main_c_9
  let main_v29 : IVec S_ 1 := andi main_v24 main_v28
  let main_v30 : FVec F S8192x1024 .f32 := Host.absf main_arg8
  let main_cst_10 : FVec F S_ .f32 := constant S_ .f32 0x7F800000#32
  let main_v31 : FVec F S8192x1024 .f32 := broadcastInDim S8192x1024 ![] bcast_S_S8192x1024 main_cst_10
  let main_v32 : IVec S8192x1024 1 := cmpf .olt main_v30 main_v31
  let main_c_11 : IVec S_ 1 := constantI S_ 1 1#1
  let main_v33 : IVec S_ 1 := (fun x v => Host.reduce IntOp.andi x v reducesTo_S8192x1024_S_d0_1 h_S_) main_v32 main_c_11
  fn_part2 (F := F) main_arg9 main_v29 main_v33

def fn {F : FTy → Type} [FloatOps F] (main_arg0 : FVec F S8192x1024 .f32) (main_arg1 : FVec F S8192x1024 .bf16) (main_arg2 : FVec F S1x1024 .f32) (main_arg3 : FVec F S1x1024 .f32) (main_arg4 : FVec F S1x1024 .f32) (main_arg5 : FVec F S1x1024 .f32) (main_arg6 : FVec F S1x1024 .f32) (main_arg7 : FVec F S1024x3088 .f32) (main_arg8 : FVec F S8192x1024 .f32) (main_arg9 : FVec F S8192x3088 .bf16) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := (extf .f32 · bitsLt_bf16_f32) main_arg1
  let main_v5 : FVec F S8192x1024 .f32 := Host.absf main_v4
  let main_cst_0 : FVec F S_ .f32 := constant S_ .f32 0x7F800000#32
  let main_v6 : FVec F S8192x1024 .f32 := broadcastInDim S8192x1024 ![] bcast_S_S8192x1024 main_cst_0
  let main_v7 : IVec S8192x1024 1 := cmpf .olt main_v5 main_v6
  let main_c_1 : IVec S_ 1 := constantI S_ 1 1#1
  let main_v8 : IVec S_ 1 := (fun x v => Host.reduce IntOp.andi x v reducesTo_S8192x1024_S_d0_1 h_S_) main_v7 main_c_1
  let main_v9 : IVec S_ 1 := andi main_v3 main_v8
  let main_v10 : FVec F S1x1024 .f32 := Host.absf main_arg2
  let main_cst_2 : FVec F S_ .f32 := constant S_ .f32 0x7F800000#32
  let main_v11 : FVec F S1x1024 .f32 := broadcastInDim S1x1024 ![] bcast_S_S1x1024 main_cst_2
  let main_v12 : IVec S1x1024 1 := cmpf .olt main_v10 main_v11
  let main_c_3 : IVec S_ 1 := constantI S_ 1 1#1
  let main_v13 : IVec S_ 1 := (fun x v => Host.reduce IntOp.andi x v reducesTo_S1x1024_S_d0_1 h_S_) main_v12 main_c_3
  let main_v14 : IVec S_ 1 := andi main_v9 main_v13
  let main_v15 : FVec F S1x1024 .f32 := Host.absf main_arg3
  let main_cst_4 : FVec F S_ .f32 := constant S_ .f32 0x7F800000#32
  let main_v16 : FVec F S1x1024 .f32 := broadcastInDim S1x1024 ![] bcast_S_S1x1024 main_cst_4
  fn_part1 (F := F) main_arg5 main_arg7 main_arg8 main_arg9 main_v14 main_v15 main_v16
-- ==== Kernel.lean ====
abbrev S8192x3072 : Shape := ⟨2, ![8192, 3072]⟩
abbrev S16x257 : Shape := ⟨2, ![16, 257]⟩
abbrev S8192x1024 : Shape := ⟨2, ![8192, 1024]⟩
abbrev S3x256x768 : Shape := ⟨3, ![3, 256, 768]⟩
abbrev S_ : Shape := ⟨0, ![]⟩
abbrev S3x256x768x1 : Shape := ⟨4, ![3, 256, 768, 1]⟩
abbrev S16x3x256x768 : Shape := ⟨4, ![16, 3, 256, 768]⟩
abbrev S3x8192x1024 : Shape := ⟨3, ![3, 8192, 1024]⟩
abbrev S512x128 : Shape := ⟨2, ![512, 128]⟩
abbrev S8192x128 : Shape := ⟨2, ![8192, 128]⟩
abbrev S2x1x256x768 : Shape := ⟨4, ![2, 1, 256, 768]⟩
abbrev S3x8192x128 : Shape := ⟨3, ![3, 8192, 128]⟩
abbrev S2x3x256x768 : Shape := ⟨4, ![2, 3, 256, 768]⟩
abbrev S768x128 : Shape := ⟨2, ![768, 128]⟩
abbrev S256x64 : Shape := ⟨2, ![256, 64]⟩
abbrev S768x64 : Shape := ⟨2, ![768, 64]⟩
abbrev S256x768 : Shape := ⟨2, ![256, 768]⟩
abbrev S1x1x256x768 : Shape := ⟨4, ![1, 1, 256, 768]⟩
abbrev S256 : Shape := ⟨1, ![256]⟩
abbrev S256x1 : Shape := ⟨2, ![256, 1]⟩
abbrev S256x128 : Shape := ⟨2, ![256, 128]⟩
abbrev S1x256x128 : Shape := ⟨3, ![1, 256, 128]⟩
abbrev S1x8192x128 : Shape := ⟨3, ![1, 8192, 128]⟩

abbrev nBuf : Space → Nat
  | .hbm => 116
  | .vmem => 18
  | .smem => 0
  | _ => 0

abbrev bufTy : (tb : Table) → Fin (tcTables nBuf tb) → BufTy
  | .hbm, ⟨0, _⟩ => ⟨S8192x3072, .bf16⟩
  | .hbm, ⟨1, _⟩ => ⟨S16x257, .f32⟩
  | .hbm, ⟨2, _⟩ => ⟨S8192x1024, .bf16⟩
  | .hbm, ⟨3, _⟩ => ⟨S3x256x768, .i32⟩
  | .hbm, ⟨4, _⟩ => ⟨S_, .i32⟩
  | .hbm, ⟨5, _⟩ => ⟨S3x256x768, .i32⟩
  | .hbm, ⟨6, _⟩ => ⟨S3x256x768, .i32⟩
  | .hbm, ⟨7, _⟩ => ⟨S3x256x768, .i32⟩
  | .hbm, ⟨8, _⟩ => ⟨S3x256x768, .i32⟩
  | .hbm, ⟨9, _⟩ => ⟨S3x256x768, .i32⟩
  | .hbm, ⟨10, _⟩ => ⟨S3x256x768, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S3x256x768, .i32⟩
  | .hbm, ⟨15, _⟩ => ⟨S3x256x768, .i32⟩
  | .hbm, ⟨16, _⟩ => ⟨S_, .i32⟩
  | .hbm, ⟨17, _⟩ => ⟨S3x256x768, .i32⟩
  | .hbm, ⟨18, _⟩ => ⟨S3x256x768, .i32⟩
  | .hbm, ⟨19, _⟩ => ⟨S_, .i32⟩
  | .hbm, ⟨20, _⟩ => ⟨S3x256x768, .i32⟩
  | .hbm, ⟨21, _⟩ => ⟨S3x256x768, .i32⟩
  | .hbm, ⟨22, _⟩ => ⟨S_, .i32⟩
  | .hbm, ⟨23, _⟩ => ⟨S3x256x768, .i32⟩
  | .hbm, ⟨24, _⟩ => ⟨S3x256x768, .i1⟩
  | .hbm, ⟨25, _⟩ => ⟨S_, .i32⟩
  | .hbm, ⟨26, _⟩ => ⟨S3x256x768, .i32⟩
  | .hbm, ⟨27, _⟩ => ⟨S3x256x768, .i32⟩
  | .hbm, ⟨28, _⟩ => ⟨S3x256x768, .i32⟩
  | .hbm, ⟨29, _⟩ => ⟨S3x256x768x1, .i32⟩
  | .hbm, ⟨30, _⟩ => ⟨S16x3x256x768, .f32⟩
  | .hbm, ⟨31, _⟩ => ⟨S_, .i32⟩
  | .hbm, ⟨32, _⟩ => ⟨S_, .i32⟩
  | .hbm, ⟨33, _⟩ => ⟨S3x256x768, .i32⟩
  | .hbm, ⟨34, _⟩ => ⟨S3x256x768, .i32⟩
  | .hbm, ⟨35, _⟩ => ⟨S3x256x768, .i32⟩
  | .hbm, ⟨36, _⟩ => ⟨S_, .i32⟩
  | .hbm, ⟨37, _⟩ => ⟨S3x256x768, .i32⟩
  | .hbm, ⟨38, _⟩ => ⟨S3x256x768, .i1⟩
  | .hbm, ⟨39, _⟩ => ⟨S3x256x768, .i32⟩
  | .hbm, ⟨40, _⟩ => ⟨S3x256x768, .i32⟩
  | .hbm, ⟨41, _⟩ => ⟨S_, .i32⟩
  | .hbm, ⟨42, _⟩ => ⟨S3x256x768, .i32⟩
  | .hbm, ⟨43, _⟩ => ⟨S3x256x768, .i1⟩
  | .hbm, ⟨44, _⟩ => ⟨S3x256x768, .i1⟩
  | .hbm, ⟨45, _⟩ => ⟨S_, .i32⟩
  | .hbm, ⟨46, _⟩ => ⟨S3x256x768, .i32⟩
  | .hbm, ⟨47, _⟩ => ⟨S3x256x768, .i32⟩
  | .hbm, ⟨48, _⟩ => ⟨S3x256x768, .i32⟩
  | .hbm, ⟨49, _⟩ => ⟨S_, .i32⟩
  | .hbm, ⟨50, _⟩ => ⟨S_, .i32⟩
  | .hbm, ⟨51, _⟩ => ⟨S3x256x768, .i32⟩
  | .hbm, ⟨52, _⟩ => ⟨S3x256x768, .i32⟩
  | .hbm, ⟨53, _⟩ => ⟨S3x256x768, .i32⟩
  | .hbm, ⟨54, _⟩ => ⟨S_, .i32⟩
  | .hbm, ⟨55, _⟩ => ⟨S3x256x768, .i32⟩
  | .hbm, ⟨56, _⟩ => ⟨S3x256x768, .i1⟩
  | .hbm, ⟨57, _⟩ => ⟨S3x256x768, .i32⟩
  | .hbm, ⟨58, _⟩ => ⟨S3x256x768, .i32⟩
  | .hbm, ⟨59, _⟩ => ⟨S_, .i32⟩
  | .hbm, ⟨60, _⟩ => ⟨S3x256x768, .i32⟩
  | .hbm, ⟨61, _⟩ => ⟨S3x256x768, .i1⟩
  | .hbm, ⟨62, _⟩ => ⟨S3x256x768, .i1⟩
  | .hbm, ⟨63, _⟩ => ⟨S_, .i32⟩
  | .hbm, ⟨64, _⟩ => ⟨S3x256x768, .i32⟩
  | .hbm, ⟨65, _⟩ => ⟨S3x256x768, .i32⟩
  | .hbm, ⟨66, _⟩ => ⟨S3x256x768, .i32⟩
  | .hbm, ⟨67, _⟩ => ⟨S3x256x768, .i1⟩
  | .hbm, ⟨68, _⟩ => ⟨S_, .i32⟩
  | .hbm, ⟨69, _⟩ => ⟨S_, .i32⟩
  | .hbm, ⟨70, _⟩ => ⟨S3x256x768, .i32⟩
  | .hbm, ⟨71, _⟩ => ⟨S3x256x768, .i32⟩
  | .hbm, ⟨72, _⟩ => ⟨S3x256x768, .i32⟩
  | .hbm, ⟨73, _⟩ => ⟨S_, .i32⟩
  | .hbm, ⟨74, _⟩ => ⟨S3x256x768, .i32⟩
  | .hbm, ⟨75, _⟩ => ⟨S3x256x768, .i1⟩
  | .hbm, ⟨76, _⟩ => ⟨S3x256x768, .i32⟩
  | .hbm, ⟨77, _⟩ => ⟨S3x256x768, .i32⟩
  | .hbm, ⟨78, _⟩ => ⟨S_, .i32⟩
  | .hbm, ⟨79, _⟩ => ⟨S3x256x768, .i32⟩
  | .hbm, ⟨80, _⟩ => ⟨S3x256x768, .i1⟩
  | .hbm, ⟨81, _⟩ => ⟨S3x256x768, .i1⟩
  | .hbm, ⟨82, _⟩ => ⟨S_, .i32⟩
  | .hbm, ⟨83, _⟩ => ⟨S3x256x768, .i32⟩
  | .hbm, ⟨84, _⟩ => ⟨S3x256x768, .i32⟩
  | .hbm, ⟨85, _⟩ => ⟨S3x256x768, .i32⟩
  | .hbm, ⟨86, _⟩ => ⟨S_, .i32⟩
  | .hbm, ⟨87, _⟩ => ⟨S_, .i32⟩
  | .hbm, ⟨88, _⟩ => ⟨S3x256x768, .i32⟩
  | .hbm, ⟨89, _⟩ => ⟨S3x256x768, .i32⟩
  | .hbm, ⟨90, _⟩ => ⟨S3x256x768, .i32⟩
  | .hbm, ⟨91, _⟩ => ⟨S_, .i32⟩
  | .hbm, ⟨92, _⟩ => ⟨S3x256x768, .i32⟩
  | .hbm, ⟨93, _⟩ => ⟨S3x256x768, .i1⟩
  | .hbm, ⟨94, _⟩ => ⟨S3x256x768, .i32⟩
  | .hbm, ⟨95, _⟩ => ⟨S3x256x768, .i32⟩
  | .hbm, ⟨96, _⟩ => ⟨S_, .i32⟩
  | .hbm, ⟨97, _⟩ => ⟨S3x256x768, .i32⟩
  | .hbm, ⟨98, _⟩ => ⟨S3x256x768, .i1⟩
  | .hbm, ⟨99, _⟩ => ⟨S3x256x768, .i1⟩
  | .hbm, ⟨100, _⟩ => ⟨S_, .i32⟩
  | .hbm, ⟨101, _⟩ => ⟨S3x256x768, .i32⟩
  | .hbm, ⟨102, _⟩ => ⟨S3x256x768, .i32⟩
  | .hbm, ⟨103, _⟩ => ⟨S3x256x768, .i32⟩
  | .hbm, ⟨104, _⟩ => ⟨S_, .i32⟩
  | .hbm, ⟨105, _⟩ => ⟨S3x256x768, .i32⟩
  | .hbm, ⟨106, _⟩ => ⟨S3x256x768, .i32⟩
  | .hbm, ⟨107, _⟩ => ⟨S3x256x768, .i1⟩
  | .hbm, ⟨108, _⟩ => ⟨S3x256x768, .i1⟩
  | .hbm, ⟨109, _⟩ => ⟨S_, .f32⟩
  | .hbm, ⟨110, _⟩ => ⟨S_, .f32⟩
  | .hbm, ⟨111, _⟩ => ⟨S16x3x256x768, .i1⟩
  | .hbm, ⟨112, _⟩ => ⟨S16x3x256x768, .f32⟩
  | .hbm, ⟨113, _⟩ => ⟨S16x3x256x768, .f32⟩
  | .hbm, ⟨114, _⟩ => ⟨S3x8192x1024, .bf16⟩
  | .hbm, ⟨115, _⟩ => ⟨S16x3x256x768, .f32⟩
  | .local _ .vmem, ⟨0, _⟩ => ⟨S512x128, .bf16⟩
  | .local _ .vmem, ⟨1, _⟩ => ⟨S512x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S2x1x256x768, .f32⟩
  | .local _ .vmem, ⟨7, _⟩ => ⟨S2x1x256x768, .f32⟩
  | .local _ .vmem, ⟨8, _⟩ => ⟨S2x1x256x768, .f32⟩
  | .local _ .vmem, ⟨9, _⟩ => ⟨S2x1x256x768, .f32⟩
  | .local _ .vmem, ⟨10, _⟩ => ⟨S512x128, .bf16⟩
  | .local _ .vmem, ⟨11, _⟩ => ⟨S512x128, .bf16⟩
  | .local _ .vmem, ⟨12, _⟩ => ⟨S3x8192x128, .bf16⟩
  | .local _ .vmem, ⟨13, _⟩ => ⟨S3x8192x128, .bf16⟩
  | .local _ .vmem, ⟨14, _⟩ => ⟨S2x3x256x768, .f32⟩
  | .local _ .vmem, ⟨15, _⟩ => ⟨S2x3x256x768, .f32⟩
  | .local _ .vmem, ⟨16, _⟩ => ⟨S8192x128, .f32⟩
  | .local _ .vmem, ⟨17, _⟩ => ⟨S8192x128, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_c_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v7 : Ref sig .tc := ⟨.hbm, 18, rfl⟩
abbrev main_c_2 : Ref sig .tc := ⟨.hbm, 19, rfl⟩
abbrev main_v8 : Ref sig .tc := ⟨.hbm, 20, rfl⟩
abbrev main_v9 : Ref sig .tc := ⟨.hbm, 21, rfl⟩
abbrev main_c_3 : Ref sig .tc := ⟨.hbm, 22, rfl⟩
abbrev main_v10 : Ref sig .tc := ⟨.hbm, 23, rfl⟩
abbrev main_v11 : Ref sig .tc := ⟨.hbm, 24, rfl⟩
abbrev main_c_4 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c_5 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_c : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_0 : Ref sig .tc := ⟨.hbm, 45, rfl⟩
abbrev main_call1_v12 : Ref sig .tc := ⟨.hbm, 46, rfl⟩
abbrev main_call1_v13 : Ref sig .tc := ⟨.hbm, 47, rfl⟩
abbrev main_v17 : Ref sig .tc := ⟨.hbm, 48, rfl⟩
abbrev main_c_6 : Ref sig .tc := ⟨.hbm, 49, rfl⟩
abbrev main_call2_v0 : Ref sig .tc := ⟨.hbm, 50, rfl⟩
abbrev main_call2_v1 : Ref sig .tc := ⟨.hbm, 51, rfl⟩
abbrev main_call2_v2 : Ref sig .tc := ⟨.hbm, 52, rfl⟩
abbrev main_call2_v3 : Ref sig .tc := ⟨.hbm, 53, rfl⟩
abbrev main_call2_v4 : Ref sig .tc := ⟨.hbm, 54, rfl⟩
abbrev main_call2_v5 : Ref sig .tc := ⟨.hbm, 55, rfl⟩
abbrev main_call2_v6 : Ref sig .tc := ⟨.hbm, 56, rfl⟩
abbrev main_call2_v7 : Ref sig .tc := ⟨.hbm, 57, rfl⟩
abbrev main_call2_v8 : Ref sig .tc := ⟨.hbm, 58, rfl⟩
abbrev main_call2_c : Ref sig .tc := ⟨.hbm, 59, rfl⟩
abbrev main_call2_v9 : Ref sig .tc := ⟨.hbm, 60, rfl⟩
abbrev main_call2_v10 : Ref sig .tc := ⟨.hbm, 61, rfl⟩
abbrev main_call2_v11 : Ref sig .tc := ⟨.hbm, 62, rfl⟩
abbrev main_call2_c_0 : Ref sig .tc := ⟨.hbm, 63, rfl⟩
abbrev main_call2_v12 : Ref sig .tc := ⟨.hbm, 64, rfl⟩
abbrev main_call2_v13 : Ref sig .tc := ⟨.hbm, 65, rfl⟩
abbrev main_v18 : Ref sig .tc := ⟨.hbm, 66, rfl⟩
abbrev main_v19 : Ref sig .tc := ⟨.hbm, 67, rfl⟩
abbrev main_c_7 : Ref sig .tc := ⟨.hbm, 68, rfl⟩
abbrev main_call3_v0 : Ref sig .tc := ⟨.hbm, 69, rfl⟩
abbrev main_call3_v1 : Ref sig .tc := ⟨.hbm, 70, rfl⟩
abbrev main_call3_v2 : Ref sig .tc := ⟨.hbm, 71, rfl⟩
abbrev main_call3_v3 : Ref sig .tc := ⟨.hbm, 72, rfl⟩
abbrev main_call3_v4 : Ref sig .tc := ⟨.hbm, 73, rfl⟩
abbrev main_call3_v5 : Ref sig .tc := ⟨.hbm, 74, rfl⟩
abbrev main_call3_v6 : Ref sig .tc := ⟨.hbm, 75, rfl⟩
abbrev main_call3_v7 : Ref sig .tc := ⟨.hbm, 76, rfl⟩
abbrev main_call3_v8 : Ref sig .tc := ⟨.hbm, 77, rfl⟩
abbrev main_call3_c : Ref sig .tc := ⟨.hbm, 78, rfl⟩
abbrev main_call3_v9 : Ref sig .tc := ⟨.hbm, 79, rfl⟩
abbrev main_call3_v10 : Ref sig .tc := ⟨.hbm, 80, rfl⟩
abbrev main_call3_v11 : Ref sig .tc := ⟨.hbm, 81, rfl⟩
abbrev main_call3_c_0 : Ref sig .tc := ⟨.hbm, 82, rfl⟩
abbrev main_call3_v12 : Ref sig .tc := ⟨.hbm, 83, rfl⟩
abbrev main_call3_v13 : Ref sig .tc := ⟨.hbm, 84, rfl⟩
abbrev main_v20 : Ref sig .tc := ⟨.hbm, 85, rfl⟩
abbrev main_c_8 : Ref sig .tc := ⟨.hbm, 86, rfl⟩
abbrev main_call4_v0 : Ref sig .tc := ⟨.hbm, 87, rfl⟩
abbrev main_call4_v1 : Ref sig .tc := ⟨.hbm, 88, rfl⟩
abbrev main_call4_v2 : Ref sig .tc := ⟨.hbm, 89, rfl⟩
abbrev main_call4_v3 : Ref sig .tc := ⟨.hbm, 90, rfl⟩
abbrev main_call4_v4 : Ref sig .tc := ⟨.hbm, 91, rfl⟩
abbrev main_call4_v5 : Ref sig .tc := ⟨.hbm, 92, rfl⟩
abbrev main_call4_v6 : Ref sig .tc := ⟨.hbm, 93, rfl⟩
abbrev main_call4_v7 : Ref sig .tc := ⟨.hbm, 94, rfl⟩
abbrev main_call4_v8 : Ref sig .tc := ⟨.hbm, 95, rfl⟩
abbrev main_call4_c : Ref sig .tc := ⟨.hbm, 96, rfl⟩
abbrev main_call4_v9 : Ref sig .tc := ⟨.hbm, 97, rfl⟩
abbrev main_call4_v10 : Ref sig .tc := ⟨.hbm, 98, rfl⟩
abbrev main_call4_v11 : Ref sig .tc := ⟨.hbm, 99, rfl⟩
abbrev main_call4_c_0 : Ref sig .tc := ⟨.hbm, 100, rfl⟩
abbrev main_call4_v12 : Ref sig .tc := ⟨.hbm, 101, rfl⟩
abbrev main_call4_v13 : Ref sig .tc := ⟨.hbm, 102, rfl⟩
abbrev main_v21 : Ref sig .tc := ⟨.hbm, 103, rfl⟩
abbrev main_c_9 : Ref sig .tc := ⟨.hbm, 104, rfl⟩
abbrev main_v22 : Ref sig .tc := ⟨.hbm, 105, rfl⟩
abbrev main_v23 : Ref sig .tc := ⟨.hbm, 106, rfl⟩
abbrev main_v24 : Ref sig .tc := ⟨.hbm, 107, rfl⟩
abbrev main_v25 : Ref sig .tc := ⟨.hbm, 108, rfl⟩
abbrev main_cst : Ref sig .tc := ⟨.hbm, 109, rfl⟩
abbrev main_call5_v0 : Ref sig .tc := ⟨.hbm, 110, rfl⟩
abbrev main_call5_v1 : Ref sig .tc := ⟨.hbm, 111, rfl⟩
abbrev main_call5_v2 : Ref sig .tc := ⟨.hbm, 112, rfl⟩
abbrev main_v26 : Ref sig .tc := ⟨.hbm, 113, rfl⟩
abbrev main_v27_0 : Ref sig .tc := ⟨.hbm, 114, rfl⟩
abbrev main_v27_1 : Ref sig .tc := ⟨.hbm, 115, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 16], ![false, false]⟩

def k0_mult1 (i : grid0.Coords) : BitVec 32 :=
  let c2_i32 : BitVec 32 := 2#32
  let arg1 : BitVec 32 := BitVec.ofNat 32 (i 1).val
  let v3 : BitVec 32 := Scalar.muli c2_i32 arg1
  let c0_i32_1 : BitVec 32 := 0#32
  let v4 : BitVec 32 := Scalar.addi v3 c0_i32_1
  let c256_i32 : BitVec 32 := 256#32
  let v5 : BitVec 32 := Scalar.muli v4 c256_i32
  let c512_i32 : BitVec 32 := 512#32
  let v6 : BitVec 32 := Scalar.subi v5 c512_i32
  let c0_i32_2 : BitVec 32 := 0#32
  let v7 : BitVec 32 := Scalar.maxsi v6 c0_i32_2
  v7
def k0_mult2 (i : grid0.Coords) : BitVec 32 :=
  let c2_i32 : BitVec 32 := 2#32
  let arg1 : BitVec 32 := BitVec.ofNat 32 (i 1).val
  let v3 : BitVec 32 := Scalar.muli c2_i32 arg1
  let c1_i32 : BitVec 32 := 1#32
  let v9 : BitVec 32 := Scalar.addi v3 c1_i32
  let c256_i32_3 : BitVec 32 := 256#32
  let v10 : BitVec 32 := Scalar.muli v9 c256_i32_3
  let c512_i32_4 : BitVec 32 := 512#32
  let v11 : BitVec 32 := Scalar.subi v10 c512_i32_4
  let c0_i32_5 : BitVec 32 := 0#32
  let v12 : BitVec 32 := Scalar.maxsi v11 c0_i32_5
  v12
def k0_off1 (i : grid0.Coords) (c0_i32_1 : BitVec 32) : Fin 2 → Nat :=
  let c2_i32 : BitVec 32 := 2#32
  let arg1 : BitVec 32 := BitVec.ofNat 32 (i 1).val
  let v3 : BitVec 32 := Scalar.muli c2_i32 arg1
  let v4 : BitVec 32 := Scalar.addi v3 c0_i32_1
  let c256_i32 : BitVec 32 := 256#32
  let v5 : BitVec 32 := Scalar.muli v4 c256_i32
  let c512_i32 : BitVec 32 := 512#32
  let v6 : BitVec 32 := Scalar.subi v5 c512_i32
  let c0_i32_2 : BitVec 32 := 0#32
  let v7 : BitVec 32 := Scalar.maxsi v6 c0_i32_2
  let v8 : BitVec 32 := v7
  let v14 : Index := Scalar.indexCast v8
  let c0 : Index := 0#32
  ![v14.toNat, 0]
def k0_off2 (i : grid0.Coords) (c0_i32_81 : BitVec 32) : Fin 4 → Nat :=
  let c0_83 : Index := 0#32
  let c2_i32 : BitVec 32 := 2#32
  let arg1 : BitVec 32 := BitVec.ofNat 32 (i 1).val
  let v3 : BitVec 32 := Scalar.muli c2_i32 arg1
  let v162 : BitVec 32 := Scalar.addi v3 c0_i32_81
  let c2_i32_82 : BitVec 32 := 2#32
  let v163 : BitVec 32 := Scalar.minsi v162 c2_i32_82
  let v164 : Index := Scalar.indexCast v163
  let c0_84 : Index := 0#32
  let c0_85 : Index := 0#32
  ![0, v164.toNat, 0, 0]
def k0_off3 (i : grid0.Coords) (c0_i32_89 : BitVec 32) : Fin 4 → Nat :=
  let c1_91 : Index := 1#32
  let c2_i32 : BitVec 32 := 2#32
  let arg1 : BitVec 32 := BitVec.ofNat 32 (i 1).val
  let v3 : BitVec 32 := Scalar.muli c2_i32 arg1
  let v172 : BitVec 32 := Scalar.addi v3 c0_i32_89
  let c2_i32_90 : BitVec 32 := 2#32
  let v173 : BitVec 32 := Scalar.minsi v172 c2_i32_90
  let v174 : Index := Scalar.indexCast v173
  let c0_92 : Index := 0#32
  let c0_93 : Index := 0#32
  ![1, v174.toNat, 0, 0]
def k0_mult3 (i : grid0.Coords) : BitVec 32 :=
  let c2_i32 : BitVec 32 := 2#32
  let arg1 : BitVec 32 := BitVec.ofNat 32 (i 1).val
  let v3 : BitVec 32 := Scalar.muli c2_i32 arg1
  let c0_i32_113 : BitVec 32 := 0#32
  let v202 : BitVec 32 := Scalar.addi v3 c0_i32_113
  let c256_i32_114 : BitVec 32 := 256#32
  let v203 : BitVec 32 := Scalar.muli v202 c256_i32_114
  v203
def k0_off4 (i : grid0.Coords) (c0_i32_113 : BitVec 32) : Fin 3 → Nat :=
  let c0_115 : Index := 0#32
  let c2_i32 : BitVec 32 := 2#32
  let arg1 : BitVec 32 := BitVec.ofNat 32 (i 1).val
  let v3 : BitVec 32 := Scalar.muli c2_i32 arg1
  let v202 : BitVec 32 := Scalar.addi v3 c0_i32_113
  let c256_i32_114 : BitVec 32 := 256#32
  let v203 : BitVec 32 := Scalar.muli v202 c256_i32_114
  let v204 : BitVec 32 := v203
  let v207 : Index := Scalar.indexCast v204
  let c0_116 : Index := 0#32
  ![0, v207.toNat, 0]
def k0_mult4 (i : grid0.Coords) : BitVec 32 :=
  let c2_i32 : BitVec 32 := 2#32
  let arg1 : BitVec 32 := BitVec.ofNat 32 (i 1).val
  let v3 : BitVec 32 := Scalar.muli c2_i32 arg1
  let c1_i32_121 : BitVec 32 := 1#32
  let v227 : BitVec 32 := Scalar.addi v3 c1_i32_121
  let c256_i32_122 : BitVec 32 := 256#32
  let v228 : BitVec 32 := Scalar.muli v227 c256_i32_122
  v228
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c0_i32 : BitVec 32 := 0#32
  let v1 : BitVec 32 := Scalar.addi v0 c0_i32
  let c2_i32_0 : BitVec 32 := 2#32
  let v2 : BitVec 32 := Scalar.minsi v1 c2_i32_0
  let c0_i32_1 : BitVec 32 := 0#32
  let c0_i32_2 : BitVec 32 := 0#32
  let c0_i32_3 : BitVec 32 := 0#32
  ![arg0.toNat, v2.toNat, c0_i32_1.toNat, c0_i32_2.toNat]

def cc0_transform_4 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.addi v0 c1_i32
  let c2_i32_0 : BitVec 32 := 2#32
  let v2 : BitVec 32 := Scalar.minsi v1 c2_i32_0
  let c0_i32 : BitVec 32 := 0#32
  let c0_i32_1 : BitVec 32 := 0#32
  let c0_i32_2 : BitVec 32 := 0#32
  ![arg0.toNat, v2.toNat, c0_i32.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x1x256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x1x256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S3x8192x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2x3x256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceIdeal.lean ====
abbrev S8192x3072 : Shape := ⟨2, ![8192, 3072]⟩
abbrev S16x257 : Shape := ⟨2, ![16, 257]⟩
abbrev S8192x1024 : Shape := ⟨2, ![8192, 1024]⟩
abbrev S8192x16x64 : Shape := ⟨3, ![8192, 16, 64]⟩
abbrev S8192x8192 : Shape := ⟨2, ![8192, 8192]⟩
abbrev S_ : Shape := ⟨0, ![]⟩
abbrev S8192x8192x1 : Shape := ⟨3, ![8192, 8192, 1]⟩
abbrev S16x8192x8192 : Shape := ⟨3, ![16, 8192, 8192]⟩
abbrev S16x8192 : Shape := ⟨2, ![16, 8192]⟩
abbrev S16x8192x1 : Shape := ⟨3, ![16, 8192, 1]⟩
abbrev S16x64x8192 : Shape := ⟨3, ![16, 64, 8192]⟩
abbrev S16x8192x64 : Shape := ⟨3, ![16, 8192, 64]⟩
abbrev S1x8192x1024 : Shape := ⟨3, ![1, 8192, 1024]⟩
abbrev S3x8192x1024 : Shape := ⟨3, ![3, 8192, 1024]⟩

abbrev nBuf : Space → Nat
  | .hbm => 206
  | .vmem => 0
  | .smem => 0
  | _ => 0

abbrev hbmTy0_0 (i : Nat) : BufTy := match i % 128 with
  | 0 => ⟨S8192x3072, .bf16⟩
  | 1 => ⟨S16x257, .f32⟩
  | 2 => ⟨S8192x1024, .bf16⟩
  | 3 => ⟨S8192x3072, .f32⟩
  | 4 => ⟨S8192x1024, .f32⟩
  | 5 => ⟨S8192x1024, .f32⟩
  | 6 => ⟨S8192x1024, .f32⟩
  | 7 => ⟨S8192x16x64, .f32⟩
  | 8 => ⟨S8192x16x64, .f32⟩
  | 9 => ⟨S8192x16x64, .f32⟩
  | 10 => ⟨S8192x8192, .i32⟩
  | 11 => ⟨S8192x8192, .i32⟩
  | 12 => ⟨S8192x8192, .i32⟩
  | 13 => ⟨S_, .i32⟩
  | 14 => ⟨S_, .i32⟩
  | 15 => ⟨S_, .i32⟩
  | 16 => ⟨S8192x8192, .i32⟩
  | 17 => ⟨S8192x8192, .i32⟩
  | 18 => ⟨S_, .i32⟩
  | 19 => ⟨S8192x8192, .i32⟩
  | 20 => ⟨S8192x8192, .i32⟩
  | 21 => ⟨S_, .i32⟩
  | 22 => ⟨S8192x8192, .i32⟩
  | 23 => ⟨S8192x8192, .i32⟩
  | 24 => ⟨S_, .i32⟩
  | 25 => ⟨S8192x8192, .i32⟩
  | 26 => ⟨S8192x8192, .i1⟩
  | 27 => ⟨S_, .i32⟩
  | 28 => ⟨S8192x8192, .i32⟩
  | 29 => ⟨S8192x8192, .i32⟩
  | 30 => ⟨S8192x8192, .i32⟩
  | 31 => ⟨S8192x8192x1, .i32⟩
  | 32 => ⟨S16x8192x8192, .f32⟩
  | 33 => ⟨S_, .i32⟩
  | 34 => ⟨S_, .i32⟩
  | 35 => ⟨S8192x8192, .i32⟩
  | 36 => ⟨S8192x8192, .i32⟩
  | 37 => ⟨S8192x8192, .i32⟩
  | 38 => ⟨S_, .i32⟩
  | 39 => ⟨S8192x8192, .i32⟩
  | 40 => ⟨S8192x8192, .i1⟩
  | 41 => ⟨S8192x8192, .i32⟩
  | 42 => ⟨S8192x8192, .i32⟩
  | 43 => ⟨S_, .i32⟩
  | 44 => ⟨S8192x8192, .i32⟩
  | 45 => ⟨S8192x8192, .i1⟩
  | 46 => ⟨S8192x8192, .i1⟩
  | 47 => ⟨S_, .i32⟩
  | 48 => ⟨S8192x8192, .i32⟩
  | 49 => ⟨S8192x8192, .i32⟩
  | 50 => ⟨S8192x8192, .i32⟩
  | 51 => ⟨S_, .i32⟩
  | 52 => ⟨S_, .i32⟩
  | 53 => ⟨S8192x8192, .i32⟩
  | 54 => ⟨S8192x8192, .i32⟩
  | 55 => ⟨S8192x8192, .i32⟩
  | 56 => ⟨S_, .i32⟩
  | 57 => ⟨S8192x8192, .i32⟩
  | 58 => ⟨S8192x8192, .i1⟩
  | 59 => ⟨S8192x8192, .i32⟩
  | 60 => ⟨S8192x8192, .i32⟩
  | 61 => ⟨S_, .i32⟩
  | 62 => ⟨S8192x8192, .i32⟩
  | 63 => ⟨S8192x8192, .i1⟩
  | 64 => ⟨S8192x8192, .i1⟩
  | 65 => ⟨S_, .i32⟩
  | 66 => ⟨S8192x8192, .i32⟩
  | 67 => ⟨S8192x8192, .i32⟩
  | 68 => ⟨S8192x8192, .i32⟩
  | 69 => ⟨S8192x8192, .i1⟩
  | 70 => ⟨S_, .i32⟩
  | 71 => ⟨S_, .i32⟩
  | 72 => ⟨S8192x8192, .i32⟩
  | 73 => ⟨S8192x8192, .i32⟩
  | 74 => ⟨S8192x8192, .i32⟩
  | 75 => ⟨S_, .i32⟩
  | 76 => ⟨S8192x8192, .i32⟩
  | 77 => ⟨S8192x8192, .i1⟩
  | 78 => ⟨S8192x8192, .i32⟩
  | 79 => ⟨S8192x8192, .i32⟩
  | 80 => ⟨S_, .i32⟩
  | 81 => ⟨S8192x8192, .i32⟩
  | 82 => ⟨S8192x8192, .i1⟩
  | 83 => ⟨S8192x8192, .i1⟩
  | 84 => ⟨S_, .i32⟩
  | 85 => ⟨S8192x8192, .i32⟩
  | 86 => ⟨S8192x8192, .i32⟩
  | 87 => ⟨S8192x8192, .i32⟩
  | 88 => ⟨S_, .i32⟩
  | 89 => ⟨S_, .i32⟩
  | 90 => ⟨S8192x8192, .i32⟩
  | 91 => ⟨S8192x8192, .i32⟩
  | 92 => ⟨S8192x8192, .i32⟩
  | 93 => ⟨S_, .i32⟩
  | 94 => ⟨S8192x8192, .i32⟩
  | 95 => ⟨S8192x8192, .i1⟩
  | 96 => ⟨S8192x8192, .i32⟩
  | 97 => ⟨S8192x8192, .i32⟩
  | 98 => ⟨S_, .i32⟩
  | 99 => ⟨S8192x8192, .i32⟩
  | 100 => ⟨S8192x8192, .i1⟩
  | 101 => ⟨S8192x8192, .i1⟩
  | 102 => ⟨S_, .i32⟩
  | 103 => ⟨S8192x8192, .i32⟩
  | 104 => ⟨S8192x8192, .i32⟩
  | 105 => ⟨S8192x8192, .i32⟩
  | 106 => ⟨S_, .i32⟩
  | 107 => ⟨S8192x8192, .i32⟩
  | 108 => ⟨S8192x8192, .i32⟩
  | 109 => ⟨S8192x8192, .i1⟩
  | 110 => ⟨S8192x8192, .i1⟩
  | 111 => ⟨S_, .f32⟩
  | 112 => ⟨S8192x16x64, .f32⟩
  | 113 => ⟨S8192x16x64, .f32⟩
  | 114 => ⟨S16x8192x8192, .f32⟩
  | 115 => ⟨S16x8192x8192, .f32⟩
  | 116 => ⟨S_, .f32⟩
  | 117 => ⟨S_, .f32⟩
  | 118 => ⟨S16x8192x8192, .i1⟩
  | 119 => ⟨S16x8192x8192, .f32⟩
  | 120 => ⟨S16x8192x8192, .f32⟩
  | 121 => ⟨S_, .f32⟩
  | 122 => ⟨S16x8192x8192, .f32⟩
  | 123 => ⟨S_, .f32⟩
  | 124 => ⟨S16x8192, .f32⟩
  | 125 => ⟨S16x8192x1, .f32⟩
  | 126 => ⟨S16x8192x8192, .f32⟩
  | 127 => ⟨S16x8192x8192, .i1⟩
  | _ => ⟨S8192x3072, .bf16⟩

abbrev hbmTy0_1 (i : Nat) : BufTy := match i % 128 with
  | 0 => ⟨S16x8192x8192, .f32⟩
  | 1 => ⟨S_, .f32⟩
  | 2 => ⟨S16x8192, .f32⟩
  | 3 => ⟨S_, .f32⟩
  | 4 => ⟨S16x8192, .f32⟩
  | 5 => ⟨S16x8192, .f32⟩
  | 6 => ⟨S_, .f32⟩
  | 7 => ⟨S16x8192, .f32⟩
  | 8 => ⟨S16x8192, .i1⟩
  | 9 => ⟨S_, .f32⟩
  | 10 => ⟨S16x8192, .f32⟩
  | 11 => ⟨S16x8192, .i1⟩
  | 12 => ⟨S_, .f32⟩
  | 13 => ⟨S16x8192, .f32⟩
  | 14 => ⟨S_, .f32⟩
  | 15 => ⟨S16x8192, .f32⟩
  | 16 => ⟨S_, .f32⟩
  | 17 => ⟨S16x8192, .f32⟩
  | 18 => ⟨S16x8192, .f32⟩
  | 19 => ⟨S16x8192, .f32⟩
  | 20 => ⟨S16x8192x1, .f32⟩
  | 21 => ⟨S16x8192x8192, .f32⟩
  | 22 => ⟨S16x8192x8192, .f32⟩
  | 23 => ⟨S16x8192x8192, .f32⟩
  | 24 => ⟨S_, .f32⟩
  | 25 => ⟨S16x8192, .f32⟩
  | 26 => ⟨S16x8192x1, .f32⟩
  | 27 => ⟨S16x8192x8192, .f32⟩
  | 28 => ⟨S16x8192x8192, .f32⟩
  | 29 => ⟨S16x8192x1, .f32⟩
  | 30 => ⟨S_, .f32⟩
  | 31 => ⟨S16x8192x1, .f32⟩
  | 32 => ⟨S16x8192x1, .f32⟩
  | 33 => ⟨S16x64x8192, .f32⟩
  | 34 => ⟨S8192x16x64, .f32⟩
  | 35 => ⟨S8192x1024, .f32⟩
  | 36 => ⟨S8192x1024, .f32⟩
  | 37 => ⟨S8192x16x64, .f32⟩
  | 38 => ⟨S16x64x8192, .f32⟩
  | 39 => ⟨S16x8192x8192, .f32⟩
  | 40 => ⟨S16x64x8192, .f32⟩
  | 41 => ⟨S8192x16x64, .f32⟩
  | 42 => ⟨S16x8192x8192, .f32⟩
  | 43 => ⟨S16x8192x8192, .f32⟩
  | 44 => ⟨S16x8192x8192, .f32⟩
  | 45 => ⟨S_, .f32⟩
  | 46 => ⟨S16x8192, .f32⟩
  | 47 => ⟨S16x8192x1, .f32⟩
  | 48 => ⟨S16x8192x1, .f32⟩
  | 49 => ⟨S16x8192x8192, .f32⟩
  | 50 => ⟨S16x8192x8192, .f32⟩
  | 51 => ⟨S_, .f32⟩
  | 52 => ⟨S16x8192, .f32⟩
  | 53 => ⟨S16x8192x8192, .f32⟩
  | 54 => ⟨S16x8192x8192, .f32⟩
  | 55 => ⟨S16x8192x8192, .f32⟩
  | 56 => ⟨S_, .f32⟩
  | 57 => ⟨S16x8192x8192, .f32⟩
  | 58 => ⟨S16x8192x8192, .f32⟩
  | 59 => ⟨S16x8192x64, .f32⟩
  | 60 => ⟨S8192x16x64, .f32⟩
  | 61 => ⟨S16x8192x64, .f32⟩
  | 62 => ⟨S8192x16x64, .f32⟩
  | 63 => ⟨S_, .f32⟩
  | 64 => ⟨S8192x16x64, .f32⟩
  | 65 => ⟨S8192x16x64, .f32⟩
  | 66 => ⟨S8192x1024, .f32⟩
  | 67 => ⟨S8192x1024, .f32⟩
  | 68 => ⟨S8192x1024, .f32⟩
  | 69 => ⟨S8192x3072, .f32⟩
  | 70 => ⟨S8192x1024, .f32⟩
  | 71 => ⟨S8192x1024, .f32⟩
  | 72 => ⟨S8192x1024, .f32⟩
  | 73 => ⟨S1x8192x1024, .f32⟩
  | 74 => ⟨S1x8192x1024, .f32⟩
  | 75 => ⟨S1x8192x1024, .f32⟩
  | 76 => ⟨S3x8192x1024, .f32⟩
  | 77 => ⟨S3x8192x1024, .bf16⟩
  | _ => ⟨S8192x3072, .bf16⟩

abbrev hbmTy (i : Nat) : BufTy := match i / 128 with
  | 0 => hbmTy0_0 i
  | 1 => hbmTy0_1 i
  | _ => ⟨S8192x3072, .bf16⟩

abbrev bufTy : (tb : Table) → Fin (tcTables nBuf tb) → BufTy
  | .hbm, ⟨i, _⟩ => hbmTy i
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c : Ref sig .tc := ⟨.hbm, 13, rfl⟩
abbrev main_c_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_c_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_4 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_c : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_0 : Ref sig .tc := ⟨.hbm, 47, rfl⟩
abbrev main_call1_v12 : Ref sig .tc := ⟨.hbm, 48, rfl⟩
abbrev main_call1_v13 : Ref sig .tc := ⟨.hbm, 49, rfl⟩
abbrev main_v20 : Ref sig .tc := ⟨.hbm, 50, rfl⟩
abbrev main_c_5 : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_call2_v3 : Ref sig .tc := ⟨.hbm, 55, rfl⟩
abbrev main_call2_v4 : Ref sig .tc := ⟨.hbm, 56, rfl⟩
abbrev main_call2_v5 : Ref sig .tc := ⟨.hbm, 57, rfl⟩
abbrev main_call2_v6 : Ref sig .tc := ⟨.hbm, 58, rfl⟩
abbrev main_call2_v7 : Ref sig .tc := ⟨.hbm, 59, rfl⟩
abbrev main_call2_v8 : Ref sig .tc := ⟨.hbm, 60, rfl⟩
abbrev main_call2_c : Ref sig .tc := ⟨.hbm, 61, rfl⟩
abbrev main_call2_v9 : Ref sig .tc := ⟨.hbm, 62, rfl⟩
abbrev main_call2_v10 : Ref sig .tc := ⟨.hbm, 63, rfl⟩
abbrev main_call2_v11 : Ref sig .tc := ⟨.hbm, 64, rfl⟩
abbrev main_call2_c_0 : Ref sig .tc := ⟨.hbm, 65, rfl⟩
abbrev main_call2_v12 : Ref sig .tc := ⟨.hbm, 66, rfl⟩
abbrev main_call2_v13 : Ref sig .tc := ⟨.hbm, 67, rfl⟩
abbrev main_v21 : Ref sig .tc := ⟨.hbm, 68, rfl⟩
abbrev main_v22 : Ref sig .tc := ⟨.hbm, 69, rfl⟩
abbrev main_c_6 : Ref sig .tc := ⟨.hbm, 70, rfl⟩
abbrev main_call3_v0 : Ref sig .tc := ⟨.hbm, 71, rfl⟩
abbrev main_call3_v1 : Ref sig .tc := ⟨.hbm, 72, rfl⟩
abbrev main_call3_v2 : Ref sig .tc := ⟨.hbm, 73, rfl⟩
abbrev main_call3_v3 : Ref sig .tc := ⟨.hbm, 74, rfl⟩
abbrev main_call3_v4 : Ref sig .tc := ⟨.hbm, 75, rfl⟩
abbrev main_call3_v5 : Ref sig .tc := ⟨.hbm, 76, rfl⟩
abbrev main_call3_v6 : Ref sig .tc := ⟨.hbm, 77, rfl⟩
abbrev main_call3_v7 : Ref sig .tc := ⟨.hbm, 78, rfl⟩
abbrev main_call3_v8 : Ref sig .tc := ⟨.hbm, 79, rfl⟩
abbrev main_call3_c : Ref sig .tc := ⟨.hbm, 80, rfl⟩
abbrev main_call3_v9 : Ref sig .tc := ⟨.hbm, 81, rfl⟩
abbrev main_call3_v10 : Ref sig .tc := ⟨.hbm, 82, rfl⟩
abbrev main_call3_v11 : Ref sig .tc := ⟨.hbm, 83, rfl⟩
abbrev main_call3_c_0 : Ref sig .tc := ⟨.hbm, 84, rfl⟩
abbrev main_call3_v12 : Ref sig .tc := ⟨.hbm, 85, rfl⟩
abbrev main_call3_v13 : Ref sig .tc := ⟨.hbm, 86, rfl⟩
abbrev main_v23 : Ref sig .tc := ⟨.hbm, 87, rfl⟩
abbrev main_c_7 : Ref sig .tc := ⟨.hbm, 88, rfl⟩
abbrev main_call4_v0 : Ref sig .tc := ⟨.hbm, 89, rfl⟩
abbrev main_call4_v1 : Ref sig .tc := ⟨.hbm, 90, rfl⟩
abbrev main_call4_v2 : Ref sig .tc := ⟨.hbm, 91, rfl⟩
abbrev main_call4_v3 : Ref sig .tc := ⟨.hbm, 92, rfl⟩
abbrev main_call4_v4 : Ref sig .tc := ⟨.hbm, 93, rfl⟩
abbrev main_call4_v5 : Ref sig .tc := ⟨.hbm, 94, rfl⟩
abbrev main_call4_v6 : Ref sig .tc := ⟨.hbm, 95, rfl⟩
abbrev main_call4_v7 : Ref sig .tc := ⟨.hbm, 96, rfl⟩
abbrev main_call4_v8 : Ref sig .tc := ⟨.hbm, 97, rfl⟩
abbrev main_call4_c : Ref sig .tc := ⟨.hbm, 98, rfl⟩
abbrev main_call4_v9 : Ref sig .tc := ⟨.hbm, 99, rfl⟩
abbrev main_call4_v10 : Ref sig .tc := ⟨.hbm, 100, rfl⟩
abbrev main_call4_v11 : Ref sig .tc := ⟨.hbm, 101, rfl⟩
abbrev main_call4_c_0 : Ref sig .tc := ⟨.hbm, 102, rfl⟩
abbrev main_call4_v12 : Ref sig .tc := ⟨.hbm, 103, rfl⟩
abbrev main_call4_v13 : Ref sig .tc := ⟨.hbm, 104, rfl⟩
abbrev main_v24 : Ref sig .tc := ⟨.hbm, 105, rfl⟩
abbrev main_c_8 : Ref sig .tc := ⟨.hbm, 106, rfl⟩
abbrev main_v25 : Ref sig .tc := ⟨.hbm, 107, rfl⟩
abbrev main_v26 : Ref sig .tc := ⟨.hbm, 108, rfl⟩
abbrev main_v27 : Ref sig .tc := ⟨.hbm, 109, rfl⟩
abbrev main_v28 : Ref sig .tc := ⟨.hbm, 110, rfl⟩
abbrev main_cst : Ref sig .tc := ⟨.hbm, 111, rfl⟩
abbrev main_v29 : Ref sig .tc := ⟨.hbm, 112, rfl⟩
abbrev main_v30 : Ref sig .tc := ⟨.hbm, 113, rfl⟩
abbrev main_v31 : Ref sig .tc := ⟨.hbm, 114, rfl⟩
abbrev main_v32 : Ref sig .tc := ⟨.hbm, 115, rfl⟩
abbrev main_cst_9 : Ref sig .tc := ⟨.hbm, 116, rfl⟩
abbrev main_call5_v0 : Ref sig .tc := ⟨.hbm, 117, rfl⟩
abbrev main_v33_1 : Ref sig .tc := ⟨.hbm, 118, rfl⟩
abbrev main_call5_v2 : Ref sig .tc := ⟨.hbm, 119, rfl⟩
abbrev main_v33_0 : Ref sig .tc := ⟨.hbm, 120, rfl⟩
abbrev main_call5_cst : Ref sig .tc := ⟨.hbm, 121, rfl⟩
abbrev main_v33_2 : Ref sig .tc := ⟨.hbm, 122, rfl⟩
abbrev main_cst_10 : Ref sig .tc := ⟨.hbm, 123, rfl⟩
abbrev main_v34 : Ref sig .tc := ⟨.hbm, 124, rfl⟩
abbrev main_v35 : Ref sig .tc := ⟨.hbm, 125, rfl⟩
abbrev main_v36 : Ref sig .tc := ⟨.hbm, 126, rfl⟩
abbrev main_v37 : Ref sig .tc := ⟨.hbm, 127, rfl⟩
abbrev main_v38 : Ref sig .tc := ⟨.hbm, 128, rfl⟩
abbrev main_cst_11 : Ref sig .tc := ⟨.hbm, 129, rfl⟩
abbrev main_v39 : Ref sig .tc := ⟨.hbm, 130, rfl⟩
abbrev main_cst_12 : Ref sig .tc := ⟨.hbm, 131, rfl⟩
abbrev main_v40 : Ref sig .tc := ⟨.hbm, 132, rfl⟩
abbrev main_v41 : Ref sig .tc := ⟨.hbm, 133, rfl⟩
abbrev main_cst_13 : Ref sig .tc := ⟨.hbm, 134, rfl⟩
abbrev main_v42 : Ref sig .tc := ⟨.hbm, 135, rfl⟩
abbrev main_v43 : Ref sig .tc := ⟨.hbm, 136, rfl⟩
abbrev main_cst_14 : Ref sig .tc := ⟨.hbm, 137, rfl⟩
abbrev main_v44 : Ref sig .tc := ⟨.hbm, 138, rfl⟩
abbrev main_v45 : Ref sig .tc := ⟨.hbm, 139, rfl⟩
abbrev main_cst_15 : Ref sig .tc := ⟨.hbm, 140, rfl⟩
abbrev main_v46 : Ref sig .tc := ⟨.hbm, 141, rfl⟩
abbrev main_cst_16 : Ref sig .tc := ⟨.hbm, 142, rfl⟩
abbrev main_v47 : Ref sig .tc := ⟨.hbm, 143, rfl⟩
abbrev main_cst_17 : Ref sig .tc := ⟨.hbm, 144, rfl⟩
abbrev main_v48 : Ref sig .tc := ⟨.hbm, 145, rfl⟩
abbrev main_v49 : Ref sig .tc := ⟨.hbm, 146, rfl⟩
abbrev main_v50 : Ref sig .tc := ⟨.hbm, 147, rfl⟩
abbrev main_v51 : Ref sig .tc := ⟨.hbm, 148, rfl⟩
abbrev main_v52 : Ref sig .tc := ⟨.hbm, 149, rfl⟩
abbrev main_v53 : Ref sig .tc := ⟨.hbm, 150, rfl⟩
abbrev main_v54 : Ref sig .tc := ⟨.hbm, 151, rfl⟩
abbrev main_cst_18 : Ref sig .tc := ⟨.hbm, 152, rfl⟩
abbrev main_v55 : Ref sig .tc := ⟨.hbm, 153, rfl⟩
abbrev main_v56 : Ref sig .tc := ⟨.hbm, 154, rfl⟩
abbrev main_v57 : Ref sig .tc := ⟨.hbm, 155, rfl⟩
abbrev main_v58 : Ref sig .tc := ⟨.hbm, 156, rfl⟩
abbrev main_v59 : Ref sig .tc := ⟨.hbm, 157, rfl⟩
abbrev main_cst_19 : Ref sig .tc := ⟨.hbm, 158, rfl⟩
abbrev main_v60 : Ref sig .tc := ⟨.hbm, 159, rfl⟩
abbrev main_v61 : Ref sig .tc := ⟨.hbm, 160, rfl⟩
abbrev main_v62 : Ref sig .tc := ⟨.hbm, 161, rfl⟩
abbrev main_v63 : Ref sig .tc := ⟨.hbm, 162, rfl⟩
abbrev main_v64 : Ref sig .tc := ⟨.hbm, 163, rfl⟩
abbrev main_v65 : Ref sig .tc := ⟨.hbm, 164, rfl⟩
abbrev main_v66 : Ref sig .tc := ⟨.hbm, 165, rfl⟩
abbrev main_v67 : Ref sig .tc := ⟨.hbm, 166, rfl⟩
abbrev main_v68 : Ref sig .tc := ⟨.hbm, 167, rfl⟩
abbrev main_v69 : Ref sig .tc := ⟨.hbm, 168, rfl⟩
abbrev main_v70 : Ref sig .tc := ⟨.hbm, 169, rfl⟩
abbrev main_v71 : Ref sig .tc := ⟨.hbm, 170, rfl⟩
abbrev main_v72 : Ref sig .tc := ⟨.hbm, 171, rfl⟩
abbrev main_v73 : Ref sig .tc := ⟨.hbm, 172, rfl⟩
abbrev main_cst_20 : Ref sig .tc := ⟨.hbm, 173, rfl⟩
abbrev main_v74 : Ref sig .tc := ⟨.hbm, 174, rfl⟩
abbrev main_v75 : Ref sig .tc := ⟨.hbm, 175, rfl⟩
abbrev main_v76 : Ref sig .tc := ⟨.hbm, 176, rfl⟩
abbrev main_v77 : Ref sig .tc := ⟨.hbm, 177, rfl⟩
abbrev main_v78 : Ref sig .tc := ⟨.hbm, 178, rfl⟩
abbrev main_cst_21 : Ref sig .tc := ⟨.hbm, 179, rfl⟩
abbrev main_v79 : Ref sig .tc := ⟨.hbm, 180, rfl⟩
abbrev main_v80 : Ref sig .tc := ⟨.hbm, 181, rfl⟩
abbrev main_v81 : Ref sig .tc := ⟨.hbm, 182, rfl⟩
abbrev main_v82 : Ref sig .tc := ⟨.hbm, 183, rfl⟩
abbrev main_call6_cst : Ref sig .tc := ⟨.hbm, 184, rfl⟩
abbrev main_call6_v0 : Ref sig .tc := ⟨.hbm, 185, rfl⟩
abbrev main_v83 : Ref sig .tc := ⟨.hbm, 186, rfl⟩
abbrev main_v84 : Ref sig .tc := ⟨.hbm, 187, rfl⟩
abbrev main_v85 : Ref sig .tc := ⟨.hbm, 188, rfl⟩
abbrev main_v86 : Ref sig .tc := ⟨.hbm, 189, rfl⟩
abbrev main_v87 : Ref sig .tc := ⟨.hbm, 190, rfl⟩
abbrev main_cst_22 : Ref sig .tc := ⟨.hbm, 191, rfl⟩
abbrev main_v88 : Ref sig .tc := ⟨.hbm, 192, rfl⟩
abbrev main_v89 : Ref sig .tc := ⟨.hbm, 193, rfl⟩
abbrev main_v90 : Ref sig .tc := ⟨.hbm, 194, rfl⟩
abbrev main_v91 : Ref sig .tc := ⟨.hbm, 195, rfl⟩
abbrev main_v92 : Ref sig .tc := ⟨.hbm, 196, rfl⟩
abbrev main_v93 : Ref sig .tc := ⟨.hbm, 197, rfl⟩
abbrev main_v94 : Ref sig .tc := ⟨.hbm, 198, rfl⟩
abbrev main_v95 : Ref sig .tc := ⟨.hbm, 199, rfl⟩
abbrev main_v96 : Ref sig .tc := ⟨.hbm, 200, rfl⟩
abbrev main_v97 : Ref sig .tc := ⟨.hbm, 201, rfl⟩
abbrev main_v98 : Ref sig .tc := ⟨.hbm, 202, rfl⟩
abbrev main_v99 : Ref sig .tc := ⟨.hbm, 203, rfl⟩
abbrev main_v100 : Ref sig .tc := ⟨.hbm, 204, rfl⟩
abbrev main_v101 : Ref sig .tc := ⟨.hbm, 205, rfl⟩

abbrev nD : Nat := 1
abbrev τ : Topo := Topo.v7x

variable {F : FTy → Type} [FloatOps F]
-- ==== Kernel2.lean ====
abbrev S8192x1024 : Shape := ⟨2, ![8192, 1024]⟩
abbrev S1024x4096 : Shape := ⟨2, ![1024, 4096]⟩
abbrev S1x1024x4096 : Shape := ⟨3, ![1, 1024, 4096]⟩
abbrev S8192x4096 : Shape := ⟨2, ![8192, 4096]⟩
abbrev S512x1024 : Shape := ⟨2, ![512, 1024]⟩
abbrev S512x4096 : Shape := ⟨2, ![512, 4096]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .f32⟩
  | .hbm, ⟨2, _⟩ => ⟨S1024x4096, .bf16⟩
  | .hbm, ⟨3, _⟩ => ⟨S1x1024x4096, .bf16⟩
  | .hbm, ⟨4, _⟩ => ⟨S8192x4096, .bf16⟩
  | .local _ .vmem, ⟨0, _⟩ => ⟨S512x1024, .bf16⟩
  | .local _ .vmem, ⟨1, _⟩ => ⟨S512x1024, .bf16⟩
  | .local _ .vmem, ⟨2, _⟩ => ⟨S1x1024x4096, .bf16⟩
  | .local _ .vmem, ⟨3, _⟩ => ⟨S512x4096, .bf16⟩
  | .local _ .vmem, ⟨4, _⟩ => ⟨S512x4096, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S8192x1024 : Shape := ⟨2, ![8192, 1024]⟩
abbrev S1024x4096 : Shape := ⟨2, ![1024, 4096]⟩
abbrev S8192x4096 : Shape := ⟨2, ![8192, 4096]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .f32⟩
  | .hbm, ⟨2, _⟩ => ⟨S8192x1024, .f32⟩
  | .hbm, ⟨3, _⟩ => ⟨S8192x4096, .f32⟩
  | .hbm, ⟨4, _⟩ => ⟨S_, .f32⟩
  | .hbm, ⟨5, _⟩ => ⟨S8192x4096, .f32⟩
  | .hbm, ⟨6, _⟩ => ⟨S8192x4096, .f32⟩
  | .hbm, ⟨7, _⟩ => ⟨S8192x4096, .f32⟩
  | .hbm, ⟨8, _⟩ => ⟨S8192x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_cst : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel3.lean ====
abbrev S8192x1024 : Shape := ⟨2, ![8192, 1024]⟩
abbrev S1024x4096 : Shape := ⟨2, ![1024, 4096]⟩
abbrev S4096x1024 : Shape := ⟨2, ![4096, 1024]⟩
abbrev S8192x4096 : Shape := ⟨2, ![8192, 4096]⟩
abbrev S_ : Shape := ⟨0, ![]⟩
abbrev S1x4096x1024 : Shape := ⟨3, ![1, 4096, 1024]⟩
abbrev S512x1024 : Shape := ⟨2, ![512, 1024]⟩
abbrev S512x4096 : Shape := ⟨2, ![512, 4096]⟩

abbrev nBuf : Space → Nat
  | .hbm => 14
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .f32⟩
  | .hbm, ⟨2, _⟩ => ⟨S4096x1024, .f32⟩
  | .hbm, ⟨3, _⟩ => ⟨S8192x1024, .bf16⟩
  | .hbm, ⟨4, _⟩ => ⟨S1024x4096, .bf16⟩
  | .hbm, ⟨5, _⟩ => ⟨S8192x4096, .f32⟩
  | .hbm, ⟨6, _⟩ => ⟨S_, .f32⟩
  | .hbm, ⟨7, _⟩ => ⟨S8192x4096, .f32⟩
  | .hbm, ⟨8, _⟩ => ⟨S8192x4096, .f32⟩
  | .hbm, ⟨9, _⟩ => ⟨S8192x4096, .f32⟩
  | .hbm, ⟨10, _⟩ => ⟨S8192x4096, .bf16⟩
  | .hbm, ⟨11, _⟩ => ⟨S4096x1024, .bf16⟩
  | .hbm, ⟨12, _⟩ => ⟨S1x4096x1024, .bf16⟩
  | .hbm, ⟨13, _⟩ => ⟨S8192x4096, .bf16⟩
  | .local _ .vmem, ⟨0, _⟩ => ⟨S512x1024, .bf16⟩
  | .local _ .vmem, ⟨1, _⟩ => ⟨S512x1024, .bf16⟩
  | .local _ .vmem, ⟨2, _⟩ => ⟨S1x4096x1024, .bf16⟩
  | .local _ .vmem, ⟨3, _⟩ => ⟨S512x4096, .bf16⟩
  | .local _ .vmem, ⟨4, _⟩ => ⟨S512x4096, .bf16⟩
  | .local _ .vmem, ⟨5, _⟩ => ⟨S512x4096, .bf16⟩
  | .local _ .vmem, ⟨6, _⟩ => ⟨S512x4096, .bf16⟩
  | .local _ .vmem, ⟨7, _⟩ => ⟨S1024x4096, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S8192x1024 : Shape := ⟨2, ![8192, 1024]⟩
abbrev S1024x4096 : Shape := ⟨2, ![1024, 4096]⟩
abbrev S4096x1024 : Shape := ⟨2, ![4096, 1024]⟩
abbrev S8192x4096 : Shape := ⟨2, ![8192, 4096]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .f32⟩
  | .hbm, ⟨2, _⟩ => ⟨S4096x1024, .f32⟩
  | .hbm, ⟨3, _⟩ => ⟨S8192x1024, .bf16⟩
  | .hbm, ⟨4, _⟩ => ⟨S8192x1024, .f32⟩
  | .hbm, ⟨5, _⟩ => ⟨S8192x4096, .f32⟩
  | .hbm, ⟨6, _⟩ => ⟨S_, .f32⟩
  | .hbm, ⟨7, _⟩ => ⟨S8192x4096, .f32⟩
  | .hbm, ⟨8, _⟩ => ⟨S8192x4096, .f32⟩
  | .hbm, ⟨9, _⟩ => ⟨S_, .f32⟩
  | .hbm, ⟨10, _⟩ => ⟨S8192x4096, .f32⟩
  | .hbm, ⟨11, _⟩ => ⟨S8192x4096, .i1⟩
  | .hbm, ⟨12, _⟩ => ⟨S_, .f32⟩
  | .hbm, ⟨13, _⟩ => ⟨S8192x4096, .f32⟩
  | .hbm, ⟨14, _⟩ => ⟨S8192x4096, .f32⟩
  | .hbm, ⟨15, _⟩ => ⟨S_, .f32⟩
  | .hbm, ⟨16, _⟩ => ⟨S8192x4096, .f32⟩
  | .hbm, ⟨17, _⟩ => ⟨S8192x4096, .f32⟩
  | .hbm, ⟨18, _⟩ => ⟨S8192x1024, .f32⟩
  | .hbm, ⟨19, _⟩ => ⟨S8192x1024, .f32⟩
  | .hbm, ⟨20, _⟩ => ⟨S8192x4096, .f32⟩
  | .hbm, ⟨21, _⟩ => ⟨S8192x4096, .f32⟩
  | .hbm, ⟨22, _⟩ => ⟨S_, .f32⟩
  | .hbm, ⟨23, _⟩ => ⟨S8192x4096, .f32⟩
  | .hbm, ⟨24, _⟩ => ⟨S8192x4096, .f32⟩
  | .hbm, ⟨25, _⟩ => ⟨S8192x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_cst : Ref sig .tc := ⟨.hbm, 6, rfl⟩
abbrev main_call0_v0 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== Kernel4.lean ====
abbrev S8192x1024 : Shape := ⟨2, ![8192, 1024]⟩
abbrev S1024x4096 : Shape := ⟨2, ![1024, 4096]⟩
abbrev S4096x1024 : Shape := ⟨2, ![4096, 1024]⟩
abbrev S8192x4096 : Shape := ⟨2, ![8192, 4096]⟩
abbrev S_ : Shape := ⟨0, ![]⟩
abbrev S512x4096 : Shape := ⟨2, ![512, 4096]⟩
abbrev S512x1024 : Shape := ⟨2, ![512, 1024]⟩
abbrev S4096x512 : Shape := ⟨2, ![4096, 512]⟩

abbrev nBuf : Space → Nat
  | .hbm => 12
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .f32⟩
  | .hbm, ⟨2, _⟩ => ⟨S4096x1024, .f32⟩
  | .hbm, ⟨3, _⟩ => ⟨S8192x1024, .bf16⟩
  | .hbm, ⟨4, _⟩ => ⟨S1024x4096, .bf16⟩
  | .hbm, ⟨5, _⟩ => ⟨S8192x4096, .f32⟩
  | .hbm, ⟨6, _⟩ => ⟨S_, .f32⟩
  | .hbm, ⟨7, _⟩ => ⟨S8192x4096, .f32⟩
  | .hbm, ⟨8, _⟩ => ⟨S8192x4096, .f32⟩
  | .hbm, ⟨9, _⟩ => ⟨S8192x4096, .f32⟩
  | .hbm, ⟨10, _⟩ => ⟨S8192x4096, .bf16⟩
  | .hbm, ⟨11, _⟩ => ⟨S4096x1024, .f32⟩
  | .local _ .vmem, ⟨0, _⟩ => ⟨S512x4096, .bf16⟩
  | .local _ .vmem, ⟨1, _⟩ => ⟨S512x4096, .bf16⟩
  | .local _ .vmem, ⟨2, _⟩ => ⟨S512x1024, .bf16⟩
  | .local _ .vmem, ⟨3, _⟩ => ⟨S512x1024, .bf16⟩
  | .local _ .vmem, ⟨4, _⟩ => ⟨S4096x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference4Ideal.lean ====
abbrev S8192x1024 : Shape := ⟨2, ![8192, 1024]⟩
abbrev S1024x4096 : Shape := ⟨2, ![1024, 4096]⟩
abbrev S4096x1024 : Shape := ⟨2, ![4096, 1024]⟩
abbrev S8192x4096 : Shape := ⟨2, ![8192, 4096]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .f32⟩
  | .hbm, ⟨2, _⟩ => ⟨S4096x1024, .f32⟩
  | .hbm, ⟨3, _⟩ => ⟨S8192x1024, .bf16⟩
  | .hbm, ⟨4, _⟩ => ⟨S8192x1024, .f32⟩
  | .hbm, ⟨5, _⟩ => ⟨S8192x4096, .f32⟩
  | .hbm, ⟨6, _⟩ => ⟨S_, .f32⟩
  | .hbm, ⟨7, _⟩ => ⟨S8192x4096, .f32⟩
  | .hbm, ⟨8, _⟩ => ⟨S8192x4096, .f32⟩
  | .hbm, ⟨9, _⟩ => ⟨S8192x4096, .f32⟩
  | .hbm, ⟨10, _⟩ => ⟨S8192x1024, .f32⟩
  | .hbm, ⟨11, _⟩ => ⟨S8192x1024, .f32⟩
  | .hbm, ⟨12, _⟩ => ⟨S1024x4096, .f32⟩
  | .hbm, ⟨13, _⟩ => ⟨S4096x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_cst : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Kernel5.lean ====
abbrev S8192x1024 : Shape := ⟨2, ![8192, 1024]⟩
abbrev S1024x4096 : Shape := ⟨2, ![1024, 4096]⟩
abbrev S4096x1024 : Shape := ⟨2, ![4096, 1024]⟩
abbrev S8192x4096 : Shape := ⟨2, ![8192, 4096]⟩
abbrev S_ : Shape := ⟨0, ![]⟩
abbrev S4x1024x1024 : Shape := ⟨3, ![4, 1024, 1024]⟩
abbrev S512x1024 : Shape := ⟨2, ![512, 1024]⟩
abbrev S512x4096 : Shape := ⟨2, ![512, 4096]⟩
abbrev S1024x512 : Shape := ⟨2, ![1024, 512]⟩
abbrev S1x1024x1024 : Shape := ⟨3, ![1, 1024, 1024]⟩
abbrev S1024x1024 : Shape := ⟨2, ![1024, 1024]⟩

abbrev nBuf : Space → Nat
  | .hbm => 17
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .f32⟩
  | .hbm, ⟨2, _⟩ => ⟨S4096x1024, .f32⟩
  | .hbm, ⟨3, _⟩ => ⟨S8192x1024, .bf16⟩
  | .hbm, ⟨4, _⟩ => ⟨S1024x4096, .bf16⟩
  | .hbm, ⟨5, _⟩ => ⟨S8192x4096, .f32⟩
  | .hbm, ⟨6, _⟩ => ⟨S4096x1024, .bf16⟩
  | .hbm, ⟨7, _⟩ => ⟨S8192x4096, .f32⟩
  | .hbm, ⟨8, _⟩ => ⟨S_, .f32⟩
  | .hbm, ⟨9, _⟩ => ⟨S8192x4096, .f32⟩
  | .hbm, ⟨10, _⟩ => ⟨S8192x4096, .f32⟩
  | .hbm, ⟨11, _⟩ => ⟨S_, .f32⟩
  | .hbm, ⟨12, _⟩ => ⟨S8192x4096, .f32⟩
  | .hbm, ⟨13, _⟩ => ⟨S8192x4096, .f32⟩
  | .hbm, ⟨14, _⟩ => ⟨S8192x4096, .f32⟩
  | .hbm, ⟨15, _⟩ => ⟨S8192x4096, .bf16⟩
  | .hbm, ⟨16, _⟩ => ⟨S4x1024x1024, .f32⟩
  | .local _ .vmem, ⟨0, _⟩ => ⟨S512x1024, .bf16⟩
  | .local _ .vmem, ⟨1, _⟩ => ⟨S512x1024, .bf16⟩
  | .local _ .vmem, ⟨2, _⟩ => ⟨S512x4096, .bf16⟩
  | .local _ .vmem, ⟨3, _⟩ => ⟨S512x4096, .bf16⟩
  | .local _ .vmem, ⟨4, _⟩ => ⟨S4x1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference5Ideal.lean ====
abbrev S8192x1024 : Shape := ⟨2, ![8192, 1024]⟩
abbrev S1024x4096 : Shape := ⟨2, ![1024, 4096]⟩
abbrev S4096x1024 : Shape := ⟨2, ![4096, 1024]⟩
abbrev S8192x4096 : Shape := ⟨2, ![8192, 4096]⟩
abbrev S_ : Shape := ⟨0, ![]⟩
abbrev S1024x1024 : Shape := ⟨2, ![1024, 1024]⟩
abbrev S1x1024x1024 : Shape := ⟨3, ![1, 1024, 1024]⟩
abbrev S4x1024x1024 : Shape := ⟨3, ![4, 1024, 1024]⟩

abbrev nBuf : Space → Nat
  | .hbm => 36
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .f32⟩
  | .hbm, ⟨2, _⟩ => ⟨S4096x1024, .f32⟩
  | .hbm, ⟨3, _⟩ => ⟨S8192x1024, .bf16⟩
  | .hbm, ⟨4, _⟩ => ⟨S8192x1024, .f32⟩
  | .hbm, ⟨5, _⟩ => ⟨S8192x4096, .f32⟩
  | .hbm, ⟨6, _⟩ => ⟨S_, .f32⟩
  | .hbm, ⟨7, _⟩ => ⟨S8192x4096, .f32⟩
  | .hbm, ⟨8, _⟩ => ⟨S8192x4096, .f32⟩
  | .hbm, ⟨9, _⟩ => ⟨S_, .f32⟩
  | .hbm, ⟨10, _⟩ => ⟨S8192x4096, .f32⟩
  | .hbm, ⟨11, _⟩ => ⟨S8192x4096, .i1⟩
  | .hbm, ⟨12, _⟩ => ⟨S_, .f32⟩
  | .hbm, ⟨13, _⟩ => ⟨S8192x4096, .f32⟩
  | .hbm, ⟨14, _⟩ => ⟨S8192x4096, .f32⟩
  | .hbm, ⟨15, _⟩ => ⟨S_, .f32⟩
  | .hbm, ⟨16, _⟩ => ⟨S8192x4096, .f32⟩
  | .hbm, ⟨17, _⟩ => ⟨S8192x4096, .f32⟩
  | .hbm, ⟨18, _⟩ => ⟨S8192x1024, .f32⟩
  | .hbm, ⟨19, _⟩ => ⟨S8192x1024, .f32⟩
  | .hbm, ⟨20, _⟩ => ⟨S8192x4096, .f32⟩
  | .hbm, ⟨21, _⟩ => ⟨S8192x4096, .f32⟩
  | .hbm, ⟨22, _⟩ => ⟨S_, .f32⟩
  | .hbm, ⟨23, _⟩ => ⟨S8192x4096, .f32⟩
  | .hbm, ⟨24, _⟩ => ⟨S8192x4096, .f32⟩
  | .hbm, ⟨25, _⟩ => ⟨S4096x1024, .f32⟩
  | .hbm, ⟨26, _⟩ => ⟨S1024x4096, .f32⟩
  | .hbm, ⟨27, _⟩ => ⟨S1024x1024, .f32⟩
  | .hbm, ⟨28, _⟩ => ⟨S1024x1024, .f32⟩
  | .hbm, ⟨29, _⟩ => ⟨S1024x1024, .f32⟩
  | .hbm, ⟨30, _⟩ => ⟨S1024x1024, .f32⟩
  | .hbm, ⟨31, _⟩ => ⟨S1x1024x1024, .f32⟩
  | .hbm, ⟨32, _⟩ => ⟨S1x1024x1024, .f32⟩
  | .hbm, ⟨33, _⟩ => ⟨S1x1024x1024, .f32⟩
  | .hbm, ⟨34, _⟩ => ⟨S1x1024x1024, .f32⟩
  | .hbm, ⟨35, _⟩ => ⟨S4x1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_cst : Ref sig .tc := ⟨.hbm, 6, rfl⟩
abbrev main_call0_v0 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== Kernel6.lean ====
abbrev S8192x1024 : Shape := ⟨2, ![8192, 1024]⟩
abbrev S1024x4096 : Shape := ⟨2, ![1024, 4096]⟩
abbrev S4096x1024 : Shape := ⟨2, ![4096, 1024]⟩
abbrev S1x1024 : Shape := ⟨2, ![1, 1024]⟩
abbrev S8192x4096 : Shape := ⟨2, ![8192, 4096]⟩
abbrev S_ : Shape := ⟨0, ![]⟩
abbrev S1x4096x1024 : Shape := ⟨3, ![1, 4096, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩

abbrev nBuf : Space → Nat
  | .hbm => 24
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S1024x4096, .f32⟩
  | .hbm, ⟨3, _⟩ => ⟨S4096x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1024x4096, .bf16⟩
  | .hbm, ⟨10, _⟩ => ⟨S8192x4096, .f32⟩
  | .hbm, ⟨11, _⟩ => ⟨S_, .f32⟩
  | .hbm, ⟨12, _⟩ => ⟨S8192x4096, .f32⟩
  | .hbm, ⟨13, _⟩ => ⟨S8192x4096, .f32⟩
  | .hbm, ⟨14, _⟩ => ⟨S8192x4096, .f32⟩
  | .hbm, ⟨15, _⟩ => ⟨S8192x4096, .bf16⟩
  | .hbm, ⟨16, _⟩ => ⟨S4096x1024, .bf16⟩
  | .hbm, ⟨17, _⟩ => ⟨S1x4096x1024, .bf16⟩
  | .hbm, ⟨18, _⟩ => ⟨S_, .f32⟩
  | .hbm, ⟨19, _⟩ => ⟨S1x1024, .f32⟩
  | .hbm, ⟨20, _⟩ => ⟨S1x1024, .f32⟩
  | .hbm, ⟨21, _⟩ => ⟨S8192x1024, .bf16⟩
  | .hbm, ⟨22, _⟩ => ⟨S8192x1024, .f32⟩
  | .hbm, ⟨23, _⟩ => ⟨S8192x1024, .bf16⟩
  | .local _ .vmem, ⟨0, _⟩ => ⟨S512x4096, .bf16⟩
  | .local _ .vmem, ⟨1, _⟩ => ⟨S512x4096, .bf16⟩
  | .local _ .vmem, ⟨2, _⟩ => ⟨S1x4096x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10_0 : Ref sig .tc := ⟨.hbm, 21, rfl⟩
abbrev main_v10_1 : Ref sig .tc := ⟨.hbm, 22, rfl⟩
abbrev main_v10_2 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference6Ideal.lean ====
abbrev S8192x1024 : Shape := ⟨2, ![8192, 1024]⟩
abbrev S1024x4096 : Shape := ⟨2, ![1024, 4096]⟩
abbrev S4096x1024 : Shape := ⟨2, ![4096, 1024]⟩
abbrev S1x1024 : Shape := ⟨2, ![1, 1024]⟩
abbrev S8192x4096 : Shape := ⟨2, ![8192, 4096]⟩
abbrev S_ : Shape := ⟨0, ![]⟩
abbrev S8192 : Shape := ⟨1, ![8192]⟩
abbrev S8192x1 : Shape := ⟨2, ![8192, 1]⟩

abbrev nBuf : Space → Nat
  | .hbm => 61
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S1024x4096, .f32⟩
  | .hbm, ⟨3, _⟩ => ⟨S4096x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S8192x1024, .f32⟩
  | .hbm, ⟨10, _⟩ => ⟨S8192x4096, .f32⟩
  | .hbm, ⟨11, _⟩ => ⟨S_, .f32⟩
  | .hbm, ⟨12, _⟩ => ⟨S8192x4096, .f32⟩
  | .hbm, ⟨13, _⟩ => ⟨S8192x4096, .f32⟩
  | .hbm, ⟨14, _⟩ => ⟨S8192x4096, .f32⟩
  | .hbm, ⟨15, _⟩ => ⟨S8192x1024, .f32⟩
  | .hbm, ⟨16, _⟩ => ⟨S_, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S8192x1, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .bf16⟩
  | .hbm, ⟨53, _⟩ => ⟨S_, .f32⟩
  | .hbm, ⟨54, _⟩ => ⟨S1x1024, .f32⟩
  | .hbm, ⟨55, _⟩ => ⟨S1x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_call0_cst : Ref sig .tc := ⟨.hbm, 11, rfl⟩
abbrev main_call0_v0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_3 : Ref sig .tc := ⟨.hbm, 34, rfl⟩
abbrev main_v19 : Ref sig .tc := ⟨.hbm, 35, rfl⟩
abbrev main_v20 : Ref sig .tc := ⟨.hbm, 36, rfl⟩
abbrev main_cst_4 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_6 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩

abbrev nD : Nat := 1
abbrev τ : Topo := Topo.v7x

variable {F : FTy → Type} [FloatOps F]
-- ==== Kernel7.lean ====
abbrev S8192x1024 : Shape := ⟨2, ![8192, 1024]⟩
abbrev S1024x1024 : Shape := ⟨2, ![1024, 1024]⟩
abbrev S1x1024 : Shape := ⟨2, ![1, 1024]⟩
abbrev S1x1024x1024 : Shape := ⟨3, ![1, 1024, 1024]⟩
abbrev S_ : Shape := ⟨0, ![]⟩
abbrev S512x1024 : Shape := ⟨2, ![512, 1024]⟩
abbrev S512 : Shape := ⟨1, ![512]⟩
abbrev S512x1 : Shape := ⟨2, ![512, 1]⟩

abbrev nBuf : Space → Nat
  | .hbm => 16
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S1024x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1024x1024, .bf16⟩
  | .hbm, ⟨9, _⟩ => ⟨S1x1024x1024, .bf16⟩
  | .hbm, ⟨10, _⟩ => ⟨S_, .f32⟩
  | .hbm, ⟨11, _⟩ => ⟨S1x1024, .f32⟩
  | .hbm, ⟨12, _⟩ => ⟨S1x1024, .f32⟩
  | .hbm, ⟨13, _⟩ => ⟨S8192x1024, .bf16⟩
  | .hbm, ⟨14, _⟩ => ⟨S8192x1024, .f32⟩
  | .hbm, ⟨15, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S1x1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev main_v4_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference7Ideal.lean ====
abbrev S8192x1024 : Shape := ⟨2, ![8192, 1024]⟩
abbrev S1024x1024 : Shape := ⟨2, ![1024, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 55
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S1024x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S1x1024, .f32⟩
  | .hbm, ⟨15, _⟩ => ⟨S1x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S8192x1, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .bf16⟩
  | .hbm, ⟨47, _⟩ => ⟨S_, .f32⟩
  | .hbm, ⟨48, _⟩ => ⟨S1x1024, .f32⟩
  | .hbm, ⟨49, _⟩ => ⟨S1x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_6 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩

abbrev nD : Nat := 1
abbrev τ : Topo := Topo.v7x

variable {F : FTy → Type} [FloatOps F]
-- ==== Kernel8.lean ====
abbrev S8192x1024 : Shape := ⟨2, ![8192, 1024]⟩
abbrev S1024x3072 : Shape := ⟨2, ![1024, 3072]⟩
abbrev S1x3072 : Shape := ⟨2, ![1, 3072]⟩
abbrev S1x1024x3072 : Shape := ⟨3, ![1, 1024, 3072]⟩
abbrev S8192x3072 : Shape := ⟨2, ![8192, 3072]⟩
abbrev S512x1024 : Shape := ⟨2, ![512, 1024]⟩
abbrev S512x3072 : Shape := ⟨2, ![512, 3072]⟩

abbrev nBuf : Space → Nat
  | .hbm => 6
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x3072, .f32⟩
  | .hbm, ⟨2, _⟩ => ⟨S1x3072, .f32⟩
  | .hbm, ⟨3, _⟩ => ⟨S1024x3072, .bf16⟩
  | .hbm, ⟨4, _⟩ => ⟨S1x1024x3072, .bf16⟩
  | .hbm, ⟨5, _⟩ => ⟨S8192x3072, .bf16⟩
  | .local _ .vmem, ⟨0, _⟩ => ⟨S512x1024, .bf16⟩
  | .local _ .vmem, ⟨1, _⟩ => ⟨S512x1024, .bf16⟩
  | .local _ .vmem, ⟨2, _⟩ => ⟨S1x1024x3072, .bf16⟩
  | .local _ .vmem, ⟨3, _⟩ => ⟨S1x3072, .f32⟩
  | .local _ .vmem, ⟨4, _⟩ => ⟨S512x3072, .bf16⟩
  | .local _ .vmem, ⟨5, _⟩ => ⟨S512x3072, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference8Ideal.lean ====
abbrev S8192x1024 : Shape := ⟨2, ![8192, 1024]⟩
abbrev S1024x3072 : Shape := ⟨2, ![1024, 3072]⟩
abbrev S1x3072 : Shape := ⟨2, ![1, 3072]⟩
abbrev S8192x3072 : Shape := ⟨2, ![8192, 3072]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x3072, .f32⟩
  | .hbm, ⟨2, _⟩ => ⟨S1x3072, .f32⟩
  | .hbm, ⟨3, _⟩ => ⟨S8192x1024, .f32⟩
  | .hbm, ⟨4, _⟩ => ⟨S8192x3072, .f32⟩
  | .hbm, ⟨5, _⟩ => ⟨S8192x3072, .f32⟩
  | .hbm, ⟨6, _⟩ => ⟨S8192x3072, .f32⟩
  | .hbm, ⟨7, _⟩ => ⟨S8192x3072, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel9.lean ====
abbrev S8192x1024 : Shape := ⟨2, ![8192, 1024]⟩
abbrev S1024x3088 : Shape := ⟨2, ![1024, 3088]⟩
abbrev S_ : Shape := ⟨0, ![]⟩
abbrev S1024x3200 : Shape := ⟨2, ![1024, 3200]⟩
abbrev S1x1024x3200 : Shape := ⟨3, ![1, 1024, 3200]⟩
abbrev S8192x3200 : Shape := ⟨2, ![8192, 3200]⟩
abbrev S512x1024 : Shape := ⟨2, ![512, 1024]⟩
abbrev S512x3200 : Shape := ⟨2, ![512, 3200]⟩

abbrev nBuf : Space → Nat
  | .hbm => 8
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x3088, .f32⟩
  | .hbm, ⟨2, _⟩ => ⟨S_, .i32⟩
  | .hbm, ⟨3, _⟩ => ⟨S_, .f32⟩
  | .hbm, ⟨4, _⟩ => ⟨S1024x3200, .f32⟩
  | .hbm, ⟨5, _⟩ => ⟨S1024x3200, .bf16⟩
  | .hbm, ⟨6, _⟩ => ⟨S1x1024x3200, .bf16⟩
  | .hbm, ⟨7, _⟩ => ⟨S8192x3200, .f32⟩
  | .local _ .vmem, ⟨0, _⟩ => ⟨S512x1024, .bf16⟩
  | .local _ .vmem, ⟨1, _⟩ => ⟨S512x1024, .bf16⟩
  | .local _ .vmem, ⟨2, _⟩ => ⟨S1x1024x3200, .bf16⟩
  | .local _ .vmem, ⟨3, _⟩ => ⟨S512x3200, .f32⟩
  | .local _ .vmem, ⟨4, _⟩ => ⟨S512x3200, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024x3200 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x3200 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S8192x1024 : Shape := ⟨2, ![8192, 1024]⟩
abbrev S1024x3088 : Shape := ⟨2, ![1024, 3088]⟩
abbrev S8192x3088 : Shape := ⟨2, ![8192, 3088]⟩
abbrev S_ : Shape := ⟨0, ![]⟩
abbrev S8192x3200 : Shape := ⟨2, ![8192, 3200]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x3088, .f32⟩
  | .hbm, ⟨2, _⟩ => ⟨S8192x1024, .f32⟩
  | .hbm, ⟨3, _⟩ => ⟨S8192x3088, .f32⟩
  | .hbm, ⟨4, _⟩ => ⟨S_, .i32⟩
  | .hbm, ⟨5, _⟩ => ⟨S_, .f32⟩
  | .hbm, ⟨6, _⟩ => ⟨S8192x3200, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== Kernel10.lean ====
abbrev S8192x1024 : Shape := ⟨2, ![8192, 1024]⟩
abbrev S1024x3088 : Shape := ⟨2, ![1024, 3088]⟩
abbrev S8192x3088 : Shape := ⟨2, ![8192, 3088]⟩
abbrev S_ : Shape := ⟨0, ![]⟩
abbrev S8192x3200 : Shape := ⟨2, ![8192, 3200]⟩
abbrev S1024x3200 : Shape := ⟨2, ![1024, 3200]⟩
abbrev S512x1024 : Shape := ⟨2, ![512, 1024]⟩
abbrev S512x3200 : Shape := ⟨2, ![512, 3200]⟩
abbrev S1024x512 : Shape := ⟨2, ![1024, 512]⟩

abbrev nBuf : Space → Nat
  | .hbm => 7
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x3088, .f32⟩
  | .hbm, ⟨2, _⟩ => ⟨S8192x3088, .bf16⟩
  | .hbm, ⟨3, _⟩ => ⟨S_, .i32⟩
  | .hbm, ⟨4, _⟩ => ⟨S_, .bf16⟩
  | .hbm, ⟨5, _⟩ => ⟨S8192x3200, .bf16⟩
  | .hbm, ⟨6, _⟩ => ⟨S1024x3200, .f32⟩
  | .local _ .vmem, ⟨0, _⟩ => ⟨S512x1024, .bf16⟩
  | .local _ .vmem, ⟨1, _⟩ => ⟨S512x1024, .bf16⟩
  | .local _ .vmem, ⟨2, _⟩ => ⟨S512x3200, .bf16⟩
  | .local _ .vmem, ⟨3, _⟩ => ⟨S512x3200, .bf16⟩
  | .local _ .vmem, ⟨4, _⟩ => ⟨S1024x3200, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x3200 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x3200 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference10Ideal.lean ====
abbrev S8192x1024 : Shape := ⟨2, ![8192, 1024]⟩
abbrev S1024x3088 : Shape := ⟨2, ![1024, 3088]⟩
abbrev S8192x3088 : Shape := ⟨2, ![8192, 3088]⟩
abbrev S3088x1024 : Shape := ⟨2, ![3088, 1024]⟩
abbrev S_ : Shape := ⟨0, ![]⟩
abbrev S1024x3200 : Shape := ⟨2, ![1024, 3200]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x3088, .f32⟩
  | .hbm, ⟨2, _⟩ => ⟨S8192x3088, .bf16⟩
  | .hbm, ⟨3, _⟩ => ⟨S8192x1024, .f32⟩
  | .hbm, ⟨4, _⟩ => ⟨S8192x3088, .f32⟩
  | .hbm, ⟨5, _⟩ => ⟨S8192x3088, .f32⟩
  | .hbm, ⟨6, _⟩ => ⟨S3088x1024, .f32⟩
  | .hbm, ⟨7, _⟩ => ⟨S1024x3088, .f32⟩
  | .hbm, ⟨8, _⟩ => ⟨S_, .i32⟩
  | .hbm, ⟨9, _⟩ => ⟨S_, .f32⟩
  | .hbm, ⟨10, _⟩ => ⟨S1024x3200, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_call0_v0 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== Kernel11.lean ====
abbrev S8192x1024 : Shape := ⟨2, ![8192, 1024]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .f32⟩
  | .hbm, ⟨2, _⟩ => ⟨S8192x1024, .bf16⟩
  | .hbm, ⟨3, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference11Ideal.lean ====
abbrev S8192x1024 : Shape := ⟨2, ![8192, 1024]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .f32⟩
  | .hbm, ⟨2, _⟩ => ⟨S8192x1024, .bf16⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S1024x1024, .f32⟩
  | .hbm, ⟨7, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel12.lean ====
abbrev S8192x1024 : Shape := ⟨2, ![8192, 1024]⟩
abbrev S1024x3072 : Shape := ⟨2, ![1024, 3072]⟩
abbrev S1x3072 : Shape := ⟨2, ![1, 3072]⟩
abbrev S3x8192x1024 : Shape := ⟨3, ![3, 8192, 1024]⟩
abbrev S4x1024x768 : Shape := ⟨3, ![4, 1024, 768]⟩
abbrev S512x1024 : Shape := ⟨2, ![512, 1024]⟩
abbrev S3x512x1024 : Shape := ⟨3, ![3, 512, 1024]⟩
abbrev S1024x512 : Shape := ⟨2, ![1024, 512]⟩
abbrev S1x1024x768 : Shape := ⟨3, ![1, 1024, 768]⟩
abbrev S1024x768 : Shape := ⟨2, ![1024, 768]⟩
abbrev S1x512x768 : Shape := ⟨3, ![1, 512, 768]⟩
abbrev S512x768 : Shape := ⟨2, ![512, 768]⟩
abbrev S1x1024x256 : Shape := ⟨3, ![1, 1024, 256]⟩
abbrev S1024x256 : Shape := ⟨2, ![1024, 256]⟩
abbrev S1x512x256 : Shape := ⟨3, ![1, 512, 256]⟩
abbrev S512x256 : Shape := ⟨2, ![512, 256]⟩
abbrev S1x1024x512 : Shape := ⟨3, ![1, 1024, 512]⟩
abbrev S1x512x512 : Shape := ⟨3, ![1, 512, 512]⟩
abbrev S512x512 : Shape := ⟨2, ![512, 512]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x3072, .f32⟩
  | .hbm, ⟨2, _⟩ => ⟨S1x3072, .f32⟩
  | .hbm, ⟨3, _⟩ => ⟨S3x8192x1024, .bf16⟩
  | .hbm, ⟨4, _⟩ => ⟨S4x1024x768, .f32⟩
  | .local _ .vmem, ⟨0, _⟩ => ⟨S512x1024, .bf16⟩
  | .local _ .vmem, ⟨1, _⟩ => ⟨S512x1024, .bf16⟩
  | .local _ .vmem, ⟨2, _⟩ => ⟨S3x512x1024, .bf16⟩
  | .local _ .vmem, ⟨3, _⟩ => ⟨S3x512x1024, .bf16⟩
  | .local _ .vmem, ⟨4, _⟩ => ⟨S4x1024x768, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1024x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference12Ideal.lean ====
abbrev S8192x1024 : Shape := ⟨2, ![8192, 1024]⟩
abbrev S1024x3072 : Shape := ⟨2, ![1024, 3072]⟩
abbrev S1x3072 : Shape := ⟨2, ![1, 3072]⟩
abbrev S3x8192x1024 : Shape := ⟨3, ![3, 8192, 1024]⟩
abbrev S1x8192x1024 : Shape := ⟨3, ![1, 8192, 1024]⟩
abbrev S8192x3072 : Shape := ⟨2, ![8192, 3072]⟩
abbrev S3072x1024 : Shape := ⟨2, ![3072, 1024]⟩
abbrev S1024x768 : Shape := ⟨2, ![1024, 768]⟩
abbrev S1x1024x768 : Shape := ⟨3, ![1, 1024, 768]⟩
abbrev S4x1024x768 : Shape := ⟨3, ![4, 1024, 768]⟩

abbrev nBuf : Space → Nat
  | .hbm => 27
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x3072, .f32⟩
  | .hbm, ⟨2, _⟩ => ⟨S1x3072, .f32⟩
  | .hbm, ⟨3, _⟩ => ⟨S3x8192x1024, .bf16⟩
  | .hbm, ⟨4, _⟩ => ⟨S1x8192x1024, .bf16⟩
  | .hbm, ⟨5, _⟩ => ⟨S8192x1024, .bf16⟩
  | .hbm, ⟨6, _⟩ => ⟨S1x8192x1024, .bf16⟩
  | .hbm, ⟨7, _⟩ => ⟨S8192x1024, .bf16⟩
  | .hbm, ⟨8, _⟩ => ⟨S1x8192x1024, .bf16⟩
  | .hbm, ⟨9, _⟩ => ⟨S8192x1024, .bf16⟩
  | .hbm, ⟨10, _⟩ => ⟨S8192x3072, .bf16⟩
  | .hbm, ⟨11, _⟩ => ⟨S8192x3072, .f32⟩
  | .hbm, ⟨12, _⟩ => ⟨S8192x1024, .f32⟩
  | .hbm, ⟨13, _⟩ => ⟨S8192x3072, .f32⟩
  | .hbm, ⟨14, _⟩ => ⟨S8192x3072, .f32⟩
  | .hbm, ⟨15, _⟩ => ⟨S8192x3072, .f32⟩
  | .hbm, ⟨16, _⟩ => ⟨S3072x1024, .f32⟩
  | .hbm, ⟨17, _⟩ => ⟨S1024x3072, .f32⟩
  | .hbm, ⟨18, _⟩ => ⟨S1024x768, .f32⟩
  | .hbm, ⟨19, _⟩ => ⟨S1024x768, .f32⟩
  | .hbm, ⟨20, _⟩ => ⟨S1024x768, .f32⟩
  | .hbm, ⟨21, _⟩ => ⟨S1024x768, .f32⟩
  | .hbm, ⟨22, _⟩ => ⟨S1x1024x768, .f32⟩
  | .hbm, ⟨23, _⟩ => ⟨S1x1024x768, .f32⟩
  | .hbm, ⟨24, _⟩ => ⟨S1x1024x768, .f32⟩
  | .hbm, ⟨25, _⟩ => ⟨S1x1024x768, .f32⟩
  | .hbm, ⟨26, _⟩ => ⟨S4x1024x768, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩

abbrev nD : Nat := 1
abbrev τ : Topo := Topo.v7x

variable {F : FTy → Type} [FloatOps F]
-- ==== Kernel13.lean ====
abbrev S8192x1024 : Shape := ⟨2, ![8192, 1024]⟩
abbrev S1024x1024 : Shape := ⟨2, ![1024, 1024]⟩
abbrev S1x1024x1024 : Shape := ⟨3, ![1, 1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .f32⟩
  | .hbm, ⟨2, _⟩ => ⟨S8192x1024, .bf16⟩
  | .hbm, ⟨3, _⟩ => ⟨S1024x1024, .bf16⟩
  | .hbm, ⟨4, _⟩ => ⟨S1x1024x1024, .bf16⟩
  | .hbm, ⟨5, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference13Ideal.lean ====
abbrev S8192x1024 : Shape := ⟨2, ![8192, 1024]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .f32⟩
  | .hbm, ⟨2, _⟩ => ⟨S8192x1024, .bf16⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel14.lean ====
abbrev S8192x1024 : Shape := ⟨2, ![8192, 1024]⟩
abbrev S1024x1024 : Shape := ⟨2, ![1024, 1024]⟩
abbrev S1x1024x1024 : Shape := ⟨3, ![1, 1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .f32⟩
  | .hbm, ⟨2, _⟩ => ⟨S8192x1024, .bf16⟩
  | .hbm, ⟨3, _⟩ => ⟨S1024x1024, .bf16⟩
  | .hbm, ⟨4, _⟩ => ⟨S1x1024x1024, .bf16⟩
  | .hbm, ⟨5, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference14Ideal.lean ====
abbrev S8192x1024 : Shape := ⟨2, ![8192, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .f32⟩
  | .hbm, ⟨2, _⟩ => ⟨S8192x1024, .bf16⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel15.lean ====
abbrev S8192x1024 : Shape := ⟨2, ![8192, 1024]⟩
abbrev S1x1024 : Shape := ⟨2, ![1, 1024]⟩
abbrev S1024x4096 : Shape := ⟨2, ![1024, 4096]⟩
abbrev S8192x4096 : Shape := ⟨2, ![8192, 4096]⟩
abbrev S1x1024x4096 : Shape := ⟨3, ![1, 1024, 4096]⟩
abbrev S_ : Shape := ⟨0, ![]⟩
abbrev S8192 : Shape := ⟨1, ![8192]⟩
abbrev S8192x1 : Shape := ⟨2, ![8192, 1]⟩
abbrev S8x1024 : Shape := ⟨2, ![8, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 57
  | .vmem => 20
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1024x4096, .f32⟩
  | .hbm, ⟨8, _⟩ => ⟨S8192x1024, .f32⟩
  | .hbm, ⟨9, _⟩ => ⟨S8192x4096, .bf16⟩
  | .hbm, ⟨10, _⟩ => ⟨S1024x4096, .bf16⟩
  | .hbm, ⟨11, _⟩ => ⟨S1x1024x4096, .bf16⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S1x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192, .f32⟩
  | .hbm, ⟨33, _⟩ => ⟨S8192x1, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S8192x1, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S1x1024, .f32⟩
  | .hbm, ⟨49, _⟩ => ⟨S1x1024, .f32⟩
  | .hbm, ⟨50, _⟩ => ⟨S_, .f32⟩
  | .hbm, ⟨51, _⟩ => ⟨S1x1024, .f32⟩
  | .hbm, ⟨52, _⟩ => ⟨S1x1024, .f32⟩
  | .hbm, ⟨53, _⟩ => ⟨S8192x1024, .f32⟩
  | .hbm, ⟨54, _⟩ => ⟨S8192x1024, .bf16⟩
  | .hbm, ⟨55, _⟩ => ⟨S8x1024, .f32⟩
  | .hbm, ⟨56, _⟩ => ⟨S8x1024, .f32⟩
  | .local _ .vmem, ⟨0, _⟩ => ⟨S512x4096, .bf16⟩
  | .local _ .vmem, ⟨1, _⟩ => ⟨S512x4096, .bf16⟩
  | .local _ .vmem, ⟨2, _⟩ => ⟨S1x1024x4096, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | .local _ .vmem, ⟨18, _⟩ => ⟨S8x1024, .f32⟩
  | .local _ .vmem, ⟨19, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_cst_2 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_v17 : Ref sig .tc := ⟨.hbm, 32, rfl⟩
abbrev main_v18 : Ref sig .tc := ⟨.hbm, 33, rfl⟩
abbrev main_cst_4 : Ref sig .tc := ⟨.hbm, 34, rfl⟩
abbrev main_v19 : Ref sig .tc := ⟨.hbm, 35, rfl⟩
abbrev main_v20 : Ref sig .tc := ⟨.hbm, 36, rfl⟩
abbrev main_cst_5 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_6 : Ref sig .tc := ⟨.hbm, 47, rfl⟩
abbrev main_v30 : Ref sig .tc := ⟨.hbm, 48, rfl⟩
abbrev main_v31 : Ref sig .tc := ⟨.hbm, 49, rfl⟩
abbrev main_cst_7 : Ref sig .tc := ⟨.hbm, 50, rfl⟩
abbrev main_v32 : Ref sig .tc := ⟨.hbm, 51, rfl⟩
abbrev main_v33 : Ref sig .tc := ⟨.hbm, 52, rfl⟩
abbrev main_v34_0 : Ref sig .tc := ⟨.hbm, 53, rfl⟩
abbrev main_v34_1 : Ref sig .tc := ⟨.hbm, 54, rfl⟩
abbrev main_v34_2 : Ref sig .tc := ⟨.hbm, 55, rfl⟩
abbrev main_v34_3 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference15Ideal.lean ====
abbrev S8192x1024 : Shape := ⟨2, ![8192, 1024]⟩
abbrev S1x1024 : Shape := ⟨2, ![1, 1024]⟩
abbrev S1024x4096 : Shape := ⟨2, ![1024, 4096]⟩
abbrev S8192x4096 : Shape := ⟨2, ![8192, 4096]⟩
abbrev S_ : Shape := ⟨0, ![]⟩
abbrev S8192 : Shape := ⟨1, ![8192]⟩
abbrev S8192x1 : Shape := ⟨2, ![8192, 1]⟩
abbrev S1024 : Shape := ⟨1, ![1024]⟩
abbrev S6x1024 : Shape := ⟨2, ![6, 1024]⟩
abbrev S8x1024 : Shape := ⟨2, ![8, 1024]⟩
abbrev S5x1024 : Shape := ⟨2, ![5, 1024]⟩

abbrev nBuf : Space → Nat
  | .hbm => 133
  | .vmem => 0
  | .smem => 0
  | _ => 0

abbrev hbmTy0_0 (i : Nat) : BufTy := match i % 128 with
  | 0 => ⟨S8192x1024, .f32⟩
  | 1 => ⟨S8192x1024, .bf16⟩
  | 2 => ⟨S1x1024, .f32⟩
  | 3 => ⟨S1x1024, .f32⟩
  | 4 => ⟨S1x1024, .f32⟩
  | 5 => ⟨S1x1024, .f32⟩
  | 6 => ⟨S1x1024, .f32⟩
  | 7 => ⟨S1024x4096, .f32⟩
  | 8 => ⟨S8192x1024, .f32⟩
  | 9 => ⟨S8192x4096, .bf16⟩
  | 10 => ⟨S8192x1024, .f32⟩
  | 11 => ⟨S_, .f32⟩
  | 12 => ⟨S8192x1024, .f32⟩
  | 13 => ⟨S8192x1024, .f32⟩
  | 14 => ⟨S_, .f32⟩
  | 15 => ⟨S1x1024, .f32⟩
  | 16 => ⟨S1x1024, .f32⟩
  | 17 => ⟨S8192x1024, .f32⟩
  | 18 => ⟨S8192x1024, .f32⟩
  | 19 => ⟨S8192x1024, .f32⟩
  | 20 => ⟨S_, .f32⟩
  | 21 => ⟨S8192, .f32⟩
  | 22 => ⟨S8192x1, .f32⟩
  | 23 => ⟨S_, .f32⟩
  | 24 => ⟨S8192x1, .f32⟩
  | 25 => ⟨S8192x1, .f32⟩
  | 26 => ⟨S8192x1024, .f32⟩
  | 27 => ⟨S8192x1024, .f32⟩
  | 28 => ⟨S8192x1024, .f32⟩
  | 29 => ⟨S_, .f32⟩
  | 30 => ⟨S8192x1024, .f32⟩
  | 31 => ⟨S8192x1024, .f32⟩
  | 32 => ⟨S_, .f32⟩
  | 33 => ⟨S8192, .f32⟩
  | 34 => ⟨S8192x1, .f32⟩
  | 35 => ⟨S_, .f32⟩
  | 36 => ⟨S8192x1, .f32⟩
  | 37 => ⟨S8192x1, .f32⟩
  | 38 => ⟨S8192x1024, .f32⟩
  | 39 => ⟨S8192x1024, .f32⟩
  | 40 => ⟨S_, .f32⟩
  | 41 => ⟨S8192x1, .f32⟩
  | 42 => ⟨S8192x1, .f32⟩
  | 43 => ⟨S8192x1, .f32⟩
  | 44 => ⟨S8192x1, .f32⟩
  | 45 => ⟨S_, .f32⟩
  | 46 => ⟨S8192x1, .f32⟩
  | 47 => ⟨S8192x1, .f32⟩
  | 48 => ⟨S8192x1024, .f32⟩
  | 49 => ⟨S8192x1024, .f32⟩
  | 50 => ⟨S8192x1024, .f32⟩
  | 51 => ⟨S8192x1024, .f32⟩
  | 52 => ⟨S8192x1024, .f32⟩
  | 53 => ⟨S8192x1024, .f32⟩
  | 54 => ⟨S_, .f32⟩
  | 55 => ⟨S8192x1024, .f32⟩
  | 56 => ⟨S8192x1024, .f32⟩
  | 57 => ⟨S_, .f32⟩
  | 58 => ⟨S1x1024, .f32⟩
  | 59 => ⟨S1x1024, .f32⟩
  | 60 => ⟨S8192x1024, .f32⟩
  | 61 => ⟨S8192x1024, .f32⟩
  | 62 => ⟨S8192x1024, .f32⟩
  | 63 => ⟨S8192x1024, .f32⟩
  | 64 => ⟨S8192x4096, .f32⟩
  | 65 => ⟨S8192x4096, .f32⟩
  | 66 => ⟨S8192x1024, .f32⟩
  | 67 => ⟨S_, .f32⟩
  | 68 => ⟨S1024, .f32⟩
  | 69 => ⟨S1x1024, .f32⟩
  | 70 => ⟨S8192x1024, .f32⟩
  | 71 => ⟨S_, .f32⟩
  | 72 => ⟨S1024, .f32⟩
  | 73 => ⟨S1x1024, .f32⟩
  | 74 => ⟨S8192x1024, .f32⟩
  | 75 => ⟨S8192x1024, .f32⟩
  | 76 => ⟨S_, .f32⟩
  | 77 => ⟨S8192x1024, .f32⟩
  | 78 => ⟨S8192x1024, .f32⟩
  | 79 => ⟨S8192x1024, .f32⟩
  | 80 => ⟨S_, .f32⟩
  | 81 => ⟨S1024, .f32⟩
  | 82 => ⟨S1x1024, .f32⟩
  | 83 => ⟨S8192x1024, .f32⟩
  | 84 => ⟨S_, .f32⟩
  | 85 => ⟨S1024, .f32⟩
  | 86 => ⟨S1x1024, .f32⟩
  | 87 => ⟨S8192x1024, .f32⟩
  | 88 => ⟨S8192x1024, .f32⟩
  | 89 => ⟨S8192x1024, .f32⟩
  | 90 => ⟨S_, .f32⟩
  | 91 => ⟨S8192, .f32⟩
  | 92 => ⟨S8192x1, .f32⟩
  | 93 => ⟨S8192x1024, .f32⟩
  | 94 => ⟨S8192x1024, .f32⟩
  | 95 => ⟨S8192x1, .f32⟩
  | 96 => ⟨S8192x1024, .f32⟩
  | 97 => ⟨S_, .f32⟩
  | 98 => ⟨S8192, .f32⟩
  | 99 => ⟨S8192x1, .f32⟩
  | 100 => ⟨S_, .f32⟩
  | 101 => ⟨S8192x1, .f32⟩
  | 102 => ⟨S8192x1, .f32⟩
  | 103 => ⟨S_, .f32⟩
  | 104 => ⟨S8192, .f32⟩
  | 105 => ⟨S8192x1024, .f32⟩
  | 106 => ⟨S8192x1024, .f32⟩
  | 107 => ⟨S8192x1024, .f32⟩
  | 108 => ⟨S_, .f32⟩
  | 109 => ⟨S8192, .f32⟩
  | 110 => ⟨S8192x1, .f32⟩
  | 111 => ⟨S8192x1024, .f32⟩
  | 112 => ⟨S8192x1, .f32⟩
  | 113 => ⟨S_, .f32⟩
  | 114 => ⟨S8192x1, .f32⟩
  | 115 => ⟨S8192x1, .f32⟩
  | 116 => ⟨S_, .f32⟩
  | 117 => ⟨S8192, .f32⟩
  | 118 => ⟨S8192x1024, .f32⟩
  | 119 => ⟨S8192x1024, .f32⟩
  | 120 => ⟨S8192x1024, .f32⟩
  | 121 => ⟨S8192x1024, .f32⟩
  | 122 => ⟨S8192x1024, .f32⟩
  | 123 => ⟨S_, .f32⟩
  | 124 => ⟨S1024, .f32⟩
  | 125 => ⟨S1x1024, .f32⟩
  | 126 => ⟨S8192x1024, .bf16⟩
  | 127 => ⟨S_, .f32⟩
  | _ => ⟨S8192x1024, .f32⟩

abbrev hbmTy0_1 (i : Nat) : BufTy := match i % 128 with
  | 0 => ⟨S6x1024, .f32⟩
  | 1 => ⟨S8x1024, .f32⟩
  | 2 => ⟨S_, .f32⟩
  | 3 => ⟨S5x1024, .f32⟩
  | 4 => ⟨S8x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_3 : Ref sig .tc := ⟨.hbm, 29, rfl⟩
abbrev main_v15 : Ref sig .tc := ⟨.hbm, 30, rfl⟩
abbrev main_v16 : Ref sig .tc := ⟨.hbm, 31, rfl⟩
abbrev main_cst_4 : Ref sig .tc := ⟨.hbm, 32, rfl⟩
abbrev main_v17 : Ref sig .tc := ⟨.hbm, 33, rfl⟩
abbrev main_v18 : Ref sig .tc := ⟨.hbm, 34, rfl⟩
abbrev main_cst_5 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_6 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_7 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_8 : Ref sig .tc := ⟨.hbm, 54, rfl⟩
abbrev main_v35 : Ref sig .tc := ⟨.hbm, 55, rfl⟩
abbrev main_v36 : Ref sig .tc := ⟨.hbm, 56, rfl⟩
abbrev main_cst_9 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_10 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_11 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_12 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_13 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_14 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_15 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_16 : Ref sig .tc := ⟨.hbm, 97, rfl⟩
abbrev main_v70 : Ref sig .tc := ⟨.hbm, 98, rfl⟩
abbrev main_v71 : Ref sig .tc := ⟨.hbm, 99, rfl⟩
abbrev main_cst_17 : Ref sig .tc := ⟨.hbm, 100, rfl⟩
abbrev main_v72 : Ref sig .tc := ⟨.hbm, 101, rfl⟩
abbrev main_v73 : Ref sig .tc := ⟨.hbm, 102, rfl⟩
abbrev main_cst_18 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_cst_19 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_cst_20 : Ref sig .tc := ⟨.hbm, 113, rfl⟩
abbrev main_v82 : Ref sig .tc := ⟨.hbm, 114, rfl⟩
abbrev main_v83 : Ref sig .tc := ⟨.hbm, 115, rfl⟩
abbrev main_cst_21 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_cst_22 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_cst_23 : Ref sig .tc := ⟨.hbm, 127, rfl⟩
abbrev main_v93 : Ref sig .tc := ⟨.hbm, 128, rfl⟩
abbrev main_v94 : Ref sig .tc := ⟨.hbm, 129, rfl⟩
abbrev main_cst_24 : Ref sig .tc := ⟨.hbm, 130, rfl⟩
abbrev main_v95 : Ref sig .tc := ⟨.hbm, 131, rfl⟩
abbrev main_v96 : Ref sig .tc := ⟨.hbm, 132, rfl⟩

abbrev nD : Nat := 1
abbrev τ : Topo := Topo.v7x

variable {F : FTy → Type} [FloatOps F]
-- ==== Kernel16.lean ====
abbrev S8192x1024 : Shape := ⟨2, ![8192, 1024]⟩
abbrev S1x1024 : Shape := ⟨2, ![1, 1024]⟩
abbrev S1024x3072 : Shape := ⟨2, ![1024, 3072]⟩
abbrev S3x8192x1024 : Shape := ⟨3, ![3, 8192, 1024]⟩
abbrev S1x3072 : Shape := ⟨2, ![1, 3072]⟩
abbrev S1x1024x3072 : Shape := ⟨3, ![1, 1024, 3072]⟩
abbrev S_ : Shape := ⟨0, ![]⟩
abbrev S8192 : Shape := ⟨1, ![8192]⟩
abbrev S8192x1 : Shape := ⟨2, ![8192, 1]⟩
abbrev S8x1024 : Shape := ⟨2, ![8, 1024]⟩
abbrev S1x512x1024 : Shape := ⟨3, ![1, 512, 1024]⟩
abbrev S512x1024 : Shape := ⟨2, ![512, 1024]⟩
abbrev S1x1024x1024 : Shape := ⟨3, ![1, 1024, 1024]⟩
abbrev S1024x1024 : Shape := ⟨2, ![1024, 1024]⟩
abbrev S512 : Shape := ⟨1, ![512]⟩
abbrev S512x1 : Shape := ⟨2, ![512, 1]⟩
abbrev S1024 : Shape := ⟨1, ![1024]⟩

abbrev nBuf : Space → Nat
  | .hbm => 58
  | .vmem => 24
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1024x3072, .f32⟩
  | .hbm, ⟨8, _⟩ => ⟨S8192x1024, .f32⟩
  | .hbm, ⟨9, _⟩ => ⟨S3x8192x1024, .bf16⟩
  | .hbm, ⟨10, _⟩ => ⟨S1x3072, .f32⟩
  | .hbm, ⟨11, _⟩ => ⟨S1024x3072, .bf16⟩
  | .hbm, ⟨12, _⟩ => ⟨S1x1024x3072, .bf16⟩
  | .hbm, ⟨13, _⟩ => ⟨S_, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S1x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192, .f32⟩
  | .hbm, ⟨34, _⟩ => ⟨S8192x1, .f32⟩
  | .hbm, ⟨35, _⟩ => ⟨S_, .f32⟩
  | .hbm, ⟨36, _⟩ => ⟨S8192x1, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S8192x1, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S_, .f32⟩
  | .hbm, ⟨49, _⟩ => ⟨S1x1024, .f32⟩
  | .hbm, ⟨50, _⟩ => ⟨S1x1024, .f32⟩
  | .hbm, ⟨51, _⟩ => ⟨S_, .f32⟩
  | .hbm, ⟨52, _⟩ => ⟨S1x1024, .f32⟩
  | .hbm, ⟨53, _⟩ => ⟨S1x1024, .f32⟩
  | .hbm, ⟨54, _⟩ => ⟨S8192x1024, .f32⟩
  | .hbm, ⟨55, _⟩ => ⟨S8192x1024, .bf16⟩
  | .hbm, ⟨56, _⟩ => ⟨S8x1024, .f32⟩
  | .hbm, ⟨57, _⟩ => ⟨S8x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x1024x3072, .bf16⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S1x1024, .f32⟩
  | .local _ .vmem, ⟨17, _⟩ => ⟨S1x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .bf16⟩
  | .local _ .vmem, ⟨21, _⟩ => ⟨S512x1024, .bf16⟩
  | .local _ .vmem, ⟨22, _⟩ => ⟨S8x1024, .f32⟩
  | .local _ .vmem, ⟨23, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_1 : Ref sig .tc := ⟨.hbm, 23, rfl⟩
abbrev main_v10 : Ref sig .tc := ⟨.hbm, 24, rfl⟩
abbrev main_v11 : Ref sig .tc := ⟨.hbm, 25, rfl⟩
abbrev main_cst_2 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_3 : Ref sig .tc := ⟨.hbm, 32, rfl⟩
abbrev main_v17 : Ref sig .tc := ⟨.hbm, 33, rfl⟩
abbrev main_v18 : Ref sig .tc := ⟨.hbm, 34, rfl⟩
abbrev main_cst_4 : Ref sig .tc := ⟨.hbm, 35, rfl⟩
abbrev main_v19 : Ref sig .tc := ⟨.hbm, 36, rfl⟩
abbrev main_v20 : Ref sig .tc := ⟨.hbm, 37, rfl⟩
abbrev main_cst_5 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_6 : Ref sig .tc := ⟨.hbm, 48, rfl⟩
abbrev main_v30 : Ref sig .tc := ⟨.hbm, 49, rfl⟩
abbrev main_v31 : Ref sig .tc := ⟨.hbm, 50, rfl⟩
abbrev main_cst_7 : Ref sig .tc := ⟨.hbm, 51, rfl⟩
abbrev main_v32 : Ref sig .tc := ⟨.hbm, 52, rfl⟩
abbrev main_v33 : Ref sig .tc := ⟨.hbm, 53, rfl⟩
abbrev main_v34_0 : Ref sig .tc := ⟨.hbm, 54, rfl⟩
abbrev main_v34_1 : Ref sig .tc := ⟨.hbm, 55, rfl⟩
abbrev main_v34_2 : Ref sig .tc := ⟨.hbm, 56, rfl⟩
abbrev main_v34_3 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg14_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem14_0 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S8x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S8x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== Reference16Ideal.lean ====
abbrev S8192x1024 : Shape := ⟨2, ![8192, 1024]⟩
abbrev S1x1024 : Shape := ⟨2, ![1, 1024]⟩
abbrev S1024x3072 : Shape := ⟨2, ![1024, 3072]⟩
abbrev S3x8192x1024 : Shape := ⟨3, ![3, 8192, 1024]⟩
abbrev S1x3072 : Shape := ⟨2, ![1, 3072]⟩
abbrev S_ : Shape := ⟨0, ![]⟩
abbrev S1x8192x1024 : Shape := ⟨3, ![1, 8192, 1024]⟩
abbrev S8192x3072 : Shape := ⟨2, ![8192, 3072]⟩
abbrev S8192 : Shape := ⟨1, ![8192]⟩
abbrev S8192x1 : Shape := ⟨2, ![8192, 1]⟩
abbrev S3072 : Shape := ⟨1, ![3072]⟩
abbrev S1024 : Shape := ⟨1, ![1024]⟩
abbrev S3x1024 : Shape := ⟨2, ![3, 1024]⟩
abbrev S8x1024 : Shape := ⟨2, ![8, 1024]⟩
abbrev S5x1024 : Shape := ⟨2, ![5, 1024]⟩

abbrev nBuf : Space → Nat
  | .hbm => 149
  | .vmem => 0
  | .smem => 0
  | _ => 0

abbrev hbmTy0_0 (i : Nat) : BufTy := match i % 128 with
  | 0 => ⟨S8192x1024, .f32⟩
  | 1 => ⟨S8192x1024, .bf16⟩
  | 2 => ⟨S1x1024, .f32⟩
  | 3 => ⟨S1x1024, .f32⟩
  | 4 => ⟨S1x1024, .f32⟩
  | 5 => ⟨S1x1024, .f32⟩
  | 6 => ⟨S1x1024, .f32⟩
  | 7 => ⟨S1024x3072, .f32⟩
  | 8 => ⟨S8192x1024, .f32⟩
  | 9 => ⟨S3x8192x1024, .bf16⟩
  | 10 => ⟨S1x3072, .f32⟩
  | 11 => ⟨S8192x1024, .f32⟩
  | 12 => ⟨S_, .f32⟩
  | 13 => ⟨S8192x1024, .f32⟩
  | 14 => ⟨S8192x1024, .f32⟩
  | 15 => ⟨S_, .f32⟩
  | 16 => ⟨S1x1024, .f32⟩
  | 17 => ⟨S1x1024, .f32⟩
  | 18 => ⟨S8192x1024, .f32⟩
  | 19 => ⟨S8192x1024, .f32⟩
  | 20 => ⟨S8192x1024, .f32⟩
  | 21 => ⟨S1x8192x1024, .bf16⟩
  | 22 => ⟨S8192x1024, .bf16⟩
  | 23 => ⟨S1x8192x1024, .bf16⟩
  | 24 => ⟨S8192x1024, .bf16⟩
  | 25 => ⟨S1x8192x1024, .bf16⟩
  | 26 => ⟨S8192x1024, .bf16⟩
  | 27 => ⟨S8192x3072, .bf16⟩
  | 28 => ⟨S8192x3072, .f32⟩
  | 29 => ⟨S_, .f32⟩
  | 30 => ⟨S8192, .f32⟩
  | 31 => ⟨S8192x1, .f32⟩
  | 32 => ⟨S_, .f32⟩
  | 33 => ⟨S8192x1, .f32⟩
  | 34 => ⟨S8192x1, .f32⟩
  | 35 => ⟨S8192x1024, .f32⟩
  | 36 => ⟨S8192x1024, .f32⟩
  | 37 => ⟨S8192x1024, .f32⟩
  | 38 => ⟨S_, .f32⟩
  | 39 => ⟨S8192x1024, .f32⟩
  | 40 => ⟨S8192x1024, .f32⟩
  | 41 => ⟨S_, .f32⟩
  | 42 => ⟨S8192, .f32⟩
  | 43 => ⟨S8192x1, .f32⟩
  | 44 => ⟨S_, .f32⟩
  | 45 => ⟨S8192x1, .f32⟩
  | 46 => ⟨S8192x1, .f32⟩
  | 47 => ⟨S8192x1024, .f32⟩
  | 48 => ⟨S8192x1024, .f32⟩
  | 49 => ⟨S_, .f32⟩
  | 50 => ⟨S8192x1, .f32⟩
  | 51 => ⟨S8192x1, .f32⟩
  | 52 => ⟨S8192x1, .f32⟩
  | 53 => ⟨S8192x1, .f32⟩
  | 54 => ⟨S_, .f32⟩
  | 55 => ⟨S8192x1, .f32⟩
  | 56 => ⟨S8192x1, .f32⟩
  | 57 => ⟨S8192x1024, .f32⟩
  | 58 => ⟨S8192x1024, .f32⟩
  | 59 => ⟨S8192x1024, .f32⟩
  | 60 => ⟨S8192x1024, .f32⟩
  | 61 => ⟨S8192x1024, .f32⟩
  | 62 => ⟨S8192x1024, .f32⟩
  | 63 => ⟨S_, .f32⟩
  | 64 => ⟨S8192x1024, .f32⟩
  | 65 => ⟨S8192x1024, .f32⟩
  | 66 => ⟨S_, .f32⟩
  | 67 => ⟨S1x1024, .f32⟩
  | 68 => ⟨S1x1024, .f32⟩
  | 69 => ⟨S8192x1024, .f32⟩
  | 70 => ⟨S8192x1024, .f32⟩
  | 71 => ⟨S8192x1024, .f32⟩
  | 72 => ⟨S8192x1024, .f32⟩
  | 73 => ⟨S8192x3072, .f32⟩
  | 74 => ⟨S8192x3072, .f32⟩
  | 75 => ⟨S8192x3072, .f32⟩
  | 76 => ⟨S_, .f32⟩
  | 77 => ⟨S3072, .f32⟩
  | 78 => ⟨S1x3072, .f32⟩
  | 79 => ⟨S8192x1024, .f32⟩
  | 80 => ⟨S_, .f32⟩
  | 81 => ⟨S1024, .f32⟩
  | 82 => ⟨S1x1024, .f32⟩
  | 83 => ⟨S8192x1024, .f32⟩
  | 84 => ⟨S_, .f32⟩
  | 85 => ⟨S1024, .f32⟩
  | 86 => ⟨S1x1024, .f32⟩
  | 87 => ⟨S8192x1024, .f32⟩
  | 88 => ⟨S8192x1024, .f32⟩
  | 89 => ⟨S_, .f32⟩
  | 90 => ⟨S8192x1024, .f32⟩
  | 91 => ⟨S8192x1024, .f32⟩
  | 92 => ⟨S8192x1024, .f32⟩
  | 93 => ⟨S_, .f32⟩
  | 94 => ⟨S1024, .f32⟩
  | 95 => ⟨S1x1024, .f32⟩
  | 96 => ⟨S8192x1024, .f32⟩
  | 97 => ⟨S_, .f32⟩
  | 98 => ⟨S1024, .f32⟩
  | 99 => ⟨S1x1024, .f32⟩
  | 100 => ⟨S8192x1024, .f32⟩
  | 101 => ⟨S8192x1024, .f32⟩
  | 102 => ⟨S8192x1024, .f32⟩
  | 103 => ⟨S_, .f32⟩
  | 104 => ⟨S8192, .f32⟩
  | 105 => ⟨S8192x1, .f32⟩
  | 106 => ⟨S8192x1024, .f32⟩
  | 107 => ⟨S8192x1024, .f32⟩
  | 108 => ⟨S8192x1, .f32⟩
  | 109 => ⟨S8192x1024, .f32⟩
  | 110 => ⟨S_, .f32⟩
  | 111 => ⟨S8192, .f32⟩
  | 112 => ⟨S8192x1, .f32⟩
  | 113 => ⟨S_, .f32⟩
  | 114 => ⟨S8192x1, .f32⟩
  | 115 => ⟨S8192x1, .f32⟩
  | 116 => ⟨S_, .f32⟩
  | 117 => ⟨S8192, .f32⟩
  | 118 => ⟨S8192x1024, .f32⟩
  | 119 => ⟨S8192x1024, .f32⟩
  | 120 => ⟨S8192x1024, .f32⟩
  | 121 => ⟨S_, .f32⟩
  | 122 => ⟨S8192, .f32⟩
  | 123 => ⟨S8192x1, .f32⟩
  | 124 => ⟨S8192x1024, .f32⟩
  | 125 => ⟨S8192x1, .f32⟩
  | 126 => ⟨S_, .f32⟩
  | 127 => ⟨S8192x1, .f32⟩
  | _ => ⟨S8192x1024, .f32⟩

abbrev hbmTy0_1 (i : Nat) : BufTy := match i % 128 with
  | 0 => ⟨S8192x1, .f32⟩
  | 1 => ⟨S_, .f32⟩
  | 2 => ⟨S8192, .f32⟩
  | 3 => ⟨S8192x1024, .f32⟩
  | 4 => ⟨S8192x1024, .f32⟩
  | 5 => ⟨S8192x1024, .f32⟩
  | 6 => ⟨S8192x1024, .f32⟩
  | 7 => ⟨S8192x1024, .f32⟩
  | 8 => ⟨S_, .f32⟩
  | 9 => ⟨S1024, .f32⟩
  | 10 => ⟨S1x1024, .f32⟩
  | 11 => ⟨S8192x1024, .bf16⟩
  | 12 => ⟨S1x1024, .f32⟩
  | 13 => ⟨S1x1024, .f32⟩
  | 14 => ⟨S1x1024, .f32⟩
  | 15 => ⟨S_, .f32⟩
  | 16 => ⟨S3x1024, .f32⟩
  | 17 => ⟨S8x1024, .f32⟩
  | 18 => ⟨S_, .f32⟩
  | 19 => ⟨S5x1024, .f32⟩
  | 20 => ⟨S8x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_1 : Ref sig .tc := ⟨.hbm, 29, rfl⟩
abbrev main_v16 : Ref sig .tc := ⟨.hbm, 30, rfl⟩
abbrev main_v17 : Ref sig .tc := ⟨.hbm, 31, rfl⟩
abbrev main_cst_2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_cst_4 : Ref sig .tc := ⟨.hbm, 41, rfl⟩
abbrev main_v25 : Ref sig .tc := ⟨.hbm, 42, rfl⟩
abbrev main_v26 : Ref sig .tc := ⟨.hbm, 43, rfl⟩
abbrev main_cst_5 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_6 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_7 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_cst_9 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_10 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_11 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_12 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_13 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_cst_14 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_15 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_cst_16 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_cst_17 : Ref sig .tc := ⟨.hbm, 110, rfl⟩
abbrev main_v81 : Ref sig .tc := ⟨.hbm, 111, rfl⟩
abbrev main_v82 : Ref sig .tc := ⟨.hbm, 112, rfl⟩
abbrev main_cst_18 : Ref sig .tc := ⟨.hbm, 113, rfl⟩
abbrev main_v83 : Ref sig .tc := ⟨.hbm, 114, rfl⟩
abbrev main_v84 : Ref sig .tc := ⟨.hbm, 115, rfl⟩
abbrev main_cst_19 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_cst_20 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_cst_21 : Ref sig .tc := ⟨.hbm, 126, rfl⟩
abbrev main_v93 : Ref sig .tc := ⟨.hbm, 127, rfl⟩
abbrev main_v94 : Ref sig .tc := ⟨.hbm, 128, rfl⟩
abbrev main_cst_22 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_cst_23 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_cst_24 : Ref sig .tc := ⟨.hbm, 143, rfl⟩
abbrev main_v107 : Ref sig .tc := ⟨.hbm, 144, rfl⟩
abbrev main_v108 : Ref sig .tc := ⟨.hbm, 145, rfl⟩
abbrev main_cst_25 : Ref sig .tc := ⟨.hbm, 146, rfl⟩
abbrev main_v109 : Ref sig .tc := ⟨.hbm, 147, rfl⟩
abbrev main_v110 : Ref sig .tc := ⟨.hbm, 148, rfl⟩

abbrev nD : Nat := 1
abbrev τ : Topo := Topo.v7x

variable {F : FTy → Type} [FloatOps F]
-- ==== Kernel17.lean ====
abbrev S8192x1024 : Shape := ⟨2, ![8192, 1024]⟩
abbrev S1x1024 : Shape := ⟨2, ![1, 1024]⟩
abbrev S1024x3088 : Shape := ⟨2, ![1024, 3088]⟩
abbrev S8192x3088 : Shape := ⟨2, ![8192, 3088]⟩
abbrev S_ : Shape := ⟨0, ![]⟩
abbrev S8192x3200 : Shape := ⟨2, ![8192, 3200]⟩
abbrev S1024x3200 : Shape := ⟨2, ![1024, 3200]⟩
abbrev S1x1024x3200 : Shape := ⟨3, ![1, 1024, 3200]⟩
abbrev S8192 : Shape := ⟨1, ![8192]⟩
abbrev S8192x1 : Shape := ⟨2, ![8192, 1]⟩
abbrev S8x1024 : Shape := ⟨2, ![8, 1024]⟩
abbrev S512x3200 : Shape := ⟨2, ![512, 3200]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 63
  | .vmem => 20
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1024x3088, .f32⟩
  | .hbm, ⟨8, _⟩ => ⟨S8192x1024, .f32⟩
  | .hbm, ⟨9, _⟩ => ⟨S8192x3088, .bf16⟩
  | .hbm, ⟨10, _⟩ => ⟨S_, .i32⟩
  | .hbm, ⟨11, _⟩ => ⟨S_, .bf16⟩
  | .hbm, ⟨12, _⟩ => ⟨S8192x3200, .bf16⟩
  | .hbm, ⟨13, _⟩ => ⟨S_, .i32⟩
  | .hbm, ⟨14, _⟩ => ⟨S_, .f32⟩
  | .hbm, ⟨15, _⟩ => ⟨S1024x3200, .f32⟩
  | .hbm, ⟨16, _⟩ => ⟨S1024x3200, .bf16⟩
  | .hbm, ⟨17, _⟩ => ⟨S1x1024x3200, .bf16⟩
  | .hbm, ⟨18, _⟩ => ⟨S_, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S1x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S8192x1, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S1x1024, .f32⟩
  | .hbm, ⟨55, _⟩ => ⟨S1x1024, .f32⟩
  | .hbm, ⟨56, _⟩ => ⟨S_, .f32⟩
  | .hbm, ⟨57, _⟩ => ⟨S1x1024, .f32⟩
  | .hbm, ⟨58, _⟩ => ⟨S1x1024, .f32⟩
  | .hbm, ⟨59, _⟩ => ⟨S8192x1024, .f32⟩
  | .hbm, ⟨60, _⟩ => ⟨S8192x1024, .bf16⟩
  | .hbm, ⟨61, _⟩ => ⟨S8x1024, .f32⟩
  | .hbm, ⟨62, _⟩ => ⟨S8x1024, .f32⟩
  | .local _ .vmem, ⟨0, _⟩ => ⟨S512x3200, .bf16⟩
  | .local _ .vmem, ⟨1, _⟩ => ⟨S512x3200, .bf16⟩
  | .local _ .vmem, ⟨2, _⟩ => ⟨S1x1024x3200, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | .local _ .vmem, ⟨18, _⟩ => ⟨S8x1024, .f32⟩
  | .local _ .vmem, ⟨19, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_call0_v0 : Ref sig .tc := ⟨.hbm, 11, rfl⟩
abbrev main_v0 : Ref sig .tc := ⟨.hbm, 12, rfl⟩
abbrev main_c_0 : Ref sig .tc := ⟨.hbm, 13, rfl⟩
abbrev main_call1_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_v5 : Ref sig .tc := ⟨.hbm, 20, rfl⟩
abbrev main_cst_1 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_2 : Ref sig .tc := ⟨.hbm, 28, rfl⟩
abbrev main_v12 : Ref sig .tc := ⟨.hbm, 29, rfl⟩
abbrev main_v13 : Ref sig .tc := ⟨.hbm, 30, rfl⟩
abbrev main_cst_3 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_4 : Ref sig .tc := ⟨.hbm, 37, rfl⟩
abbrev main_v19 : Ref sig .tc := ⟨.hbm, 38, rfl⟩
abbrev main_v20 : Ref sig .tc := ⟨.hbm, 39, rfl⟩
abbrev main_cst_5 : Ref sig .tc := ⟨.hbm, 40, rfl⟩
abbrev main_v21 : Ref sig .tc := ⟨.hbm, 41, rfl⟩
abbrev main_v22 : Ref sig .tc := ⟨.hbm, 42, rfl⟩
abbrev main_cst_6 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_7 : Ref sig .tc := ⟨.hbm, 53, rfl⟩
abbrev main_v32 : Ref sig .tc := ⟨.hbm, 54, rfl⟩
abbrev main_v33 : Ref sig .tc := ⟨.hbm, 55, rfl⟩
abbrev main_cst_8 : Ref sig .tc := ⟨.hbm, 56, rfl⟩
abbrev main_v34 : Ref sig .tc := ⟨.hbm, 57, rfl⟩
abbrev main_v35 : Ref sig .tc := ⟨.hbm, 58, rfl⟩
abbrev main_v36_0 : Ref sig .tc := ⟨.hbm, 59, rfl⟩
abbrev main_v36_1 : Ref sig .tc := ⟨.hbm, 60, rfl⟩
abbrev main_v36_2 : Ref sig .tc := ⟨.hbm, 61, rfl⟩
abbrev main_v36_3 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3200 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x3200 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference17Ideal.lean ====
abbrev S8192x1024 : Shape := ⟨2, ![8192, 1024]⟩
abbrev S1x1024 : Shape := ⟨2, ![1, 1024]⟩
abbrev S1024x3088 : Shape := ⟨2, ![1024, 3088]⟩
abbrev S8192x3088 : Shape := ⟨2, ![8192, 3088]⟩
abbrev S_ : Shape := ⟨0, ![]⟩
abbrev S8192 : Shape := ⟨1, ![8192]⟩
abbrev S8192x1 : Shape := ⟨2, ![8192, 1]⟩
abbrev S1024 : Shape := ⟨1, ![1024]⟩
abbrev S6x1024 : Shape := ⟨2, ![6, 1024]⟩
abbrev S8x1024 : Shape := ⟨2, ![8, 1024]⟩
abbrev S5x1024 : Shape := ⟨2, ![5, 1024]⟩

abbrev nBuf : Space → Nat
  | .hbm => 133
  | .vmem => 0
  | .smem => 0
  | _ => 0

abbrev hbmTy0_0 (i : Nat) : BufTy := match i % 128 with
  | 0 => ⟨S8192x1024, .f32⟩
  | 1 => ⟨S8192x1024, .bf16⟩
  | 2 => ⟨S1x1024, .f32⟩
  | 3 => ⟨S1x1024, .f32⟩
  | 4 => ⟨S1x1024, .f32⟩
  | 5 => ⟨S1x1024, .f32⟩
  | 6 => ⟨S1x1024, .f32⟩
  | 7 => ⟨S1024x3088, .f32⟩
  | 8 => ⟨S8192x1024, .f32⟩
  | 9 => ⟨S8192x3088, .bf16⟩
  | 10 => ⟨S8192x1024, .f32⟩
  | 11 => ⟨S_, .f32⟩
  | 12 => ⟨S8192x1024, .f32⟩
  | 13 => ⟨S8192x1024, .f32⟩
  | 14 => ⟨S_, .f32⟩
  | 15 => ⟨S1x1024, .f32⟩
  | 16 => ⟨S1x1024, .f32⟩
  | 17 => ⟨S8192x1024, .f32⟩
  | 18 => ⟨S8192x1024, .f32⟩
  | 19 => ⟨S8192x1024, .f32⟩
  | 20 => ⟨S_, .f32⟩
  | 21 => ⟨S8192, .f32⟩
  | 22 => ⟨S8192x1, .f32⟩
  | 23 => ⟨S_, .f32⟩
  | 24 => ⟨S8192x1, .f32⟩
  | 25 => ⟨S8192x1, .f32⟩
  | 26 => ⟨S8192x1024, .f32⟩
  | 27 => ⟨S8192x1024, .f32⟩
  | 28 => ⟨S8192x1024, .f32⟩
  | 29 => ⟨S_, .f32⟩
  | 30 => ⟨S8192x1024, .f32⟩
  | 31 => ⟨S8192x1024, .f32⟩
  | 32 => ⟨S_, .f32⟩
  | 33 => ⟨S8192, .f32⟩
  | 34 => ⟨S8192x1, .f32⟩
  | 35 => ⟨S_, .f32⟩
  | 36 => ⟨S8192x1, .f32⟩
  | 37 => ⟨S8192x1, .f32⟩
  | 38 => ⟨S8192x1024, .f32⟩
  | 39 => ⟨S8192x1024, .f32⟩
  | 40 => ⟨S_, .f32⟩
  | 41 => ⟨S8192x1, .f32⟩
  | 42 => ⟨S8192x1, .f32⟩
  | 43 => ⟨S8192x1, .f32⟩
  | 44 => ⟨S8192x1, .f32⟩
  | 45 => ⟨S_, .f32⟩
  | 46 => ⟨S8192x1, .f32⟩
  | 47 => ⟨S8192x1, .f32⟩
  | 48 => ⟨S8192x1024, .f32⟩
  | 49 => ⟨S8192x1024, .f32⟩
  | 50 => ⟨S8192x1024, .f32⟩
  | 51 => ⟨S8192x1024, .f32⟩
  | 52 => ⟨S8192x1024, .f32⟩
  | 53 => ⟨S8192x1024, .f32⟩
  | 54 => ⟨S_, .f32⟩
  | 55 => ⟨S8192x1024, .f32⟩
  | 56 => ⟨S8192x1024, .f32⟩
  | 57 => ⟨S_, .f32⟩
  | 58 => ⟨S1x1024, .f32⟩
  | 59 => ⟨S1x1024, .f32⟩
  | 60 => ⟨S8192x1024, .f32⟩
  | 61 => ⟨S8192x1024, .f32⟩
  | 62 => ⟨S8192x1024, .f32⟩
  | 63 => ⟨S8192x1024, .f32⟩
  | 64 => ⟨S8192x3088, .f32⟩
  | 65 => ⟨S8192x3088, .f32⟩
  | 66 => ⟨S8192x1024, .f32⟩
  | 67 => ⟨S_, .f32⟩
  | 68 => ⟨S1024, .f32⟩
  | 69 => ⟨S1x1024, .f32⟩
  | 70 => ⟨S8192x1024, .f32⟩
  | 71 => ⟨S_, .f32⟩
  | 72 => ⟨S1024, .f32⟩
  | 73 => ⟨S1x1024, .f32⟩
  | 74 => ⟨S8192x1024, .f32⟩
  | 75 => ⟨S8192x1024, .f32⟩
  | 76 => ⟨S_, .f32⟩
  | 77 => ⟨S8192x1024, .f32⟩
  | 78 => ⟨S8192x1024, .f32⟩
  | 79 => ⟨S8192x1024, .f32⟩
  | 80 => ⟨S_, .f32⟩
  | 81 => ⟨S1024, .f32⟩
  | 82 => ⟨S1x1024, .f32⟩
  | 83 => ⟨S8192x1024, .f32⟩
  | 84 => ⟨S_, .f32⟩
  | 85 => ⟨S1024, .f32⟩
  | 86 => ⟨S1x1024, .f32⟩
  | 87 => ⟨S8192x1024, .f32⟩
  | 88 => ⟨S8192x1024, .f32⟩
  | 89 => ⟨S8192x1024, .f32⟩
  | 90 => ⟨S_, .f32⟩
  | 91 => ⟨S8192, .f32⟩
  | 92 => ⟨S8192x1, .f32⟩
  | 93 => ⟨S8192x1024, .f32⟩
  | 94 => ⟨S8192x1024, .f32⟩
  | 95 => ⟨S8192x1, .f32⟩
  | 96 => ⟨S8192x1024, .f32⟩
  | 97 => ⟨S_, .f32⟩
  | 98 => ⟨S8192, .f32⟩
  | 99 => ⟨S8192x1, .f32⟩
  | 100 => ⟨S_, .f32⟩
  | 101 => ⟨S8192x1, .f32⟩
  | 102 => ⟨S8192x1, .f32⟩
  | 103 => ⟨S_, .f32⟩
  | 104 => ⟨S8192, .f32⟩
  | 105 => ⟨S8192x1024, .f32⟩
  | 106 => ⟨S8192x1024, .f32⟩
  | 107 => ⟨S8192x1024, .f32⟩
  | 108 => ⟨S_, .f32⟩
  | 109 => ⟨S8192, .f32⟩
  | 110 => ⟨S8192x1, .f32⟩
  | 111 => ⟨S8192x1024, .f32⟩
  | 112 => ⟨S8192x1, .f32⟩
  | 113 => ⟨S_, .f32⟩
  | 114 => ⟨S8192x1, .f32⟩
  | 115 => ⟨S8192x1, .f32⟩
  | 116 => ⟨S_, .f32⟩
  | 117 => ⟨S8192, .f32⟩
  | 118 => ⟨S8192x1024, .f32⟩
  | 119 => ⟨S8192x1024, .f32⟩
  | 120 => ⟨S8192x1024, .f32⟩
  | 121 => ⟨S8192x1024, .f32⟩
  | 122 => ⟨S8192x1024, .f32⟩
  | 123 => ⟨S_, .f32⟩
  | 124 => ⟨S1024, .f32⟩
  | 125 => ⟨S1x1024, .f32⟩
  | 126 => ⟨S8192x1024, .bf16⟩
  | 127 => ⟨S_, .f32⟩
  | _ => ⟨S8192x1024, .f32⟩

abbrev hbmTy0_1 (i : Nat) : BufTy := match i % 128 with
  | 0 => ⟨S6x1024, .f32⟩
  | 1 => ⟨S8x1024, .f32⟩
  | 2 => ⟨S_, .f32⟩
  | 3 => ⟨S5x1024, .f32⟩
  | 4 => ⟨S8x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_3 : Ref sig .tc := ⟨.hbm, 29, rfl⟩
abbrev main_v15 : Ref sig .tc := ⟨.hbm, 30, rfl⟩
abbrev main_v16 : Ref sig .tc := ⟨.hbm, 31, rfl⟩
abbrev main_cst_4 : Ref sig .tc := ⟨.hbm, 32, rfl⟩
abbrev main_v17 : Ref sig .tc := ⟨.hbm, 33, rfl⟩
abbrev main_v18 : Ref sig .tc := ⟨.hbm, 34, rfl⟩
abbrev main_cst_5 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_6 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_7 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_8 : Ref sig .tc := ⟨.hbm, 54, rfl⟩
abbrev main_v35 : Ref sig .tc := ⟨.hbm, 55, rfl⟩
abbrev main_v36 : Ref sig .tc := ⟨.hbm, 56, rfl⟩
abbrev main_cst_9 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_10 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_11 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_12 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_13 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_14 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_15 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_16 : Ref sig .tc := ⟨.hbm, 97, rfl⟩
abbrev main_v70 : Ref sig .tc := ⟨.hbm, 98, rfl⟩
abbrev main_v71 : Ref sig .tc := ⟨.hbm, 99, rfl⟩
abbrev main_cst_17 : Ref sig .tc := ⟨.hbm, 100, rfl⟩
abbrev main_v72 : Ref sig .tc := ⟨.hbm, 101, rfl⟩
abbrev main_v73 : Ref sig .tc := ⟨.hbm, 102, rfl⟩
abbrev main_cst_18 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_cst_19 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_cst_20 : Ref sig .tc := ⟨.hbm, 113, rfl⟩
abbrev main_v82 : Ref sig .tc := ⟨.hbm, 114, rfl⟩
abbrev main_v83 : Ref sig .tc := ⟨.hbm, 115, rfl⟩
abbrev main_cst_21 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_cst_22 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_cst_23 : Ref sig .tc := ⟨.hbm, 127, rfl⟩
abbrev main_v93 : Ref sig .tc := ⟨.hbm, 128, rfl⟩
abbrev main_v94 : Ref sig .tc := ⟨.hbm, 129, rfl⟩
abbrev main_cst_24 : Ref sig .tc := ⟨.hbm, 130, rfl⟩
abbrev main_v95 : Ref sig .tc := ⟨.hbm, 131, rfl⟩
abbrev main_v96 : Ref sig .tc := ⟨.hbm, 132, rfl⟩

abbrev nD : Nat := 1
abbrev τ : Topo := Topo.v7x

variable {F : FTy → Type} [FloatOps F]
-- ==== Kernel18.lean ====
abbrev S8192x1024 : Shape := ⟨2, ![8192, 1024]⟩
abbrev S1x1024 : Shape := ⟨2, ![1, 1024]⟩
abbrev S1024x3088 : Shape := ⟨2, ![1024, 3088]⟩
abbrev S8192x3088 : Shape := ⟨2, ![8192, 3088]⟩
abbrev S_ : Shape := ⟨0, ![]⟩
abbrev S8192x3200 : Shape := ⟨2, ![8192, 3200]⟩
abbrev S1024x3200 : Shape := ⟨2, ![1024, 3200]⟩
abbrev S1x1024x3200 : Shape := ⟨3, ![1, 1024, 3200]⟩
abbrev S8x1024 : Shape := ⟨2, ![8, 1024]⟩
abbrev S512x3200 : Shape := ⟨2, ![512, 3200]⟩
abbrev S512x1024 : Shape := ⟨2, ![512, 1024]⟩
abbrev S1024 : Shape := ⟨1, ![1024]⟩

abbrev nBuf : Space → Nat
  | .hbm => 19
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1024x3088, .f32⟩
  | .hbm, ⟨4, _⟩ => ⟨S8192x1024, .f32⟩
  | .hbm, ⟨5, _⟩ => ⟨S8192x3088, .bf16⟩
  | .hbm, ⟨6, _⟩ => ⟨S_, .i32⟩
  | .hbm, ⟨7, _⟩ => ⟨S_, .bf16⟩
  | .hbm, ⟨8, _⟩ => ⟨S8192x3200, .bf16⟩
  | .hbm, ⟨9, _⟩ => ⟨S_, .i32⟩
  | .hbm, ⟨10, _⟩ => ⟨S_, .f32⟩
  | .hbm, ⟨11, _⟩ => ⟨S1024x3200, .f32⟩
  | .hbm, ⟨12, _⟩ => ⟨S1024x3200, .bf16⟩
  | .hbm, ⟨13, _⟩ => ⟨S1x1024x3200, .bf16⟩
  | .hbm, ⟨14, _⟩ => ⟨S_, .f32⟩
  | .hbm, ⟨15, _⟩ => ⟨S1x1024, .f32⟩
  | .hbm, ⟨16, _⟩ => ⟨S1x1024, .f32⟩
  | .hbm, ⟨17, _⟩ => ⟨S8192x1024, .f32⟩
  | .hbm, ⟨18, _⟩ => ⟨S8x1024, .f32⟩
  | .local _ .vmem, ⟨0, _⟩ => ⟨S512x3200, .bf16⟩
  | .local _ .vmem, ⟨1, _⟩ => ⟨S512x3200, .bf16⟩
  | .local _ .vmem, ⟨2, _⟩ => ⟨S1x1024x3200, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_c_0 : Ref sig .tc := ⟨.hbm, 9, rfl⟩
abbrev main_call1_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_v6_0 : Ref sig .tc := ⟨.hbm, 17, rfl⟩
abbrev main_v6_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3200 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x3200 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference18Ideal.lean ====
abbrev S8192x1024 : Shape := ⟨2, ![8192, 1024]⟩
abbrev S1x1024 : Shape := ⟨2, ![1, 1024]⟩
abbrev S1024x3088 : Shape := ⟨2, ![1024, 3088]⟩
abbrev S8192x3088 : Shape := ⟨2, ![8192, 3088]⟩
abbrev S_ : Shape := ⟨0, ![]⟩
abbrev S1024 : Shape := ⟨1, ![1024]⟩
abbrev S6x1024 : Shape := ⟨2, ![6, 1024]⟩
abbrev S8x1024 : Shape := ⟨2, ![8, 1024]⟩

abbrev nBuf : Space → Nat
  | .hbm => 35
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1024x3088, .f32⟩
  | .hbm, ⟨4, _⟩ => ⟨S8192x1024, .f32⟩
  | .hbm, ⟨5, _⟩ => ⟨S8192x3088, .bf16⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S1x1024, .f32⟩
  | .hbm, ⟨11, _⟩ => ⟨S1x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x3088, .f32⟩
  | .hbm, ⟨17, _⟩ => ⟨S8192x3088, .f32⟩
  | .hbm, ⟨18, _⟩ => ⟨S8192x1024, .f32⟩
  | .hbm, ⟨19, _⟩ => ⟨S_, .f32⟩
  | .hbm, ⟨20, _⟩ => ⟨S1024, .f32⟩
  | .hbm, ⟨21, _⟩ => ⟨S1x1024, .f32⟩
  | .hbm, ⟨22, _⟩ => ⟨S8192x1024, .f32⟩
  | .hbm, ⟨23, _⟩ => ⟨S_, .f32⟩
  | .hbm, ⟨24, _⟩ => ⟨S1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S6x1024, .f32⟩
  | .hbm, ⟨34, _⟩ => ⟨S8x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩

abbrev nD : Nat := 1
abbrev τ : Topo := Topo.v7x

variable {F : FTy → Type} [FloatOps F]
-- ==== Proof.Steps.lean ====
/-
  What one step of the attention backward kernel does to the buffers it keeps, as plain functions of vectors.

  A step is one pair (head pair, query block): the query block holds two groups of 256 queries, a head pair holds two
  heads of 64 columns. Each group attends to a window of 768 keys. For every group and head the step computes the
  query gradient (stored), and the key and value gradients of the window's rows (added to the two accumulators), and
  the gradient of the bias tile (added to the tile's accumulator).
-/
module

public import proofs.«01_k».proof.Proof.Gen.KernelIdeal.Skeleton
public import Idealize.ShloMosaic.Lib.VecWindow

@[expose] public section

set_option maxRecDepth 16384

noncomputable section

namespace Cert.KernelIdeal.Steps

open Cert.KernelIdeal Cert.KernelIdeal.Gen
open Idealize.ShloMosaic Idealize.ShloMosaic.TcCoe

variable {F : FTy → Type} [FloatOps F]

/-- The blocks a step reads: the queries, the keys and the values of the head pair, the two groups' bias tiles, and
    the output's gradient. -/
structure Blk (F : FTy → Type) where
  q : Vec F S512x128 .bf16
  k : Vec F S8192x128 .bf16
  v : Vec F S8192x128 .bf16
  b0 : Vec F S2x1x256x768 .f32
  b1 : Vec F S2x1x256x768 .f32
  d : Vec F S512x128 .bf16

/-- A 768-row window of an 8192-row array at the first group's keys (`g = 0`) or the second's (`g = 1`). -/
abbrev win0 {α : Type} (i : grid0.Coords) (x : S8192x128.Idx → α) : S768x128.Idx → α :=
  VecWindow.window x (k0_off1 i 0#32) S768x128.size (k0_off1_inb i 0)
abbrev win1 {α : Type} (i : grid0.Coords) (x : S8192x128.Idx → α) : S768x128.Idx → α :=
  VecWindow.window x (k0_off1 i 1#32) S768x128.size (k0_off1_inb i 1)

/-- A group's rows (first or second 256) and a head's columns (first or second 64) of a query block. -/
abbrev q00 {α : Type} (x : S512x128.Idx → α) : S256x64.Idx → α := VecWindow.window x ![0, 0] S256x64.size inb_S512x128_S256x64_0_0
abbrev q01 {α : Type} (x : S512x128.Idx → α) : S256x64.Idx → α := VecWindow.window x ![0, 64] S256x64.size inb_S512x128_S256x64_0_64
abbrev q10 {α : Type} (x : S512x128.Idx → α) : S256x64.Idx → α := VecWindow.window x ![256, 0] S256x64.size inb_S512x128_S256x64_256_0
abbrev q11 {α : Type} (x : S512x128.Idx → α) : S256x64.Idx → α := VecWindow.window x ![256, 64] S256x64.size inb_S512x128_S256x64_256_64

/-- A head's tile of a pair of bias tiles. -/
abbrev tile0 {α : Type} (x : S2x1x256x768.Idx → α) : S1x1x256x768.Idx → α := VecWindow.window x ![0, 0, 0, 0] S1x1x256x768.size inb_S2x1x256x768_S1x1x256x768_0_0_0_0
abbrev tile1 {α : Type} (x : S2x1x256x768.Idx → α) : S1x1x256x768.Idx → α := VecWindow.window x ![1, 0, 0, 0] S1x1x256x768.size inb_S2x1x256x768_S1x1x256x768_1_0_0_0

section
variable (i : grid0.Coords) (B : Blk F)

/-! ### Scores: the exponentials `e`, normalised to `p` -/

abbrev e00 := k0_pay19 (k0_pay10 (q00 B.q)) (k0_pay14 (win0 i B.k)) (tile0 B.b0)
abbrev e01 := k0_pay20 (k0_pay11 (q01 B.q)) (k0_pay15 (win0 i B.k)) (tile1 B.b0)
abbrev e10 := k0_pay21 (win1 i B.k) (k0_pay12 (q10 B.q)) (tile0 B.b1)
abbrev s11 := k0_pay18 (win1 i B.k) (k0_pay13 (q11 B.q)) (tile1 B.b1)
abbrev m11 := k0_pay22 (win1 i B.k) (k0_pay13 (q11 B.q)) (tile1 B.b1)
abbrev e11 := k0_pay23 (s11 i B) (m11 i B)
abbrev r10 := k0_pay24 (e10 i B)
abbrev r11 := k0_pay25 (s11 i B) (m11 i B)
abbrev p00 := k0_pay30 (e00 i B)
abbrev p01 := k0_pay31 (e01 i B)

/-! ### The gradient of `p` -/

abbrev g00 := k0_pay26 (win0 i B.v) (q00 B.d)
abbrev g01 := k0_pay27 (win0 i B.v) (q01 B.d)
abbrev g10 := k0_pay28 (win1 i B.v) (q10 B.d)
abbrev g11 := k0_pay29 (win1 i B.v) (q11 B.d)

/-! ### The gradients of the window's values, of the scores, of the queries and of the window's keys -/

abbrev dv00 := k0_pay34 (q00 B.d) (p00 i B)
abbrev dv01 := k0_pay35 (q01 B.d) (p01 i B)
abbrev dv10 := k0_pay36 (e10 i B) (r10 i B) (q10 B.d)
abbrev dv11 := k0_pay37 (e11 i B) (r11 i B) (q11 B.d)
abbrev ds00 := k0_pay38 (g00 i B) (p00 i B)
abbrev ds01 := k0_pay39 (g01 i B) (p01 i B)
abbrev ds10 := k0_pay40 (e10 i B) (r10 i B) (g10 i B)
abbrev ds11 := k0_pay41 (e11 i B) (r11 i B) (g11 i B)
abbrev db00 := k0_pay42 (g00 i B) (p00 i B)
abbrev db01 := k0_pay43 (g01 i B) (p01 i B)
abbrev db10 := k0_pay44 (e10 i B) (r10 i B) (g10 i B)
abbrev db11 := k0_pay45 (e11 i B) (r11 i B) (g11 i B)
abbrev dq00 := k0_pay46 (k0_pay14 (win0 i B.k)) (g00 i B) (p00 i B)
abbrev dq01 := k0_pay47 (k0_pay15 (win0 i B.k)) (g01 i B) (p01 i B)
abbrev dq10 := k0_pay49 (k0_pay48 (k0_pay16 (win1 i B.k)) (e10 i B) (r10 i B) (g10 i B))
abbrev dq11 := k0_pay50 (k0_pay17 (win1 i B.k)) (db11 i B)
abbrev dk00 := k0_pay51 (k0_pay10 (q00 B.q)) (db00 i B)
abbrev dk01 := k0_pay52 (k0_pay11 (q01 B.q)) (db01 i B)
abbrev dk10 := k0_pay53 (k0_pay12 (q10 B.q)) (db10 i B)
abbrev dk11 := k0_pay54 (k0_pay13 (q11 B.q)) (db11 i B)

/-! ### The four kept buffers after the step -/

/-- What an accumulator holds when the step's additions begin: zero at a head pair's first step. -/
def start {S : Shape} {e : EltTy} (z x : Vec F S e) : Vec F S e := if (i 1).val = 0 then z else x

/-- The key gradients' accumulator: the first group's additions, then the second's. -/
def dkMid (x : Vec F S8192x128 .f32) : Vec F S8192x128 .f32 :=
  VecWindow.put x (k0_off1 i 0#32) S768x128.size (k0_pay60 (dk00 i B) (dk01 i B) (win0 i x))
def dkAdd (x : Vec F S8192x128 .f32) : Vec F S8192x128 .f32 :=
  VecWindow.put (dkMid i B x) (k0_off1 i 1#32) S768x128.size (k0_pay3 (dk10 i B) (dk11 i B) (win1 i (dkMid i B x)))
def dkStep (x : Vec F S8192x128 .f32) : Vec F S8192x128 .f32 := dkAdd i B (start i k0_pay7 x)

/-- The value gradients' accumulator, likewise. -/
def dvMid (x : Vec F S8192x128 .f32) : Vec F S8192x128 .f32 :=
  VecWindow.put x (k0_off1 i 0#32) S768x128.size (k0_pay1 (dv00 i B) (dv01 i B) (win0 i x))
def dvAdd (x : Vec F S8192x128 .f32) : Vec F S8192x128 .f32 :=
  VecWindow.put (dvMid i B x) (k0_off1 i 1#32) S768x128.size (k0_pay4 (dv10 i B) (dv11 i B) (win1 i (dvMid i B x)))
def dvStep (x : Vec F S8192x128 .f32) : Vec F S8192x128 .f32 := dvAdd i B (start i k0_pay8 x)

/-- The bias tiles' gradients: each group and head adds to the tile of its class. -/
def b1 (x : Vec F S2x3x256x768 .f32) : Vec F S2x3x256x768 .f32 :=
  VecWindow.put x (k0_off2 i 0#32) S1x1x256x768.size (k0_pay55 (ds00 i B) (VecWindow.window x (k0_off2 i 0#32) S1x1x256x768.size (k0_off2_inb i 0)))
def b2 (x : Vec F S2x3x256x768 .f32) : Vec F S2x3x256x768 .f32 :=
  VecWindow.put x (k0_off3 i 0#32) S1x1x256x768.size (k0_pay56 (ds01 i B) (VecWindow.window x (k0_off3 i 0#32) S1x1x256x768.size (k0_off3_inb i 0)))
def b3 (x : Vec F S2x3x256x768 .f32) : Vec F S2x3x256x768 .f32 :=
  VecWindow.put x (k0_off2 i 1#32) S1x1x256x768.size (k0_pay57 (ds10 i B) (VecWindow.window x (k0_off2 i 1#32) S1x1x256x768.size (k0_off2_inb i 1)))
def b4 (x : Vec F S2x3x256x768 .f32) : Vec F S2x3x256x768 .f32 :=
  VecWindow.put x (k0_off3 i 1#32) S1x1x256x768.size (k0_pay58 (ds11 i B) (VecWindow.window x (k0_off3 i 1#32) S1x1x256x768.size (k0_off3_inb i 1)))
def dbStep (x : Vec F S2x3x256x768 .f32) : Vec F S2x3x256x768 .f32 := b4 i B (b3 i B (b2 i B (b1 i B (start i k0_pay9 x))))

/-- The result block: the two groups' query gradients; -/
def oMid (o : Vec F S3x8192x128 .bf16) : Vec F S3x8192x128 .bf16 :=
  VecWindow.put (VecWindow.put o (k0_off4 i 0#32) S1x256x128.size (k0_pay59 (dq00 i B) (dq01 i B)))
    (k0_off4 i 1#32) S1x256x128.size (k0_pay2 (dq10 i B) (dq11 i B))
/-- and at a head pair's last step the two accumulators, as they are after it. -/
def oStep (dk dv : Vec F S8192x128 .f32) (o : Vec F S3x8192x128 .bf16) : Vec F S3x8192x128 .bf16 :=
  if (i 1).val = 15 then
    VecWindow.put (VecWindow.put (oMid i B o) ![1, 0, 0] S1x8192x128.size (k0_pay5 dk)) ![2, 0, 0] S1x8192x128.size (k0_pay6 dv)
  else oMid i B o

end

end Cert.KernelIdeal.Steps

end

end
-- ==== Proof.Access.lean ====
/-
  A load and a store of a unit rectangle, as rules about the array a memref is read as: a load gives the window of the array at the rectangle, a store puts its payload there.
-/
module

public import proofs.«01_k».proof.Proof.Gen.KernelIdeal.Frame
public import Idealize.ShloMosaic.Lib.VecWindow

@[expose] public section

set_option maxRecDepth 16384

noncomputable section

namespace Cert.KernelIdeal.Steps

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Memref `M` of core `c`, owned whole and read as the array `X`. -/
abbrev has (c : Dev nD) {sp : Space} {S : Shape} {e : EltTy} (M : Memref sig .tc sp S e) (X : Vec F S e) : sProp 𝕄 :=
  owns (c : Thread nD τ) M fullShare X

variable (c : Dev nD) (E : Set ℕ) {sp : CoreSpace} {s : Shape} {e : EltTy} {α : Type}

/-- A load of a window. -/
theorem wp_window {m : Memref sig .tc sp s e} {off size : Fin s.rank → ℕ} {inb : ∀ a, off a + size a ≤ s.size a} {hl}
    {k : _ → Prog (TpuEff nD τ sig (Elt F) Λ₀ .tc) α} {Q : α → sProp 𝕄} (X : Vec F s e) :
    has c m X ⊢ iprop((has c m X -∗ wp frame (wpE (defs₀ (F := F)) Variants.none c none) E (k (VecWindow.window X off size inb)) Q)
      -∗ wp frame (wpE (defs₀ (F := F)) Variants.none c none) E (.op (.load m (Rect.unit off size inb).toLoadRect hl) k) Q) := by
  unfold has owns
  iintro ⟨%f, %hf, H⟩ Hk
  iapply (wp_load_rect Variants.none (c : Thread nD τ) none E (m := m) (r := Rect.unit off size inb) (View.set_slice_subset _ _)) $$ H
  iintro H
  rw [show (m.access (Rect.unit off size inb)).read (Elt F) f = VecWindow.window X off size inb by rw [← hf]; rfl]
  iapply Hk
  iexists f; isplitr
  · ipureintro; exact hf
  iexact H

/-- A load of the whole array. -/
theorem wp_whole {m : Memref sig .tc sp s e} {off : Fin s.rank → ℕ} {inb : ∀ a, off a + s.size a ≤ s.size a} {hl}
    {k : _ → Prog (TpuEff nD τ sig (Elt F) Λ₀ .tc) α} {Q : α → sProp 𝕄} (X : Vec F s e) :
    has c m X ⊢ iprop((has c m X -∗ wp frame (wpE (defs₀ (F := F)) Variants.none c none) E (k X) Q)
      -∗ wp frame (wpE (defs₀ (F := F)) Variants.none c none) E (.op (.load m (Rect.unit off s.size inb).toLoadRect hl) k) Q) := by
  have h : VecWindow.window X off s.size inb = X := funext fun y => congrArg X (Rect.emb_unit_full inb y)
  have := wp_window (Q := Q) c E (m := m) (off := off) (size := s.size) (inb := inb) (hl := hl) (k := k) X
  rwa [h] at this

/-- A store at a window. -/
theorem wp_put {m : Memref sig .tc sp s e} {off size : Fin s.rank → ℕ} {inb : ∀ a, off a + size a ≤ s.size a} {w hx hm}
    {k : PUnit → Prog (TpuEff nD τ sig (Elt F) Λ₀ .tc) α} {Q : α → sProp 𝕄} (X : Vec F s e) :
    has c m X ⊢ iprop((has c m (VecWindow.put X off size w) -∗ wp frame (wpE (defs₀ (F := F)) Variants.none c none) E (k ⟨⟩) Q)
      -∗ wp frame (wpE (defs₀ (F := F)) Variants.none c none) E (.op (.store m (Rect.unit off size inb) w Finset.univ hx hm) k) Q) := by
  unfold has owns
  iintro ⟨%f, %hf, H⟩ Hk
  iapply (wp_store Variants.none (c : Thread nD τ) none E (m := m) (r := Rect.unit off size inb) (Mk := Finset.univ) (View.set_slice_subset _ _)) $$ H
  iintro H
  iapply Hk
  iexists _; isplitr
  swap; · iexact H
  ipureintro
  rw [← hf]
  exact View.read_writes_cons_put m.view f inb w [] rfl

/-- A store of the whole array. -/
theorem wp_fill {m : Memref sig .tc sp s e} {off : Fin s.rank → ℕ} {inb : ∀ a, off a + s.size a ≤ s.size a} {w hx hm}
    {k : PUnit → Prog (TpuEff nD τ sig (Elt F) Λ₀ .tc) α} {Q : α → sProp 𝕄} (X : Vec F s e) :
    has c m X ⊢ iprop((has c m w -∗ wp frame (wpE (defs₀ (F := F)) Variants.none c none) E (k ⟨⟩) Q)
      -∗ wp frame (wpE (defs₀ (F := F)) Variants.none c none) E (.op (.store m (Rect.unit off s.size inb) w Finset.univ hx hm) k) Q) := by
  unfold has owns
  iintro ⟨%f, %hf, H⟩ Hk
  iapply (wp_store Variants.none (c : Thread nD τ) none E (m := m) (r := Rect.unit off s.size inb) (Mk := Finset.univ) (View.set_slice_subset _ _)) $$ H
  iintro H
  iapply Hk
  iexists _; isplitr
  swap; · iexact H
  ipureintro
  exact View.read_writes_full m.view f inb w []

end Cert.KernelIdeal.Steps

end

end
-- ==== Proof.Body.lean ====
/-
  One step of the kernel, run.
-/
module

public import proofs.«01_k».proof.Proof.Steps
public import proofs.«01_k».proof.Proof.Access

@[expose] public section

set_option maxRecDepth 16384

noncomputable section

namespace Cert.KernelIdeal.Steps

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The condition of the reset: a head pair's first step. -/
theorem cond_first (n : Fin 16) : (Scalar.cmpi .ne (Scalar.extui (Scalar.cmpi .eq (BitVec.ofNat 32 n.val) 0#32)) 0#32 : BitVec 1) = 1#1 ↔ n.val = 0 := by
  revert n; decide
/-- The condition of the accumulators' copy out: its last. -/
theorem cond_last (n : Fin 16) : (Scalar.cmpi .ne (Scalar.extui (Scalar.cmpi .eq (BitVec.ofNat 32 n.val) 15#32)) 0#32 : BitVec 1) = 1#1 ↔ n.val = 15 := by
  revert n; decide

set_option maxHeartbeats 4000000 in
/-- A step within a head pair's sixteen. -/
theorem body_mid (c : Dev nD) (E : Set ℕ) (i : grid0.Coords)
    (arg2 : Memref sig .tc .vmem S512x128 .bf16) (harg2 : arg2.IsWhole)
    (arg3 : Memref sig .tc .vmem S8192x128 .bf16) (harg3 : arg3.IsWhole)
    (arg4 : Memref sig .tc .vmem S8192x128 .bf16) (harg4 : arg4.IsWhole)
    (arg5 : Memref sig .tc .vmem S2x1x256x768 .f32) (harg5 : arg5.IsWhole)
    (arg6 : Memref sig .tc .vmem S2x1x256x768 .f32) (harg6 : arg6.IsWhole)
    (arg7 : Memref sig .tc .vmem S512x128 .bf16) (harg7 : arg7.IsWhole)
    (arg8 : Memref sig .tc .vmem S3x8192x128 .bf16) (harg8 : arg8.IsWhole)
    (arg9 : Memref sig .tc .vmem S2x3x256x768 .f32) (harg9 : arg9.IsWhole)
    (arg10 : Memref sig .tc .vmem S8192x128 .f32) (harg10 : arg10.IsWhole)
    (arg11 : Memref sig .tc .vmem S8192x128 .f32) (harg11 : arg11.IsWhole)
    (hf : (i 1).val ≠ 0) (hl : (i 1).val ≠ 15)
    (B : Blk F) (o : Vec F S3x8192x128 .bf16) (t : Vec F S2x3x256x768 .f32) (dk dv : Vec F S8192x128 .f32)
    (Q : PUnit → sProp 𝕄) :
    iprop(has c arg2 B.q ∗ has c arg3 B.k ∗ has c arg4 B.v ∗ has c arg5 B.b0 ∗ has c arg6 B.b1 ∗ has c arg7 B.d
      ∗ has c arg8 o ∗ has c arg9 t ∗ has c arg10 dk ∗ has c arg11 dv
      ∗ (iprop(has c arg2 B.q ∗ has c arg3 B.k ∗ has c arg4 B.v ∗ has c arg5 B.b0 ∗ has c arg6 B.b1 ∗ has c arg7 B.d
          ∗ has c arg8 (oMid i B o) ∗ has c arg9 (b4 i B (b3 i B (b2 i B (b1 i B t))))
          ∗ has c arg10 (dkAdd i B dk) ∗ has c arg11 (dvAdd i B dv)) -∗ Q ⟨⟩))
    ⊢ wp frame (wpE (defs₀ (F := F)) Variants.none c none) E
        (cc0_att_bwd i arg2 harg2 arg3 harg3 arg4 harg4 arg5 harg5 arg6 harg6 arg7 harg7 arg8 harg8 arg9 harg9 arg10 harg10 arg11 harg11) Q := by
  iintro ⟨H2, H3, H4, H5, H6, H7, H8, H9, H10, H11, Hk⟩
  simp only [cc0_att_bwd_eq_skeleton, k0_part1_eq_skeleton]; unfold cc0_att_bwd_skel
  simp only [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  dsimp only
  rw [dif_neg (mt (cond_first (i 1)).1 hf)]
  iapply (wp_window c E _) $$ H3; iintro H3
  iapply (wp_window c E _) $$ H3; iintro H3
  iapply (wp_window c E _) $$ H2; iintro H2
  iapply (wp_window c E _) $$ H2; iintro H2
  iapply (wp_window c E _) $$ H2; iintro H2
  iapply (wp_window c E _) $$ H2; iintro H2
  dsimp only
  iapply (wp_window c E _) $$ H5; iintro H5
  iapply (wp_window c E _) $$ H5; iintro H5
  iapply (wp_window c E _) $$ H6; iintro H6
  iapply (wp_window c E _) $$ H6; iintro H6
  dsimp only
  iapply (wp_window c E _) $$ H4; iintro H4
  iapply (wp_window c E _) $$ H4; iintro H4
  iapply (wp_window c E _) $$ H7; iintro H7
  iapply (wp_window c E _) $$ H7; iintro H7
  iapply (wp_window c E _) $$ H7; iintro H7
  iapply (wp_window c E _) $$ H7; iintro H7
  dsimp only
  iapply (wp_window c E _) $$ H9; iintro H9
  iapply (wp_window c E _) $$ H9; iintro H9
  iapply (wp_put c E _) $$ H9; iintro H9
  iapply (wp_window c E _) $$ H9; iintro H9
  iapply (wp_window c E _) $$ H9; iintro H9
  iapply (wp_put c E _) $$ H9; iintro H9
  dsimp only
  iapply (wp_window c E _) $$ H9; iintro H9
  iapply (wp_window c E _) $$ H9; iintro H9
  iapply (wp_put c E _) $$ H9; iintro H9
  iapply (wp_window c E _) $$ H9; iintro H9
  iapply (wp_window c E _) $$ H9; iintro H9
  iapply (wp_put c E _) $$ H9; iintro H9
  iapply (wp_window c E _) $$ H8; iintro H8
  iapply (wp_put c E _) $$ H8; iintro H8
  iapply (wp_window c E _) $$ H10; iintro H10
  iapply (wp_window c E _) $$ H10; iintro H10
  iapply (wp_put c E _) $$ H10; iintro H10
  iapply (wp_window c E _) $$ H11; iintro H11
  dsimp only
  iapply (wp_window c E _) $$ H11; iintro H11
  iapply (wp_put c E _) $$ H11; iintro H11
  iapply (wp_window c E _) $$ H8; iintro H8
  iapply (wp_put c E _) $$ H8; iintro H8
  iapply (wp_window c E _) $$ H10; iintro H10
  iapply (wp_window c E _) $$ H10; iintro H10
  iapply (wp_put c E _) $$ H10; iintro H10
  iapply (wp_window c E _) $$ H11; iintro H11
  iapply (wp_window c E _) $$ H11; iintro H11
  iapply (wp_put c E _) $$ H11; iintro H11
  rw [dif_neg (mt (cond_last (i 1)).1 hl)]
  dsimp only [Prog.bind]
  sl_step

  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

set_option maxHeartbeats 4000000 in
/-- A head pair's first step. -/
theorem body_first (c : Dev nD) (E : Set ℕ) (i : grid0.Coords)
    (arg2 : Memref sig .tc .vmem S512x128 .bf16) (harg2 : arg2.IsWhole)
    (arg3 : Memref sig .tc .vmem S8192x128 .bf16) (harg3 : arg3.IsWhole)
    (arg4 : Memref sig .tc .vmem S8192x128 .bf16) (harg4 : arg4.IsWhole)
    (arg5 : Memref sig .tc .vmem S2x1x256x768 .f32) (harg5 : arg5.IsWhole)
    (arg6 : Memref sig .tc .vmem S2x1x256x768 .f32) (harg6 : arg6.IsWhole)
    (arg7 : Memref sig .tc .vmem S512x128 .bf16) (harg7 : arg7.IsWhole)
    (arg8 : Memref sig .tc .vmem S3x8192x128 .bf16) (harg8 : arg8.IsWhole)
    (arg9 : Memref sig .tc .vmem S2x3x256x768 .f32) (harg9 : arg9.IsWhole)
    (arg10 : Memref sig .tc .vmem S8192x128 .f32) (harg10 : arg10.IsWhole)
    (arg11 : Memref sig .tc .vmem S8192x128 .f32) (harg11 : arg11.IsWhole)
    (hf : (i 1).val = 0) (hl : (i 1).val ≠ 15)
    (B : Blk F) (o : Vec F S3x8192x128 .bf16) (t : Vec F S2x3x256x768 .f32) (dk dv : Vec F S8192x128 .f32)
    (Q : PUnit → sProp 𝕄) :
    iprop(has c arg2 B.q ∗ has c arg3 B.k ∗ has c arg4 B.v ∗ has c arg5 B.b0 ∗ has c arg6 B.b1 ∗ has c arg7 B.d
      ∗ has c arg8 o ∗ has c arg9 t ∗ has c arg10 dk ∗ has c arg11 dv
      ∗ (iprop(has c arg2 B.q ∗ has c arg3 B.k ∗ has c arg4 B.v ∗ has c arg5 B.b0 ∗ has c arg6 B.b1 ∗ has c arg7 B.d
          ∗ has c arg8 (oMid i B o) ∗ has c arg9 (b4 i B (b3 i B (b2 i B (b1 i B k0_pay9))))
          ∗ has c arg10 (dkAdd i B k0_pay7) ∗ has c arg11 (dvAdd i B k0_pay8)) -∗ Q ⟨⟩))
    ⊢ wp frame (wpE (defs₀ (F := F)) Variants.none c none) E
        (cc0_att_bwd i arg2 harg2 arg3 harg3 arg4 harg4 arg5 harg5 arg6 harg6 arg7 harg7 arg8 harg8 arg9 harg9 arg10 harg10 arg11 harg11) Q := by
  iintro ⟨H2, H3, H4, H5, H6, H7, H8, H9, H10, H11, Hk⟩
  simp only [cc0_att_bwd_eq_skeleton, k0_part1_eq_skeleton]; unfold cc0_att_bwd_skel
  simp only [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  dsimp only
  rw [dif_pos ((cond_first (i 1)).2 hf)]
  iapply (wp_whole c E _) $$ H10; iintro H10
  iapply (wp_fill c E _) $$ H10; iintro H10
  iapply (wp_whole c E _) $$ H11; iintro H11
  iapply (wp_fill c E _) $$ H11; iintro H11
  iapply (wp_whole c E _) $$ H9; iintro H9
  iapply (wp_fill c E _) $$ H9; iintro H9
  iapply (wp_window c E _) $$ H3; iintro H3
  iapply (wp_window c E _) $$ H3; iintro H3
  iapply (wp_window c E _) $$ H2; iintro H2
  iapply (wp_window c E _) $$ H2; iintro H2
  iapply (wp_window c E _) $$ H2; iintro H2
  iapply (wp_window c E _) $$ H2; iintro H2
  dsimp only
  iapply (wp_window c E _) $$ H5; iintro H5
  iapply (wp_window c E _) $$ H5; iintro H5
  iapply (wp_window c E _) $$ H6; iintro H6
  iapply (wp_window c E _) $$ H6; iintro H6
  dsimp only
  iapply (wp_window c E _) $$ H4; iintro H4
  iapply (wp_window c E _) $$ H4; iintro H4
  iapply (wp_window c E _) $$ H7; iintro H7
  iapply (wp_window c E _) $$ H7; iintro H7
  iapply (wp_window c E _) $$ H7; iintro H7
  iapply (wp_window c E _) $$ H7; iintro H7
  dsimp only
  iapply (wp_window c E _) $$ H9; iintro H9
  iapply (wp_window c E _) $$ H9; iintro H9
  iapply (wp_put c E _) $$ H9; iintro H9
  iapply (wp_window c E _) $$ H9; iintro H9
  iapply (wp_window c E _) $$ H9; iintro H9
  iapply (wp_put c E _) $$ H9; iintro H9
  dsimp only
  iapply (wp_window c E _) $$ H9; iintro H9
  iapply (wp_window c E _) $$ H9; iintro H9
  iapply (wp_put c E _) $$ H9; iintro H9
  iapply (wp_window c E _) $$ H9; iintro H9
  iapply (wp_window c E _) $$ H9; iintro H9
  iapply (wp_put c E _) $$ H9; iintro H9
  iapply (wp_window c E _) $$ H8; iintro H8
  iapply (wp_put c E _) $$ H8; iintro H8
  iapply (wp_window c E _) $$ H10; iintro H10
  iapply (wp_window c E _) $$ H10; iintro H10
  iapply (wp_put c E _) $$ H10; iintro H10
  iapply (wp_window c E _) $$ H11; iintro H11
  dsimp only
  iapply (wp_window c E _) $$ H11; iintro H11
  iapply (wp_put c E _) $$ H11; iintro H11
  iapply (wp_window c E _) $$ H8; iintro H8
  iapply (wp_put c E _) $$ H8; iintro H8
  iapply (wp_window c E _) $$ H10; iintro H10
  iapply (wp_window c E _) $$ H10; iintro H10
  iapply (wp_put c E _) $$ H10; iintro H10
  iapply (wp_window c E _) $$ H11; iintro H11
  iapply (wp_window c E _) $$ H11; iintro H11
  iapply (wp_put c E _) $$ H11; iintro H11
  rw [dif_neg (mt (cond_last (i 1)).1 hl)]
  dsimp only [Prog.bind]
  sl_step

  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

set_option maxHeartbeats 4000000 in
/-- A head pair's last step. -/
theorem body_last (c : Dev nD) (E : Set ℕ) (i : grid0.Coords)
    (arg2 : Memref sig .tc .vmem S512x128 .bf16) (harg2 : arg2.IsWhole)
    (arg3 : Memref sig .tc .vmem S8192x128 .bf16) (harg3 : arg3.IsWhole)
    (arg4 : Memref sig .tc .vmem S8192x128 .bf16) (harg4 : arg4.IsWhole)
    (arg5 : Memref sig .tc .vmem S2x1x256x768 .f32) (harg5 : arg5.IsWhole)
    (arg6 : Memref sig .tc .vmem S2x1x256x768 .f32) (harg6 : arg6.IsWhole)
    (arg7 : Memref sig .tc .vmem S512x128 .bf16) (harg7 : arg7.IsWhole)
    (arg8 : Memref sig .tc .vmem S3x8192x128 .bf16) (harg8 : arg8.IsWhole)
    (arg9 : Memref sig .tc .vmem S2x3x256x768 .f32) (harg9 : arg9.IsWhole)
    (arg10 : Memref sig .tc .vmem S8192x128 .f32) (harg10 : arg10.IsWhole)
    (arg11 : Memref sig .tc .vmem S8192x128 .f32) (harg11 : arg11.IsWhole)
    (hf : (i 1).val ≠ 0) (hl : (i 1).val = 15)
    (B : Blk F) (o : Vec F S3x8192x128 .bf16) (t : Vec F S2x3x256x768 .f32) (dk dv : Vec F S8192x128 .f32)
    (Q : PUnit → sProp 𝕄) :
    iprop(has c arg2 B.q ∗ has c arg3 B.k ∗ has c arg4 B.v ∗ has c arg5 B.b0 ∗ has c arg6 B.b1 ∗ has c arg7 B.d
      ∗ has c arg8 o ∗ has c arg9 t ∗ has c arg10 dk ∗ has c arg11 dv
      ∗ (iprop(has c arg2 B.q ∗ has c arg3 B.k ∗ has c arg4 B.v ∗ has c arg5 B.b0 ∗ has c arg6 B.b1 ∗ has c arg7 B.d
          ∗ has c arg8 (VecWindow.put (VecWindow.put (oMid i B o) ![1, 0, 0] S1x8192x128.size (k0_pay5 (dkAdd i B dk)))
            ![2, 0, 0] S1x8192x128.size (k0_pay6 (dvAdd i B dv))) ∗ has c arg9 (b4 i B (b3 i B (b2 i B (b1 i B t))))
          ∗ has c arg10 (dkAdd i B dk) ∗ has c arg11 (dvAdd i B dv)) -∗ Q ⟨⟩))
    ⊢ wp frame (wpE (defs₀ (F := F)) Variants.none c none) E
        (cc0_att_bwd i arg2 harg2 arg3 harg3 arg4 harg4 arg5 harg5 arg6 harg6 arg7 harg7 arg8 harg8 arg9 harg9 arg10 harg10 arg11 harg11) Q := by
  iintro ⟨H2, H3, H4, H5, H6, H7, H8, H9, H10, H11, Hk⟩
  simp only [cc0_att_bwd_eq_skeleton, k0_part1_eq_skeleton]; unfold cc0_att_bwd_skel
  simp only [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  dsimp only
  rw [dif_neg (mt (cond_first (i 1)).1 hf)]
  iapply (wp_window c E _) $$ H3; iintro H3
  iapply (wp_window c E _) $$ H3; iintro H3
  iapply (wp_window c E _) $$ H2; iintro H2
  iapply (wp_window c E _) $$ H2; iintro H2
  iapply (wp_window c E _) $$ H2; iintro H2
  iapply (wp_window c E _) $$ H2; iintro H2
  dsimp only
  iapply (wp_window c E _) $$ H5; iintro H5
  iapply (wp_window c E _) $$ H5; iintro H5
  iapply (wp_window c E _) $$ H6; iintro H6
  iapply (wp_window c E _) $$ H6; iintro H6
  dsimp only
  iapply (wp_window c E _) $$ H4; iintro H4
  iapply (wp_window c E _) $$ H4; iintro H4
  iapply (wp_window c E _) $$ H7; iintro H7
  iapply (wp_window c E _) $$ H7; iintro H7
  iapply (wp_window c E _) $$ H7; iintro H7
  iapply (wp_window c E _) $$ H7; iintro H7
  dsimp only
  iapply (wp_window c E _) $$ H9; iintro H9
  iapply (wp_window c E _) $$ H9; iintro H9
  iapply (wp_put c E _) $$ H9; iintro H9
  iapply (wp_window c E _) $$ H9; iintro H9
  iapply (wp_window c E _) $$ H9; iintro H9
  iapply (wp_put c E _) $$ H9; iintro H9
  dsimp only
  iapply (wp_window c E _) $$ H9; iintro H9
  iapply (wp_window c E _) $$ H9; iintro H9
  iapply (wp_put c E _) $$ H9; iintro H9
  iapply (wp_window c E _) $$ H9; iintro H9
  iapply (wp_window c E _) $$ H9; iintro H9
  iapply (wp_put c E _) $$ H9; iintro H9
  iapply (wp_window c E _) $$ H8; iintro H8
  iapply (wp_put c E _) $$ H8; iintro H8
  iapply (wp_window c E _) $$ H10; iintro H10
  iapply (wp_window c E _) $$ H10; iintro H10
  iapply (wp_put c E _) $$ H10; iintro H10
  iapply (wp_window c E _) $$ H11; iintro H11
  dsimp only
  iapply (wp_window c E _) $$ H11; iintro H11
  iapply (wp_put c E _) $$ H11; iintro H11
  iapply (wp_window c E _) $$ H8; iintro H8
  iapply (wp_put c E _) $$ H8; iintro H8
  iapply (wp_window c E _) $$ H10; iintro H10
  iapply (wp_window c E _) $$ H10; iintro H10
  iapply (wp_put c E _) $$ H10; iintro H10
  iapply (wp_window c E _) $$ H11; iintro H11
  iapply (wp_window c E _) $$ H11; iintro H11
  iapply (wp_put c E _) $$ H11; iintro H11
  rw [dif_pos ((cond_last (i 1)).2 hl)]
  iapply (wp_whole c E _) $$ H10; iintro H10
  iapply (wp_window c E _) $$ H8; iintro H8
  iapply (wp_put c E _) $$ H8; iintro H8
  iapply (wp_whole c E _) $$ H11; iintro H11
  iapply (wp_window c E _) $$ H8; iintro H8
  iapply (wp_put c E _) $$ H8; iintro H8
  dsimp only [Prog.bind]
  sl_step

  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- Any step. -/
theorem body_run (c : Dev nD) (E : Set ℕ) (i : grid0.Coords)
    (arg2 : Memref sig .tc .vmem S512x128 .bf16) (harg2 : arg2.IsWhole)
    (arg3 : Memref sig .tc .vmem S8192x128 .bf16) (harg3 : arg3.IsWhole)
    (arg4 : Memref sig .tc .vmem S8192x128 .bf16) (harg4 : arg4.IsWhole)
    (arg5 : Memref sig .tc .vmem S2x1x256x768 .f32) (harg5 : arg5.IsWhole)
    (arg6 : Memref sig .tc .vmem S2x1x256x768 .f32) (harg6 : arg6.IsWhole)
    (arg7 : Memref sig .tc .vmem S512x128 .bf16) (harg7 : arg7.IsWhole)
    (arg8 : Memref sig .tc .vmem S3x8192x128 .bf16) (harg8 : arg8.IsWhole)
    (arg9 : Memref sig .tc .vmem S2x3x256x768 .f32) (harg9 : arg9.IsWhole)
    (arg10 : Memref sig .tc .vmem S8192x128 .f32) (harg10 : arg10.IsWhole)
    (arg11 : Memref sig .tc .vmem S8192x128 .f32) (harg11 : arg11.IsWhole)
    (B : Blk F) (o : Vec F S3x8192x128 .bf16) (t : Vec F S2x3x256x768 .f32) (dk dv : Vec F S8192x128 .f32)
    (Q : PUnit → sProp 𝕄) :
    iprop(has c arg2 B.q ∗ has c arg3 B.k ∗ has c arg4 B.v ∗ has c arg5 B.b0 ∗ has c arg6 B.b1 ∗ has c arg7 B.d
      ∗ has c arg8 o ∗ has c arg9 t ∗ has c arg10 dk ∗ has c arg11 dv
      ∗ (iprop(has c arg2 B.q ∗ has c arg3 B.k ∗ has c arg4 B.v ∗ has c arg5 B.b0 ∗ has c arg6 B.b1 ∗ has c arg7 B.d
          ∗ has c arg8 (oStep i B (dkStep i B dk) (dvStep i B dv) o) ∗ has c arg9 (dbStep i B t)
          ∗ has c arg10 (dkStep i B dk) ∗ has c arg11 (dvStep i B dv)) -∗ Q ⟨⟩))
    ⊢ wp frame (wpE (defs₀ (F := F)) Variants.none c none) E
        (cc0_att_bwd i arg2 harg2 arg3 harg3 arg4 harg4 arg5 harg5 arg6 harg6 arg7 harg7 arg8 harg8 arg9 harg9 arg10 harg10 arg11 harg11) Q := by
  by_cases hf : (i 1).val = 0
  · have hl : (i 1).val ≠ 15 := by omega
    have := body_first c E i arg2 harg2 arg3 harg3 arg4 harg4 arg5 harg5 arg6 harg6 arg7 harg7 arg8 harg8 arg9 harg9 arg10 harg10 arg11 harg11 hf hl B o t dk dv Q
    simpa only [oStep, dbStep, dkStep, dvStep, start, if_pos hf, if_neg hl] using this
  by_cases hl : (i 1).val = 15
  · have := body_last c E i arg2 harg2 arg3 harg3 arg4 harg4 arg5 harg5 arg6 harg6 arg7 harg7 arg8 harg8 arg9 harg9 arg10 harg10 arg11 harg11 hf hl B o t dk dv Q
    simpa only [oStep, dbStep, dkStep, dvStep, start, if_neg hf, if_pos hl] using this
  · have := body_mid c E i arg2 harg2 arg3 harg3 arg4 harg4 arg5 harg5 arg6 harg6 arg7 harg7 arg8 harg8 arg9 harg9 arg10 harg10 arg11 harg11 hf hl B o t dk dv Q
    simpa only [oStep, dbStep, dkStep, dvStep, start, if_neg hf, if_neg hl] using this

end Cert.KernelIdeal.Steps

end

end
-- ==== Proof.Run.lean ====
/-
  The launch.  What a grid point leaves is stated as a relation: the result block is only partly stored before a head pair's last step, so its contents until then depend on
  what the staging buffer held.
-/
module

public import proofs.«01_k».proof.Proof.Body

@[expose] public section

set_option maxRecDepth 16384

noncomputable section

namespace Cert.KernelIdeal.Steps

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The six input blocks of grid point `t`. -/
def blk (c : Dev nD) (t : Fin cfg0.N) : Blk F where
  q := iblk m c 0 t
  k := iblk m c 1 t
  v := iblk m c 2 t
  b0 := iblk m c 3 t
  b1 := iblk m c 4 t
  d := iblk m c 5 t

/-- `x` may be the key gradients' accumulator after `n` grid points. -/
def DkAt (c : Dev nD) : ℕ → Vec F S8192x128 .f32 → Prop
  | 0 => fun _ => True
  | n + 1 => fun x' => ∃ x, DkAt c n x ∧ ∀ h : n < cfg0.N, x' = dkStep (grid0.coords ⟨n, h⟩) (blk m c ⟨n, h⟩) x

/-- `x` may be the value gradients' accumulator after `n` grid points. -/
def DvAt (c : Dev nD) : ℕ → Vec F S8192x128 .f32 → Prop
  | 0 => fun _ => True
  | n + 1 => fun x' => ∃ x, DvAt c n x ∧ ∀ h : n < cfg0.N, x' = dvStep (grid0.coords ⟨n, h⟩) (blk m c ⟨n, h⟩) x

/-- What the region's two scratch buffers hold before grid point `n`. -/
def Scratch (c : Dev nD) (n : ℕ) : sProp 𝕄 :=
  iprop((∃ x, ⌜DkAt m c n x⌝ ∗ has c (Memref.whole cc0_scratch0) x) ∗ (∃ x, ⌜DvAt m c n x⌝ ∗ has c (Memref.whole cc0_scratch1) x) ∗ ∃ r, prngReg c r)

/-- What a grid point may leave in each window's buffer. -/
def Leaves (c : Dev nD) : (w : Fin cfg0.W) → (t : Fin cfg0.N) → (Y X : (cfg0.win w).block.Idx → Elt F (cfg0.win w).elt) → Prop
  | 6, t, Y, X => ∃ dk dv, DkAt m c (t.val + 1) dk ∧ DvAt m c (t.val + 1) dv ∧ X = oStep (grid0.coords t) (blk m c t) dk dv Y
  | 7, t, Y, X => X = dbStep (grid0.coords t) (blk m c t) Y
  | 0, _, Y, X => X = Y
  | 1, _, Y, X => X = Y
  | 2, _, Y, X => X = Y
  | 3, _, Y, X => X = Y
  | 4, _, Y, X => X = Y
  | 5, _, Y, X => X = Y

/-- The launch's proof data. -/
def data (c : Dev nD) : RDat τ (Elt F) Unit ℕ (UR sig nD τ) ℕ cfg0 c where
  A w := V m c (Pipeline.arrRef spec0 w)
  after := Leaves m c
  Φ t := Scratch m c t.val
  q w := Pipeline.shareOf spec0 w
  owed _ := 0

/-! Every input window's buffer holds its block at every grid point. -/

theorem finds0 (c : Dev nD) (t : Fin cfg0.N) (Y) (h : (data m c).Finds 0 t Y) : Y = (blk m c t).q := by
  obtain ⟨d, h⟩ := (data m c).finds_in_eq_fetched 0 rfl (fun _ _ _ => rfl) (fun _ _ _ h => h) t Y h
  exact h.trans (by unfold RDat.fetched RDat.blockOf blk iblk; rfl)
theorem finds1 (c : Dev nD) (t : Fin cfg0.N) (Y) (h : (data m c).Finds 1 t Y) : Y = (blk m c t).k := by
  obtain ⟨d, h⟩ := (data m c).finds_in_eq_fetched 1 rfl (fun _ _ _ => rfl) (fun _ _ _ h => h) t Y h
  exact h.trans (by unfold RDat.fetched RDat.blockOf blk iblk; rfl)
theorem finds2 (c : Dev nD) (t : Fin cfg0.N) (Y) (h : (data m c).Finds 2 t Y) : Y = (blk m c t).v := by
  obtain ⟨d, h⟩ := (data m c).finds_in_eq_fetched 2 rfl (fun _ _ _ => rfl) (fun _ _ _ h => h) t Y h
  exact h.trans (by unfold RDat.fetched RDat.blockOf blk iblk; rfl)
theorem finds3 (c : Dev nD) (t : Fin cfg0.N) (Y) (h : (data m c).Finds 3 t Y) : Y = (blk m c t).b0 := by
  obtain ⟨d, h⟩ := (data m c).finds_in_eq_fetched 3 rfl (fun _ _ _ => rfl) (fun _ _ _ h => h) t Y h
  exact h.trans (by unfold RDat.fetched RDat.blockOf blk iblk; rfl)
theorem finds4 (c : Dev nD) (t : Fin cfg0.N) (Y) (h : (data m c).Finds 4 t Y) : Y = (blk m c t).b1 := by
  obtain ⟨d, h⟩ := (data m c).finds_in_eq_fetched 4 rfl (fun _ _ _ => rfl) (fun _ _ _ h => h) t Y h
  exact h.trans (by unfold RDat.fetched RDat.blockOf blk iblk; rfl)
theorem finds5 (c : Dev nD) (t : Fin cfg0.N) (Y) (h : (data m c).Finds 5 t Y) : Y = (blk m c t).d := by
  obtain ⟨d, h⟩ := (data m c).finds_in_eq_fetched 5 rfl (fun _ _ _ => rfl) (fun _ _ _ h => h) t Y h
  exact h.trans (by unfold RDat.fetched RDat.blockOf blk iblk; rfl)

theorem defs₀_row (t : Fin cfg0.N) : defs₀ (F := F) .tc cfg0.body (cfg0.bodyArgs t (cfg0.slots t)) = bodyAt0 t := by
  unfold defs₀; rw [Defs.onTc_tc]

set_option maxHeartbeats 1000000 in
/-- The body at every grid point. -/
theorem obligation (c : Dev nD) : (data m c).BodyObligation (defs₀ (F := F)) Variants.none () Set.univ := by
  intro t Y hY
  have h0 : Y 0 = (blk m c t).q := finds0 m c t _ (hY 0)
  have h1 : Y 1 = (blk m c t).k := finds1 m c t _ (hY 1)
  have h2 : Y 2 = (blk m c t).v := finds2 m c t _ (hY 2)
  have h3 : Y 3 = (blk m c t).b0 := finds3 m c t _ (hY 3)
  have h4 : Y 4 = (blk m c t).b1 := finds4 m c t _ (hY 4)
  have h5 : Y 5 = (blk m c t).d := finds5 m c t _ (hY 5)
  rw [bigSep_W0, bigSep_W0, h0, h1, h2, h3, h4, h5, defs₀_row]
  show iprop(Scratch m c t.val ∗ _ ∗ _) ⊢ wp _ _ _ _ fun _ => iprop(Scratch m c (t.val + 1) ∗ _ ∗ _)
  unfold Scratch
  iintro ⟨⟨⟨%dk, %hdk, Hdk⟩, ⟨%dv, %hdv, Hdv⟩, Hr⟩, HO, H0, H1, H2, H3, H4, H5, H6, H7⟩
  have hdk' : DkAt m c (t.val + 1) (dkStep (grid0.coords t) (blk m c t) dk) := ⟨dk, hdk, fun _ => rfl⟩
  have hdv' : DvAt m c (t.val + 1) (dvStep (grid0.coords t) (blk m c t) dv) := ⟨dv, hdv, fun _ => rfl⟩
  iapply (body_run c Set.univ (grid0.coords t) _ _ _ _ _ _ _ _ _ _ _ _ _ _ _ _ _ _ _ _ (blk m c t) (Y 6) (Y 7) dk dv)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [Hdk]; · iexact Hdk
  isplitl [Hdv]; · iexact Hdv
  iintro ⟨H0, H1, H2, H3, H4, H5, H6, H7, Hdk, Hdv⟩
  isplitl [Hdk Hdv Hr]
  · isplitl [Hdk]
    · iexists _; isplitr
      swap; · iexact Hdk
      ipureintro; exact hdk'
    isplitl [Hdv]
    · iexists _; isplitr
      swap; · iexact Hdv
      ipureintro; exact hdv'
    iexact Hr
  isplitl [HO]; · iexact HO
  isplitl [H0]
  · iexists _; isplitr
    swap; · iexact H0
    ipureintro; rfl
  isplitl [H1]
  · iexists _; isplitr
    swap; · iexact H1
    ipureintro; rfl
  isplitl [H2]
  · iexists _; isplitr
    swap; · iexact H2
    ipureintro; rfl
  isplitl [H3]
  · iexists _; isplitr
    swap; · iexact H3
    ipureintro; rfl
  isplitl [H4]
  · iexists _; isplitr
    swap; · iexact H4
    ipureintro; rfl
  isplitl [H5]
  · iexists _; isplitr
    swap; · iexact H5
    ipureintro; rfl
  isplitl [H6]
  · iexists _; isplitr
    swap; · iexact H6
    ipureintro; exact ⟨_, _, hdk', hdv', rfl⟩
  · iexists _; isplitr
    swap; · iexact H7
    ipureintro; rfl

/-- The scratch buffers as the region finds and leaves them: at anything. -/
theorem scratch_in (c : Dev nD) : (Pipeline.ΦA spec0 c : sProp 𝕄) ⊢ Scratch m c 0 := by
  unfold Pipeline.ΦA Scratch
  rw [scopedRest0_eq]
  iintro ⟨⟨⟨%f, H0⟩, ⟨%g, H1⟩⟩, Hr⟩
  isplitl [H0]
  · iexists f; isplitr
    · ipureintro; trivial
    unfold has; rw [owns_whole_eq]; iexists f; isplitr
    · ipureintro; rfl
    iexact H0
  isplitl [H1]
  · iexists g; isplitr
    · ipureintro; trivial
    unfold has; rw [owns_whole_eq]; iexists g; isplitr
    · ipureintro; rfl
    iexact H1
  iexact Hr

theorem scratch_out (c : Dev nD) (n : ℕ) : Scratch m c n ⊢ (Pipeline.ΦA spec0 c : sProp 𝕄) := by
  unfold Pipeline.ΦA Scratch has
  rw [scopedRest0_eq]
  simp only [owns_whole_eq]
  iintro ⟨⟨%f, %_, %f', %_, H0⟩, ⟨%g, %_, %g', %_, H1⟩, Hr⟩
  isplitl [H0 H1]
  · isplitl [H0]
    · iexists f'; iexact H0
    · iexists g'; iexact H1
  iexact Hr

/-- The program's run: it ends, with every array at contents the relations admit and every counter at zero. -/
theorem run_main : θ_run defs (onTc (τ := τ) (main (F := F))) (s₀ m ρ)
    (fun r => RDat.FramePost cfg0 (data m) (V m) r ∧ r.2.sem = fun _ => 0) :=
  RDat.θ_run_frame_track_shared cfgs 0 launch₀0 defs₀ Variants.none (data m) m ρ main (obligation m) (fun _ _ _ => rfl) (fun _ _ => rfl) (V m)
    (hmain m Variants.none) (fun _ _ => rfl) (scratch_in m) (fun c => scratch_out m c _) (Q' := _) (fun _ h => h)

set_option maxHeartbeats 2000000 in
/-- The run leaves the arguments as they were. -/
theorem args_kept {r : PUnit × MemSt nD τ sig (Elt F)} (h : RDat.FramePost cfg0 (data m) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  have h0 : r.2.mem ((c.tc : Thread nD τ).loc main_arg0) = V m c main_arg0 := RDat.FramePost.arr_in h c 2 rfl
  have h2 : r.2.mem ((c.tc : Thread nD τ).loc main_arg2) = V m c main_arg2 := RDat.FramePost.arr_in h c 5 rfl
  have h1 : r.2.mem ((c.tc : Thread nD τ).loc main_arg1) = V m c main_arg1 :=
    (h c).2 main_arg1 (Pipeline.mem_restRefs_of main_arg1 (by decide) (by decide))
  exact ⟨h0.trans (V_main_arg0 m c), h1.trans (V_main_arg1 m c), h2.trans (V_main_arg2 m c)⟩

/-- The run read at the arguments. -/
theorem run_args : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => args_kept m h.1 c, h.2⟩) (run_main m ρ)

end Cert.KernelIdeal.Steps

end

end
-- ==== Proof.Spec.lean ====
/-
  The gradients of chunked local attention, over the real numbers.

  A query attends to the keys of its own chunk of 64 positions and of the eight chunks before it. `p` is the softmax of
  the scores, `dp` its gradient, `ds` the scores' gradient; `dq`, `dk`, `dv` are the gradients of the queries, the keys
  and the values. The facts: a softmax does not depend on the number subtracted from the scores; the scores' gradient
  in the form a differentiated division gives it; a sum over all keys is a sum over the 768 keys of a window.
-/
module

public import Idealize.ShloMosaic.PureOps.Ideal.Laws
public import Idealize.ShloMosaic.Lib.IdealHost
public import Idealize.ShloMosaic.Lib.FinSumWindow

@[expose] public section

noncomputable section

namespace Cert.Attn

open Idealize.ShloMosaic
open scoped BigOperators

/-! ### Real entries inside the extended reals -/

theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

theorem exp_coe (x : ℝ) : Ideal.exp (x : EReal) = ((Real.exp x : ℝ) : EReal) := rfl
theorem exp_bot : Ideal.exp (⊥ : EReal) = ((0 : ℝ) : EReal) := rfl

theorem div_coe (x y : ℝ) (hy : y ≠ 0) : Ideal.div (x : EReal) (y : EReal) = ((x / y : ℝ) : EReal) := by
  unfold Ideal.div
  rw [if_neg (by exact_mod_cast hy), div_eq_mul_inv, EReal.coe_mul, EReal.coe_inv]

theorem eighth_bf16 : Ideal.ofBits .bf16 0x3E00#16 = ((0.125 : ℝ) : EReal) := by
  simp [Ideal.ofBits, Ideal.ieee, -EReal.coe_mul]; norm_num
theorem eighth_f32 : Ideal.ofBits .f32 0x3E000000#32 = ((0.125 : ℝ) : EReal) := by
  simp [Ideal.ofBits, Ideal.ieee, -EReal.coe_mul]; norm_num
theorem neg_inf_f32 : Ideal.ofBits .f32 0xFF800000#32 = ⊥ := by simp [Ideal.ofBits, Ideal.ieee]

/-! ### One row of scores, some of them masked -/

section Row

variable {κ : Type} [Fintype κ] (P : κ → Prop) [DecidablePred P] (s : κ → ℝ)

/-- A masked score is −∞. -/
def masked (c : κ) : EReal := if P c then (s c : EReal) else ⊥

/-- The exponential of a score, nothing for a masked one. -/
def wt (c : κ) : ℝ := if P c then Real.exp (s c) else 0

theorem wt_shift (μ : ℝ) (c : κ) : (if P c then Real.exp (s c - μ) else 0) = wt P s c * Real.exp (-μ) := by
  unfold wt
  split
  · rw [← Real.exp_add, sub_eq_add_neg]
  · rw [zero_mul]

/-- The greatest score is a real number where some score is not masked. -/
theorem max_real (c₀ : κ) (h₀ : P c₀) : ∃ μ : ℝ, Finset.univ.fold max ⊥ (masked P s) = (μ : EReal) := by
  have hlt : Finset.univ.fold max ⊥ (masked P s) < ⊤ := by
    rw [Finset.fold_max_lt]
    refine ⟨bot_lt_top, fun x _ => ?_⟩
    unfold masked; split
    · exact EReal.coe_lt_top _
    · exact bot_lt_top
  have hgt : ((s c₀ : ℝ) : EReal) ≤ Finset.univ.fold max ⊥ (masked P s) := by
    rw [Finset.le_fold_max]
    exact .inr ⟨c₀, Finset.mem_univ _, by unfold masked; rw [if_pos h₀]⟩
  refine ⟨(Finset.univ.fold max ⊥ (masked P s)).toReal, (EReal.coe_toReal hlt.ne fun h => ?_).symm⟩
  rw [h] at hgt
  exact absurd (le_bot_iff.1 hgt) (EReal.coe_ne_bot _)

theorem exp_masked (μ : ℝ) (c : κ) : Ideal.exp (masked P s c - (μ : EReal)) = ((wt P s c * Real.exp (-μ) : ℝ) : EReal) := by
  rw [← wt_shift]
  unfold masked
  split
  · rw [← EReal.coe_sub, exp_coe]
  · rw [EReal.bot_sub, exp_bot]

theorem wt_nonneg (c : κ) : 0 ≤ wt P s c := by
  unfold wt; split
  · exact (Real.exp_pos _).le
  · exact le_rfl

theorem sum_wt_pos (c₀ : κ) (h₀ : P c₀) : 0 < ∑ c, wt P s c :=
  Finset.sum_pos' (fun c _ => wt_nonneg P s c) ⟨c₀, Finset.mem_univ _, by unfold wt; rw [if_pos h₀]; exact Real.exp_pos _⟩

theorem sum_shift (μ : ℝ) : ∑ c, wt P s c * Real.exp (-μ) = (∑ c, wt P s c) * Real.exp (-μ) := (Finset.sum_mul _ _ _).symm

/-- The normalised row does not depend on the number subtracted. -/
theorem normal_shift (μ : ℝ) (c : κ) :
    wt P s c * Real.exp (-μ) / ((∑ c, wt P s c) * Real.exp (-μ)) = wt P s c / ∑ c, wt P s c :=
  mul_div_mul_right _ _ (Real.exp_pos _).ne'

/-- The scores' gradient as differentiating `e / Σ e` gives it. -/
theorem grad_form (μ : ℝ) (g : κ → ℝ) (c₀ : κ) (h₀ : P c₀) (c : κ) :
    (g c / ((∑ c, wt P s c) * Real.exp (-μ))
        + ∑ c', -(g c' * (1 / (((∑ c, wt P s c) * Real.exp (-μ)) * ((∑ c, wt P s c) * Real.exp (-μ)))) * (wt P s c' * Real.exp (-μ))))
      * (wt P s c * Real.exp (-μ))
      = wt P s c / (∑ c, wt P s c) * (g c - ∑ c', wt P s c' / (∑ c, wt P s c) * g c') := by
  have hl := (sum_wt_pos P s c₀ h₀).ne'
  have he := (Real.exp_pos (-μ)).ne'
  generalize (∑ c, wt P s c) = l at hl ⊢
  generalize Real.exp (-μ) = a at he ⊢
  have : (∑ c', -(g c' * (1 / ((l * a) * (l * a))) * (wt P s c' * a))) = -(∑ c', wt P s c' / l * g c') / (l * a) := by
    rw [neg_div, Finset.sum_div, ← Finset.sum_neg_distrib]
    exact Finset.sum_congr rfl fun c' _ => by field_simp
  rw [this]
  field_simp
  ring

end Row

/-! ### The gradients -/

/-- Queries, keys, values and the output's gradient, by head, position and column; the bias by head and distance. -/
structure In where
  q : Fin 16 → Fin 8192 → Fin 64 → ℝ
  k : Fin 16 → Fin 8192 → Fin 64 → ℝ
  v : Fin 16 → Fin 8192 → Fin 64 → ℝ
  g : Fin 16 → Fin 8192 → Fin 64 → ℝ
  b : Fin 16 → Fin 257 → ℝ

/-- Query `i` sees key `j`: `j`'s chunk is `i`'s or one of the eight before. -/
def seen (i j : Fin 8192) : Prop := j.val / 64 ≤ i.val / 64 ∧ i.val / 64 ≤ j.val / 64 + 8
instance (i : Fin 8192) : DecidablePred (seen i) := fun j => by unfold seen; infer_instance

theorem seen_self (i : Fin 8192) : seen i i := ⟨le_rfl, Nat.le_add_right _ _⟩

/-- The place in the bias table of the distance from key `j` to query `i`, clipped to 128 each way. -/
def rel (i j : Fin 8192) : Fin 257 := ⟨min 128 (i.val - j.val) + 128 - min 128 (j.val - i.val), by omega⟩

variable (X : In) (h : Fin 16)

def score (i j : Fin 8192) : ℝ := (∑ d, X.q h i d * 0.125 * X.k h j d) + X.b h (rel i j)
def w (i j : Fin 8192) : ℝ := wt (seen i) (score X h i) j
def p (i j : Fin 8192) : ℝ := w X h i j / ∑ j, w X h i j
def dp (i j : Fin 8192) : ℝ := ∑ d, X.g h i d * X.v h j d
def ds (i j : Fin 8192) : ℝ := p X h i j * (dp X h i j - ∑ j, p X h i j * dp X h i j)
def dq (i : Fin 8192) (d : Fin 64) : ℝ := (∑ j, ds X h i j * X.k h j d) * 0.125
def dk (j : Fin 8192) (d : Fin 64) : ℝ := ∑ i, ds X h i j * (X.q h i d * 0.125)
def dv (j : Fin 8192) (d : Fin 64) : ℝ := ∑ i, p X h i j * X.g h i d

theorem w_of_not_seen {i j : Fin 8192} (hn : ¬ seen i j) : w X h i j = 0 := if_neg hn
theorem p_of_not_seen {i j : Fin 8192} (hn : ¬ seen i j) : p X h i j = 0 := by rw [p, w_of_not_seen X h hn, zero_div]
theorem ds_of_not_seen {i j : Fin 8192} (hn : ¬ seen i j) : ds X h i j = 0 := by rw [ds, p_of_not_seen X h hn, zero_mul]

/-! ### Groups of 256 queries and their windows of 768 keys -/

/-- The query of group `n` in row `r`, and the key of group `n`'s window in row `c`. -/
def row (n : Fin 32) (r : Fin 256) : Fin 8192 := ⟨256 * n.val + r.val, by omega⟩
def lo (n : ℕ) : ℕ := 256 * n - 512
def key (n : Fin 32) (c : Fin 768) : Fin 8192 := ⟨lo n.val + c.val, by unfold lo; omega⟩

theorem seen_window (n : Fin 32) (r : Fin 256) (j : Fin 8192) (hs : seen (row n r) j) : lo n.val ≤ j.val ∧ j.val < lo n.val + 768 := by
  unfold seen row at hs; unfold lo; dsimp only at hs; omega

/-- A sum over the keys that vanishes on those a query does not see is a sum over its window. -/
theorem sum_key {R : Type} [AddCommMonoid R] (n : Fin 32) (r : Fin 256) (f : Fin 8192 → R) (hf : ∀ j, ¬ seen (row n r) j → f j = 0) :
    ∑ j, f j = ∑ c, f (key n c) :=
  FinSumWindow.sum_window (lo n.val) (by unfold lo; omega) f fun j hj => hf j fun hs => hj (seen_window n r j hs)

/-- The query itself is in its window. -/
def self (n : Fin 32) (r : Fin 256) : Fin 768 := ⟨256 * n.val + r.val - lo n.val, by unfold lo; omega⟩
theorem key_self (n : Fin 32) (r : Fin 256) : key n (self n r) = row n r :=
  Fin.ext (by unfold key self row lo; dsimp only; omega)

end Cert.Attn

end

end
-- ==== Proof.Group.lean ====
/-
  What one group of 256 queries and one head compute from their blocks, entry by entry: on blocks that hold real
  numbers and a bias tile that holds −∞ where a key is not seen, every entry is the real gradient's.
-/
module

public import proofs.«01_k».proof.Proof.Steps
public import proofs.«01_k».proof.Proof.Spec
public import Idealize.ShloMosaic.Lib.Pointwise.Tactic
public import Idealize.ShloMosaic.Lib.Pointwise.Contract
public import Idealize.ShloMosaic.Lib.Pointwise.Reduce
public import Idealize.ShloMosaic.Lib.Pointwise.Reshape
public import Idealize.ShloMosaic.Lib.Pointwise.ShapeOps
public import Idealize.ShloMosaic.Lib.Pointwise.Select

@[expose] public section

set_option maxRecDepth 16384

noncomputable section

namespace Cert.KernelIdeal.Group

open Cert.KernelIdeal Cert.KernelIdeal.Gen Cert.Attn
open Idealize.ShloMosaic Idealize.ShloMosaic.TcCoe
open scoped BigOperators

/-! ### The group's values as functions of its blocks -/

section
variable {F : FTy → Type} [FloatOps F]
abbrev E (q : Vec F S256x64 .bf16) (k : Vec F S768x64 .bf16) (b : Vec F S1x1x256x768 .f32) : Vec F S256x768 .f32 := k0_pay19 (k0_pay10 q) k b
abbrev Pr (e : Vec F S256x768 .f32) : Vec F S256x768 .f32 := k0_pay30 e
def G (v : Vec F S768x64 .bf16) (d : Vec F S256x64 .bf16) : Vec F S256x768 .f32 :=
  matmul dot_S256x64_S768x64_S256x768_1_1_0_0_n_n none d v (constant S256x768 .f32 0x00000000#32)
abbrev DS (g p : Vec F S256x768 .f32) : Vec F S256x768 .f32 := k0_pay38 g p
abbrev DQ (k : Vec F S768x64 .bf16) (g p : Vec F S256x768 .f32) : Vec F S256x64 .f32 := k0_pay46 k g p
abbrev DK (q : Vec F S256x64 .bf16) (g p : Vec F S256x768 .f32) : Vec F S768x64 .f32 := k0_pay51 (k0_pay10 q) (k0_pay42 g p)
abbrev DV (d : Vec F S256x64 .bf16) (p : Vec F S256x768 .f32) : Vec F S768x64 .f32 := k0_pay34 d p
end

/-- The group's blocks hold these real numbers. -/
structure Holds (X : In) (h : Fin 16) (n : Fin 32) (q : Vec Ideal S256x64 .bf16) (k v : Vec Ideal S768x64 .bf16)
    (b : Vec Ideal S1x1x256x768 .f32) (d : Vec Ideal S256x64 .bf16) : Prop where
  q : ∀ (r : Fin 256) (x : Fin 64), q (ix2 r x) = ((X.q h (row n r) x : ℝ) : EReal)
  k : ∀ (c : Fin 768) (x : Fin 64), k (ix2 c x) = ((X.k h (key n c) x : ℝ) : EReal)
  v : ∀ (c : Fin 768) (x : Fin 64), v (ix2 c x) = ((X.v h (key n c) x : ℝ) : EReal)
  d : ∀ (r : Fin 256) (x : Fin 64), d (ix2 r x) = ((X.g h (row n r) x : ℝ) : EReal)
  b : ∀ (r : Fin 256) (c : Fin 768), b (ix4 0 0 r c)
    = if seen (row n r) (key n c) then ((X.b h (rel (row n r) (key n c)) : ℝ) : EReal) else ⊥

variable {X : In} {h : Fin 16} {n : Fin 32} {q : Vec Ideal S256x64 .bf16} {k v : Vec Ideal S768x64 .bf16}
  {b : Vec Ideal S1x1x256x768 .f32} {d : Vec Ideal S256x64 .bf16}

/-- A row's seen keys and scores, in the window. -/
abbrev sees (n : Fin 32) (r : Fin 256) (c : Fin 768) : Prop := seen (row n r) (key n c)
abbrev sc (X : In) (h : Fin 16) (n : Fin 32) (r : Fin 256) (c : Fin 768) : ℝ := score X h (row n r) (key n c)

theorem wt_window (X : In) (h : Fin 16) (n : Fin 32) (r : Fin 256) (c : Fin 768) : wt (sees n r) (sc X h n r) c = w X h (row n r) (key n c) := rfl

theorem sum_window (X : In) (h : Fin 16) (n : Fin 32) (r : Fin 256) : ∑ c, wt (sees n r) (sc X h n r) c = ∑ j, w X h (row n r) j :=
  (sum_key n r _ fun _ hj => w_of_not_seen X h hj).symm

theorem score_entry (H : Holds X h n q k v b d) (r : Fin 256) (c : Fin 768) :
    (∑ x : Fin 64, q (ix2 r x) * ((0.125 : ℝ) : EReal) * k (ix2 c x)) + b (ix4 0 0 r c) = masked (sees n r) (sc X h n r) c := by
  have : (∑ x : Fin 64, q (ix2 r x) * ((0.125 : ℝ) : EReal) * k (ix2 c x)) = ((∑ x, X.q h (row n r) x * 0.125 * X.k h (key n c) x : ℝ) : EReal) := by
    rw [← coe_sum]
    exact Finset.sum_congr rfl fun x _ => by rw [H.q, H.k, EReal.coe_mul, EReal.coe_mul]
  rw [this, H.b, masked]
  split
  · rw [← EReal.coe_add]; rfl
  · exact EReal.add_bot _

/-- The exponentials, up to one factor per row. -/
theorem E_entry (H : Holds X h n q k v b d) (r : Fin 256) :
    ∃ μ : ℝ, ∀ c : Fin 768, E q k b (ix2 r c) = ((wt (sees n r) (sc X h n r) c * Real.exp (-μ) : ℝ) : EReal) := by
  obtain ⟨μ, hμ⟩ := max_real (sees n r) (sc X h n r) (self n r) (by unfold sees; rw [key_self]; exact seen_self _)
  refine ⟨μ, fun c => ?_⟩
  rw [← exp_masked, ← hμ]
  pointwise [k0_pay19, k0_pay10]
  simp only [eighth_bf16, neg_inf_f32, score_entry H]

/-- The probabilities. -/
theorem P_entry (H : Holds X h n q k v b d) (r : Fin 256) (c : Fin 768) :
    Pr (E q k b) (ix2 r c) = ((p X h (row n r) (key n c) : ℝ) : EReal) := by
  obtain ⟨μ, hμ⟩ := E_entry H r
  have hl : (∑ c, wt (sees n r) (sc X h n r) c) * Real.exp (-μ) ≠ 0 :=
    mul_ne_zero (sum_wt_pos _ _ (self n r) (by unfold sees; rw [key_self]; exact seen_self _)).ne' (Real.exp_pos _).ne'
  generalize E q k b = e at hμ ⊢
  pointwise [k0_pay30]
  simp only [hμ, coe_sum, sum_shift]
  rw [← EReal.coe_one, div_coe _ _ hl, ← EReal.coe_mul, mul_one_div, normal_shift, wt_window, sum_window]
  rfl

/-- The probabilities' gradient. -/
theorem G_entry (H : Holds X h n q k v b d) (r : Fin 256) (c : Fin 768) :
    G v d (ix2 r c) = ((dp X h (row n r) (key n c) : ℝ) : EReal) := by
  pointwise [G]
  simp only [H.d, H.v, ← EReal.coe_mul, coe_sum]
  rfl

/-- The scores' gradient. -/
theorem DS_entry (H : Holds X h n q k v b d) (r : Fin 256) (c : Fin 768) :
    DS (G v d) (Pr (E q k b)) (ix2 r c) = ((ds X h (row n r) (key n c) : ℝ) : EReal) := by
  have hp := P_entry H; have hg := G_entry H
  generalize Pr (E q k b) = e at hp ⊢
  generalize G v d = g at hg ⊢
  pointwise [k0_pay38]
  simp only [hp, hg, ← EReal.coe_mul, coe_sum, ← EReal.coe_sub]
  rw [ds, sum_key n r _ fun j hj => by rw [p_of_not_seen X h hj, zero_mul]]

/-- The queries' gradient. -/
theorem DQ_entry (H : Holds X h n q k v b d) (r : Fin 256) (x : Fin 64) :
    DQ k (G v d) (Pr (E q k b)) (ix2 r x) = ((dq X h (row n r) x : ℝ) : EReal) := by
  have hs := DS_entry H
  unfold DQ k0_pay46 k0_pay42
  unfold DS at hs
  generalize k0_pay38 (G v d) (Pr (E q k b)) = s at hs ⊢
  pointwise
  simp only [hs, H.k, eighth_f32, ← EReal.coe_mul, coe_sum]
  rw [dq, sum_key n r _ fun j hj => by rw [ds_of_not_seen X h hj, zero_mul]]

/-- The group's part of the keys' gradient. -/
theorem DK_entry (H : Holds X h n q k v b d) (c : Fin 768) (x : Fin 64) :
    DK q (G v d) (Pr (E q k b)) (ix2 c x) = ((∑ r, ds X h (row n r) (key n c) * (X.q h (row n r) x * 0.125) : ℝ) : EReal) := by
  have hs := DS_entry H
  unfold DK k0_pay51 k0_pay42 k0_pay10
  unfold DS at hs
  generalize k0_pay38 (G v d) (Pr (E q k b)) = s at hs ⊢
  pointwise
  simp only [hs, H.q, eighth_bf16, ← EReal.coe_mul, coe_sum]

/-- The group's part of the values' gradient. -/
theorem DV_entry (H : Holds X h n q k v b d) (c : Fin 768) (x : Fin 64) :
    DV d (Pr (E q k b)) (ix2 c x) = ((∑ r, p X h (row n r) (key n c) * X.g h (row n r) x : ℝ) : EReal) := by
  have hp := P_entry H
  generalize Pr (E q k b) = e at hp ⊢
  pointwise [k0_pay34]
  simp only [hp, H.d, ← EReal.coe_mul, coe_sum]

end Cert.KernelIdeal.Group

end

end
-- ==== Proof.StepValue.lean ====
/-
  What one step does, entry by entry: the result block's rows of the two groups take the queries' gradient, and each
  group adds its part to the keys' and the values' accumulators.
-/
module

public import proofs.«01_k».proof.Proof.Group

@[expose] public section

set_option maxRecDepth 16384

noncomputable section

namespace Cert.KernelIdeal.Steps

open Cert.KernelIdeal Cert.KernelIdeal.Gen Cert.Attn Cert.KernelIdeal.Group
open Idealize.ShloMosaic Idealize.ShloMosaic.TcCoe
open scoped BigOperators

/-! ### Windows by coordinates -/

theorem off1_eq (i : grid0.Coords) (r : Fin 2) : k0_off1 i (BitVec.ofNat 32 r.val) = ![lo (2 * (i 1).val + r.val), 0] := by
  have r_r : r.val < 2 := r.isLt
  have h_r : Affine.IsInt (BitVec.ofNat 32 r.val) ((r.val : Int)) := Affine.ofNat _ (by omega)
  have h_2 : Affine.IsInt 2#32 (2) := Affine.ofNat _ (by omega)
  have r_i1 : (i 1).val < 16 := (i 1).isLt
  have h_i : Affine.IsInt (BitVec.ofNat 32 (i 1).val) (((i 1).val : Int)) := Affine.ofNat _ (by omega)
  have h_v3 : Affine.IsInt _ (2 * ((i 1).val : Int)) := Affine.muli h_2 h_i (by omega)
  have h_v4 : Affine.IsInt _ (2 * ((i 1).val : Int) + (r.val : Int)) := Affine.addi h_v3 h_r (by omega)
  have h_256 : Affine.IsInt 256#32 (256) := Affine.ofNat _ (by omega)
  have h_v5 : Affine.IsInt _ (512 * ((i 1).val : Int) + 256 * (r.val : Int)) := Affine.muli h_v4 h_256 (by omega)
  have h_512 : Affine.IsInt 512#32 (512) := Affine.ofNat _ (by omega)
  have h_v6 : Affine.IsInt _ (512 * ((i 1).val : Int) + 256 * (r.val : Int) - 512) := Affine.subi h_v5 h_512 (by omega)
  have h_0 : Affine.IsInt 0#32 (0) := Affine.ofNat _ (by omega)
  have h_v7 : Affine.IsInt _ ((max (512 * ((i 1).val : Int) + 256 * (r.val : Int) - 512) 0)) := Affine.maxsi h_v6 h_0 (by omega)
  have h_v14 : Affine.IsInt _ ((max (512 * ((i 1).val : Int) + 256 * (r.val : Int) - 512) 0)) := Affine.indexCast h_v7
  exact Affine.vec_cons h_v14 (by unfold lo; omega) <| Affine.vec_cons (Affine.ofNat 0 (by omega) : Affine.IsInt 0#32 0) (by omega) <| Affine.vec_nil

theorem window_rows {α : Type} (x : S8192x128.Idx → α) {off : Fin 2 → ℕ} {o : ℕ} (h : off = ![o, 0])
    (inb : ∀ a, off a + S768x128.size a ≤ S8192x128.size a) (c : Fin 768) (y : Fin 128) (ho : o + c.val < 8192) :
    VecWindow.window x off S768x128.size inb (ix2 c y) = x (ix2 ⟨o + c.val, ho⟩ y) := by
  subst h
  refine congrArg x (funext fun a => Fin.ext ?_)
  match a with
  | ⟨0, _⟩ => show o + 1 * c.val = o + c.val; omega
  | ⟨1, _⟩ => show 0 + 1 * y.val = y.val; omega

theorem put_rows_in {α : Type} (x : S8192x128.Idx → α) {off : Fin 2 → ℕ} {o : ℕ} (h : off = ![o, 0]) (w : S768x128.Idx → α)
    (j : Fin 8192) (y : Fin 128) (c : Fin 768) (hc : j.val = o + c.val) :
    VecWindow.put x off S768x128.size w (ix2 j y) = w (ix2 c y) := by
  subst h
  have hm : ∀ a : Fin 2, (![o, 0] : Fin 2 → ℕ) a ≤ ((ix2 j y : S8192x128.Idx) a).val ∧ ((ix2 j y : S8192x128.Idx) a).val < (![o, 0] : Fin 2 → ℕ) a + S768x128.size a := fun a =>
    match a with
    | ⟨0, _⟩ => by show o ≤ j.val ∧ j.val < o + 768; omega
    | ⟨1, _⟩ => by show 0 ≤ y.val ∧ y.val < 0 + 128; omega
  refine (dif_pos hm).trans (congrArg w (funext fun a => Fin.ext ?_))
  match a with
  | ⟨0, _⟩ => show j.val - o = c.val; omega
  | ⟨1, _⟩ => show y.val - 0 = y.val; omega

theorem put_rows_out {α : Type} (x : S8192x128.Idx → α) {off : Fin 2 → ℕ} {o : ℕ} (h : off = ![o, 0]) (w : S768x128.Idx → α)
    (j : Fin 8192) (y : Fin 128) (hj : ¬ (o ≤ j.val ∧ j.val < o + 768)) :
    VecWindow.put x off S768x128.size w (ix2 j y) = x (ix2 j y) := by
  subst h
  exact dif_neg fun hm => hj (hm 0)

/-! ### The accumulators -/

/-- Head and column of a head pair's column. -/
def hd (a : Fin 8) (y : Fin 128) : Fin 16 := ⟨2 * a.val + y.val / 64, by omega⟩
def cl (y : Fin 128) : Fin 64 := ⟨y.val % 64, by omega⟩

/-- A group's parts of the keys' and the values' gradients. -/
def partK (X : In) (h : Fin 16) (n : Fin 32) (j : Fin 8192) (x : Fin 64) : ℝ := ∑ r, ds X h (row n r) j * (X.q h (row n r) x * 0.125)
def partV (X : In) (h : Fin 16) (n : Fin 32) (j : Fin 8192) (x : Fin 64) : ℝ := ∑ r, p X h (row n r) j * X.g h (row n r) x

theorem partK_off (X : In) (h : Fin 16) (n : Fin 32) (j : Fin 8192) (x : Fin 64) (hj : ¬ (lo n.val ≤ j.val ∧ j.val < lo n.val + 768)) :
    partK X h n j x = 0 :=
  Finset.sum_eq_zero fun r _ => by rw [ds_of_not_seen X h fun hs => hj (seen_window n r j hs), zero_mul]
theorem partV_off (X : In) (h : Fin 16) (n : Fin 32) (j : Fin 8192) (x : Fin 64) (hj : ¬ (lo n.val ≤ j.val ∧ j.val < lo n.val + 768)) :
    partV X h n j x = 0 :=
  Finset.sum_eq_zero fun r _ => by rw [p_of_not_seen X h fun hs => hj (seen_window n r j hs), zero_mul]

/-- One group's addition to an accumulator. -/
theorem add_group (a : Fin 8) (n : Fin 32) (T : Fin 16 → Fin 8192 → Fin 64 → ℝ)
    (hT : ∀ h j x, ¬ (lo n.val ≤ j.val ∧ j.val < lo n.val + 768) → T h j x = 0)
    (l r : Vec Ideal S768x64 .f32)
    (hl : ∀ c x, l (ix2 c x) = ((T ⟨2 * a.val, by omega⟩ (key n c) x : ℝ) : EReal))
    (hr : ∀ c x, r (ix2 c x) = ((T ⟨2 * a.val + 1, by omega⟩ (key n c) x : ℝ) : EReal))
    (x : Vec Ideal S8192x128 .f32) (A : Fin 8192 → Fin 128 → ℝ) (hx : ∀ j y, x (ix2 j y) = ((A j y : ℝ) : EReal))
    {off : Fin 2 → ℕ} (h : off = ![lo n.val, 0]) (inb : ∀ a, off a + S768x128.size a ≤ S8192x128.size a) (j : Fin 8192) (y : Fin 128) :
    VecWindow.put x off S768x128.size (k0_pay60 l r (VecWindow.window x off S768x128.size inb)) (ix2 j y)
      = ((A j y + T (hd a y) j (cl y) : ℝ) : EReal) := by
  by_cases hj : lo n.val ≤ j.val ∧ j.val < lo n.val + 768
  · have hc : j.val = lo n.val + (⟨j.val - lo n.val, by omega⟩ : Fin 768).val := by show _ = _ + (_ - _); omega
    have hk : key n ⟨j.val - lo n.val, by omega⟩ = j := Fin.ext hc.symm
    rw [put_rows_in x h _ j y _ hc]
    have hw : VecWindow.window x off S768x128.size inb (ix2 ⟨j.val - lo n.val, by omega⟩ y) = ((A j y : ℝ) : EReal) := by
      rw [window_rows x h inb _ y (by show _ + (_ - _) < _; omega), hx]
      exact congrArg (fun i => ((A i y : ℝ) : EReal)) hk
    rw [EReal.coe_add, ← hw]
    generalize VecWindow.window x off S768x128.size inb = v
    pointwise [k0_pay60]
    refine congrArg (v _ + ·) ?_
    split
    · rename_i hy
      rw [hl, hk]
      exact congrArg₂ (fun h x => ((T h j x : ℝ) : EReal)) (Fin.ext (by show 2 * a.val = 2 * a.val + y.val / 64; omega)) (Fin.ext (by show y.val = y.val % 64; omega))
    · rename_i hy
      rw [hr, hk]
      exact congrArg₂ (fun h x => ((T h j x : ℝ) : EReal)) (Fin.ext (by show 2 * a.val + 1 = 2 * a.val + y.val / 64; omega)) (Fin.ext (by show y.val - 64 = y.val % 64; omega))
  · rw [put_rows_out x h _ j y hj, hx, hT _ _ _ hj, add_zero]

/-! ### A step's blocks -/

/-- Group `g` of step `i`. -/
def grp (i : grid0.Coords) (g : Fin 2) : Fin 32 := ⟨2 * (i 1).val + g.val, by have : (i 1).val < 16 := (i 1).isLt; omega⟩

/-- Row `r` of a step's query block is this query. -/
def qrow (i : grid0.Coords) (r : Fin 512) : Fin 8192 := ⟨512 * (i 1).val + r.val, by have : (i 1).val < 16 := (i 1).isLt; omega⟩

/-- The entry of a group's bias tile. -/
def bias (X : In) (h : Fin 16) (n : Fin 32) (r : Fin 256) (c : Fin 768) : EReal :=
  if seen (row n r) (key n c) then ((X.b h (rel (row n r) (key n c)) : ℝ) : EReal) else ⊥

/-- The blocks of step `i` of head pair `a` hold these real numbers. -/
structure BlkHolds (X : In) (a : Fin 8) (i : grid0.Coords) (B : Blk Ideal) : Prop where
  q : ∀ (r : Fin 512) (y : Fin 128), B.q (ix2 r y) = ((X.q (hd a y) (qrow i r) (cl y) : ℝ) : EReal)
  k : ∀ (j : Fin 8192) (y : Fin 128), B.k (ix2 j y) = ((X.k (hd a y) j (cl y) : ℝ) : EReal)
  v : ∀ (j : Fin 8192) (y : Fin 128), B.v (ix2 j y) = ((X.v (hd a y) j (cl y) : ℝ) : EReal)
  d : ∀ (r : Fin 512) (y : Fin 128), B.d (ix2 r y) = ((X.g (hd a y) (qrow i r) (cl y) : ℝ) : EReal)
  b0 : ∀ (e : Fin 2) (r : Fin 256) (c : Fin 768), B.b0 (ix4 e 0 r c) = bias X ⟨2 * a.val + e.val, by omega⟩ (grp i 0) r c
  b1 : ∀ (e : Fin 2) (r : Fin 256) (c : Fin 768), B.b1 (ix4 e 0 r c) = bias X ⟨2 * a.val + e.val, by omega⟩ (grp i 1) r c

variable {X : In} {a : Fin 8} {i : grid0.Coords} {B : Blk Ideal}

theorem quarter {α : Type} (x : S512x128.Idx → α) {o o' : ℕ} (inb : ∀ a, (![o, o'] : Fin 2 → ℕ) a + S256x64.size a ≤ S512x128.size a)
    (r : Fin 256) (c : Fin 64) (ho : o + r.val < 512) (ho' : o' + c.val < 128) :
    VecWindow.window x ![o, o'] S256x64.size inb (ix2 r c) = x (ix2 ⟨o + r.val, ho⟩ ⟨o' + c.val, ho'⟩) := by
  refine congrArg x (funext fun a => Fin.ext ?_)
  match a with
  | ⟨0, _⟩ => show o + 1 * r.val = o + r.val; omega
  | ⟨1, _⟩ => show o' + 1 * c.val = o' + c.val; omega

theorem tile_at {α : Type} (x : S2x1x256x768.Idx → α) {o : ℕ} (inb : ∀ a, (![o, 0, 0, 0] : Fin 4 → ℕ) a + S1x1x256x768.size a ≤ S2x1x256x768.size a)
    (r : Fin 256) (c : Fin 768) (e : Fin 2) (ho : e.val = o) :
    VecWindow.window x ![o, 0, 0, 0] S1x1x256x768.size inb (ix4 0 0 r c) = x (ix4 e 0 r c) := by
  refine congrArg x (funext fun a => Fin.ext ?_)
  match a with
  | ⟨0, _⟩ => show o + 1 * 0 = e.val; omega
  | ⟨1, _⟩ => rfl
  | ⟨2, _⟩ => show 0 + 1 * r.val = r.val; omega
  | ⟨3, _⟩ => show 0 + 1 * c.val = c.val; omega

/-- Head `e` of the pair, its columns in the head pair's block, and the rows of group `g` in the step's block. -/
abbrev hof (a : Fin 8) (e : Fin 2) : Fin 16 := ⟨2 * a.val + e.val, by omega⟩
abbrev col (e : Fin 2) (x : Fin 64) : Fin 128 := ⟨64 * e.val + x.val, by omega⟩
abbrev brow (g : Fin 2) (r : Fin 256) : Fin 512 := ⟨256 * g.val + r.val, by omega⟩

theorem hd_col (a : Fin 8) (e : Fin 2) (x : Fin 64) : hd a (col e x) = hof a e := Fin.ext (by unfold hd; dsimp only; omega)
theorem cl_col (e : Fin 2) (x : Fin 64) : cl (col e x) = x := Fin.ext (by unfold cl; dsimp only; omega)
theorem qrow_brow (i : grid0.Coords) (g : Fin 2) (r : Fin 256) : qrow i (brow g r) = row (grp i g) r :=
  Fin.ext (by unfold qrow row grp; dsimp only; omega)

/-- A group and head of a step hold the step's real numbers. -/
theorem holds_of (H : BlkHolds X a i B) (g e : Fin 2) {q : Vec Ideal S256x64 .bf16} {k v : Vec Ideal S768x64 .bf16}
    {b : Vec Ideal S1x1x256x768 .f32} {d : Vec Ideal S256x64 .bf16}
    (hq : ∀ r x, q (ix2 r x) = B.q (ix2 (brow g r) (col e x))) (hk : ∀ c x, k (ix2 c x) = B.k (ix2 (key (grp i g) c) (col e x)))
    (hv : ∀ c x, v (ix2 c x) = B.v (ix2 (key (grp i g) c) (col e x))) (hb : ∀ r c, b (ix4 0 0 r c) = bias X (hof a e) (grp i g) r c)
    (hdd : ∀ r x, d (ix2 r x) = B.d (ix2 (brow g r) (col e x))) : Holds X (hof a e) (grp i g) q k v b d where
  q r x := by rw [hq, H.q, hd_col, cl_col, qrow_brow]
  k c x := by rw [hk, H.k, hd_col, cl_col]
  v c x := by rw [hv, H.v, hd_col, cl_col]
  d r x := by rw [hdd, H.d, hd_col, cl_col, qrow_brow]
  b r c := hb r c

theorem left_cols (w : Vec Ideal S768x128 .bf16) (c : Fin 768) (x : Fin 64) : k0_pay14 w (ix2 c x) = w (ix2 c (col 0 x)) := by
  pointwise [k0_pay14]
  exact congrArg (fun y => w (ix2 c y)) (Fin.ext (by show x.val = 64 * 0 + x.val; omega))
theorem right_cols (w : Vec Ideal S768x128 .bf16) (c : Fin 768) (x : Fin 64) : k0_pay15 w (ix2 c x) = w (ix2 c (col 1 x)) := by
  pointwise [k0_pay15]
  rfl

theorem win0_at (x : S8192x128.Idx → Ideal .bf16) (c : Fin 768) (y : Fin 128) : win0 i x (ix2 c y) = x (ix2 (key (grp i 0) c) y) :=
  window_rows x (off1_eq i 0) _ c y (key (grp i 0) c).isLt
theorem win1_at (x : S8192x128.Idx → Ideal .bf16) (c : Fin 768) (y : Fin 128) : win1 i x (ix2 c y) = x (ix2 (key (grp i 1) c) y) :=
  window_rows x (off1_eq i 1) _ c y (key (grp i 1) c).isLt

theorem quarter_at {α : Type} (x : S512x128.Idx → α) (g e : Fin 2) {o o' : ℕ} (ho : o = 256 * g.val) (ho' : o' = 64 * e.val)
    (inb : ∀ a, (![o, o'] : Fin 2 → ℕ) a + S256x64.size a ≤ S512x128.size a) (r : Fin 256) (c : Fin 64) :
    VecWindow.window x ![o, o'] S256x64.size inb (ix2 r c) = x (ix2 (brow g r) (col e c)) := by
  subst ho ho'
  exact quarter x inb r c (brow g r).isLt (col e c).isLt

/-- The four groups and heads of a step. -/
theorem holds00 (H : BlkHolds X a i B) :
    Holds X (hof a 0) (grp i 0) (q00 B.q) (k0_pay14 (win0 i B.k)) (k0_pay14 (win0 i B.v)) (tile0 B.b0) (q00 B.d) :=
  holds_of H 0 0 (quarter_at _ 0 0 rfl rfl _) (fun c x => by rw [left_cols, win0_at]) (fun c x => by rw [left_cols, win0_at])
    (fun r c => (tile_at _ _ r c 0 rfl).trans (H.b0 0 r c)) (quarter_at _ 0 0 rfl rfl _)
theorem holds01 (H : BlkHolds X a i B) :
    Holds X (hof a 1) (grp i 0) (q01 B.q) (k0_pay15 (win0 i B.k)) (k0_pay15 (win0 i B.v)) (tile1 B.b0) (q01 B.d) :=
  holds_of H 0 1 (quarter_at _ 0 1 rfl rfl _) (fun c x => by rw [right_cols, win0_at]) (fun c x => by rw [right_cols, win0_at])
    (fun r c => (tile_at _ _ r c 1 rfl).trans (H.b0 1 r c)) (quarter_at _ 0 1 rfl rfl _)
theorem holds10 (H : BlkHolds X a i B) :
    Holds X (hof a 0) (grp i 1) (q10 B.q) (k0_pay14 (win1 i B.k)) (k0_pay14 (win1 i B.v)) (tile0 B.b1) (q10 B.d) :=
  holds_of H 1 0 (quarter_at _ 1 0 rfl rfl _) (fun c x => by rw [left_cols, win1_at]) (fun c x => by rw [left_cols, win1_at])
    (fun r c => (tile_at _ _ r c 0 rfl).trans (H.b1 0 r c)) (quarter_at _ 1 0 rfl rfl _)
theorem holds11 (H : BlkHolds X a i B) :
    Holds X (hof a 1) (grp i 1) (q11 B.q) (k0_pay15 (win1 i B.k)) (k0_pay15 (win1 i B.v)) (tile1 B.b1) (q11 B.d) :=
  holds_of H 1 1 (quarter_at _ 1 1 rfl rfl _) (fun c x => by rw [right_cols, win1_at]) (fun c x => by rw [right_cols, win1_at])
    (fun r c => (tile_at _ _ r c 1 rfl).trans (H.b1 1 r c)) (quarter_at _ 1 1 rfl rfl _)

/-! ### The step's additions -/

/-- The keys' accumulator after a step's two groups. -/
theorem dkAdd_entry (H : BlkHolds X a i B) (x : Vec Ideal S8192x128 .f32) (A : Fin 8192 → Fin 128 → ℝ)
    (hx : ∀ j y, x (ix2 j y) = ((A j y : ℝ) : EReal)) (j : Fin 8192) (y : Fin 128) :
    dkAdd i B x (ix2 j y) = ((A j y + partK X (hd a y) (grp i 0) j (cl y) + partK X (hd a y) (grp i 1) j (cl y) : ℝ) : EReal) :=
  add_group a (grp i 1) (fun h j x => partK X h (grp i 1) j x) (fun h j x hj => partK_off X h _ j x hj) (dk10 i B) (dk11 i B)
    (DK_entry (holds10 H)) (DK_entry (holds11 H)) _ _
    (add_group a (grp i 0) (fun h j x => partK X h (grp i 0) j x) (fun h j x hj => partK_off X h _ j x hj) (dk00 i B) (dk01 i B)
      (DK_entry (holds00 H)) (DK_entry (holds01 H)) x A hx (off1_eq i 0) _) (off1_eq i 1) _ j y

/-- The values' accumulator after a step's two groups. -/
theorem dvAdd_entry (H : BlkHolds X a i B) (x : Vec Ideal S8192x128 .f32) (A : Fin 8192 → Fin 128 → ℝ)
    (hx : ∀ j y, x (ix2 j y) = ((A j y : ℝ) : EReal)) (j : Fin 8192) (y : Fin 128) :
    dvAdd i B x (ix2 j y) = ((A j y + partV X (hd a y) (grp i 0) j (cl y) + partV X (hd a y) (grp i 1) j (cl y) : ℝ) : EReal) :=
  add_group a (grp i 1) (fun h j x => partV X h (grp i 1) j x) (fun h j x hj => partV_off X h _ j x hj) (dv10 i B) (dv11 i B)
    (DV_entry (holds10 H)) (DV_entry (holds11 H)) _ _
    (add_group a (grp i 0) (fun h j x => partV X h (grp i 0) j x) (fun h j x hj => partV_off X h _ j x hj) (dv00 i B) (dv01 i B)
      (DV_entry (holds00 H)) (DV_entry (holds01 H)) x A hx (off1_eq i 0) _) (off1_eq i 1) _ j y

/-! ### The result block -/

theorem put_block_in {α : Type} (x : S3x8192x128.Idx → α) {off : Fin 3 → ℕ} {o : ℕ} (h : off = ![0, o, 0]) (w : S1x256x128.Idx → α)
    (j : Fin 8192) (y : Fin 128) (c : Fin 256) (hc : j.val = o + c.val) :
    VecWindow.put x off S1x256x128.size w (ix3 0 j y) = w (ix3 0 c y) := by
  subst h
  have hm : ∀ a : Fin 3, (![0, o, 0] : Fin 3 → ℕ) a ≤ ((ix3 0 j y : S3x8192x128.Idx) a).val ∧ ((ix3 0 j y : S3x8192x128.Idx) a).val < (![0, o, 0] : Fin 3 → ℕ) a + S1x256x128.size a := fun a =>
    match a with
    | ⟨0, _⟩ => by show 0 ≤ 0 ∧ 0 < 0 + 1; omega
    | ⟨1, _⟩ => by show o ≤ j.val ∧ j.val < o + 256; omega
    | ⟨2, _⟩ => by show 0 ≤ y.val ∧ y.val < 0 + 128; omega
  refine (dif_pos hm).trans (congrArg w (funext fun a => Fin.ext ?_))
  match a with
  | ⟨0, _⟩ => rfl
  | ⟨1, _⟩ => show j.val - o = c.val; omega
  | ⟨2, _⟩ => show y.val - 0 = y.val; omega

theorem put_block_out {α : Type} (x : S3x8192x128.Idx → α) {off : Fin 3 → ℕ} {o : ℕ} (h : off = ![0, o, 0]) (w : S1x256x128.Idx → α)
    (j : Fin 8192) (y : Fin 128) (hj : ¬ (o ≤ j.val ∧ j.val < o + 256)) :
    VecWindow.put x off S1x256x128.size w (ix3 0 j y) = x (ix3 0 j y) := by
  subst h
  exact dif_neg fun hm => hj (hm 1)

theorem put_slab_in {α : Type} (x : S3x8192x128.Idx → α) {o : ℕ} (w : S1x8192x128.Idx → α) (u : Fin 3) (j : Fin 8192) (y : Fin 128) (hu : u.val = o) :
    VecWindow.put x ![o, 0, 0] S1x8192x128.size w (ix3 u j y) = w (ix3 0 j y) := by
  have hm : ∀ a : Fin 3, (![o, 0, 0] : Fin 3 → ℕ) a ≤ ((ix3 u j y : S3x8192x128.Idx) a).val ∧ ((ix3 u j y : S3x8192x128.Idx) a).val < (![o, 0, 0] : Fin 3 → ℕ) a + S1x8192x128.size a := fun a =>
    match a with
    | ⟨0, _⟩ => by show o ≤ u.val ∧ u.val < o + 1; omega
    | ⟨1, _⟩ => by show 0 ≤ j.val ∧ j.val < 0 + 8192; omega
    | ⟨2, _⟩ => by show 0 ≤ y.val ∧ y.val < 0 + 128; omega
  refine (dif_pos hm).trans (congrArg w (funext fun a => Fin.ext ?_))
  match a with
  | ⟨0, _⟩ => show u.val - o = 0; omega
  | ⟨1, _⟩ => show j.val - 0 = j.val; omega
  | ⟨2, _⟩ => show y.val - 0 = y.val; omega

theorem put_slab_out {α : Type} (x : S3x8192x128.Idx → α) {o : ℕ} (w : S1x8192x128.Idx → α) (u : Fin 3) (j : Fin 8192) (y : Fin 128) (hu : u.val ≠ o) :
    VecWindow.put x ![o, 0, 0] S1x8192x128.size w (ix3 u j y) = x (ix3 u j y) :=
  dif_neg fun hm => hu (by have h0 : o ≤ u.val ∧ u.val < o + 1 := hm 0; omega)

/-- Two heads' query gradients side by side. -/
theorem rows_entry (n : Fin 32) (l r : Vec Ideal S256x64 .f32)
    (hl : ∀ c x, l (ix2 c x) = ((dq X (hof a 0) (row n c) x : ℝ) : EReal)) (hr : ∀ c x, r (ix2 c x) = ((dq X (hof a 1) (row n c) x : ℝ) : EReal))
    (c : Fin 256) (y : Fin 128) : k0_pay59 (F := Ideal) l r (ix3 0 c y) = ((dq X (hd a y) (row n c) (cl y) : ℝ) : EReal) := by
  pointwise [k0_pay59]
  split
  · rename_i hy
    rw [hl]
    exact congrArg₂ (fun h x => ((dq X h (row n c) x : ℝ) : EReal)) (Fin.ext (by show 2 * a.val + 0 = 2 * a.val + y.val / 64; omega)) (Fin.ext (by show y.val = y.val % 64; omega))
  · rename_i hy
    rw [hr]
    exact congrArg₂ (fun h x => ((dq X h (row n c) x : ℝ) : EReal)) (Fin.ext (by show 2 * a.val + 1 = 2 * a.val + y.val / 64; omega)) (Fin.ext (by show y.val - 64 = y.val % 64; omega))

/-- The step's 512 rows of the result take the queries' gradient; -/
theorem oMid_in (H : BlkHolds X a i B) (o : Vec Ideal S3x8192x128 .bf16) (j : Fin 8192) (y : Fin 128)
    (hj : 512 * (i 1).val ≤ j.val ∧ j.val < 512 * (i 1).val + 512) :
    oMid i B o (ix3 0 j y) = ((dq X (hd a y) j (cl y) : ℝ) : EReal) := by
  by_cases h1 : 512 * (i 1).val + 256 ≤ j.val
  · have hc : j.val = (512 * (i 1).val + 256 * (1 : Fin 2).val) + (⟨j.val - (512 * (i 1).val + 256), by omega⟩ : Fin 256).val := by
      show _ = (_ + 256 * 1) + (_ - _); omega
    refine (put_block_in _ (k0_off4_eq i 1) _ j y _ hc).trans ((rows_entry (grp i 1) (dq10 i B) (dq11 i B)
      (DQ_entry (holds10 H)) (DQ_entry (holds11 H)) _ y).trans ?_)
    exact congrArg (fun j => ((dq X (hd a y) j (cl y) : ℝ) : EReal)) (Fin.ext (by unfold row grp; dsimp only; omega))
  · have hc : j.val = (512 * (i 1).val + 256 * (0 : Fin 2).val) + (⟨j.val - 512 * (i 1).val, by omega⟩ : Fin 256).val := by
      show _ = (_ + 256 * 0) + (_ - _); omega
    refine (put_block_out _ (k0_off4_eq i 1) _ j y (by show ¬ (_ + 256 * 1 ≤ _ ∧ _); omega)).trans ((put_block_in _ (k0_off4_eq i 0) _ j y _ hc).trans
      ((rows_entry (grp i 0) (dq00 i B) (dq01 i B) (DQ_entry (holds00 H)) (DQ_entry (holds01 H)) _ y).trans ?_))
    exact congrArg (fun j => ((dq X (hd a y) j (cl y) : ℝ) : EReal)) (Fin.ext (by unfold row grp; dsimp only; omega))

/-- the other rows stay. -/
theorem oMid_out (o : Vec Ideal S3x8192x128 .bf16) (j : Fin 8192) (y : Fin 128)
    (hj : ¬ (512 * (i 1).val ≤ j.val ∧ j.val < 512 * (i 1).val + 512)) : oMid i B o (ix3 0 j y) = o (ix3 0 j y) :=
  (put_block_out _ (k0_off4_eq i 1) _ j y (by show ¬ (_ + 256 * 1 ≤ _ ∧ _ < _ + 256 * 1 + 256); omega)).trans
    (put_block_out _ (k0_off4_eq i 0) _ j y (by show ¬ (_ + 256 * 0 ≤ _ ∧ _ < _ + 256 * 0 + 256); omega))

theorem oStep_q (dk dv : Vec Ideal S8192x128 .f32) (o : Vec Ideal S3x8192x128 .bf16) (j : Fin 8192) (y : Fin 128) :
    oStep i B dk dv o (ix3 0 j y) = oMid i B o (ix3 0 j y) := by
  unfold oStep
  split
  · exact (put_slab_out _ _ 0 j y (by decide)).trans (put_slab_out _ _ 0 j y (by decide))
  · rfl

theorem oStep_k (hi : (i 1).val = 15) (dk dv : Vec Ideal S8192x128 .f32) (o : Vec Ideal S3x8192x128 .bf16) (j : Fin 8192) (y : Fin 128) :
    oStep i B dk dv o (ix3 1 j y) = dk (ix2 j y) := by
  unfold oStep
  rw [if_pos hi]
  refine (put_slab_out _ _ 1 j y (by decide)).trans ((put_slab_in _ _ 1 j y rfl).trans ?_)
  pointwise [k0_pay5]

theorem oStep_v (hi : (i 1).val = 15) (dk dv : Vec Ideal S8192x128 .f32) (o : Vec Ideal S3x8192x128 .bf16) (j : Fin 8192) (y : Fin 128) :
    oStep i B dk dv o (ix3 2 j y) = dv (ix2 j y) := by
  unfold oStep
  rw [if_pos hi]
  refine (put_slab_in _ _ 2 j y rfl).trans ?_
  pointwise [k0_pay6]

end Cert.KernelIdeal.Steps

end

end
-- ==== Proof.Region.lean ====
/-
  The launch's value.  After a grid point the accumulators hold the parts of the groups already seen of the head pair; the result block holds the query gradients of the
  rows already seen, and at the pair's last point all three gradients.
-/
module

public import proofs.«01_k».proof.Proof.Run
public import proofs.«01_k».proof.Proof.StepValue
public import Idealize.ShloMosaic.Lib.Pipeline.ArrRel

@[expose] public section

set_option maxRecDepth 16384

noncomputable section

namespace Cert.KernelIdeal.Steps

open Cert.KernelIdeal Cert.KernelIdeal.Gen Cert.Attn Cert.KernelIdeal.Group
open Idealize.ShloMosaic Idealize.ShloMosaic.TcCoe
open Idealize.ShloMosaic.Pipeline (RDat Cfg Window)
open scoped BigOperators

variable (m : (ℓ : Loc nD τ sig) → Buf (Elt Ideal) ℓ)

theorem coords0 (t : Fin cfg0.N) : (grid0.coords t 0).val = t.val / 16 := by
  have h := Pipeline.Grid.coords_val (G := grid0) t 0 (S := 16) (B := 8) (by decide) rfl
  have : t.val < 128 := t.isLt
  rw [h]; omega
theorem coords1 (t : Fin cfg0.N) : (grid0.coords t 1).val = t.val % 16 := by
  have h := Pipeline.Grid.coords_val (G := grid0) t 1 (S := 1) (B := 16) (by decide) rfl
  rw [h]; omega

/-- The head pair of a grid point. -/
def pair (t : Fin cfg0.N) : Fin 8 := ⟨t.val / 16, by have : t.val < 128 := t.isLt; omega⟩

/-! ### Sums over the groups -/

/-- A family over the 32 groups, continued by nothing. -/
def ext (f : Fin 32 → ℝ) (g : ℕ) : ℝ := if h : g < 32 then f ⟨g, h⟩ else 0

theorem ext_grp (f : Fin 32 → ℝ) (t : Fin cfg0.N) (g : Fin 2) : f (grp (grid0.coords t) g) = ext f (2 * (t.val % 16) + g.val) := by
  rw [ext, dif_pos (by omega)]
  exact congrArg f (Fin.ext (by show 2 * (grid0.coords t 1).val + _ = _; rw [coords1]))

theorem sum_ext (f : Fin 32 → ℝ) : ∑ g ∈ Finset.range 32, ext f g = ∑ n, f n := by
  rw [Finset.sum_range]
  exact Finset.sum_congr rfl fun n _ => by rw [ext, dif_pos n.isLt]

/-- Every query is a row of one group. -/
theorem sum_rows (f : Fin 8192 → ℝ) : ∑ n, ∑ r, f (row n r) = ∑ i, f i := by
  rw [← Finset.sum_product', ← (finProdFinEquiv (m := 32) (n := 256)).sum_comp]
  refine Finset.sum_congr rfl fun x _ => congrArg f (Fin.ext ?_)
  show 256 * x.1.val + x.2.val = x.2.val + 256 * x.1.val
  omega

theorem sum_partK (X : In) (h : Fin 16) (j : Fin 8192) (x : Fin 64) : ∑ n, partK X h n j x = dk X h j x :=
  sum_rows fun i => ds X h i j * (X.q h i x * 0.125)
theorem sum_partV (X : In) (h : Fin 16) (j : Fin 8192) (x : Fin 64) : ∑ n, partV X h n j x = dv X h j x :=
  sum_rows fun i => p X h i j * X.g h i x

/-! ### The accumulators -/

variable {X : In} {c : Dev nD}

theorem zeros7 (j : Fin 8192) (y : Fin 128) : k0_pay7 (F := Ideal) (ix2 j y) = ((0 : ℝ) : EReal) := by
  pointwise [k0_pay7]
  simp [Ideal.ofBits, Ideal.ieee]
theorem zeros8 (j : Fin 8192) (y : Fin 128) : k0_pay8 (F := Ideal) (ix2 j y) = ((0 : ℝ) : EReal) := by
  pointwise [k0_pay8]
  simp [Ideal.ofBits, Ideal.ieee]

/-- What an accumulator holds after `n + 1` grid points, one step at a time. -/
theorem acc_at (At : ℕ → Vec Ideal S8192x128 .f32 → Prop) (z : Vec Ideal S8192x128 .f32) (step : Fin cfg0.N → Vec Ideal S8192x128 .f32 → Vec Ideal S8192x128 .f32)
    (T : Fin 16 → Fin 32 → Fin 8192 → Fin 64 → ℝ) (hz : ∀ j y, z (ix2 j y) = ((0 : ℝ) : EReal))
    (hAt : ∀ (t : Fin cfg0.N) x', At (t.val + 1) x' → ∃ x, At t.val x ∧ x' = step t (start (grid0.coords t) z x))
    (hstep : ∀ (t : Fin cfg0.N) (x : Vec Ideal S8192x128 .f32) (A : Fin 8192 → Fin 128 → ℝ), (∀ j y, x (ix2 j y) = ((A j y : ℝ) : EReal)) → ∀ j y,
      step t x (ix2 j y) = ((A j y + T (hd (pair t) y) (grp (grid0.coords t) 0) j (cl y) + T (hd (pair t) y) (grp (grid0.coords t) 1) j (cl y) : ℝ) : EReal))
    (n : ℕ) : ∀ (hn : n < cfg0.N) (x : Vec Ideal S8192x128 .f32), At (n + 1) x → ∀ j y,
      x (ix2 j y) = ((∑ g ∈ Finset.range (2 * (n % 16 + 1)), ext (fun k => T (hd (pair ⟨n, hn⟩) y) k j (cl y)) g : ℝ) : EReal) := by
  induction n with
  | zero =>
    intro hn x hx j y
    obtain ⟨x₀, -, rfl⟩ := hAt ⟨0, hn⟩ x hx
    have hi : (grid0.coords ⟨0, hn⟩ 1).val = 0 := coords1 ⟨0, hn⟩
    rw [start, if_pos hi, hstep ⟨0, hn⟩ z (fun _ _ => 0) hz j y]
    rw [ext_grp (fun k => T (hd (pair ⟨0, hn⟩) y) k j (cl y)), ext_grp (fun k => T (hd (pair ⟨0, hn⟩) y) k j (cl y))]
    exact congrArg _ (by simp [Finset.sum_range_succ])
  | succ n ih =>
    intro hn x hx j y
    have hn' : n < cfg0.N := Nat.lt_of_succ_lt hn
    obtain ⟨x₀, h₀, rfl⟩ := hAt ⟨n + 1, hn⟩ x hx
    have hc : (grid0.coords ⟨n + 1, hn⟩ 1).val = (n + 1) % 16 := coords1 ⟨n + 1, hn⟩
    by_cases hi : (n + 1) % 16 = 0
    · rw [start, if_pos (hc.trans hi), hstep ⟨n + 1, hn⟩ z (fun _ _ => 0) hz j y]
      rw [ext_grp (fun k => T (hd (pair ⟨n + 1, hn⟩) y) k j (cl y)), ext_grp (fun k => T (hd (pair ⟨n + 1, hn⟩) y) k j (cl y))]
      refine congrArg _ ?_
      show _ + ext _ (2 * ((n + 1) % 16) + 0) + ext _ (2 * ((n + 1) % 16) + 1) = _
      rw [hi]
      simp [Finset.sum_range_succ]
    · have hp : pair ⟨n + 1, hn⟩ = pair ⟨n, hn'⟩ := Fin.ext (by show (n + 1) / 16 = n / 16; omega)
      rw [start, if_neg (by rw [hc]; exact hi), hstep ⟨n + 1, hn⟩ x₀ _ (ih hn' x₀ h₀) j y]
      rw [ext_grp (fun k => T (hd (pair ⟨n + 1, hn⟩) y) k j (cl y)), ext_grp (fun k => T (hd (pair ⟨n + 1, hn⟩) y) k j (cl y))]
      refine congrArg _ ?_
      have e : 2 * ((n + 1) % 16 + 1) = 2 * (n % 16 + 1) + 1 + 1 := by omega
      rw [e, Finset.sum_range_succ, Finset.sum_range_succ, hp]
      have e0 : 2 * ((n + 1) % 16) = 2 * (n % 16 + 1) := by omega
      show _ + ext _ (2 * ((n + 1) % 16) + 0) + ext _ (2 * ((n + 1) % 16) + 1) = _
      rw [e0]; rfl

theorem dk_prev (t : Fin cfg0.N) (x' : Vec Ideal S8192x128 .f32) (h : DkAt m c (t.val + 1) x') :
    ∃ x, DkAt m c t.val x ∧ x' = dkAdd (grid0.coords t) (blk m c t) (start (grid0.coords t) (k0_pay7 (F := Ideal)) x) := by
  obtain ⟨x, h1, h2⟩ := h
  have h2 := h2 t.isLt
  unfold dkStep at h2
  exact ⟨x, h1, h2⟩
theorem dv_prev (t : Fin cfg0.N) (x' : Vec Ideal S8192x128 .f32) (h : DvAt m c (t.val + 1) x') :
    ∃ x, DvAt m c t.val x ∧ x' = dvAdd (grid0.coords t) (blk m c t) (start (grid0.coords t) (k0_pay8 (F := Ideal)) x) := by
  obtain ⟨x, h1, h2⟩ := h
  have h2 := h2 t.isLt
  unfold dvStep at h2
  exact ⟨x, h1, h2⟩

variable (HB : ∀ t : Fin cfg0.N, BlkHolds X (pair t) (grid0.coords t) (blk m c t))
include HB

theorem dk_at (t : Fin cfg0.N) (h15 : t.val % 16 = 15) (x : Vec Ideal S8192x128 .f32) (hx : DkAt m c (t.val + 1) x) (j : Fin 8192) (y : Fin 128) :
    x (ix2 j y) = ((dk X (hd (pair t) y) j (cl y) : ℝ) : EReal) := by
  have hs : ∀ (t : Fin cfg0.N) (x : Vec Ideal S8192x128 .f32) (A : Fin 8192 → Fin 128 → ℝ), (∀ j y, x (ix2 j y) = ((A j y : ℝ) : EReal)) → ∀ j y,
      dkAdd (grid0.coords t) (blk m c t) x (ix2 j y)
        = ((A j y + partK X (hd (pair t) y) (grp (grid0.coords t) 0) j (cl y) + partK X (hd (pair t) y) (grp (grid0.coords t) 1) j (cl y) : ℝ) : EReal) :=
    fun t x A hA j y => dkAdd_entry (HB t) x A hA j y
  have h := acc_at (DkAt m c) (k0_pay7 (F := Ideal)) (fun t => dkAdd (grid0.coords t) (blk m c t)) (partK X) zeros7 (fun t x' h => dk_prev m t x' h) hs
    t.val t.isLt x hx j y
  rw [h, h15]
  exact congrArg _ ((sum_ext _).trans (sum_partK X _ j _))

theorem dv_at (t : Fin cfg0.N) (h15 : t.val % 16 = 15) (x : Vec Ideal S8192x128 .f32) (hx : DvAt m c (t.val + 1) x) (j : Fin 8192) (y : Fin 128) :
    x (ix2 j y) = ((dv X (hd (pair t) y) j (cl y) : ℝ) : EReal) := by
  have hs : ∀ (t : Fin cfg0.N) (x : Vec Ideal S8192x128 .f32) (A : Fin 8192 → Fin 128 → ℝ), (∀ j y, x (ix2 j y) = ((A j y : ℝ) : EReal)) → ∀ j y,
      dvAdd (grid0.coords t) (blk m c t) x (ix2 j y)
        = ((A j y + partV X (hd (pair t) y) (grp (grid0.coords t) 0) j (cl y) + partV X (hd (pair t) y) (grp (grid0.coords t) 1) j (cl y) : ℝ) : EReal) :=
    fun t x A hA j y => dvAdd_entry (HB t) x A hA j y
  have h := acc_at (DvAt m c) (k0_pay8 (F := Ideal)) (fun t => dvAdd (grid0.coords t) (blk m c t)) (partV X) zeros8 (fun t x' h => dv_prev m t x' h) hs
    t.val t.isLt x hx j y
  rw [h, h15]
  exact congrArg _ ((sum_ext _).trans (sum_partV X _ j _))

/-! ### The result block -/

/-- The query gradients of the rows up to the point's. -/
theorem leaves_q (n : ℕ) : ∀ (hn : n < cfg0.N) (o), (data m c).Leaves 6 ⟨n, hn⟩ o → ∀ (j : Fin 8192) (y : Fin 128), j.val < 512 * (n % 16 + 1) →
    o (ix3 0 j y) = ((dq X (hd (pair ⟨n, hn⟩) y) j (cl y) : ℝ) : EReal) := by
  induction n with
  | zero =>
    rintro hn o ⟨Y, hY, dk, dv, -, -, rfl⟩ j y hj
    have hc : (grid0.coords ⟨0, hn⟩ 1).val = 0 := coords1 ⟨0, hn⟩
    rw [oStep_q, oMid_in (HB ⟨0, hn⟩) Y j y (by rw [hc]; omega)]
  | succ n ih =>
    rintro hn o ⟨Y, hY, dk, dv, -, -, rfl⟩ j y hj
    have hn' : n < cfg0.N := Nat.lt_of_succ_lt hn
    have hc : (grid0.coords ⟨n + 1, hn⟩ 1).val = (n + 1) % 16 := coords1 ⟨n + 1, hn⟩
    rw [oStep_q]
    by_cases h1 : 512 * ((n + 1) % 16) ≤ j.val
    · rw [oMid_in (HB ⟨n + 1, hn⟩) Y j y (by rw [hc]; omega)]
    · rw [oMid_out Y j y (by rw [hc]; omega)]
      have hp : pair ⟨n + 1, hn⟩ = pair ⟨n, hn'⟩ := Fin.ext (by show (n + 1) / 16 = n / 16; omega)
      rw [hp]
      refine ih hn' Y ?_ j y (by omega)
      rcases ((data m c).finds_of_pos (w := 6) (t := ⟨n + 1, hn⟩) rfl (Nat.succ_ne_zero n) Y).mp hY with hf | hl
      · have := (flush0_6 ⟨n, hn'⟩).mp hf
        dsimp only at this
        omega
      · exact hl

/-- What entry of the three stacked gradients this is. -/
def result (X : In) (u : Fin 3) (h : Fin 16) (j : Fin 8192) (x : Fin 64) : ℝ :=
  match u with
  | 0 => dq X h j x
  | 1 => dk X h j x
  | 2 => dv X h j x

theorem leaves_all (t : Fin cfg0.N) (h15 : t.val % 16 = 15) (o) (ho : (data m c).Leaves 6 t o) (u : Fin 3) (j : Fin 8192) (y : Fin 128) :
    o (ix3 u j y) = ((result X u (hd (pair t) y) j (cl y) : ℝ) : EReal) := by
  match u with
  | 0 => exact leaves_q m HB t.val t.isLt o ho j y (by omega)
  | 1 =>
    obtain ⟨Y, hY, dk, dv, hk, -, rfl⟩ := ho
    exact (oStep_k (by rw [coords1, h15]) dk dv Y j y).trans (dk_at m HB t h15 dk hk j y)
  | 2 =>
    obtain ⟨Y, hY, dk, dv, -, hv, rfl⟩ := ho
    exact (oStep_v (by rw [coords1, h15]) dk dv Y j y).trans (dv_at m HB t h15 dv hv j y)

/-- The whole result array: head `z / 64` and column `z % 64` of the gradients at column `z`. -/
def whole (X : In) : S3x8192x1024.Idx → EReal := fun y =>
  ((result X (y 0) ⟨(y 2).val / 64, by have : (y 2).val < 1024 := (y 2).isLt; omega⟩ (y 1) ⟨(y 2).val % 64, by omega⟩ : ℝ) : EReal)

omit HB in
theorem index6 : ∀ t : Fin cfg0.N, win0_6.index t = ![0, 0, t.val / 16] :=
  (by decide +kernel : ∀ t : Fin grid0.N, win0_6.index t = ![0, 0, t.val / 16])

omit HB in
theorem place6 (t : Fin cfg0.N) (y : S3x8192x128.Idx) :
    whole X (((cfg0.win 6).blk t).view.emb y) = ((result X (y 0) (hd (pair t) (y 2)) (y 1) (cl (y 2)) : ℝ) : EReal) := by
  have b2 : (y 2).val < 128 := (y 2).isLt
  have e0 : ((((cfg0.win 6).blk t).view.emb y 0 : Fin _) : ℕ) = (y 0).val := by blk_simp [index6]
  have e1 : ((((cfg0.win 6).blk t).view.emb y 1 : Fin _) : ℕ) = (y 1).val := by blk_simp [index6]
  have e2 : ((((cfg0.win 6).blk t).view.emb y 2 : Fin _) : ℕ) = t.val / 16 * 128 + (y 2).val := by blk_simp [index6]
  generalize ((cfg0.win 6).blk t).view.emb y = z at e0 e1 e2 ⊢
  change S3x8192x1024.Idx at z
  have q0 : z 0 = y 0 := Fin.ext e0
  have q1 : z 1 = y 1 := Fin.ext e1
  have q2 : (⟨(z 2).val / 64, by have : (z 2).val < 1024 := (z 2).isLt; omega⟩ : Fin 16) = hd (pair t) (y 2) :=
    Fin.ext (by show (z 2).val / 64 = 2 * (t.val / 16) + (y 2).val / 64; rw [e2]; omega)
  have q3 : (⟨(z 2).val % 64, by omega⟩ : Fin 64) = cl (y 2) := Fin.ext (by show (z 2).val % 64 = (y 2).val % 64; rw [e2]; omega)
  unfold whole
  rw [q0, q1, q2, q3]

theorem leaves_at (t : Fin cfg0.N) (h15 : t.val % 16 = 15) (o : S3x8192x128.Idx → Ideal .bf16) (ho : (data m c).Leaves 6 t o) (y : S3x8192x128.Idx) :
    o y = whole X (((cfg0.win 6).blk t).view.emb y) := by
  rw [place6]
  exact (congrArg o (Idealize.ShloMosaic.ValueIdx.eq_ix3 y)).trans (leaves_all m HB t h15 o ho (y 0) (y 1) (y 2))

theorem array_eq (r : PUnit × MemSt nD τ sig (Elt Ideal)) (h : RDat.FramePost cfg0 (data m) (V m) r) :
    r.2.mem ((c.tc : Thread nD τ).loc main_v27_0) = whole X := by
  obtain ⟨after, hL, hA⟩ := h.exists_exact c
  have hA := hA 6
  have hcov : (cfg0.win 6).Covers := by decide +kernel
  refine hA.trans (((data m c).withAfter after).arrAt_eq_of_covers (6 : Fin cfg0.W) (whole X) hcov (fun t hf y => ?_) (Memref.isWhole_whole _))
  refine Eq.trans (b := after 6 t y) (by blk_simp; rfl) ?_
  exact leaves_at m HB t ((flush0_6 t).mp hf) (after 6 t) (hL 6 t hf) y

end Cert.KernelIdeal.Steps
-- ==== Proof.Words.lean ====
/-
  Index words: the quotient by 64 that rounds down, the place in the bias table, the comparison of block numbers; and the table's look-up.
-/
module

public import proofs.«01_k».proof.Proof.Spec
public import Idealize.ShloMosaic.Lib.StableHlo.ReadAt

@[expose] public section

set_option maxRecDepth 100000

noncomputable section

namespace Cert.Attn

open Idealize.ShloMosaic

/-- The quotient by 64, rounded down. -/
def quot (w : BitVec 32) : BitVec 32 :=
  Scalar.select (IntOp.andi (IntOp.cmpi .ne (if w = 0 then 0 else if w.msb = true then -1 else 1 : BitVec 32) (if 64#32 = 0 then 0 else if BitVec.msb 64#32 = true then -1 else 1 : BitVec 32))
      (IntOp.cmpi .ne (IntOp.remsi .host w 64#32) 0#32))
    (IntOp.subi (IntOp.divsi .host w 64#32) 1#32) (IntOp.divsi .host w 64#32)

theorem quot_fin : ∀ n : Fin 8192, quot (BitVec.ofNat 32 n.val) = BitVec.ofNat 32 (n.val / 64) := by decide +kernel
theorem quot_at {w : BitVec 32} (n : Fin 8192) (h : w = BitVec.ofNat 32 n.val) : quot w = BitVec.ofNat 32 (n.val / 64) := h ▸ quot_fin n

/-- Whether the key's block `a` is one of the nine up to the query's block `b`. -/
def near (a b : BitVec 32) : BitVec 1 := IntOp.andi (IntOp.cmpi .sle a b) (IntOp.cmpi .sge a (IntOp.subi b 8#32))

theorem near_fin : ∀ a b : Fin 128, near (BitVec.ofNat 32 a.val) (BitVec.ofNat 32 b.val) = if a.val ≤ b.val ∧ b.val ≤ a.val + 8 then 1#1 else 0#1 := by
  decide +kernel

theorem near_at (i j : Fin 8192) : near (BitVec.ofNat 32 (j.val / 64)) (BitVec.ofNat 32 (i.val / 64)) = if seen i j then 1#1 else 0#1 :=
  near_fin ⟨j.val / 64, by omega⟩ ⟨i.val / 64, by omega⟩

/-- The place in the bias table of a distance. -/
def place (w : BitVec 32) : BitVec 32 :=
  Scalar.select (IntOp.cmpi .slt (IntOp.addi (IntOp.minsi 128#32 (IntOp.maxsi 4294967168#32 w)) 128#32) 0#32)
    (IntOp.addi (IntOp.addi (IntOp.minsi 128#32 (IntOp.maxsi 4294967168#32 w)) 128#32) 257#32)
    (IntOp.addi (IntOp.minsi 128#32 (IntOp.maxsi 4294967168#32 w)) 128#32)

theorem place_fin : ∀ d : Fin 16383, min (place (BitVec.ofNat 32 (d.val + 4294959105))).toInt.toNat 256 = min 256 (d.val - 8063) := by decide +kernel

theorem place_at (i j : Fin 8192) : min (place (IntOp.subi (BitVec.ofNat 32 i.val) (BitVec.ofNat 32 j.val))).toInt.toNat 256 = (rel i j).val := by
  have e : IntOp.subi (BitVec.ofNat 32 i.val) (BitVec.ofNat 32 j.val) = BitVec.ofNat 32 ((i.val + 8191 - j.val) + 4294959105) := by
    refine BitVec.eq_of_toNat_eq ?_
    show (BitVec.ofNat 32 i.val - BitVec.ofNat 32 j.val).toNat = _
    rw [BitVec.toNat_sub, BitVec.toNat_ofNat, BitVec.toNat_ofNat, BitVec.toNat_ofNat]
    omega
  rw [e, place_fin ⟨i.val + 8191 - j.val, by omega⟩]
  unfold rel
  dsimp only
  omega

section pairs
variable {α : Type} {H N A B : ℕ}

/-- The look-up's dimension numbers. -/
abbrev pairsDims (H N A B : ℕ) (wf : GatherDims.WF ⟨2, ![H, N]⟩ ⟨3, ![A, B, 1]⟩ ⟨3, ![H, A, B]⟩ [0] [1] [] [1] [] 2 ![H, 1]) :
    GatherDims ⟨2, ![H, N]⟩ ⟨3, ![A, B, 1]⟩ ⟨3, ![H, A, B]⟩ where
  offsetDims := [0]
  collapsedSliceDims := [1]
  operandBatchingDims := []
  startIndicesBatchingDims := []
  startIndexMap := [1]
  indexVectorDim := 2
  sliceSizes := ![H, 1]
  wf := wf

/-- The table's column for each pair of places. -/
theorem pairs (hN : 0 < N) (wf : GatherDims.WF ⟨2, ![H, N]⟩ ⟨3, ![A, B, 1]⟩ ⟨3, ![H, A, B]⟩ [0] [1] [] [1] [] 2 ![H, 1])
    (x : (⟨2, ![H, N]⟩ : Shape).Idx → α) (idx : IVec ⟨3, ![A, B, 1]⟩ 32) (h : Fin H) (a : Fin A) (b : Fin B) :
    Host.gather (pairsDims H N A B wf) x idx (ix3 h a b) = x (ix2 h ⟨min (idx (ix3 a b 0)).toInt.toNat (N - 1), by omega⟩) := by
  unfold Host.gather
  congr 1
  funext q
  refine Fin.ext ?_
  show (pairsDims H N A B wf).start _ idx q + (pairsDims H N A B wf).batchCoord _ q + (pairsDims H N A B wf).offCoord _ q = _
  rw [GatherDims.batchCoord_eq_zero _ _ _ List.not_mem_nil]
  have h01 : q = 0 ∨ q = 1 := by
    match q with
    | ⟨0, _⟩ => exact Or.inl rfl
    | ⟨1, _⟩ => exact Or.inr rfl
  rcases h01 with rfl | rfl
  · unfold GatherDims.start
    rw [dif_neg (show ¬ (0 : Fin 2) ∈ (pairsDims H N A B wf).startIndexMap from by simp)]
    unfold GatherDims.offCoord
    rw [dif_pos (show (0 : Fin 2) ∈ (pairsDims H N A B wf).sKept from (GatherDims.mem_sKept _ _).mpr ⟨by simp, by simp⟩)]
    simp only [Nat.zero_add]
    rfl
  · rw [GatherDims.offCoord_eq_zero _ _ _ (fun h => ((GatherDims.mem_sKept _ _).mp h).1 (List.mem_singleton.mpr rfl))]
    simp only [Nat.add_zero]
    unfold GatherDims.start
    rw [dif_pos (show (1 : Fin 2) ∈ (pairsDims H N A B wf).startIndexMap from List.mem_singleton.mpr rfl)]
    have hsi : (pairsDims H N A B wf).siIdx (ix3 h a b) ⟨List.idxOf (1 : Fin 2) (pairsDims H N A B wf).startIndexMap,
        List.idxOf_lt_length_iff.2 (List.mem_singleton.mpr rfl)⟩ = ix3 a b 0 := by
      funext b; refine Fin.ext ?_
      match b with
      | ⟨0, _⟩ => rfl
      | ⟨1, _⟩ => rfl
      | ⟨2, _⟩ => rfl
    rw [hsi]
    rfl

end pairs

section triples
variable {α : Type} {H N A B C : ℕ}

/-- The look-up's dimension numbers. -/
abbrev triplesDims (H N A B C : ℕ) (wf : GatherDims.WF ⟨2, ![H, N]⟩ ⟨4, ![A, B, C, 1]⟩ ⟨4, ![H, A, B, C]⟩ [0] [1] [] [1] [] 3 ![H, 1]) :
    GatherDims ⟨2, ![H, N]⟩ ⟨4, ![A, B, C, 1]⟩ ⟨4, ![H, A, B, C]⟩ where
  offsetDims := [0]
  collapsedSliceDims := [1]
  operandBatchingDims := []
  startIndicesBatchingDims := []
  startIndexMap := [1]
  indexVectorDim := 3
  sliceSizes := ![H, 1]
  wf := wf

/-- The table's column for each triple of places. -/
theorem triples (hN : 0 < N) (wf : GatherDims.WF ⟨2, ![H, N]⟩ ⟨4, ![A, B, C, 1]⟩ ⟨4, ![H, A, B, C]⟩ [0] [1] [] [1] [] 3 ![H, 1])
    (x : (⟨2, ![H, N]⟩ : Shape).Idx → α) (idx : IVec ⟨4, ![A, B, C, 1]⟩ 32) (h : Fin H) (a : Fin A) (b : Fin B) (c : Fin C) :
    Host.gather (triplesDims H N A B C wf) x idx (ix4 h a b c) = x (ix2 h ⟨min (idx (ix4 a b c 0)).toInt.toNat (N - 1), by omega⟩) := by
  unfold Host.gather
  congr 1
  funext q
  refine Fin.ext ?_
  show (triplesDims H N A B C wf).start _ idx q + (triplesDims H N A B C wf).batchCoord _ q + (triplesDims H N A B C wf).offCoord _ q = _
  rw [GatherDims.batchCoord_eq_zero _ _ _ List.not_mem_nil]
  have h01 : q = 0 ∨ q = 1 := by
    match q with
    | ⟨0, _⟩ => exact Or.inl rfl
    | ⟨1, _⟩ => exact Or.inr rfl
  rcases h01 with rfl | rfl
  · unfold GatherDims.start
    rw [dif_neg (show ¬ (0 : Fin 2) ∈ (triplesDims H N A B C wf).startIndexMap from by simp)]
    unfold GatherDims.offCoord
    rw [dif_pos (show (0 : Fin 2) ∈ (triplesDims H N A B C wf).sKept from (GatherDims.mem_sKept _ _).mpr ⟨by simp, by simp⟩)]
    simp only [Nat.zero_add]
    rfl
  · rw [GatherDims.offCoord_eq_zero _ _ _ (fun h => ((GatherDims.mem_sKept _ _).mp h).1 (List.mem_singleton.mpr rfl))]
    simp only [Nat.add_zero]
    unfold GatherDims.start
    rw [dif_pos (show (1 : Fin 2) ∈ (triplesDims H N A B C wf).startIndexMap from List.mem_singleton.mpr rfl)]
    have hsi : (triplesDims H N A B C wf).siIdx (ix4 h a b c) ⟨List.idxOf (1 : Fin 2) (triplesDims H N A B C wf).startIndexMap,
        List.idxOf_lt_length_iff.2 (List.mem_singleton.mpr rfl)⟩ = ix4 a b c 0 := by
      funext b; refine Fin.ext ?_
      match b with
      | ⟨0, _⟩ => rfl
      | ⟨1, _⟩ => rfl
      | ⟨2, _⟩ => rfl
      | ⟨3, _⟩ => rfl
    rw [hsi]
    rfl

end triples

end Cert.Attn
-- ==== Proof.Inputs.lean ====
/-
  The arguments as real numbers, and the bias of a pair of places.
-/
module

public import proofs.«01_k».proof.Proof.Words

@[expose] public section

noncomputable section

namespace Cert.Attn

open Idealize.ShloMosaic

/-- The bias of a pair, nothing for a pair that is not seen. -/
def biasAt (b : Fin 16 → Fin 257 → EReal) (h : Fin 16) (i j : Fin 8192) : EReal := if seen i j then b h (rel i j) else ⊥

theorem select_seen (i j : Fin 8192) (x : EReal) :
    Scalar.select (if seen i j then 1#1 else 0#1) x (⊥ : EReal) = if seen i j then x else ⊥ := by
  unfold Scalar.select
  by_cases h : seen i j
  · rw [if_pos h, if_pos h]; exact if_pos rfl
  · rw [if_neg h, if_neg h]; exact if_neg (by decide)

/-! ### The arguments as real numbers -/

/-- Every entry is a real number. -/
def Reals {S : Shape} (x : S.Idx → EReal) : Prop := ∀ i, x i ≠ ⊤ ∧ x i ≠ ⊥

theorem Reals.coe {S : Shape} {x : S.Idx → EReal} (h : Reals x) (i : S.Idx) : x i = ((x i).toReal : EReal) := (EReal.coe_toReal (h i).1 (h i).2).symm

/-- Head `h`'s column `d` among the queries', the keys' or the values' columns. -/
def colAt (u : Fin 3) (h : Fin 16) (d : Fin 64) : Fin 3072 := ⟨1024 * u.val + 64 * h.val + d.val, by omega⟩

/-- The numbers the arguments hold. -/
def inputs (a0 : (⟨2, ![8192, 3072]⟩ : Shape).Idx → EReal) (a1 : (⟨2, ![16, 257]⟩ : Shape).Idx → EReal) (a2 : (⟨2, ![8192, 1024]⟩ : Shape).Idx → EReal) : In where
  q h i d := (a0 (ix2 i (colAt 0 h d))).toReal
  k h i d := (a0 (ix2 i (colAt 1 h d))).toReal
  v h i d := (a0 (ix2 i (colAt 2 h d))).toReal
  g h i d := (a2 (ix2 i ⟨64 * h.val + d.val, by omega⟩)).toReal
  b h n := (a1 (ix2 h n)).toReal

end Cert.Attn
-- ==== Proof.KernelValue.lean ====
/-
  What the launch finds: the blocks of every grid point hold the arguments' real numbers, the bias tiles the table's entries.
-/
module

public import proofs.«01_k».proof.Proof.Region
public import proofs.«01_k».proof.Proof.Inputs

@[expose] public section

set_option maxRecDepth 16384

noncomputable section

namespace Cert.KernelIdeal.Steps

open Cert.KernelIdeal Cert.KernelIdeal.Gen Cert.Attn Cert.KernelIdeal.Group
open Idealize.ShloMosaic Idealize.ShloMosaic.TcCoe
open Idealize.ShloMosaic.Pipeline (RDat Cfg Window)
open scoped BigOperators

variable (m : (ℓ : Loc nD τ sig) → Buf (Elt Ideal) ℓ) (c : Dev nD)

/-- The three arguments. -/
abbrev arg0 : S8192x3072.Idx → EReal := m ((c.tc : Thread nD τ).loc main_arg0)
abbrev arg1 : S16x257.Idx → EReal := m ((c.tc : Thread nD τ).loc main_arg1)
abbrev arg2 : S8192x1024.Idx → EReal := m ((c.tc : Thread nD τ).loc main_arg2)

abbrev numbers : In := inputs (arg0 m c) (arg1 m c) (arg2 m c)

theorem tile_row (k : Fin 3) (r : Fin 256) :
    IntOp.addi (IntOp.muli (BitVec.ofNat 32 k.val) 256#32) (BitVec.ofNat 32 r.val) = BitVec.ofNat 32 (256 * k.val + r.val) := by
  refine BitVec.eq_of_toNat_eq ?_
  show (BitVec.ofNat 32 k.val * 256#32 + BitVec.ofNat 32 r.val).toNat = _
  simp only [BitVec.toNat_add, BitVec.toNat_mul, BitVec.toNat_ofNat]
  omega

set_option maxHeartbeats 4000000 in
/-- A bias tile's entry, by its own places. -/
theorem tiles (h : Fin 16) (k : Fin 3) (r : Fin 256) (x : Fin 768) :
    (V m c main_v26 : S16x3x256x768.Idx → EReal) (ix4 h k r x)
      = biasAt (fun h n => arg1 m c (ix2 h n)) h ⟨256 * k.val + r.val, by omega⟩ ⟨x.val, by omega⟩ := by
  unfold V
  after_reads_at
  change Scalar.select (near (quot (BitVec.ofNat 32 x.val)) (quot (IntOp.addi (IntOp.muli (BitVec.ofNat 32 k.val) 256#32) (BitVec.ofNat 32 r.val))))
    (Host.gather (triplesDims 16 257 3 256 768 _) (arg1 m c) _ (ix4 h k r x)) (Ideal.ofBits .f32 0xFF800000#32) = _
  rw [tile_row, quot_at ⟨x.val, by omega⟩ rfl, quot_at ⟨256 * k.val + r.val, by omega⟩ rfl, near_at ⟨256 * k.val + r.val, by omega⟩ ⟨x.val, by omega⟩,
    neg_inf_f32, select_seen, triples (by decide)]
  unfold biasAt
  refine if_congr Iff.rfl (congrArg (arg1 m c) ?_) rfl
  refine congrArg (ix2 h) (Fin.ext ?_)
  refine Eq.trans ?_ (place_at ⟨256 * k.val + r.val, by omega⟩ ⟨x.val, by omega⟩)
  rw [← tile_row]
  rfl

theorem index0 : ∀ t : Fin cfg0.N, win0_0.index t = ![t.val % 16, t.val / 16] :=
  (by decide +kernel : ∀ t : Fin grid0.N, win0_0.index t = ![t.val % 16, t.val / 16])
theorem index1 : ∀ t : Fin cfg0.N, win0_1.index t = ![0, 8 + t.val / 16] :=
  (by decide +kernel : ∀ t : Fin grid0.N, win0_1.index t = ![0, 8 + t.val / 16])
theorem index2 : ∀ t : Fin cfg0.N, win0_2.index t = ![0, 16 + t.val / 16] :=
  (by decide +kernel : ∀ t : Fin grid0.N, win0_2.index t = ![0, 16 + t.val / 16])
theorem index3 : ∀ t : Fin cfg0.N, win0_3.index t = ![t.val / 16, min (2 * (t.val % 16)) 2, 0, 0] :=
  (by decide +kernel : ∀ t : Fin grid0.N, win0_3.index t = ![t.val / 16, min (2 * (t.val % 16)) 2, 0, 0])
theorem index4 : ∀ t : Fin cfg0.N, win0_4.index t = ![t.val / 16, min (2 * (t.val % 16) + 1) 2, 0, 0] :=
  (by decide +kernel : ∀ t : Fin grid0.N, win0_4.index t = ![t.val / 16, min (2 * (t.val % 16) + 1) 2, 0, 0])
theorem index5 : ∀ t : Fin cfg0.N, win0_5.index t = ![t.val % 16, t.val / 16] :=
  (by decide +kernel : ∀ t : Fin grid0.N, win0_5.index t = ![t.val % 16, t.val / 16])

theorem read0 (t : Fin cfg0.N) (y : S512x128.Idx) : (blk m c t).q y = arg0 m c (((cfg0.win 0).blk t).view.emb y) := by
  show V m c main_arg0 (((cfg0.win 0).blk t).view.emb y) = _
  rw [V_main_arg0]
theorem read1 (t : Fin cfg0.N) (y : S8192x128.Idx) : (blk m c t).k y = arg0 m c (((cfg0.win 1).blk t).view.emb y) := by
  show V m c main_arg0 (((cfg0.win 1).blk t).view.emb y) = _
  rw [V_main_arg0]
theorem read2 (t : Fin cfg0.N) (y : S8192x128.Idx) : (blk m c t).v y = arg0 m c (((cfg0.win 2).blk t).view.emb y) := by
  show V m c main_arg0 (((cfg0.win 2).blk t).view.emb y) = _
  rw [V_main_arg0]
theorem read5 (t : Fin cfg0.N) (y : S512x128.Idx) : (blk m c t).d y = arg2 m c (((cfg0.win 5).blk t).view.emb y) := by
  show V m c main_arg2 (((cfg0.win 5).blk t).view.emb y) = _
  rw [V_main_arg2]
theorem read3 (t : Fin cfg0.N) (y : S2x1x256x768.Idx) : (blk m c t).b0 y = (V m c main_v26 : S16x3x256x768.Idx → EReal) (((cfg0.win 3).blk t).view.emb y) := rfl
theorem read4 (t : Fin cfg0.N) (y : S2x1x256x768.Idx) : (blk m c t).b1 y = (V m c main_v26 : S16x3x256x768.Idx → EReal) (((cfg0.win 4).blk t).view.emb y) := rfl

theorem pair_col (a : Fin 8) (y : Fin 128) (u : Fin 3) : (colAt u (hd a y) (cl y)).val = 1024 * u.val + 128 * a.val + y.val := by
  unfold colAt hd cl; dsimp only; omega

theorem place0 (t : Fin cfg0.N) (r : Fin 512) (y : Fin 128) : (((cfg0.win 0).blk t).view.emb (ix2 r y : S512x128.Idx)) = ix2 (qrow (grid0.coords t) r) (colAt 0 (hd (pair t) y) (cl y)) := by
  have e0 : ((((cfg0.win 0).blk t).view.emb (ix2 r y : S512x128.Idx) 0 : Fin _) : ℕ) = t.val % 16 * 512 + r.val := by blk_simp [index0]
  have e1 : ((((cfg0.win 0).blk t).view.emb (ix2 r y : S512x128.Idx) 1 : Fin _) : ℕ) = t.val / 16 * 128 + y.val := by blk_simp [index0]
  funext a
  match a with
  | ⟨0, _⟩ => exact Fin.ext (e0.trans (by show t.val % 16 * 512 + r.val = 512 * (grid0.coords t 1).val + r.val; rw [coords1]; omega))
  | ⟨1, _⟩ => exact Fin.ext (e1.trans (by refine Eq.trans ?_ (pair_col (pair t) y 0).symm; show t.val / 16 * 128 + y.val = 1024 * 0 + 128 * (t.val / 16) + y.val; omega))
theorem place1 (t : Fin cfg0.N) (r : Fin 8192) (y : Fin 128) : (((cfg0.win 1).blk t).view.emb (ix2 r y : S8192x128.Idx)) = ix2 (r) (colAt 1 (hd (pair t) y) (cl y)) := by
  have e0 : ((((cfg0.win 1).blk t).view.emb (ix2 r y : S8192x128.Idx) 0 : Fin _) : ℕ) = r.val := by blk_simp [index1]
  have e1 : ((((cfg0.win 1).blk t).view.emb (ix2 r y : S8192x128.Idx) 1 : Fin _) : ℕ) = (8 + t.val / 16) * 128 + y.val := by blk_simp [index1]
  funext a
  match a with
  | ⟨0, _⟩ => exact Fin.ext (e0.trans (by rfl))
  | ⟨1, _⟩ => exact Fin.ext (e1.trans (by refine Eq.trans ?_ (pair_col (pair t) y 1).symm; show (8 + t.val / 16) * 128 + y.val = 1024 * 1 + 128 * (t.val / 16) + y.val; omega))
theorem place2 (t : Fin cfg0.N) (r : Fin 8192) (y : Fin 128) : (((cfg0.win 2).blk t).view.emb (ix2 r y : S8192x128.Idx)) = ix2 (r) (colAt 2 (hd (pair t) y) (cl y)) := by
  have e0 : ((((cfg0.win 2).blk t).view.emb (ix2 r y : S8192x128.Idx) 0 : Fin _) : ℕ) = r.val := by blk_simp [index2]
  have e1 : ((((cfg0.win 2).blk t).view.emb (ix2 r y : S8192x128.Idx) 1 : Fin _) : ℕ) = (16 + t.val / 16) * 128 + y.val := by blk_simp [index2]
  funext a
  match a with
  | ⟨0, _⟩ => exact Fin.ext (e0.trans (by rfl))
  | ⟨1, _⟩ => exact Fin.ext (e1.trans (by refine Eq.trans ?_ (pair_col (pair t) y 2).symm; show (16 + t.val / 16) * 128 + y.val = 1024 * 2 + 128 * (t.val / 16) + y.val; omega))
theorem place5 (t : Fin cfg0.N) (r : Fin 512) (y : Fin 128) : (((cfg0.win 5).blk t).view.emb (ix2 r y : S512x128.Idx)) = ix2 (qrow (grid0.coords t) r) (⟨64 * (hd (pair t) y).val + (cl y).val, by have := (hd (pair t) y).isLt; have := (cl y).isLt; omega⟩) := by
  have e0 : ((((cfg0.win 5).blk t).view.emb (ix2 r y : S512x128.Idx) 0 : Fin _) : ℕ) = t.val % 16 * 512 + r.val := by blk_simp [index5]
  have e1 : ((((cfg0.win 5).blk t).view.emb (ix2 r y : S512x128.Idx) 1 : Fin _) : ℕ) = t.val / 16 * 128 + y.val := by blk_simp [index5]
  funext a
  match a with
  | ⟨0, _⟩ => exact Fin.ext (e0.trans (by show t.val % 16 * 512 + r.val = 512 * (grid0.coords t 1).val + r.val; rw [coords1]; omega))
  | ⟨1, _⟩ => exact Fin.ext (e1.trans (by show t.val / 16 * 128 + y.val = 64 * (2 * (t.val / 16) + y.val / 64) + y.val % 64; omega))
theorem place3 (t : Fin cfg0.N) (e : Fin 2) (r : Fin 256) (x : Fin 768) : (((cfg0.win 3).blk t).view.emb (ix4 e 0 r x : S2x1x256x768.Idx))
    = ix4 (hof (pair t) e) ⟨min (2 * (t.val % 16)) 2, by omega⟩ r x := by
  have e0 : ((((cfg0.win 3).blk t).view.emb (ix4 e 0 r x : S2x1x256x768.Idx) 0 : Fin _) : ℕ) = t.val / 16 * 2 + e.val := by blk_simp [index3]
  have e1 : ((((cfg0.win 3).blk t).view.emb (ix4 e 0 r x : S2x1x256x768.Idx) 1 : Fin _) : ℕ) = min (2 * (t.val % 16)) 2 := by blk_simp [index3]; rfl
  have e2 : ((((cfg0.win 3).blk t).view.emb (ix4 e 0 r x : S2x1x256x768.Idx) 2 : Fin _) : ℕ) = r.val := by blk_simp [index3]
  have e3 : ((((cfg0.win 3).blk t).view.emb (ix4 e 0 r x : S2x1x256x768.Idx) 3 : Fin _) : ℕ) = x.val := by blk_simp [index3]
  funext a
  match a with
  | ⟨0, _⟩ => exact Fin.ext (e0.trans (by show _ = 2 * (t.val / 16) + e.val; omega))
  | ⟨1, _⟩ => exact Fin.ext e1
  | ⟨2, _⟩ => exact Fin.ext e2
  | ⟨3, _⟩ => exact Fin.ext e3
theorem place4 (t : Fin cfg0.N) (e : Fin 2) (r : Fin 256) (x : Fin 768) : (((cfg0.win 4).blk t).view.emb (ix4 e 0 r x : S2x1x256x768.Idx))
    = ix4 (hof (pair t) e) ⟨min (2 * (t.val % 16) + 1) 2, by omega⟩ r x := by
  have e0 : ((((cfg0.win 4).blk t).view.emb (ix4 e 0 r x : S2x1x256x768.Idx) 0 : Fin _) : ℕ) = t.val / 16 * 2 + e.val := by blk_simp [index4]
  have e1 : ((((cfg0.win 4).blk t).view.emb (ix4 e 0 r x : S2x1x256x768.Idx) 1 : Fin _) : ℕ) = min (2 * (t.val % 16) + 1) 2 := by blk_simp [index4]; rfl
  have e2 : ((((cfg0.win 4).blk t).view.emb (ix4 e 0 r x : S2x1x256x768.Idx) 2 : Fin _) : ℕ) = r.val := by blk_simp [index4]
  have e3 : ((((cfg0.win 4).blk t).view.emb (ix4 e 0 r x : S2x1x256x768.Idx) 3 : Fin _) : ℕ) = x.val := by blk_simp [index4]
  funext a
  match a with
  | ⟨0, _⟩ => exact Fin.ext (e0.trans (by show _ = 2 * (t.val / 16) + e.val; omega))
  | ⟨1, _⟩ => exact Fin.ext e1
  | ⟨2, _⟩ => exact Fin.ext e2
  | ⟨3, _⟩ => exact Fin.ext e3

/-- The tile of a group: that of its class, every group from the third on being of one class. -/
theorem tile_group (h1 : Reals (arg1 m c)) (h : Fin 16) (n : Fin 32) (k : Fin 3) (hk : k.val = min n.val 2) (r : Fin 256) (x : Fin 768) :
    (V m c main_v26 : S16x3x256x768.Idx → EReal) (ix4 h k r x) = bias (numbers m c) h n r x := by
  have hs : seen ⟨256 * k.val + r.val, by omega⟩ ⟨x.val, by omega⟩ ↔ seen (row n r) (key n x) := by
    unfold seen row key lo; dsimp only; omega
  have hr : rel ⟨256 * k.val + r.val, by omega⟩ ⟨x.val, by omega⟩ = rel (row n r) (key n x) :=
    Fin.ext (by unfold rel row key lo; dsimp only; omega)
  rw [tiles]
  unfold biasAt bias
  rw [hr]
  refine if_congr hs ?_ rfl
  exact h1.coe _

theorem blk_holds (h0 : Reals (arg0 m c)) (h1 : Reals (arg1 m c)) (h2 : Reals (arg2 m c)) (t : Fin cfg0.N) :
    BlkHolds (numbers m c) (pair t) (grid0.coords t) (blk m c t) where
  q r y := by rw [read0, place0, h0.coe]; rfl
  k j y := by rw [read1, place1, h0.coe]; rfl
  v j y := by rw [read2, place2, h0.coe]; rfl
  d r y := by rw [read5, place5, h2.coe]; rfl
  b0 e r x := by
    rw [read3, place3, tile_group m c h1 _ (grp (grid0.coords t) 0) _ (by show min _ 2 = min (2 * (grid0.coords t 1).val + 0) 2; rw [coords1]; rfl)]
  b1 e r x := by
    rw [read4, place4, tile_group m c h1 _ (grp (grid0.coords t) 1) _ (by show min _ 2 = min (2 * (grid0.coords t 1).val + 1) 2; rw [coords1])]

/-- The launch's result from real arguments. -/
theorem kernel_value (h0 : Reals (arg0 m c)) (h1 : Reals (arg1 m c)) (h2 : Reals (arg2 m c)) (r : PUnit × MemSt nD τ sig (Elt Ideal))
    (h : RDat.FramePost cfg0 (data m) (V m) r) : r.2.mem ((c.tc : Thread nD τ).loc main_v27_0) = whole (numbers m c) :=
  array_eq m (blk_holds m c h0 h1 h2) r h

end Cert.KernelIdeal.Steps
-- ==== Proof.Index.lean ====
/-
  Indices of rank two and three are equal when their coordinates are; a piece of a stack of rows; the zero constant.
-/
module

public import Idealize.ShloMosaic.PureOps.Ideal.Laws
public import Idealize.ShloMosaic.Lib.IdealHost
public import Idealize.ShloMosaic.Lib.StableHlo.ReadAt
public import Idealize.ShloMosaic.Lib.Pointwise
public import Idealize.ShloMosaic.Lib.Pointwise.ShapeOps
public import Idealize.ShloMosaic.Lib.ValueIdx

@[expose] public section

noncomputable section

namespace Cert

open Idealize.ShloMosaic

theorem ext2 {m n : ℕ} {i j : (⟨2, ![m, n]⟩ : Shape).Idx} (h0 : (i 0).val = (j 0).val) (h1 : (i 1).val = (j 1).val) : i = j :=
  funext fun a => by match a with | ⟨0, _⟩ => exact Fin.ext h0 | ⟨1, _⟩ => exact Fin.ext h1

theorem ext3 {l m n : ℕ} {i j : (⟨3, ![l, m, n]⟩ : Shape).Idx} (h0 : (i 0).val = (j 0).val) (h1 : (i 1).val = (j 1).val) (h2 : (i 2).val = (j 2).val) : i = j :=
  funext fun a => by match a with | ⟨0, _⟩ => exact Fin.ext h0 | ⟨1, _⟩ => exact Fin.ext h1 | ⟨2, _⟩ => exact Fin.ext h2

theorem only (a b : Fin 1) : a.val = b.val := congrArg Fin.val (Subsingleton.elim a b)

theorem ofBits_zero : (FloatOps.ofBits (F := Ideal) .f32 0x00000000#32 : EReal) = 0 := Ideal.ofBits_zero _

/-- In a stack of single rows, the last piece taller perhaps, the row asked for is its piece's. -/
theorem stacked {xs : List ((s : Shape) × (s.Idx → EReal))} {h : Shape.Concatenates (xs.map (·.1)) (⟨2, ![8, 1024]⟩ : Shape) 0} {r : Fin 8} (k : Fin 1024) (p : ℕ) (hp : p < xs.length)
    {n : ℕ} (v : (⟨2, ![n, 1024]⟩ : Shape).Idx → EReal) (hv : xs[p] = ⟨_, v⟩)
    (hs : (((xs.take p).map (·.1)).map fun s => if h : s.rank = (⟨2, ![8, 1024]⟩ : Shape).rank then s.size ((0 : Fin 2).cast h.symm) else 0).sum = p)
    (j : Fin n) (hj : p + j.val = r.val) : concatenate (⟨2, ![8, 1024]⟩ : Shape) 0 xs h (ix2 r k) = v (ix2 j k) :=
  concatenate_apply_piece (t := (⟨2, ![8, 1024]⟩ : Shape)) 0 xs h (ix2 r k) p hp _ v hv rfl p hs (ix2 j k)
    (fun b hb => by match b with | ⟨0, _⟩ => exact absurd rfl hb | ⟨1, _⟩ => rfl) hj

end Cert

end
-- ==== Proof.RefScores.lean ====
/-
  The reference's buffers up to the softmax, read at an index: the heads' columns, the bias, the mask and the scores.
-/
module

public import proofs.«01_k».proof.Proof.Gen.ReferenceIdeal.Read
public import proofs.«01_k».proof.Proof.Inputs
public import Idealize.ShloMosaic.Lib.Pointwise

@[expose] public section

set_option maxRecDepth 16384

noncomputable section

namespace Cert.ReferenceIdeal.Read

open Cert.ReferenceIdeal Cert.ReferenceIdeal.Gen Idealize.ShloMosaic Cert.Attn
open scoped BigOperators

/-! ### Equality of indices -/

theorem same2 {a b : ℕ} {f g : (⟨2, ![a, b]⟩ : Shape).Idx} (h0 : (f 0).val = (g 0).val) (h1 : (f 1).val = (g 1).val) : f = g := by
  funext q
  match q with
  | ⟨0, _⟩ => exact Fin.ext h0
  | ⟨1, _⟩ => exact Fin.ext h1

theorem same3 {a b c : ℕ} {f g : (⟨3, ![a, b, c]⟩ : Shape).Idx} (h0 : (f 0).val = (g 0).val) (h1 : (f 1).val = (g 1).val)
    (h2 : (f 2).val = (g 2).val) : f = g := by
  funext q
  match q with
  | ⟨0, _⟩ => exact Fin.ext h0
  | ⟨1, _⟩ => exact Fin.ext h1
  | ⟨2, _⟩ => exact Fin.ext h2

variable (a0 : (⟨2, ![8192, 3072]⟩ : Shape).Idx → EReal) (a1 : (⟨2, ![16, 257]⟩ : Shape).Idx → EReal)
  (a2 : (⟨2, ![8192, 1024]⟩ : Shape).Idx → EReal)

/-! ### The heads' columns -/

theorem v4_at (i : Fin 8192) (h : Fin 16) (d : Fin 64) : val_main_v4 (F := Ideal) a0 (ix3 i h d) = a0 (ix2 i (colAt 0 h d)) := by
  rw [val_main_v4_apply, val_main_v1_apply, val_main_v0_apply]
  refine congrArg a0 (same2 ?_ ?_)
  · show ((i.val * 16 + h.val) * 64 + d.val) / 1024 = i.val; omega
  · show ((i.val * 16 + h.val) * 64 + d.val) % 1024 = 1024 * 0 + 64 * h.val + d.val; omega

theorem v5_at (i : Fin 8192) (h : Fin 16) (d : Fin 64) : val_main_v5 (F := Ideal) a0 (ix3 i h d) = a0 (ix2 i (colAt 1 h d)) := by
  rw [val_main_v5_apply, val_main_v2_apply, val_main_v0_apply]
  refine congrArg a0 (same2 ?_ ?_)
  · show ((i.val * 16 + h.val) * 64 + d.val) / 1024 = i.val; omega
  · show 1024 + ((i.val * 16 + h.val) * 64 + d.val) % 1024 = 1024 * 1 + 64 * h.val + d.val; omega

theorem v6_at (i : Fin 8192) (h : Fin 16) (d : Fin 64) : val_main_v6 (F := Ideal) a0 (ix3 i h d) = a0 (ix2 i (colAt 2 h d)) := by
  rw [val_main_v6_apply, val_main_v3_apply, val_main_v0_apply]
  refine congrArg a0 (same2 ?_ ?_)
  · show ((i.val * 16 + h.val) * 64 + d.val) / 1024 = i.val; omega
  · show 2048 + ((i.val * 16 + h.val) * 64 + d.val) % 1024 = 1024 * 2 + 64 * h.val + d.val; omega

theorem v67_at (h : Fin 16) (d : Fin 64) (i : Fin 8192) :
    val_main_v67 (F := Ideal) a2 (ix3 h d i) = a2 (ix2 i ⟨64 * h.val + d.val, by omega⟩) := by
  rw [val_main_v67_apply, val_main_v66_apply, val_main_v65_apply]
  refine congrArg a2 (same2 ?_ ?_)
  · show ((i.val * 16 + h.val) * 64 + d.val) / 1024 = i.val; omega
  · show ((i.val * 16 + h.val) * 64 + d.val) % 1024 = 64 * h.val + d.val; omega

theorem v30_at (i : Fin 8192) (h : Fin 16) (d : Fin 64) :
    val_main_v30 (F := Ideal) a0 (ix3 i h d) = a0 (ix2 i (colAt 0 h d)) * ((0.125 : ℝ) : EReal) := by
  rw [val_main_v30_apply, v4_at, val_main_v29_apply, val_main_cst_apply]
  exact congrArg _ eighth_f32

/-! ### The mask -/

theorem v20_at (i j : Fin 8192) : val_main_v20 (F := Ideal) (ix2 i j) = BitVec.ofNat 32 (j.val / 64) := by
  rw [← quot_at j rfl]
  simp only [val_main_v20_apply, val_main_call1_v11_apply, val_main_call1_v13_apply, val_main_call1_v2_apply, val_main_call1_v6_apply,
    val_main_call1_v10_apply, val_main_call1_v12_apply, val_main_call1_v1_apply, val_main_call1_v5_apply, val_main_call1_v8_apply,
    val_main_call1_v9_apply, val_main_call1_v7_apply, val_main_call1_c_apply, val_main_call1_c_0_apply, val_main_call1_v0_apply, val_main_c_4_apply,
    val_main_v8_apply]
  rfl

theorem v21_at (i j : Fin 8192) : val_main_v21 (F := Ideal) (ix2 i j) = BitVec.ofNat 32 (i.val / 64) := by
  rw [← quot_at i rfl]
  simp only [val_main_v21_apply, val_main_call2_v11_apply, val_main_call2_v13_apply, val_main_call2_v2_apply, val_main_call2_v6_apply,
    val_main_call2_v10_apply, val_main_call2_v12_apply, val_main_call2_v1_apply, val_main_call2_v5_apply, val_main_call2_v8_apply,
    val_main_call2_v9_apply, val_main_call2_v7_apply, val_main_call2_c_apply, val_main_call2_c_0_apply, val_main_call2_v0_apply, val_main_c_5_apply,
    val_main_v7_apply]
  rfl

theorem v23_at (i j : Fin 8192) : val_main_v23 (F := Ideal) (ix2 i j) = BitVec.ofNat 32 (j.val / 64) := by
  rw [← quot_at j rfl]
  simp only [val_main_v23_apply, val_main_call3_v11_apply, val_main_call3_v13_apply, val_main_call3_v2_apply, val_main_call3_v6_apply,
    val_main_call3_v10_apply, val_main_call3_v12_apply, val_main_call3_v1_apply, val_main_call3_v5_apply, val_main_call3_v8_apply,
    val_main_call3_v9_apply, val_main_call3_v7_apply, val_main_call3_c_apply, val_main_call3_c_0_apply, val_main_call3_v0_apply, val_main_c_6_apply,
    val_main_v8_apply]
  rfl

theorem v24_at (i j : Fin 8192) : val_main_v24 (F := Ideal) (ix2 i j) = BitVec.ofNat 32 (i.val / 64) := by
  rw [← quot_at i rfl]
  simp only [val_main_v24_apply, val_main_call4_v11_apply, val_main_call4_v13_apply, val_main_call4_v2_apply, val_main_call4_v6_apply,
    val_main_call4_v10_apply, val_main_call4_v12_apply, val_main_call4_v1_apply, val_main_call4_v5_apply, val_main_call4_v8_apply,
    val_main_call4_v9_apply, val_main_call4_v7_apply, val_main_call4_c_apply, val_main_call4_c_0_apply, val_main_call4_v0_apply, val_main_c_7_apply,
    val_main_v7_apply]
  rfl

theorem v28_at (i j : Fin 8192) : val_main_v28 (F := Ideal) (ix2 i j) = if seen i j then 1#1 else 0#1 := by
  rw [val_main_v28_apply, val_main_v22_apply, val_main_v27_apply, val_main_v26_apply, v20_at, v21_at, v23_at, v24_at, val_main_v25_apply,
    val_main_c_8_apply, ← near_at]
  rfl

theorem v33_1_at (h : Fin 16) (i j : Fin 8192) : val_main_v33_1 (F := Ideal) (ix3 h i j) = if seen i j then 1#1 else 0#1 := by
  rw [val_main_v33_1_apply, ← v28_at]
  exact congrArg _ (same2 rfl rfl)

/-! ### The bias -/

theorem v17_at (i j : Fin 8192) :
    val_main_v17 (F := Ideal) (ix2 i j) = place (IntOp.subi (BitVec.ofNat 32 i.val) (BitVec.ofNat 32 j.val)) := by
  simp only [val_main_v17_apply, val_main_v14_apply, val_main_v16_apply, val_main_v12_apply, val_main_v10_apply, val_main_v11_apply,
    val_main_v13_apply, val_main_v15_apply, val_main_c_1_apply, val_main_c_2_apply, val_main_c_3_apply, val_main_v9_apply, val_main_v7_apply,
    val_main_v8_apply, val_main_call0_v0_apply, val_main_call0_v1_apply, val_main_call0_v2_apply, val_main_call0_v3_apply, val_main_call0_v4_apply,
    val_main_c_apply, val_main_c_0_apply]
  rfl

theorem v18_at (i j : Fin 8192) :
    val_main_v18 (F := Ideal) (ix3 i j 0) = place (IntOp.subi (BitVec.ofNat 32 i.val) (BitVec.ofNat 32 j.val)) := by
  rw [val_main_v18_apply, ← v17_at]
  exact congrArg (val_main_v17 (F := Ideal)) (same2 rfl rfl)

theorem gather_at (y : IVec S8192x8192x1 32) (h : Fin 16) (i j : Fin 8192) :
    Host.gather gather_S16x257_S8192x8192x1_S16x8192x8192_0_1_n_n_1_2_161 a1 y (ix3 h i j)
      = a1 (ix2 h ⟨min (y (ix3 i j 0)).toInt.toNat (257 - 1), by omega⟩) :=
  pairs (H := 16) (N := 257) (A := 8192) (B := 8192) (by decide) gather_S16x257_S8192x8192x1_S16x8192x8192_0_1_n_n_1_2_161_wf a1 y h i j

theorem v19_gather (h : Fin 16) (i j : Fin 8192) : val_main_v19 (F := Ideal) a1 (ix3 h i j)
    = a1 (ix2 h ⟨min (val_main_v18 (F := Ideal) (ix3 i j 0)).toInt.toNat (257 - 1), by omega⟩) :=
  gather_at a1 (val_main_v18 (F := Ideal)) h i j

theorem v19_at (h : Fin 16) (i j : Fin 8192) : val_main_v19 (F := Ideal) a1 (ix3 h i j) = a1 (ix2 h (rel i j)) := by
  rw [v19_gather]
  refine congrArg a1 (congrArg (ix2 h) (Fin.ext ?_))
  rw [← place_at, ← v18_at]

/-! ### The scores -/

variable (h0 : Reals a0) (h1 : Reals a1)
include h0 h1

theorem v32_at (h : Fin 16) (i j : Fin 8192) :
    val_main_v32 (F := Ideal) a0 a1 (ix3 h i j) = ((score (inputs a0 a1 a2) h i j : ℝ) : EReal) := by
  have e : ∀ d : Fin 64, val_main_v30 (F := Ideal) a0 (lidx_main_v31 (ix3 h i j) d) * val_main_v5 (F := Ideal) a0 (ridx_main_v31 (ix3 h i j) d)
      = (((inputs a0 a1 a2).q h i d * 0.125 * (inputs a0 a1 a2).k h j d : ℝ) : EReal) := fun d => by
    rw [show lidx_main_v31 (ix3 h i j) d = ix3 i h d from same3 rfl rfl rfl, show ridx_main_v31 (ix3 h i j) d = ix3 j h d from same3 rfl rfl rfl,
      v30_at, v5_at, h0.coe (ix2 i (colAt 0 h d)), h0.coe (ix2 j (colAt 1 h d)), ← EReal.coe_mul, ← EReal.coe_mul]
    rfl
  rw [val_main_v32_apply, val_main_v31_apply, v19_at, h1.coe (ix2 h (rel i j)), Finset.sum_congr rfl fun d _ => e d, coe_sum]
  exact (EReal.coe_add _ _).symm

theorem v33_at (h : Fin 16) (i j : Fin 8192) :
    val_main_v33_0 (F := Ideal) a0 a1 (ix3 h i j) = masked (seen i) (score (inputs a0 a1 a2) h i) j := by
  rw [val_main_v33_0_apply, v33_1_at, v32_at a0 a1 a2 h0 h1, val_main_call5_v2_apply, val_main_call5_v0_apply, val_main_cst_9_apply,
    show FloatOps.ofBits (F := Ideal) .f32 0xFF800000#32 = ⊥ from neg_inf_f32, select_seen]
  rfl

end Cert.ReferenceIdeal.Read

end

end
-- ==== Proof.RefValue.lean ====
/-
  The reference's result: the softmax, its gradient, and the gradients of the queries, the keys and the values.
-/
module

public import proofs.«01_k».proof.Proof.Index
public import proofs.«01_k».proof.Proof.RefScores
public import proofs.«01_k».proof.Proof.Region

@[expose] public section

set_option maxRecDepth 16384

noncomputable section

namespace Cert.ReferenceIdeal.Read

open Cert.ReferenceIdeal Cert.ReferenceIdeal.Gen Idealize.ShloMosaic Cert.Attn
open Cert.KernelIdeal.Steps (result whole)
open scoped BigOperators

/-! ### A fold of maxima over the last axis -/

theorem lift_last (hr : S16x8192x8192.Reduces [2] S16x8192) (h : Fin 16) (i : Fin 8192) (k : Fin 8192) : hr.lift (ix2 h i) k = ix3 h i k := by
  funext q
  match q with
  | ⟨0, _⟩ => exact Fin.ext rfl
  | ⟨1, _⟩ => exact Fin.ext rfl
  | ⟨2, _⟩ => exact Fin.ext rfl

theorem max_last (x : S16x8192x8192.Idx → EReal) (z : S_.Idx → EReal) (h : Fin 16) (i : Fin 8192) :
    Host.reduce (FloatOps.maximumf (F := Ideal) (φ := .f32)) x z reducesTo_S16x8192x8192_S16x8192_d2 h_S_ (ix2 h i)
      = Finset.univ.fold max (z (Shape.Idx.first h_S_)) fun k : Fin 8192 => x (ix3 h i k) := by
  rw [Host.reduce_eq_fold_single _ _ _ _ (by decide : S16x8192x8192.Reduces [2] S16x8192)]
  exact congrArg (fun f => Finset.fold max (z (Shape.Idx.first h_S_)) f (Finset.univ : Finset (Fin 8192)))
    (funext fun k => congrArg x (lift_last _ h i k))

variable (a0 : (⟨2, ![8192, 3072]⟩ : Shape).Idx → EReal) (a1 : (⟨2, ![16, 257]⟩ : Shape).Idx → EReal)
  (a2 : (⟨2, ![8192, 1024]⟩ : Shape).Idx → EReal) (h0 : Reals a0) (h1 : Reals a1) (h2 : Reals a2)

/-- A query's exponentials after `μ` was subtracted from its scores, and their sum. -/
def expo (X : In) (μ : ℝ) (h : Fin 16) (i j : Fin 8192) : ℝ := wt (seen i) (score X h i) j * Real.exp (-μ)
def total (X : In) (μ : ℝ) (h : Fin 16) (i : Fin 8192) : ℝ := (∑ j, wt (seen i) (score X h i) j) * Real.exp (-μ)

theorem total_ne (X : In) (μ : ℝ) (h : Fin 16) (i : Fin 8192) : total X μ h i ≠ 0 :=
  mul_ne_zero (sum_wt_pos _ _ i (seen_self i)).ne' (Real.exp_pos _).ne'

theorem sum_expo (X : In) (μ : ℝ) (h : Fin 16) (i : Fin 8192) : ∑ j, expo X μ h i j = total X μ h i := sum_shift _ _ _

/-- The number subtracted from a query's scores. -/
def shift (h : Fin 16) (i : Fin 8192) : ℝ := (val_main_v34 (F := Ideal) a0 a1 (ix2 h i)).toReal

/-! ### The softmax -/

section Softmax
include a2 h0 h1

/-- The greatest score of a query. -/
theorem v34_at (h : Fin 16) (i : Fin 8192) : ∃ μ : ℝ, val_main_v34 (F := Ideal) a0 a1 (ix2 h i) = ((μ : ℝ) : EReal) := by
  obtain ⟨μ, e⟩ := max_real (seen i) (score (inputs a0 a1 a2) h i) i (seen_self i)
  refine ⟨μ, (max_last (val_main_v33_0 (F := Ideal) a0 a1) (val_main_cst_10 (F := Ideal)) h i).trans (Eq.trans ?_ e)⟩
  rw [val_main_cst_10_apply, show FloatOps.ofBits (F := Ideal) .f32 0xFF800000#32 = ⊥ from neg_inf_f32]
  exact congrArg (fun f => Finset.fold max (⊥ : EReal) f (Finset.univ : Finset (Fin 8192))) (funext fun k => v33_at a0 a1 a2 h0 h1 h i k)

theorem v52_at (h : Fin 16) (i j : Fin 8192) : val_main_v52 (F := Ideal) a0 a1 (ix3 h i j) = ((shift a0 a1 h i : ℝ) : EReal) := by
  obtain ⟨μ, e⟩ := v34_at a0 a1 a2 h0 h1 h i
  rw [val_main_v52_apply, val_main_v51_apply, val_main_v41_apply, val_main_v40_apply, val_main_cst_12_apply,
    show FloatOps.ofBits (F := Ideal) .f32 0xFF800000#32 = ⊥ from neg_inf_f32,
    show idx_main_v51 (idx_main_v52 (ix3 h i j)) = ix2 h i from same2 rfl rfl]
  unfold shift
  rw [e]
  exact max_eq_right bot_le

theorem v54_at (h : Fin 16) (i j : Fin 8192) : val_main_v54 (F := Ideal) a0 a1 (ix3 h i j) = ((expo (inputs a0 a1 a2) (shift a0 a1 h i) h i j : ℝ) : EReal) := by
  rw [val_main_v54_apply, val_main_v53_apply, v33_at a0 a1 a2 h0 h1, v52_at a0 a1 a2 h0 h1]
  exact exp_masked _ _ _ _

theorem v55_at (h : Fin 16) (i : Fin 8192) : val_main_v55 (F := Ideal) a0 a1 (ix2 h i) = ((total (inputs a0 a1 a2) (shift a0 a1 h i) h i : ℝ) : EReal) := by
  rw [val_main_v55_apply, val_main_cst_18_apply, ofBits_zero, zero_add,
    ← sum_expo, ← coe_sum]
  refine Finset.sum_congr rfl fun j _ => ?_
  rw [show idx_main_v55 (ix2 h i) j = ix3 h i j from same3 rfl rfl rfl, v54_at a0 a1 a2 h0 h1]

theorem v58_at (h : Fin 16) (i j : Fin 8192) : val_main_v58 (F := Ideal) a0 a1 (ix3 h i j) = ((p (inputs a0 a1 a2) h i j : ℝ) : EReal) := by
  rw [val_main_v58_apply, v54_at a0 a1 a2 h0 h1, val_main_v57_apply, val_main_v56_apply,
    show idx_main_v56 (idx_main_v57 (ix3 h i j)) = ix2 h i from same2 rfl rfl, v55_at a0 a1 a2 h0 h1]
  refine (div_coe _ _ (total_ne _ _ h i)).trans ?_
  exact congrArg _ (normal_shift _ _ _ _)

theorem v71_at (h : Fin 16) (i j : Fin 8192) : val_main_v71 (F := Ideal) a0 a1 (ix3 h i j) = ((1 / ((total (inputs a0 a1 a2) (shift a0 a1 h i) h i) * (total (inputs a0 a1 a2) (shift a0 a1 h i) h i)) : ℝ) : EReal) := by
  rw [val_main_v71_apply, val_main_v61_apply, val_main_v60_apply, val_main_cst_19_apply, val_main_v59_apply, val_main_v56_apply,
    show idx_main_v56 (idx_main_v71 (ix3 h i j)) = ix2 h i from same2 rfl rfl, v55_at a0 a1 a2 h0 h1,
    show FloatOps.ofBits (F := Ideal) .f32 0x3F800000#32 = ((1 : ℝ) : EReal) from Ideal.ofBits_one_f32]
  have hm : FloatOps.mulf (F := Ideal) (φ := .f32) ((total (inputs a0 a1 a2) (shift a0 a1 h i) h i : ℝ) : EReal) ((total (inputs a0 a1 a2) (shift a0 a1 h i) h i : ℝ) : EReal) = (((total (inputs a0 a1 a2) (shift a0 a1 h i) h i) * (total (inputs a0 a1 a2) (shift a0 a1 h i) h i) : ℝ) : EReal) := (EReal.coe_mul _ _).symm
  rw [hm]
  exact div_coe _ _ (mul_ne_zero (total_ne _ _ h i) (total_ne _ _ h i))

end Softmax

/-! ### The scores' gradient -/

section Gradient
include h0 h2

theorem v68_at (h : Fin 16) (i j : Fin 8192) : val_main_v68 (F := Ideal) a0 a2 (ix3 h i j) = ((dp (inputs a0 a1 a2) h i j : ℝ) : EReal) := by
  rw [val_main_v68_apply]
  refine Eq.trans (Finset.sum_congr rfl fun d _ => ?_) (coe_sum _ _)
  rw [show lidx_main_v68 (ix3 h i j) d = ix3 h d i from same3 rfl rfl rfl, show ridx_main_v68 (ix3 h i j) d = ix3 j h d from same3 rfl rfl rfl,
    v67_at, v6_at, h2.coe (ix2 i _), h0.coe (ix2 j (colAt 2 h d)), ← EReal.coe_mul]
  rfl

include h1

theorem v80_at (h : Fin 16) (i j : Fin 8192) : val_main_v80 (F := Ideal) a0 a1 a2 (ix3 h i j)
    = ((∑ c, -(dp (inputs a0 a1 a2) h i c * (1 / ((total (inputs a0 a1 a2) (shift a0 a1 h i) h i) * (total (inputs a0 a1 a2) (shift a0 a1 h i) h i)))
        * expo (inputs a0 a1 a2) (shift a0 a1 h i) h i c) : ℝ) : EReal) := by
  rw [val_main_v80_apply, val_main_v79_apply, Fin.sum_univ_one, val_main_v76_apply, val_main_v75_apply, val_main_v74_apply,
    val_main_cst_20_apply, val_main_cst_21_apply, ofBits_zero, zero_add, zero_add,
    show idx_main_v75 (idx_main_v79 (idx_main_v80 (ix3 h i j)) 0) = ix2 h i from same2
      (by show ((h.val * 8192 + i.val) * 1 + 0) / 8192 = h.val; omega) (by show ((h.val * 8192 + i.val) * 1 + 0) % 8192 = i.val; omega),
    Finset.sum_neg_distrib, EReal.coe_neg, ← coe_sum]
  refine congrArg (fun x : EReal => -x) (Finset.sum_congr rfl fun c _ => ?_)
  rw [show idx_main_v74 (ix2 h i) c = ix3 h i c from same3 rfl rfl rfl, val_main_v73_apply, val_main_v72_apply, v68_at a0 a1 a2 h0 h2,
    v71_at a0 a1 a2 h0 h1, v54_at a0 a1 a2 h0 h1, EReal.coe_mul, EReal.coe_mul (dp _ _ _ _)]
  rfl

theorem v82_at (h : Fin 16) (i j : Fin 8192) : val_main_v82 (F := Ideal) a0 a1 a2 (ix3 h i j) = ((ds (inputs a0 a1 a2) h i j : ℝ) : EReal) := by
  have e : ds (inputs a0 a1 a2) h i j = (dp (inputs a0 a1 a2) h i j / total (inputs a0 a1 a2) (shift a0 a1 h i) h i
      + ∑ c, -(dp (inputs a0 a1 a2) h i c * (1 / ((total (inputs a0 a1 a2) (shift a0 a1 h i) h i) * (total (inputs a0 a1 a2) (shift a0 a1 h i) h i))) * expo (inputs a0 a1 a2) (shift a0 a1 h i) h i c))
      * expo (inputs a0 a1 a2) (shift a0 a1 h i) h i j := (grad_form (seen i) (score (inputs a0 a1 a2) h i) (shift a0 a1 h i) (dp (inputs a0 a1 a2) h i) i (seen_self i) j).symm
  rw [val_main_v82_apply, val_main_v81_apply, v54_at a0 a1 a2 h0 h1, v80_at a0 a1 a2 h0 h1 h2, val_main_v78_apply, v68_at a0 a1 a2 h0 h2,
    val_main_v77_apply, val_main_v56_apply, show idx_main_v56 (idx_main_v77 (ix3 h i j)) = ix2 h i from same2 rfl rfl, v55_at a0 a1 a2 h0 h1,
    show FloatOps.hostDivf (F := Ideal) (φ := .f32) _ _ = _ from div_coe _ _ (total_ne _ _ h i), e, EReal.coe_mul, EReal.coe_add]
  rfl

theorem v83_at (h : Fin 16) (i j : Fin 8192) : val_main_v83 (F := Ideal) a0 a1 a2 (ix3 h i j) = ((ds (inputs a0 a1 a2) h i j : ℝ) : EReal) := by
  rw [val_main_v83_apply, v33_1_at, v82_at a0 a1 a2 h0 h1 h2, val_main_call6_v0_apply, val_main_call6_cst_apply,
    ofBits_zero]
  unfold Scalar.select
  by_cases hs : seen i j
  · rw [if_pos hs]; exact if_pos rfl
  · rw [if_neg hs, ds_of_not_seen _ _ hs]; exact if_neg (by decide)

/-! ### The three gradients -/

theorem v89_at (i : Fin 8192) (h : Fin 16) (d : Fin 64) : val_main_v89 (F := Ideal) a0 a1 a2 (ix3 i h d) = ((dq (inputs a0 a1 a2) h i d : ℝ) : EReal) := by
  have hs : val_main_v86 (F := Ideal) a0 a1 a2 (ix3 h i d) = ((∑ j, ds (inputs a0 a1 a2) h i j * (inputs a0 a1 a2).k h j d : ℝ) : EReal) := by
    rw [val_main_v86_apply]
    refine Eq.trans (Finset.sum_congr rfl fun j _ => ?_) (coe_sum _ _)
    rw [show lidx_main_v86 (ix3 h i d) j = ix3 h i j from same3 rfl rfl rfl, show ridx_main_v86 (ix3 h i d) j = ix3 j h d from same3 rfl rfl rfl,
      v83_at a0 a1 a2 h0 h1 h2, v5_at, h0.coe (ix2 j (colAt 1 h d)), ← EReal.coe_mul]
    rfl
  rw [val_main_v89_apply, val_main_v88_apply, val_main_cst_22_apply, val_main_v87_apply,
    show idx_main_v87 (ix3 i h d) = ix3 h i d from same3 rfl rfl rfl, hs,
    show FloatOps.ofBits (F := Ideal) .f32 0x3E000000#32 = ((0.125 : ℝ) : EReal) from eighth_f32]
  exact (EReal.coe_mul _ _).symm

theorem v85_at (j : Fin 8192) (h : Fin 16) (d : Fin 64) : val_main_v85 (F := Ideal) a0 a1 a2 (ix3 j h d) = ((dk (inputs a0 a1 a2) h j d : ℝ) : EReal) := by
  rw [val_main_v85_apply, show idx_main_v85 (ix3 j h d) = ix3 h j d from same3 rfl rfl rfl, val_main_v84_apply]
  refine Eq.trans (Finset.sum_congr rfl fun i _ => ?_) (coe_sum _ _)
  rw [show lidx_main_v84 (ix3 h j d) i = ix3 h i j from same3 rfl rfl rfl, show ridx_main_v84 (ix3 h j d) i = ix3 i h d from same3 rfl rfl rfl,
    v83_at a0 a1 a2 h0 h1 h2, v30_at, h0.coe (ix2 i (colAt 0 h d)), ← EReal.coe_mul, ← EReal.coe_mul]
  rfl

theorem v70_at (j : Fin 8192) (h : Fin 16) (d : Fin 64) : val_main_v70 (F := Ideal) a0 a1 a2 (ix3 j h d) = ((dv (inputs a0 a1 a2) h j d : ℝ) : EReal) := by
  rw [val_main_v70_apply, show idx_main_v70 (ix3 j h d) = ix3 h d j from same3 rfl rfl rfl, val_main_v69_apply]
  refine Eq.trans (Finset.sum_congr rfl fun i _ => ?_) (coe_sum _ _)
  rw [show lidx_main_v69 (ix3 h d j) i = ix3 h d i from same3 rfl rfl rfl, show ridx_main_v69 (ix3 h d j) i = ix3 h i j from same3 rfl rfl rfl,
    v67_at, v58_at a0 a1 a2 h0 h1, h2.coe (ix2 i _), ← EReal.coe_mul, mul_comm]
  rfl

end Gradient

/-! ### The three gradients side by side, and stacked -/

section Layout

variable {α : Type} (x y z : S8192x1024.Idx → α) (x' y' z' : S1x8192x1024.Idx → α) (i : Fin 8192) (c : Fin 1024)

theorem beside0 : concatenate S8192x3072 1 [⟨S8192x1024, x⟩, ⟨S8192x1024, y⟩, ⟨S8192x1024, z⟩] concatenates_S8192x1024_S8192x1024_S8192x1024_S8192x3072_d1
    (idx_main_v94 (ix2 i c)) = x (ix2 i c) :=
  concatenate_apply_piece (t := S8192x3072) 1 _ _ _ 0 (by show 0 < 3; decide) S8192x1024 x rfl rfl 0 rfl (ix2 i c)
    (fun b hb => by match b with
      | ⟨0, _⟩ => rfl
      | ⟨1, _⟩ => exact absurd rfl hb) (by show 0 + c.val = c.val; omega)

theorem beside1 : concatenate S8192x3072 1 [⟨S8192x1024, x⟩, ⟨S8192x1024, y⟩, ⟨S8192x1024, z⟩] concatenates_S8192x1024_S8192x1024_S8192x1024_S8192x3072_d1
    (idx_main_v95 (ix2 i c)) = y (ix2 i c) :=
  concatenate_apply_piece (t := S8192x3072) 1 _ _ _ 1 (by show 1 < 3; decide) S8192x1024 y rfl rfl 1024 rfl (ix2 i c)
    (fun b hb => by match b with
      | ⟨0, _⟩ => rfl
      | ⟨1, _⟩ => exact absurd rfl hb) rfl

theorem beside2 : concatenate S8192x3072 1 [⟨S8192x1024, x⟩, ⟨S8192x1024, y⟩, ⟨S8192x1024, z⟩] concatenates_S8192x1024_S8192x1024_S8192x1024_S8192x3072_d1
    (idx_main_v96 (ix2 i c)) = z (ix2 i c) :=
  concatenate_apply_piece (t := S8192x3072) 1 _ _ _ 2 (by show 2 < 3; decide) S8192x1024 z rfl rfl 2048 rfl (ix2 i c)
    (fun b hb => by match b with
      | ⟨0, _⟩ => rfl
      | ⟨1, _⟩ => exact absurd rfl hb) rfl

theorem stacked0 : concatenate S3x8192x1024 0 [⟨S1x8192x1024, x'⟩, ⟨S1x8192x1024, y'⟩, ⟨S1x8192x1024, z'⟩]
    concatenates_S1x8192x1024_S1x8192x1024_S1x8192x1024_S3x8192x1024_d0 (ix3 0 i c) = x' (ix3 0 i c) :=
  concatenate_apply_piece (t := S3x8192x1024) 0 _ _ _ 0 (by show 0 < 3; decide) S1x8192x1024 x' rfl rfl 0 rfl (ix3 0 i c)
    (fun b hb => by match b with
      | ⟨0, _⟩ => exact absurd rfl hb
      | ⟨1, _⟩ => rfl
      | ⟨2, _⟩ => rfl) rfl

theorem stacked1 : concatenate S3x8192x1024 0 [⟨S1x8192x1024, x'⟩, ⟨S1x8192x1024, y'⟩, ⟨S1x8192x1024, z'⟩]
    concatenates_S1x8192x1024_S1x8192x1024_S1x8192x1024_S3x8192x1024_d0 (ix3 1 i c) = y' (ix3 0 i c) :=
  concatenate_apply_piece (t := S3x8192x1024) 0 _ _ _ 1 (by show 1 < 3; decide) S1x8192x1024 y' rfl rfl 1 rfl (ix3 0 i c)
    (fun b hb => by match b with
      | ⟨0, _⟩ => exact absurd rfl hb
      | ⟨1, _⟩ => rfl
      | ⟨2, _⟩ => rfl) rfl

theorem stacked2 : concatenate S3x8192x1024 0 [⟨S1x8192x1024, x'⟩, ⟨S1x8192x1024, y'⟩, ⟨S1x8192x1024, z'⟩]
    concatenates_S1x8192x1024_S1x8192x1024_S1x8192x1024_S3x8192x1024_d0 (ix3 2 i c) = z' (ix3 0 i c) :=
  concatenate_apply_piece (t := S3x8192x1024) 0 _ _ _ 2 (by show 2 < 3; decide) S1x8192x1024 z' rfl rfl 2 rfl (ix3 0 i c)
    (fun b hb => by match b with
      | ⟨0, _⟩ => exact absurd rfl hb
      | ⟨1, _⟩ => rfl
      | ⟨2, _⟩ => rfl) rfl

end Layout

/-- The head and the column within it that one of the 1024 columns is. -/
theorem heads (i : Fin 8192) (c : Fin 1024) : idx_main_v92 (ix2 i c) = ix3 i ⟨c.val / 64, by omega⟩ ⟨c.val % 64, by omega⟩ :=
  same3 (by show (i.val * 1024 + c.val) / 1024 = i.val; omega) (by show (i.val * 1024 + c.val) / 64 % 16 = c.val / 64; omega)
    (by show (i.val * 1024 + c.val) % 64 = c.val % 64; omega)

section Whole
include h0 h1 h2

theorem value_at (u : Fin 3) (i : Fin 8192) (c : Fin 1024) : val_main_v101 (F := Ideal) a0 a1 a2 (ix3 u i c)
    = ((result (inputs a0 a1 a2) u ⟨c.val / 64, by omega⟩ i ⟨c.val % 64, by omega⟩ : ℝ) : EReal) := by
  match u with
  | 0 =>
    refine (stacked0 (val_main_v97 (F := Ideal) a0 a1 a2) (val_main_v98 (F := Ideal) a0 a1 a2) (val_main_v99 (F := Ideal) a0 a1 a2) i c).trans ?_
    rw [val_main_v97_apply, show idx_main_v97 (ix3 0 i c) = ix2 i c from same2 rfl rfl, val_main_v94_apply]
    refine (beside0 (val_main_v92 (F := Ideal) a0 a1 a2) (val_main_v91 (F := Ideal) a0 a1 a2) (val_main_v90 (F := Ideal) a0 a1 a2) i c).trans ?_
    rw [val_main_v92_apply, heads, v89_at a0 a1 a2 h0 h1 h2]
    rfl
  | 1 =>
    refine (stacked1 (val_main_v97 (F := Ideal) a0 a1 a2) (val_main_v98 (F := Ideal) a0 a1 a2) (val_main_v99 (F := Ideal) a0 a1 a2) i c).trans ?_
    rw [val_main_v98_apply, show idx_main_v98 (ix3 0 i c) = ix2 i c from same2 rfl rfl, val_main_v95_apply]
    refine (beside1 (val_main_v92 (F := Ideal) a0 a1 a2) (val_main_v91 (F := Ideal) a0 a1 a2) (val_main_v90 (F := Ideal) a0 a1 a2) i c).trans ?_
    rw [val_main_v91_apply, show idx_main_v91 (ix2 i c) = _ from heads i c, v85_at a0 a1 a2 h0 h1 h2]
    rfl
  | 2 =>
    refine (stacked2 (val_main_v97 (F := Ideal) a0 a1 a2) (val_main_v98 (F := Ideal) a0 a1 a2) (val_main_v99 (F := Ideal) a0 a1 a2) i c).trans ?_
    rw [val_main_v99_apply, show idx_main_v99 (ix3 0 i c) = ix2 i c from same2 rfl rfl, val_main_v96_apply]
    refine (beside2 (val_main_v92 (F := Ideal) a0 a1 a2) (val_main_v91 (F := Ideal) a0 a1 a2) (val_main_v90 (F := Ideal) a0 a1 a2) i c).trans ?_
    rw [val_main_v90_apply, show idx_main_v90 (ix2 i c) = _ from heads i c, v70_at a0 a1 a2 h0 h1 h2]
    rfl

/-- The reference's result holds the three gradients. -/
theorem reference_value : val_main_v101 (F := Ideal) a0 a1 a2 = whole (inputs a0 a1 a2) := by
  funext y
  have e : y = ix3 (y 0) (y 1) (y 2) := same3 rfl rfl rfl
  rw [e]
  exact value_at a0 a1 a2 h0 h1 h2 (y 0) (y 1) (y 2)

end Whole

end Cert.ReferenceIdeal.Read

end

end
-- ==== Proof.Finite.lean ====
/-
  What the precondition says: every entry of the three arguments is a real number.
-/
module

public import proofs.«01_k».proof.Proof.Gen.Pre_finite
public import proofs.«01_k».proof.Proof.Inputs
public import Idealize.ShloMosaic.Lib.ReduceAll

@[expose] public section

noncomputable section

namespace Cert.Attn

open Idealize.ShloMosaic Cert.Pre_finite Cert.Pre_finite.Gen

theorem inf_f32 : Ideal.ofBits .f32 0x7F800000#32 = ⊤ := by simp [Ideal.ofBits, Ideal.ieee]

/-- A magnitude below +∞ is that of a real number. -/
theorem real_of_lt (x : EReal) (h : FloatOps.cmpf (F := Ideal) (φ := .f32) .olt (FloatOps.hostAbsf (F := Ideal) (φ := .f32) x) (Ideal.ofBits .f32 0x7F800000#32) = 1#1) :
    x ≠ ⊤ ∧ x ≠ ⊥ := by
  rw [inf_f32] at h
  have hl : max x (-x) < ⊤ := by
    by_contra hc
    have : FloatOps.cmpf (F := Ideal) (φ := .f32) .olt (FloatOps.hostAbsf (F := Ideal) (φ := .f32) x) (⊤ : EReal) = 0#1 := by
      show Ideal.cmp .olt (max x (-x)) ⊤ = 0#1
      simp only [Ideal.cmp]
      simp [hc]
    rw [this] at h
    exact absurd h (by decide)
  refine ⟨fun hx => ?_, fun hx => ?_⟩
  · rw [hx] at hl; simp at hl
  · rw [hx] at hl; simp at hl

instance : Subsingleton S_.Idx := ⟨fun f g => funext fun a => a.elim0⟩

theorem reals (a0 : S8192x3072.Idx → EReal) (a1 : S16x257.Idx → EReal) (a2 : S8192x1024.Idx → EReal)
    (h : Cert.Pre_finite.fn (F := Ideal) a0 a1 a2 = fun _ => 1#1) : Reals a0 ∧ Reals a1 ∧ Reals a2 := by
  have e := congrFun h (Shape.Idx.first h_S_)
  unfold Cert.Pre_finite.fn at e
  obtain ⟨e01, e2⟩ := IntOp.andi_eq_one.1 e
  obtain ⟨e0, e1⟩ := IntOp.andi_eq_one.1 e01
  exact ⟨fun i => real_of_lt _ (Host.reduce_andi_all _ _ _ _ _ e0 i), fun i => real_of_lt _ (Host.reduce_andi_all _ _ _ _ _ e1 i),
    fun i => real_of_lt _ (Host.reduce_andi_all _ _ _ _ _ e2 i)⟩

end Cert.Attn

end

end
-- ==== Proof.Mlp.lean ====
/-
  The squared positive part, the activation of the channel mixer, and its derivative over the extended reals.
-/
module

public import proofs.«01_k».proof.Proof.Index
public import Idealize.ShloMosaic.PureOps.Ideal.Laws
public import Idealize.ShloMosaic.Lib.IdealHost
public import Idealize.ShloMosaic.Lib.FinSumWindow
public import Idealize.ShloMosaic.Lib.StableHlo.ReadAt
public import Idealize.ShloMosaic.Lib.Pointwise
public import Idealize.ShloMosaic.Lib.Pointwise.Tactic
public import Idealize.ShloMosaic.Lib.Pointwise.Contract
public import Idealize.ShloMosaic.Lib.Pointwise.Reduce
public import Idealize.ShloMosaic.Lib.Pointwise.Reshape
public import Idealize.ShloMosaic.Lib.Pointwise.ShapeOps
public import Idealize.ShloMosaic.Lib.Pointwise.Select
public import Idealize.ShloMosaic.Lib.Pipeline.ArrRel

@[expose] public section

noncomputable section

namespace Cert.Mlp

open Idealize.ShloMosaic
open scoped BigOperators

/-- The square of the positive part. -/
def relu2 (z : EReal) : EReal := max z 0 * max z 0

/-- The part of a sum over the places `0 … J * T - 1` that lies in tile `n`. -/
def tile {N : ℕ} (J T : ℕ) (hN : J * T = N) (f : Fin N → EReal) (n : ℕ) : EReal :=
  if h : n < J then ∑ t : Fin T, f ⟨n * T + t.val, by
    have ht := t.isLt; subst hN
    calc n * T + t.val < n * T + T := by omega
      _ = (n + 1) * T := by rw [Nat.add_mul, Nat.one_mul]
      _ ≤ J * T := Nat.mul_le_mul_right _ (by omega)⟩ else 0

theorem tile_of_lt {N : ℕ} (J T : ℕ) (hN : J * T = N) (f : Fin N → EReal) (n : ℕ) (h : n < J) (hb : ∀ t : Fin T, n * T + t.val < N) :
    tile J T hN f n = ∑ t : Fin T, f ⟨n * T + t.val, hb t⟩ := dif_pos h

/-- The tiles make up the whole sum. -/
theorem tiles_sum {N : ℕ} (J T : ℕ) (hN : J * T = N) (f : Fin N → EReal) :
    ∑ n ∈ Finset.range J, tile J T hN f n = ∑ k : Fin N, f k := by
  rw [Fin.sum_univ_tiles J T hN f, ← Fin.sum_univ_eq_sum_range]
  exact Finset.sum_congr rfl fun j _ => dif_pos j.isLt

end Cert.Mlp

end
-- ==== Proof.Up.lean ====
/-
  The MLP's first product: the activations are the squares of the positive parts of the products with the first weight.
-/
module

public import proofs.«01_k».proof.Proof.Gen.Kernel2Ideal.Value
public import proofs.«01_k».proof.Proof.Gen.Reference2Ideal.Read
public import proofs.«01_k».proof.Proof.Mlp

@[expose] public section

set_option maxRecDepth 16384

noncomputable section

namespace Cert.Kernel2Ideal.Up

open Cert.Kernel2Ideal Cert.Kernel2Ideal.Gen Cert.Mlp
open Idealize.ShloMosaic Idealize.ShloMosaic.TcCoe
open Idealize.ShloMosaic.Pipeline (Window)
open scoped BigOperators

variable (m : (ℓ : Loc nD τ sig) → Buf (Elt Ideal) ℓ) (c : Dev nD)

/-- The two arguments: the block's input and its first weight. -/
abbrev arg0 : S8192x1024.Idx → EReal := m ((c.tc : Thread nD τ).loc main_arg0)
abbrev arg1 : S1024x4096.Idx → EReal := m ((c.tc : Thread nD τ).loc main_arg1)

/-- The activations. -/
def act (u : S8192x1024.Idx → EReal) (w : S1024x4096.Idx → EReal) : S8192x4096.Idx → EReal := fun i =>
  relu2 (∑ k : Fin 1024, u (ix2 (i 0) k) * w (ix2 k (i 1)))

/-- A step's stored block, by rows and columns. -/
theorem stored (x0 : Vec Ideal S512x1024 .bf16) (x1 : Vec Ideal S1x1024x4096 .bf16) (r : Fin 512) (q : Fin 4096) :
    (k0_pay1 x0 x1 : S512x4096.Idx → EReal) (ix2 r q) = relu2 (∑ k : Fin 1024, (x0 (ix2 r k) : EReal) * x1 (ix3 0 k q)) := by
  pointwise [k0_pay1]
  rfl

theorem V_weight (k : Fin 1024) (q : Fin 4096) : (V m c main_v1 : S1x1024x4096.Idx → EReal) (ix3 0 k q) = arg1 m c (ix2 k q) := by
  unfold V
  after_reads_at

theorem index0 : ∀ t : Fin cfg0.N, win0_0.index t = ![t.val, 0] := (by decide +kernel : ∀ t : Fin grid0.N, win0_0.index t = ![t.val, 0])
theorem index1 : ∀ t : Fin cfg0.N, win0_1.index t = ![0, 0, 0] := (by decide +kernel : ∀ t : Fin grid0.N, win0_1.index t = ![0, 0, 0])
theorem index2 : ∀ t : Fin cfg0.N, win0_2.index t = ![t.val, 0] := (by decide +kernel : ∀ t : Fin grid0.N, win0_2.index t = ![t.val, 0])

theorem block0 (t : Fin cfg0.N) (r : Fin 512) (k : Fin 1024) (h : 512 * t.val + r.val < 8192) :
    (iblk m c 0 t : S512x1024.Idx → EReal) (ix2 r k) = arg0 m c (ix2 ⟨512 * t.val + r.val, h⟩ k) := by
  have e0 : ((((cfg0.win 0).blk t).view.emb (ix2 r k : S512x1024.Idx) 0 : Fin _) : ℕ) = 512 * t.val + r.val := by blk_simp [index0]; omega
  have e1 : ((((cfg0.win 0).blk t).view.emb (ix2 r k : S512x1024.Idx) 1 : Fin _) : ℕ) = k.val := by blk_simp [index0]
  refine Eq.trans (b := V m c main_arg0 (((cfg0.win 0).blk t).view.emb (ix2 r k : S512x1024.Idx))) rfl ?_
  rw [V_main_arg0]
  refine congrArg (arg0 m c) (funext fun a => ?_)
  match a with
  | ⟨0, _⟩ => exact Fin.ext e0
  | ⟨1, _⟩ => exact Fin.ext e1

theorem block1 (t : Fin cfg0.N) (k : Fin 1024) (q : Fin 4096) : (iblk m c 1 t : S1x1024x4096.Idx → EReal) (ix3 0 k q) = arg1 m c (ix2 k q) := by
  refine Eq.trans (b := V m c main_v1 (((cfg0.win 1).blk t).view.emb (ix3 0 k q : S1x1024x4096.Idx))) rfl ?_
  exact Eq.trans (congrArg (V m c main_v1) (a₂ := ix3 0 k q) (ext3 (only _ _) (by show _ = k.val; blk_simp [index1]) (by show _ = q.val; blk_simp [index1]))) (V_weight m c k q)

theorem hz2 : (![0, 0] : Fin 2 → Nat) = fun _ => 0 := funext fun a => by fin_cases a <;> rfl
theorem hz3 : (![0, 0, 0] : Fin 3 → Nat) = fun _ => 0 := funext fun a => by fin_cases a <;> rfl

theorem out_eq (x0 : Vec Ideal S512x1024 .bf16) (x1 : Vec Ideal S1x1024x4096 .bf16) : out0_2 x0 x1 = k0_pay1 x0 x1 := by
  unfold out0_2
  rw [View.canon_unit_zero (S := S512x4096) hz2, View.ld_unit_zero (S := S512x1024) hz2, View.ld_unit_zero (S := S1x1024x4096) hz3]

/-- The whole result. -/
theorem result : (dats m 0 c).arrAt 2 cfg0.N = act (arg0 m c) (arg1 m c) := by
  have hcov : (cfg0.win 2).Covers := by decide +kernel
  refine (dats m 0 c).arrAt_eq_of_covers (2 : Fin cfg0.W) (act (arg0 m c) (arg1 m c)) hcov (fun t hf y => ?_) (Memref.isWhole_whole _)
  refine Eq.trans (b := (dats m 0 c).after 2 t y) (by blk_simp) ?_
  rw [after0_2, out_eq]
  have b0 : (y 0).val < 512 := (y 0).isLt
  have ht : t.val < 16 := t.isLt.trans_eq N_0
  have e0 : ((((cfg0.win 2).blk t).view.emb y 0 : Fin _) : ℕ) = 512 * t.val + (y 0).val := by blk_simp [index2]; omega
  have e1 : ((((cfg0.win 2).blk t).view.emb y 1 : Fin _) : ℕ) = (y 1).val := by blk_simp [index2]
  refine ((congrArg _ (ValueIdx.eq_ix2 y)).trans (stored _ _ (y 0) (y 1))).trans ?_
  unfold act
  refine congrArg relu2 (Finset.sum_congr rfl fun k _ => ?_)
  rw [block0 m c t (y 0) k (by omega), block1 m c t k (y 1)]
  have q0 : (⟨512 * t.val + (y 0).val, by omega⟩ : Fin 8192) = ((cfg0.win 2).blk t).view.emb y 0 := Fin.ext e0.symm
  have q1 : y 1 = ((cfg0.win 2).blk t).view.emb y 1 := Fin.ext e1.symm
  rw [q0, q1]

end Cert.Kernel2Ideal.Up

namespace Cert.Reference2Ideal.Read

open Cert.Reference2Ideal Cert.Reference2Ideal.Gen Cert.Mlp
open Idealize.ShloMosaic

theorem reference_value (x0 : S8192x1024.Idx → EReal) (x1 : S1024x4096.Idx → EReal) :
    val_main_v4 (F := Ideal) x0 x1 = Cert.Kernel2Ideal.Up.act x0 x1 := by
  funext i
  rw [val_main_v4_apply, val_main_v3_apply, val_main_v2_apply, val_main_v1_apply, val_main_call0_v0_apply, val_main_call0_cst_apply]
  have hz : (FloatOps.ofBits (F := Ideal) .f32 0x00000000#32 : EReal) = 0 := by simpa using Ideal.ofBits_zero_f32
  rw [hz]
  unfold Cert.Kernel2Ideal.Up.act relu2
  simp only [val_main_v0_apply]
  have hl : ∀ k, lidx_main_v1 i k = ix2 (i 0) k := fun k => ext2 rfl rfl
  have hr : ∀ k, ridx_main_v1 i k = ix2 k (i 1) := fun k => ext2 rfl rfl
  simp only [hl, hr]
  rfl

end Cert.Reference2Ideal.Read

end
-- ==== Proof.Slope.lean ====
/-
  The slope of the squared relu, `2 * max z 0`: its reading off the activation by a square root, and its agreement with
  the derivative that tests the sign of `z`.
-/
module

public import proofs.«01_k».proof.Proof.Mlp

@[expose] public section

noncomputable section

namespace Cert.Mlp

open Idealize.ShloMosaic

/-- The programs' constant two. -/
def two : EReal := FloatOps.ofBits (F := Ideal) .f32 0x40000000#32

/-- The slope of the squared relu. -/
def slope (z : EReal) : EReal := two * max z 0

theorem sqrt_mul_self (x : EReal) (h : 0 ≤ x) : Ideal.sqrt (x * x) = x := by
  induction x using EReal.rec with
  | bot => exact absurd h (by decide)
  | top => rw [EReal.top_mul_top]; rfl
  | coe r =>
    have hr : 0 ≤ r := EReal.coe_nonneg.mp h
    rw [← EReal.coe_mul]
    show (if r * r < 0 then ⊥ else ((Real.sqrt (r * r) : ℝ) : EReal)) = _
    rw [if_neg (not_lt.mpr (mul_nonneg hr hr)), Real.sqrt_mul_self hr]

/-- The root of an activation is the relu. -/
theorem sqrt_relu2 (z : EReal) : Ideal.sqrt (relu2 z) = max z 0 := sqrt_mul_self _ (le_max_right z 0)

/-- The derivative by the sign: zero where `z` is not positive, else the slope's product. -/
theorem select_slope (g z : EReal) :
    Scalar.select (FloatOps.cmpf (F := Ideal) (φ := .f32) .ogt z 0) (g * slope z) 0 = g * slope z := by
  show Scalar.select (BitVec.ofBool (decide (0 < z))) _ _ = _
  by_cases h : 0 < z
  · rw [decide_eq_true h]
    rfl
  · rw [decide_eq_false h]
    show (0 : EReal) = _
    unfold slope
    rw [max_eq_right (not_lt.mp h), mul_zero, mul_zero]

end Cert.Mlp

end
-- ==== Proof.DownInput.lean ====
/-
  The gradient of the MLP's pre-activations: the gradient of the block's output against the second weight, times the slope
  of the squared relu, which the kernel reads off the activations. The weight is transposed at the first step into the
  kernel's scratch, which the further steps read.
-/
module

public import proofs.«01_k».proof.Proof.Index
public import proofs.«01_k».proof.Proof.Gen.Kernel3Ideal.Value
public import proofs.«01_k».proof.Proof.Gen.Reference3Ideal.Read
public import proofs.«01_k».proof.Proof.Slope

@[expose] public section

set_option maxRecDepth 16384

noncomputable section

namespace Cert.Kernel3Ideal.DownInput

open Cert.Kernel3Ideal Cert.Kernel3Ideal.Gen Cert.Mlp
open Idealize.ShloMosaic Idealize.ShloMosaic.TcCoe
open Idealize.ShloMosaic.Pipeline (Window)
open scoped BigOperators

variable (m : (ℓ : Loc nD τ sig) → Buf (Elt Ideal) ℓ) (c : Dev nD)

/-- The arguments: the block's input, its two weights, the gradient of its output. -/
abbrev arg0 : S8192x1024.Idx → EReal := m ((c.tc : Thread nD τ).loc main_arg0)
abbrev arg1 : S1024x4096.Idx → EReal := m ((c.tc : Thread nD τ).loc main_arg1)
abbrev arg2 : S4096x1024.Idx → EReal := m ((c.tc : Thread nD τ).loc main_arg2)
abbrev arg3 : S8192x1024.Idx → EReal := m ((c.tc : Thread nD τ).loc main_arg3)

/-- The gradient of one pre-activation. -/
def entry (u : S8192x1024.Idx → EReal) (w : S1024x4096.Idx → EReal) (w' : S4096x1024.Idx → EReal) (g : S8192x1024.Idx → EReal)
    (s : Fin 8192) (q : Fin 4096) : EReal :=
  (∑ k : Fin 1024, g (ix2 s k) * w' (ix2 q k)) * slope (∑ j : Fin 1024, u (ix2 s j) * w (ix2 j q))

/-- The gradient. -/
def grad (u : S8192x1024.Idx → EReal) (w : S1024x4096.Idx → EReal) (w' : S4096x1024.Idx → EReal) (g : S8192x1024.Idx → EReal) :
    S8192x4096.Idx → EReal := fun i => entry u w w' g (i 0) (i 1)

theorem stored1 (x : Vec Ideal S1x4096x1024 .bf16) (k : Fin 1024) (q : Fin 4096) :
    (k0_pay1 x : S1024x4096.Idx → EReal) (ix2 k q) = x (ix3 0 q k) := by
  pointwise [k0_pay1]

theorem stored2 (x0 : Vec Ideal S512x1024 .bf16) (b : Vec Ideal S1024x4096 .bf16) (x2 : Vec Ideal S512x4096 .bf16) (r : Fin 512) (q : Fin 4096) :
    (k0_pay2 x0 b x2 : S512x4096.Idx → EReal) (ix2 r q)
      = (∑ k : Fin 1024, (x0 (ix2 r k) : EReal) * b (ix2 k q)) * (two * Ideal.sqrt (x2 (ix2 r q))) := by
  pointwise [k0_pay2]
  rfl

theorem V_act (s : Fin 8192) (q : Fin 4096) :
    (V m c main_v5 : S8192x4096.Idx → EReal) (ix2 s q) = relu2 (∑ k : Fin 1024, arg0 m c (ix2 s k) * arg1 m c (ix2 k q)) := by
  unfold V
  after_reads_at
  rfl

theorem V_weight (q : Fin 4096) (k : Fin 1024) : (V m c main_v7 : S1x4096x1024.Idx → EReal) (ix3 0 q k) = arg2 m c (ix2 q k) := by
  unfold V
  after_reads_at

theorem index0 : ∀ t : Fin cfg0.N, win0_0.index t = ![t.val, 0] := (by decide +kernel : ∀ t : Fin grid0.N, win0_0.index t = ![t.val, 0])
theorem index1 : ∀ t : Fin cfg0.N, win0_1.index t = ![0, 0, 0] := (by decide +kernel : ∀ t : Fin grid0.N, win0_1.index t = ![0, 0, 0])
theorem index2 : ∀ t : Fin cfg0.N, win0_2.index t = ![t.val, 0] := (by decide +kernel : ∀ t : Fin grid0.N, win0_2.index t = ![t.val, 0])
theorem index3 : ∀ t : Fin cfg0.N, win0_3.index t = ![t.val, 0] := (by decide +kernel : ∀ t : Fin grid0.N, win0_3.index t = ![t.val, 0])

theorem block0 (t : Fin cfg0.N) (r : Fin 512) (k : Fin 1024) (h : t.val * 512 + r.val < 8192) :
    (iblk m c 0 t : S512x1024.Idx → EReal) (ix2 r k) = arg3 m c (ix2 ⟨t.val * 512 + r.val, h⟩ k) := by
  have e0 : ((((cfg0.win 0).blk t).view.emb (ix2 r k : S512x1024.Idx) 0 : Fin _) : ℕ) = t.val * 512 + r.val := by blk_simp [index0]
  have e1 : ((((cfg0.win 0).blk t).view.emb (ix2 r k : S512x1024.Idx) 1 : Fin _) : ℕ) = k.val := by blk_simp [index0]
  refine Eq.trans (b := V m c main_arg3 (((cfg0.win 0).blk t).view.emb (ix2 r k : S512x1024.Idx))) rfl ?_
  rw [V_main_arg3]
  refine congrArg (arg3 m c) (funext fun a => ?_)
  match a with
  | ⟨0, _⟩ => exact Fin.ext e0
  | ⟨1, _⟩ => exact Fin.ext e1

theorem block1 (t : Fin cfg0.N) (q : Fin 4096) (k : Fin 1024) : (iblk m c 1 t : S1x4096x1024.Idx → EReal) (ix3 0 q k) = arg2 m c (ix2 q k) := by
  refine Eq.trans (b := V m c main_v7 (((cfg0.win 1).blk t).view.emb (ix3 0 q k : S1x4096x1024.Idx))) rfl ?_
  exact Eq.trans (congrArg (V m c main_v7) (a₂ := ix3 0 q k) (ext3 (only _ _) (by show _ = q.val; blk_simp [index1]) (by show _ = k.val; blk_simp [index1]))) (V_weight m c q k)

theorem block2 (t : Fin cfg0.N) (r : Fin 512) (k : Fin 4096) (h : t.val * 512 + r.val < 8192) :
    (iblk m c 2 t : S512x4096.Idx → EReal) (ix2 r k) = relu2 (∑ j : Fin 1024, arg0 m c (ix2 ⟨t.val * 512 + r.val, h⟩ j) * arg1 m c (ix2 j k)) := by
  refine Eq.trans (b := V m c main_v5 (((cfg0.win 2).blk t).view.emb (ix2 r k : S512x4096.Idx))) rfl ?_
  exact Eq.trans (congrArg (V m c main_v5) (a₂ := ix2 ⟨t.val * 512 + r.val, h⟩ k) (ext2 (by show _ = t.val * 512 + r.val; blk_simp [index2]) (by show _ = k.val; blk_simp [index2]))) (V_act m c _ k)

theorem hz2 : (![0, 0] : Fin 2 → Nat) = fun _ => 0 := funext fun a => by fin_cases a <;> rfl
theorem hz3 : (![0, 0, 0] : Fin 3 → Nat) = fun _ => 0 := funext fun a => by fin_cases a <;> rfl

section Steps

variable (i : grid0.Coords) (a2 : Memref sig .tc .vmem S512x1024 .bf16) (h2 : a2.IsWhole) (a3 : Memref sig .tc .vmem S1x4096x1024 .bf16) (h3 : a3.IsWhole)
  (a4 : Memref sig .tc .vmem S512x4096 .bf16) (h4 : a4.IsWhole) (a5 : Memref sig .tc .vmem S512x4096 .bf16) (h5 : a5.IsWhole)
  (a6 : Memref sig .tc .vmem S1024x4096 .bf16) (h6 : a6.IsWhole)
  (x0 : Vec Ideal S512x1024 .bf16) (x1 : Vec Ideal S1x4096x1024 .bf16) (x2 : Vec Ideal S512x4096 .bf16) (b : Vec Ideal S1024x4096 .bf16)

/-- The first step's block. -/
theorem out_A_eq (hc : cond0_0 i) : out0_A_3 c i a2 h2 a3 h3 a4 h4 a5 h5 a6 h6 hc x0 x1 x2 = k0_pay2 x0 (k0_pay1 x1) x2 := by
  unfold out0_A_3
  rw [View.read_writes_eq_canon _ _ _ (cover0_A_3 c i a2 h2 a3 h3 a4 h4 a5 h5 a6 h6 hc x0 x1 x2)]
  unfold kernelRun0_A
  dsimp only
  try sl_unfold_words
  rw [View.canon_unit_zero (S := S512x4096) hz2]
  try rw [View.readCov_unit_zero (S := S1024x4096) _ hz2]
  simp only [View.readAt_eq_ld, h2.read_unread, h3.read_unread, h4.read_unread, View.ld_unit_zero (S := S512x1024) hz2,
    View.ld_unit_zero (S := S1x4096x1024) hz3, View.ld_unit_zero (S := S512x4096) hz2, shapeCast_self]

/-- The first step's scratch. -/
theorem sout_A_eq (hc : cond0_0 i) : sout0_A_0 c i a2 h2 a3 h3 a4 h4 a5 h5 a6 h6 hc x0 x1 x2 = k0_pay1 x1 := by
  unfold sout0_A_0
  rw [View.read_writes_eq_canon _ _ _ (scover0_A_0 c i a2 h2 a3 h3 a4 h4 a5 h5 a6 h6 hc x0 x1 x2)]
  unfold kernelRun0_A
  dsimp only
  try sl_unfold_words
  rw [View.canon_unit_zero (S := S1024x4096) hz2]
  simp only [View.readAt_eq_ld, h3.read_unread, View.ld_unit_zero (S := S1x4096x1024) hz3, shapeCast_self]

/-- A further step's block. -/
theorem out_B_eq (hc : ¬cond0_0 i) : out0_B_3 c i a2 h2 a3 h3 a4 h4 a5 h5 a6 h6 hc x0 x1 x2 b = k0_pay2 x0 b x2 := by
  unfold out0_B_3
  rw [View.read_writes_eq_canon _ _ _ (cover0_B_3 c i a2 h2 a3 h3 a4 h4 a5 h5 a6 h6 hc x0 x1 x2 b)]
  unfold kernelRun0_B
  dsimp only
  try sl_unfold_words
  rw [View.canon_unit_zero (S := S512x4096) hz2]
  simp only [View.readAt_eq_ld, h2.read_unread, h4.read_unread, h6.read_unread, View.ld_unit_zero (S := S512x1024) hz2,
    View.ld_unit_zero (S := S1024x4096) hz2, View.ld_unit_zero (S := S512x4096) hz2, shapeCast_self]

end Steps

theorem scratch_A (t : Fin cfg0.N) (h0 : t.val % 16 = 0) : (outsAt0 m c t.val t.isLt).2 = k0_pay1 (iblk m c 1 t) := by
  rw [outsAt0_A m c t h0]
  dsimp only
  rw [sout_A_eq]

theorem scratch_B (t : Fin cfg0.N) (h0 : ¬t.val % 16 = 0) :
    (outsAt0 m c t.val t.isLt).2 = (outsAt0 m c (t.val - 1) (Nat.lt_of_le_of_lt (Nat.sub_le _ _) t.isLt)).2 := by
  rw [outsAt0_B m c t h0]
  dsimp only [sout0_B_0]

theorem block_A (t : Fin cfg0.N) (h0 : t.val % 16 = 0) :
    (outsAt0 m c t.val t.isLt).1 = k0_pay2 (iblk m c 0 t) (k0_pay1 (iblk m c 1 t)) (iblk m c 2 t) := by
  rw [outsAt0_A m c t h0]
  dsimp only
  rw [out_A_eq]

theorem block_B (t : Fin cfg0.N) (h0 : ¬t.val % 16 = 0) :
    (outsAt0 m c t.val t.isLt).1
      = k0_pay2 (iblk m c 0 t) (outsAt0 m c (t.val - 1) (Nat.lt_of_le_of_lt (Nat.sub_le _ _) t.isLt)).2 (iblk m c 2 t) := by
  rw [outsAt0_B m c t h0]
  dsimp only
  rw [out_B_eq]

/-- After every step the scratch holds the transposed weight. -/
theorem scratch (n : ℕ) (h : n < cfg0.N) (k : Fin 1024) (q : Fin 4096) :
    ((outsAt0 m c n h).2 : S1024x4096.Idx → EReal) (ix2 k q) = arg2 m c (ix2 q k) := by
  induction n with
  | zero =>
    refine (congrFun (scratch_A m c ⟨0, h⟩ (Nat.zero_mod _)) _).trans ?_
    rw [stored1, block1]
  | succ n ih =>
    have hn : n + 1 < 16 := h.trans_eq N_0
    have h0 : ¬(n + 1) % 16 = 0 := by omega
    exact (congrFun (scratch_B m c ⟨n + 1, h⟩ h0) _).trans (ih _)

/-- A step's block. -/
theorem step (t : Fin cfg0.N) (r : Fin 512) (q : Fin 4096) (h : t.val * 512 + r.val < 8192) :
    ((outsAt0 m c t.val t.isLt).1 : S512x4096.Idx → EReal) (ix2 r q)
      = entry (arg0 m c) (arg1 m c) (arg2 m c) (arg3 m c) ⟨t.val * 512 + r.val, h⟩ q := by
  have key : ∀ b : Vec Ideal S1024x4096 .bf16, (∀ k : Fin 1024, (b (ix2 k q) : EReal) = arg2 m c (ix2 q k)) →
      (k0_pay2 (iblk m c 0 t) b (iblk m c 2 t) : S512x4096.Idx → EReal) (ix2 r q)
        = entry (arg0 m c) (arg1 m c) (arg2 m c) (arg3 m c) ⟨t.val * 512 + r.val, h⟩ q := fun b hb => by
    refine (stored2 _ _ _ r q).trans ?_
    unfold entry Cert.Mlp.slope
    rw [block2 m c t r q h, sqrt_relu2]
    refine congrArg (· * _) (Finset.sum_congr rfl fun k _ => ?_)
    rw [block0 m c t r k h, hb k]
  by_cases h0 : t.val % 16 = 0
  · rw [block_A m c t h0]
    exact key _ fun k => by rw [stored1, block1]
  · rw [block_B m c t h0]
    exact key _ fun k => scratch m c _ _ k q

/-- The whole result. -/
theorem result : (dats m 0 c).arrAt 3 cfg0.N = grad (arg0 m c) (arg1 m c) (arg2 m c) (arg3 m c) := by
  have hcov : (cfg0.win 3).Covers := by decide +kernel
  refine (dats m 0 c).arrAt_eq_of_covers (3 : Fin cfg0.W) (grad (arg0 m c) (arg1 m c) (arg2 m c) (arg3 m c)) hcov (fun t hf y => ?_) (Memref.isWhole_whole _)
  refine Eq.trans (b := (dats m 0 c).after 3 t y) (by blk_simp) ?_
  rw [after0_3]
  have b0 : (y 0).val < 512 := (y 0).isLt
  have ht : t.val < 16 := t.isLt.trans_eq N_0
  have e0 : ((((cfg0.win 3).blk t).view.emb y 0 : Fin _) : ℕ) = t.val * 512 + (y 0).val := by blk_simp [index3]
  have e1 : ((((cfg0.win 3).blk t).view.emb y 1 : Fin _) : ℕ) = (y 1).val := by blk_simp [index3]
  refine ((congrArg _ (ValueIdx.eq_ix2 y)).trans (step m c t (y 0) (y 1) (by omega))).trans ?_
  have q0 : (⟨t.val * 512 + (y 0).val, by omega⟩ : Fin 8192) = ((cfg0.win 3).blk t).view.emb y 0 := Fin.ext e0.symm
  have q1 : y 1 = ((cfg0.win 3).blk t).view.emb y 1 := Fin.ext e1.symm
  rw [q0, q1]
  rfl

end Cert.Kernel3Ideal.DownInput

namespace Cert.Reference3Ideal.Read

open Cert.Reference3Ideal Cert.Reference3Ideal.Gen Cert.Mlp
open Idealize.ShloMosaic

theorem pre_value (x0 : S8192x1024.Idx → EReal) (x1 : S1024x4096.Idx → EReal) (i : S8192x4096.Idx) :
    val_main_v1 (F := Ideal) x0 x1 i = ∑ k : Fin 1024, x0 (ix2 (i 0) k) * x1 (ix2 k (i 1)) := by
  rw [val_main_v1_apply]
  simp only [val_main_v0_apply]
  have hl : ∀ k, lidx_main_v1 i k = ix2 (i 0) k := fun k => ext2 rfl rfl
  have hr : ∀ k, ridx_main_v1 i k = ix2 k (i 1) := fun k => ext2 rfl rfl
  simp only [hl, hr]
  rfl

theorem back_value (x2 : S4096x1024.Idx → EReal) (x3 : S8192x1024.Idx → EReal) (i : S8192x4096.Idx) :
    val_main_v11 (F := Ideal) x2 x3 i = ∑ k : Fin 1024, x3 (ix2 (i 0) k) * x2 (ix2 (i 1) k) := by
  rw [val_main_v11_apply]
  simp only [val_main_v10_apply]
  have hl : ∀ k, lidx_main_v11 i k = ix2 (i 0) k := fun k => ext2 rfl rfl
  have hr : ∀ k, ridx_main_v11 i k = ix2 (i 1) k := fun k => ext2 rfl rfl
  simp only [hl, hr]
  rfl

theorem reference_value (x0 : S8192x1024.Idx → EReal) (x1 : S1024x4096.Idx → EReal) (x2 : S4096x1024.Idx → EReal) (x3 : S8192x1024.Idx → EReal) :
    val_main_v15 (F := Ideal) x0 x1 x2 x3 = Cert.Kernel3Ideal.DownInput.grad x0 x1 x2 x3 := by
  funext i
  rw [val_main_v15_apply, val_main_v14_apply, val_main_v13_apply, val_main_v12_apply, val_main_v8_apply, val_main_v7_apply, val_main_v4_apply,
    val_main_v3_apply, val_main_v2_apply, val_main_call0_v0_apply, val_main_call0_cst_apply, val_main_cst_apply, val_main_cst_1_apply, val_main_cst_2_apply,
    pre_value, back_value, ofBits_zero]
  exact select_slope _ _

end Cert.Reference3Ideal.Read

end
-- ==== Proof.DownWeight.lean ====
/-
  The gradient of the MLP's second weight: the activations against the gradient of the block's output, summed over the
  positions tile by tile in one resident block.
-/
module

public import proofs.«01_k».proof.Proof.Gen.Kernel4Ideal.Value
public import proofs.«01_k».proof.Proof.Gen.Reference4Ideal.Read
public import proofs.«01_k».proof.Proof.Mlp

@[expose] public section

set_option maxRecDepth 16384

noncomputable section

namespace Cert.Kernel4Ideal.DownWeight

open Cert.Kernel4Ideal Cert.Kernel4Ideal.Gen Cert.Kernel4Ideal.Value Cert.Mlp
open Idealize.ShloMosaic Idealize.ShloMosaic.TcCoe
open Idealize.ShloMosaic.Pipeline (Window)
open scoped BigOperators

variable (m : (ℓ : Loc nD τ sig) → Buf (Elt Ideal) ℓ) (c : Dev nD)

/-- The arguments: the block's input, its two weights, the gradient of its output. -/
abbrev arg0 : S8192x1024.Idx → EReal := m ((c.tc : Thread nD τ).loc main_arg0)
abbrev arg1 : S1024x4096.Idx → EReal := m ((c.tc : Thread nD τ).loc main_arg1)
abbrev arg3 : S8192x1024.Idx → EReal := m ((c.tc : Thread nD τ).loc main_arg3)

/-- One position's part of one entry of the gradient. -/
def part (u : S8192x1024.Idx → EReal) (w : S1024x4096.Idx → EReal) (g : S8192x1024.Idx → EReal) (i : S4096x1024.Idx) (s : Fin 8192) : EReal :=
  relu2 (∑ k : Fin 1024, u (ix2 s k) * w (ix2 k (i 0))) * g (ix2 s (i 1))

/-- The gradient. -/
def grad (u : S8192x1024.Idx → EReal) (w : S1024x4096.Idx → EReal) (g : S8192x1024.Idx → EReal) : S4096x1024.Idx → EReal := fun i =>
  ∑ s : Fin 8192, part u w g i s

theorem stored1 (i : S4096x1024.Idx) : (k0_pay1 (F := Ideal) : S4096x1024.Idx → EReal) i = 0 := by
  refine (congrArg _ (ValueIdx.eq_ix2 i)).trans ?_
  pointwise [k0_pay1]

theorem stored2 (x0 : Vec Ideal S512x4096 .bf16) (o : Vec Ideal S4096x1024 .f32) (x1 : Vec Ideal S512x1024 .bf16) (r : Fin 4096) (q : Fin 1024) :
    (k0_pay2 x0 o x1 : S4096x1024.Idx → EReal) (ix2 r q) = (o (ix2 r q) : EReal) + ∑ k : Fin 512, (x0 (ix2 k r) : EReal) * x1 (ix2 k q) := by
  pointwise [k0_pay2]

theorem V_act (s : Fin 8192) (q : Fin 4096) :
    (V m c main_v5 : S8192x4096.Idx → EReal) (ix2 s q) = relu2 (∑ k : Fin 1024, arg0 m c (ix2 s k) * arg1 m c (ix2 k q)) := by
  unfold V
  after_reads_at
  rfl

theorem index0 : ∀ t : Fin cfg0.N, win0_0.index t = ![t.val, 0] := (by decide +kernel : ∀ t : Fin grid0.N, win0_0.index t = ![t.val, 0])
theorem index1 : ∀ t : Fin cfg0.N, win0_1.index t = ![t.val, 0] := (by decide +kernel : ∀ t : Fin grid0.N, win0_1.index t = ![t.val, 0])

theorem block0 (t : Fin cfg0.N) (r : Fin 512) (k : Fin 4096) (h : t.val * 512 + r.val < 8192) :
    (iblk m c 0 t : S512x4096.Idx → EReal) (ix2 r k) = relu2 (∑ j : Fin 1024, arg0 m c (ix2 ⟨t.val * 512 + r.val, h⟩ j) * arg1 m c (ix2 j k)) := by
  refine Eq.trans (b := V m c main_v5 (((cfg0.win 0).blk t).view.emb (ix2 r k : S512x4096.Idx))) rfl ?_
  exact Eq.trans (congrArg (V m c main_v5) (a₂ := ix2 ⟨t.val * 512 + r.val, h⟩ k) (ext2 (by show _ = t.val * 512 + r.val; blk_simp [index0]) (by show _ = k.val; blk_simp [index0]))) (V_act m c _ k)

theorem block1 (t : Fin cfg0.N) (r : Fin 512) (k : Fin 1024) (h : t.val * 512 + r.val < 8192) :
    (iblk m c 1 t : S512x1024.Idx → EReal) (ix2 r k) = arg3 m c (ix2 ⟨t.val * 512 + r.val, h⟩ k) := by
  have e0 : ((((cfg0.win 1).blk t).view.emb (ix2 r k : S512x1024.Idx) 0 : Fin _) : ℕ) = t.val * 512 + r.val := by blk_simp [index1]
  have e1 : ((((cfg0.win 1).blk t).view.emb (ix2 r k : S512x1024.Idx) 1 : Fin _) : ℕ) = k.val := by blk_simp [index1]
  refine Eq.trans (b := V m c main_arg3 (((cfg0.win 1).blk t).view.emb (ix2 r k : S512x1024.Idx))) rfl ?_
  rw [V_main_arg3]
  refine congrArg (arg3 m c) (funext fun a => ?_)
  match a with
  | ⟨0, _⟩ => exact Fin.ext e0
  | ⟨1, _⟩ => exact Fin.ext e1

/-- What a step adds. -/
theorem adds (n : ℕ) (h : n < cfg0.N) (o : Vec Ideal S4096x1024 .f32) (i : S4096x1024.Idx) :
    (k0_pay2 (iblk m c 0 ⟨n, h⟩) o (iblk m c 1 ⟨n, h⟩) : S4096x1024.Idx → EReal) i
      = (o i : EReal) + tile 16 512 rfl (part (arg0 m c) (arg1 m c) (arg3 m c) i) n := by
  have hn : n < 16 := h.trans_eq N_0
  have hb : ∀ t : Fin 512, n * 512 + t.val < 8192 := fun t => by have := t.isLt; omega
  rw [tile_of_lt 16 512 rfl _ n hn hb]
  refine ((congrArg _ (ValueIdx.eq_ix2 i)).trans (stored2 _ _ _ (i 0) (i 1))).trans ?_
  refine congrArg₂ (fun x y : EReal => x + y) (congrArg o (ValueIdx.eq_ix2 i).symm) (Finset.sum_congr rfl fun k _ => ?_)
  rw [block0 m c ⟨n, h⟩ k (i 0) (hb k), block1 m c ⟨n, h⟩ k (i 1) (hb k)]
  rfl

/-- The whole result. -/
theorem result : G2 m c = grad (arg0 m c) (arg1 m c) (arg3 m c) := by
  funext i
  have h0 : (i 0).val < 4096 := (i 0).isLt
  have h1 : (i 1).val < 1024 := (i 1).isLt
  have hr : run2Of i = 0 := by show 1 * ((i 0).val / 4096 - 0) + 1 * ((i 1).val / 1024 - 0) = 0; omega
  have hl : loc2Of i = i := funext fun a => by
    match a with
    | ⟨0, _⟩ => exact Fin.ext (Nat.mod_eq_of_lt h0)
    | ⟨1, _⟩ => exact Fin.ext (Nat.mod_eq_of_lt h1)
  unfold G2
  rw [dif_pos (by rw [hr]; decide), hl]
  refine (Pipeline.accAt_add_apply (reset2 m c) (step2 m c) (fun _ => 0) (fun n j => tile 16 512 rfl (part (arg0 m c) (arg1 m c) (arg3 m c) j) n)
    (16 * run2Of i) 15 (fun h j => ?_) (fun n h acc j _ _ => ?_) 15 le_rfl _ i).trans ?_
  · unfold reset2
    rw [adds, stored1]
  · unfold step2
    rw [adds]
  · rw [hr, zero_add]
    simp only [Nat.mul_zero, Nat.zero_add]
    exact tiles_sum 16 512 rfl _

end Cert.Kernel4Ideal.DownWeight

namespace Cert.Reference4Ideal.Read

open Cert.Reference4Ideal Cert.Reference4Ideal.Gen Cert.Mlp
open Idealize.ShloMosaic

theorem act_value (x0 : S8192x1024.Idx → EReal) (x1 : S1024x4096.Idx → EReal) (s : Fin 8192) (q : Fin 4096) :
    val_main_v3 (F := Ideal) x0 x1 (ix2 s q) = relu2 (∑ k : Fin 1024, x0 (ix2 s k) * x1 (ix2 k q)) := by
  rw [val_main_v3_apply, val_main_v2_apply, val_main_v1_apply, val_main_call0_v0_apply, val_main_call0_cst_apply,
    ofBits_zero]
  simp only [val_main_v0_apply]
  have hl : ∀ k, lidx_main_v1 (ix2 s q) k = ix2 s k := fun k => ext2 rfl rfl
  have hr : ∀ k, ridx_main_v1 (ix2 s q) k = ix2 k q := fun k => ext2 rfl rfl
  simp only [hl, hr]
  rfl

theorem reference_value (x0 : S8192x1024.Idx → EReal) (x1 : S1024x4096.Idx → EReal) (x3 : S8192x1024.Idx → EReal) :
    val_main_v7 (F := Ideal) x0 x1 x3 = Cert.Kernel4Ideal.DownWeight.grad x0 x1 x3 := by
  funext i
  rw [val_main_v7_apply, val_main_v6_apply]
  unfold Cert.Kernel4Ideal.DownWeight.grad Cert.Kernel4Ideal.DownWeight.part
  refine Finset.sum_congr rfl fun s _ => ?_
  have e0 : ridx_main_v6 (idx_main_v7 i) s = ix2 s (i 0) := ext2 rfl rfl
  have e1 : lidx_main_v6 (idx_main_v7 i) s = ix2 s (i 1) := ext2 rfl rfl
  rw [mul_comm]
  exact congrArg₂ (fun a b : EReal => a * b) ((congrArg _ e0).trans (act_value x0 x1 s (i 0))) (congrArg x3 e1)

end Cert.Reference4Ideal.Read

end
-- ==== Proof.UpWeight.lean ====
/-
  The gradient of the MLP's first weight, cut into one slab per chip: the block's input against the gradient of the
  pre-activations, summed over the positions tile by tile in one resident block, each step slab by slab.
-/
module

public import proofs.«01_k».proof.Proof.Index
public import proofs.«01_k».proof.Proof.Gen.Kernel5Ideal.Value
public import proofs.«01_k».proof.Proof.Gen.Reference5Ideal.Read
public import proofs.«01_k».proof.Proof.Slope
public import Idealize.ShloMosaic.Lib.Pipeline.ReadBack

@[expose] public section

set_option maxRecDepth 16384

noncomputable section

namespace Cert.Kernel5Ideal.UpWeight

open Cert.Kernel5Ideal Cert.Kernel5Ideal.Gen Cert.Mlp
open Idealize.ShloMosaic Idealize.ShloMosaic.TcCoe
open Idealize.ShloMosaic.Pipeline (Window)
open scoped BigOperators

variable (m : (ℓ : Loc nD τ sig) → Buf (Elt Ideal) ℓ) (c : Dev nD)

/-- The arguments: the block's input, its two weights, the gradient of its output. -/
abbrev arg0 : S8192x1024.Idx → EReal := m ((c.tc : Thread nD τ).loc main_arg0)
abbrev arg1 : S1024x4096.Idx → EReal := m ((c.tc : Thread nD τ).loc main_arg1)
abbrev arg2 : S4096x1024.Idx → EReal := m ((c.tc : Thread nD τ).loc main_arg2)
abbrev arg3 : S8192x1024.Idx → EReal := m ((c.tc : Thread nD τ).loc main_arg3)

/-- The gradient of one pre-activation. -/
def entry (u : S8192x1024.Idx → EReal) (w : S1024x4096.Idx → EReal) (w' : S4096x1024.Idx → EReal) (g : S8192x1024.Idx → EReal)
    (s : Fin 8192) (q : Fin 4096) : EReal :=
  (∑ k : Fin 1024, g (ix2 s k) * w' (ix2 q k)) * Cert.Mlp.slope (∑ j : Fin 1024, u (ix2 s j) * w (ix2 j q))

/-- The column of the weight that a slab's column is. -/
def column (y : S4x1024x1024.Idx) : Fin 4096 :=
  ⟨1024 * (y 0).val + (y 2).val, by have h0 : (y 0).val < 4 := (y 0).isLt; have h2 : (y 2).val < 1024 := (y 2).isLt; omega⟩

/-- One position's part of one entry of the gradient. -/
def part (u : S8192x1024.Idx → EReal) (w : S1024x4096.Idx → EReal) (w' : S4096x1024.Idx → EReal) (g : S8192x1024.Idx → EReal)
    (y : S4x1024x1024.Idx) (s : Fin 8192) : EReal :=
  u (ix2 s (y 1)) * entry u w w' g s (column y)

/-- The gradient. -/
def grad (u : S8192x1024.Idx → EReal) (w : S1024x4096.Idx → EReal) (w' : S4096x1024.Idx → EReal) (g : S8192x1024.Idx → EReal) :
    S4x1024x1024.Idx → EReal := fun y => ∑ s : Fin 8192, part u w w' g y s

theorem V_pre (s : Fin 8192) (q : Fin 4096) :
    (V m c main_v9 : S8192x4096.Idx → EReal) (ix2 s q) = entry (arg0 m c) (arg1 m c) (arg2 m c) (arg3 m c) s q := by
  unfold V
  after_reads_at
  rfl

theorem index0 : ∀ t : Fin cfg0.N, win0_0.index t = ![t.val, 0] := (by decide +kernel : ∀ t : Fin grid0.N, win0_0.index t = ![t.val, 0])
theorem index1 : ∀ t : Fin cfg0.N, win0_1.index t = ![t.val, 0] := (by decide +kernel : ∀ t : Fin grid0.N, win0_1.index t = ![t.val, 0])
theorem index2 : ∀ t : Fin cfg0.N, win0_2.index t = ![0, 0, 0] := (by decide +kernel : ∀ t : Fin grid0.N, win0_2.index t = ![0, 0, 0])

theorem block0 (t : Fin cfg0.N) (r : Fin 512) (k : Fin 1024) (h : t.val * 512 + r.val < 8192) :
    (iblk m c 0 t : S512x1024.Idx → EReal) (ix2 r k) = arg0 m c (ix2 ⟨t.val * 512 + r.val, h⟩ k) := by
  have e0 : ((((cfg0.win 0).blk t).view.emb (ix2 r k : S512x1024.Idx) 0 : Fin _) : ℕ) = t.val * 512 + r.val := by blk_simp [index0]
  have e1 : ((((cfg0.win 0).blk t).view.emb (ix2 r k : S512x1024.Idx) 1 : Fin _) : ℕ) = k.val := by blk_simp [index0]
  refine Eq.trans (b := V m c main_arg0 (((cfg0.win 0).blk t).view.emb (ix2 r k : S512x1024.Idx))) rfl ?_
  rw [V_main_arg0]
  refine congrArg (arg0 m c) (funext fun a => ?_)
  match a with
  | ⟨0, _⟩ => exact Fin.ext e0
  | ⟨1, _⟩ => exact Fin.ext e1

theorem block1 (t : Fin cfg0.N) (r : Fin 512) (k : Fin 4096) (h : t.val * 512 + r.val < 8192) :
    (iblk m c 1 t : S512x4096.Idx → EReal) (ix2 r k) = entry (arg0 m c) (arg1 m c) (arg2 m c) (arg3 m c) ⟨t.val * 512 + r.val, h⟩ k := by
  refine Eq.trans (b := V m c main_v9 (((cfg0.win 1).blk t).view.emb (ix2 r k : S512x4096.Idx))) rfl ?_
  exact Eq.trans (congrArg (V m c main_v9) (a₂ := ix2 ⟨t.val * 512 + r.val, h⟩ k) (ext2 (by show _ = t.val * 512 + r.val; blk_simp [index1]) (by show _ = k.val; blk_simp [index1]))) (V_pre m c _ k)

theorem hz2 : (![0, 0] : Fin 2 → Nat) = fun _ => 0 := funext fun a => by fin_cases a <;> rfl
theorem hz3 : (![0, 0, 0] : Fin 3 → Nat) = fun _ => 0 := funext fun a => by fin_cases a <;> rfl

theorem pay5_apply (x0 : Vec Ideal S512x1024 .bf16) (a : Vec Ideal S1x1024x1024 .f32) (b : Vec Ideal S512x1024 .bf16) (r q : Fin 1024) :
    (k0_pay5 x0 a b : S1x1024x1024.Idx → EReal) (ix3 0 r q) = (a (ix3 0 r q) : EReal) + ∑ k : Fin 512, (x0 (ix2 k r) : EReal) * b (ix2 k q) := by
  pointwise [k0_pay5, k0_pay4]

theorem pay6_apply (x0 : Vec Ideal S512x1024 .bf16) (a : Vec Ideal S1x1024x1024 .f32) (b : Vec Ideal S512x1024 .bf16) (r q : Fin 1024) :
    (k0_pay6 x0 a b : S1x1024x1024.Idx → EReal) (ix3 0 r q) = (a (ix3 0 r q) : EReal) + ∑ k : Fin 512, (x0 (ix2 k r) : EReal) * b (ix2 k q) := by
  pointwise [k0_pay6, k0_pay4]

theorem pay1_apply (x0 : Vec Ideal S512x1024 .bf16) (a : Vec Ideal S1x1024x1024 .f32) (b : Vec Ideal S512x1024 .bf16) (r q : Fin 1024) :
    (k0_pay1 (k0_pay7 a) (k0_pay8 x0 b) : S1x1024x1024.Idx → EReal) (ix3 0 r q) = (a (ix3 0 r q) : EReal) + ∑ k : Fin 512, (x0 (ix2 k r) : EReal) * b (ix2 k q) := by
  pointwise [k0_pay1, k0_pay7, k0_pay8, k0_pay4]

theorem pay2_apply (x0 : Vec Ideal S512x1024 .bf16) (a : Vec Ideal S1x1024x1024 .f32) (b : Vec Ideal S512x1024 .bf16) (r q : Fin 1024) :
    (k0_pay2 (k0_pay4 x0) a b : S1x1024x1024.Idx → EReal) (ix3 0 r q) = (a (ix3 0 r q) : EReal) + ∑ k : Fin 512, (x0 (ix2 k r) : EReal) * b (ix2 k q) := by
  pointwise [k0_pay2, k0_pay4]

/-- The block before the first step. -/
abbrev zeros : Vec Ideal S4x1024x1024 .f32 := k0_pay3 (F := Ideal)

theorem pay3_apply (y : S4x1024x1024.Idx) : (zeros : S4x1024x1024.Idx → EReal) y = 0 := by
  show FloatOps.ofBits (F := Ideal) .f32 0x00000000#32 = 0
  exact Ideal.ofBits_zero _

/-- A block before a step, plus what the step adds. -/
def step (x0 : Vec Ideal S512x1024 .bf16) (x1 : Vec Ideal S512x4096 .bf16) (o : Vec Ideal S4x1024x1024 .f32) : S4x1024x1024.Idx → EReal := fun y =>
  (o y : EReal) + ∑ k : Fin 512, (x0 (ix2 k (y 1)) : EReal) * x1 (ix2 k (column y))

theorem split (x : S1x1024x1024.Idx) : x = ix3 0 (x 1) (x 2) := funext fun a => by
  match a with
  | ⟨0, _⟩ => exact Subsingleton.elim (α := Fin 1) _ _
  | ⟨1, _⟩ => rfl
  | ⟨2, _⟩ => rfl

section Steps

variable (i : grid0.Coords) (a1 : Memref sig .tc .vmem S512x1024 .bf16) (h1 : a1.IsWhole) (a2 : Memref sig .tc .vmem S512x4096 .bf16) (h2 : a2.IsWhole)
  (a3 : Memref sig .tc .vmem S4x1024x1024 .f32) (h3 : a3.IsWhole)
  (x0 : Vec Ideal S512x1024 .bf16) (x1 : Vec Ideal S512x4096 .bf16) (o : Vec Ideal S4x1024x1024 .f32)

theorem slab0 (x : S1x1024x1024.Idx) :
    (k0_pay5 x0 (View.ld o (Rect.unit ![0, 0, 0] ![1, 1024, 1024] inb_S4x1024x1024_S1x1024x1024_0_0_0)) (View.ld x1 (Rect.unit ![0, 0] ![512, 1024] inb_S512x4096_S512x1024_0_0)) : S1x1024x1024.Idx → EReal) x
      = step x0 x1 o ((Rect.unit (s := S4x1024x1024) ![0, 0, 0] S1x1024x1024.size inb_S4x1024x1024_S1x1024x1024_0_0_0).emb x) := by
  refine ((congrArg _ (split x)).trans (pay5_apply x0 _ _ (x 1) (x 2))).trans ?_
  unfold step
  refine congrArg₂ (fun a b : EReal => a + b) (congrArg o (congrArg _ (split x).symm)) (Finset.sum_congr rfl fun k _ => ?_)
  refine congrArg₂ (fun a b : EReal => a * b) (congrArg x0 (congrArg (ix2 k) (Fin.ext ?_))) (congrArg x1 (funext fun a => ?_))
  · show (x 1).val = 0 + 1 * (x 1).val
    omega
  · have h0 : (x 0).val < 1 := (x 0).isLt
    match a with
    | ⟨0, _⟩ => exact Fin.ext (show 0 + 1 * k.val = k.val by omega)
    | ⟨1, _⟩ => exact Fin.ext (show 0 + 1 * (x 2).val = 1024 * (0 + 1 * (x 0).val) + (0 + 1 * (x 2).val) by omega)

theorem slab1 (x : S1x1024x1024.Idx) :
    (k0_pay6 x0 (View.ld o (Rect.unit ![1, 0, 0] ![1, 1024, 1024] inb_S4x1024x1024_S1x1024x1024_1_0_0)) (View.ld x1 (Rect.unit ![0, 1024] ![512, 1024] inb_S512x4096_S512x1024_0_1024)) : S1x1024x1024.Idx → EReal) x
      = step x0 x1 o ((Rect.unit (s := S4x1024x1024) ![1, 0, 0] S1x1024x1024.size inb_S4x1024x1024_S1x1024x1024_1_0_0).emb x) := by
  refine ((congrArg _ (split x)).trans (pay6_apply x0 _ _ (x 1) (x 2))).trans ?_
  unfold step
  refine congrArg₂ (fun a b : EReal => a + b) (congrArg o (congrArg _ (split x).symm)) (Finset.sum_congr rfl fun k _ => ?_)
  refine congrArg₂ (fun a b : EReal => a * b) (congrArg x0 (congrArg (ix2 k) (Fin.ext ?_))) (congrArg x1 (funext fun a => ?_))
  · show (x 1).val = 0 + 1 * (x 1).val
    omega
  · have h0 : (x 0).val < 1 := (x 0).isLt
    match a with
    | ⟨0, _⟩ => exact Fin.ext (show 0 + 1 * k.val = k.val by omega)
    | ⟨1, _⟩ => exact Fin.ext (show 1024 + 1 * (x 2).val = 1024 * (1 + 1 * (x 0).val) + (0 + 1 * (x 2).val) by omega)

theorem slab2 (x : S1x1024x1024.Idx) :
    (k0_pay1 (k0_pay7 (View.ld o (Rect.unit ![2, 0, 0] ![1, 1024, 1024] inb_S4x1024x1024_S1x1024x1024_2_0_0))) (k0_pay8 x0 (View.ld x1 (Rect.unit ![0, 2048] ![512, 1024] inb_S512x4096_S512x1024_0_2048))) : S1x1024x1024.Idx → EReal) x
      = step x0 x1 o ((Rect.unit (s := S4x1024x1024) ![2, 0, 0] S1x1024x1024.size inb_S4x1024x1024_S1x1024x1024_2_0_0).emb x) := by
  refine ((congrArg _ (split x)).trans (pay1_apply x0 _ _ (x 1) (x 2))).trans ?_
  unfold step
  refine congrArg₂ (fun a b : EReal => a + b) (congrArg o (congrArg _ (split x).symm)) (Finset.sum_congr rfl fun k _ => ?_)
  refine congrArg₂ (fun a b : EReal => a * b) (congrArg x0 (congrArg (ix2 k) (Fin.ext ?_))) (congrArg x1 (funext fun a => ?_))
  · show (x 1).val = 0 + 1 * (x 1).val
    omega
  · have h0 : (x 0).val < 1 := (x 0).isLt
    match a with
    | ⟨0, _⟩ => exact Fin.ext (show 0 + 1 * k.val = k.val by omega)
    | ⟨1, _⟩ => exact Fin.ext (show 2048 + 1 * (x 2).val = 1024 * (2 + 1 * (x 0).val) + (0 + 1 * (x 2).val) by omega)

theorem slab3 (x : S1x1024x1024.Idx) :
    (k0_pay2 (k0_pay4 x0) (View.ld o (Rect.unit ![3, 0, 0] ![1, 1024, 1024] inb_S4x1024x1024_S1x1024x1024_3_0_0)) (View.ld x1 (Rect.unit ![0, 3072] ![512, 1024] inb_S512x4096_S512x1024_0_3072)) : S1x1024x1024.Idx → EReal) x
      = step x0 x1 o ((Rect.unit (s := S4x1024x1024) ![3, 0, 0] S1x1024x1024.size inb_S4x1024x1024_S1x1024x1024_3_0_0).emb x) := by
  refine ((congrArg _ (split x)).trans (pay2_apply x0 _ _ (x 1) (x 2))).trans ?_
  unfold step
  refine congrArg₂ (fun a b : EReal => a + b) (congrArg o (congrArg _ (split x).symm)) (Finset.sum_congr rfl fun k _ => ?_)
  refine congrArg₂ (fun a b : EReal => a * b) (congrArg x0 (congrArg (ix2 k) (Fin.ext ?_))) (congrArg x1 (funext fun a => ?_))
  · show (x 1).val = 0 + 1 * (x 1).val
    omega
  · have h0 : (x 0).val < 1 := (x 0).isLt
    match a with
    | ⟨0, _⟩ => exact Fin.ext (show 0 + 1 * k.val = k.val by omega)
    | ⟨1, _⟩ => exact Fin.ext (show 3072 + 1 * (x 2).val = 1024 * (3 + 1 * (x 0).val) + (0 + 1 * (x 2).val) by omega)

/-- A further step's block. -/
theorem out_B_eq (hc : ¬cond0_0 i) : out0_B_2 c i a1 h1 a2 h2 a3 h3 hc x0 x1 o = step x0 x1 o := by
  unfold out0_B_2
  rw [View.read_writes_eq_canon _ _ _ (cover0_B_2 c i a1 h1 a2 h2 a3 h3 hc x0 x1 o)]
  funext y
  refine View.canon_apply_of_pieces (step x0 x1 o) _ ?_ y (cover0_B_2 c i a1 h1 a2 h2 a3 h3 hc x0 x1 o y)
  unfold kernelRun0_B
  dsimp only
  try sl_unfold_words
  simp only [View.readAt_eq_ld, h1.read_unread, h2.read_unread, h3.read_unread, View.ld_unit_zero (S := S512x1024) hz2, shapeCast_self]
  exact View.PiecesOf.mem (Val := Elt Ideal) (s := S4x1024x1024) (e := .f32) (G := step x0 x1 o)
    (And.intro (slab3 x0 x1 o) (And.intro (slab2 x0 x1 o) (And.intro (slab1 x0 x1 o) (And.intro (slab0 x0 x1 o) trivial))))

/-- The first step's block. -/
theorem out_A_eq (hc : cond0_0 i) : out0_A_2 c i a1 h1 a2 h2 a3 h3 hc x0 x1 = step x0 x1 zeros := by
  unfold out0_A_2
  rw [View.read_writes_eq_canon _ _ _ (cover0_A_2 c i a1 h1 a2 h2 a3 h3 hc x0 x1)]
  unfold kernelRun0_A
  dsimp only
  try sl_unfold_words
  simp only [View.readAt_eq_ld, h1.read_unread, h2.read_unread, h3.read_unread, View.ld_unit_zero (S := S512x1024) hz2, shapeCast_self]
  simp (disch := first | decide | rfl) only [↓View.readCov_skip, ↓View.readCov_fill]
  funext y
  refine View.canon_append_of_piecesOf (Val := Elt Ideal) (s := S4x1024x1024) (e := .f32) (step x0 x1 zeros)
    [⟨Rect.unit (s := S4x1024x1024) ![0, 0, 0] S4x1024x1024.size inb_S4x1024x1024_S4x1024x1024_0_0_0, zeros⟩]
    [⟨Rect.unit (s := S4x1024x1024) ![3, 0, 0] S1x1024x1024.size inb_S4x1024x1024_S1x1024x1024_3_0_0,
        k0_pay2 (k0_pay4 x0) (View.ld zeros (Rect.unit ![3, 0, 0] ![1, 1024, 1024] inb_S4x1024x1024_S1x1024x1024_3_0_0)) (View.ld x1 (Rect.unit ![0, 3072] ![512, 1024] inb_S512x4096_S512x1024_0_3072))⟩,
      ⟨Rect.unit (s := S4x1024x1024) ![2, 0, 0] S1x1024x1024.size inb_S4x1024x1024_S1x1024x1024_2_0_0,
        k0_pay1 (k0_pay7 (View.ld zeros (Rect.unit ![2, 0, 0] ![1, 1024, 1024] inb_S4x1024x1024_S1x1024x1024_2_0_0))) (k0_pay8 x0 (View.ld x1 (Rect.unit ![0, 2048] ![512, 1024] inb_S512x4096_S512x1024_0_2048)))⟩,
      ⟨Rect.unit (s := S4x1024x1024) ![1, 0, 0] S1x1024x1024.size inb_S4x1024x1024_S1x1024x1024_1_0_0,
        k0_pay6 x0 (View.ld zeros (Rect.unit ![1, 0, 0] ![1, 1024, 1024] inb_S4x1024x1024_S1x1024x1024_1_0_0)) (View.ld x1 (Rect.unit ![0, 1024] ![512, 1024] inb_S512x4096_S512x1024_0_1024))⟩,
      ⟨Rect.unit (s := S4x1024x1024) ![0, 0, 0] S1x1024x1024.size inb_S4x1024x1024_S1x1024x1024_0_0_0,
        k0_pay5 x0 (View.ld zeros (Rect.unit ![0, 0, 0] ![1, 1024, 1024] inb_S4x1024x1024_S1x1024x1024_0_0_0)) (View.ld x1 (Rect.unit ![0, 0] ![512, 1024] inb_S512x4096_S512x1024_0_0))⟩]
    (And.intro (slab3 x0 x1 zeros) (And.intro (slab2 x0 x1 zeros) (And.intro (slab1 x0 x1 zeros) (And.intro (slab0 x0 x1 zeros) trivial)))) y ?_
  exact View.cover_of_tiledL (s := S4x1024x1024) _ S1x1024x1024.size (by sl_kernel_rfl) y

end Steps

/-- What a step adds. -/
theorem adds (n : ℕ) (h : n < cfg0.N) (o : Vec Ideal S4x1024x1024 .f32) (y : S4x1024x1024.Idx) :
    step (iblk m c 0 ⟨n, h⟩) (iblk m c 1 ⟨n, h⟩) o y
      = (o y : EReal) + tile 16 512 rfl (part (arg0 m c) (arg1 m c) (arg2 m c) (arg3 m c) y) n := by
  have hn : n < 16 := h.trans_eq N_0
  have hb : ∀ t : Fin 512, n * 512 + t.val < 8192 := fun t => by have := t.isLt; omega
  rw [tile_of_lt 16 512 rfl _ n hn hb]
  unfold step
  refine congrArg (fun x : EReal => (o y : EReal) + x) (Finset.sum_congr rfl fun k _ => ?_)
  rw [block0 m c ⟨n, h⟩ k (y 1) (hb k), block1 m c ⟨n, h⟩ k (column y) (hb k)]
  rfl

/-- After a step the block holds the sum of the steps so far. -/
theorem block (n : ℕ) (h : n < cfg0.N) (y : S4x1024x1024.Idx) :
    (outsAt0 m c n h : S4x1024x1024.Idx → EReal) y
      = ∑ j ∈ Finset.range (n + 1), tile 16 512 rfl (part (arg0 m c) (arg1 m c) (arg2 m c) (arg3 m c) y) j := by
  induction n with
  | zero =>
    refine (congrFun ((outsAt0_A m c ⟨0, h⟩ (Nat.zero_mod _)).trans (out_A_eq c _ _ _ _ _ _ _ _ _ _)) y).trans ?_
    rw [adds, pay3_apply, zero_add, zero_add, Finset.sum_range_one]
  | succ n ih =>
    have hn : n + 1 < 16 := h.trans_eq N_0
    have h0 : ¬(n + 1) % 16 = 0 := by omega
    refine (congrFun ((outsAt0_B m c ⟨n + 1, h⟩ h0).trans (out_B_eq c _ _ _ _ _ _ _ _ _ _ _)) y).trans ?_
    rw [adds, Finset.sum_range_succ]
    exact congrArg (· + _) (ih _)

/-- The whole result. -/
theorem result : (dats m 0 c).arrAt 2 cfg0.N = grad (arg0 m c) (arg1 m c) (arg2 m c) (arg3 m c) := by
  have hcov : (cfg0.win 2).Covers := by decide +kernel
  have hlast : ∀ t : Fin cfg0.N, (cfg0.win 2).flush t = true → t.val = 15 :=
    (by decide +kernel : ∀ t : Fin grid0.N, (cfg0.win 2).flush t = true → t.val = 15)
  refine (dats m 0 c).arrAt_eq_of_covers (2 : Fin cfg0.W) (grad (arg0 m c) (arg1 m c) (arg2 m c) (arg3 m c)) hcov (fun t hf y => ?_) (Memref.isWhole_whole _)
  refine Eq.trans (b := (dats m 0 c).after 2 t y) (by blk_simp) ?_
  have e0 : ((((cfg0.win 2).blk t).view.emb y 0 : Fin _) : ℕ) = (y 0).val := by blk_simp [index2]
  have e1 : ((((cfg0.win 2).blk t).view.emb y 1 : Fin _) : ℕ) = (y 1).val := by blk_simp [index2]
  have e2 : ((((cfg0.win 2).blk t).view.emb y 2 : Fin _) : ℕ) = (y 2).val := by blk_simp [index2]
  have e : ((cfg0.win 2).blk t).view.emb y = y := funext fun a => by
    match a with
    | ⟨0, _⟩ => exact Fin.ext e0
    | ⟨1, _⟩ => exact Fin.ext e1
    | ⟨2, _⟩ => exact Fin.ext e2
  rw [after0_2, block, hlast t hf]
  refine (tiles_sum 16 512 rfl _).trans ?_
  exact congrArg (grad (arg0 m c) (arg1 m c) (arg2 m c) (arg3 m c)) e.symm

end Cert.Kernel5Ideal.UpWeight

namespace Cert.Reference5Ideal.Read

open Cert.Reference5Ideal Cert.Reference5Ideal.Gen Cert.Mlp
open Idealize.ShloMosaic

theorem pre_value (x0 : S8192x1024.Idx → EReal) (x1 : S1024x4096.Idx → EReal) (i : S8192x4096.Idx) :
    val_main_v1 (F := Ideal) x0 x1 i = ∑ k : Fin 1024, x0 (ix2 (i 0) k) * x1 (ix2 k (i 1)) := by
  rw [val_main_v1_apply]
  simp only [val_main_v0_apply]
  have hl : ∀ k, lidx_main_v1 i k = ix2 (i 0) k := fun k => ext2 rfl rfl
  have hr : ∀ k, ridx_main_v1 i k = ix2 k (i 1) := fun k => ext2 rfl rfl
  simp only [hl, hr]
  rfl

theorem back_value (x2 : S4096x1024.Idx → EReal) (x3 : S8192x1024.Idx → EReal) (i : S8192x4096.Idx) :
    val_main_v11 (F := Ideal) x2 x3 i = ∑ k : Fin 1024, x3 (ix2 (i 0) k) * x2 (ix2 (i 1) k) := by
  rw [val_main_v11_apply]
  simp only [val_main_v10_apply]
  have hl : ∀ k, lidx_main_v11 i k = ix2 (i 0) k := fun k => ext2 rfl rfl
  have hr : ∀ k, ridx_main_v11 i k = ix2 (i 1) k := fun k => ext2 rfl rfl
  simp only [hl, hr]
  rfl

/-- The gradient of the pre-activations. -/
theorem entry_value (x0 : S8192x1024.Idx → EReal) (x1 : S1024x4096.Idx → EReal) (x2 : S4096x1024.Idx → EReal) (x3 : S8192x1024.Idx → EReal)
    (i : S8192x4096.Idx) : val_main_v14 (F := Ideal) x0 x1 x2 x3 i = Cert.Kernel5Ideal.UpWeight.entry x0 x1 x2 x3 (i 0) (i 1) := by
  rw [val_main_v14_apply, val_main_v13_apply, val_main_v12_apply, val_main_v8_apply, val_main_v7_apply, val_main_v4_apply,
    val_main_v3_apply, val_main_v2_apply, val_main_call0_v0_apply, val_main_call0_cst_apply, val_main_cst_apply, val_main_cst_1_apply, val_main_cst_2_apply,
    pre_value, back_value, ofBits_zero]
  exact select_slope _ _

/-- The whole gradient, before it is cut into slabs. -/
theorem whole_value (x0 : S8192x1024.Idx → EReal) (x1 : S1024x4096.Idx → EReal) (x2 : S4096x1024.Idx → EReal) (x3 : S8192x1024.Idx → EReal)
    (r : Fin 1024) (q : Fin 4096) : val_main_v16 (F := Ideal) x0 x1 x2 x3 (ix2 r q)
      = ∑ s : Fin 8192, x0 (ix2 s r) * Cert.Kernel5Ideal.UpWeight.entry x0 x1 x2 x3 s q := by
  rw [val_main_v16_apply, val_main_v15_apply]
  refine Finset.sum_congr rfl fun s _ => ?_
  have e0 : ridx_main_v15 (idx_main_v16 (ix2 r q)) s = ix2 s r := ext2 rfl rfl
  rw [mul_comm, entry_value, val_main_v0_apply]
  exact congrArg₂ (fun a b : EReal => a * b) (congrArg x0 e0) rfl

theorem slab0_value (x0 : S8192x1024.Idx → EReal) (x1 : S1024x4096.Idx → EReal) (x2 : S4096x1024.Idx → EReal) (x3 : S8192x1024.Idx → EReal)
    (r q : Fin 1024) : val_main_v21 (F := Ideal) x0 x1 x2 x3 (ix3 0 r q) = Cert.Kernel5Ideal.UpWeight.grad x0 x1 x2 x3 (ix3 0 r q) := by
  rw [val_main_v21_apply, val_main_v17_apply]
  have e : idx_main_v17 (idx_main_v21 (ix3 0 r q)) = ix2 r (Cert.Kernel5Ideal.UpWeight.column (ix3 0 r q)) := funext fun a => by
    match a with
    | ⟨0, _⟩ => exact Fin.ext (by first | rfl | simp)
    | ⟨1, _⟩ => exact Fin.ext (by first | rfl | exact (Nat.zero_add _).symm | (show 0 + q.val = 1024 * 0 + q.val; rfl))
  exact (congrArg _ e).trans (whole_value x0 x1 x2 x3 r _)

theorem slab1_value (x0 : S8192x1024.Idx → EReal) (x1 : S1024x4096.Idx → EReal) (x2 : S4096x1024.Idx → EReal) (x3 : S8192x1024.Idx → EReal)
    (r q : Fin 1024) : val_main_v22 (F := Ideal) x0 x1 x2 x3 (ix3 0 r q) = Cert.Kernel5Ideal.UpWeight.grad x0 x1 x2 x3 (ix3 1 r q) := by
  rw [val_main_v22_apply, val_main_v18_apply]
  have e : idx_main_v18 (idx_main_v22 (ix3 0 r q)) = ix2 r (Cert.Kernel5Ideal.UpWeight.column (ix3 1 r q)) := funext fun a => by
    match a with
    | ⟨0, _⟩ => exact Fin.ext (by first | rfl | simp)
    | ⟨1, _⟩ => exact Fin.ext (by first | rfl | exact (Nat.zero_add _).symm | (show 1024 + q.val = 1024 * 1 + q.val; rfl))
  exact (congrArg _ e).trans (whole_value x0 x1 x2 x3 r _)

theorem slab2_value (x0 : S8192x1024.Idx → EReal) (x1 : S1024x4096.Idx → EReal) (x2 : S4096x1024.Idx → EReal) (x3 : S8192x1024.Idx → EReal)
    (r q : Fin 1024) : val_main_v23 (F := Ideal) x0 x1 x2 x3 (ix3 0 r q) = Cert.Kernel5Ideal.UpWeight.grad x0 x1 x2 x3 (ix3 2 r q) := by
  rw [val_main_v23_apply, val_main_v19_apply]
  have e : idx_main_v19 (idx_main_v23 (ix3 0 r q)) = ix2 r (Cert.Kernel5Ideal.UpWeight.column (ix3 2 r q)) := funext fun a => by
    match a with
    | ⟨0, _⟩ => exact Fin.ext (by first | rfl | simp)
    | ⟨1, _⟩ => exact Fin.ext (by first | rfl | exact (Nat.zero_add _).symm | (show 2048 + q.val = 1024 * 2 + q.val; rfl))
  exact (congrArg _ e).trans (whole_value x0 x1 x2 x3 r _)

theorem slab3_value (x0 : S8192x1024.Idx → EReal) (x1 : S1024x4096.Idx → EReal) (x2 : S4096x1024.Idx → EReal) (x3 : S8192x1024.Idx → EReal)
    (r q : Fin 1024) : val_main_v24 (F := Ideal) x0 x1 x2 x3 (ix3 0 r q) = Cert.Kernel5Ideal.UpWeight.grad x0 x1 x2 x3 (ix3 3 r q) := by
  rw [val_main_v24_apply, val_main_v20_apply]
  have e : idx_main_v20 (idx_main_v24 (ix3 0 r q)) = ix2 r (Cert.Kernel5Ideal.UpWeight.column (ix3 3 r q)) := funext fun a => by
    match a with
    | ⟨0, _⟩ => exact Fin.ext (by first | rfl | simp)
    | ⟨1, _⟩ => exact Fin.ext (by first | rfl | exact (Nat.zero_add _).symm | (show 3072 + q.val = 1024 * 3 + q.val; rfl))
  exact (congrArg _ e).trans (whole_value x0 x1 x2 x3 r _)

section Stack

variable (p0 p1 p2 p3 : S1x1024x1024.Idx → EReal) (r q : Fin 1024)

theorem stacked0 : concatenate S4x1024x1024 0 [⟨S1x1024x1024, p0⟩, ⟨S1x1024x1024, p1⟩, ⟨S1x1024x1024, p2⟩, ⟨S1x1024x1024, p3⟩]
    concatenates_S1x1024x1024_S1x1024x1024_S1x1024x1024_S1x1024x1024_S4x1024x1024_d0 (ix3 0 r q) = p0 (ix3 0 r q) :=
  concatenate_apply_piece (t := S4x1024x1024) 0 _ _ _ 0 (by show 0 < 4; decide) S1x1024x1024 p0 rfl rfl 0 rfl (ix3 0 r q)
    (fun b hb => by match b with
      | ⟨0, _⟩ => exact absurd rfl hb
      | ⟨1, _⟩ => rfl
      | ⟨2, _⟩ => rfl) rfl

theorem stacked1 : concatenate S4x1024x1024 0 [⟨S1x1024x1024, p0⟩, ⟨S1x1024x1024, p1⟩, ⟨S1x1024x1024, p2⟩, ⟨S1x1024x1024, p3⟩]
    concatenates_S1x1024x1024_S1x1024x1024_S1x1024x1024_S1x1024x1024_S4x1024x1024_d0 (ix3 1 r q) = p1 (ix3 0 r q) :=
  concatenate_apply_piece (t := S4x1024x1024) 0 _ _ _ 1 (by show 1 < 4; decide) S1x1024x1024 p1 rfl rfl 1 rfl (ix3 0 r q)
    (fun b hb => by match b with
      | ⟨0, _⟩ => exact absurd rfl hb
      | ⟨1, _⟩ => rfl
      | ⟨2, _⟩ => rfl) rfl

theorem stacked2 : concatenate S4x1024x1024 0 [⟨S1x1024x1024, p0⟩, ⟨S1x1024x1024, p1⟩, ⟨S1x1024x1024, p2⟩, ⟨S1x1024x1024, p3⟩]
    concatenates_S1x1024x1024_S1x1024x1024_S1x1024x1024_S1x1024x1024_S4x1024x1024_d0 (ix3 2 r q) = p2 (ix3 0 r q) :=
  concatenate_apply_piece (t := S4x1024x1024) 0 _ _ _ 2 (by show 2 < 4; decide) S1x1024x1024 p2 rfl rfl 2 rfl (ix3 0 r q)
    (fun b hb => by match b with
      | ⟨0, _⟩ => exact absurd rfl hb
      | ⟨1, _⟩ => rfl
      | ⟨2, _⟩ => rfl) rfl

theorem stacked3 : concatenate S4x1024x1024 0 [⟨S1x1024x1024, p0⟩, ⟨S1x1024x1024, p1⟩, ⟨S1x1024x1024, p2⟩, ⟨S1x1024x1024, p3⟩]
    concatenates_S1x1024x1024_S1x1024x1024_S1x1024x1024_S1x1024x1024_S4x1024x1024_d0 (ix3 3 r q) = p3 (ix3 0 r q) :=
  concatenate_apply_piece (t := S4x1024x1024) 0 _ _ _ 3 (by show 3 < 4; decide) S1x1024x1024 p3 rfl rfl 3 rfl (ix3 0 r q)
    (fun b hb => by match b with
      | ⟨0, _⟩ => exact absurd rfl hb
      | ⟨1, _⟩ => rfl
      | ⟨2, _⟩ => rfl) rfl

end Stack

theorem reference_value (x0 : S8192x1024.Idx → EReal) (x1 : S1024x4096.Idx → EReal) (x2 : S4096x1024.Idx → EReal) (x3 : S8192x1024.Idx → EReal) :
    val_main_v25 (F := Ideal) x0 x1 x2 x3 = Cert.Kernel5Ideal.UpWeight.grad x0 x1 x2 x3 := by
  funext i
  have hs : ∀ (j : Fin 4) (r q : Fin 1024), val_main_v25 (F := Ideal) x0 x1 x2 x3 (ix3 j r q) = Cert.Kernel5Ideal.UpWeight.grad x0 x1 x2 x3 (ix3 j r q) := fun j r q => by
    match j with
    | ⟨0, _⟩ => exact (stacked0 _ _ _ _ r q).trans (slab0_value x0 x1 x2 x3 r q)
    | ⟨1, _⟩ => exact (stacked1 _ _ _ _ r q).trans (slab1_value x0 x1 x2 x3 r q)
    | ⟨2, _⟩ => exact (stacked2 _ _ _ _ r q).trans (slab2_value x0 x1 x2 x3 r q)
    | ⟨3, _⟩ => exact (stacked3 _ _ _ _ r q).trans (slab3_value x0 x1 x2 x3 r q)
  refine (congrArg _ (Idealize.ShloMosaic.ValueIdx.eq_ix3 i)).trans ((hs (i 0) (i 1) (i 2)).trans ?_)
  exact congrArg (Cert.Kernel5Ideal.UpWeight.grad x0 x1 x2 x3) (Idealize.ShloMosaic.ValueIdx.eq_ix3 i).symm

end Cert.Reference5Ideal.Read

end
-- ==== Proof.Norm.lean ====
/-
  The layer norm of a row, and the row it is taken of: the residual plus the gated output of a sublayer.
-/
module

public import proofs.«01_k».proof.Proof.Mlp

@[expose] public section

noncomputable section

namespace Cert.Norm

open Idealize.ShloMosaic
open scoped BigOperators

/-- The constants: the residual's weight, one, the width of a row, and the layer norm's epsilon. -/
def alpha : EReal := Ideal.ofBits .f32 0x3FD744FD#32
def one : EReal := 1
def width : EReal := Ideal.ofBits .f32 0x44800000#32
def eps : EReal := Ideal.ofBits .f32 0x3727C5AC#32

theorem ofBits_one : (FloatOps.ofBits (F := Ideal) .f32 0x3F800000#32 : EReal) = one := Ideal.ofBits_one_f32

/-- The row under the layer norm. -/
def mixed (x gate y : Fin 1024 → EReal) (k : Fin 1024) : EReal := alpha * x k + (one + gate k) * y k

/-- A row's mean, its deviations from it and its variance. -/
def mean (z : Fin 1024 → EReal) : EReal := Ideal.div (∑ k, z k) width
def dev (z : Fin 1024 → EReal) (k : Fin 1024) : EReal := z k - mean z
def var (z : Fin 1024 → EReal) : EReal := Ideal.div (∑ k, dev z k * dev z k) width

/-- The layer norm of a row, scaled and shifted. -/
def normed (z g b : Fin 1024 → EReal) (k : Fin 1024) : EReal := dev z k * Ideal.rsqrt (var z + eps) * g k + b k

/-- The next sublayer's input. -/
def modulated (o sc sh : EReal) : EReal := o * (one + sc) + sh

end Cert.Norm

end
-- ==== Proof.MlpOut.lean ====
/-
  The MLP's second product and the layer norm after it: the block's output, the stream and the next block's input.
-/
module

public import proofs.«01_k».proof.Proof.Gen.Kernel6Ideal.Value
public import proofs.«01_k».proof.Proof.Gen.Reference6Ideal.Read
public import proofs.«01_k».proof.Proof.Norm

@[expose] public section

set_option maxRecDepth 16384

noncomputable section

namespace Cert.Kernel6Ideal.MlpOut

open Cert.Kernel6Ideal Cert.Kernel6Ideal.Gen Cert.Mlp Cert.Norm
open Idealize.ShloMosaic Idealize.ShloMosaic.TcCoe
open Idealize.ShloMosaic.Pipeline (Window)
open scoped BigOperators

variable (m : (ℓ : Loc nD τ sig) → Buf (Elt Ideal) ℓ) (c : Dev nD)

/-- The arguments: the stream, the block's input, its two weights, the gate, the layer norm's scale and shift, the next block's scale and shift. -/
abbrev arg0 : S8192x1024.Idx → EReal := m ((c.tc : Thread nD τ).loc main_arg0)
abbrev arg1 : S8192x1024.Idx → EReal := m ((c.tc : Thread nD τ).loc main_arg1)
abbrev arg2 : S1024x4096.Idx → EReal := m ((c.tc : Thread nD τ).loc main_arg2)
abbrev arg3 : S4096x1024.Idx → EReal := m ((c.tc : Thread nD τ).loc main_arg3)
abbrev arg4 : S1x1024.Idx → EReal := m ((c.tc : Thread nD τ).loc main_arg4)
abbrev arg5 : S1x1024.Idx → EReal := m ((c.tc : Thread nD τ).loc main_arg5)
abbrev arg6 : S1x1024.Idx → EReal := m ((c.tc : Thread nD τ).loc main_arg6)
abbrev arg7 : S1x1024.Idx → EReal := m ((c.tc : Thread nD τ).loc main_arg7)
abbrev arg8 : S1x1024.Idx → EReal := m ((c.tc : Thread nD τ).loc main_arg8)

/-- The sublayer's output. -/
def out (u : S8192x1024.Idx → EReal) (w : S1024x4096.Idx → EReal) (w' : S4096x1024.Idx → EReal) : S8192x1024.Idx → EReal := fun i =>
  ∑ k : Fin 4096, relu2 (∑ j : Fin 1024, u (ix2 (i 0) j) * w (ix2 j k)) * w' (ix2 k (i 1))

/-- The row under the layer norm. -/
def row (x : S8192x1024.Idx → EReal) (y : S8192x1024.Idx → EReal) (gate : S1x1024.Idx → EReal) (s : Fin 8192) : Fin 1024 → EReal :=
  mixed (fun k => x (ix2 s k)) (fun k => gate (ix2 0 k)) (fun k => y (ix2 s k))

/-- The stream after the sublayer. -/
def stream (x : S8192x1024.Idx → EReal) (y : S8192x1024.Idx → EReal) (gate g b : S1x1024.Idx → EReal) : S8192x1024.Idx → EReal := fun i =>
  normed (row x y gate (i 0)) (fun k => g (ix2 0 k)) (fun k => b (ix2 0 k)) (i 1)

/-- The next sublayer's input. -/
def next (x : S8192x1024.Idx → EReal) (y : S8192x1024.Idx → EReal) (gate g b sc sh : S1x1024.Idx → EReal) : S8192x1024.Idx → EReal := fun i =>
  modulated (stream x y gate g b i) (sc (ix2 0 (i 1))) (sh (ix2 0 (i 1)))

/-! ### A step's stored blocks -/

theorem stored3 (x0 : Vec Ideal S512x4096 .bf16) (x1 : Vec Ideal S1x4096x1024 .bf16) (r : Fin 512) (q : Fin 1024) :
    (k0_pay3 x0 x1 : S512x1024.Idx → EReal) (ix2 r q) = ∑ k : Fin 4096, (x0 (ix2 r k) : EReal) * x1 (ix3 0 k q) := by
  pointwise [k0_pay3]

theorem stored4 (x0 : Vec Ideal S512x4096 .bf16) (x1 : Vec Ideal S1x4096x1024 .bf16) (r : Fin 512) (q : Fin 1024) :
    (k0_pay4 x0 x1 : S512x1024.Idx → EReal) (ix2 r q) = (k0_pay3 x0 x1 : S512x1024.Idx → EReal) (ix2 r q) := by
  unfold k0_pay4
  generalize k0_pay3 x0 x1 = y
  pointwise

/-- The row under the layer norm, with the gate's factor as the step reads it. -/
def gated (x y : S512x1024.Idx → EReal) (gate : S1x1024.Idx → EReal) (r : Fin 512) (k : Fin 1024) : EReal :=
  alpha * x (ix2 r k) + gate (ix2 0 k) * y (ix2 r k)

theorem stored5 (x0 : Vec Ideal S512x4096 .bf16) (x1 : Vec Ideal S1x4096x1024 .bf16) (x2 : Vec Ideal S512x1024 .f32) (x3 x4 : Vec Ideal S1x1024 .f32)
    (r : Fin 512) (q : Fin 1024) :
    (k0_pay5 x0 x1 x2 x3 x4 : S512x1024.Idx → EReal) (ix2 r q)
      = dev (gated x2 (k0_pay3 x0 x1) x3 r) q * Ideal.rsqrt (var (gated x2 (k0_pay3 x0 x1) x3 r) + eps) * x4 (ix2 0 q) := by
  unfold k0_pay5
  generalize k0_pay3 x0 x1 = y
  pointwise
  rfl

theorem stored6 (x : Vec Ideal S1x1024 .f32) (r : Fin 512) (q : Fin 1024) : (k0_pay6 x : S512x1024.Idx → EReal) (ix2 r q) = x (ix2 0 q) := by
  pointwise [k0_pay6]

theorem stored1 (v w : Vec Ideal S512x1024 .f32) (r : Fin 512) (q : Fin 1024) :
    (k0_pay1 (F := Ideal) v w : S512x1024.Idx → EReal) (ix2 r q) = (v (ix2 r q) : EReal) + w (ix2 r q) := by
  pointwise [k0_pay1]

theorem stored2 (v w : Vec Ideal S512x1024 .f32) (sc sh : Vec Ideal S1x1024 .f32) (r : Fin 512) (q : Fin 1024) :
    (k0_pay2 (F := Ideal) v w sc sh : S512x1024.Idx → EReal) (ix2 r q) = modulated ((v (ix2 r q) : EReal) + w (ix2 r q)) (sc (ix2 0 q)) (sh (ix2 0 q)) := by
  pointwise [k0_pay2, k0_pay1]
  rfl

theorem hz2 : (![0, 0] : Fin 2 → Nat) = fun _ => 0 := funext fun a => by fin_cases a <;> rfl
theorem hz3 : (![0, 0, 0] : Fin 3 → Nat) = fun _ => 0 := funext fun a => by fin_cases a <;> rfl

section Steps

variable (x0 : Vec Ideal S512x4096 .bf16) (x1 : Vec Ideal S1x4096x1024 .bf16) (x2 : Vec Ideal S512x1024 .f32) (x3 x4 x5 x6 x7 : Vec Ideal S1x1024 .f32)

theorem out8_eq : out0_8 x0 x1 x2 x3 x4 x5 x6 x7 = k0_pay4 x0 x1 := by
  unfold out0_8
  rw [View.canon_unit_zero (S := S512x1024) hz2, View.ld_unit_zero (S := S512x4096) hz2, View.ld_unit_zero (S := S1x4096x1024) hz3]

theorem pay7_eq : k0_pay7 x0 x1 x2 x3 x4 x5 x6 x7 = k0_pay5 x0 x1 x2 x3 x4 := by
  unfold k0_pay7
  simp only [View.ld_unit_zero (S := S512x4096) hz2, View.ld_unit_zero (S := S1x4096x1024) hz3, View.ld_unit_zero (S := S512x1024) hz2,
    View.ld_unit_zero (S := S1x1024) hz2]

theorem pay8_eq : k0_pay8 x0 x1 x2 x3 x4 x5 x6 x7 = k0_pay6 x5 := by
  unfold k0_pay8
  simp only [View.ld_unit_zero (S := S1x1024) hz2]

theorem out9_eq : out0_9 x0 x1 x2 x3 x4 x5 x6 x7 = k0_pay1 (k0_pay5 x0 x1 x2 x3 x4) (k0_pay6 x5) := by
  unfold out0_9
  rw [View.canon_unit_zero (S := S512x1024) hz2, pay7_eq, pay8_eq]

theorem out10_eq : out0_10 x0 x1 x2 x3 x4 x5 x6 x7 = k0_pay2 (k0_pay5 x0 x1 x2 x3 x4) (k0_pay6 x5) x6 x7 := by
  unfold out0_10
  rw [View.canon_unit_zero (S := S512x1024) hz2, pay7_eq, pay8_eq]
  simp only [View.ld_unit_zero (S := S1x1024) hz2]

end Steps

/-! ### The blocks a step reads -/

theorem V_weight (k : Fin 4096) (q : Fin 1024) : (V m c main_v7 : S1x4096x1024.Idx → EReal) (ix3 0 k q) = arg3 m c (ix2 k q) := by
  unfold V
  after_reads_at

theorem V_gate (q : Fin 1024) : (V m c main_v9 : S1x1024.Idx → EReal) (ix2 0 q) = one + arg4 m c (ix2 0 q) := by
  unfold V
  after_reads_at
  rfl

theorem V_act (s : Fin 8192) (k : Fin 4096) : (V m c main_v5 : S8192x4096.Idx → EReal) (ix2 s k) = relu2 (∑ j : Fin 1024, arg1 m c (ix2 s j) * arg2 m c (ix2 j k)) := by
  unfold V
  after_reads_at
  rfl

theorem index0 : ∀ t : Fin cfg0.N, win0_0.index t = ![t.val, 0] := (by decide +kernel : ∀ t : Fin grid0.N, win0_0.index t = ![t.val, 0])
theorem index1 : ∀ t : Fin cfg0.N, win0_1.index t = ![0, 0, 0] := (by decide +kernel : ∀ t : Fin grid0.N, win0_1.index t = ![0, 0, 0])
theorem index2 : ∀ t : Fin cfg0.N, win0_2.index t = ![t.val, 0] := (by decide +kernel : ∀ t : Fin grid0.N, win0_2.index t = ![t.val, 0])
theorem index3 : ∀ t : Fin cfg0.N, win0_3.index t = ![0, 0] := (by decide +kernel : ∀ t : Fin grid0.N, win0_3.index t = ![0, 0])
theorem index4 : ∀ t : Fin cfg0.N, win0_4.index t = ![0, 0] := (by decide +kernel : ∀ t : Fin grid0.N, win0_4.index t = ![0, 0])
theorem index5 : ∀ t : Fin cfg0.N, win0_5.index t = ![0, 0] := (by decide +kernel : ∀ t : Fin grid0.N, win0_5.index t = ![0, 0])
theorem index6 : ∀ t : Fin cfg0.N, win0_6.index t = ![0, 0] := (by decide +kernel : ∀ t : Fin grid0.N, win0_6.index t = ![0, 0])
theorem index7 : ∀ t : Fin cfg0.N, win0_7.index t = ![0, 0] := (by decide +kernel : ∀ t : Fin grid0.N, win0_7.index t = ![0, 0])
theorem index8 : ∀ t : Fin cfg0.N, win0_8.index t = ![t.val, 0] := (by decide +kernel : ∀ t : Fin grid0.N, win0_8.index t = ![t.val, 0])
theorem index9 : ∀ t : Fin cfg0.N, win0_9.index t = ![t.val, 0] := (by decide +kernel : ∀ t : Fin grid0.N, win0_9.index t = ![t.val, 0])
theorem index10 : ∀ t : Fin cfg0.N, win0_10.index t = ![t.val, 0] := (by decide +kernel : ∀ t : Fin grid0.N, win0_10.index t = ![t.val, 0])

theorem block0 (t : Fin cfg0.N) (r : Fin 512) (k : Fin 4096) (h : t.val * 512 + r.val < 8192) :
    (iblk m c 0 t : S512x4096.Idx → EReal) (ix2 r k) = relu2 (∑ j : Fin 1024, arg1 m c (ix2 ⟨t.val * 512 + r.val, h⟩ j) * arg2 m c (ix2 j k)) := by
  refine Eq.trans (b := V m c main_v5 (((cfg0.win 0).blk t).view.emb (ix2 r k : S512x4096.Idx))) rfl ?_
  exact Eq.trans (congrArg (V m c main_v5) (a₂ := ix2 ⟨t.val * 512 + r.val, h⟩ k) (ext2 (by show _ = t.val * 512 + r.val; blk_simp [index0]) (by show _ = k.val; blk_simp [index0]))) (V_act m c _ k)

theorem block1 (t : Fin cfg0.N) (k : Fin 4096) (q : Fin 1024) : (iblk m c 1 t : S1x4096x1024.Idx → EReal) (ix3 0 k q) = arg3 m c (ix2 k q) := by
  refine Eq.trans (b := V m c main_v7 (((cfg0.win 1).blk t).view.emb (ix3 0 k q : S1x4096x1024.Idx))) rfl ?_
  exact Eq.trans (congrArg (V m c main_v7) (a₂ := ix3 0 k q) (ext3 (only _ _) (by show _ = k.val; blk_simp [index1]) (by show _ = q.val; blk_simp [index1]))) (V_weight m c k q)

theorem block2 (t : Fin cfg0.N) (r : Fin 512) (k : Fin 1024) (h : t.val * 512 + r.val < 8192) :
    (iblk m c 2 t : S512x1024.Idx → EReal) (ix2 r k) = arg0 m c (ix2 ⟨t.val * 512 + r.val, h⟩ k) := by
  refine Eq.trans (b := V m c main_arg0 (((cfg0.win 2).blk t).view.emb (ix2 r k : S512x1024.Idx))) rfl ?_
  exact Eq.trans (congrArg (V m c main_arg0) (a₂ := ix2 ⟨t.val * 512 + r.val, h⟩ k) (ext2 (by show _ = t.val * 512 + r.val; blk_simp [index2]) (by show _ = k.val; blk_simp [index2]))) (congrFun (V_main_arg0 m c) _)

theorem block3 (t : Fin cfg0.N) (q : Fin 1024) : (iblk m c 3 t : S1x1024.Idx → EReal) (ix2 0 q) = one + arg4 m c (ix2 0 q) := by
  refine Eq.trans (b := V m c main_v9 (((cfg0.win 3).blk t).view.emb (ix2 0 q : S1x1024.Idx))) rfl ?_
  exact Eq.trans (congrArg (V m c main_v9) (a₂ := ix2 0 q) (ext2 (only _ _) (by show _ = q.val; blk_simp [index3]))) (V_gate m c q)

theorem block4 (t : Fin cfg0.N) (q : Fin 1024) : (iblk m c 4 t : S1x1024.Idx → EReal) (ix2 0 q) = arg5 m c (ix2 0 q) := by
  refine Eq.trans (b := V m c main_arg5 (((cfg0.win 4).blk t).view.emb (ix2 0 q : S1x1024.Idx))) rfl ?_
  exact Eq.trans (congrArg (V m c main_arg5) (a₂ := ix2 0 q) (ext2 (only _ _) (by show _ = q.val; blk_simp [index4]))) (congrFun (V_main_arg5 m c) _)

theorem block5 (t : Fin cfg0.N) (q : Fin 1024) : (iblk m c 5 t : S1x1024.Idx → EReal) (ix2 0 q) = arg6 m c (ix2 0 q) := by
  refine Eq.trans (b := V m c main_arg6 (((cfg0.win 5).blk t).view.emb (ix2 0 q : S1x1024.Idx))) rfl ?_
  exact Eq.trans (congrArg (V m c main_arg6) (a₂ := ix2 0 q) (ext2 (only _ _) (by show _ = q.val; blk_simp [index5]))) (congrFun (V_main_arg6 m c) _)

theorem block6 (t : Fin cfg0.N) (q : Fin 1024) : (iblk m c 6 t : S1x1024.Idx → EReal) (ix2 0 q) = arg7 m c (ix2 0 q) := by
  refine Eq.trans (b := V m c main_arg7 (((cfg0.win 6).blk t).view.emb (ix2 0 q : S1x1024.Idx))) rfl ?_
  exact Eq.trans (congrArg (V m c main_arg7) (a₂ := ix2 0 q) (ext2 (only _ _) (by show _ = q.val; blk_simp [index6]))) (congrFun (V_main_arg7 m c) _)

theorem block7 (t : Fin cfg0.N) (q : Fin 1024) : (iblk m c 7 t : S1x1024.Idx → EReal) (ix2 0 q) = arg8 m c (ix2 0 q) := by
  refine Eq.trans (b := V m c main_arg8 (((cfg0.win 7).blk t).view.emb (ix2 0 q : S1x1024.Idx))) rfl ?_
  exact Eq.trans (congrArg (V m c main_arg8) (a₂ := ix2 0 q) (ext2 (only _ _) (by show _ = q.val; blk_simp [index7]))) (congrFun (V_main_arg8 m c) _)

/-! ### The blocks a step writes -/

theorem product (t : Fin cfg0.N) (r : Fin 512) (q : Fin 1024) (h : t.val * 512 + r.val < 8192) :
    (k0_pay3 (iblk m c 0 t) (iblk m c 1 t) : S512x1024.Idx → EReal) (ix2 r q) = out (arg1 m c) (arg2 m c) (arg3 m c) (ix2 ⟨t.val * 512 + r.val, h⟩ q) := by
  refine (stored3 _ _ r q).trans (Finset.sum_congr rfl fun k _ => ?_)
  rw [block0 m c t r k h, block1 m c t k q]
  rfl

theorem rows (t : Fin cfg0.N) (r : Fin 512) (h : t.val * 512 + r.val < 8192) :
    gated (iblk m c 2 t) (k0_pay3 (iblk m c 0 t) (iblk m c 1 t)) (iblk m c 3 t) r
      = row (arg0 m c) (out (arg1 m c) (arg2 m c) (arg3 m c)) (arg4 m c) ⟨t.val * 512 + r.val, h⟩ := by
  funext k
  unfold gated
  rw [block2 m c t r k h, block3 m c t k, product m c t r k h]
  rfl

theorem streamed (t : Fin cfg0.N) (r : Fin 512) (q : Fin 1024) (h : t.val * 512 + r.val < 8192) :
    (k0_pay5 (iblk m c 0 t) (iblk m c 1 t) (iblk m c 2 t) (iblk m c 3 t) (iblk m c 4 t) : S512x1024.Idx → EReal) (ix2 r q)
        + (k0_pay6 (iblk m c 5 t) : S512x1024.Idx → EReal) (ix2 r q)
      = stream (arg0 m c) (out (arg1 m c) (arg2 m c) (arg3 m c)) (arg4 m c) (arg5 m c) (arg6 m c) (ix2 ⟨t.val * 512 + r.val, h⟩ q) := by
  rw [stored5, stored6, rows m c t r h, block4 m c t q, block5 m c t q]
  rfl

/-! ### The whole results -/

theorem result_out : (dats m 0 c).arrAt 8 cfg0.N = out (arg1 m c) (arg2 m c) (arg3 m c) := by
  have hcov : (cfg0.win 8).Covers := by decide +kernel
  refine (dats m 0 c).arrAt_eq_of_covers (8 : Fin cfg0.W) (out (arg1 m c) (arg2 m c) (arg3 m c)) hcov (fun t hf y => ?_) (Memref.isWhole_whole _)
  refine Eq.trans (b := (dats m 0 c).after 8 t y) (by blk_simp) ?_
  rw [after0_8, out8_eq]
  have b0 : (y 0).val < 512 := (y 0).isLt
  have ht : t.val < 16 := t.isLt.trans_eq N_0
  have e0 : ((((cfg0.win 8).blk t).view.emb y 0 : Fin _) : ℕ) = t.val * 512 + (y 0).val := by blk_simp [index8]
  have e1 : ((((cfg0.win 8).blk t).view.emb y 1 : Fin _) : ℕ) = (y 1).val := by blk_simp [index8]
  refine ((congrArg _ (ValueIdx.eq_ix2 y)).trans ((stored4 _ _ (y 0) (y 1)).trans (product m c t (y 0) (y 1) (by omega)))).trans ?_
  have q0 : (⟨t.val * 512 + (y 0).val, by omega⟩ : Fin 8192) = ((cfg0.win 8).blk t).view.emb y 0 := Fin.ext e0.symm
  have q1 : y 1 = ((cfg0.win 8).blk t).view.emb y 1 := Fin.ext e1.symm
  rw [q0, q1]
  rfl

theorem result_stream : (dats m 0 c).arrAt 9 cfg0.N = stream (arg0 m c) (out (arg1 m c) (arg2 m c) (arg3 m c)) (arg4 m c) (arg5 m c) (arg6 m c) := by
  have hcov : (cfg0.win 9).Covers := by decide +kernel
  refine (dats m 0 c).arrAt_eq_of_covers (9 : Fin cfg0.W) (stream (arg0 m c) (out (arg1 m c) (arg2 m c) (arg3 m c)) (arg4 m c) (arg5 m c) (arg6 m c)) hcov (fun t hf y => ?_) (Memref.isWhole_whole _)
  refine Eq.trans (b := (dats m 0 c).after 9 t y) (by blk_simp) ?_
  rw [after0_9, out9_eq]
  have b0 : (y 0).val < 512 := (y 0).isLt
  have ht : t.val < 16 := t.isLt.trans_eq N_0
  have e0 : ((((cfg0.win 9).blk t).view.emb y 0 : Fin _) : ℕ) = t.val * 512 + (y 0).val := by blk_simp [index9]
  have e1 : ((((cfg0.win 9).blk t).view.emb y 1 : Fin _) : ℕ) = (y 1).val := by blk_simp [index9]
  refine ((congrArg _ (ValueIdx.eq_ix2 y)).trans ((stored1 _ _ (y 0) (y 1)).trans (streamed m c t (y 0) (y 1) (by omega)))).trans ?_
  have q0 : (⟨t.val * 512 + (y 0).val, by omega⟩ : Fin 8192) = ((cfg0.win 9).blk t).view.emb y 0 := Fin.ext e0.symm
  have q1 : y 1 = ((cfg0.win 9).blk t).view.emb y 1 := Fin.ext e1.symm
  rw [q0, q1]
  rfl

theorem result_next : (dats m 0 c).arrAt 10 cfg0.N = next (arg0 m c) (out (arg1 m c) (arg2 m c) (arg3 m c)) (arg4 m c) (arg5 m c) (arg6 m c) (arg7 m c) (arg8 m c) := by
  have hcov : (cfg0.win 10).Covers := by decide +kernel
  refine (dats m 0 c).arrAt_eq_of_covers (10 : Fin cfg0.W) (next (arg0 m c) (out (arg1 m c) (arg2 m c) (arg3 m c)) (arg4 m c) (arg5 m c) (arg6 m c) (arg7 m c) (arg8 m c)) hcov (fun t hf y => ?_) (Memref.isWhole_whole _)
  refine Eq.trans (b := (dats m 0 c).after 10 t y) (by blk_simp) ?_
  rw [after0_10, out10_eq]
  have b0 : (y 0).val < 512 := (y 0).isLt
  have ht : t.val < 16 := t.isLt.trans_eq N_0
  have e0 : ((((cfg0.win 10).blk t).view.emb y 0 : Fin _) : ℕ) = t.val * 512 + (y 0).val := by blk_simp [index10]
  have e1 : ((((cfg0.win 10).blk t).view.emb y 1 : Fin _) : ℕ) = (y 1).val := by blk_simp [index10]
  refine ((congrArg _ (ValueIdx.eq_ix2 y)).trans (stored2 _ _ _ _ (y 0) (y 1))).trans ?_
  rw [streamed m c t (y 0) (y 1) (by omega), block6 m c t (y 1), block7 m c t (y 1)]
  have q0 : (⟨t.val * 512 + (y 0).val, by omega⟩ : Fin 8192) = ((cfg0.win 10).blk t).view.emb y 0 := Fin.ext e0.symm
  have q1 : y 1 = ((cfg0.win 10).blk t).view.emb y 1 := Fin.ext e1.symm
  rw [q0, q1]
  rfl

end Cert.Kernel6Ideal.MlpOut

namespace Cert.Reference6Ideal.Read

open Cert.Reference6Ideal Cert.Reference6Ideal.Gen Cert.Mlp Cert.Norm
open Idealize.ShloMosaic

theorem act_value (x1 : S8192x1024.Idx → EReal) (x2 : S1024x4096.Idx → EReal) (s : Fin 8192) (q : Fin 4096) :
    val_main_v3 (F := Ideal) x1 x2 (ix2 s q) = relu2 (∑ k : Fin 1024, x1 (ix2 s k) * x2 (ix2 k q)) := by
  rw [val_main_v3_apply, val_main_v2_apply, val_main_v1_apply, val_main_call0_v0_apply, val_main_call0_cst_apply,
    ofBits_zero]
  simp only [val_main_v0_apply]
  have hl : ∀ k, lidx_main_v1 (ix2 s q) k = ix2 s k := fun k => ext2 rfl rfl
  have hr : ∀ k, ridx_main_v1 (ix2 s q) k = ix2 k q := fun k => ext2 rfl rfl
  simp only [hl, hr]
  rfl

theorem product_value (x1 : S8192x1024.Idx → EReal) (x2 : S1024x4096.Idx → EReal) (x3 : S4096x1024.Idx → EReal) (s : Fin 8192) (k : Fin 1024) :
    val_main_v4 (F := Ideal) x1 x2 x3 (ix2 s k) = Cert.Kernel6Ideal.MlpOut.out x1 x2 x3 (ix2 s k) := by
  rw [val_main_v4_apply]
  refine Finset.sum_congr rfl fun j _ => ?_
  have hl : lidx_main_v4 (ix2 s k) j = ix2 s j := ext2 rfl rfl
  have hr : ridx_main_v4 (ix2 s k) j = ix2 j k := ext2 rfl rfl
  rw [hl, hr, act_value]
  rfl

theorem row_value (x0 : S8192x1024.Idx → EReal) (x1 : S8192x1024.Idx → EReal) (x2 : S1024x4096.Idx → EReal) (x3 : S4096x1024.Idx → EReal) (x4 : S1x1024.Idx → EReal) (s : Fin 8192) (k : Fin 1024) :
    val_main_v11 (F := Ideal) x0 x1 x2 x3 x4 (ix2 s k) = Cert.Kernel6Ideal.MlpOut.row x0 (Cert.Kernel6Ideal.MlpOut.out x1 x2 x3) x4 s k := by
  rw [val_main_v11_apply, val_main_v6_apply, val_main_v10_apply, product_value, val_main_v5_apply, val_main_cst_apply,
    val_main_v9_apply, val_main_v8_apply, val_main_v7_apply, val_main_cst_0_apply, ofBits_one]
  have e : idx_main_v9 (ix2 s k) = ix2 0 k := ext2 rfl rfl
  rw [e]
  rfl

theorem mean_value (x0 : S8192x1024.Idx → EReal) (x1 : S8192x1024.Idx → EReal) (x2 : S1024x4096.Idx → EReal) (x3 : S4096x1024.Idx → EReal) (x4 : S1x1024.Idx → EReal) (s : Fin 8192) :
    val_main_v15 (F := Ideal) x0 x1 x2 x3 x4 (ix2 s 0) = mean (Cert.Kernel6Ideal.MlpOut.row x0 (Cert.Kernel6Ideal.MlpOut.out x1 x2 x3) x4 s) := by
  rw [val_main_v15_apply, val_main_v13_apply, val_main_v12_apply, val_main_cst_1_apply, val_main_v14_apply, val_main_cst_2_apply,
    ofBits_zero]
  refine congrArg₂ Ideal.div ((zero_add _).trans (Finset.sum_congr rfl fun k _ => ?_)) rfl
  have e : idx_main_v12 (idx_main_v13 (ix2 s 0)) k = ix2 s k := ext2 rfl rfl
  rw [e]
  exact row_value _ _ _ _ _ _ k

theorem dev_value (x0 : S8192x1024.Idx → EReal) (x1 : S8192x1024.Idx → EReal) (x2 : S1024x4096.Idx → EReal) (x3 : S4096x1024.Idx → EReal) (x4 : S1x1024.Idx → EReal) (s : Fin 8192) (k : Fin 1024) :
    val_main_v17 (F := Ideal) x0 x1 x2 x3 x4 (ix2 s k) = dev (Cert.Kernel6Ideal.MlpOut.row x0 (Cert.Kernel6Ideal.MlpOut.out x1 x2 x3) x4 s) k := by
  have e : idx_main_v16 (ix2 s k) = ix2 s 0 := ext2 rfl rfl
  rw [val_main_v17_apply, val_main_v16_apply, e, mean_value, row_value]
  rfl

theorem dev_value' (x0 : S8192x1024.Idx → EReal) (x1 : S8192x1024.Idx → EReal) (x2 : S1024x4096.Idx → EReal) (x3 : S4096x1024.Idx → EReal) (x4 : S1x1024.Idx → EReal) (s : Fin 8192) (k : Fin 1024) :
    val_main_v24 (F := Ideal) x0 x1 x2 x3 x4 (ix2 s k) = dev (Cert.Kernel6Ideal.MlpOut.row x0 (Cert.Kernel6Ideal.MlpOut.out x1 x2 x3) x4 s) k := by
  have e : idx_main_v23 (ix2 s k) = ix2 s 0 := ext2 rfl rfl
  rw [val_main_v24_apply, val_main_v23_apply, e, mean_value, row_value]
  rfl

theorem var_value (x0 : S8192x1024.Idx → EReal) (x1 : S8192x1024.Idx → EReal) (x2 : S1024x4096.Idx → EReal) (x3 : S4096x1024.Idx → EReal) (x4 : S1x1024.Idx → EReal) (s : Fin 8192) :
    val_main_v22 (F := Ideal) x0 x1 x2 x3 x4 (ix2 s 0) = var (Cert.Kernel6Ideal.MlpOut.row x0 (Cert.Kernel6Ideal.MlpOut.out x1 x2 x3) x4 s) := by
  rw [val_main_v22_apply, val_main_v20_apply, val_main_v19_apply, val_main_cst_3_apply, val_main_v21_apply, val_main_cst_4_apply,
    ofBits_zero]
  refine congrArg₂ Ideal.div ((zero_add _).trans (Finset.sum_congr rfl fun k _ => ?_)) rfl
  have e : idx_main_v19 (idx_main_v20 (ix2 s 0)) k = ix2 s k := ext2 rfl rfl
  rw [e, val_main_v18_apply, dev_value]
  rfl

theorem reference_out (x1 : S8192x1024.Idx → EReal) (x2 : S1024x4096.Idx → EReal) (x3 : S4096x1024.Idx → EReal) : val_main_v34 (F := Ideal) x1 x2 x3 = Cert.Kernel6Ideal.MlpOut.out x1 x2 x3 := by
  funext i
  rw [val_main_v34_apply]
  exact (congrArg _ (ValueIdx.eq_ix2 i)).trans ((product_value _ _ _ (i 0) (i 1)).trans (congrArg _ (ValueIdx.eq_ix2 i).symm))

theorem stream_value (x0 : S8192x1024.Idx → EReal) (x1 : S8192x1024.Idx → EReal) (x2 : S1024x4096.Idx → EReal) (x3 : S4096x1024.Idx → EReal) (x4 : S1x1024.Idx → EReal) (x5 : S1x1024.Idx → EReal) (x6 : S1x1024.Idx → EReal) (s : Fin 8192) (k : Fin 1024) :
    val_main_v33 (F := Ideal) x0 x1 x2 x3 x4 x5 x6 (ix2 s k) = Cert.Kernel6Ideal.MlpOut.stream x0 (Cert.Kernel6Ideal.MlpOut.out x1 x2 x3) x4 x5 x6 (ix2 s k) := by
  have e0 : idx_main_v28 (ix2 s k) = ix2 s 0 := ext2 rfl rfl
  rw [val_main_v33_apply, val_main_v31_apply, val_main_v29_apply, dev_value', val_main_v28_apply, val_main_v27_apply, val_main_v26_apply,
    e0, var_value, val_main_v25_apply, val_main_cst_5_apply, val_main_v30_apply, val_main_v32_apply]
  have e : idx_main_v30 (ix2 s k) = ix2 0 k := ext2 rfl rfl
  have e' : idx_main_v32 (ix2 s k) = ix2 0 k := ext2 rfl rfl
  rw [e, e']
  rfl

theorem reference_stream (x0 : S8192x1024.Idx → EReal) (x1 : S8192x1024.Idx → EReal) (x2 : S1024x4096.Idx → EReal) (x3 : S4096x1024.Idx → EReal) (x4 : S1x1024.Idx → EReal) (x5 : S1x1024.Idx → EReal) (x6 : S1x1024.Idx → EReal) : val_main_v33 (F := Ideal) x0 x1 x2 x3 x4 x5 x6 = Cert.Kernel6Ideal.MlpOut.stream x0 (Cert.Kernel6Ideal.MlpOut.out x1 x2 x3) x4 x5 x6 := by
  funext i
  exact (congrArg _ (ValueIdx.eq_ix2 i)).trans ((stream_value _ _ _ _ _ _ _ (i 0) (i 1)).trans (congrArg _ (ValueIdx.eq_ix2 i).symm))

theorem reference_next (x0 : S8192x1024.Idx → EReal) (x1 : S8192x1024.Idx → EReal) (x2 : S1024x4096.Idx → EReal) (x3 : S4096x1024.Idx → EReal) (x4 : S1x1024.Idx → EReal) (x5 : S1x1024.Idx → EReal) (x6 : S1x1024.Idx → EReal) (x7 : S1x1024.Idx → EReal) (x8 : S1x1024.Idx → EReal) :
    val_main_v41 (F := Ideal) x0 x1 x2 x3 x4 x5 x6 x7 x8 = Cert.Kernel6Ideal.MlpOut.next x0 (Cert.Kernel6Ideal.MlpOut.out x1 x2 x3) x4 x5 x6 x7 x8 := by
  funext i
  rw [val_main_v41_apply, val_main_v40_apply, val_main_v38_apply, reference_stream, val_main_v37_apply, val_main_v36_apply, val_main_v35_apply,
    val_main_cst_6_apply, ofBits_one, val_main_v39_apply]
  have e : idx_main_v37 i = ix2 0 (i 1) := ext2 rfl rfl
  have e' : idx_main_v39 i = ix2 0 (i 1) := ext2 rfl rfl
  rw [e, e']
  rfl

end Cert.Reference6Ideal.Read

end
-- ==== Proof.MixOut.lean ====
/-
  The mixer's output product and the layer norm after it: the block's output, the stream and the next block's input.
-/
module

public import proofs.«01_k».proof.Proof.Gen.Kernel7Ideal.Value
public import proofs.«01_k».proof.Proof.Gen.Reference7Ideal.Read
public import proofs.«01_k».proof.Proof.Norm

@[expose] public section

set_option maxRecDepth 16384

noncomputable section

namespace Cert.Kernel7Ideal.MixOut

open Cert.Kernel7Ideal Cert.Kernel7Ideal.Gen Cert.Mlp Cert.Norm
open Idealize.ShloMosaic Idealize.ShloMosaic.TcCoe
open Idealize.ShloMosaic.Pipeline (Window)
open scoped BigOperators

variable (m : (ℓ : Loc nD τ sig) → Buf (Elt Ideal) ℓ) (c : Dev nD)

/-- The arguments: the stream, the mixer's values, its output weight, the gate, the layer norm's scale and shift, the next block's scale and shift. -/
abbrev arg0 : S8192x1024.Idx → EReal := m ((c.tc : Thread nD τ).loc main_arg0)
abbrev arg1 : S8192x1024.Idx → EReal := m ((c.tc : Thread nD τ).loc main_arg1)
abbrev arg2 : S1024x1024.Idx → EReal := m ((c.tc : Thread nD τ).loc main_arg2)
abbrev arg3 : S1x1024.Idx → EReal := m ((c.tc : Thread nD τ).loc main_arg3)
abbrev arg4 : S1x1024.Idx → EReal := m ((c.tc : Thread nD τ).loc main_arg4)
abbrev arg5 : S1x1024.Idx → EReal := m ((c.tc : Thread nD τ).loc main_arg5)
abbrev arg6 : S1x1024.Idx → EReal := m ((c.tc : Thread nD τ).loc main_arg6)
abbrev arg7 : S1x1024.Idx → EReal := m ((c.tc : Thread nD τ).loc main_arg7)

/-- The sublayer's output. -/
def out (z : S8192x1024.Idx → EReal) (w' : S1024x1024.Idx → EReal) : S8192x1024.Idx → EReal := fun i =>
  ∑ k : Fin 1024, z (ix2 (i 0) k) * w' (ix2 k (i 1))

/-- The row under the layer norm. -/
def row (x : S8192x1024.Idx → EReal) (y : S8192x1024.Idx → EReal) (gate : S1x1024.Idx → EReal) (s : Fin 8192) : Fin 1024 → EReal :=
  mixed (fun k => x (ix2 s k)) (fun k => gate (ix2 0 k)) (fun k => y (ix2 s k))

/-- The stream after the sublayer. -/
def stream (x : S8192x1024.Idx → EReal) (y : S8192x1024.Idx → EReal) (gate g b : S1x1024.Idx → EReal) : S8192x1024.Idx → EReal := fun i =>
  normed (row x y gate (i 0)) (fun k => g (ix2 0 k)) (fun k => b (ix2 0 k)) (i 1)

/-- The next sublayer's input. -/
def next (x : S8192x1024.Idx → EReal) (y : S8192x1024.Idx → EReal) (gate g b sc sh : S1x1024.Idx → EReal) : S8192x1024.Idx → EReal := fun i =>
  modulated (stream x y gate g b i) (sc (ix2 0 (i 1))) (sh (ix2 0 (i 1)))

/-! ### A step's stored blocks -/

theorem stored2 (x0 : Vec Ideal S512x1024 .bf16) (x1 : Vec Ideal S1x1024x1024 .bf16) (r : Fin 512) (q : Fin 1024) :
    (k0_pay2 x0 x1 : S512x1024.Idx → EReal) (ix2 r q) = ∑ k : Fin 1024, (x0 (ix2 r k) : EReal) * x1 (ix3 0 k q) := by
  pointwise [k0_pay2]

theorem stored3 (x0 : Vec Ideal S512x1024 .bf16) (x1 : Vec Ideal S1x1024x1024 .bf16) (r : Fin 512) (q : Fin 1024) :
    (k0_pay3 x0 x1 : S512x1024.Idx → EReal) (ix2 r q) = (k0_pay2 x0 x1 : S512x1024.Idx → EReal) (ix2 r q) := by
  unfold k0_pay3
  generalize k0_pay2 x0 x1 = y
  pointwise

/-- The row under the layer norm, with the gate's factor as the step reads it. -/
def gated (x y : S512x1024.Idx → EReal) (gate : S1x1024.Idx → EReal) (r : Fin 512) (k : Fin 1024) : EReal :=
  alpha * x (ix2 r k) + gate (ix2 0 k) * y (ix2 r k)

theorem stored4 (x0 : Vec Ideal S512x1024 .bf16) (x1 : Vec Ideal S1x1024x1024 .bf16) (x2 : Vec Ideal S512x1024 .f32) (x3 x4 x5 : Vec Ideal S1x1024 .f32)
    (r : Fin 512) (q : Fin 1024) :
    (k0_pay4 x0 x1 x2 x3 x4 x5 : S512x1024.Idx → EReal) (ix2 r q)
      = dev (gated x2 (k0_pay2 x0 x1) x3 r) q * Ideal.rsqrt (var (gated x2 (k0_pay2 x0 x1) x3 r) + eps) * x4 (ix2 0 q) + x5 (ix2 0 q) := by
  unfold k0_pay4
  generalize k0_pay2 x0 x1 = y
  pointwise
  rfl

theorem stored1 (v : Vec Ideal S512x1024 .f32) (sc sh : Vec Ideal S1x1024 .f32) (r : Fin 512) (q : Fin 1024) :
    (k0_pay1 (F := Ideal) v sc sh : S512x1024.Idx → EReal) (ix2 r q) = modulated (v (ix2 r q)) (sc (ix2 0 q)) (sh (ix2 0 q)) := by
  pointwise [k0_pay1]
  rfl

theorem hz2 : (![0, 0] : Fin 2 → Nat) = fun _ => 0 := funext fun a => by fin_cases a <;> rfl
theorem hz3 : (![0, 0, 0] : Fin 3 → Nat) = fun _ => 0 := funext fun a => by fin_cases a <;> rfl

section Steps

variable (x0 : Vec Ideal S512x1024 .bf16) (x1 : Vec Ideal S1x1024x1024 .bf16) (x2 : Vec Ideal S512x1024 .f32) (x3 x4 x5 x6 x7 : Vec Ideal S1x1024 .f32)

theorem out8_eq : out0_8 x0 x1 x2 x3 x4 x5 x6 x7 = k0_pay3 x0 x1 := by
  unfold out0_8
  rw [View.canon_unit_zero (S := S512x1024) hz2, View.ld_unit_zero (S := S512x1024) hz2, View.ld_unit_zero (S := S1x1024x1024) hz3]

theorem out9_eq : out0_9 x0 x1 x2 x3 x4 x5 x6 x7 = k0_pay4 x0 x1 x2 x3 x4 x5 := by
  unfold out0_9 k0_pay5
  rw [View.canon_unit_zero (S := S512x1024) hz2]
  simp only [View.ld_unit_zero (S := S512x1024) hz2, View.ld_unit_zero (S := S1x1024x1024) hz3, View.ld_unit_zero (S := S1x1024) hz2]

theorem out10_eq : out0_10 x0 x1 x2 x3 x4 x5 x6 x7 = k0_pay1 (k0_pay4 x0 x1 x2 x3 x4 x5) x6 x7 := by
  unfold out0_10 k0_pay5
  rw [View.canon_unit_zero (S := S512x1024) hz2]
  simp only [View.ld_unit_zero (S := S512x1024) hz2, View.ld_unit_zero (S := S1x1024x1024) hz3, View.ld_unit_zero (S := S1x1024) hz2]

end Steps

/-! ### The blocks a step reads -/

theorem V_weight (k : Fin 1024) (q : Fin 1024) : (V m c main_v1 : S1x1024x1024.Idx → EReal) (ix3 0 k q) = arg2 m c (ix2 k q) := by
  unfold V
  after_reads_at

theorem V_gate (q : Fin 1024) : (V m c main_v3 : S1x1024.Idx → EReal) (ix2 0 q) = one + arg3 m c (ix2 0 q) := by
  unfold V
  after_reads_at
  rfl

theorem index0 : ∀ t : Fin cfg0.N, win0_0.index t = ![t.val, 0] := (by decide +kernel : ∀ t : Fin grid0.N, win0_0.index t = ![t.val, 0])
theorem index1 : ∀ t : Fin cfg0.N, win0_1.index t = ![0, 0, 0] := (by decide +kernel : ∀ t : Fin grid0.N, win0_1.index t = ![0, 0, 0])
theorem index2 : ∀ t : Fin cfg0.N, win0_2.index t = ![t.val, 0] := (by decide +kernel : ∀ t : Fin grid0.N, win0_2.index t = ![t.val, 0])
theorem index3 : ∀ t : Fin cfg0.N, win0_3.index t = ![0, 0] := (by decide +kernel : ∀ t : Fin grid0.N, win0_3.index t = ![0, 0])
theorem index4 : ∀ t : Fin cfg0.N, win0_4.index t = ![0, 0] := (by decide +kernel : ∀ t : Fin grid0.N, win0_4.index t = ![0, 0])
theorem index5 : ∀ t : Fin cfg0.N, win0_5.index t = ![0, 0] := (by decide +kernel : ∀ t : Fin grid0.N, win0_5.index t = ![0, 0])
theorem index6 : ∀ t : Fin cfg0.N, win0_6.index t = ![0, 0] := (by decide +kernel : ∀ t : Fin grid0.N, win0_6.index t = ![0, 0])
theorem index7 : ∀ t : Fin cfg0.N, win0_7.index t = ![0, 0] := (by decide +kernel : ∀ t : Fin grid0.N, win0_7.index t = ![0, 0])
theorem index8 : ∀ t : Fin cfg0.N, win0_8.index t = ![t.val, 0] := (by decide +kernel : ∀ t : Fin grid0.N, win0_8.index t = ![t.val, 0])
theorem index9 : ∀ t : Fin cfg0.N, win0_9.index t = ![t.val, 0] := (by decide +kernel : ∀ t : Fin grid0.N, win0_9.index t = ![t.val, 0])
theorem index10 : ∀ t : Fin cfg0.N, win0_10.index t = ![t.val, 0] := (by decide +kernel : ∀ t : Fin grid0.N, win0_10.index t = ![t.val, 0])

theorem block0 (t : Fin cfg0.N) (r : Fin 512) (k : Fin 1024) (h : t.val * 512 + r.val < 8192) :
    (iblk m c 0 t : S512x1024.Idx → EReal) (ix2 r k) = arg1 m c (ix2 ⟨t.val * 512 + r.val, h⟩ k) := by
  refine Eq.trans (b := V m c main_arg1 (((cfg0.win 0).blk t).view.emb (ix2 r k : S512x1024.Idx))) rfl ?_
  exact Eq.trans (congrArg (V m c main_arg1) (a₂ := ix2 ⟨t.val * 512 + r.val, h⟩ k) (ext2 (by show _ = t.val * 512 + r.val; blk_simp [index0]) (by show _ = k.val; blk_simp [index0]))) (congrFun (V_main_arg1 m c) _)

theorem block1 (t : Fin cfg0.N) (k : Fin 1024) (q : Fin 1024) : (iblk m c 1 t : S1x1024x1024.Idx → EReal) (ix3 0 k q) = arg2 m c (ix2 k q) := by
  refine Eq.trans (b := V m c main_v1 (((cfg0.win 1).blk t).view.emb (ix3 0 k q : S1x1024x1024.Idx))) rfl ?_
  exact Eq.trans (congrArg (V m c main_v1) (a₂ := ix3 0 k q) (ext3 (only _ _) (by show _ = k.val; blk_simp [index1]) (by show _ = q.val; blk_simp [index1]))) (V_weight m c k q)

theorem block2 (t : Fin cfg0.N) (r : Fin 512) (k : Fin 1024) (h : t.val * 512 + r.val < 8192) :
    (iblk m c 2 t : S512x1024.Idx → EReal) (ix2 r k) = arg0 m c (ix2 ⟨t.val * 512 + r.val, h⟩ k) := by
  refine Eq.trans (b := V m c main_arg0 (((cfg0.win 2).blk t).view.emb (ix2 r k : S512x1024.Idx))) rfl ?_
  exact Eq.trans (congrArg (V m c main_arg0) (a₂ := ix2 ⟨t.val * 512 + r.val, h⟩ k) (ext2 (by show _ = t.val * 512 + r.val; blk_simp [index2]) (by show _ = k.val; blk_simp [index2]))) (congrFun (V_main_arg0 m c) _)

theorem block3 (t : Fin cfg0.N) (q : Fin 1024) : (iblk m c 3 t : S1x1024.Idx → EReal) (ix2 0 q) = one + arg3 m c (ix2 0 q) := by
  refine Eq.trans (b := V m c main_v3 (((cfg0.win 3).blk t).view.emb (ix2 0 q : S1x1024.Idx))) rfl ?_
  exact Eq.trans (congrArg (V m c main_v3) (a₂ := ix2 0 q) (ext2 (only _ _) (by show _ = q.val; blk_simp [index3]))) (V_gate m c q)

theorem block4 (t : Fin cfg0.N) (q : Fin 1024) : (iblk m c 4 t : S1x1024.Idx → EReal) (ix2 0 q) = arg4 m c (ix2 0 q) := by
  refine Eq.trans (b := V m c main_arg4 (((cfg0.win 4).blk t).view.emb (ix2 0 q : S1x1024.Idx))) rfl ?_
  exact Eq.trans (congrArg (V m c main_arg4) (a₂ := ix2 0 q) (ext2 (only _ _) (by show _ = q.val; blk_simp [index4]))) (congrFun (V_main_arg4 m c) _)

theorem block5 (t : Fin cfg0.N) (q : Fin 1024) : (iblk m c 5 t : S1x1024.Idx → EReal) (ix2 0 q) = arg5 m c (ix2 0 q) := by
  refine Eq.trans (b := V m c main_arg5 (((cfg0.win 5).blk t).view.emb (ix2 0 q : S1x1024.Idx))) rfl ?_
  exact Eq.trans (congrArg (V m c main_arg5) (a₂ := ix2 0 q) (ext2 (only _ _) (by show _ = q.val; blk_simp [index5]))) (congrFun (V_main_arg5 m c) _)

theorem block6 (t : Fin cfg0.N) (q : Fin 1024) : (iblk m c 6 t : S1x1024.Idx → EReal) (ix2 0 q) = arg6 m c (ix2 0 q) := by
  refine Eq.trans (b := V m c main_arg6 (((cfg0.win 6).blk t).view.emb (ix2 0 q : S1x1024.Idx))) rfl ?_
  exact Eq.trans (congrArg (V m c main_arg6) (a₂ := ix2 0 q) (ext2 (only _ _) (by show _ = q.val; blk_simp [index6]))) (congrFun (V_main_arg6 m c) _)

theorem block7 (t : Fin cfg0.N) (q : Fin 1024) : (iblk m c 7 t : S1x1024.Idx → EReal) (ix2 0 q) = arg7 m c (ix2 0 q) := by
  refine Eq.trans (b := V m c main_arg7 (((cfg0.win 7).blk t).view.emb (ix2 0 q : S1x1024.Idx))) rfl ?_
  exact Eq.trans (congrArg (V m c main_arg7) (a₂ := ix2 0 q) (ext2 (only _ _) (by show _ = q.val; blk_simp [index7]))) (congrFun (V_main_arg7 m c) _)

/-! ### The blocks a step writes -/

theorem product (t : Fin cfg0.N) (r : Fin 512) (q : Fin 1024) (h : t.val * 512 + r.val < 8192) :
    (k0_pay2 (iblk m c 0 t) (iblk m c 1 t) : S512x1024.Idx → EReal) (ix2 r q) = out (arg1 m c) (arg2 m c) (ix2 ⟨t.val * 512 + r.val, h⟩ q) := by
  refine (stored2 _ _ r q).trans (Finset.sum_congr rfl fun k _ => ?_)
  rw [block0 m c t r k h, block1 m c t k q]
  rfl

theorem rows (t : Fin cfg0.N) (r : Fin 512) (h : t.val * 512 + r.val < 8192) :
    gated (iblk m c 2 t) (k0_pay2 (iblk m c 0 t) (iblk m c 1 t)) (iblk m c 3 t) r
      = row (arg0 m c) (out (arg1 m c) (arg2 m c)) (arg3 m c) ⟨t.val * 512 + r.val, h⟩ := by
  funext k
  unfold gated
  rw [block2 m c t r k h, block3 m c t k, product m c t r k h]
  rfl

theorem streamed (t : Fin cfg0.N) (r : Fin 512) (q : Fin 1024) (h : t.val * 512 + r.val < 8192) :
    (k0_pay4 (iblk m c 0 t) (iblk m c 1 t) (iblk m c 2 t) (iblk m c 3 t) (iblk m c 4 t) (iblk m c 5 t) : S512x1024.Idx → EReal) (ix2 r q)
      = stream (arg0 m c) (out (arg1 m c) (arg2 m c)) (arg3 m c) (arg4 m c) (arg5 m c) (ix2 ⟨t.val * 512 + r.val, h⟩ q) := by
  rw [stored4, rows m c t r h, block4 m c t q, block5 m c t q]
  rfl

/-! ### The whole results -/

theorem result_out : (dats m 0 c).arrAt 8 cfg0.N = out (arg1 m c) (arg2 m c) := by
  have hcov : (cfg0.win 8).Covers := by decide +kernel
  refine (dats m 0 c).arrAt_eq_of_covers (8 : Fin cfg0.W) (out (arg1 m c) (arg2 m c)) hcov (fun t hf y => ?_) (Memref.isWhole_whole _)
  refine Eq.trans (b := (dats m 0 c).after 8 t y) (by blk_simp) ?_
  rw [after0_8, out8_eq]
  have b0 : (y 0).val < 512 := (y 0).isLt
  have ht : t.val < 16 := t.isLt.trans_eq N_0
  have e0 : ((((cfg0.win 8).blk t).view.emb y 0 : Fin _) : ℕ) = t.val * 512 + (y 0).val := by blk_simp [index8]
  have e1 : ((((cfg0.win 8).blk t).view.emb y 1 : Fin _) : ℕ) = (y 1).val := by blk_simp [index8]
  refine ((congrArg _ (ValueIdx.eq_ix2 y)).trans ((stored3 _ _ (y 0) (y 1)).trans (product m c t (y 0) (y 1) (by omega)))).trans ?_
  have q0 : (⟨t.val * 512 + (y 0).val, by omega⟩ : Fin 8192) = ((cfg0.win 8).blk t).view.emb y 0 := Fin.ext e0.symm
  have q1 : y 1 = ((cfg0.win 8).blk t).view.emb y 1 := Fin.ext e1.symm
  rw [q0, q1]
  rfl

theorem result_stream : (dats m 0 c).arrAt 9 cfg0.N = stream (arg0 m c) (out (arg1 m c) (arg2 m c)) (arg3 m c) (arg4 m c) (arg5 m c) := by
  have hcov : (cfg0.win 9).Covers := by decide +kernel
  refine (dats m 0 c).arrAt_eq_of_covers (9 : Fin cfg0.W) (stream (arg0 m c) (out (arg1 m c) (arg2 m c)) (arg3 m c) (arg4 m c) (arg5 m c)) hcov (fun t hf y => ?_) (Memref.isWhole_whole _)
  refine Eq.trans (b := (dats m 0 c).after 9 t y) (by blk_simp) ?_
  rw [after0_9, out9_eq]
  have b0 : (y 0).val < 512 := (y 0).isLt
  have ht : t.val < 16 := t.isLt.trans_eq N_0
  have e0 : ((((cfg0.win 9).blk t).view.emb y 0 : Fin _) : ℕ) = t.val * 512 + (y 0).val := by blk_simp [index9]
  have e1 : ((((cfg0.win 9).blk t).view.emb y 1 : Fin _) : ℕ) = (y 1).val := by blk_simp [index9]
  refine ((congrArg _ (ValueIdx.eq_ix2 y)).trans (streamed m c t (y 0) (y 1) (by omega))).trans ?_
  have q0 : (⟨t.val * 512 + (y 0).val, by omega⟩ : Fin 8192) = ((cfg0.win 9).blk t).view.emb y 0 := Fin.ext e0.symm
  have q1 : y 1 = ((cfg0.win 9).blk t).view.emb y 1 := Fin.ext e1.symm
  rw [q0, q1]
  rfl

theorem result_next : (dats m 0 c).arrAt 10 cfg0.N = next (arg0 m c) (out (arg1 m c) (arg2 m c)) (arg3 m c) (arg4 m c) (arg5 m c) (arg6 m c) (arg7 m c) := by
  have hcov : (cfg0.win 10).Covers := by decide +kernel
  refine (dats m 0 c).arrAt_eq_of_covers (10 : Fin cfg0.W) (next (arg0 m c) (out (arg1 m c) (arg2 m c)) (arg3 m c) (arg4 m c) (arg5 m c) (arg6 m c) (arg7 m c)) hcov (fun t hf y => ?_) (Memref.isWhole_whole _)
  refine Eq.trans (b := (dats m 0 c).after 10 t y) (by blk_simp) ?_
  rw [after0_10, out10_eq]
  have b0 : (y 0).val < 512 := (y 0).isLt
  have ht : t.val < 16 := t.isLt.trans_eq N_0
  have e0 : ((((cfg0.win 10).blk t).view.emb y 0 : Fin _) : ℕ) = t.val * 512 + (y 0).val := by blk_simp [index10]
  have e1 : ((((cfg0.win 10).blk t).view.emb y 1 : Fin _) : ℕ) = (y 1).val := by blk_simp [index10]
  refine ((congrArg _ (ValueIdx.eq_ix2 y)).trans (stored1 _ _ _ (y 0) (y 1))).trans ?_
  rw [streamed m c t (y 0) (y 1) (by omega), block6 m c t (y 1), block7 m c t (y 1)]
  have q0 : (⟨t.val * 512 + (y 0).val, by omega⟩ : Fin 8192) = ((cfg0.win 10).blk t).view.emb y 0 := Fin.ext e0.symm
  have q1 : y 1 = ((cfg0.win 10).blk t).view.emb y 1 := Fin.ext e1.symm
  rw [q0, q1]
  rfl

end Cert.Kernel7Ideal.MixOut

namespace Cert.Reference7Ideal.Read

open Cert.Reference7Ideal Cert.Reference7Ideal.Gen Cert.Mlp Cert.Norm
open Idealize.ShloMosaic

theorem product_value (x1 : S8192x1024.Idx → EReal) (x2 : S1024x1024.Idx → EReal) (s : Fin 8192) (k : Fin 1024) :
    val_main_v1 (F := Ideal) x1 x2 (ix2 s k) = Cert.Kernel7Ideal.MixOut.out x1 x2 (ix2 s k) := by
  rw [val_main_v1_apply]
  refine Finset.sum_congr rfl fun j _ => ?_
  have hl : lidx_main_v1 (ix2 s k) j = ix2 s j := ext2 rfl rfl
  have hr : ridx_main_v1 (ix2 s k) j = ix2 j k := ext2 rfl rfl
  rw [hl, hr, val_main_v0_apply]
  rfl

theorem row_value (x0 : S8192x1024.Idx → EReal) (x1 : S8192x1024.Idx → EReal) (x2 : S1024x1024.Idx → EReal) (x3 : S1x1024.Idx → EReal) (s : Fin 8192) (k : Fin 1024) :
    val_main_v8 (F := Ideal) x0 x1 x2 x3 (ix2 s k) = Cert.Kernel7Ideal.MixOut.row x0 (Cert.Kernel7Ideal.MixOut.out x1 x2) x3 s k := by
  rw [val_main_v8_apply, val_main_v3_apply, val_main_v7_apply, product_value, val_main_v2_apply, val_main_cst_apply,
    val_main_v6_apply, val_main_v5_apply, val_main_v4_apply, val_main_cst_0_apply, ofBits_one]
  have e : idx_main_v6 (ix2 s k) = ix2 0 k := ext2 rfl rfl
  rw [e]
  rfl

theorem mean_value (x0 : S8192x1024.Idx → EReal) (x1 : S8192x1024.Idx → EReal) (x2 : S1024x1024.Idx → EReal) (x3 : S1x1024.Idx → EReal) (s : Fin 8192) :
    val_main_v12 (F := Ideal) x0 x1 x2 x3 (ix2 s 0) = mean (Cert.Kernel7Ideal.MixOut.row x0 (Cert.Kernel7Ideal.MixOut.out x1 x2) x3 s) := by
  rw [val_main_v12_apply, val_main_v10_apply, val_main_v9_apply, val_main_cst_1_apply, val_main_v11_apply, val_main_cst_2_apply,
    ofBits_zero]
  refine congrArg₂ Ideal.div ((zero_add _).trans (Finset.sum_congr rfl fun k _ => ?_)) rfl
  have e : idx_main_v9 (idx_main_v10 (ix2 s 0)) k = ix2 s k := ext2 rfl rfl
  rw [e]
  exact row_value _ _ _ _ _ k

theorem dev_value (x0 : S8192x1024.Idx → EReal) (x1 : S8192x1024.Idx → EReal) (x2 : S1024x1024.Idx → EReal) (x3 : S1x1024.Idx → EReal) (s : Fin 8192) (k : Fin 1024) :
    val_main_v14 (F := Ideal) x0 x1 x2 x3 (ix2 s k) = dev (Cert.Kernel7Ideal.MixOut.row x0 (Cert.Kernel7Ideal.MixOut.out x1 x2) x3 s) k := by
  have e : idx_main_v13 (ix2 s k) = ix2 s 0 := ext2 rfl rfl
  rw [val_main_v14_apply, val_main_v13_apply, e, mean_value, row_value]
  rfl

theorem dev_value' (x0 : S8192x1024.Idx → EReal) (x1 : S8192x1024.Idx → EReal) (x2 : S1024x1024.Idx → EReal) (x3 : S1x1024.Idx → EReal) (s : Fin 8192) (k : Fin 1024) :
    val_main_v21 (F := Ideal) x0 x1 x2 x3 (ix2 s k) = dev (Cert.Kernel7Ideal.MixOut.row x0 (Cert.Kernel7Ideal.MixOut.out x1 x2) x3 s) k := by
  have e : idx_main_v20 (ix2 s k) = ix2 s 0 := ext2 rfl rfl
  rw [val_main_v21_apply, val_main_v20_apply, e, mean_value, row_value]
  rfl

theorem var_value (x0 : S8192x1024.Idx → EReal) (x1 : S8192x1024.Idx → EReal) (x2 : S1024x1024.Idx → EReal) (x3 : S1x1024.Idx → EReal) (s : Fin 8192) :
    val_main_v19 (F := Ideal) x0 x1 x2 x3 (ix2 s 0) = var (Cert.Kernel7Ideal.MixOut.row x0 (Cert.Kernel7Ideal.MixOut.out x1 x2) x3 s) := by
  rw [val_main_v19_apply, val_main_v17_apply, val_main_v16_apply, val_main_cst_3_apply, val_main_v18_apply, val_main_cst_4_apply,
    ofBits_zero]
  refine congrArg₂ Ideal.div ((zero_add _).trans (Finset.sum_congr rfl fun k _ => ?_)) rfl
  have e : idx_main_v16 (idx_main_v17 (ix2 s 0)) k = ix2 s k := ext2 rfl rfl
  rw [e, val_main_v15_apply, dev_value]
  rfl

theorem reference_out (x1 : S8192x1024.Idx → EReal) (x2 : S1024x1024.Idx → EReal) : val_main_v31 (F := Ideal) x1 x2 = Cert.Kernel7Ideal.MixOut.out x1 x2 := by
  funext i
  rw [val_main_v31_apply]
  exact (congrArg _ (ValueIdx.eq_ix2 i)).trans ((product_value _ _ (i 0) (i 1)).trans (congrArg _ (ValueIdx.eq_ix2 i).symm))

theorem stream_value (x0 : S8192x1024.Idx → EReal) (x1 : S8192x1024.Idx → EReal) (x2 : S1024x1024.Idx → EReal) (x3 : S1x1024.Idx → EReal) (x4 : S1x1024.Idx → EReal) (x5 : S1x1024.Idx → EReal) (s : Fin 8192) (k : Fin 1024) :
    val_main_v30 (F := Ideal) x0 x1 x2 x3 x4 x5 (ix2 s k) = Cert.Kernel7Ideal.MixOut.stream x0 (Cert.Kernel7Ideal.MixOut.out x1 x2) x3 x4 x5 (ix2 s k) := by
  have e0 : idx_main_v25 (ix2 s k) = ix2 s 0 := ext2 rfl rfl
  rw [val_main_v30_apply, val_main_v28_apply, val_main_v26_apply, dev_value', val_main_v25_apply, val_main_v24_apply, val_main_v23_apply,
    e0, var_value, val_main_v22_apply, val_main_cst_5_apply, val_main_v27_apply, val_main_v29_apply]
  have e : idx_main_v27 (ix2 s k) = ix2 0 k := ext2 rfl rfl
  have e' : idx_main_v29 (ix2 s k) = ix2 0 k := ext2 rfl rfl
  rw [e, e']
  rfl

theorem reference_stream (x0 : S8192x1024.Idx → EReal) (x1 : S8192x1024.Idx → EReal) (x2 : S1024x1024.Idx → EReal) (x3 : S1x1024.Idx → EReal) (x4 : S1x1024.Idx → EReal) (x5 : S1x1024.Idx → EReal) : val_main_v30 (F := Ideal) x0 x1 x2 x3 x4 x5 = Cert.Kernel7Ideal.MixOut.stream x0 (Cert.Kernel7Ideal.MixOut.out x1 x2) x3 x4 x5 := by
  funext i
  exact (congrArg _ (ValueIdx.eq_ix2 i)).trans ((stream_value _ _ _ _ _ _ (i 0) (i 1)).trans (congrArg _ (ValueIdx.eq_ix2 i).symm))

theorem reference_next (x0 : S8192x1024.Idx → EReal) (x1 : S8192x1024.Idx → EReal) (x2 : S1024x1024.Idx → EReal) (x3 : S1x1024.Idx → EReal) (x4 : S1x1024.Idx → EReal) (x5 : S1x1024.Idx → EReal) (x6 : S1x1024.Idx → EReal) (x7 : S1x1024.Idx → EReal) :
    val_main_v38 (F := Ideal) x0 x1 x2 x3 x4 x5 x6 x7 = Cert.Kernel7Ideal.MixOut.next x0 (Cert.Kernel7Ideal.MixOut.out x1 x2) x3 x4 x5 x6 x7 := by
  funext i
  rw [val_main_v38_apply, val_main_v37_apply, val_main_v35_apply, reference_stream, val_main_v34_apply, val_main_v33_apply, val_main_v32_apply,
    val_main_cst_6_apply, ofBits_one, val_main_v36_apply]
  have e : idx_main_v34 i = ix2 0 (i 1) := ext2 rfl rfl
  have e' : idx_main_v36 i = ix2 0 (i 1) := ext2 rfl rfl
  rw [e, e']
  rfl

end Cert.Reference7Ideal.Read

end
-- ==== Proof.AttnIn.lean ====
/-
  The attention's input projection: the product with the weight plus the bias.
-/
module

public import proofs.«01_k».proof.Proof.Gen.Kernel8Ideal.Value
public import proofs.«01_k».proof.Proof.Gen.Reference8Ideal.Read
public import proofs.«01_k».proof.Proof.Mlp

@[expose] public section

set_option maxRecDepth 16384

noncomputable section

namespace Cert.Kernel8Ideal.AttnIn

open Cert.Kernel8Ideal Cert.Kernel8Ideal.Gen
open Idealize.ShloMosaic Idealize.ShloMosaic.TcCoe
open Idealize.ShloMosaic.Pipeline (Window)
open scoped BigOperators

variable (m : (ℓ : Loc nD τ sig) → Buf (Elt Ideal) ℓ) (c : Dev nD)

/-- The arguments: the block's input, the weight, the bias. -/
abbrev arg0 : S8192x1024.Idx → EReal := m ((c.tc : Thread nD τ).loc main_arg0)
abbrev arg1 : S1024x3072.Idx → EReal := m ((c.tc : Thread nD τ).loc main_arg1)
abbrev arg2 : S1x3072.Idx → EReal := m ((c.tc : Thread nD τ).loc main_arg2)

/-- The projection. -/
def proj (u : S8192x1024.Idx → EReal) (w : S1024x3072.Idx → EReal) (b : S1x3072.Idx → EReal) : S8192x3072.Idx → EReal := fun i =>
  (∑ k : Fin 1024, u (ix2 (i 0) k) * w (ix2 k (i 1))) + b (ix2 0 (i 1))

/-- A step's stored block, by rows and columns. -/
theorem stored (x0 : Vec Ideal S512x1024 .bf16) (x1 : Vec Ideal S1x1024x3072 .bf16) (x2 : Vec Ideal S1x3072 .f32) (r : Fin 512) (q : Fin 3072) :
    (k0_pay1 x0 x1 x2 : S512x3072.Idx → EReal) (ix2 r q) = (∑ k : Fin 1024, (x0 (ix2 r k) : EReal) * x1 (ix3 0 k q)) + x2 (ix2 0 q) := by
  pointwise [k0_pay1]

theorem V_weight (k : Fin 1024) (q : Fin 3072) : (V m c main_v1 : S1x1024x3072.Idx → EReal) (ix3 0 k q) = arg1 m c (ix2 k q) := by
  unfold V
  after_reads_at

theorem index0 : ∀ t : Fin cfg0.N, win0_0.index t = ![t.val, 0] := (by decide +kernel : ∀ t : Fin grid0.N, win0_0.index t = ![t.val, 0])
theorem index1 : ∀ t : Fin cfg0.N, win0_1.index t = ![0, 0, 0] := (by decide +kernel : ∀ t : Fin grid0.N, win0_1.index t = ![0, 0, 0])
theorem index2 : ∀ t : Fin cfg0.N, win0_2.index t = ![0, 0] := (by decide +kernel : ∀ t : Fin grid0.N, win0_2.index t = ![0, 0])
theorem index3 : ∀ t : Fin cfg0.N, win0_3.index t = ![t.val, 0] := (by decide +kernel : ∀ t : Fin grid0.N, win0_3.index t = ![t.val, 0])

theorem block0 (t : Fin cfg0.N) (r : Fin 512) (k : Fin 1024) (h : t.val * 512 + r.val < 8192) :
    (iblk m c 0 t : S512x1024.Idx → EReal) (ix2 r k) = arg0 m c (ix2 ⟨t.val * 512 + r.val, h⟩ k) := by
  refine Eq.trans (b := V m c main_arg0 (((cfg0.win 0).blk t).view.emb (ix2 r k : S512x1024.Idx))) rfl ?_
  exact Eq.trans (congrArg (V m c main_arg0) (a₂ := ix2 ⟨t.val * 512 + r.val, h⟩ k) (ext2 (by show _ = t.val * 512 + r.val; blk_simp [index0]) (by show _ = k.val; blk_simp [index0]))) (congrFun (V_main_arg0 m c) _)

theorem block1 (t : Fin cfg0.N) (k : Fin 1024) (q : Fin 3072) : (iblk m c 1 t : S1x1024x3072.Idx → EReal) (ix3 0 k q) = arg1 m c (ix2 k q) := by
  refine Eq.trans (b := V m c main_v1 (((cfg0.win 1).blk t).view.emb (ix3 0 k q : S1x1024x3072.Idx))) rfl ?_
  exact Eq.trans (congrArg (V m c main_v1) (a₂ := ix3 0 k q) (ext3 (only _ _) (by show _ = k.val; blk_simp [index1]) (by show _ = q.val; blk_simp [index1]))) (V_weight m c k q)

theorem block2 (t : Fin cfg0.N) (q : Fin 3072) : (iblk m c 2 t : S1x3072.Idx → EReal) (ix2 0 q) = arg2 m c (ix2 0 q) := by
  refine Eq.trans (b := V m c main_arg2 (((cfg0.win 2).blk t).view.emb (ix2 0 q : S1x3072.Idx))) rfl ?_
  exact Eq.trans (congrArg (V m c main_arg2) (a₂ := ix2 0 q) (ext2 (only _ _) (by show _ = q.val; blk_simp [index2]))) (congrFun (V_main_arg2 m c) _)

theorem hz2 : (![0, 0] : Fin 2 → Nat) = fun _ => 0 := funext fun a => by fin_cases a <;> rfl
theorem hz3 : (![0, 0, 0] : Fin 3 → Nat) = fun _ => 0 := funext fun a => by fin_cases a <;> rfl

theorem out_eq (x0 : Vec Ideal S512x1024 .bf16) (x1 : Vec Ideal S1x1024x3072 .bf16) (x2 : Vec Ideal S1x3072 .f32) : out0_3 x0 x1 x2 = k0_pay1 x0 x1 x2 := by
  unfold out0_3
  rw [View.canon_unit_zero (S := S512x3072) hz2, View.ld_unit_zero (S := S512x1024) hz2, View.ld_unit_zero (S := S1x1024x3072) hz3,
    View.ld_unit_zero (S := S1x3072) hz2]

theorem step (t : Fin cfg0.N) (r : Fin 512) (q : Fin 3072) (h : t.val * 512 + r.val < 8192) :
    (k0_pay1 (iblk m c 0 t) (iblk m c 1 t) (iblk m c 2 t) : S512x3072.Idx → EReal) (ix2 r q)
      = proj (arg0 m c) (arg1 m c) (arg2 m c) (ix2 ⟨t.val * 512 + r.val, h⟩ q) := by
  refine (stored _ _ _ r q).trans ?_
  rw [block2 m c t q]
  refine congrArg (· + _) (Finset.sum_congr rfl fun k _ => ?_)
  rw [block0 m c t r k h, block1 m c t k q]
  rfl

/-- The whole result. -/
theorem result : (dats m 0 c).arrAt 3 cfg0.N = proj (arg0 m c) (arg1 m c) (arg2 m c) := by
  have hcov : (cfg0.win 3).Covers := by decide +kernel
  refine (dats m 0 c).arrAt_eq_of_covers (3 : Fin cfg0.W) (proj (arg0 m c) (arg1 m c) (arg2 m c)) hcov (fun t hf y => ?_) (Memref.isWhole_whole _)
  refine Eq.trans (b := (dats m 0 c).after 3 t y) (by blk_simp) ?_
  rw [after0_3, out_eq]
  have b0 : (y 0).val < 512 := (y 0).isLt
  have ht : t.val < 16 := t.isLt.trans_eq N_0
  have e0 : ((((cfg0.win 3).blk t).view.emb y 0 : Fin _) : ℕ) = t.val * 512 + (y 0).val := by blk_simp [index3]
  have e1 : ((((cfg0.win 3).blk t).view.emb y 1 : Fin _) : ℕ) = (y 1).val := by blk_simp [index3]
  refine ((congrArg _ (ValueIdx.eq_ix2 y)).trans (step m c t (y 0) (y 1) (by omega))).trans ?_
  have q0 : (⟨t.val * 512 + (y 0).val, by omega⟩ : Fin 8192) = ((cfg0.win 3).blk t).view.emb y 0 := Fin.ext e0.symm
  have q1 : y 1 = ((cfg0.win 3).blk t).view.emb y 1 := Fin.ext e1.symm
  rw [q0, q1]
  rfl

end Cert.Kernel8Ideal.AttnIn

namespace Cert.Reference8Ideal.Read

open Cert.Reference8Ideal Cert.Reference8Ideal.Gen
open Idealize.ShloMosaic

theorem reference_value (x0 : S8192x1024.Idx → EReal) (x1 : S1024x3072.Idx → EReal) (x2 : S1x3072.Idx → EReal) :
    val_main_v4 (F := Ideal) x0 x1 x2 = Cert.Kernel8Ideal.AttnIn.proj x0 x1 x2 := by
  funext i
  rw [val_main_v4_apply, val_main_v3_apply, val_main_v2_apply, val_main_v1_apply]
  simp only [val_main_v0_apply]
  have hl : ∀ k, lidx_main_v1 i k = ix2 (i 0) k := fun k => ext2 rfl rfl
  have hr : ∀ k, ridx_main_v1 i k = ix2 k (i 1) := fun k => ext2 rfl rfl
  have hb : idx_main_v2 i = ix2 0 (i 1) := ext2 rfl rfl
  simp only [hl, hr, hb]
  rfl

end Cert.Reference8Ideal.Read

end
-- ==== Proof.Padded.lean ====
/-
  A row of 3088 columns padded with zeros to 3200.
-/
module

public import proofs.«01_k».proof.Proof.Mlp

@[expose] public section

noncomputable section

namespace Cert.Padded

open Idealize.ShloMosaic
open scoped BigOperators

/-- The padded row. -/
def padded (f : Fin 3088 → EReal) (q : Fin 3200) : EReal := if h : q.val < 3088 then f ⟨q.val, h⟩ else 0

theorem padded_lt (f : Fin 3088 → EReal) (q : Fin 3200) (h : q.val < 3088) : padded f q = f ⟨q.val, h⟩ := dif_pos h

theorem padded_ge (f : Fin 3088 → EReal) (q : Fin 3200) (h : ¬q.val < 3088) : padded f q = 0 := dif_neg h

/-- A product with a padded factor is the product, padded. -/
theorem sum_padded {ι : Type} [Fintype ι] (u : ι → EReal) (f : ι → Fin 3088 → EReal) (q : Fin 3200) :
    ∑ k, u k * padded (f k) q = padded (fun q => ∑ k, u k * f k q) q := by
  by_cases h : q.val < 3088
  · rw [padded_lt _ q h]
    exact Finset.sum_congr rfl fun k _ => by rw [padded_lt _ q h]
  · rw [padded_ge _ q h]
    exact Finset.sum_eq_zero fun k _ => by rw [padded_ge _ q h, mul_zero]

/-- The padding, which the programs convert from an integer. -/
theorem sitofp_zero (φ : FTy) : (FloatOps.sitofp (F := Ideal) φ (0#32 : BitVec 32) : EReal) = 0 := by
  show (((0#32 : BitVec 32).toInt : ℝ) : EReal) = 0
  simp

/-- Columns of zeros add nothing to a product. -/
theorem sum_padded_mul (f g : Fin 3088 → EReal) : (∑ q : Fin 3200, padded f q * padded g q) = ∑ j : Fin 3088, f j * g j := by
  refine (Fin.sum_univ_add (a := 3088) (b := 112) (fun q : Fin 3200 => padded f q * padded g q)).trans ?_
  have hl : ∀ j : Fin 3088, padded f (Fin.castAdd 112 j) * padded g (Fin.castAdd 112 j) = f j * g j := fun j => by
    rw [padded_lt f _ j.isLt, padded_lt g _ j.isLt]
    rfl
  have hr : ∀ j : Fin 112, padded f (Fin.natAdd 3088 j) * padded g (Fin.natAdd 3088 j) = 0 := fun j => by
    rw [padded_ge f _ (Nat.not_lt.2 (Nat.le_add_right 3088 j.val)), zero_mul]
  rw [Finset.sum_congr rfl fun j _ => hl j, Finset.sum_eq_zero fun j _ => hr j, add_zero]

end Cert.Padded

end
-- ==== Proof.GlaIn.lean ====
/-
  The gated linear attention's input projection: the product with the weight, its columns padded with zeros.
-/
module

public import proofs.«01_k».proof.Proof.Gen.Kernel9Ideal.Value
public import proofs.«01_k».proof.Proof.Gen.Reference9Ideal.Read
public import proofs.«01_k».proof.Proof.Padded

@[expose] public section

set_option maxRecDepth 16384

noncomputable section

namespace Cert.Kernel9Ideal.GlaIn

open Cert.Kernel9Ideal Cert.Kernel9Ideal.Gen Cert.Padded
open Idealize.ShloMosaic Idealize.ShloMosaic.TcCoe
open Idealize.ShloMosaic.Pipeline (Window)
open scoped BigOperators

variable (m : (ℓ : Loc nD τ sig) → Buf (Elt Ideal) ℓ) (c : Dev nD)

/-- The arguments: the block's input and the weight. -/
abbrev arg0 : S8192x1024.Idx → EReal := m ((c.tc : Thread nD τ).loc main_arg0)
abbrev arg1 : S1024x3088.Idx → EReal := m ((c.tc : Thread nD τ).loc main_arg1)

/-- The projection, padded. -/
def proj (u : S8192x1024.Idx → EReal) (w : S1024x3088.Idx → EReal) : S8192x3200.Idx → EReal := fun i =>
  padded (fun q => ∑ k : Fin 1024, u (ix2 (i 0) k) * w (ix2 k q)) (i 1)

/-- A step's stored block, by rows and columns. -/
theorem stored (x0 : Vec Ideal S512x1024 .bf16) (x1 : Vec Ideal S1x1024x3200 .bf16) (r : Fin 512) (q : Fin 3200) :
    (k0_pay1 x0 x1 : S512x3200.Idx → EReal) (ix2 r q) = ∑ k : Fin 1024, (x0 (ix2 r k) : EReal) * x1 (ix3 0 k q) := by
  pointwise [k0_pay1]

theorem V_weight (k : Fin 1024) (q : Fin 3200) :
    (V m c main_v2 : S1x1024x3200.Idx → EReal) (ix3 0 k q) = padded (fun q => arg1 m c (ix2 k q)) q := by
  unfold V
  after_reads_at
  by_cases h : q.val < 3088
  · rw [padded_lt _ q h]
    pointwise
    simp [h]
  · rw [padded_ge _ q h]
    pointwise
    simp [h]
    exact sitofp_zero _

theorem index0 : ∀ t : Fin cfg0.N, win0_0.index t = ![t.val, 0] := (by decide +kernel : ∀ t : Fin grid0.N, win0_0.index t = ![t.val, 0])
theorem index1 : ∀ t : Fin cfg0.N, win0_1.index t = ![0, 0, 0] := (by decide +kernel : ∀ t : Fin grid0.N, win0_1.index t = ![0, 0, 0])
theorem index2 : ∀ t : Fin cfg0.N, win0_2.index t = ![t.val, 0] := (by decide +kernel : ∀ t : Fin grid0.N, win0_2.index t = ![t.val, 0])

theorem block0 (t : Fin cfg0.N) (r : Fin 512) (k : Fin 1024) (h : t.val * 512 + r.val < 8192) :
    (iblk m c 0 t : S512x1024.Idx → EReal) (ix2 r k) = arg0 m c (ix2 ⟨t.val * 512 + r.val, h⟩ k) := by
  refine Eq.trans (b := V m c main_arg0 (((cfg0.win 0).blk t).view.emb (ix2 r k : S512x1024.Idx))) rfl ?_
  exact Eq.trans (congrArg (V m c main_arg0) (a₂ := ix2 ⟨t.val * 512 + r.val, h⟩ k) (ext2 (by show _ = t.val * 512 + r.val; blk_simp [index0]) (by show _ = k.val; blk_simp [index0]))) (congrFun (V_main_arg0 m c) _)

theorem block1 (t : Fin cfg0.N) (k : Fin 1024) (q : Fin 3200) : (iblk m c 1 t : S1x1024x3200.Idx → EReal) (ix3 0 k q) = padded (fun q => arg1 m c (ix2 k q)) q := by
  refine Eq.trans (b := V m c main_v2 (((cfg0.win 1).blk t).view.emb (ix3 0 k q : S1x1024x3200.Idx))) rfl ?_
  exact Eq.trans (congrArg (V m c main_v2) (a₂ := ix3 0 k q) (ext3 (only _ _) (by show _ = k.val; blk_simp [index1]) (by show _ = q.val; blk_simp [index1]))) (V_weight m c k q)

theorem hz2 : (![0, 0] : Fin 2 → Nat) = fun _ => 0 := funext fun a => by fin_cases a <;> rfl
theorem hz3 : (![0, 0, 0] : Fin 3 → Nat) = fun _ => 0 := funext fun a => by fin_cases a <;> rfl

theorem out_eq (x0 : Vec Ideal S512x1024 .bf16) (x1 : Vec Ideal S1x1024x3200 .bf16) : out0_2 x0 x1 = k0_pay1 x0 x1 := by
  unfold out0_2
  rw [View.canon_unit_zero (S := S512x3200) hz2, View.ld_unit_zero (S := S512x1024) hz2, View.ld_unit_zero (S := S1x1024x3200) hz3]

theorem step (t : Fin cfg0.N) (r : Fin 512) (q : Fin 3200) (h : t.val * 512 + r.val < 8192) :
    (k0_pay1 (iblk m c 0 t) (iblk m c 1 t) : S512x3200.Idx → EReal) (ix2 r q) = proj (arg0 m c) (arg1 m c) (ix2 ⟨t.val * 512 + r.val, h⟩ q) := by
  refine (stored _ _ r q).trans ?_
  refine Eq.trans (Finset.sum_congr rfl fun k _ => ?_)
    (sum_padded (fun k : Fin 1024 => arg0 m c (ix2 ⟨t.val * 512 + r.val, h⟩ k)) (fun k q => arg1 m c (ix2 k q)) q)
  rw [block0 m c t r k h, block1 m c t k q]

/-- The whole result. -/
theorem result : (dats m 0 c).arrAt 2 cfg0.N = proj (arg0 m c) (arg1 m c) := by
  have hcov : (cfg0.win 2).Covers := by decide +kernel
  refine (dats m 0 c).arrAt_eq_of_covers (2 : Fin cfg0.W) (proj (arg0 m c) (arg1 m c)) hcov (fun t hf y => ?_) (Memref.isWhole_whole _)
  refine Eq.trans (b := (dats m 0 c).after 2 t y) (by blk_simp) ?_
  rw [after0_2, out_eq]
  have b0 : (y 0).val < 512 := (y 0).isLt
  have ht : t.val < 16 := t.isLt.trans_eq N_0
  have e0 : ((((cfg0.win 2).blk t).view.emb y 0 : Fin _) : ℕ) = t.val * 512 + (y 0).val := by blk_simp [index2]
  have e1 : ((((cfg0.win 2).blk t).view.emb y 1 : Fin _) : ℕ) = (y 1).val := by blk_simp [index2]
  refine ((congrArg _ (ValueIdx.eq_ix2 y)).trans (step m c t (y 0) (y 1) (by omega))).trans ?_
  have q0 : (⟨t.val * 512 + (y 0).val, by omega⟩ : Fin 8192) = ((cfg0.win 2).blk t).view.emb y 0 := Fin.ext e0.symm
  have q1 : y 1 = ((cfg0.win 2).blk t).view.emb y 1 := Fin.ext e1.symm
  rw [q0, q1]
  rfl

end Cert.Kernel9Ideal.GlaIn

namespace Cert.Reference9Ideal.Read

open Cert.Reference9Ideal Cert.Reference9Ideal.Gen Cert.Padded
open Idealize.ShloMosaic

theorem reference_value (x0 : S8192x1024.Idx → EReal) (x1 : S1024x3088.Idx → EReal) :
    val_main_v2 (F := Ideal) x0 x1 = Cert.Kernel9Ideal.GlaIn.proj x0 x1 := by
  funext i
  have key : ∀ j : S8192x3088.Idx, val_main_v1 (F := Ideal) x0 x1 j = ∑ k : Fin 1024, x0 (ix2 (j 0) k) * x1 (ix2 k (j 1)) := fun j => by
    rw [val_main_v1_apply]
    simp only [val_main_v0_apply]
    have hl : ∀ k, lidx_main_v1 j k = ix2 (j 0) k := fun k => ext2 rfl rfl
    have hr : ∀ k, ridx_main_v1 j k = ix2 k (j 1) := fun k => ext2 rfl rfl
    simp only [hl, hr]
    rfl
  unfold val_main_v2 Cert.Kernel9Ideal.GlaIn.proj
  generalize val_main_v1 (F := Ideal) x0 x1 = y at key
  idx_vars i
  by_cases h : i1.val < 3088
  · refine Eq.trans ?_ (padded_lt _ i1 h).symm
    pointwise
    simp [h, key]
  · refine Eq.trans ?_ (padded_ge _ i1 h).symm
    pointwise
    simp [h, val_main_call0_v0_apply, val_main_c_apply]
    exact sitofp_zero _

end Cert.Reference9Ideal.Read

end
-- ==== Proof.GlaInWeight.lean ====
/-
  The gradient of the gated linear attention's input weight: the block's input against the gradient of the projection, its columns
  padded with zeros, summed over the positions tile by tile in one resident block.
-/
module

public import proofs.«01_k».proof.Proof.Gen.Kernel10Ideal.Value
public import proofs.«01_k».proof.Proof.Gen.Reference10Ideal.Read
public import proofs.«01_k».proof.Proof.Mlp
public import proofs.«01_k».proof.Proof.Padded

@[expose] public section

set_option maxRecDepth 16384

noncomputable section

namespace Cert.Kernel10Ideal.GlaInWeight

open Cert.Kernel10Ideal Cert.Kernel10Ideal.Gen Cert.Kernel10Ideal.Value Cert.Mlp Cert.Padded
open Idealize.ShloMosaic Idealize.ShloMosaic.TcCoe
open Idealize.ShloMosaic.Pipeline (Window)
open scoped BigOperators

variable (m : (ℓ : Loc nD τ sig) → Buf (Elt Ideal) ℓ) (c : Dev nD)

/-- The arguments: the product's input and the gradient of its output. -/
abbrev arg0 : S8192x1024.Idx → EReal := m ((c.tc : Thread nD τ).loc main_arg0)
abbrev arg2 : S8192x3088.Idx → EReal := m ((c.tc : Thread nD τ).loc main_arg2)

/-- The gradient's columns, padded. -/
def wide (g : S8192x3088.Idx → EReal) (s : Fin 8192) (q : Fin 3200) : EReal := padded (fun q => g (ix2 s q)) q

/-- One position's part of one entry of the gradient. -/
def part (u : S8192x1024.Idx → EReal) (g : S8192x3088.Idx → EReal) (i : S1024x3200.Idx) (s : Fin 8192) : EReal :=
  u (ix2 s (i 0)) * wide g s (i 1)

/-- The gradient. -/
def grad (u : S8192x1024.Idx → EReal) (g : S8192x3088.Idx → EReal) : S1024x3200.Idx → EReal := fun i =>
  ∑ s : Fin 8192, part u g i s

theorem stored1 (i : S1024x3200.Idx) : (k0_pay1 (F := Ideal) : S1024x3200.Idx → EReal) i = 0 := by
  refine (congrArg _ (ValueIdx.eq_ix2 i)).trans ?_
  pointwise [k0_pay1]

theorem stored2 (x0 : Vec Ideal S512x1024 .bf16) (o : Vec Ideal S1024x3200 .f32) (x1 : Vec Ideal S512x3200 .bf16) (r : Fin 1024) (q : Fin 3200) :
    (k0_pay2 x0 o x1 : S1024x3200.Idx → EReal) (ix2 r q) = (o (ix2 r q) : EReal) + ∑ k : Fin 512, (x0 (ix2 k r) : EReal) * x1 (ix2 k q) := by
  pointwise [k0_pay2]

theorem V_wide (s : Fin 8192) (q : Fin 3200) : (V m c main_v0 : S8192x3200.Idx → EReal) (ix2 s q) = wide (arg2 m c) s q := by
  unfold V wide
  after_reads_at
  by_cases h : q.val < 3088
  · rw [padded_lt _ q h]
    pointwise
    simp [h]
  · rw [padded_ge _ q h]
    pointwise
    simp [h]
    exact sitofp_zero _

theorem index0 : ∀ t : Fin cfg0.N, win0_0.index t = ![t.val, 0] := (by decide +kernel : ∀ t : Fin grid0.N, win0_0.index t = ![t.val, 0])
theorem index1 : ∀ t : Fin cfg0.N, win0_1.index t = ![t.val, 0] := (by decide +kernel : ∀ t : Fin grid0.N, win0_1.index t = ![t.val, 0])

theorem block0 (t : Fin cfg0.N) (r : Fin 512) (k : Fin 1024) (h : t.val * 512 + r.val < 8192) :
    (iblk m c 0 t : S512x1024.Idx → EReal) (ix2 r k) = arg0 m c (ix2 ⟨t.val * 512 + r.val, h⟩ k) := by
  refine Eq.trans (b := V m c main_arg0 (((cfg0.win 0).blk t).view.emb (ix2 r k : S512x1024.Idx))) rfl ?_
  exact Eq.trans (congrArg (V m c main_arg0) (a₂ := ix2 ⟨t.val * 512 + r.val, h⟩ k) (ext2 (by show _ = t.val * 512 + r.val; blk_simp [index0]) (by show _ = k.val; blk_simp [index0]))) (congrFun (V_main_arg0 m c) _)

theorem block1 (t : Fin cfg0.N) (r : Fin 512) (k : Fin 3200) (h : t.val * 512 + r.val < 8192) :
    (iblk m c 1 t : S512x3200.Idx → EReal) (ix2 r k) = wide (arg2 m c) ⟨t.val * 512 + r.val, h⟩ k := by
  refine Eq.trans (b := V m c main_v0 (((cfg0.win 1).blk t).view.emb (ix2 r k : S512x3200.Idx))) rfl ?_
  exact Eq.trans (congrArg (V m c main_v0) (a₂ := ix2 ⟨t.val * 512 + r.val, h⟩ k) (ext2 (by show _ = t.val * 512 + r.val; blk_simp [index1]) (by show _ = k.val; blk_simp [index1]))) (V_wide m c _ k)

/-- What a step adds. -/
theorem adds (n : ℕ) (h : n < cfg0.N) (o : Vec Ideal S1024x3200 .f32) (i : S1024x3200.Idx) :
    (k0_pay2 (iblk m c 0 ⟨n, h⟩) o (iblk m c 1 ⟨n, h⟩) : S1024x3200.Idx → EReal) i = (o i : EReal) + tile 16 512 rfl (part (arg0 m c) (arg2 m c) i) n := by
  have hn : n < 16 := h.trans_eq N_0
  have hb : ∀ t : Fin 512, n * 512 + t.val < 8192 := fun t => by have := t.isLt; omega
  rw [tile_of_lt 16 512 rfl _ n hn hb]
  refine ((congrArg _ (ValueIdx.eq_ix2 i)).trans (stored2 _ _ _ (i 0) (i 1))).trans ?_
  refine congrArg₂ (fun x y : EReal => x + y) (congrArg o (ValueIdx.eq_ix2 i).symm) (Finset.sum_congr rfl fun k _ => ?_)
  rw [block0 m c ⟨n, h⟩ k (i 0) (hb k), block1 m c ⟨n, h⟩ k (i 1) (hb k)]
  rfl

/-- The whole result. -/
theorem result : G2 m c = grad (arg0 m c) (arg2 m c) := by
  funext i
  have h0 : (i 0).val < 1024 := (i 0).isLt
  have h1 : (i 1).val < 3200 := (i 1).isLt
  have hr : run2Of i = 0 := by show 1 * ((i 0).val / 1024 - 0) + 1 * ((i 1).val / 3200 - 0) = 0; omega
  have hl : loc2Of i = i := funext fun a => by
    match a with
    | ⟨0, _⟩ => exact Fin.ext (Nat.mod_eq_of_lt h0)
    | ⟨1, _⟩ => exact Fin.ext (Nat.mod_eq_of_lt h1)
  unfold G2
  rw [dif_pos (by rw [hr]; decide), hl]
  refine (Pipeline.accAt_add_apply (reset2 m c) (step2 m c) (fun _ => 0) (fun n j => tile 16 512 rfl (part (arg0 m c) (arg2 m c) j) n)
    (16 * run2Of i) 15 (fun h j => ?_) (fun n h acc j _ _ => ?_) 15 le_rfl _ i).trans ?_
  · unfold reset2
    rw [adds, stored1]
  · unfold step2
    rw [adds]
  · rw [hr, zero_add]
    simp only [Nat.mul_zero, Nat.zero_add]
    exact tiles_sum 16 512 rfl _

end Cert.Kernel10Ideal.GlaInWeight

namespace Cert.Reference10Ideal.Read

open Cert.Reference10Ideal Cert.Reference10Ideal.Gen Cert.Padded
open Idealize.ShloMosaic

theorem product_value (x0 : S8192x1024.Idx → EReal) (x2 : S8192x3088.Idx → EReal) (j : S1024x3088.Idx) :
    val_main_v4 (F := Ideal) x0 x2 j = ∑ s : Fin 8192, x0 (ix2 s (j 0)) * x2 (ix2 s (j 1)) := by
  rw [val_main_v4_apply, val_main_v3_apply]
  refine Finset.sum_congr rfl fun s _ => ?_
  have e0 : ridx_main_v3 (idx_main_v4 j) s = ix2 s (j 0) := ext2 rfl rfl
  have e1 : lidx_main_v3 (idx_main_v4 j) s = ix2 s (j 1) := ext2 rfl rfl
  rw [mul_comm]
  exact congrArg₂ (fun a b : EReal => a * b) (congrArg x0 e0) (congrArg x2 e1)

theorem reference_value (x0 : S8192x1024.Idx → EReal) (x2 : S8192x3088.Idx → EReal) :
    val_main_v5 (F := Ideal) x0 x2 = Cert.Kernel10Ideal.GlaInWeight.grad x0 x2 := by
  funext i
  have key := product_value x0 x2
  unfold val_main_v5 Cert.Kernel10Ideal.GlaInWeight.grad Cert.Kernel10Ideal.GlaInWeight.part Cert.Kernel10Ideal.GlaInWeight.wide
  rw [sum_padded (fun s : Fin 8192 => x0 (ix2 s (i 0))) (fun s q => x2 (ix2 s q)) (i 1)]
  generalize val_main_v4 (F := Ideal) x0 x2 = y at key
  idx_vars i
  by_cases h : i1.val < 3088
  · refine Eq.trans ?_ (padded_lt _ i1 h).symm
    pointwise
    simp [h, key]
  · refine Eq.trans ?_ (padded_ge _ i1 h).symm
    pointwise
    simp [h, val_main_call0_v0_apply, val_main_c_apply]
    exact sitofp_zero _

end Cert.Reference10Ideal.Read

end
-- ==== Proof.OutWeight.lean ====
/-
  The gradient of the mixer's output weight: the mixer's values against the gradient of the product, summed over the positions tile
  by tile in one resident block.
-/
module

public import proofs.«01_k».proof.Proof.Gen.Kernel11Ideal.Value
public import proofs.«01_k».proof.Proof.Gen.Reference11Ideal.Read
public import proofs.«01_k».proof.Proof.Mlp

@[expose] public section

set_option maxRecDepth 16384

noncomputable section

namespace Cert.Kernel11Ideal.OutWeight

open Cert.Kernel11Ideal Cert.Kernel11Ideal.Gen Cert.Kernel11Ideal.Value Cert.Mlp
open Idealize.ShloMosaic Idealize.ShloMosaic.TcCoe
open Idealize.ShloMosaic.Pipeline (Window)
open scoped BigOperators

variable (m : (ℓ : Loc nD τ sig) → Buf (Elt Ideal) ℓ) (c : Dev nD)

/-- The arguments: the product's input and the gradient of its output. -/
abbrev arg0 : S8192x1024.Idx → EReal := m ((c.tc : Thread nD τ).loc main_arg0)
abbrev arg2 : S8192x1024.Idx → EReal := m ((c.tc : Thread nD τ).loc main_arg2)

/-- One position's part of one entry of the gradient. -/
def part (u : S8192x1024.Idx → EReal) (g : S8192x1024.Idx → EReal) (i : S1024x1024.Idx) (s : Fin 8192) : EReal :=
  u (ix2 s (i 0)) * g (ix2 s (i 1))

/-- The gradient. -/
def grad (u : S8192x1024.Idx → EReal) (g : S8192x1024.Idx → EReal) : S1024x1024.Idx → EReal := fun i =>
  ∑ s : Fin 8192, part u g i s

theorem stored1 (i : S1024x1024.Idx) : (k0_pay1 (F := Ideal) : S1024x1024.Idx → EReal) i = 0 := by
  refine (congrArg _ (ValueIdx.eq_ix2 i)).trans ?_
  pointwise [k0_pay1]

theorem stored2 (x0 : Vec Ideal S1024x1024 .bf16) (o : Vec Ideal S1024x1024 .f32) (x1 : Vec Ideal S1024x1024 .bf16) (r : Fin 1024) (q : Fin 1024) :
    (k0_pay2 x0 o x1 : S1024x1024.Idx → EReal) (ix2 r q) = (o (ix2 r q) : EReal) + ∑ k : Fin 1024, (x0 (ix2 k r) : EReal) * x1 (ix2 k q) := by
  pointwise [k0_pay2]

theorem index0 : ∀ t : Fin cfg0.N, win0_0.index t = ![t.val, 0] := (by decide +kernel : ∀ t : Fin grid0.N, win0_0.index t = ![t.val, 0])
theorem index1 : ∀ t : Fin cfg0.N, win0_1.index t = ![t.val, 0] := (by decide +kernel : ∀ t : Fin grid0.N, win0_1.index t = ![t.val, 0])

theorem block0 (t : Fin cfg0.N) (r : Fin 1024) (k : Fin 1024) (h : t.val * 1024 + r.val < 8192) :
    (iblk m c 0 t : S1024x1024.Idx → EReal) (ix2 r k) = arg0 m c (ix2 ⟨t.val * 1024 + r.val, h⟩ k) := by
  refine Eq.trans (b := V m c main_arg0 (((cfg0.win 0).blk t).view.emb (ix2 r k : S1024x1024.Idx))) rfl ?_
  exact Eq.trans (congrArg (V m c main_arg0) (a₂ := ix2 ⟨t.val * 1024 + r.val, h⟩ k) (ext2 (by show _ = t.val * 1024 + r.val; blk_simp [index0]) (by show _ = k.val; blk_simp [index0]))) (congrFun (V_main_arg0 m c) _)

theorem block1 (t : Fin cfg0.N) (r : Fin 1024) (k : Fin 1024) (h : t.val * 1024 + r.val < 8192) :
    (iblk m c 1 t : S1024x1024.Idx → EReal) (ix2 r k) = arg2 m c (ix2 ⟨t.val * 1024 + r.val, h⟩ k) := by
  refine Eq.trans (b := V m c main_arg2 (((cfg0.win 1).blk t).view.emb (ix2 r k : S1024x1024.Idx))) rfl ?_
  exact Eq.trans (congrArg (V m c main_arg2) (a₂ := ix2 ⟨t.val * 1024 + r.val, h⟩ k) (ext2 (by show _ = t.val * 1024 + r.val; blk_simp [index1]) (by show _ = k.val; blk_simp [index1]))) (congrFun (V_main_arg2 m c) _)

/-- What a step adds. -/
theorem adds (n : ℕ) (h : n < cfg0.N) (o : Vec Ideal S1024x1024 .f32) (i : S1024x1024.Idx) :
    (k0_pay2 (iblk m c 0 ⟨n, h⟩) o (iblk m c 1 ⟨n, h⟩) : S1024x1024.Idx → EReal) i = (o i : EReal) + tile 8 1024 rfl (part (arg0 m c) (arg2 m c) i) n := by
  have hn : n < 8 := h.trans_eq N_0
  have hb : ∀ t : Fin 1024, n * 1024 + t.val < 8192 := fun t => by have := t.isLt; omega
  rw [tile_of_lt 8 1024 rfl _ n hn hb]
  refine ((congrArg _ (ValueIdx.eq_ix2 i)).trans (stored2 _ _ _ (i 0) (i 1))).trans ?_
  refine congrArg₂ (fun x y : EReal => x + y) (congrArg o (ValueIdx.eq_ix2 i).symm) (Finset.sum_congr rfl fun k _ => ?_)
  rw [block0 m c ⟨n, h⟩ k (i 0) (hb k), block1 m c ⟨n, h⟩ k (i 1) (hb k)]
  rfl

/-- The whole result. -/
theorem result : G2 m c = grad (arg0 m c) (arg2 m c) := by
  funext i
  have h0 : (i 0).val < 1024 := (i 0).isLt
  have h1 : (i 1).val < 1024 := (i 1).isLt
  have hr : run2Of i = 0 := by show 1 * ((i 0).val / 1024 - 0) + 1 * ((i 1).val / 1024 - 0) = 0; omega
  have hl : loc2Of i = i := funext fun a => by
    match a with
    | ⟨0, _⟩ => exact Fin.ext (Nat.mod_eq_of_lt h0)
    | ⟨1, _⟩ => exact Fin.ext (Nat.mod_eq_of_lt h1)
  unfold G2
  rw [dif_pos (by rw [hr]; decide), hl]
  refine (Pipeline.accAt_add_apply (reset2 m c) (step2 m c) (fun _ => 0) (fun n j => tile 8 1024 rfl (part (arg0 m c) (arg2 m c) j) n)
    (8 * run2Of i) 7 (fun h j => ?_) (fun n h acc j _ _ => ?_) 7 le_rfl _ i).trans ?_
  · unfold reset2
    rw [adds, stored1]
  · unfold step2
    rw [adds]
  · rw [hr, zero_add]
    simp only [Nat.mul_zero, Nat.zero_add]
    exact tiles_sum 8 1024 rfl _

end Cert.Kernel11Ideal.OutWeight

namespace Cert.Reference11Ideal.Read

open Cert.Reference11Ideal Cert.Reference11Ideal.Gen
open Idealize.ShloMosaic

theorem product_value (x0 : S8192x1024.Idx → EReal) (x2 : S8192x1024.Idx → EReal) (j : S1024x1024.Idx) :
    val_main_v4 (F := Ideal) x0 x2 j = ∑ s : Fin 8192, x0 (ix2 s (j 0)) * x2 (ix2 s (j 1)) := by
  rw [val_main_v4_apply, val_main_v3_apply]
  refine Finset.sum_congr rfl fun s _ => ?_
  have e0 : ridx_main_v3 (idx_main_v4 j) s = ix2 s (j 0) := ext2 rfl rfl
  have e1 : lidx_main_v3 (idx_main_v4 j) s = ix2 s (j 1) := ext2 rfl rfl
  rw [mul_comm]
  exact congrArg₂ (fun a b : EReal => a * b) (congrArg x0 e0) (congrArg x2 e1)

theorem reference_value (x0 x2 : S8192x1024.Idx → EReal) : val_main_v4 (F := Ideal) x0 x2 = Cert.Kernel11Ideal.OutWeight.grad x0 x2 :=
  funext fun j => product_value x0 x2 j

end Cert.Reference11Ideal.Read

end
-- ==== Proof.AttnInWeight.lean ====
/-
  The gradient of the attention's input weight, cut into one slab per chip: the block's input against the three parts of the
  projection's gradient, summed over the positions tile by tile in one resident block, each step piece by piece.
-/
module

public import proofs.«01_k».proof.Proof.Gen.Kernel12Ideal.Value
public import proofs.«01_k».proof.Proof.Gen.Reference12Ideal.Read
public import proofs.«01_k».proof.Proof.Mlp
public import Idealize.ShloMosaic.Lib.Pipeline.ReadBack

@[expose] public section

set_option maxRecDepth 16384

noncomputable section

namespace Cert.Kernel12Ideal.AttnInWeight

open Cert.Kernel12Ideal Cert.Kernel12Ideal.Gen Cert.Mlp
open Idealize.ShloMosaic Idealize.ShloMosaic.TcCoe
open Idealize.ShloMosaic.Pipeline (Window)
open scoped BigOperators

variable (m : (ℓ : Loc nD τ sig) → Buf (Elt Ideal) ℓ) (c : Dev nD)

/-- The arguments: the block's input and the gradient of the projection, in three parts. -/
abbrev arg0 : S8192x1024.Idx → EReal := m ((c.tc : Thread nD τ).loc main_arg0)
abbrev arg3 : S3x8192x1024.Idx → EReal := m ((c.tc : Thread nD τ).loc main_arg3)

/-- The column of the weight that a slab's column is. -/
def place (y : S4x1024x768.Idx) : ℕ := 768 * (y 0).val + (y 2).val

theorem place_lt (y : S4x1024x768.Idx) : place y < 3072 := by
  have h0 : (y 0).val < 4 := (y 0).isLt
  have h2 : (y 2).val < 768 := (y 2).isLt
  unfold place
  omega

/-- The part it lies in and its column there. -/
def which (y : S4x1024x768.Idx) : Fin 3 := ⟨place y / 1024, by have := place_lt y; omega⟩
def column (y : S4x1024x768.Idx) : Fin 1024 := ⟨place y % 1024, Nat.mod_lt _ (by decide)⟩

/-- One position's part of one entry of the gradient. -/
def part (u : S8192x1024.Idx → EReal) (g : S3x8192x1024.Idx → EReal) (y : S4x1024x768.Idx) (s : Fin 8192) : EReal :=
  u (ix2 s (y 1)) * g (ix3 (which y) s (column y))

/-- The gradient. -/
def grad (u : S8192x1024.Idx → EReal) (g : S3x8192x1024.Idx → EReal) : S4x1024x768.Idx → EReal := fun y => ∑ s : Fin 8192, part u g y s

theorem index0 : ∀ t : Fin cfg0.N, win0_0.index t = ![t.val, 0] := (by decide +kernel : ∀ t : Fin grid0.N, win0_0.index t = ![t.val, 0])
theorem index1 : ∀ t : Fin cfg0.N, win0_1.index t = ![0, t.val, 0] := (by decide +kernel : ∀ t : Fin grid0.N, win0_1.index t = ![0, t.val, 0])
theorem index2 : ∀ t : Fin cfg0.N, win0_2.index t = ![0, 0, 0] := (by decide +kernel : ∀ t : Fin grid0.N, win0_2.index t = ![0, 0, 0])

theorem block0 (t : Fin cfg0.N) (r : Fin 512) (k : Fin 1024) (h : t.val * 512 + r.val < 8192) :
    (iblk m c 0 t : S512x1024.Idx → EReal) (ix2 r k) = arg0 m c (ix2 ⟨t.val * 512 + r.val, h⟩ k) := by
  refine Eq.trans (b := V m c main_arg0 (((cfg0.win 0).blk t).view.emb (ix2 r k : S512x1024.Idx))) rfl ?_
  exact Eq.trans (congrArg (V m c main_arg0) (a₂ := ix2 ⟨t.val * 512 + r.val, h⟩ k) (ext2 (by show _ = t.val * 512 + r.val; blk_simp [index0]) (by show _ = k.val; blk_simp [index0]))) (congrFun (V_main_arg0 m c) _)

theorem block1 (t : Fin cfg0.N) (p : Fin 3) (r : Fin 512) (k : Fin 1024) (h : t.val * 512 + r.val < 8192) :
    (iblk m c 1 t : S3x512x1024.Idx → EReal) (ix3 p r k) = arg3 m c (ix3 p ⟨t.val * 512 + r.val, h⟩ k) := by
  refine Eq.trans (b := V m c main_arg3 (((cfg0.win 1).blk t).view.emb (ix3 p r k : S3x512x1024.Idx))) rfl ?_
  exact Eq.trans (congrArg (V m c main_arg3) (a₂ := ix3 p ⟨t.val * 512 + r.val, h⟩ k) (ext3 (by show _ = p.val; blk_simp [index1]) (by show _ = t.val * 512 + r.val; blk_simp [index1]) (by show _ = k.val; blk_simp [index1]))) (congrFun (V_main_arg3 m c) _)

theorem hz2 : (![0, 0] : Fin 2 → Nat) = fun _ => 0 := funext fun a => by fin_cases a <;> rfl
theorem hz3 : (![0, 0, 0] : Fin 3 → Nat) = fun _ => 0 := funext fun a => by fin_cases a <;> rfl

theorem piece0_apply (x0 : Vec Ideal S512x1024 .bf16) (a : Vec Ideal S1x1024x768 .f32) (b : Vec Ideal S1x512x768 .bf16) (r : Fin 1024) (q : Fin 768) :
    (k0_pay4 x0 a b : S1x1024x768.Idx → EReal) (ix3 0 r q) = (a (ix3 0 r q) : EReal) + ∑ k : Fin 512, (x0 (ix2 k r) : EReal) * b (ix3 0 k q) := by
  pointwise [k0_pay4, k0_pay3]

theorem piece1_apply (x0 : Vec Ideal S512x1024 .bf16) (a : Vec Ideal S1x1024x256 .f32) (b : Vec Ideal S1x512x256 .bf16) (r : Fin 1024) (q : Fin 256) :
    (k0_pay5 x0 a b : S1x1024x256.Idx → EReal) (ix3 0 r q) = (a (ix3 0 r q) : EReal) + ∑ k : Fin 512, (x0 (ix2 k r) : EReal) * b (ix3 0 k q) := by
  pointwise [k0_pay5, k0_pay3]

theorem piece2_apply (x0 : Vec Ideal S512x1024 .bf16) (a : Vec Ideal S1x1024x512 .f32) (b : Vec Ideal S1x512x512 .bf16) (r : Fin 1024) (q : Fin 512) :
    (k0_pay7 (k0_pay3 x0) (k0_pay6 a) b : S1x1024x512.Idx → EReal) (ix3 0 r q) = (a (ix3 0 r q) : EReal) + ∑ k : Fin 512, (x0 (ix2 k r) : EReal) * b (ix3 0 k q) := by
  pointwise [k0_pay7, k0_pay6, k0_pay3]

theorem piece3_apply (x0 : Vec Ideal S512x1024 .bf16) (a : Vec Ideal S1x1024x512 .f32) (b : Vec Ideal S1x512x512 .bf16) (r : Fin 1024) (q : Fin 512) :
    (k0_pay8 (k0_pay3 x0) a b : S1x1024x512.Idx → EReal) (ix3 0 r q) = (a (ix3 0 r q) : EReal) + ∑ k : Fin 512, (x0 (ix2 k r) : EReal) * b (ix3 0 k q) := by
  pointwise [k0_pay8, k0_pay3]

theorem piece4_apply (x0 : Vec Ideal S512x1024 .bf16) (a : Vec Ideal S1x1024x256 .f32) (b : Vec Ideal S1x512x256 .bf16) (r : Fin 1024) (q : Fin 256) :
    (k0_pay9 (k0_pay3 x0) a b : S1x1024x256.Idx → EReal) (ix3 0 r q) = (a (ix3 0 r q) : EReal) + ∑ k : Fin 512, (x0 (ix2 k r) : EReal) * b (ix3 0 k q) := by
  pointwise [k0_pay9, k0_pay3]

theorem piece5_apply (x0 : Vec Ideal S512x1024 .bf16) (a : Vec Ideal S1x1024x768 .f32) (b : Vec Ideal S1x512x768 .bf16) (r : Fin 1024) (q : Fin 768) :
    (k0_pay1 (k0_pay3 x0) (k0_pay10 a) b : S1x1024x768.Idx → EReal) (ix3 0 r q) = (a (ix3 0 r q) : EReal) + ∑ k : Fin 512, (x0 (ix2 k r) : EReal) * b (ix3 0 k q) := by
  pointwise [k0_pay1, k0_pay10, k0_pay3]

/-- The block before the first step. -/
abbrev zeros : Vec Ideal S4x1024x768 .f32 := k0_pay2 (F := Ideal)

theorem zeros_apply (y : S4x1024x768.Idx) : (zeros : S4x1024x768.Idx → EReal) y = 0 := by
  show FloatOps.ofBits (F := Ideal) .f32 0x00000000#32 = 0
  exact Ideal.ofBits_zero _

/-- A block before a step, plus what the step adds. -/
def step (x0 : Vec Ideal S512x1024 .bf16) (x1 : Vec Ideal S3x512x1024 .bf16) (o : Vec Ideal S4x1024x768 .f32) : S4x1024x768.Idx → EReal := fun y =>
  (o y : EReal) + ∑ k : Fin 512, (x0 (ix2 k (y 1)) : EReal) * x1 (ix3 (which y) k (column y))

theorem split256 (x : S1x1024x256.Idx) : x = ix3 0 (x 1) (x 2) := funext fun a => by
  match a with
  | ⟨0, _⟩ => exact Subsingleton.elim (α := Fin 1) _ _
  | ⟨1, _⟩ => rfl
  | ⟨2, _⟩ => rfl

theorem split512 (x : S1x1024x512.Idx) : x = ix3 0 (x 1) (x 2) := funext fun a => by
  match a with
  | ⟨0, _⟩ => exact Subsingleton.elim (α := Fin 1) _ _
  | ⟨1, _⟩ => rfl
  | ⟨2, _⟩ => rfl

theorem split768 (x : S1x1024x768.Idx) : x = ix3 0 (x 1) (x 2) := funext fun a => by
  match a with
  | ⟨0, _⟩ => exact Subsingleton.elim (α := Fin 1) _ _
  | ⟨1, _⟩ => rfl
  | ⟨2, _⟩ => rfl

section Steps

variable (i : grid0.Coords) (a1 : Memref sig .tc .vmem S512x1024 .bf16) (h1 : a1.IsWhole) (a2 : Memref sig .tc .vmem S3x512x1024 .bf16) (h2 : a2.IsWhole)
  (a3 : Memref sig .tc .vmem S4x1024x768 .f32) (h3 : a3.IsWhole)
  (x0 : Vec Ideal S512x1024 .bf16) (x1 : Vec Ideal S3x512x1024 .bf16) (o : Vec Ideal S4x1024x768 .f32)

theorem piece0 (x : S1x1024x768.Idx) :
    (k0_pay4 x0 (View.ld o (Rect.unit ![0, 0, 0] ![1, 1024, 768] inb_S4x1024x768_S1x1024x768_0_0_0)) (View.ld x1 (Rect.unit ![0, 0, 0] ![1, 512, 768] inb_S3x512x1024_S1x512x768_0_0_0)) : S1x1024x768.Idx → EReal) x
      = step x0 x1 o ((Rect.unit (s := S4x1024x768) ![0, 0, 0] S1x1024x768.size inb_S4x1024x768_S1x1024x768_0_0_0).emb x) := by
  refine ((congrArg _ (split768 x)).trans (piece0_apply x0 _ _ (x 1) (x 2))).trans ?_
  have h0 : (x 0).val < 1 := (x 0).isLt
  have h2 : (x 2).val < 768 := (x 2).isLt
  unfold step
  refine congrArg₂ (fun a b : EReal => a + b) (congrArg o (congrArg _ (split768 x).symm)) (Finset.sum_congr rfl fun k _ => ?_)
  refine congrArg₂ (fun a b : EReal => a * b) (congrArg x0 (congrArg (ix2 k) (Fin.ext ?_))) (congrArg x1 (funext fun a => ?_))
  · show (x 1).val = 0 + 1 * (x 1).val
    omega
  · match a with
    | ⟨0, _⟩ => exact Fin.ext (show 0 + 1 * 0 = (768 * (0 + 1 * (x 0).val) + (0 + 1 * (x 2).val)) / 1024 by omega)
    | ⟨1, _⟩ => exact Fin.ext (show 0 + 1 * k.val = k.val by omega)
    | ⟨2, _⟩ => exact Fin.ext (show 0 + 1 * (x 2).val = (768 * (0 + 1 * (x 0).val) + (0 + 1 * (x 2).val)) % 1024 by omega)

theorem piece1 (x : S1x1024x256.Idx) :
    (k0_pay5 x0 (View.ld o (Rect.unit ![1, 0, 0] ![1, 1024, 256] inb_S4x1024x768_S1x1024x256_1_0_0)) (View.ld x1 (Rect.unit ![0, 0, 768] ![1, 512, 256] inb_S3x512x1024_S1x512x256_0_0_768)) : S1x1024x256.Idx → EReal) x
      = step x0 x1 o ((Rect.unit (s := S4x1024x768) ![1, 0, 0] S1x1024x256.size inb_S4x1024x768_S1x1024x256_1_0_0).emb x) := by
  refine ((congrArg _ (split256 x)).trans (piece1_apply x0 _ _ (x 1) (x 2))).trans ?_
  have h0 : (x 0).val < 1 := (x 0).isLt
  have h2 : (x 2).val < 256 := (x 2).isLt
  unfold step
  refine congrArg₂ (fun a b : EReal => a + b) (congrArg o (congrArg _ (split256 x).symm)) (Finset.sum_congr rfl fun k _ => ?_)
  refine congrArg₂ (fun a b : EReal => a * b) (congrArg x0 (congrArg (ix2 k) (Fin.ext ?_))) (congrArg x1 (funext fun a => ?_))
  · show (x 1).val = 0 + 1 * (x 1).val
    omega
  · match a with
    | ⟨0, _⟩ => exact Fin.ext (show 0 + 1 * 0 = (768 * (1 + 1 * (x 0).val) + (0 + 1 * (x 2).val)) / 1024 by omega)
    | ⟨1, _⟩ => exact Fin.ext (show 0 + 1 * k.val = k.val by omega)
    | ⟨2, _⟩ => exact Fin.ext (show 768 + 1 * (x 2).val = (768 * (1 + 1 * (x 0).val) + (0 + 1 * (x 2).val)) % 1024 by omega)

theorem piece2 (x : S1x1024x512.Idx) :
    (k0_pay7 (k0_pay3 x0) (k0_pay6 (View.ld o (Rect.unit ![1, 0, 256] ![1, 1024, 512] inb_S4x1024x768_S1x1024x512_1_0_256))) (View.ld x1 (Rect.unit ![1, 0, 0] ![1, 512, 512] inb_S3x512x1024_S1x512x512_1_0_0)) : S1x1024x512.Idx → EReal) x
      = step x0 x1 o ((Rect.unit (s := S4x1024x768) ![1, 0, 256] S1x1024x512.size inb_S4x1024x768_S1x1024x512_1_0_256).emb x) := by
  refine ((congrArg _ (split512 x)).trans (piece2_apply x0 _ _ (x 1) (x 2))).trans ?_
  have h0 : (x 0).val < 1 := (x 0).isLt
  have h2 : (x 2).val < 512 := (x 2).isLt
  unfold step
  refine congrArg₂ (fun a b : EReal => a + b) (congrArg o (congrArg _ (split512 x).symm)) (Finset.sum_congr rfl fun k _ => ?_)
  refine congrArg₂ (fun a b : EReal => a * b) (congrArg x0 (congrArg (ix2 k) (Fin.ext ?_))) (congrArg x1 (funext fun a => ?_))
  · show (x 1).val = 0 + 1 * (x 1).val
    omega
  · match a with
    | ⟨0, _⟩ => exact Fin.ext (show 1 + 1 * 0 = (768 * (1 + 1 * (x 0).val) + (256 + 1 * (x 2).val)) / 1024 by omega)
    | ⟨1, _⟩ => exact Fin.ext (show 0 + 1 * k.val = k.val by omega)
    | ⟨2, _⟩ => exact Fin.ext (show 0 + 1 * (x 2).val = (768 * (1 + 1 * (x 0).val) + (256 + 1 * (x 2).val)) % 1024 by omega)

theorem piece3 (x : S1x1024x512.Idx) :
    (k0_pay8 (k0_pay3 x0) (View.ld o (Rect.unit ![2, 0, 0] ![1, 1024, 512] inb_S4x1024x768_S1x1024x512_2_0_0)) (View.ld x1 (Rect.unit ![1, 0, 512] ![1, 512, 512] inb_S3x512x1024_S1x512x512_1_0_512)) : S1x1024x512.Idx → EReal) x
      = step x0 x1 o ((Rect.unit (s := S4x1024x768) ![2, 0, 0] S1x1024x512.size inb_S4x1024x768_S1x1024x512_2_0_0).emb x) := by
  refine ((congrArg _ (split512 x)).trans (piece3_apply x0 _ _ (x 1) (x 2))).trans ?_
  have h0 : (x 0).val < 1 := (x 0).isLt
  have h2 : (x 2).val < 512 := (x 2).isLt
  unfold step
  refine congrArg₂ (fun a b : EReal => a + b) (congrArg o (congrArg _ (split512 x).symm)) (Finset.sum_congr rfl fun k _ => ?_)
  refine congrArg₂ (fun a b : EReal => a * b) (congrArg x0 (congrArg (ix2 k) (Fin.ext ?_))) (congrArg x1 (funext fun a => ?_))
  · show (x 1).val = 0 + 1 * (x 1).val
    omega
  · match a with
    | ⟨0, _⟩ => exact Fin.ext (show 1 + 1 * 0 = (768 * (2 + 1 * (x 0).val) + (0 + 1 * (x 2).val)) / 1024 by omega)
    | ⟨1, _⟩ => exact Fin.ext (show 0 + 1 * k.val = k.val by omega)
    | ⟨2, _⟩ => exact Fin.ext (show 512 + 1 * (x 2).val = (768 * (2 + 1 * (x 0).val) + (0 + 1 * (x 2).val)) % 1024 by omega)

theorem piece4 (x : S1x1024x256.Idx) :
    (k0_pay9 (k0_pay3 x0) (View.ld o (Rect.unit ![2, 0, 512] ![1, 1024, 256] inb_S4x1024x768_S1x1024x256_2_0_512)) (View.ld x1 (Rect.unit ![2, 0, 0] ![1, 512, 256] inb_S3x512x1024_S1x512x256_2_0_0)) : S1x1024x256.Idx → EReal) x
      = step x0 x1 o ((Rect.unit (s := S4x1024x768) ![2, 0, 512] S1x1024x256.size inb_S4x1024x768_S1x1024x256_2_0_512).emb x) := by
  refine ((congrArg _ (split256 x)).trans (piece4_apply x0 _ _ (x 1) (x 2))).trans ?_
  have h0 : (x 0).val < 1 := (x 0).isLt
  have h2 : (x 2).val < 256 := (x 2).isLt
  unfold step
  refine congrArg₂ (fun a b : EReal => a + b) (congrArg o (congrArg _ (split256 x).symm)) (Finset.sum_congr rfl fun k _ => ?_)
  refine congrArg₂ (fun a b : EReal => a * b) (congrArg x0 (congrArg (ix2 k) (Fin.ext ?_))) (congrArg x1 (funext fun a => ?_))
  · show (x 1).val = 0 + 1 * (x 1).val
    omega
  · match a with
    | ⟨0, _⟩ => exact Fin.ext (show 2 + 1 * 0 = (768 * (2 + 1 * (x 0).val) + (512 + 1 * (x 2).val)) / 1024 by omega)
    | ⟨1, _⟩ => exact Fin.ext (show 0 + 1 * k.val = k.val by omega)
    | ⟨2, _⟩ => exact Fin.ext (show 0 + 1 * (x 2).val = (768 * (2 + 1 * (x 0).val) + (512 + 1 * (x 2).val)) % 1024 by omega)

theorem piece5 (x : S1x1024x768.Idx) :
    (k0_pay1 (k0_pay3 x0) (k0_pay10 (View.ld o (Rect.unit ![3, 0, 0] ![1, 1024, 768] inb_S4x1024x768_S1x1024x768_3_0_0))) (View.ld x1 (Rect.unit ![2, 0, 256] ![1, 512, 768] inb_S3x512x1024_S1x512x768_2_0_256)) : S1x1024x768.Idx → EReal) x
      = step x0 x1 o ((Rect.unit (s := S4x1024x768) ![3, 0, 0] S1x1024x768.size inb_S4x1024x768_S1x1024x768_3_0_0).emb x) := by
  refine ((congrArg _ (split768 x)).trans (piece5_apply x0 _ _ (x 1) (x 2))).trans ?_
  have h0 : (x 0).val < 1 := (x 0).isLt
  have h2 : (x 2).val < 768 := (x 2).isLt
  unfold step
  refine congrArg₂ (fun a b : EReal => a + b) (congrArg o (congrArg _ (split768 x).symm)) (Finset.sum_congr rfl fun k _ => ?_)
  refine congrArg₂ (fun a b : EReal => a * b) (congrArg x0 (congrArg (ix2 k) (Fin.ext ?_))) (congrArg x1 (funext fun a => ?_))
  · show (x 1).val = 0 + 1 * (x 1).val
    omega
  · match a with
    | ⟨0, _⟩ => exact Fin.ext (show 2 + 1 * 0 = (768 * (3 + 1 * (x 0).val) + (0 + 1 * (x 2).val)) / 1024 by omega)
    | ⟨1, _⟩ => exact Fin.ext (show 0 + 1 * k.val = k.val by omega)
    | ⟨2, _⟩ => exact Fin.ext (show 256 + 1 * (x 2).val = (768 * (3 + 1 * (x 0).val) + (0 + 1 * (x 2).val)) % 1024 by omega)

/-- A further step's block. -/
theorem out_B_eq (hc : ¬cond0_0 i) : out0_B_2 c i a1 h1 a2 h2 a3 h3 hc x0 x1 o = step x0 x1 o := by
  unfold out0_B_2
  rw [View.read_writes_eq_canon _ _ _ (cover0_B_2 c i a1 h1 a2 h2 a3 h3 hc x0 x1 o)]
  funext y
  refine View.canon_apply_of_pieces (step x0 x1 o) _ ?_ y (cover0_B_2 c i a1 h1 a2 h2 a3 h3 hc x0 x1 o y)
  unfold kernelRun0_B
  dsimp only
  try sl_unfold_words
  simp only [View.readAt_eq_ld, h1.read_unread, h2.read_unread, h3.read_unread, View.ld_unit_zero (S := S512x1024) hz2, shapeCast_self]
  exact View.PiecesOf.mem (Val := Elt Ideal) (s := S4x1024x768) (e := .f32) (G := step x0 x1 o)
    (And.intro (piece5 x0 x1 o) (And.intro (piece4 x0 x1 o) (And.intro (piece3 x0 x1 o) (And.intro (piece2 x0 x1 o) (And.intro (piece1 x0 x1 o) (And.intro (piece0 x0 x1 o) trivial))))))

/-- The first step's block. -/
theorem out_A_eq (hc : cond0_0 i) : out0_A_2 c i a1 h1 a2 h2 a3 h3 hc x0 x1 = step x0 x1 zeros := by
  unfold out0_A_2
  rw [View.read_writes_eq_canon _ _ _ (cover0_A_2 c i a1 h1 a2 h2 a3 h3 hc x0 x1)]
  unfold kernelRun0_A
  dsimp only
  try sl_unfold_words
  simp only [View.readAt_eq_ld, h1.read_unread, h2.read_unread, h3.read_unread, View.ld_unit_zero (S := S512x1024) hz2, shapeCast_self]
  simp (disch := first | decide | rfl) only [↓View.readCov_skip, ↓View.readCov_fill]
  funext y
  refine View.canon_append_of_piecesOf (Val := Elt Ideal) (s := S4x1024x768) (e := .f32) (step x0 x1 zeros)
    [⟨Rect.unit (s := S4x1024x768) ![0, 0, 0] S4x1024x768.size inb_S4x1024x768_S4x1024x768_0_0_0, zeros⟩]
    [⟨Rect.unit (s := S4x1024x768) ![3, 0, 0] S1x1024x768.size inb_S4x1024x768_S1x1024x768_3_0_0,
        k0_pay1 (k0_pay3 x0) (k0_pay10 (View.ld zeros (Rect.unit ![3, 0, 0] ![1, 1024, 768] inb_S4x1024x768_S1x1024x768_3_0_0))) (View.ld x1 (Rect.unit ![2, 0, 256] ![1, 512, 768] inb_S3x512x1024_S1x512x768_2_0_256))⟩,
      ⟨Rect.unit (s := S4x1024x768) ![2, 0, 512] S1x1024x256.size inb_S4x1024x768_S1x1024x256_2_0_512,
        k0_pay9 (k0_pay3 x0) (View.ld zeros (Rect.unit ![2, 0, 512] ![1, 1024, 256] inb_S4x1024x768_S1x1024x256_2_0_512)) (View.ld x1 (Rect.unit ![2, 0, 0] ![1, 512, 256] inb_S3x512x1024_S1x512x256_2_0_0))⟩,
      ⟨Rect.unit (s := S4x1024x768) ![2, 0, 0] S1x1024x512.size inb_S4x1024x768_S1x1024x512_2_0_0,
        k0_pay8 (k0_pay3 x0) (View.ld zeros (Rect.unit ![2, 0, 0] ![1, 1024, 512] inb_S4x1024x768_S1x1024x512_2_0_0)) (View.ld x1 (Rect.unit ![1, 0, 512] ![1, 512, 512] inb_S3x512x1024_S1x512x512_1_0_512))⟩,
      ⟨Rect.unit (s := S4x1024x768) ![1, 0, 256] S1x1024x512.size inb_S4x1024x768_S1x1024x512_1_0_256,
        k0_pay7 (k0_pay3 x0) (k0_pay6 (View.ld zeros (Rect.unit ![1, 0, 256] ![1, 1024, 512] inb_S4x1024x768_S1x1024x512_1_0_256))) (View.ld x1 (Rect.unit ![1, 0, 0] ![1, 512, 512] inb_S3x512x1024_S1x512x512_1_0_0))⟩,
      ⟨Rect.unit (s := S4x1024x768) ![1, 0, 0] S1x1024x256.size inb_S4x1024x768_S1x1024x256_1_0_0,
        k0_pay5 x0 (View.ld zeros (Rect.unit ![1, 0, 0] ![1, 1024, 256] inb_S4x1024x768_S1x1024x256_1_0_0)) (View.ld x1 (Rect.unit ![0, 0, 768] ![1, 512, 256] inb_S3x512x1024_S1x512x256_0_0_768))⟩,
      ⟨Rect.unit (s := S4x1024x768) ![0, 0, 0] S1x1024x768.size inb_S4x1024x768_S1x1024x768_0_0_0,
        k0_pay4 x0 (View.ld zeros (Rect.unit ![0, 0, 0] ![1, 1024, 768] inb_S4x1024x768_S1x1024x768_0_0_0)) (View.ld x1 (Rect.unit ![0, 0, 0] ![1, 512, 768] inb_S3x512x1024_S1x512x768_0_0_0))⟩]
    (And.intro (piece5 x0 x1 zeros) (And.intro (piece4 x0 x1 zeros) (And.intro (piece3 x0 x1 zeros) (And.intro (piece2 x0 x1 zeros) (And.intro (piece1 x0 x1 zeros) (And.intro (piece0 x0 x1 zeros) trivial)))))) y ?_
  exact View.cover_of_tiledBy (s := S4x1024x768) _ ![1, 1024, 256] (by sl_kernel_rfl) y

end Steps

/-- What a step adds. -/
theorem adds (n : ℕ) (h : n < cfg0.N) (o : Vec Ideal S4x1024x768 .f32) (y : S4x1024x768.Idx) :
    step (iblk m c 0 ⟨n, h⟩) (iblk m c 1 ⟨n, h⟩) o y = (o y : EReal) + tile 16 512 rfl (part (arg0 m c) (arg3 m c) y) n := by
  have hn : n < 16 := h.trans_eq N_0
  have hb : ∀ t : Fin 512, n * 512 + t.val < 8192 := fun t => by have := t.isLt; omega
  rw [tile_of_lt 16 512 rfl _ n hn hb]
  unfold step
  refine congrArg (fun x : EReal => (o y : EReal) + x) (Finset.sum_congr rfl fun k _ => ?_)
  rw [block0 m c ⟨n, h⟩ k (y 1) (hb k), block1 m c ⟨n, h⟩ (which y) k (column y) (hb k)]
  rfl

/-- After a step the block holds the sum of the steps so far. -/
theorem block (n : ℕ) (h : n < cfg0.N) (y : S4x1024x768.Idx) :
    (outsAt0 m c n h : S4x1024x768.Idx → EReal) y = ∑ j ∈ Finset.range (n + 1), tile 16 512 rfl (part (arg0 m c) (arg3 m c) y) j := by
  induction n with
  | zero =>
    refine (congrFun ((outsAt0_A m c ⟨0, h⟩ (Nat.zero_mod _)).trans (out_A_eq c _ _ _ _ _ _ _ _ _ _)) y).trans ?_
    rw [adds, zeros_apply, zero_add, zero_add, Finset.sum_range_one]
  | succ n ih =>
    have hn : n + 1 < 16 := h.trans_eq N_0
    have h0 : ¬(n + 1) % 16 = 0 := by omega
    refine (congrFun ((outsAt0_B m c ⟨n + 1, h⟩ h0).trans (out_B_eq c _ _ _ _ _ _ _ _ _ _ _)) y).trans ?_
    rw [adds, Finset.sum_range_succ]
    exact congrArg (· + _) (ih _)

/-- The whole result. -/
theorem result : (dats m 0 c).arrAt 2 cfg0.N = grad (arg0 m c) (arg3 m c) := by
  have hcov : (cfg0.win 2).Covers := by decide +kernel
  have hlast : ∀ t : Fin cfg0.N, (cfg0.win 2).flush t = true → t.val = 15 :=
    (by decide +kernel : ∀ t : Fin grid0.N, (cfg0.win 2).flush t = true → t.val = 15)
  refine (dats m 0 c).arrAt_eq_of_covers (2 : Fin cfg0.W) (grad (arg0 m c) (arg3 m c)) hcov (fun t hf y => ?_) (Memref.isWhole_whole _)
  refine Eq.trans (b := (dats m 0 c).after 2 t y) (by blk_simp) ?_
  have e0 : ((((cfg0.win 2).blk t).view.emb y 0 : Fin _) : ℕ) = (y 0).val := by blk_simp [index2]
  have e1 : ((((cfg0.win 2).blk t).view.emb y 1 : Fin _) : ℕ) = (y 1).val := by blk_simp [index2]
  have e2 : ((((cfg0.win 2).blk t).view.emb y 2 : Fin _) : ℕ) = (y 2).val := by blk_simp [index2]
  have e : ((cfg0.win 2).blk t).view.emb y = y := funext fun a => by
    match a with
    | ⟨0, _⟩ => exact Fin.ext e0
    | ⟨1, _⟩ => exact Fin.ext e1
    | ⟨2, _⟩ => exact Fin.ext e2
  rw [after0_2, block, hlast t hf]
  refine (tiles_sum 16 512 rfl _).trans ?_
  exact congrArg (grad (arg0 m c) (arg3 m c)) e.symm

end Cert.Kernel12Ideal.AttnInWeight

namespace Cert.Reference12Ideal.Read

open Cert.Reference12Ideal Cert.Reference12Ideal.Gen
open Idealize.ShloMosaic

section Beside

variable (p0 p1 p2 : S8192x1024.Idx → EReal) (s : Fin 8192) (j : Fin 1024)

theorem beside0 (h : 0 + j.val < 3072) : concatenate S8192x3072 1 [⟨S8192x1024, p0⟩, ⟨S8192x1024, p1⟩, ⟨S8192x1024, p2⟩]
    concatenates_S8192x1024_S8192x1024_S8192x1024_S8192x3072_d1 (ix2 s ⟨0 + j.val, h⟩) = p0 (ix2 s j) :=
  concatenate_apply_piece (t := S8192x3072) 1 _ _ _ 0 (by show 0 < 3; decide) S8192x1024 p0 rfl rfl 0 rfl (ix2 s j)
    (fun b hb => by match b with
      | ⟨0, _⟩ => rfl
      | ⟨1, _⟩ => exact absurd rfl hb) rfl

theorem beside1 (h : 1024 + j.val < 3072) : concatenate S8192x3072 1 [⟨S8192x1024, p0⟩, ⟨S8192x1024, p1⟩, ⟨S8192x1024, p2⟩]
    concatenates_S8192x1024_S8192x1024_S8192x1024_S8192x3072_d1 (ix2 s ⟨1024 + j.val, h⟩) = p1 (ix2 s j) :=
  concatenate_apply_piece (t := S8192x3072) 1 _ _ _ 1 (by show 1 < 3; decide) S8192x1024 p1 rfl rfl 1024 rfl (ix2 s j)
    (fun b hb => by match b with
      | ⟨0, _⟩ => rfl
      | ⟨1, _⟩ => exact absurd rfl hb) rfl

theorem beside2 (h : 2048 + j.val < 3072) : concatenate S8192x3072 1 [⟨S8192x1024, p0⟩, ⟨S8192x1024, p1⟩, ⟨S8192x1024, p2⟩]
    concatenates_S8192x1024_S8192x1024_S8192x1024_S8192x3072_d1 (ix2 s ⟨2048 + j.val, h⟩) = p2 (ix2 s j) :=
  concatenate_apply_piece (t := S8192x3072) 1 _ _ _ 2 (by show 2 < 3; decide) S8192x1024 p2 rfl rfl 2048 rfl (ix2 s j)
    (fun b hb => by match b with
      | ⟨0, _⟩ => rfl
      | ⟨1, _⟩ => exact absurd rfl hb) rfl

end Beside

theorem part0_value (x3 : S3x8192x1024.Idx → EReal) (s : Fin 8192) (j : Fin 1024) : val_main_v1 (F := Ideal) x3 (ix2 s j) = x3 (ix3 0 s j) := by
  rw [val_main_v1_apply, val_main_v0_apply]
  refine congrArg x3 (funext fun a => ?_)
  have hj : j.val < 1024 := j.isLt
  have hs : s.val < 8192 := s.isLt
  match a with
  | ⟨0, _⟩ => rfl
  | ⟨1, _⟩ => exact Fin.ext (show (s.val * 1024 + j.val) / 1024 % 8192 = s.val by omega)
  | ⟨2, _⟩ => exact Fin.ext (show (s.val * 1024 + j.val) % 1024 = j.val by omega)

theorem part1_value (x3 : S3x8192x1024.Idx → EReal) (s : Fin 8192) (j : Fin 1024) : val_main_v3 (F := Ideal) x3 (ix2 s j) = x3 (ix3 1 s j) := by
  rw [val_main_v3_apply, val_main_v2_apply]
  refine congrArg x3 (funext fun a => ?_)
  have hj : j.val < 1024 := j.isLt
  have hs : s.val < 8192 := s.isLt
  match a with
  | ⟨0, _⟩ => rfl
  | ⟨1, _⟩ => exact Fin.ext (show (s.val * 1024 + j.val) / 1024 % 8192 = s.val by omega)
  | ⟨2, _⟩ => exact Fin.ext (show (s.val * 1024 + j.val) % 1024 = j.val by omega)

theorem part2_value (x3 : S3x8192x1024.Idx → EReal) (s : Fin 8192) (j : Fin 1024) : val_main_v5 (F := Ideal) x3 (ix2 s j) = x3 (ix3 2 s j) := by
  rw [val_main_v5_apply, val_main_v4_apply]
  refine congrArg x3 (funext fun a => ?_)
  have hj : j.val < 1024 := j.isLt
  have hs : s.val < 8192 := s.isLt
  match a with
  | ⟨0, _⟩ => rfl
  | ⟨1, _⟩ => exact Fin.ext (show (s.val * 1024 + j.val) / 1024 % 8192 = s.val by omega)
  | ⟨2, _⟩ => exact Fin.ext (show (s.val * 1024 + j.val) % 1024 = j.val by omega)

/-- The projection's gradient, read at a column. -/
theorem beside_value (x3 : S3x8192x1024.Idx → EReal) (s : Fin 8192) (q : Fin 3072) (h : q.val / 1024 < 3) :
    val_main_v6 (F := Ideal) x3 (ix2 s q) = x3 (ix3 ⟨q.val / 1024, h⟩ s ⟨q.val % 1024, Nat.mod_lt _ (by decide)⟩) := by
  have key : ∀ (p : Fin 3) (j : Fin 1024) (hq : 1024 * p.val + j.val < 3072), val_main_v6 (F := Ideal) x3 (ix2 s ⟨1024 * p.val + j.val, hq⟩) = x3 (ix3 p s j) := fun p j hq => by
    match p with
    | ⟨0, _⟩ => exact (congrArg _ (congrArg (ix2 s) (Fin.ext (show 1024 * 0 + j.val = 0 + j.val by omega)))).trans ((beside0 _ _ _ s j (by have := j.isLt; omega)).trans (part0_value x3 s j))
    | ⟨1, _⟩ => exact (beside1 _ _ _ s j hq).trans (part1_value x3 s j)
    | ⟨2, _⟩ => exact (beside2 _ _ _ s j hq).trans (part2_value x3 s j)
  have hq : 1024 * (q.val / 1024) + q.val % 1024 < 3072 := by have := q.isLt; omega
  refine Eq.trans (congrArg _ (congrArg (ix2 s) (Fin.ext ?_))) (key ⟨q.val / 1024, h⟩ ⟨q.val % 1024, Nat.mod_lt _ (by decide)⟩ hq)
  show q.val = 1024 * (q.val / 1024) + q.val % 1024
  omega

/-- The whole gradient, before it is cut into slabs. -/
theorem whole_value (x0 : S8192x1024.Idx → EReal) (x3 : S3x8192x1024.Idx → EReal) (r : Fin 1024) (q : Fin 3072) (h : q.val / 1024 < 3) :
    val_main_v13 (F := Ideal) x0 x3 (ix2 r q)
      = ∑ s : Fin 8192, x0 (ix2 s r) * x3 (ix3 ⟨q.val / 1024, h⟩ s ⟨q.val % 1024, Nat.mod_lt _ (by decide)⟩) := by
  rw [val_main_v13_apply, val_main_v12_apply]
  refine Finset.sum_congr rfl fun s _ => ?_
  have e0 : ridx_main_v12 (idx_main_v13 (ix2 r q)) s = ix2 s r := ext2 rfl rfl
  have e1 : lidx_main_v12 (idx_main_v13 (ix2 r q)) s = ix2 s q := ext2 rfl rfl
  rw [mul_comm, e0, e1, val_main_v8_apply, val_main_v7_apply, beside_value x3 s q h]
  rfl

theorem slab0_value (x0 : S8192x1024.Idx → EReal) (x3 : S3x8192x1024.Idx → EReal) (r : Fin 1024) (q : Fin 768) :
    val_main_v18 (F := Ideal) x0 x3 (ix3 0 r q) = Cert.Kernel12Ideal.AttnInWeight.grad x0 x3 (ix3 0 r q) := by
  rw [val_main_v18_apply, val_main_v14_apply]
  have hp := Cert.Kernel12Ideal.AttnInWeight.place_lt (ix3 0 r q)
  have e : idx_main_v14 (idx_main_v18 (ix3 0 r q)) = ix2 r ⟨Cert.Kernel12Ideal.AttnInWeight.place (ix3 0 r q), hp⟩ := funext fun a => by
    match a with
    | ⟨0, _⟩ => rfl
    | ⟨1, _⟩ => exact Fin.ext (show q.val = 768 * 0 + q.val by omega)
  exact (congrArg _ e).trans (whole_value x0 x3 r _ (by show Cert.Kernel12Ideal.AttnInWeight.place (ix3 0 r q) / 1024 < 3; omega))

theorem slab1_value (x0 : S8192x1024.Idx → EReal) (x3 : S3x8192x1024.Idx → EReal) (r : Fin 1024) (q : Fin 768) :
    val_main_v19 (F := Ideal) x0 x3 (ix3 0 r q) = Cert.Kernel12Ideal.AttnInWeight.grad x0 x3 (ix3 1 r q) := by
  rw [val_main_v19_apply, val_main_v15_apply]
  have hp := Cert.Kernel12Ideal.AttnInWeight.place_lt (ix3 1 r q)
  have e : idx_main_v15 (idx_main_v19 (ix3 0 r q)) = ix2 r ⟨Cert.Kernel12Ideal.AttnInWeight.place (ix3 1 r q), hp⟩ := funext fun a => by
    match a with
    | ⟨0, _⟩ => rfl
    | ⟨1, _⟩ => exact Fin.ext (show 768 + q.val = 768 * 1 + q.val by omega)
  exact (congrArg _ e).trans (whole_value x0 x3 r _ (by show Cert.Kernel12Ideal.AttnInWeight.place (ix3 1 r q) / 1024 < 3; omega))

theorem slab2_value (x0 : S8192x1024.Idx → EReal) (x3 : S3x8192x1024.Idx → EReal) (r : Fin 1024) (q : Fin 768) :
    val_main_v20 (F := Ideal) x0 x3 (ix3 0 r q) = Cert.Kernel12Ideal.AttnInWeight.grad x0 x3 (ix3 2 r q) := by
  rw [val_main_v20_apply, val_main_v16_apply]
  have hp := Cert.Kernel12Ideal.AttnInWeight.place_lt (ix3 2 r q)
  have e : idx_main_v16 (idx_main_v20 (ix3 0 r q)) = ix2 r ⟨Cert.Kernel12Ideal.AttnInWeight.place (ix3 2 r q), hp⟩ := funext fun a => by
    match a with
    | ⟨0, _⟩ => rfl
    | ⟨1, _⟩ => exact Fin.ext (show 1536 + q.val = 768 * 2 + q.val by omega)
  exact (congrArg _ e).trans (whole_value x0 x3 r _ (by show Cert.Kernel12Ideal.AttnInWeight.place (ix3 2 r q) / 1024 < 3; omega))

theorem slab3_value (x0 : S8192x1024.Idx → EReal) (x3 : S3x8192x1024.Idx → EReal) (r : Fin 1024) (q : Fin 768) :
    val_main_v21 (F := Ideal) x0 x3 (ix3 0 r q) = Cert.Kernel12Ideal.AttnInWeight.grad x0 x3 (ix3 3 r q) := by
  rw [val_main_v21_apply, val_main_v17_apply]
  have hp := Cert.Kernel12Ideal.AttnInWeight.place_lt (ix3 3 r q)
  have e : idx_main_v17 (idx_main_v21 (ix3 0 r q)) = ix2 r ⟨Cert.Kernel12Ideal.AttnInWeight.place (ix3 3 r q), hp⟩ := funext fun a => by
    match a with
    | ⟨0, _⟩ => rfl
    | ⟨1, _⟩ => exact Fin.ext (show 2304 + q.val = 768 * 3 + q.val by omega)
  exact (congrArg _ e).trans (whole_value x0 x3 r _ (by show Cert.Kernel12Ideal.AttnInWeight.place (ix3 3 r q) / 1024 < 3; omega))

section Stack

variable (p0 p1 p2 p3 : S1x1024x768.Idx → EReal) (r : Fin 1024) (q : Fin 768)

theorem stacked0 : concatenate S4x1024x768 0 [⟨S1x1024x768, p0⟩, ⟨S1x1024x768, p1⟩, ⟨S1x1024x768, p2⟩, ⟨S1x1024x768, p3⟩]
    concatenates_S1x1024x768_S1x1024x768_S1x1024x768_S1x1024x768_S4x1024x768_d0 (ix3 0 r q) = p0 (ix3 0 r q) :=
  concatenate_apply_piece (t := S4x1024x768) 0 _ _ _ 0 (by show 0 < 4; decide) S1x1024x768 p0 rfl rfl 0 rfl (ix3 0 r q)
    (fun b hb => by match b with
      | ⟨0, _⟩ => exact absurd rfl hb
      | ⟨1, _⟩ => rfl
      | ⟨2, _⟩ => rfl) rfl

theorem stacked1 : concatenate S4x1024x768 0 [⟨S1x1024x768, p0⟩, ⟨S1x1024x768, p1⟩, ⟨S1x1024x768, p2⟩, ⟨S1x1024x768, p3⟩]
    concatenates_S1x1024x768_S1x1024x768_S1x1024x768_S1x1024x768_S4x1024x768_d0 (ix3 1 r q) = p1 (ix3 0 r q) :=
  concatenate_apply_piece (t := S4x1024x768) 0 _ _ _ 1 (by show 1 < 4; decide) S1x1024x768 p1 rfl rfl 1 rfl (ix3 0 r q)
    (fun b hb => by match b with
      | ⟨0, _⟩ => exact absurd rfl hb
      | ⟨1, _⟩ => rfl
      | ⟨2, _⟩ => rfl) rfl

theorem stacked2 : concatenate S4x1024x768 0 [⟨S1x1024x768, p0⟩, ⟨S1x1024x768, p1⟩, ⟨S1x1024x768, p2⟩, ⟨S1x1024x768, p3⟩]
    concatenates_S1x1024x768_S1x1024x768_S1x1024x768_S1x1024x768_S4x1024x768_d0 (ix3 2 r q) = p2 (ix3 0 r q) :=
  concatenate_apply_piece (t := S4x1024x768) 0 _ _ _ 2 (by show 2 < 4; decide) S1x1024x768 p2 rfl rfl 2 rfl (ix3 0 r q)
    (fun b hb => by match b with
      | ⟨0, _⟩ => exact absurd rfl hb
      | ⟨1, _⟩ => rfl
      | ⟨2, _⟩ => rfl) rfl

theorem stacked3 : concatenate S4x1024x768 0 [⟨S1x1024x768, p0⟩, ⟨S1x1024x768, p1⟩, ⟨S1x1024x768, p2⟩, ⟨S1x1024x768, p3⟩]
    concatenates_S1x1024x768_S1x1024x768_S1x1024x768_S1x1024x768_S4x1024x768_d0 (ix3 3 r q) = p3 (ix3 0 r q) :=
  concatenate_apply_piece (t := S4x1024x768) 0 _ _ _ 3 (by show 3 < 4; decide) S1x1024x768 p3 rfl rfl 3 rfl (ix3 0 r q)
    (fun b hb => by match b with
      | ⟨0, _⟩ => exact absurd rfl hb
      | ⟨1, _⟩ => rfl
      | ⟨2, _⟩ => rfl) rfl

end Stack

theorem reference_value (x0 : S8192x1024.Idx → EReal) (x3 : S3x8192x1024.Idx → EReal) :
    val_main_v22 (F := Ideal) x0 x3 = Cert.Kernel12Ideal.AttnInWeight.grad x0 x3 := by
  funext i
  have hs : ∀ (j : Fin 4) (r : Fin 1024) (q : Fin 768), val_main_v22 (F := Ideal) x0 x3 (ix3 j r q) = Cert.Kernel12Ideal.AttnInWeight.grad x0 x3 (ix3 j r q) := fun j r q => by
    match j with
    | ⟨0, _⟩ => exact (stacked0 _ _ _ _ r q).trans (slab0_value x0 x3 r q)
    | ⟨1, _⟩ => exact (stacked1 _ _ _ _ r q).trans (slab1_value x0 x3 r q)
    | ⟨2, _⟩ => exact (stacked2 _ _ _ _ r q).trans (slab2_value x0 x3 r q)
    | ⟨3, _⟩ => exact (stacked3 _ _ _ _ r q).trans (slab3_value x0 x3 r q)
  refine (congrArg _ (Idealize.ShloMosaic.ValueIdx.eq_ix3 i)).trans ((hs (i 0) (i 1) (i 2)).trans ?_)
  exact congrArg (Cert.Kernel12Ideal.AttnInWeight.grad x0 x3) (Idealize.ShloMosaic.ValueIdx.eq_ix3 i).symm

end Cert.Reference12Ideal.Read

end
-- ==== Proof.AttnBack.lean ====
/-
  The gradient of the attention's values: the gradient of the output product against the weight. The weight is transposed at the
  first step into the kernel's scratch, which the further steps read.
-/
module

public import proofs.«01_k».proof.Proof.Gen.Kernel13Ideal.Value
public import proofs.«01_k».proof.Proof.Gen.Reference13Ideal.Read
public import proofs.«01_k».proof.Proof.Mlp

@[expose] public section

set_option maxRecDepth 16384

noncomputable section

namespace Cert.Kernel13Ideal.AttnBack

open Cert.Kernel13Ideal Cert.Kernel13Ideal.Gen
open Idealize.ShloMosaic Idealize.ShloMosaic.TcCoe
open Idealize.ShloMosaic.Pipeline (Window)
open scoped BigOperators

variable (m : (ℓ : Loc nD τ sig) → Buf (Elt Ideal) ℓ) (c : Dev nD)

/-- The arguments: the output weight and the gradient of the product. -/
abbrev arg1 : S1024x1024.Idx → EReal := m ((c.tc : Thread nD τ).loc main_arg1)
abbrev arg2 : S8192x1024.Idx → EReal := m ((c.tc : Thread nD τ).loc main_arg2)

/-- The gradient. -/
def grad (w : S1024x1024.Idx → EReal) (g : S8192x1024.Idx → EReal) : S8192x1024.Idx → EReal := fun i =>
  ∑ k : Fin 1024, g (ix2 (i 0) k) * w (ix2 (i 1) k)

theorem stored1 (x : Vec Ideal S1x1024x1024 .bf16) (k : Fin 1024) (q : Fin 1024) :
    (k0_pay1 x : S1024x1024.Idx → EReal) (ix2 k q) = x (ix3 0 q k) := by
  pointwise [k0_pay1]

theorem stored2 (x0 b : Vec Ideal S1024x1024 .bf16) (r : Fin 1024) (q : Fin 1024) :
    (k0_pay2 x0 b : S1024x1024.Idx → EReal) (ix2 r q) = ∑ k : Fin 1024, (x0 (ix2 r k) : EReal) * b (ix2 k q) := by
  pointwise [k0_pay2]

theorem V_weight (q : Fin 1024) (k : Fin 1024) : (V m c main_v1 : S1x1024x1024.Idx → EReal) (ix3 0 q k) = arg1 m c (ix2 q k) := by
  unfold V
  after_reads_at

theorem index0 : ∀ t : Fin cfg0.N, win0_0.index t = ![t.val, 0] := (by decide +kernel : ∀ t : Fin grid0.N, win0_0.index t = ![t.val, 0])
theorem index1 : ∀ t : Fin cfg0.N, win0_1.index t = ![0, 0, 0] := (by decide +kernel : ∀ t : Fin grid0.N, win0_1.index t = ![0, 0, 0])
theorem index2 : ∀ t : Fin cfg0.N, win0_2.index t = ![t.val, 0] := (by decide +kernel : ∀ t : Fin grid0.N, win0_2.index t = ![t.val, 0])

theorem block0 (t : Fin cfg0.N) (r : Fin 1024) (k : Fin 1024) (h : t.val * 1024 + r.val < 8192) :
    (iblk m c 0 t : S1024x1024.Idx → EReal) (ix2 r k) = arg2 m c (ix2 ⟨t.val * 1024 + r.val, h⟩ k) := by
  refine Eq.trans (b := V m c main_arg2 (((cfg0.win 0).blk t).view.emb (ix2 r k : S1024x1024.Idx))) rfl ?_
  exact Eq.trans (congrArg (V m c main_arg2) (a₂ := ix2 ⟨t.val * 1024 + r.val, h⟩ k) (ext2 (by show _ = t.val * 1024 + r.val; blk_simp [index0]) (by show _ = k.val; blk_simp [index0]))) (congrFun (V_main_arg2 m c) _)

theorem block1 (t : Fin cfg0.N) (k : Fin 1024) (q : Fin 1024) : (iblk m c 1 t : S1x1024x1024.Idx → EReal) (ix3 0 k q) = arg1 m c (ix2 k q) := by
  refine Eq.trans (b := V m c main_v1 (((cfg0.win 1).blk t).view.emb (ix3 0 k q : S1x1024x1024.Idx))) rfl ?_
  exact Eq.trans (congrArg (V m c main_v1) (a₂ := ix3 0 k q) (ext3 (only _ _) (by show _ = k.val; blk_simp [index1]) (by show _ = q.val; blk_simp [index1]))) (V_weight m c k q)

theorem hz2 : (![0, 0] : Fin 2 → Nat) = fun _ => 0 := funext fun a => by fin_cases a <;> rfl
theorem hz3 : (![0, 0, 0] : Fin 3 → Nat) = fun _ => 0 := funext fun a => by fin_cases a <;> rfl

section Steps

variable (i : grid0.Coords) (a2 : Memref sig .tc .vmem S1024x1024 .bf16) (h2 : a2.IsWhole) (a3 : Memref sig .tc .vmem S1x1024x1024 .bf16) (h3 : a3.IsWhole)
  (a4 : Memref sig .tc .vmem S1024x1024 .bf16) (h4 : a4.IsWhole) (a5 : Memref sig .tc .vmem S1024x1024 .bf16) (h5 : a5.IsWhole)
  (x0 : Vec Ideal S1024x1024 .bf16) (x1 : Vec Ideal S1x1024x1024 .bf16) (b : Vec Ideal S1024x1024 .bf16)

/-- The first step's block. -/
theorem out_A_eq (hc : cond0_0 i) : out0_A_2 c i a2 h2 a3 h3 a4 h4 a5 h5 hc x0 x1 = k0_pay2 x0 (k0_pay1 x1) := by
  unfold out0_A_2
  rw [View.read_writes_eq_canon _ _ _ (cover0_A_2 c i a2 h2 a3 h3 a4 h4 a5 h5 hc x0 x1)]
  unfold kernelRun0_A
  dsimp only
  try sl_unfold_words
  rw [View.canon_unit_zero (S := S1024x1024) hz2]
  try rw [View.readCov_unit_zero (S := S1024x1024) _ hz2]
  simp only [View.readAt_eq_ld, h2.read_unread, h3.read_unread, View.ld_unit_zero (S := S1024x1024) hz2,
    View.ld_unit_zero (S := S1x1024x1024) hz3, shapeCast_self]

/-- The first step's scratch. -/
theorem sout_A_eq (hc : cond0_0 i) : sout0_A_0 c i a2 h2 a3 h3 a4 h4 a5 h5 hc x0 x1 = k0_pay1 x1 := by
  unfold sout0_A_0
  rw [View.read_writes_eq_canon _ _ _ (scover0_A_0 c i a2 h2 a3 h3 a4 h4 a5 h5 hc x0 x1)]
  unfold kernelRun0_A
  dsimp only
  try sl_unfold_words
  rw [View.canon_unit_zero (S := S1024x1024) hz2]
  simp only [View.readAt_eq_ld, h3.read_unread, View.ld_unit_zero (S := S1x1024x1024) hz3, shapeCast_self]

/-- A further step's block. -/
theorem out_B_eq (hc : ¬cond0_0 i) : out0_B_2 c i a2 h2 a3 h3 a4 h4 a5 h5 hc x0 x1 b = k0_pay2 x0 b := by
  unfold out0_B_2
  rw [View.read_writes_eq_canon _ _ _ (cover0_B_2 c i a2 h2 a3 h3 a4 h4 a5 h5 hc x0 x1 b)]
  unfold kernelRun0_B
  dsimp only
  try sl_unfold_words
  rw [View.canon_unit_zero (S := S1024x1024) hz2]
  simp only [View.readAt_eq_ld, h2.read_unread, h5.read_unread, View.ld_unit_zero (S := S1024x1024) hz2, shapeCast_self]

end Steps

theorem scratch_A (t : Fin cfg0.N) (h0 : t.val % 8 = 0) : (outsAt0 m c t.val t.isLt).2 = k0_pay1 (iblk m c 1 t) := by
  rw [outsAt0_A m c t h0]
  dsimp only
  rw [sout_A_eq]

theorem scratch_B (t : Fin cfg0.N) (h0 : ¬t.val % 8 = 0) :
    (outsAt0 m c t.val t.isLt).2 = (outsAt0 m c (t.val - 1) (Nat.lt_of_le_of_lt (Nat.sub_le _ _) t.isLt)).2 := by
  rw [outsAt0_B m c t h0]
  dsimp only [sout0_B_0]

theorem block_A (t : Fin cfg0.N) (h0 : t.val % 8 = 0) :
    (outsAt0 m c t.val t.isLt).1 = k0_pay2 (iblk m c 0 t) (k0_pay1 (iblk m c 1 t)) := by
  rw [outsAt0_A m c t h0]
  dsimp only
  rw [out_A_eq]

theorem block_B (t : Fin cfg0.N) (h0 : ¬t.val % 8 = 0) :
    (outsAt0 m c t.val t.isLt).1 = k0_pay2 (iblk m c 0 t) (outsAt0 m c (t.val - 1) (Nat.lt_of_le_of_lt (Nat.sub_le _ _) t.isLt)).2 := by
  rw [outsAt0_B m c t h0]
  dsimp only
  rw [out_B_eq]

/-- After every step the scratch holds the transposed weight. -/
theorem scratch (n : ℕ) (h : n < cfg0.N) (k : Fin 1024) (q : Fin 1024) :
    ((outsAt0 m c n h).2 : S1024x1024.Idx → EReal) (ix2 k q) = arg1 m c (ix2 q k) := by
  induction n with
  | zero =>
    refine (congrFun (scratch_A m c ⟨0, h⟩ (Nat.zero_mod _)) _).trans ?_
    rw [stored1, block1]
  | succ n ih =>
    have hn : n + 1 < 8 := h.trans_eq N_0
    have h0 : ¬(n + 1) % 8 = 0 := by omega
    exact (congrFun (scratch_B m c ⟨n + 1, h⟩ h0) _).trans (ih _)

/-- A step's block. -/
theorem step (t : Fin cfg0.N) (r : Fin 1024) (q : Fin 1024) (h : t.val * 1024 + r.val < 8192) :
    ((outsAt0 m c t.val t.isLt).1 : S1024x1024.Idx → EReal) (ix2 r q) = grad (arg1 m c) (arg2 m c) (ix2 ⟨t.val * 1024 + r.val, h⟩ q) := by
  have key : ∀ b : Vec Ideal S1024x1024 .bf16, (∀ k : Fin 1024, (b (ix2 k q) : EReal) = arg1 m c (ix2 q k)) →
      (k0_pay2 (iblk m c 0 t) b : S1024x1024.Idx → EReal) (ix2 r q) = grad (arg1 m c) (arg2 m c) (ix2 ⟨t.val * 1024 + r.val, h⟩ q) := fun b hb => by
    refine (stored2 _ _ r q).trans (Finset.sum_congr rfl fun k _ => ?_)
    rw [block0 m c t r k h, hb k]
    rfl
  by_cases h0 : t.val % 8 = 0
  · rw [block_A m c t h0]
    exact key _ fun k => by rw [stored1, block1]
  · rw [block_B m c t h0]
    exact key _ fun k => scratch m c _ _ k q

/-- The whole result. -/
theorem result : (dats m 0 c).arrAt 2 cfg0.N = grad (arg1 m c) (arg2 m c) := by
  have hcov : (cfg0.win 2).Covers := by decide +kernel
  refine (dats m 0 c).arrAt_eq_of_covers (2 : Fin cfg0.W) (grad (arg1 m c) (arg2 m c)) hcov (fun t hf y => ?_) (Memref.isWhole_whole _)
  refine Eq.trans (b := (dats m 0 c).after 2 t y) (by blk_simp) ?_
  rw [after0_2]
  have b0 : (y 0).val < 1024 := (y 0).isLt
  have ht : t.val < 8 := t.isLt.trans_eq N_0
  have e0 : ((((cfg0.win 2).blk t).view.emb y 0 : Fin _) : ℕ) = t.val * 1024 + (y 0).val := by blk_simp [index2]
  have e1 : ((((cfg0.win 2).blk t).view.emb y 1 : Fin _) : ℕ) = (y 1).val := by blk_simp [index2]
  refine ((congrArg _ (ValueIdx.eq_ix2 y)).trans (step m c t (y 0) (y 1) (by omega))).trans ?_
  have q0 : (⟨t.val * 1024 + (y 0).val, by omega⟩ : Fin 8192) = ((cfg0.win 2).blk t).view.emb y 0 := Fin.ext e0.symm
  have q1 : y 1 = ((cfg0.win 2).blk t).view.emb y 1 := Fin.ext e1.symm
  rw [q0, q1]
  rfl

end Cert.Kernel13Ideal.AttnBack

namespace Cert.Reference13Ideal.Read

open Cert.Reference13Ideal Cert.Reference13Ideal.Gen
open Idealize.ShloMosaic

theorem reference_value (x1 : S1024x1024.Idx → EReal) (x2 : S8192x1024.Idx → EReal) :
    val_main_v4 (F := Ideal) x1 x2 = Cert.Kernel13Ideal.AttnBack.grad x1 x2 := by
  funext i
  rw [val_main_v4_apply, val_main_v3_apply]
  simp only [val_main_v2_apply]
  have hl : ∀ k, lidx_main_v3 i k = ix2 (i 0) k := fun k => ext2 rfl rfl
  have hr : ∀ k, ridx_main_v3 i k = ix2 (i 1) k := fun k => ext2 rfl rfl
  simp only [hl, hr]
  rfl

end Cert.Reference13Ideal.Read

end
-- ==== Proof.GlaBack.lean ====
/-
  The gradient of the gated linear attention's values: the gradient of the output product against the weight. The weight is
  transposed at the first step into the kernel's scratch, which the further steps read.
-/
module

public import proofs.«01_k».proof.Proof.Gen.Kernel14Ideal.Value
public import proofs.«01_k».proof.Proof.Gen.Reference14Ideal.Read
public import proofs.«01_k».proof.Proof.Mlp

@[expose] public section

set_option maxRecDepth 16384

noncomputable section

namespace Cert.Kernel14Ideal.GlaBack

open Cert.Kernel14Ideal Cert.Kernel14Ideal.Gen
open Idealize.ShloMosaic Idealize.ShloMosaic.TcCoe
open Idealize.ShloMosaic.Pipeline (Window)
open scoped BigOperators

variable (m : (ℓ : Loc nD τ sig) → Buf (Elt Ideal) ℓ) (c : Dev nD)

/-- The arguments: the output weight and the gradient of the product. -/
abbrev arg1 : S1024x1024.Idx → EReal := m ((c.tc : Thread nD τ).loc main_arg1)
abbrev arg2 : S8192x1024.Idx → EReal := m ((c.tc : Thread nD τ).loc main_arg2)

/-- The gradient. -/
def grad (w : S1024x1024.Idx → EReal) (g : S8192x1024.Idx → EReal) : S8192x1024.Idx → EReal := fun i =>
  ∑ k : Fin 1024, g (ix2 (i 0) k) * w (ix2 (i 1) k)

theorem stored1 (x : Vec Ideal S1x1024x1024 .bf16) (k : Fin 1024) (q : Fin 1024) :
    (k0_pay1 x : S1024x1024.Idx → EReal) (ix2 k q) = x (ix3 0 q k) := by
  pointwise [k0_pay1]

theorem stored2 (x0 b : Vec Ideal S1024x1024 .bf16) (r : Fin 1024) (q : Fin 1024) :
    (k0_pay2 x0 b : S1024x1024.Idx → EReal) (ix2 r q) = ∑ k : Fin 1024, (x0 (ix2 r k) : EReal) * b (ix2 k q) := by
  pointwise [k0_pay2]

theorem V_weight (q : Fin 1024) (k : Fin 1024) : (V m c main_v1 : S1x1024x1024.Idx → EReal) (ix3 0 q k) = arg1 m c (ix2 q k) := by
  unfold V
  after_reads_at

theorem index0 : ∀ t : Fin cfg0.N, win0_0.index t = ![t.val, 0] := (by decide +kernel : ∀ t : Fin grid0.N, win0_0.index t = ![t.val, 0])
theorem index1 : ∀ t : Fin cfg0.N, win0_1.index t = ![0, 0, 0] := (by decide +kernel : ∀ t : Fin grid0.N, win0_1.index t = ![0, 0, 0])
theorem index2 : ∀ t : Fin cfg0.N, win0_2.index t = ![t.val, 0] := (by decide +kernel : ∀ t : Fin grid0.N, win0_2.index t = ![t.val, 0])

theorem block0 (t : Fin cfg0.N) (r : Fin 1024) (k : Fin 1024) (h : t.val * 1024 + r.val < 8192) :
    (iblk m c 0 t : S1024x1024.Idx → EReal) (ix2 r k) = arg2 m c (ix2 ⟨t.val * 1024 + r.val, h⟩ k) := by
  refine Eq.trans (b := V m c main_arg2 (((cfg0.win 0).blk t).view.emb (ix2 r k : S1024x1024.Idx))) rfl ?_
  exact Eq.trans (congrArg (V m c main_arg2) (a₂ := ix2 ⟨t.val * 1024 + r.val, h⟩ k) (ext2 (by show _ = t.val * 1024 + r.val; blk_simp [index0]) (by show _ = k.val; blk_simp [index0]))) (congrFun (V_main_arg2 m c) _)

theorem block1 (t : Fin cfg0.N) (k : Fin 1024) (q : Fin 1024) : (iblk m c 1 t : S1x1024x1024.Idx → EReal) (ix3 0 k q) = arg1 m c (ix2 k q) := by
  refine Eq.trans (b := V m c main_v1 (((cfg0.win 1).blk t).view.emb (ix3 0 k q : S1x1024x1024.Idx))) rfl ?_
  exact Eq.trans (congrArg (V m c main_v1) (a₂ := ix3 0 k q) (ext3 (only _ _) (by show _ = k.val; blk_simp [index1]) (by show _ = q.val; blk_simp [index1]))) (V_weight m c k q)

theorem hz2 : (![0, 0] : Fin 2 → Nat) = fun _ => 0 := funext fun a => by fin_cases a <;> rfl
theorem hz3 : (![0, 0, 0] : Fin 3 → Nat) = fun _ => 0 := funext fun a => by fin_cases a <;> rfl

section Steps

variable (i : grid0.Coords) (a2 : Memref sig .tc .vmem S1024x1024 .bf16) (h2 : a2.IsWhole) (a3 : Memref sig .tc .vmem S1x1024x1024 .bf16) (h3 : a3.IsWhole)
  (a4 : Memref sig .tc .vmem S1024x1024 .f32) (h4 : a4.IsWhole) (a5 : Memref sig .tc .vmem S1024x1024 .bf16) (h5 : a5.IsWhole)
  (x0 : Vec Ideal S1024x1024 .bf16) (x1 : Vec Ideal S1x1024x1024 .bf16) (b : Vec Ideal S1024x1024 .bf16)

/-- The first step's block. -/
theorem out_A_eq (hc : cond0_0 i) : out0_A_2 c i a2 h2 a3 h3 a4 h4 a5 h5 hc x0 x1 = k0_pay2 x0 (k0_pay1 x1) := by
  unfold out0_A_2
  rw [View.read_writes_eq_canon _ _ _ (cover0_A_2 c i a2 h2 a3 h3 a4 h4 a5 h5 hc x0 x1)]
  unfold kernelRun0_A
  dsimp only
  try sl_unfold_words
  rw [View.canon_unit_zero (S := S1024x1024) hz2]
  try rw [View.readCov_unit_zero (S := S1024x1024) _ hz2]
  simp only [View.readAt_eq_ld, h2.read_unread, h3.read_unread, View.ld_unit_zero (S := S1024x1024) hz2,
    View.ld_unit_zero (S := S1x1024x1024) hz3, shapeCast_self]

/-- The first step's scratch. -/
theorem sout_A_eq (hc : cond0_0 i) : sout0_A_0 c i a2 h2 a3 h3 a4 h4 a5 h5 hc x0 x1 = k0_pay1 x1 := by
  unfold sout0_A_0
  rw [View.read_writes_eq_canon _ _ _ (scover0_A_0 c i a2 h2 a3 h3 a4 h4 a5 h5 hc x0 x1)]
  unfold kernelRun0_A
  dsimp only
  try sl_unfold_words
  rw [View.canon_unit_zero (S := S1024x1024) hz2]
  simp only [View.readAt_eq_ld, h3.read_unread, View.ld_unit_zero (S := S1x1024x1024) hz3, shapeCast_self]

/-- A further step's block. -/
theorem out_B_eq (hc : ¬cond0_0 i) : out0_B_2 c i a2 h2 a3 h3 a4 h4 a5 h5 hc x0 x1 b = k0_pay2 x0 b := by
  unfold out0_B_2
  rw [View.read_writes_eq_canon _ _ _ (cover0_B_2 c i a2 h2 a3 h3 a4 h4 a5 h5 hc x0 x1 b)]
  unfold kernelRun0_B
  dsimp only
  try sl_unfold_words
  rw [View.canon_unit_zero (S := S1024x1024) hz2]
  simp only [View.readAt_eq_ld, h2.read_unread, h5.read_unread, View.ld_unit_zero (S := S1024x1024) hz2, shapeCast_self]

end Steps

theorem scratch_A (t : Fin cfg0.N) (h0 : t.val % 8 = 0) : (outsAt0 m c t.val t.isLt).2 = k0_pay1 (iblk m c 1 t) := by
  rw [outsAt0_A m c t h0]
  dsimp only
  rw [sout_A_eq]

theorem scratch_B (t : Fin cfg0.N) (h0 : ¬t.val % 8 = 0) :
    (outsAt0 m c t.val t.isLt).2 = (outsAt0 m c (t.val - 1) (Nat.lt_of_le_of_lt (Nat.sub_le _ _) t.isLt)).2 := by
  rw [outsAt0_B m c t h0]
  dsimp only [sout0_B_0]

theorem block_A (t : Fin cfg0.N) (h0 : t.val % 8 = 0) :
    (outsAt0 m c t.val t.isLt).1 = k0_pay2 (iblk m c 0 t) (k0_pay1 (iblk m c 1 t)) := by
  rw [outsAt0_A m c t h0]
  dsimp only
  rw [out_A_eq]

theorem block_B (t : Fin cfg0.N) (h0 : ¬t.val % 8 = 0) :
    (outsAt0 m c t.val t.isLt).1 = k0_pay2 (iblk m c 0 t) (outsAt0 m c (t.val - 1) (Nat.lt_of_le_of_lt (Nat.sub_le _ _) t.isLt)).2 := by
  rw [outsAt0_B m c t h0]
  dsimp only
  rw [out_B_eq]

/-- After every step the scratch holds the transposed weight. -/
theorem scratch (n : ℕ) (h : n < cfg0.N) (k : Fin 1024) (q : Fin 1024) :
    ((outsAt0 m c n h).2 : S1024x1024.Idx → EReal) (ix2 k q) = arg1 m c (ix2 q k) := by
  induction n with
  | zero =>
    refine (congrFun (scratch_A m c ⟨0, h⟩ (Nat.zero_mod _)) _).trans ?_
    rw [stored1, block1]
  | succ n ih =>
    have hn : n + 1 < 8 := h.trans_eq N_0
    have h0 : ¬(n + 1) % 8 = 0 := by omega
    exact (congrFun (scratch_B m c ⟨n + 1, h⟩ h0) _).trans (ih _)

/-- A step's block. -/
theorem step (t : Fin cfg0.N) (r : Fin 1024) (q : Fin 1024) (h : t.val * 1024 + r.val < 8192) :
    ((outsAt0 m c t.val t.isLt).1 : S1024x1024.Idx → EReal) (ix2 r q) = grad (arg1 m c) (arg2 m c) (ix2 ⟨t.val * 1024 + r.val, h⟩ q) := by
  have key : ∀ b : Vec Ideal S1024x1024 .bf16, (∀ k : Fin 1024, (b (ix2 k q) : EReal) = arg1 m c (ix2 q k)) →
      (k0_pay2 (iblk m c 0 t) b : S1024x1024.Idx → EReal) (ix2 r q) = grad (arg1 m c) (arg2 m c) (ix2 ⟨t.val * 1024 + r.val, h⟩ q) := fun b hb => by
    refine (stored2 _ _ r q).trans (Finset.sum_congr rfl fun k _ => ?_)
    rw [block0 m c t r k h, hb k]
    rfl
  by_cases h0 : t.val % 8 = 0
  · rw [block_A m c t h0]
    exact key _ fun k => by rw [stored1, block1]
  · rw [block_B m c t h0]
    exact key _ fun k => scratch m c _ _ k q

/-- The whole result. -/
theorem result : (dats m 0 c).arrAt 2 cfg0.N = grad (arg1 m c) (arg2 m c) := by
  have hcov : (cfg0.win 2).Covers := by decide +kernel
  refine (dats m 0 c).arrAt_eq_of_covers (2 : Fin cfg0.W) (grad (arg1 m c) (arg2 m c)) hcov (fun t hf y => ?_) (Memref.isWhole_whole _)
  refine Eq.trans (b := (dats m 0 c).after 2 t y) (by blk_simp) ?_
  rw [after0_2]
  have b0 : (y 0).val < 1024 := (y 0).isLt
  have ht : t.val < 8 := t.isLt.trans_eq N_0
  have e0 : ((((cfg0.win 2).blk t).view.emb y 0 : Fin _) : ℕ) = t.val * 1024 + (y 0).val := by blk_simp [index2]
  have e1 : ((((cfg0.win 2).blk t).view.emb y 1 : Fin _) : ℕ) = (y 1).val := by blk_simp [index2]
  refine ((congrArg _ (ValueIdx.eq_ix2 y)).trans (step m c t (y 0) (y 1) (by omega))).trans ?_
  have q0 : (⟨t.val * 1024 + (y 0).val, by omega⟩ : Fin 8192) = ((cfg0.win 2).blk t).view.emb y 0 := Fin.ext e0.symm
  have q1 : y 1 = ((cfg0.win 2).blk t).view.emb y 1 := Fin.ext e1.symm
  rw [q0, q1]
  rfl

end Cert.Kernel14Ideal.GlaBack

namespace Cert.Reference14Ideal.Read

open Cert.Reference14Ideal Cert.Reference14Ideal.Gen
open Idealize.ShloMosaic

theorem reference_value (x1 : S1024x1024.Idx → EReal) (x2 : S8192x1024.Idx → EReal) :
    val_main_v3 (F := Ideal) x1 x2 = Cert.Kernel14Ideal.GlaBack.grad x1 x2 := by
  funext i
  rw [val_main_v3_apply]
  simp only [val_main_v2_apply]
  have hl : ∀ k, lidx_main_v3 i k = ix2 (i 0) k := fun k => ext2 rfl rfl
  have hr : ∀ k, ridx_main_v3 i k = ix2 (i 1) k := fun k => ext2 rfl rfl
  simp only [hl, hr]
  rfl

end Cert.Reference14Ideal.Read

end
-- ==== Proof.NormBack.lean ====
/-
  The gradient of a row under the layer norm: the closed form, and the sum of the three ways in which the row enters its own norm.
-/
module

public import proofs.«01_k».proof.Proof.Norm

@[expose] public section

noncomputable section

namespace Cert.Norm

open Idealize.ShloMosaic
open scoped BigOperators

/-! ### Real entries -/

/-- The entry is a real number. -/
def IsReal (x : EReal) : Prop := ∃ r : ℝ, x = (r : EReal)

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {n : ℕ} {f : Fin n → EReal} (h : ∀ i, IsReal (f i)) : IsReal (∑ i, f i) := by
  choose r hr using h
  exact ⟨∑ i, r i, by rw [coe_sum]; exact Finset.sum_congr rfl fun i _ => hr i⟩

theorem width_coe : width = ((1024 : ℝ) : EReal) := by
  unfold width
  simp [Ideal.ofBits, Ideal.ieee]
  rw [← EReal.coe_mul]
  norm_num

/-- Two, and minus one half, as the gradients of the square and of the inverse square root carry them. -/
def two : EReal := Ideal.ofBits .f32 0x40000000#32
def minusHalf : EReal := Ideal.ofBits .f32 0xBF000000#32

theorem two_coe : two = ((2 : ℝ) : EReal) := by
  unfold two
  simp [Ideal.ofBits, Ideal.ieee]
  rw [← EReal.coe_mul]
  norm_num

theorem minusHalf_coe : minusHalf = ((-(1 / 2) : ℝ) : EReal) := by
  unfold minusHalf
  simp [Ideal.ofBits, Ideal.ieee]
  rw [← EReal.coe_mul]
  norm_num

theorem eps_coe : ∃ p : ℝ, 0 < p ∧ eps = (p : EReal) := by
  refine ⟨_, ?_, by unfold eps; simp only [Ideal.ofBits]; simp [Ideal.ieee]; rfl⟩
  positivity

theorem alpha_real : IsReal alpha := by
  refine ⟨_, by unfold alpha; simp only [Ideal.ofBits]; simp [Ideal.ieee]; rfl⟩

theorem one_real : IsReal one := ⟨1, by simp [one]⟩

/-! ### The gradient -/

/-- The inverse deviation of a row, and the row's normalised entries. -/
def rstd (z : Fin 1024 → EReal) : EReal := Ideal.rsqrt (var z + eps)
def hat (z : Fin 1024 → EReal) (k : Fin 1024) : EReal := dev z k * rstd z

/-- The gradient of the row from the gradient of its normalised entries. -/
def back (z e : Fin 1024 → EReal) (k : Fin 1024) : EReal :=
  rstd z * ((e k - mean e) - hat z k * mean (fun j => e j * hat z j))

/-- The gradient of the row's squared deviations. -/
def viaVar (z e : Fin 1024 → EReal) : EReal :=
  Ideal.div ((∑ j, dev z j * e j) * (minusHalf * Ideal.div (rstd z) (var z + eps))) width

/-- The gradient of the row as the chain rule gives it: through the deviations, through the variance, and through the mean of both. -/
def chained (z e : Fin 1024 → EReal) (k : Fin 1024) : EReal :=
  (e k * rstd z + viaVar z e * (two * dev z k))
    + Ideal.div ((∑ j, -(e j * rstd z)) + ∑ j, -(viaVar z e * (two * dev z j))) width

theorem div_width (a : ℝ) : Ideal.div (a : EReal) width = ((a / 1024 : ℝ) : EReal) := by
  rw [width_coe, Ideal.div_coe (by norm_num), ← EReal.coe_mul]
  congr 1
  ring

/-- On real rows the two are one. -/
theorem chained_eq_back (z e : Fin 1024 → EReal) (hz : ∀ k, IsReal (z k)) (he : ∀ k, IsReal (e k)) (k : Fin 1024) :
    chained z e k = back z e k := by
  choose x hx using hz
  choose d hd using he
  obtain rfl : z = fun k => (x k : EReal) := funext hx
  obtain rfl : e = fun k => (d k : EReal) := funext hd
  obtain ⟨p, hp, hpe⟩ := eps_coe
  have hmean : ∀ f : Fin 1024 → ℝ, mean (fun k => (f k : EReal)) = (((∑ k, f k) / 1024 : ℝ) : EReal) := fun f => by
    unfold mean
    rw [← coe_sum, div_width]
  set c : Fin 1024 → ℝ := fun k => x k - (∑ j, x j) / 1024 with hc
  have hdev : ∀ k, dev (fun k => (x k : EReal)) k = (c k : EReal) := fun k => by
    unfold dev
    rw [hmean, ← EReal.coe_sub]
  have hvar : var (fun k => (x k : EReal)) = (((∑ k, c k * c k) / 1024 : ℝ) : EReal) := by
    unfold var
    simp only [hdev, ← EReal.coe_mul]
    rw [← coe_sum, div_width]
  set v : ℝ := (∑ k, c k * c k) / 1024 + p with hv
  have hv0 : 0 < v := by
    have : 0 ≤ ∑ k, c k * c k := Finset.sum_nonneg fun k _ => mul_self_nonneg _
    positivity
  have hvp : var (fun k => (x k : EReal)) + eps = (v : EReal) := by rw [hvar, hpe, ← EReal.coe_add]
  set r : ℝ := (Real.sqrt v)⁻¹ with hr
  have hrr : r * r * v = 1 := by
    have hs : Real.sqrt v * Real.sqrt v = v := Real.mul_self_sqrt hv0.le
    have hs0 : Real.sqrt v ≠ 0 := (Real.sqrt_pos.2 hv0).ne'
    calc r * r * v = (Real.sqrt v)⁻¹ * (Real.sqrt v)⁻¹ * (Real.sqrt v * Real.sqrt v) := by rw [hs]
      _ = 1 := by field_simp
  have hrstd : rstd (fun k => (x k : EReal)) = (r : EReal) := by
    unfold rstd
    rw [hvp, Ideal.rsqrt_coe, if_neg (not_lt.2 hv0.le), if_neg hv0.ne']
  have hsum0 : ∑ k, c k = 0 := by
    rw [hc, Finset.sum_sub_distrib, Finset.sum_const, Finset.card_univ, Fintype.card_fin, nsmul_eq_mul]
    push_cast
    ring
  have hvia : viaVar (fun k => (x k : EReal)) (fun k => (d k : EReal)) = ((((∑ j, c j * d j) * (-(1 / 2) * (r / v))) / 1024 : ℝ) : EReal) := by
    unfold viaVar
    rw [hvp, hrstd, minusHalf_coe, Ideal.div_coe hv0.ne', ← EReal.coe_mul, ← EReal.coe_mul]
    simp only [hdev, ← EReal.coe_mul]
    rw [← coe_sum, ← EReal.coe_mul, div_width]
    congr 3
    ring
  have hrv : r / v = r * r * r := by
    rw [div_eq_iff hv0.ne']
    calc r = r * (r * r * v) := by rw [hrr, mul_one]
      _ = r * r * r * v := by ring
  set a : ℝ := ((∑ j, c j * d j) * (-(1 / 2) * (r / v))) / 1024 with ha
  unfold chained back hat
  rw [hvia, hrstd, two_coe]
  simp only [hdev, hmean, ← EReal.coe_mul, ← EReal.coe_neg, ← EReal.coe_sub]
  rw [← coe_sum, ← coe_sum, ← EReal.coe_add, ← EReal.coe_add, div_width, ← EReal.coe_add]
  congr 1
  have s1 : ∑ j, -(d j * r) = -((∑ j, d j) * r) := by rw [Finset.sum_neg_distrib, Finset.sum_mul]
  have s2 : ∑ j, -(a * (2 * c j)) = 0 := by
    rw [Finset.sum_neg_distrib, ← Finset.mul_sum, ← Finset.mul_sum, hsum0]
    ring
  have s3 : ∑ j, d j * (c j * r) = (∑ j, c j * d j) * r := by
    rw [Finset.sum_mul]
    exact Finset.sum_congr rfl fun j _ => by ring
  rw [s1, s2, s3, ha, hrv]
  ring

end Cert.Norm

end
-- ==== Proof.Rows.lean ====
/-
  Sums of a step kept in single rows of an 8 × 1024 block: the rows stored and loaded, and what a step adds to them.
-/
module

public import proofs.«01_k».proof.Proof.NormBack
public import Idealize.ShloMosaic.Lib.WritesUnit
public import Idealize.ShloMosaic.Lib.ValueIdx
public import Idealize.ShloMosaic.Lib.Pipeline.Value

@[expose] public section

noncomputable section

namespace Cert.Rows

open Cert.Norm
open Idealize.ShloMosaic Idealize.ShloMosaic.TcCoe
open scoped BigOperators

theorem hz2 : (![0, 0] : Fin 2 → Nat) = fun _ => 0 := funext fun a => by fin_cases a <;> rfl
theorem hz3 : (![0, 0, 0] : Fin 3 → Nat) = fun _ => 0 := funext fun a => by fin_cases a <;> rfl

/-- The row under the layer norm, with the gate's factor as the step reads it. -/
def gated (x y : (⟨2, ![512, 1024]⟩ : Shape).Idx → EReal) (gate : (⟨2, ![1, 1024]⟩ : Shape).Idx → EReal) (r : Fin 512) (k : Fin 1024) : EReal :=
  alpha * x (ix2 r k) + gate (ix2 0 k) * y (ix2 r k)

theorem row_hit {sig : RefSig} {κ : Kind} {sp : Space} (v : View sig κ sp (⟨2, ![8, 1024]⟩ : Shape) .f32) (f : v.ty.Contents (Elt Ideal)) (o : ℕ)
    (inb : ∀ a : Fin 2, (![o, 0] : Fin 2 → ℕ) a + (![1, 1024] : Fin 2 → ℕ) a ≤ (⟨2, ![8, 1024]⟩ : Shape).size a) (w : (⟨2, ![1, 1024]⟩ : Shape).Idx → EReal)
    (L : List (View.Piece (Elt Ideal) (⟨2, ![8, 1024]⟩ : Shape) .f32)) (s : Fin 8) (q : Fin 1024) (h : s.val = o) :
    v.read (Elt Ideal) (v.writes (Elt Ideal) f ((⟨Rect.unit (s := (⟨2, ![8, 1024]⟩ : Shape)) ![o, 0] ![1, 1024] inb, w⟩ : View.Piece (Elt Ideal) (⟨2, ![8, 1024]⟩ : Shape) .f32) :: L)) (ix2 s q)
      = w (ix2 0 q) :=
  View.read_writes_cons_rows_of_mem v f inb w L (ix2 s q) (ix2 0 q) rfl h rfl

theorem row_miss {sig : RefSig} {κ : Kind} {sp : Space} (v : View sig κ sp (⟨2, ![8, 1024]⟩ : Shape) .f32) (f : v.ty.Contents (Elt Ideal)) (o : ℕ)
    (inb : ∀ a : Fin 2, (![o, 0] : Fin 2 → ℕ) a + (![1, 1024] : Fin 2 → ℕ) a ≤ (⟨2, ![8, 1024]⟩ : Shape).size a) (w : (⟨2, ![1, 1024]⟩ : Shape).Idx → EReal)
    (L : List (View.Piece (Elt Ideal) (⟨2, ![8, 1024]⟩ : Shape) .f32)) (s : Fin 8) (q : Fin 1024) (h : s.val ≠ o) :
    v.read (Elt Ideal) (v.writes (Elt Ideal) f ((⟨Rect.unit (s := (⟨2, ![8, 1024]⟩ : Shape)) ![o, 0] ![1, 1024] inb, w⟩ : View.Piece (Elt Ideal) (⟨2, ![8, 1024]⟩ : Shape) .f32) :: L)) (ix2 s q)
      = v.read (Elt Ideal) (v.writes (Elt Ideal) f L) (ix2 s q) :=
  View.read_writes_cons_rows_of_not_mem v f inb w L (ix2 s q) rfl rfl (by show s.val < o ∨ o + 1 ≤ s.val; omega)

theorem all_hit {sig : RefSig} {κ : Kind} {sp : Space} (v : View sig κ sp (⟨2, ![8, 1024]⟩ : Shape) .f32) (f : v.ty.Contents (Elt Ideal))
    (inb : ∀ a : Fin 2, (![0, 0] : Fin 2 → ℕ) a + (![8, 1024] : Fin 2 → ℕ) a ≤ (⟨2, ![8, 1024]⟩ : Shape).size a) (w : (⟨2, ![8, 1024]⟩ : Shape).Idx → EReal)
    (L : List (View.Piece (Elt Ideal) (⟨2, ![8, 1024]⟩ : Shape) .f32)) (s : Fin 8) (q : Fin 1024) :
    v.read (Elt Ideal) (v.writes (Elt Ideal) f ((⟨Rect.unit (s := (⟨2, ![8, 1024]⟩ : Shape)) ![0, 0] ![8, 1024] inb, w⟩ : View.Piece (Elt Ideal) (⟨2, ![8, 1024]⟩ : Shape) .f32) :: L)) (ix2 s q)
      = w (ix2 s q) :=
  View.read_writes_cons_rows_of_mem v f inb w L (ix2 s q) (ix2 s q) rfl (Nat.zero_add _).symm rfl

/-- A row loaded from what the stores left. -/
theorem row_load {sig : RefSig} {κ : Kind} {sp : Space} (v : View sig κ sp (⟨2, ![8, 1024]⟩ : Shape) .f32) (o : ℕ)
    (inb : ∀ a : Fin 2, (![o, 0] : Fin 2 → ℕ) a + (![1, 1024] : Fin 2 → ℕ) a ≤ (⟨2, ![8, 1024]⟩ : Shape).size a)
    (L : List (View.Piece (Elt Ideal) (⟨2, ![8, 1024]⟩ : Shape) .f32)) (s : Fin 8) (q : Fin 1024) (h : s.val = o) :
    v.readCov L (Rect.unit (s := (⟨2, ![8, 1024]⟩ : Shape)) ![o, 0] ![1, 1024] inb).toLoadRect (ix2 0 q : (⟨2, ![1, 1024]⟩ : Shape).Idx)
      = v.read (Elt Ideal) (v.writes (Elt Ideal) v.junk L) (ix2 s q) := by
  refine congrArg (v.read (Elt Ideal) (v.writes (Elt Ideal) v.junk L)) (funext fun a => Fin.ext ?_)
  match a with
  | ⟨0, _⟩ => exact (by simpa using h.symm)
  | ⟨1, _⟩ => exact (by simp)

theorem row_ld (o' : (⟨2, ![8, 1024]⟩ : Shape).Idx → EReal) (o : ℕ)
    (inb : ∀ a : Fin 2, (![o, 0] : Fin 2 → ℕ) a + (![1, 1024] : Fin 2 → ℕ) a ≤ (⟨2, ![8, 1024]⟩ : Shape).size a) (s : Fin 8) (q : Fin 1024) (h : s.val = o) :
    View.ld (Val := Elt Ideal) (e' := .f32) o' (Rect.unit (s := (⟨2, ![8, 1024]⟩ : Shape)) ![o, 0] ![1, 1024] inb) (ix2 0 q : (⟨2, ![1, 1024]⟩ : Shape).Idx) = o' (ix2 s q) := by
  refine congrArg o' (funext fun a => Fin.ext ?_)
  match a with
  | ⟨0, _⟩ => exact (by simpa using h.symm)
  | ⟨1, _⟩ => exact (by simp)

/-- What a step leaves of the two rows of sums over the modulation, over what it finds. -/
def sumRows (u x3 : (⟨2, ![512, 1024]⟩ : Shape).Idx → EReal) (o : (⟨2, ![8, 1024]⟩ : Shape).Idx → EReal) (s : Fin 8) (q : Fin 1024) : EReal :=
  o (ix2 s q) + if s.val = 0 then ∑ r : Fin 512, u (ix2 r q) * x3 (ix2 r q) else if s.val = 1 then ∑ r : Fin 512, u (ix2 r q) else 0

/-- What a step leaves of the three rows of sums over the layer norm, over what it finds. -/
def normRows (d h z y : (⟨2, ![512, 1024]⟩ : Shape).Idx → EReal) (o : (⟨2, ![8, 1024]⟩ : Shape).Idx → EReal) (s : Fin 8) (q : Fin 1024) : EReal :=
  o (ix2 s q) + if s.val = 0 then ∑ r : Fin 512, d (ix2 r q) * h (ix2 r q)
    else if s.val = 1 then ∑ r : Fin 512, d (ix2 r q)
    else if s.val = 2 then ∑ r : Fin 512, z (ix2 r q) * y (ix2 r q) else 0

end Cert.Rows

end
-- ==== Proof.MlpBackStep.lean ====
/-
  One step of the gradient through the MLP's first product and the layer norm before it: the stored blocks by rows and columns.
-/
module

public import proofs.«01_k».proof.Proof.Gen.Kernel15Ideal.Value
public import proofs.«01_k».proof.Proof.Rows

@[expose] public section

set_option maxRecDepth 16384

noncomputable section

namespace Cert.Kernel15Ideal.MlpBack

open Cert.Kernel15Ideal Cert.Kernel15Ideal.Gen Cert.Mlp Cert.Norm Cert.Rows
open Idealize.ShloMosaic Idealize.ShloMosaic.TcCoe
open Idealize.ShloMosaic.Pipeline (Window)
open scoped BigOperators

/-! ### The payloads -/

theorem stored7 (x0 : Vec Ideal S512x4096 .bf16) (x1 : Vec Ideal S1x1024x4096 .bf16) (r : Fin 512) (q : Fin 1024) :
    (k0_pay7 x0 x1 : S512x1024.Idx → EReal) (ix2 r q) = ∑ k : Fin 4096, (x0 (ix2 r k) : EReal) * x1 (ix3 0 q k) := by
  pointwise [k0_pay7]

theorem stored8 (x0 : Vec Ideal S512x4096 .bf16) (x1 : Vec Ideal S1x1024x4096 .bf16) (x2 : Vec Ideal S512x1024 .f32) (x4 : Vec Ideal S1x1024 .f32)
    (r : Fin 512) (q : Fin 1024) :
    (k0_pay8 x0 x1 x2 x4 : S512x1024.Idx → EReal) (ix2 r q)
      = alpha * x2 (ix2 r q) + (k0_pay7 x0 x1 : S512x1024.Idx → EReal) (ix2 r q) * x4 (ix2 0 q) := by
  unfold k0_pay8
  generalize k0_pay7 x0 x1 = y
  pointwise
  rfl

theorem stored10 (x6 : Vec Ideal S512x1024 .bf16) (x5 : Vec Ideal S512x1024 .f32) (x7 : Vec Ideal S1x1024 .f32) (r : Fin 512) (q : Fin 1024) :
    (k0_pay10 x6 x5 x7 : S512x1024.Idx → EReal) (ix2 r q) = dev (gated x5 x6 x7 r) q := by
  pointwise [k0_pay10, k0_pay9]
  rfl

theorem stored11 (x6 : Vec Ideal S512x1024 .bf16) (x5 : Vec Ideal S512x1024 .f32) (x7 : Vec Ideal S1x1024 .f32) (r : Fin 512) :
    (k0_pay11 x6 x5 x7 : S512x1.Idx → EReal) (ix2 r 0) = ∑ k : Fin 1024, dev (gated x5 x6 x7 r) k * dev (gated x5 x6 x7 r) k := by
  have h := stored10 x6 x5 x7 r
  unfold k0_pay11
  generalize k0_pay10 x6 x5 x7 = y at h
  simp only [← h]
  pointwise

theorem stored12 (v : Vec Ideal S512x1 .f32) (r : Fin 512) :
    (k0_pay12 (F := Ideal) v (Scalar.ofBits .f32 0x44800000#32) : S512x1.Idx → EReal) (ix2 r 0) = Ideal.rsqrt (Ideal.div (v (ix2 r 0)) width + eps) := by
  pointwise [k0_pay12]
  rfl

theorem stored13 (z : Vec Ideal S512x1024 .f32) (v : Vec Ideal S512x1 .f32) (w : EReal) (r : Fin 512) (q : Fin 1024) :
    (k0_pay13 (F := Ideal) z v w : S512x1024.Idx → EReal) (ix2 r q) = z (ix2 r q) * (k0_pay12 (F := Ideal) v w : S512x1.Idx → EReal) (ix2 r 0) := by
  unfold k0_pay13
  generalize k0_pay12 (F := Ideal) v w = y
  pointwise

theorem stored14 (d z : Vec Ideal S512x1024 .f32) (v : Vec Ideal S512x1 .f32) (w : EReal) (g : Vec Ideal S1x1024 .f32) (r : Fin 512) (q : Fin 1024) :
    (k0_pay14 (F := Ideal) d z v w g : S512x1024.Idx → EReal) (ix2 r q)
      = (k0_pay12 (F := Ideal) v w : S512x1.Idx → EReal) (ix2 r 0)
        * (((d (ix2 r q) : EReal) * g (ix2 0 q) - mean (fun k => (d (ix2 r k) : EReal) * g (ix2 0 k)))
          - (k0_pay13 (F := Ideal) z v w : S512x1024.Idx → EReal) (ix2 r q)
            * mean (fun k => (d (ix2 r k) : EReal) * g (ix2 0 k) * (k0_pay13 (F := Ideal) z v w : S512x1024.Idx → EReal) (ix2 r k))) := by
  unfold k0_pay14
  generalize k0_pay12 (F := Ideal) v w = y
  generalize k0_pay13 (F := Ideal) z v w = y'
  pointwise
  rfl

theorem stored15 (d z : Vec Ideal S512x1024 .f32) (v : Vec Ideal S512x1 .f32) (w : EReal) (g gate : Vec Ideal S1x1024 .f32) (r : Fin 512) (q : Fin 1024) :
    (k0_pay15 (F := Ideal) d z v w g gate : S512x1024.Idx → EReal) (ix2 r q)
      = (gate (ix2 0 q) : EReal) * (k0_pay14 (F := Ideal) d z v w g : S512x1024.Idx → EReal) (ix2 r q) := by
  unfold k0_pay15
  generalize k0_pay14 (F := Ideal) d z v w g = y
  pointwise

theorem stored16 (d z : Vec Ideal S512x1024 .f32) (v : Vec Ideal S512x1 .f32) (w : EReal) (o : Vec Ideal S1x1024 .f32) (q : Fin 1024) :
    (k0_pay16 (F := Ideal) d z v w o : S1x1024.Idx → EReal) (ix2 0 q)
      = (o (ix2 0 q) : EReal) + ∑ r : Fin 512, (d (ix2 r q) : EReal) * (k0_pay13 (F := Ideal) z v w : S512x1024.Idx → EReal) (ix2 r q) := by
  unfold k0_pay16
  generalize k0_pay13 (F := Ideal) z v w = y'
  pointwise

theorem stored1 (d : Vec Ideal S512x1024 .f32) (o : Vec Ideal S1x1024 .f32) (q : Fin 1024) :
    (k0_pay1 (F := Ideal) d o : S1x1024.Idx → EReal) (ix2 0 q) = (o (ix2 0 q) : EReal) + ∑ r : Fin 512, (d (ix2 r q) : EReal) := by
  pointwise [k0_pay1]

theorem stored2 (y d : Vec Ideal S512x1024 .f32) (o : Vec Ideal S1x1024 .f32) (q : Fin 1024) :
    (k0_pay2 (F := Ideal) y d o : S1x1024.Idx → EReal) (ix2 0 q) = (o (ix2 0 q) : EReal) + ∑ r : Fin 512, (d (ix2 r q) : EReal) * y (ix2 r q) := by
  pointwise [k0_pay2]

theorem stored3 (u : Vec Ideal S512x1024 .f32) (o : Vec Ideal S1x1024 .f32) (x : Vec Ideal S512x1024 .f32) (q : Fin 1024) :
    (k0_pay3 (F := Ideal) u o x : S1x1024.Idx → EReal) (ix2 0 q) = (o (ix2 0 q) : EReal) + ∑ r : Fin 512, (u (ix2 r q) : EReal) * x (ix2 r q) := by
  pointwise [k0_pay3]

theorem stored4 (u : Vec Ideal S512x1024 .f32) (o : Vec Ideal S1x1024 .f32) (q : Fin 1024) :
    (k0_pay4 (F := Ideal) u o : S1x1024.Idx → EReal) (ix2 0 q) = (o (ix2 0 q) : EReal) + ∑ r : Fin 512, (u (ix2 r q) : EReal) := by
  pointwise [k0_pay4]

theorem stored5 (i : S8x1024.Idx) : (k0_pay5 (F := Ideal) : S8x1024.Idx → EReal) i = 0 := by
  refine (congrArg _ (ValueIdx.eq_ix2 i)).trans ?_
  pointwise [k0_pay5]

theorem stored6 (i : S8x1024.Idx) : (k0_pay6 (F := Ideal) : S8x1024.Idx → EReal) i = 0 := by
  refine (congrArg _ (ValueIdx.eq_ix2 i)).trans ?_
  pointwise [k0_pay6]

section Steps

variable (c : Dev nD) (i : grid0.Coords)
  (a1 : Memref sig .tc .vmem S512x4096 .bf16) (h1 : a1.IsWhole)
  (a2 : Memref sig .tc .vmem S1x1024x4096 .bf16) (h2 : a2.IsWhole)
  (a3 : Memref sig .tc .vmem S512x1024 .f32) (h3 : a3.IsWhole)
  (a4 : Memref sig .tc .vmem S512x1024 .f32) (h4 : a4.IsWhole)
  (a5 : Memref sig .tc .vmem S1x1024 .f32) (h5 : a5.IsWhole)
  (a6 : Memref sig .tc .vmem S512x1024 .f32) (h6 : a6.IsWhole)
  (a7 : Memref sig .tc .vmem S512x1024 .bf16) (h7 : a7.IsWhole)
  (a8 : Memref sig .tc .vmem S1x1024 .f32) (h8 : a8.IsWhole)
  (a9 : Memref sig .tc .vmem S1x1024 .f32) (h9 : a9.IsWhole)
  (a10 : Memref sig .tc .vmem S512x1024 .f32) (h10 : a10.IsWhole)
  (a11 : Memref sig .tc .vmem S512x1024 .bf16) (h11 : a11.IsWhole)
  (a12 : Memref sig .tc .vmem S8x1024 .f32) (h12 : a12.IsWhole)
  (a13 : Memref sig .tc .vmem S8x1024 .f32) (h13 : a13.IsWhole)
  (x0 : Vec Ideal S512x4096 .bf16) (x1 : Vec Ideal S1x1024x4096 .bf16) (x2 : Vec Ideal S512x1024 .f32) (x3 : Vec Ideal S512x1024 .f32) (x4 : Vec Ideal S1x1024 .f32) (x5 : Vec Ideal S512x1024 .f32) (x6 : Vec Ideal S512x1024 .bf16) (x7 : Vec Ideal S1x1024 .f32) (x8 : Vec Ideal S1x1024 .f32) (o11 o12 : Vec Ideal S8x1024 .f32)

/-- A step's gradient of the stream before the norm, of the row under it and of the sublayer's output. -/
abbrev stepU : Vec Ideal S512x1024 .f32 := k0_pay7 x0 x1
abbrev stepD : Vec Ideal S512x1024 .f32 := k0_pay8 x0 x1 x2 x4
abbrev stepZ : Vec Ideal S512x1024 .f32 := k0_pay14 (F := Ideal) (k0_pay8 x0 x1 x2 x4) (k0_pay10 x6 x5 x7) (k0_pay11 x6 x5 x7) (Scalar.ofBits .f32 0x44800000#32) x8
abbrev stepY : Vec Ideal S512x1024 .bf16 :=
  k0_pay15 (F := Ideal) (k0_pay8 x0 x1 x2 x4) (k0_pay10 x6 x5 x7) (k0_pay11 x6 x5 x7) (Scalar.ofBits .f32 0x44800000#32) x8 x7

/-- A step's normalised rows. -/
abbrev stepH : Vec Ideal S512x1024 .f32 := k0_pay13 (F := Ideal) (k0_pay10 x6 x5 x7) (k0_pay11 x6 x5 x7) (Scalar.ofBits .f32 0x44800000#32)

theorem out_A9_eq (hc : cond0_0 i) : out0_A_9 c i a1 h1 a2 h2 a3 h3 a4 h4 a5 h5 a6 h6 a7 h7 a8 h8 a9 h9 a10 h10 a11 h11 a12 h12 a13 h13 hc x0 x1 x2 x3 x4 x5 x6 x7 x8 = stepZ x0 x1 x2 x4 x5 x6 x7 x8 := by
  unfold out0_A_9
  rw [View.read_writes_eq_canon _ _ _ (cover0_A_9 c i a1 h1 a2 h2 a3 h3 a4 h4 a5 h5 a6 h6 a7 h7 a8 h8 a9 h9 a10 h10 a11 h11 a12 h12 a13 h13 hc x0 x1 x2 x3 x4 x5 x6 x7 x8)]
  unfold kernelRun0_A
  dsimp only
  try sl_unfold_words
  rw [View.canon_unit_zero (S := S512x1024) hz2]
  simp only [View.readAt_eq_ld, h1.read_unread, h2.read_unread, h3.read_unread, h4.read_unread, h5.read_unread, h6.read_unread, h7.read_unread,
    h8.read_unread, h9.read_unread, View.ld_unit_zero (S := S512x4096) hz2, View.ld_unit_zero (S := S1x1024x4096) hz3,
    View.ld_unit_zero (S := S512x1024) hz2, View.ld_unit_zero (S := S1x1024) hz2, shapeCast_self]

theorem out_A10_eq (hc : cond0_0 i) : out0_A_10 c i a1 h1 a2 h2 a3 h3 a4 h4 a5 h5 a6 h6 a7 h7 a8 h8 a9 h9 a10 h10 a11 h11 a12 h12 a13 h13 hc x0 x1 x2 x3 x4 x5 x6 x7 x8 = stepY x0 x1 x2 x4 x5 x6 x7 x8 := by
  unfold out0_A_10
  rw [View.read_writes_eq_canon _ _ _ (cover0_A_10 c i a1 h1 a2 h2 a3 h3 a4 h4 a5 h5 a6 h6 a7 h7 a8 h8 a9 h9 a10 h10 a11 h11 a12 h12 a13 h13 hc x0 x1 x2 x3 x4 x5 x6 x7 x8)]
  unfold kernelRun0_A
  dsimp only
  try sl_unfold_words
  rw [View.canon_unit_zero (S := S512x1024) hz2]
  simp only [View.readAt_eq_ld, h1.read_unread, h2.read_unread, h3.read_unread, h4.read_unread, h5.read_unread, h6.read_unread, h7.read_unread,
    h8.read_unread, h9.read_unread, View.ld_unit_zero (S := S512x4096) hz2, View.ld_unit_zero (S := S1x1024x4096) hz3,
    View.ld_unit_zero (S := S512x1024) hz2, View.ld_unit_zero (S := S1x1024) hz2, shapeCast_self]

theorem out_B9_eq (hc : ¬cond0_0 i) : out0_B_9 c i a1 h1 a2 h2 a3 h3 a4 h4 a5 h5 a6 h6 a7 h7 a8 h8 a9 h9 a10 h10 a11 h11 a12 h12 a13 h13 hc x0 x1 x2 x3 x4 x5 x6 x7 x8 o11 o12 = stepZ x0 x1 x2 x4 x5 x6 x7 x8 := by
  unfold out0_B_9
  rw [View.read_writes_eq_canon _ _ _ (cover0_B_9 c i a1 h1 a2 h2 a3 h3 a4 h4 a5 h5 a6 h6 a7 h7 a8 h8 a9 h9 a10 h10 a11 h11 a12 h12 a13 h13 hc x0 x1 x2 x3 x4 x5 x6 x7 x8 o11 o12)]
  unfold kernelRun0_B
  dsimp only
  try sl_unfold_words
  rw [View.canon_unit_zero (S := S512x1024) hz2]
  simp only [View.readAt_eq_ld, h1.read_unread, h2.read_unread, h3.read_unread, h4.read_unread, h5.read_unread, h6.read_unread, h7.read_unread,
    h8.read_unread, h9.read_unread, View.ld_unit_zero (S := S512x4096) hz2, View.ld_unit_zero (S := S1x1024x4096) hz3,
    View.ld_unit_zero (S := S512x1024) hz2, View.ld_unit_zero (S := S1x1024) hz2, shapeCast_self]

theorem out_B10_eq (hc : ¬cond0_0 i) : out0_B_10 c i a1 h1 a2 h2 a3 h3 a4 h4 a5 h5 a6 h6 a7 h7 a8 h8 a9 h9 a10 h10 a11 h11 a12 h12 a13 h13 hc x0 x1 x2 x3 x4 x5 x6 x7 x8 o11 o12 = stepY x0 x1 x2 x4 x5 x6 x7 x8 := by
  unfold out0_B_10
  rw [View.read_writes_eq_canon _ _ _ (cover0_B_10 c i a1 h1 a2 h2 a3 h3 a4 h4 a5 h5 a6 h6 a7 h7 a8 h8 a9 h9 a10 h10 a11 h11 a12 h12 a13 h13 hc x0 x1 x2 x3 x4 x5 x6 x7 x8 o11 o12)]
  unfold kernelRun0_B
  dsimp only
  try sl_unfold_words
  rw [View.canon_unit_zero (S := S512x1024) hz2]
  simp only [View.readAt_eq_ld, h1.read_unread, h2.read_unread, h3.read_unread, h4.read_unread, h5.read_unread, h6.read_unread, h7.read_unread,
    h8.read_unread, h9.read_unread, View.ld_unit_zero (S := S512x4096) hz2, View.ld_unit_zero (S := S1x1024x4096) hz3,
    View.ld_unit_zero (S := S512x1024) hz2, View.ld_unit_zero (S := S1x1024) hz2, shapeCast_self]

theorem out_A11_eq (hc : cond0_0 i) (s : Fin 8) (q : Fin 1024) : out0_A_11 c i a1 h1 a2 h2 a3 h3 a4 h4 a5 h5 a6 h6 a7 h7 a8 h8 a9 h9 a10 h10 a11 h11 a12 h12 a13 h13 hc x0 x1 x2 x3 x4 x5 x6 x7 x8 (ix2 s q) = sumRows (stepU x0 x1) x3 (fun _ => 0) s q := by
  unfold out0_A_11 kernelRun0_A sumRows
  dsimp only
  try sl_unfold_words
  simp only [View.readAt_eq_ld, h1.read_unread, h2.read_unread, h3.read_unread, h4.read_unread, h5.read_unread, h6.read_unread, h7.read_unread,
    h8.read_unread, h9.read_unread, View.ld_unit_zero (S := S512x4096) hz2, View.ld_unit_zero (S := S1x1024x4096) hz3,
    View.ld_unit_zero (S := S512x1024) hz2, View.ld_unit_zero (S := S1x1024) hz2, shapeCast_self]
  by_cases e0 : s.val = 0
  · have e := e0
    rw [if_pos e0, row_miss _ _ 1 _ _ _ s q (by omega), row_hit _ _ 0 _ _ _ s q e0, stored3, row_load _ 0 _ _ s q e, all_hit, stored5]
  · rw [if_neg e0]
    by_cases e : s.val = 1
    · rw [if_pos e, row_hit _ _ 1 _ _ _ s q e, stored4, row_load _ 1 _ _ s q e, row_miss _ _ 0 _ _ _ s q (by omega), all_hit, stored5]
    · rw [if_neg e, row_miss _ _ 1 _ _ _ s q (by omega), row_miss _ _ 0 _ _ _ s q (by omega), all_hit, stored5, add_zero]

theorem out_A12_eq (hc : cond0_0 i) (s : Fin 8) (q : Fin 1024) :
    out0_A_12 c i a1 h1 a2 h2 a3 h3 a4 h4 a5 h5 a6 h6 a7 h7 a8 h8 a9 h9 a10 h10 a11 h11 a12 h12 a13 h13 hc x0 x1 x2 x3 x4 x5 x6 x7 x8 (ix2 s q)
      = normRows (stepD x0 x1 x2 x4) (stepH x5 x6 x7) (stepZ x0 x1 x2 x4 x5 x6 x7 x8) x6 (fun _ => 0) s q := by
  unfold out0_A_12 kernelRun0_A normRows
  dsimp only
  try sl_unfold_words
  simp only [View.readAt_eq_ld, h1.read_unread, h2.read_unread, h3.read_unread, h4.read_unread, h5.read_unread, h6.read_unread, h7.read_unread,
    h8.read_unread, h9.read_unread, View.ld_unit_zero (S := S512x4096) hz2, View.ld_unit_zero (S := S1x1024x4096) hz3,
    View.ld_unit_zero (S := S512x1024) hz2, View.ld_unit_zero (S := S1x1024) hz2, shapeCast_self]
  by_cases e0 : s.val = 0
  · have e := e0
    rw [if_pos e0, row_miss _ _ 2 _ _ _ s q (by omega), row_miss _ _ 1 _ _ _ s q (by omega), row_hit _ _ 0 _ _ _ s q e0, stored16, row_load _ 0 _ _ s q e, all_hit, stored6]
  · rw [if_neg e0]
    by_cases e1 : s.val = 1
    · have e := e1
      rw [if_pos e, row_miss _ _ 2 _ _ _ s q (by omega), row_hit _ _ 1 _ _ _ s q e, stored1, row_load _ 1 _ _ s q e, row_miss _ _ 0 _ _ _ s q (by omega), all_hit, stored6]
    · rw [if_neg e1]
      by_cases e : s.val = 2
      · rw [if_pos e, row_hit _ _ 2 _ _ _ s q e, stored2, row_load _ 2 _ _ s q e, row_miss _ _ 1 _ _ _ s q (by omega), row_miss _ _ 0 _ _ _ s q (by omega), all_hit, stored6]
        rfl
      · rw [if_neg e, row_miss _ _ 2 _ _ _ s q (by omega), row_miss _ _ 1 _ _ _ s q (by omega), row_miss _ _ 0 _ _ _ s q (by omega), all_hit, stored6, add_zero]

theorem out_B11_eq (hc : ¬cond0_0 i) (s : Fin 8) (q : Fin 1024) : out0_B_11 c i a1 h1 a2 h2 a3 h3 a4 h4 a5 h5 a6 h6 a7 h7 a8 h8 a9 h9 a10 h10 a11 h11 a12 h12 a13 h13 hc x0 x1 x2 x3 x4 x5 x6 x7 x8 o11 o12 (ix2 s q) = sumRows (stepU x0 x1) x3 o11 s q := by
  unfold out0_B_11 kernelRun0_B sumRows
  dsimp only
  try sl_unfold_words
  simp only [View.readAt_eq_ld, h1.read_unread, h2.read_unread, h3.read_unread, h4.read_unread, h5.read_unread, h6.read_unread, h7.read_unread,
    h8.read_unread, h9.read_unread, View.ld_unit_zero (S := S512x4096) hz2, View.ld_unit_zero (S := S1x1024x4096) hz3,
    View.ld_unit_zero (S := S512x1024) hz2, View.ld_unit_zero (S := S1x1024) hz2, shapeCast_self]
  rw [h12.read_unread]
  by_cases e0 : s.val = 0
  · have e := e0
    rw [if_pos e0, row_miss _ _ 1 _ _ _ s q (by omega), row_hit _ _ 0 _ _ _ s q e0, stored3, row_ld _ 0 _ s q e]
  · rw [if_neg e0]
    by_cases e : s.val = 1
    · rw [if_pos e, row_hit _ _ 1 _ _ _ s q e, stored4, row_ld _ 1 _ s q e]
    · rw [if_neg e, row_miss _ _ 1 _ _ _ s q (by omega), row_miss _ _ 0 _ _ _ s q (by omega), View.writes_nil, h12.read_unread, add_zero]

theorem out_B12_eq (hc : ¬cond0_0 i) (s : Fin 8) (q : Fin 1024) :
    out0_B_12 c i a1 h1 a2 h2 a3 h3 a4 h4 a5 h5 a6 h6 a7 h7 a8 h8 a9 h9 a10 h10 a11 h11 a12 h12 a13 h13 hc x0 x1 x2 x3 x4 x5 x6 x7 x8 o11 o12 (ix2 s q)
      = normRows (stepD x0 x1 x2 x4) (stepH x5 x6 x7) (stepZ x0 x1 x2 x4 x5 x6 x7 x8) x6 o12 s q := by
  unfold out0_B_12 kernelRun0_B normRows
  dsimp only
  try sl_unfold_words
  simp only [View.readAt_eq_ld, h1.read_unread, h2.read_unread, h3.read_unread, h4.read_unread, h5.read_unread, h6.read_unread, h7.read_unread,
    h8.read_unread, h9.read_unread, View.ld_unit_zero (S := S512x4096) hz2, View.ld_unit_zero (S := S1x1024x4096) hz3,
    View.ld_unit_zero (S := S512x1024) hz2, View.ld_unit_zero (S := S1x1024) hz2, shapeCast_self]
  rw [h13.read_unread]
  by_cases e0 : s.val = 0
  · have e := e0
    rw [if_pos e0, row_miss _ _ 2 _ _ _ s q (by omega), row_miss _ _ 1 _ _ _ s q (by omega), row_hit _ _ 0 _ _ _ s q e0, stored16, row_ld _ 0 _ s q e]
  · rw [if_neg e0]
    by_cases e1 : s.val = 1
    · have e := e1
      rw [if_pos e, row_miss _ _ 2 _ _ _ s q (by omega), row_hit _ _ 1 _ _ _ s q e, stored1, row_ld _ 1 _ s q e]
    · rw [if_neg e1]
      by_cases e : s.val = 2
      · rw [if_pos e, row_hit _ _ 2 _ _ _ s q e, stored2, row_ld _ 2 _ s q e]
        rfl
      · rw [if_neg e, row_miss _ _ 2 _ _ _ s q (by omega), row_miss _ _ 1 _ _ _ s q (by omega), row_miss _ _ 0 _ _ _ s q (by omega), View.writes_nil, h13.read_unread, add_zero]

end Steps

end Cert.Kernel15Ideal.MlpBack

end
-- ==== Proof.MlpBackSpec.lean ====
/-
  The gradient through a block's first product, the modulation and the layer norm before it, in numbers.
-/
module

public import proofs.«01_k».proof.Proof.NormBack
public import Idealize.ShloMosaic.Lib.ValueIdx

@[expose] public section

noncomputable section

namespace Cert.MlpBack

open Idealize.ShloMosaic Idealize.ShloMosaic.TcCoe Cert.Norm
open scoped BigOperators

/-- The arguments: the stream and the sublayer's output before the norm, the gate, the norm's scale and shift, the modulation's scale,
the gradient of the stream after the norm, and the gradient of the block's input, which is a product. -/
structure In where
  x : Fin 8192 → Fin 1024 → EReal
  y : Fin 8192 → Fin 1024 → EReal
  gate : Fin 1024 → EReal
  g : Fin 1024 → EReal
  b : Fin 1024 → EReal
  sc : Fin 1024 → EReal
  dz2 : Fin 8192 → Fin 1024 → EReal
  du : Fin 8192 → Fin 1024 → EReal

/-- The gradient of a product's left factor: the product's gradient over the weight, by its columns. -/
def product {n : ℕ} (d : Fin 8192 → Fin n → EReal) (w : (⟨2, ![1024, n]⟩ : Shape).Idx → EReal) (s : Fin 8192) (k : Fin 1024) : EReal :=
  ∑ j : Fin n, d s j * w (ix2 k j)

/-- The arguments as arrays hold them. -/
def ofArrays (x y : (⟨2, ![8192, 1024]⟩ : Shape).Idx → EReal) (gate g b sc : (⟨2, ![1, 1024]⟩ : Shape).Idx → EReal)
    (dz2 : (⟨2, ![8192, 1024]⟩ : Shape).Idx → EReal) (du : Fin 8192 → Fin 1024 → EReal) : In where
  x s k := x (ix2 s k)
  y s k := y (ix2 s k)
  gate k := gate (ix2 0 k)
  g k := g (ix2 0 k)
  b k := b (ix2 0 k)
  sc k := sc (ix2 0 k)
  dz2 s k := dz2 (ix2 s k)
  du := du

namespace In

variable (I : In)

/-- The row under the layer norm, and the stream after it. -/
def row (s : Fin 8192) : Fin 1024 → EReal := mixed (I.x s) I.gate (I.y s)
def mid (s : Fin 8192) (k : Fin 1024) : EReal := normed (I.row s) I.g I.b k

/-- The gradients: of the stream after the norm, of the normalised rows, of the rows under the norm, and of the
sublayer's output. -/
def dxo (s : Fin 8192) (k : Fin 1024) : EReal := alpha * I.dz2 s k + I.du s k * (one + I.sc k)
def dhat (s : Fin 8192) (k : Fin 1024) : EReal := I.dxo s k * I.g k
def dz (s : Fin 8192) (k : Fin 1024) : EReal := back (I.row s) (I.dhat s) k
def dy (s : Fin 8192) (k : Fin 1024) : EReal := (one + I.gate k) * I.dz s k

/-- One position's part of the sums over the modulation: the gradients of its scale and of its shift, and rows of zeros. -/
def sumPart (r : Fin 8) (q : Fin 1024) (s : Fin 8192) : EReal :=
  if r.val = 0 then I.du s q * I.mid s q else if r.val = 1 then I.du s q else 0

/-- One position's part of the sums over the norm: the gradients of its scale, of its shift and of the gate, and rows of zeros. -/
def normPart (r : Fin 8) (q : Fin 1024) (s : Fin 8192) : EReal :=
  if r.val = 0 then I.dxo s q * hat (I.row s) q else if r.val = 1 then I.dxo s q
  else if r.val = 2 then I.dz s q * I.y s q else 0

/-- The results, as arrays. -/
def zArr : (⟨2, ![8192, 1024]⟩ : Shape).Idx → EReal := fun i => I.dz (i 0) (i 1)
def yArr : (⟨2, ![8192, 1024]⟩ : Shape).Idx → EReal := fun i => I.dy (i 0) (i 1)
def sumArr : (⟨2, ![8, 1024]⟩ : Shape).Idx → EReal := fun i => ∑ s : Fin 8192, I.sumPart (i 0) (i 1) s
def normArr : (⟨2, ![8, 1024]⟩ : Shape).Idx → EReal := fun i => ∑ s : Fin 8192, I.normPart (i 0) (i 1) s

/-- The entries of the rows under the norm and of their normalised rows' gradient are real numbers. -/
def Real : Prop := (∀ s k, IsReal (I.row s k)) ∧ ∀ s k, IsReal (I.dhat s k)

end In

theorem product_real {n : ℕ} (d : Fin 8192 → Fin n → EReal) (w : (⟨2, ![1024, n]⟩ : Shape).Idx → EReal) (hd : ∀ s j, IsReal (d s j)) (hw : ∀ i, IsReal (w i))
    (s : Fin 8192) (k : Fin 1024) : IsReal (product d w s k) :=
  IsReal.sum fun j => (hd s j).mul (hw _)

theorem real_of (x y : (⟨2, ![8192, 1024]⟩ : Shape).Idx → EReal) (gate g b sc : (⟨2, ![1, 1024]⟩ : Shape).Idx → EReal)
    (dz2 : (⟨2, ![8192, 1024]⟩ : Shape).Idx → EReal) (du : Fin 8192 → Fin 1024 → EReal) (hx : ∀ i, IsReal (x i)) (hy : ∀ i, IsReal (y i))
    (hgate : ∀ i, IsReal (gate i)) (hg : ∀ i, IsReal (g i)) (hsc : ∀ i, IsReal (sc i)) (hz : ∀ i, IsReal (dz2 i)) (hu : ∀ s k, IsReal (du s k)) :
    (ofArrays x y gate g b sc dz2 du).Real :=
  ⟨fun _ _ => (alpha_real.mul (hx _)).add ((one_real.add (hgate _)).mul (hy _)),
    fun _ _ => (((alpha_real.mul (hz _)).add ((hu _ _).mul (one_real.add (hsc _)))).mul (hg _))⟩

end Cert.MlpBack

end
-- ==== Proof.MlpBack.lean ====
/-
  The gradient through the MLP's first product and the layer norm before it: what the steps read and what they leave.
-/
module

public import proofs.«01_k».proof.Proof.Index
public import proofs.«01_k».proof.Proof.MlpBackStep
public import proofs.«01_k».proof.Proof.MlpBackSpec

@[expose] public section

set_option maxRecDepth 16384

noncomputable section

namespace Cert.Kernel15Ideal.MlpBack

open Cert.Kernel15Ideal Cert.Kernel15Ideal.Gen Cert.Mlp Cert.Norm Cert.Rows
open Idealize.ShloMosaic Idealize.ShloMosaic.TcCoe
open Idealize.ShloMosaic.Pipeline (Window)
open scoped BigOperators

variable (m : (ℓ : Loc nD τ sig) → Buf (Elt Ideal) ℓ) (c : Dev nD)

/-- The arguments. -/
abbrev arg0 : S8192x1024.Idx → EReal := m ((c.tc : Thread nD τ).loc main_arg0)
abbrev arg1 : S8192x1024.Idx → EReal := m ((c.tc : Thread nD τ).loc main_arg1)
abbrev arg2 : S1x1024.Idx → EReal := m ((c.tc : Thread nD τ).loc main_arg2)
abbrev arg3 : S1x1024.Idx → EReal := m ((c.tc : Thread nD τ).loc main_arg3)
abbrev arg4 : S1x1024.Idx → EReal := m ((c.tc : Thread nD τ).loc main_arg4)
abbrev arg5 : S1x1024.Idx → EReal := m ((c.tc : Thread nD τ).loc main_arg5)
abbrev arg7 : S1024x4096.Idx → EReal := m ((c.tc : Thread nD τ).loc main_arg7)
abbrev arg8 : S8192x1024.Idx → EReal := m ((c.tc : Thread nD τ).loc main_arg8)
abbrev arg9 : S8192x4096.Idx → EReal := m ((c.tc : Thread nD τ).loc main_arg9)

/-- The arguments, in numbers. -/
def inputs : Cert.MlpBack.In := Cert.MlpBack.ofArrays (arg0 m c) (arg1 m c) (arg2 m c) (arg3 m c) (arg4 m c) (arg5 m c) (arg8 m c)
  (Cert.MlpBack.product (fun s j => arg9 m c (ix2 s j)) (arg7 m c))

theorem V_weight (k : Fin 1024) (q : Fin 4096) : (V m c main_v1 : S1x1024x4096.Idx → EReal) (ix3 0 k q) = arg7 m c (ix2 k q) := by
  unfold V
  after_reads_at

theorem V_scale (q : Fin 1024) : (V m c main_v31 : S1x1024.Idx → EReal) (ix2 0 q) = one + (inputs m c).sc q := by
  unfold V
  after_reads_at
  rfl

theorem V_gate (q : Fin 1024) : (V m c main_v33 : S1x1024.Idx → EReal) (ix2 0 q) = one + (inputs m c).gate q := by
  unfold V
  after_reads_at
  rfl

theorem V_mid (s : Fin 8192) (k : Fin 1024) : (V m c main_v29 : S8192x1024.Idx → EReal) (ix2 s k) = (inputs m c).mid s k := by
  unfold V
  after_reads_at
  rfl

theorem index0 : ∀ t : Fin cfg0.N, win0_0.index t = ![t.val, 0] := (by decide +kernel : ∀ t : Fin grid0.N, win0_0.index t = ![t.val, 0])
theorem index1 : ∀ t : Fin cfg0.N, win0_1.index t = ![0, 0, 0] := (by decide +kernel : ∀ t : Fin grid0.N, win0_1.index t = ![0, 0, 0])
theorem index2 : ∀ t : Fin cfg0.N, win0_2.index t = ![t.val, 0] := (by decide +kernel : ∀ t : Fin grid0.N, win0_2.index t = ![t.val, 0])
theorem index3 : ∀ t : Fin cfg0.N, win0_3.index t = ![t.val, 0] := (by decide +kernel : ∀ t : Fin grid0.N, win0_3.index t = ![t.val, 0])
theorem index4 : ∀ t : Fin cfg0.N, win0_4.index t = ![0, 0] := (by decide +kernel : ∀ t : Fin grid0.N, win0_4.index t = ![0, 0])
theorem index5 : ∀ t : Fin cfg0.N, win0_5.index t = ![t.val, 0] := (by decide +kernel : ∀ t : Fin grid0.N, win0_5.index t = ![t.val, 0])
theorem index6 : ∀ t : Fin cfg0.N, win0_6.index t = ![t.val, 0] := (by decide +kernel : ∀ t : Fin grid0.N, win0_6.index t = ![t.val, 0])
theorem index7 : ∀ t : Fin cfg0.N, win0_7.index t = ![0, 0] := (by decide +kernel : ∀ t : Fin grid0.N, win0_7.index t = ![0, 0])
theorem index8 : ∀ t : Fin cfg0.N, win0_8.index t = ![0, 0] := (by decide +kernel : ∀ t : Fin grid0.N, win0_8.index t = ![0, 0])
theorem index9 : ∀ t : Fin cfg0.N, win0_9.index t = ![t.val, 0] := (by decide +kernel : ∀ t : Fin grid0.N, win0_9.index t = ![t.val, 0])
theorem index10 : ∀ t : Fin cfg0.N, win0_10.index t = ![t.val, 0] := (by decide +kernel : ∀ t : Fin grid0.N, win0_10.index t = ![t.val, 0])
theorem index11 : ∀ t : Fin cfg0.N, win0_11.index t = ![0, 0] := (by decide +kernel : ∀ t : Fin grid0.N, win0_11.index t = ![0, 0])
theorem index12 : ∀ t : Fin cfg0.N, win0_12.index t = ![0, 0] := (by decide +kernel : ∀ t : Fin grid0.N, win0_12.index t = ![0, 0])

theorem block0 (t : Fin cfg0.N) (r : Fin 512) (k : Fin 4096) (h : t.val * 512 + r.val < 8192) :
    (iblk m c 0 t : S512x4096.Idx → EReal) (ix2 r k) = arg9 m c (ix2 ⟨t.val * 512 + r.val, h⟩ k) := by
  refine Eq.trans (b := V m c main_arg9 (((cfg0.win 0).blk t).view.emb (ix2 r k : S512x4096.Idx))) rfl ?_
  exact Eq.trans (congrArg (V m c main_arg9) (a₂ := ix2 ⟨t.val * 512 + r.val, h⟩ k) (ext2 (by show _ = t.val * 512 + r.val; blk_simp [index0]) (by show _ = k.val; blk_simp [index0]))) (congrFun (V_main_arg9 m c) _)

theorem block1 (t : Fin cfg0.N) (k : Fin 1024) (q : Fin 4096) : (iblk m c 1 t : S1x1024x4096.Idx → EReal) (ix3 0 k q) = arg7 m c (ix2 k q) := by
  refine Eq.trans (b := V m c main_v1 (((cfg0.win 1).blk t).view.emb (ix3 0 k q : S1x1024x4096.Idx))) rfl ?_
  exact Eq.trans (congrArg (V m c main_v1) (a₂ := ix3 0 k q) (ext3 (only _ _) (by show _ = k.val; blk_simp [index1]) (by show _ = q.val; blk_simp [index1]))) (V_weight m c k q)

theorem block2 (t : Fin cfg0.N) (r : Fin 512) (k : Fin 1024) (h : t.val * 512 + r.val < 8192) :
    (iblk m c 2 t : S512x1024.Idx → EReal) (ix2 r k) = (inputs m c).dz2 ⟨t.val * 512 + r.val, h⟩ k := by
  refine Eq.trans (b := V m c main_arg8 (((cfg0.win 2).blk t).view.emb (ix2 r k : S512x1024.Idx))) rfl ?_
  exact Eq.trans (congrArg (V m c main_arg8) (a₂ := ix2 ⟨t.val * 512 + r.val, h⟩ k) (ext2 (by show _ = t.val * 512 + r.val; blk_simp [index2]) (by show _ = k.val; blk_simp [index2]))) (congrFun (V_main_arg8 m c) _)

theorem block3 (t : Fin cfg0.N) (r : Fin 512) (k : Fin 1024) (h : t.val * 512 + r.val < 8192) :
    (iblk m c 3 t : S512x1024.Idx → EReal) (ix2 r k) = (inputs m c).mid ⟨t.val * 512 + r.val, h⟩ k := by
  refine Eq.trans (b := V m c main_v29 (((cfg0.win 3).blk t).view.emb (ix2 r k : S512x1024.Idx))) rfl ?_
  exact Eq.trans (congrArg (V m c main_v29) (a₂ := ix2 ⟨t.val * 512 + r.val, h⟩ k) (ext2 (by show _ = t.val * 512 + r.val; blk_simp [index3]) (by show _ = k.val; blk_simp [index3]))) (V_mid m c _ k)

theorem block4 (t : Fin cfg0.N) (q : Fin 1024) : (iblk m c 4 t : S1x1024.Idx → EReal) (ix2 0 q) = one + (inputs m c).sc q := by
  refine Eq.trans (b := V m c main_v31 (((cfg0.win 4).blk t).view.emb (ix2 0 q : S1x1024.Idx))) rfl ?_
  exact Eq.trans (congrArg (V m c main_v31) (a₂ := ix2 0 q) (ext2 (only _ _) (by show _ = q.val; blk_simp [index4]))) (V_scale m c q)

theorem block5 (t : Fin cfg0.N) (r : Fin 512) (k : Fin 1024) (h : t.val * 512 + r.val < 8192) :
    (iblk m c 5 t : S512x1024.Idx → EReal) (ix2 r k) = (inputs m c).x ⟨t.val * 512 + r.val, h⟩ k := by
  refine Eq.trans (b := V m c main_arg0 (((cfg0.win 5).blk t).view.emb (ix2 r k : S512x1024.Idx))) rfl ?_
  exact Eq.trans (congrArg (V m c main_arg0) (a₂ := ix2 ⟨t.val * 512 + r.val, h⟩ k) (ext2 (by show _ = t.val * 512 + r.val; blk_simp [index5]) (by show _ = k.val; blk_simp [index5]))) (congrFun (V_main_arg0 m c) _)

theorem block6 (t : Fin cfg0.N) (r : Fin 512) (k : Fin 1024) (h : t.val * 512 + r.val < 8192) :
    (iblk m c 6 t : S512x1024.Idx → EReal) (ix2 r k) = (inputs m c).y ⟨t.val * 512 + r.val, h⟩ k := by
  refine Eq.trans (b := V m c main_arg1 (((cfg0.win 6).blk t).view.emb (ix2 r k : S512x1024.Idx))) rfl ?_
  exact Eq.trans (congrArg (V m c main_arg1) (a₂ := ix2 ⟨t.val * 512 + r.val, h⟩ k) (ext2 (by show _ = t.val * 512 + r.val; blk_simp [index6]) (by show _ = k.val; blk_simp [index6]))) (congrFun (V_main_arg1 m c) _)

theorem block7 (t : Fin cfg0.N) (q : Fin 1024) : (iblk m c 7 t : S1x1024.Idx → EReal) (ix2 0 q) = one + (inputs m c).gate q := by
  refine Eq.trans (b := V m c main_v33 (((cfg0.win 7).blk t).view.emb (ix2 0 q : S1x1024.Idx))) rfl ?_
  exact Eq.trans (congrArg (V m c main_v33) (a₂ := ix2 0 q) (ext2 (only _ _) (by show _ = q.val; blk_simp [index7]))) (V_gate m c q)

theorem block8 (t : Fin cfg0.N) (q : Fin 1024) : (iblk m c 8 t : S1x1024.Idx → EReal) (ix2 0 q) = (inputs m c).g q := by
  refine Eq.trans (b := V m c main_arg3 (((cfg0.win 8).blk t).view.emb (ix2 0 q : S1x1024.Idx))) rfl ?_
  exact Eq.trans (congrArg (V m c main_arg3) (a₂ := ix2 0 q) (ext2 (only _ _) (by show _ = q.val; blk_simp [index8]))) (congrFun (V_main_arg3 m c) _)

/-! ### A step's values -/

/-- A step's arrays, of the blocks it reads: the gradients of the block's input and of the norm's output, the normed row, and the gradients
of the stream and of the sublayer's output. -/
abbrev atU (t : Fin cfg0.N) : S512x1024.Idx → EReal := stepU (iblk m c 0 t) (iblk m c 1 t)
abbrev atD (t : Fin cfg0.N) : S512x1024.Idx → EReal := stepD (iblk m c 0 t) (iblk m c 1 t) (iblk m c 2 t) (iblk m c 4 t)
abbrev atH (t : Fin cfg0.N) : S512x1024.Idx → EReal := stepH (iblk m c 5 t) (iblk m c 6 t) (iblk m c 7 t)
abbrev atZ (t : Fin cfg0.N) : S512x1024.Idx → EReal := stepZ (iblk m c 0 t) (iblk m c 1 t) (iblk m c 2 t) (iblk m c 4 t) (iblk m c 5 t) (iblk m c 6 t) (iblk m c 7 t) (iblk m c 8 t)
abbrev atY (t : Fin cfg0.N) : S512x1024.Idx → EReal := stepY (iblk m c 0 t) (iblk m c 1 t) (iblk m c 2 t) (iblk m c 4 t) (iblk m c 5 t) (iblk m c 6 t) (iblk m c 7 t) (iblk m c 8 t)

theorem step_du (t : Fin cfg0.N) (r : Fin 512) (q : Fin 1024) (h : t.val * 512 + r.val < 8192) : atU m c t (ix2 r q) = (inputs m c).du ⟨t.val * 512 + r.val, h⟩ q := by
  change _ = ∑ k : Fin 4096, arg9 m c (ix2 ⟨t.val * 512 + r.val, h⟩ k) * arg7 m c (ix2 q k)
  refine (stored7 _ _ r q).trans (Finset.sum_congr rfl fun k _ => ?_)
  rw [block0 m c t r k h, block1 m c t q k]

theorem step_dxo (t : Fin cfg0.N) (r : Fin 512) (q : Fin 1024) (h : t.val * 512 + r.val < 8192) : atD m c t (ix2 r q) = (inputs m c).dxo ⟨t.val * 512 + r.val, h⟩ q := by
  refine (stored8 _ _ _ _ r q).trans ?_
  exact congrArg₂ (· + ·) (congrArg (alpha * ·) (block2 m c t r q h)) (congrArg₂ (· * ·) (step_du m c t r q h) (block4 m c t q))

theorem step_row (t : Fin cfg0.N) (r : Fin 512) (h : t.val * 512 + r.val < 8192) :
    gated (iblk m c 5 t) (iblk m c 6 t) (iblk m c 7 t) r = (inputs m c).row ⟨t.val * 512 + r.val, h⟩ := by
  funext k
  unfold gated
  rw [block5 m c t r k h, block6 m c t r k h, block7 m c t k]
  rfl

theorem step_rstd (t : Fin cfg0.N) (r : Fin 512) (h : t.val * 512 + r.val < 8192) :
    (k0_pay12 (F := Ideal) (k0_pay11 (iblk m c 6 t) (iblk m c 5 t) (iblk m c 7 t)) (Scalar.ofBits .f32 0x44800000#32) : S512x1.Idx → EReal) (ix2 r 0)
      = rstd ((inputs m c).row ⟨t.val * 512 + r.val, h⟩) := by
  rw [stored12, stored11, step_row m c t r h]
  rfl

theorem step_hat (t : Fin cfg0.N) (r : Fin 512) (q : Fin 1024) (h : t.val * 512 + r.val < 8192) : atH m c t (ix2 r q) = hat ((inputs m c).row ⟨t.val * 512 + r.val, h⟩) q := by
  refine (stored13 _ _ _ r q).trans ?_
  rw [step_rstd m c t r h, stored10, step_row m c t r h]
  rfl

theorem step_dz (t : Fin cfg0.N) (r : Fin 512) (q : Fin 1024) (h : t.val * 512 + r.val < 8192) : atZ m c t (ix2 r q) = (inputs m c).dz ⟨t.val * 512 + r.val, h⟩ q := by
  refine (stored14 _ _ _ _ _ r q).trans ?_
  have hd : ∀ k : Fin 1024, atD m c t (ix2 r k) * (iblk m c 8 t : S1x1024.Idx → EReal) (ix2 0 k) = (inputs m c).dhat ⟨t.val * 512 + r.val, h⟩ k := fun k => by
    rw [step_dxo m c t r k h, block8 m c t k]
    rfl
  have hh : ∀ k : Fin 1024, atH m c t (ix2 r k) = hat ((inputs m c).row ⟨t.val * 512 + r.val, h⟩) k := fun k => step_hat m c t r k h
  unfold Cert.MlpBack.In.dz back
  rw [step_rstd m c t r h]
  refine congrArg (rstd _ * ·) (congrArg₂ (· - ·) (congrArg₂ (· - ·) (hd q) (congrArg mean (funext hd))) (congrArg₂ (· * ·) (hh q) (congrArg mean (funext fun k => ?_))))
  exact congrArg₂ (· * ·) (hd k) (hh k)

theorem step_dy (t : Fin cfg0.N) (r : Fin 512) (q : Fin 1024) (h : t.val * 512 + r.val < 8192) : atY m c t (ix2 r q) = (inputs m c).dy ⟨t.val * 512 + r.val, h⟩ q := by
  refine (stored15 _ _ _ _ _ _ r q).trans ?_
  exact congrArg₂ (fun a b : EReal => a * b) (block7 m c t q) (step_dz m c t r q h)

/-- What a step adds to the sums over the modulation. -/
theorem adds_sum (n : ℕ) (h : n < cfg0.N) (o : S8x1024.Idx → EReal) (s : Fin 8) (q : Fin 1024) :
    sumRows (atU m c ⟨n, h⟩) (iblk m c 3 ⟨n, h⟩) o s q = o (ix2 s q) + tile 16 512 rfl ((inputs m c).sumPart s q) n := by
  have hn : n < 16 := h.trans_eq N_0
  have hb : ∀ t : Fin 512, n * 512 + t.val < 8192 := fun t => by have := t.isLt; omega
  rw [tile_of_lt 16 512 rfl _ n hn hb]
  unfold sumRows Cert.MlpBack.In.sumPart
  refine congrArg (o (ix2 s q) + ·) ?_
  split_ifs
  · refine Finset.sum_congr rfl fun r _ => ?_
    rw [step_du m c ⟨n, h⟩ r q (hb r), block3 m c ⟨n, h⟩ r q (hb r)]
  · exact Finset.sum_congr rfl fun r _ => step_du m c ⟨n, h⟩ r q (hb r)
  · exact Finset.sum_const_zero.symm

/-- What a step adds to the sums over the norm. -/
theorem adds_norm (n : ℕ) (h : n < cfg0.N) (o : S8x1024.Idx → EReal) (s : Fin 8) (q : Fin 1024) :
    normRows (atD m c ⟨n, h⟩) (atH m c ⟨n, h⟩)
      (atZ m c ⟨n, h⟩) (iblk m c 6 ⟨n, h⟩) o s q
      = o (ix2 s q) + tile 16 512 rfl ((inputs m c).normPart s q) n := by
  have hn : n < 16 := h.trans_eq N_0
  have hb : ∀ t : Fin 512, n * 512 + t.val < 8192 := fun t => by have := t.isLt; omega
  rw [tile_of_lt 16 512 rfl _ n hn hb]
  unfold normRows Cert.MlpBack.In.normPart
  refine congrArg (o (ix2 s q) + ·) ?_
  split_ifs
  · refine Finset.sum_congr rfl fun r _ => ?_
    rw [step_dxo m c ⟨n, h⟩ r q (hb r), step_hat m c ⟨n, h⟩ r q (hb r)]
  · exact Finset.sum_congr rfl fun r _ => step_dxo m c ⟨n, h⟩ r q (hb r)
  · refine Finset.sum_congr rfl fun r _ => ?_
    rw [step_dz m c ⟨n, h⟩ r q (hb r), block6 m c ⟨n, h⟩ r q (hb r)]
  · exact Finset.sum_const_zero.symm

theorem left9 (t : Fin cfg0.N) : (outsAt0 m c t.val t.isLt).1 = atZ m c t := by
  by_cases h0 : t.val % 16 = 0
  · rw [outsAt0_A m c t h0]
    dsimp only
    rw [out_A9_eq]
  · rw [outsAt0_B m c t h0]
    dsimp only
    rw [out_B9_eq]

theorem left10 (t : Fin cfg0.N) : (outsAt0 m c t.val t.isLt).2.1 = atY m c t := by
  by_cases h0 : t.val % 16 = 0
  · rw [outsAt0_A m c t h0]
    dsimp only
    rw [out_A10_eq]
  · rw [outsAt0_B m c t h0]
    dsimp only
    rw [out_B10_eq]

theorem left11_A (t : Fin cfg0.N) (h0 : t.val % 16 = 0) (s : Fin 8) (q : Fin 1024) :
    ((outsAt0 m c t.val t.isLt).2.2.1 : S8x1024.Idx → EReal) (ix2 s q) = sumRows (atU m c t) (iblk m c 3 t) (fun _ => 0) s q := by
  rw [outsAt0_A m c t h0]
  dsimp only
  rw [out_A11_eq]

theorem left11_B (t : Fin cfg0.N) (h0 : ¬t.val % 16 = 0) (s : Fin 8) (q : Fin 1024) :
    ((outsAt0 m c t.val t.isLt).2.2.1 : S8x1024.Idx → EReal) (ix2 s q) = sumRows (atU m c t) (iblk m c 3 t) (outsAt0 m c (t.val - 1) (Nat.lt_of_le_of_lt (Nat.sub_le _ _) t.isLt)).2.2.1 s q := by
  rw [outsAt0_B m c t h0]
  dsimp only
  rw [out_B11_eq]

/-- The sums after `n` steps. -/
theorem left11 (n : ℕ) (h : n < cfg0.N) (s : Fin 8) (q : Fin 1024) :
    ((outsAt0 m c n h).2.2.1 : S8x1024.Idx → EReal) (ix2 s q) = ∑ j ∈ Finset.range (n + 1), tile 16 512 rfl ((inputs m c).sumPart s q) j := by
  induction n with
  | zero =>
    refine (left11_A m c ⟨0, h⟩ (Nat.zero_mod _) s q).trans ?_
    rw [adds_sum m c 0 h, zero_add, Finset.sum_range_one]
  | succ n ih =>
    have hn : n + 1 < 16 := h.trans_eq N_0
    have h0 : ¬(n + 1) % 16 = 0 := by omega
    refine (left11_B m c ⟨n + 1, h⟩ h0 s q).trans ?_
    rw [adds_sum m c (n + 1) h, Finset.sum_range_succ _ (n + 1)]
    exact congrArg (· + _) (ih (Nat.lt_of_succ_lt h))

theorem left12_A (t : Fin cfg0.N) (h0 : t.val % 16 = 0) (s : Fin 8) (q : Fin 1024) :
    ((outsAt0 m c t.val t.isLt).2.2.2 : S8x1024.Idx → EReal) (ix2 s q) = normRows (atD m c t) (atH m c t)
      (atZ m c t) (iblk m c 6 t) (fun _ => 0) s q := by
  rw [outsAt0_A m c t h0]
  dsimp only
  rw [out_A12_eq]

theorem left12_B (t : Fin cfg0.N) (h0 : ¬t.val % 16 = 0) (s : Fin 8) (q : Fin 1024) :
    ((outsAt0 m c t.val t.isLt).2.2.2 : S8x1024.Idx → EReal) (ix2 s q) = normRows (atD m c t) (atH m c t)
      (atZ m c t) (iblk m c 6 t) (outsAt0 m c (t.val - 1) (Nat.lt_of_le_of_lt (Nat.sub_le _ _) t.isLt)).2.2.2 s q := by
  rw [outsAt0_B m c t h0]
  dsimp only
  rw [out_B12_eq]

/-- The sums after `n` steps. -/
theorem left12 (n : ℕ) (h : n < cfg0.N) (s : Fin 8) (q : Fin 1024) :
    ((outsAt0 m c n h).2.2.2 : S8x1024.Idx → EReal) (ix2 s q) = ∑ j ∈ Finset.range (n + 1), tile 16 512 rfl ((inputs m c).normPart s q) j := by
  induction n with
  | zero =>
    refine (left12_A m c ⟨0, h⟩ (Nat.zero_mod _) s q).trans ?_
    rw [adds_norm m c 0 h, zero_add, Finset.sum_range_one]
  | succ n ih =>
    have hn : n + 1 < 16 := h.trans_eq N_0
    have h0 : ¬(n + 1) % 16 = 0 := by omega
    refine (left12_B m c ⟨n + 1, h⟩ h0 s q).trans ?_
    rw [adds_norm m c (n + 1) h, Finset.sum_range_succ _ (n + 1)]
    exact congrArg (· + _) (ih (Nat.lt_of_succ_lt h))

/-! ### The whole results -/

theorem result_z : (dats m 0 c).arrAt 9 cfg0.N = (inputs m c).zArr := by
  have hcov : (cfg0.win 9).Covers := by decide +kernel
  refine (dats m 0 c).arrAt_eq_of_covers (9 : Fin cfg0.W) ((inputs m c).zArr) hcov (fun t hf y => ?_) (Memref.isWhole_whole _)
  refine Eq.trans (b := (dats m 0 c).after 9 t y) (by blk_simp) ?_
  rw [after0_9, left9]
  have b0 : (y 0).val < 512 := (y 0).isLt
  have ht : t.val < 16 := t.isLt.trans_eq N_0
  have e0 : ((((cfg0.win 9).blk t).view.emb y 0 : Fin _) : ℕ) = t.val * 512 + (y 0).val := by blk_simp [index9]
  have e1 : ((((cfg0.win 9).blk t).view.emb y 1 : Fin _) : ℕ) = (y 1).val := by blk_simp [index9]
  refine ((congrArg _ (ValueIdx.eq_ix2 y)).trans (step_dz m c t (y 0) (y 1) (by omega))).trans ?_
  have q0 : (⟨t.val * 512 + (y 0).val, by omega⟩ : Fin 8192) = ((cfg0.win 9).blk t).view.emb y 0 := Fin.ext e0.symm
  have q1 : y 1 = ((cfg0.win 9).blk t).view.emb y 1 := Fin.ext e1.symm
  rw [q0, q1]
  rfl

theorem result_y : (dats m 0 c).arrAt 10 cfg0.N = (inputs m c).yArr := by
  have hcov : (cfg0.win 10).Covers := by decide +kernel
  refine (dats m 0 c).arrAt_eq_of_covers (10 : Fin cfg0.W) ((inputs m c).yArr) hcov (fun t hf y => ?_) (Memref.isWhole_whole _)
  refine Eq.trans (b := (dats m 0 c).after 10 t y) (by blk_simp) ?_
  rw [after0_10, left10]
  have b0 : (y 0).val < 512 := (y 0).isLt
  have ht : t.val < 16 := t.isLt.trans_eq N_0
  have e0 : ((((cfg0.win 10).blk t).view.emb y 0 : Fin _) : ℕ) = t.val * 512 + (y 0).val := by blk_simp [index10]
  have e1 : ((((cfg0.win 10).blk t).view.emb y 1 : Fin _) : ℕ) = (y 1).val := by blk_simp [index10]
  refine ((congrArg _ (ValueIdx.eq_ix2 y)).trans (step_dy m c t (y 0) (y 1) (by omega))).trans ?_
  have q0 : (⟨t.val * 512 + (y 0).val, by omega⟩ : Fin 8192) = ((cfg0.win 10).blk t).view.emb y 0 := Fin.ext e0.symm
  have q1 : y 1 = ((cfg0.win 10).blk t).view.emb y 1 := Fin.ext e1.symm
  rw [q0, q1]
  rfl

theorem result_sum : (dats m 0 c).arrAt 11 cfg0.N = (inputs m c).sumArr := by
  have hcov : (cfg0.win 11).Covers := by decide +kernel
  have hlast : ∀ t : Fin cfg0.N, (cfg0.win 11).flush t = true → t.val = 15 :=
    (by decide +kernel : ∀ t : Fin grid0.N, (cfg0.win 11).flush t = true → t.val = 15)
  refine (dats m 0 c).arrAt_eq_of_covers (11 : Fin cfg0.W) ((inputs m c).sumArr) hcov (fun t hf y => ?_) (Memref.isWhole_whole _)
  refine Eq.trans (b := (dats m 0 c).after 11 t y) (by blk_simp) ?_
  have e : ((cfg0.win 11).blk t).view.emb y = y := ext2 (by show _ = (y 0).val; blk_simp [index11]) (by show _ = (y 1).val; blk_simp [index11])
  rw [after0_11]
  refine ((congrArg _ (ValueIdx.eq_ix2 y)).trans (left11 m c t.val t.isLt (y 0) (y 1))).trans ?_
  rw [hlast t hf]
  refine (tiles_sum 16 512 rfl _).trans ?_
  exact congrArg ((inputs m c).sumArr) e.symm

theorem result_norm : (dats m 0 c).arrAt 12 cfg0.N = (inputs m c).normArr := by
  have hcov : (cfg0.win 12).Covers := by decide +kernel
  have hlast : ∀ t : Fin cfg0.N, (cfg0.win 12).flush t = true → t.val = 15 :=
    (by decide +kernel : ∀ t : Fin grid0.N, (cfg0.win 12).flush t = true → t.val = 15)
  refine (dats m 0 c).arrAt_eq_of_covers (12 : Fin cfg0.W) ((inputs m c).normArr) hcov (fun t hf y => ?_) (Memref.isWhole_whole _)
  refine Eq.trans (b := (dats m 0 c).after 12 t y) (by blk_simp) ?_
  have e : ((cfg0.win 12).blk t).view.emb y = y := ext2 (by show _ = (y 0).val; blk_simp [index12]) (by show _ = (y 1).val; blk_simp [index12])
  rw [after0_12]
  refine ((congrArg _ (ValueIdx.eq_ix2 y)).trans (left12 m c t.val t.isLt (y 0) (y 1))).trans ?_
  rw [hlast t hf]
  refine (tiles_sum 16 512 rfl _).trans ?_
  exact congrArg ((inputs m c).normArr) e.symm

end Cert.Kernel15Ideal.MlpBack

end
-- ==== Proof.MlpBackRef.lean ====
/-
  The gradient through the MLP's first product and the layer norm before it, as the reference computes it: by the chain rule through the mean and the variance.
-/
module

public import proofs.«01_k».proof.Proof.Index
public import proofs.«01_k».proof.Proof.MlpBackSpec
public import proofs.«01_k».proof.Proof.Gen.Reference15Ideal.Read
public import Idealize.ShloMosaic.Lib.Pipeline.Value

@[expose] public section

set_option maxRecDepth 16384

noncomputable section

namespace Cert.Reference15Ideal.Read

open Cert.Reference15Ideal Cert.Reference15Ideal.Gen Cert.Norm
open Idealize.ShloMosaic Idealize.ShloMosaic.TcCoe
open scoped BigOperators

/-- The arguments the results depend on. -/
structure Args where
  x0 : S8192x1024.Idx → EReal
  x1 : S8192x1024.Idx → EReal
  x2 : S1x1024.Idx → EReal
  x3 : S1x1024.Idx → EReal
  x4 : S1x1024.Idx → EReal
  x5 : S1x1024.Idx → EReal
  x7 : S1024x4096.Idx → EReal
  x8 : S8192x1024.Idx → EReal
  x9 : S8192x4096.Idx → EReal

/-- The arguments, in numbers. -/
def Args.nums (a : Args) : Cert.MlpBack.In :=
  Cert.MlpBack.ofArrays a.x0 a.x1 a.x2 a.x3 a.x4 a.x5 a.x8 (Cert.MlpBack.product (fun s j => a.x9 (ix2 s j)) a.x7)

variable (a : Args)

theorem row_value (s : Fin 8192) (k : Fin 1024) : val_main_v7 (F := Ideal) a.x0 a.x1 a.x2 (ix2 s k) = a.nums.row s k := by
  have e : idx_main_v5 (ix2 s k) = ix2 0 k := ext2 rfl rfl
  rw [val_main_v7_apply, val_main_v2_apply, val_main_v1_apply, val_main_cst_apply, val_main_v6_apply, val_main_v5_apply, val_main_v4_apply, val_main_v3_apply, val_main_cst_0_apply, val_main_v0_apply, ofBits_one, e]
  rfl

theorem mean_value (s : Fin 8192) : val_main_v11 (F := Ideal) a.x0 a.x1 a.x2 (ix2 s 0) = mean (a.nums.row s) := by
  rw [val_main_v11_apply, val_main_v9_apply, val_main_v8_apply, val_main_cst_1_apply, val_main_v10_apply, val_main_cst_2_apply, ofBits_zero]
  refine congrArg₂ Ideal.div ((zero_add _).trans (Finset.sum_congr rfl fun k _ => ?_)) rfl
  have e : idx_main_v8 (idx_main_v9 (ix2 s 0)) k = ix2 s k := ext2 rfl rfl
  rw [e]
  exact row_value a s k

theorem dev_value (s : Fin 8192) (k : Fin 1024) : val_main_v13 (F := Ideal) a.x0 a.x1 a.x2 (ix2 s k) = dev (a.nums.row s) k := by
  have e : idx_main_v12 (ix2 s k) = ix2 s 0 := ext2 rfl rfl
  rw [val_main_v13_apply, val_main_v12_apply, e, mean_value a, row_value a]
  rfl

theorem dev2_value (s : Fin 8192) (k : Fin 1024) : val_main_v22 (F := Ideal) a.x0 a.x1 a.x2 (ix2 s k) = dev (a.nums.row s) k := by
  have e : idx_main_v21 (ix2 s k) = ix2 s 0 := ext2 rfl rfl
  rw [val_main_v22_apply, val_main_v21_apply, e, mean_value a, row_value a]
  rfl

theorem var_value (s : Fin 8192) : val_main_v20 (F := Ideal) a.x0 a.x1 a.x2 (ix2 s 0) = var (a.nums.row s) := by
  rw [val_main_v20_apply, val_main_v18_apply, val_main_v17_apply, val_main_cst_4_apply, val_main_v19_apply, val_main_cst_5_apply, ofBits_zero]
  refine congrArg₂ Ideal.div ((zero_add _).trans (Finset.sum_congr rfl fun k _ => ?_)) rfl
  have e : idx_main_v17 (idx_main_v18 (ix2 s 0)) k = ix2 s k := ext2 rfl rfl
  rw [e, val_main_v14_apply, dev_value a]
  rfl

theorem under_value (s : Fin 8192) : val_main_v24 (F := Ideal) a.x0 a.x1 a.x2 (ix2 s 0) = var (a.nums.row s) + eps := by
  rw [val_main_v24_apply, var_value a, val_main_v23_apply, val_main_cst_6_apply]
  rfl

theorem rstd_value (s : Fin 8192) : val_main_v25 (F := Ideal) a.x0 a.x1 a.x2 (ix2 s 0) = rstd (a.nums.row s) := by
  rw [val_main_v25_apply, under_value a]
  rfl

theorem slope_value (s : Fin 8192) : val_main_v28 (F := Ideal) a.x0 a.x1 a.x2 (ix2 s 0) = minusHalf * Ideal.div (rstd (a.nums.row s)) (var (a.nums.row s) + eps) := by
  rw [val_main_v28_apply, val_main_v27_apply, val_main_cst_7_apply, val_main_v26_apply, rstd_value a, under_value a]
  rfl

theorem hat_value (s : Fin 8192) (k : Fin 1024) : val_main_v30 (F := Ideal) a.x0 a.x1 a.x2 (ix2 s k) = hat (a.nums.row s) k := by
  have e : idx_main_v29 (ix2 s k) = ix2 s 0 := ext2 rfl rfl
  rw [val_main_v30_apply, val_main_v29_apply, e, rstd_value a, dev2_value a]
  rfl

theorem mid_value (s : Fin 8192) (k : Fin 1024) : val_main_v34 (F := Ideal) a.x0 a.x1 a.x2 a.x3 a.x4 (ix2 s k) = a.nums.mid s k := by
  have e : idx_main_v31 (ix2 s k) = ix2 0 k := ext2 rfl rfl
  have e' : idx_main_v33 (ix2 s k) = ix2 0 k := ext2 rfl rfl
  rw [val_main_v34_apply, val_main_v32_apply, val_main_v31_apply, val_main_v33_apply, e, e', hat_value a]
  rfl

theorem du_value (s : Fin 8192) (k : Fin 1024) : val_main_v45 (F := Ideal) a.x7 a.x9 (ix2 s k) = a.nums.du s k := by
  change _ = ∑ j : Fin 4096, a.x9 (ix2 s j) * a.x7 (ix2 k j)
  rw [val_main_v45_apply]
  refine Finset.sum_congr rfl fun j _ => ?_
  have hl : lidx_main_v45 (ix2 s k) j = ix2 s j := ext2 rfl rfl
  have hr : ridx_main_v45 (ix2 s k) j = ix2 k j := ext2 rfl rfl
  rw [hl, hr, val_main_v44_apply]
  rfl

theorem dxo_value (s : Fin 8192) (k : Fin 1024) : val_main_v55 (F := Ideal) a.x5 a.x7 a.x8 a.x9 (ix2 s k) = a.nums.dxo s k := by
  have e : idx_main_v51 (ix2 s k) = ix2 0 k := ext2 rfl rfl
  rw [val_main_v55_apply, val_main_v52_apply, val_main_v51_apply, e, du_value a, val_main_v38_apply, val_main_v37_apply, val_main_cst_9_apply, ofBits_one, val_main_v54_apply, val_main_v53_apply, val_main_cst_12_apply]
  exact add_comm (G := EReal) _ _

theorem dhat_value (s : Fin 8192) (k : Fin 1024) : val_main_v62 (F := Ideal) a.x3 a.x5 a.x7 a.x8 a.x9 (ix2 s k) = a.nums.dhat s k := by
  have e : idx_main_v61 (ix2 s k) = ix2 0 k := ext2 rfl rfl
  rw [val_main_v62_apply, val_main_v61_apply, e, dxo_value a]
  rfl

theorem dot_value (s : Fin 8192) : val_main_v65 (F := Ideal) a.x0 a.x1 a.x2 a.x3 a.x5 a.x7 a.x8 a.x9 (ix2 s 0) = ∑ j, dev (a.nums.row s) j * a.nums.dhat s j := by
  rw [val_main_v65_apply, val_main_v64_apply, val_main_cst_15_apply, ofBits_zero]
  refine (zero_add _).trans (Finset.sum_congr rfl fun k _ => ?_)
  have e : idx_main_v64 (idx_main_v65 (ix2 s 0)) k = ix2 s k := ext2 (show s.val * 1 + 0 = s.val by omega) rfl
  rw [e, val_main_v63_apply, dev2_value a, dhat_value a]
  rfl

theorem direct_value (s : Fin 8192) (k : Fin 1024) : val_main_v67 (F := Ideal) a.x0 a.x1 a.x2 a.x3 a.x5 a.x7 a.x8 a.x9 (ix2 s k) = a.nums.dhat s k * rstd (a.nums.row s) := by
  have e : idx_main_v66 (ix2 s k) = ix2 s 0 := ext2 rfl rfl
  rw [val_main_v67_apply, val_main_v66_apply, e, rstd_value a, dhat_value a]
  rfl

theorem viaVar_value (s : Fin 8192) : val_main_v74 (F := Ideal) a.x0 a.x1 a.x2 a.x3 a.x5 a.x7 a.x8 a.x9 (ix1 s) = viaVar (a.nums.row s) (a.nums.dhat s) := by
  rw [val_main_v74_apply, val_main_cst_18_apply, ofBits_zero]
  refine (zero_add _).trans ((Fin.sum_univ_one _).trans ?_)
  have e : idx_main_v74 (ix1 s) 0 = ix2 s 0 := ext2 rfl rfl
  rw [e, val_main_v73_apply, val_main_v68_apply, dot_value a, slope_value a, val_main_v72_apply, val_main_cst_17_apply]
  rfl

theorem spread_value (s : Fin 8192) (k : Fin 1024) : val_main_v76 (F := Ideal) a.x0 a.x1 a.x2 a.x3 a.x5 a.x7 a.x8 a.x9 (ix2 s k) = viaVar (a.nums.row s) (a.nums.dhat s) * (two * dev (a.nums.row s) k) := by
  have e : idx_main_v75 (ix2 s k) = ix1 s := funext fun a => by match a with | ⟨0, _⟩ => rfl
  rw [val_main_v76_apply, val_main_v75_apply, e, viaVar_value a, val_main_v16_apply, val_main_v15_apply, val_main_cst_3_apply, dev_value a]
  rfl

theorem less_direct_value (s : Fin 8192) : val_main_v71 (F := Ideal) a.x0 a.x1 a.x2 a.x3 a.x5 a.x7 a.x8 a.x9 (ix2 s 0) = ∑ j, -(a.nums.dhat s j * rstd (a.nums.row s)) := by
  rw [val_main_v71_apply, val_main_v70_apply, val_main_cst_16_apply, ofBits_zero]
  refine (zero_add _).trans (Finset.sum_congr rfl fun k _ => ?_)
  have e : idx_main_v70 (idx_main_v71 (ix2 s 0)) k = ix2 s k := ext2 (show s.val * 1 + 0 = s.val by omega) rfl
  rw [e, val_main_v69_apply, direct_value a]
  rfl

theorem less_spread_value (s : Fin 8192) : val_main_v79 (F := Ideal) a.x0 a.x1 a.x2 a.x3 a.x5 a.x7 a.x8 a.x9 (ix2 s 0) = ∑ j, -(viaVar (a.nums.row s) (a.nums.dhat s) * (two * dev (a.nums.row s) j)) := by
  rw [val_main_v79_apply, val_main_v78_apply, val_main_cst_19_apply, ofBits_zero]
  refine (zero_add _).trans (Finset.sum_congr rfl fun k _ => ?_)
  have e : idx_main_v78 (idx_main_v79 (ix2 s 0)) k = ix2 s k := ext2 (show s.val * 1 + 0 = s.val by omega) rfl
  rw [e, val_main_v77_apply, spread_value a]
  rfl

theorem viaMean_value (s : Fin 8192) : val_main_v84 (F := Ideal) a.x0 a.x1 a.x2 a.x3 a.x5 a.x7 a.x8 a.x9 (ix1 s) = Ideal.div ((∑ j, -(a.nums.dhat s j * rstd (a.nums.row s))) + ∑ j, -(viaVar (a.nums.row s) (a.nums.dhat s) * (two * dev (a.nums.row s) j))) width := by
  rw [val_main_v84_apply, val_main_cst_21_apply, ofBits_zero]
  refine (zero_add _).trans ((Fin.sum_univ_one _).trans ?_)
  have e : idx_main_v84 (ix1 s) 0 = ix2 s 0 := ext2 rfl rfl
  rw [e, val_main_v83_apply, val_main_v81_apply, less_direct_value a, less_spread_value a, val_main_v82_apply, val_main_cst_20_apply]
  rfl

/-- The gradient of the rows under the norm, by the chain rule. -/
theorem chained_value (s : Fin 8192) (k : Fin 1024) : val_main_v86 (F := Ideal) a.x0 a.x1 a.x2 a.x3 a.x5 a.x7 a.x8 a.x9 (ix2 s k) = chained (a.nums.row s) (a.nums.dhat s) k := by
  have e : idx_main_v85 (ix2 s k) = ix1 s := funext fun a => by match a with | ⟨0, _⟩ => rfl
  rw [val_main_v86_apply, val_main_v80_apply, val_main_v85_apply, e, viaMean_value a, direct_value a, spread_value a]
  rfl

/-- On real arguments that is the layer norm's gradient in closed form. -/
theorem dz_value (h : a.nums.Real) (s : Fin 8192) (k : Fin 1024) : val_main_v86 (F := Ideal) a.x0 a.x1 a.x2 a.x3 a.x5 a.x7 a.x8 a.x9 (ix2 s k) = a.nums.dz s k := by
  exact (chained_value a s k).trans (chained_eq_back _ _ (h.1 s) (h.2 s) k)

theorem dy_value (h : a.nums.Real) (s : Fin 8192) (k : Fin 1024) : val_main_v92 (F := Ideal) a.x0 a.x1 a.x2 a.x3 a.x5 a.x7 a.x8 a.x9 (ix2 s k) = a.nums.dy s k := by
  have e : idx_main_v87 (ix2 s k) = ix2 0 k := ext2 rfl rfl
  rw [val_main_v92_apply, val_main_v88_apply, val_main_v87_apply, e, dz_value a h, val_main_v4_apply, val_main_v3_apply, val_main_cst_0_apply, ofBits_one]
  rfl

theorem sum_du_value (k : Fin 1024) : val_main_v47 (F := Ideal) a.x7 a.x9 (ix2 0 k : S1x1024.Idx) = ∑ s : Fin 8192, a.nums.du s k := by
  rw [val_main_v47_apply, val_main_v46_apply, val_main_cst_10_apply, ofBits_zero]
  refine (zero_add _).trans (Finset.sum_congr rfl fun s _ => ?_)
  have e : idx_main_v46 (idx_main_v47 (ix2 0 k : S1x1024.Idx)) s = ix2 s k := ext2 rfl (show 0 * 1024 + k.val = k.val by omega)
  rw [e, du_value a]

theorem sum_mid_value (k : Fin 1024) : val_main_v50 (F := Ideal) a.x0 a.x1 a.x2 a.x3 a.x4 a.x7 a.x9 (ix2 0 k : S1x1024.Idx) = ∑ s : Fin 8192, a.nums.du s k * a.nums.mid s k := by
  rw [val_main_v50_apply, val_main_v49_apply, val_main_cst_11_apply, ofBits_zero]
  refine (zero_add _).trans (Finset.sum_congr rfl fun s _ => ?_)
  have e : idx_main_v49 (idx_main_v50 (ix2 0 k : S1x1024.Idx)) s = ix2 s k := ext2 rfl (show 0 * 1024 + k.val = k.val by omega)
  rw [e, val_main_v48_apply, du_value a, mid_value a]
  exact mul_comm (G := EReal) _ _

theorem sum_dxo_value (k : Fin 1024) : val_main_v57 (F := Ideal) a.x5 a.x7 a.x8 a.x9 (ix2 0 k : S1x1024.Idx) = ∑ s : Fin 8192, a.nums.dxo s k := by
  rw [val_main_v57_apply, val_main_v56_apply, val_main_cst_13_apply, ofBits_zero]
  refine (zero_add _).trans (Finset.sum_congr rfl fun s _ => ?_)
  have e : idx_main_v56 (idx_main_v57 (ix2 0 k : S1x1024.Idx)) s = ix2 s k := ext2 rfl (show 0 * 1024 + k.val = k.val by omega)
  rw [e, dxo_value a]

theorem sum_hat_value (k : Fin 1024) : val_main_v60 (F := Ideal) a.x0 a.x1 a.x2 a.x5 a.x7 a.x8 a.x9 (ix2 0 k : S1x1024.Idx) = ∑ s : Fin 8192, a.nums.dxo s k * hat (a.nums.row s) k := by
  rw [val_main_v60_apply, val_main_v59_apply, val_main_cst_14_apply, ofBits_zero]
  refine (zero_add _).trans (Finset.sum_congr rfl fun s _ => ?_)
  have e : idx_main_v59 (idx_main_v60 (ix2 0 k : S1x1024.Idx)) s = ix2 s k := ext2 rfl (show 0 * 1024 + k.val = k.val by omega)
  rw [e, val_main_v58_apply, dxo_value a, hat_value a]
  exact mul_comm (G := EReal) _ _

theorem sum_gate_value (h : a.nums.Real) (k : Fin 1024) : val_main_v91 (F := Ideal) a.x0 a.x1 a.x2 a.x3 a.x5 a.x7 a.x8 a.x9 (ix2 0 k : S1x1024.Idx) = ∑ s : Fin 8192, a.nums.dz s k * a.nums.y s k := by
  rw [val_main_v91_apply, val_main_v90_apply, val_main_cst_22_apply, ofBits_zero]
  refine (zero_add _).trans (Finset.sum_congr rfl fun s _ => ?_)
  have e : idx_main_v90 (idx_main_v91 (ix2 0 k : S1x1024.Idx)) s = ix2 s k := ext2 rfl (show 0 * 1024 + k.val = k.val by omega)
  rw [e, val_main_v89_apply, dz_value a h, val_main_v0_apply]
  rfl

theorem reference_z (h : a.nums.Real) : val_main_v86 (F := Ideal) a.x0 a.x1 a.x2 a.x3 a.x5 a.x7 a.x8 a.x9 = a.nums.zArr := by
  funext i
  exact (congrArg _ (ValueIdx.eq_ix2 i)).trans (dz_value a h (i 0) (i 1))

theorem reference_y (h : a.nums.Real) : val_main_v92 (F := Ideal) a.x0 a.x1 a.x2 a.x3 a.x5 a.x7 a.x8 a.x9 = a.nums.yArr := by
  funext i
  exact (congrArg _ (ValueIdx.eq_ix2 i)).trans (dy_value a h (i 0) (i 1))

theorem sum_rows (r : Fin 8) (k : Fin 1024) : val_main_v94 (F := Ideal) a.x0 a.x1 a.x2 a.x3 a.x4 a.x7 a.x9 (ix2 r k : S8x1024.Idx) = ∑ s : Fin 8192, a.nums.sumPart r k s := by
  have hc : val_main_v94 (F := Ideal) a.x0 a.x1 a.x2 a.x3 a.x4 a.x7 a.x9 (ix2 r k : S8x1024.Idx) = concatenate S8x1024 0 ([⟨S1x1024, (val_main_v50 (F := Ideal) a.x0 a.x1 a.x2 a.x3 a.x4 a.x7 a.x9 : S1x1024.Idx → EReal)⟩, ⟨S1x1024, (val_main_v47 (F := Ideal) a.x7 a.x9 : S1x1024.Idx → EReal)⟩, ⟨S6x1024, (val_main_v93 (F := Ideal) : S6x1024.Idx → EReal)⟩] : List ((s : Shape) × (s.Idx → EReal)))
      concatenates_S1x1024_S1x1024_S6x1024_S8x1024_d0 (ix2 r k : S8x1024.Idx) := rfl
  rw [hc]
  unfold Cert.MlpBack.In.sumPart
  by_cases c0 : r.val = 0
  · refine Eq.trans (stacked k 0 (by show 0 < 3; omega) (val_main_v50 (F := Ideal) a.x0 a.x1 a.x2 a.x3 a.x4 a.x7 a.x9) (by rfl) (by rfl) (0 : Fin 1) c0.symm) ?_
    · refine (sum_mid_value a k).trans (Finset.sum_congr rfl fun s _ => ?_)
      rw [if_pos c0]
  by_cases c1 : r.val = 1
  · refine Eq.trans (stacked k 1 (by show 1 < 3; omega) (val_main_v47 (F := Ideal) a.x7 a.x9) (by rfl) (by rfl) (0 : Fin 1) c1.symm) ?_
    · refine (sum_du_value a k).trans (Finset.sum_congr rfl fun s _ => ?_)
      rw [if_neg c0]; rw [if_pos c1]
  · have hr := r.isLt
    refine Eq.trans (stacked k 2 (by show 2 < 3; omega) (val_main_v93 (F := Ideal)) (by rfl) (by rfl) ⟨r.val - 2, by omega⟩ (show 2 + (r.val - 2) = r.val by omega)) ?_
    · rw [val_main_v93_apply, val_main_cst_23_apply, ofBits_zero]
      refine (Finset.sum_eq_zero fun s _ => ?_).symm
      rw [if_neg c0]; rw [if_neg c1]

theorem reference_sum  : val_main_v94 (F := Ideal) a.x0 a.x1 a.x2 a.x3 a.x4 a.x7 a.x9 = a.nums.sumArr := by
  funext i
  exact (congrArg _ (ValueIdx.eq_ix2 i)).trans (sum_rows a (i 0) (i 1))

theorem norm_rows (h : a.nums.Real) (r : Fin 8) (k : Fin 1024) : val_main_v96 (F := Ideal) a.x0 a.x1 a.x2 a.x3 a.x5 a.x7 a.x8 a.x9 (ix2 r k : S8x1024.Idx) = ∑ s : Fin 8192, a.nums.normPart r k s := by
  have hc : val_main_v96 (F := Ideal) a.x0 a.x1 a.x2 a.x3 a.x5 a.x7 a.x8 a.x9 (ix2 r k : S8x1024.Idx) = concatenate S8x1024 0 ([⟨S1x1024, (val_main_v60 (F := Ideal) a.x0 a.x1 a.x2 a.x5 a.x7 a.x8 a.x9 : S1x1024.Idx → EReal)⟩, ⟨S1x1024, (val_main_v57 (F := Ideal) a.x5 a.x7 a.x8 a.x9 : S1x1024.Idx → EReal)⟩, ⟨S1x1024, (val_main_v91 (F := Ideal) a.x0 a.x1 a.x2 a.x3 a.x5 a.x7 a.x8 a.x9 : S1x1024.Idx → EReal)⟩, ⟨S5x1024, (val_main_v95 (F := Ideal) : S5x1024.Idx → EReal)⟩] : List ((s : Shape) × (s.Idx → EReal)))
      concatenates_S1x1024_S1x1024_S1x1024_S5x1024_S8x1024_d0 (ix2 r k : S8x1024.Idx) := rfl
  rw [hc]
  unfold Cert.MlpBack.In.normPart
  by_cases c0 : r.val = 0
  · refine Eq.trans (stacked k 0 (by show 0 < 4; omega) (val_main_v60 (F := Ideal) a.x0 a.x1 a.x2 a.x5 a.x7 a.x8 a.x9) (by rfl) (by rfl) (0 : Fin 1) c0.symm) ?_
    · refine (sum_hat_value a k).trans (Finset.sum_congr rfl fun s _ => ?_)
      rw [if_pos c0]
  by_cases c1 : r.val = 1
  · refine Eq.trans (stacked k 1 (by show 1 < 4; omega) (val_main_v57 (F := Ideal) a.x5 a.x7 a.x8 a.x9) (by rfl) (by rfl) (0 : Fin 1) c1.symm) ?_
    · refine (sum_dxo_value a k).trans (Finset.sum_congr rfl fun s _ => ?_)
      rw [if_neg c0]; rw [if_pos c1]
  by_cases c2 : r.val = 2
  · refine Eq.trans (stacked k 2 (by show 2 < 4; omega) (val_main_v91 (F := Ideal) a.x0 a.x1 a.x2 a.x3 a.x5 a.x7 a.x8 a.x9) (by rfl) (by rfl) (0 : Fin 1) c2.symm) ?_
    · refine (sum_gate_value a h k).trans (Finset.sum_congr rfl fun s _ => ?_)
      rw [if_neg c0]; rw [if_neg c1]; rw [if_pos c2]
  · have hr := r.isLt
    refine Eq.trans (stacked k 3 (by show 3 < 4; omega) (val_main_v95 (F := Ideal)) (by rfl) (by rfl) ⟨r.val - 3, by omega⟩ (show 3 + (r.val - 3) = r.val by omega)) ?_
    · rw [val_main_v95_apply, val_main_cst_24_apply, ofBits_zero]
      refine (Finset.sum_eq_zero fun s _ => ?_).symm
      rw [if_neg c0]; rw [if_neg c1]; rw [if_neg c2]

theorem reference_norm (h : a.nums.Real) : val_main_v96 (F := Ideal) a.x0 a.x1 a.x2 a.x3 a.x5 a.x7 a.x8 a.x9 = a.nums.normArr := by
  funext i
  exact (congrArg _ (ValueIdx.eq_ix2 i)).trans (norm_rows a h (i 0) (i 1))

end Cert.Reference15Ideal.Read

end
-- ==== Proof.MlpBackFinite.lean ====
/-
  What the precondition of the gradient through the MLP's first product says: the entries of the arguments are real numbers, and so are
  those of the rows under the norm and of their normalised rows' gradient.
-/
module

public import proofs.«01_k».proof.Proof.MlpBackSpec
public import proofs.«01_k».proof.Proof.Finite
public import proofs.«01_k».proof.Proof.Gen.Pre_finite15

@[expose] public section

noncomputable section

namespace Cert.MlpBack

open Idealize.ShloMosaic Idealize.ShloMosaic.TcCoe Cert.Pre_finite15 Cert.Pre_finite15.Gen Cert.Norm
open scoped BigOperators

/-- A magnitude below +∞ is that of a real number. -/
theorem isReal_of_lt (x : EReal) (h : FloatOps.cmpf (F := Ideal) (φ := .f32) .olt (FloatOps.hostAbsf (F := Ideal) (φ := .f32) x) (Ideal.ofBits .f32 0x7F800000#32) = 1#1) :
    IsReal x :=
  ⟨x.toReal, (EReal.coe_toReal (Cert.Attn.real_of_lt x h).1 (Cert.Attn.real_of_lt x h).2).symm⟩

instance : Subsingleton Cert.Pre_finite15.S_.Idx := ⟨fun f g => funext fun a => a.elim0⟩

section

variable (a0 a1 : S8192x1024.Idx → EReal) (a2 a3 a4 a5 a6 : S1x1024.Idx → EReal) (a7 : S1024x4096.Idx → EReal) (a8 : S8192x1024.Idx → EReal)
  (a9 : S8192x4096.Idx → EReal)

theorem reals (h : Cert.Pre_finite15.fn (F := Ideal) a0 a1 a2 a3 a4 a5 a6 a7 a8 a9 = fun _ => 1#1) :
    (∀ i, IsReal (a0 i)) ∧ (∀ i, IsReal (a1 i)) ∧ (∀ i, IsReal (a2 i)) ∧ (∀ i, IsReal (a3 i)) ∧ (∀ i, IsReal (a5 i)) ∧ (∀ i, IsReal (a7 i))
      ∧ (∀ i, IsReal (a8 i)) ∧ ∀ i, IsReal (a9 i) := by
  have e := congrFun h (Shape.Idx.first h_S_)
  unfold Cert.Pre_finite15.fn Cert.Pre_finite15.fn_part1 Cert.Pre_finite15.fn_part2 at e
  obtain ⟨e, e9⟩ := IntOp.andi_eq_one.1 e
  obtain ⟨e, e8⟩ := IntOp.andi_eq_one.1 e
  obtain ⟨e, e7⟩ := IntOp.andi_eq_one.1 e
  obtain ⟨e, e5⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨fun i => isReal_of_lt _ (Host.reduce_andi_all _ _ _ _ _ e0 i), fun i => isReal_of_lt _ (Host.reduce_andi_all _ _ _ _ _ e1 i),
    fun i => isReal_of_lt _ (Host.reduce_andi_all _ _ _ _ _ e2 i), fun i => isReal_of_lt _ (Host.reduce_andi_all _ _ _ _ _ e3 i),
    fun i => isReal_of_lt _ (Host.reduce_andi_all _ _ _ _ _ e5 i), fun i => isReal_of_lt _ (Host.reduce_andi_all _ _ _ _ _ e7 i),
    fun i => isReal_of_lt _ (Host.reduce_andi_all _ _ _ _ _ e8 i), fun i => isReal_of_lt _ (Host.reduce_andi_all _ _ _ _ _ e9 i)⟩

theorem nums_real (h : Cert.Pre_finite15.fn (F := Ideal) a0 a1 a2 a3 a4 a5 a6 a7 a8 a9 = fun _ => 1#1) :
    (ofArrays a0 a1 a2 a3 a4 a5 a8 (product (fun s j => a9 (ix2 s j)) a7)).Real := by
  obtain ⟨r0, r1, r2, r3, r5, r7, r8, r9⟩ := reals a0 a1 a2 a3 a4 a5 a6 a7 a8 a9 h
  exact real_of a0 a1 a2 a3 a4 a5 a8 _ r0 r1 r2 r3 r5 r8 (product_real _ a7 (fun _ _ => r9 _) r7)

end

end Cert.MlpBack

end
-- ==== Proof.AttnDxStep.lean ====
/-
  One step of the gradient through the attention layer's q, k and v and the layer norm before it: the stored blocks by rows and columns.
-/
module

public import proofs.«01_k».proof.Proof.Gen.Kernel16Ideal.Value
public import proofs.«01_k».proof.Proof.Rows

@[expose] public section

set_option maxRecDepth 16384

noncomputable section

namespace Cert.Kernel16Ideal.AttnDx

open Cert.Kernel16Ideal Cert.Kernel16Ideal.Gen Cert.Mlp Cert.Norm Cert.Rows
open Idealize.ShloMosaic Idealize.ShloMosaic.TcCoe
open Idealize.ShloMosaic.Pipeline (Window)
open scoped BigOperators

/-! ### The payloads -/

/-- The product of a row of one part with a row of its weight. -/
def partProduct (d : S1x512x1024.Idx → EReal) (w : S1x1024x1024.Idx → EReal) (r : Fin 512) (q : Fin 1024) : EReal :=
  ∑ k : Fin 1024, d (ix3 0 r k) * w (ix3 0 q k)

theorem stored4 (d0 : Vec Ideal S1x512x1024 .bf16) (w0 : Vec Ideal S1x1024x1024 .bf16) (d1 : Vec Ideal S1x512x1024 .bf16) (w1 : Vec Ideal S1x1024x1024 .bf16)
    (d2 : Vec Ideal S1x512x1024 .bf16) (w2 : Vec Ideal S1x1024x1024 .bf16) (r : Fin 512) (q : Fin 1024) :
    (k0_pay4 d0 w0 d1 w1 d2 w2 : S512x1024.Idx → EReal) (ix2 r q) = partProduct d0 w0 r q + partProduct d1 w1 r q + partProduct d2 w2 r q := by
  pointwise [k0_pay4]
  rfl

theorem stored5 (d0 : Vec Ideal S1x512x1024 .bf16) (w0 : Vec Ideal S1x1024x1024 .bf16) (d1 : Vec Ideal S1x512x1024 .bf16) (w1 : Vec Ideal S1x1024x1024 .bf16)
    (d2 : Vec Ideal S1x512x1024 .bf16) (w2 : Vec Ideal S1x1024x1024 .bf16) (z : Vec Ideal S512x1024 .f32) (s : Vec Ideal S1x1024 .f32) (r : Fin 512) (q : Fin 1024) :
    (k0_pay5 d0 w0 d1 w1 d2 w2 z s : S512x1024.Idx → EReal) (ix2 r q)
      = alpha * z (ix2 r q) + (k0_pay4 d0 w0 d1 w1 d2 w2 : S512x1024.Idx → EReal) (ix2 r q) * s (ix2 0 q) := by
  unfold k0_pay5
  generalize k0_pay4 d0 w0 d1 w1 d2 w2 = y
  pointwise
  rfl

section Norm

variable (y : Vec Ideal S512x1024 .bf16) (x : Vec Ideal S512x1024 .f32) (gate : Vec Ideal S1x1024 .f32)

theorem stored7 (r : Fin 512) (q : Fin 1024) : (k0_pay7 y x gate : S512x1024.Idx → EReal) (ix2 r q) = dev (gated x y gate r) q := by
  pointwise [k0_pay7, k0_pay6]
  rfl

theorem stored8 (r : Fin 512) : (k0_pay8 y x gate : S512x1.Idx → EReal) (ix2 r 0) = rstd (gated x y gate r) := by
  have h := stored7 y x gate r
  unfold k0_pay8
  generalize k0_pay7 y x gate = v at h
  refine Eq.trans (b := Ideal.rsqrt (Ideal.div (∑ k : Fin 1024, (v (ix2 r k) : EReal) * v (ix2 r k)) width + eps)) ?_ ?_
  · pointwise
    rfl
  · simp only [h]
    rfl

theorem stored9 (r : Fin 512) (q : Fin 1024) : (k0_pay9 y x gate : S512x1024.Idx → EReal) (ix2 r q) = hat (gated x y gate r) q := by
  refine Eq.trans (b := (k0_pay7 y x gate : S512x1024.Idx → EReal) (ix2 r q) * (k0_pay8 y x gate : S512x1.Idx → EReal) (ix2 r 0)) ?_ ?_
  · unfold k0_pay9
    generalize k0_pay7 y x gate = v
    generalize k0_pay8 y x gate = u
    pointwise
  · rw [stored7, stored8]
    rfl

theorem stored10 (d : Vec Ideal S512x1024 .f32) (g : Vec Ideal S1x1024 .f32) (r : Fin 512) (q : Fin 1024) :
    (k0_pay10 d y x gate g : S512x1024.Idx → EReal) (ix2 r q)
      = ((d (ix2 r q) : EReal) * g (ix2 0 q) - mean (fun k => (d (ix2 r k) : EReal) * g (ix2 0 k)))
        - hat (gated x y gate r) q * mean (fun k => (d (ix2 r k) : EReal) * g (ix2 0 k) * hat (gated x y gate r) k) := by
  have h := stored9 y x gate r
  unfold k0_pay10
  generalize k0_pay9 y x gate = v at h
  simp only [← h]
  pointwise
  rfl

theorem stored11 (r : Fin 512) (q : Fin 1024) : (k0_pay11 y x gate : S512x1024.Idx → EReal) (ix2 r q) = rstd (gated x y gate r) := by
  have h := stored8 y x gate r
  unfold k0_pay11
  generalize k0_pay8 y x gate = v at h
  refine Eq.trans ?_ h
  pointwise

end Norm

theorem stored12 (a b : Vec Ideal S512x1024 .f32) (r : Fin 512) (q : Fin 1024) :
    (k0_pay12 (F := Ideal) a b : S512x1024.Idx → EReal) (ix2 r q) = (b (ix2 r q) : EReal) * a (ix2 r q) := by
  pointwise [k0_pay12]

theorem stored13 (a b : Vec Ideal S512x1024 .f32) (gate : Vec Ideal S1x1024 .f32) (r : Fin 512) (q : Fin 1024) :
    (k0_pay13 (F := Ideal) a b gate : S512x1024.Idx → EReal) (ix2 r q) = (gate (ix2 0 q) : EReal) * (k0_pay12 (F := Ideal) a b : S512x1024.Idx → EReal) (ix2 r q) := by
  unfold k0_pay13
  generalize k0_pay12 (F := Ideal) a b = y
  pointwise

theorem stored14 (d h : Vec Ideal S512x1024 .f32) (o : Vec Ideal S1x1024 .f32) (q : Fin 1024) :
    (k0_pay14 (F := Ideal) d h o : S1x1024.Idx → EReal) (ix2 0 q) = (o (ix2 0 q) : EReal) + ∑ r : Fin 512, (d (ix2 r q) : EReal) * h (ix2 r q) := by
  pointwise [k0_pay14]

theorem stored15 (d : Vec Ideal S512x1024 .f32) (o : Vec Ideal S1x1024 .f32) (q : Fin 1024) :
    (k0_pay15 (F := Ideal) d o : S1x1024.Idx → EReal) (ix2 0 q) = (o (ix2 0 q) : EReal) + ∑ r : Fin 512, (d (ix2 r q) : EReal) := by
  pointwise [k0_pay15]

theorem stored16 (y : Vec Ideal S512x1024 .bf16) (a b : Vec Ideal S512x1024 .f32) (o : Vec Ideal S1x1024 .f32) (q : Fin 1024) :
    (k0_pay16 (F := Ideal) (k0_pay6 y) a b o : S1x1024.Idx → EReal) (ix2 0 q)
      = (o (ix2 0 q) : EReal) + ∑ r : Fin 512, (k0_pay12 (F := Ideal) a b : S512x1024.Idx → EReal) (ix2 r q) * y (ix2 r q) := by
  unfold k0_pay16 k0_pay6
  generalize k0_pay12 (F := Ideal) a b = z
  pointwise

theorem stored18 (u : Vec Ideal S512x1024 .f32) (o : Vec Ideal S1x1024 .f32) (x : Vec Ideal S512x1024 .f32) (q : Fin 1024) :
    (k0_pay18 (F := Ideal) u (k0_pay17 o) x : S1x1024.Idx → EReal) (ix2 0 q) = (o (ix2 0 q) : EReal) + ∑ r : Fin 512, (u (ix2 r q) : EReal) * x (ix2 r q) := by
  pointwise [k0_pay18, k0_pay17]

theorem stored19 (u : Vec Ideal S512x1024 .f32) (o : Vec Ideal S1x1024 .f32) (q : Fin 1024) :
    (k0_pay19 (F := Ideal) u o : S1x1024.Idx → EReal) (ix2 0 q) = (o (ix2 0 q) : EReal) + ∑ r : Fin 512, (u (ix2 r q) : EReal) := by
  pointwise [k0_pay19]

theorem stored20 (o : Vec Ideal S1x1024 .f32) (d : Vec Ideal S1x512x1024 .bf16) (q : Fin 1024) :
    (k0_pay20 (F := Ideal) o d : S1x1024.Idx → EReal) (ix2 0 q) = (o (ix2 0 q) : EReal) + ∑ r : Fin 512, (d (ix3 0 r q) : EReal) := by
  pointwise [k0_pay20]

theorem stored21 (o : Vec Ideal S1x1024 .f32) (d : Vec Ideal S1x512x1024 .bf16) (q : Fin 1024) :
    (k0_pay21 (F := Ideal) o d : S1x1024.Idx → EReal) (ix2 0 q) = (o (ix2 0 q) : EReal) + ∑ r : Fin 512, (d (ix3 0 r q) : EReal) := by
  pointwise [k0_pay21]

theorem stored1 (o : Vec Ideal S1x1024 .f32) (d : Vec Ideal S1x512x1024 .bf16) (q : Fin 1024) :
    (k0_pay1 (F := Ideal) o d : S1x1024.Idx → EReal) (ix2 0 q) = (o (ix2 0 q) : EReal) + ∑ r : Fin 512, (d (ix3 0 r q) : EReal) := by
  pointwise [k0_pay1]

theorem stored2 (i : S8x1024.Idx) : (k0_pay2 (F := Ideal) : S8x1024.Idx → EReal) i = 0 := by
  refine (congrArg _ (ValueIdx.eq_ix2 i)).trans ?_
  pointwise [k0_pay2]

theorem stored3 (i : S8x1024.Idx) : (k0_pay3 (F := Ideal) : S8x1024.Idx → EReal) i = 0 := by
  refine (congrArg _ (ValueIdx.eq_ix2 i)).trans ?_
  pointwise [k0_pay3]

/-- What a step leaves of the five rows of sums over the modulation and the bias, over what it finds. -/
def partRows (u x : S512x1024.Idx → EReal) (d0 d1 d2 : S1x512x1024.Idx → EReal) (o : S8x1024.Idx → EReal) (s : Fin 8) (q : Fin 1024) : EReal :=
  o (ix2 s q) + if s.val = 0 then ∑ r : Fin 512, u (ix2 r q) * x (ix2 r q) else if s.val = 1 then ∑ r : Fin 512, u (ix2 r q)
    else if s.val = 2 then ∑ r : Fin 512, d0 (ix3 0 r q) else if s.val = 3 then ∑ r : Fin 512, d1 (ix3 0 r q)
    else if s.val = 4 then ∑ r : Fin 512, d2 (ix3 0 r q) else 0

section Steps

variable (c : Dev nD) (i : grid0.Coords)
  (a1 : Memref sig .tc .vmem S1x512x1024 .bf16) (h1 : a1.IsWhole)
  (a2 : Memref sig .tc .vmem S1x512x1024 .bf16) (h2 : a2.IsWhole)
  (a3 : Memref sig .tc .vmem S1x512x1024 .bf16) (h3 : a3.IsWhole)
  (a4 : Memref sig .tc .vmem S1x1024x3072 .bf16) (h4 : a4.IsWhole)
  (a5 : Memref sig .tc .vmem S512x1024 .f32) (h5 : a5.IsWhole)
  (a6 : Memref sig .tc .vmem S512x1024 .f32) (h6 : a6.IsWhole)
  (a7 : Memref sig .tc .vmem S1x1024 .f32) (h7 : a7.IsWhole)
  (a8 : Memref sig .tc .vmem S512x1024 .f32) (h8 : a8.IsWhole)
  (a9 : Memref sig .tc .vmem S512x1024 .bf16) (h9 : a9.IsWhole)
  (a10 : Memref sig .tc .vmem S1x1024 .f32) (h10 : a10.IsWhole)
  (a11 : Memref sig .tc .vmem S1x1024 .f32) (h11 : a11.IsWhole)
  (a12 : Memref sig .tc .vmem S512x1024 .f32) (h12 : a12.IsWhole)
  (a13 : Memref sig .tc .vmem S512x1024 .bf16) (h13 : a13.IsWhole)
  (a14 : Memref sig .tc .vmem S8x1024 .f32) (h14 : a14.IsWhole)
  (a15 : Memref sig .tc .vmem S8x1024 .f32) (h15 : a15.IsWhole)
  (x0 : Vec Ideal S1x512x1024 .bf16) (x1 : Vec Ideal S1x512x1024 .bf16) (x2 : Vec Ideal S1x512x1024 .bf16) (x3 : Vec Ideal S1x1024x3072 .bf16) (x4 : Vec Ideal S512x1024 .f32) (x5 : Vec Ideal S512x1024 .f32) (x6 : Vec Ideal S1x1024 .f32) (x7 : Vec Ideal S512x1024 .f32) (x8 : Vec Ideal S512x1024 .bf16) (x9 : Vec Ideal S1x1024 .f32) (x10 : Vec Ideal S1x1024 .f32) (o13 o14 : Vec Ideal S8x1024 .f32)

/-- The parts of the weight. -/
abbrev cols0 : Vec Ideal S1x1024x1024 .bf16 :=
  View.ld (Val := Elt Ideal) (e' := .bf16) x3 (Rect.unit (s := S1x1024x3072) ![0, 0, 0] ![1, 1024, 1024] inb_S1x1024x3072_S1x1024x1024_0_0_0)
abbrev cols1 : Vec Ideal S1x1024x1024 .bf16 :=
  View.ld (Val := Elt Ideal) (e' := .bf16) x3 (Rect.unit (s := S1x1024x3072) ![0, 0, 1024] ![1, 1024, 1024] inb_S1x1024x3072_S1x1024x1024_0_0_1024)
abbrev cols2 : Vec Ideal S1x1024x1024 .bf16 :=
  View.ld (Val := Elt Ideal) (e' := .bf16) x3 (Rect.unit (s := S1x1024x3072) ![0, 0, 2048] ![1, 1024, 1024] inb_S1x1024x3072_S1x1024x1024_0_0_2048)

theorem cols0_at (k j : Fin 1024) (h : 0 + j.val < 3072) : (cols0 x3 : S1x1024x1024.Idx → EReal) (ix3 0 k j) = x3 (ix3 0 k ⟨0 + j.val, h⟩) := by
  refine congrArg x3 (funext fun a => Fin.ext ?_)
  match a with
  | ⟨0, _⟩ => rfl
  | ⟨1, _⟩ => exact (by simp)
  | ⟨2, _⟩ => exact (by simp)

theorem cols1_at (k j : Fin 1024) (h : 1024 + j.val < 3072) : (cols1 x3 : S1x1024x1024.Idx → EReal) (ix3 0 k j) = x3 (ix3 0 k ⟨1024 + j.val, h⟩) := by
  refine congrArg x3 (funext fun a => Fin.ext ?_)
  match a with
  | ⟨0, _⟩ => rfl
  | ⟨1, _⟩ => exact (by simp)
  | ⟨2, _⟩ => exact (by simp)

theorem cols2_at (k j : Fin 1024) (h : 2048 + j.val < 3072) : (cols2 x3 : S1x1024x1024.Idx → EReal) (ix3 0 k j) = x3 (ix3 0 k ⟨2048 + j.val, h⟩) := by
  refine congrArg x3 (funext fun a => Fin.ext ?_)
  match a with
  | ⟨0, _⟩ => rfl
  | ⟨1, _⟩ => exact (by simp)
  | ⟨2, _⟩ => exact (by simp)

/-- A step's gradient of the stream before the norm, its normalised rows, and its gradients of the row under the norm and of the
sublayer's output. -/
abbrev stepU : Vec Ideal S512x1024 .f32 := k0_pay4 x0 (cols0 x3) x1 (cols1 x3) x2 (cols2 x3)
abbrev stepD : Vec Ideal S512x1024 .f32 := k0_pay5 x0 (cols0 x3) x1 (cols1 x3) x2 (cols2 x3) x4 x6
abbrev stepH : Vec Ideal S512x1024 .f32 := k0_pay9 x8 x7 x9
abbrev stepZ : Vec Ideal S512x1024 .f32 := k0_pay12 (F := Ideal) (k0_pay10 (stepD x0 x1 x2 x3 x4 x6) x8 x7 x9 x10) (k0_pay11 x8 x7 x9)
abbrev stepY : Vec Ideal S512x1024 .bf16 := k0_pay13 (F := Ideal) (k0_pay10 (stepD x0 x1 x2 x3 x4 x6) x8 x7 x9 x10) (k0_pay11 x8 x7 x9) x9

theorem out_A11_eq (hc : cond0_0 i) : out0_A_11 c i a1 h1 a2 h2 a3 h3 a4 h4 a5 h5 a6 h6 a7 h7 a8 h8 a9 h9 a10 h10 a11 h11 a12 h12 a13 h13 a14 h14 a15 h15 hc x0 x1 x2 x3 x4 x5 x6 x7 x8 x9 x10 = stepZ x0 x1 x2 x3 x4 x6 x7 x8 x9 x10 := by
  unfold out0_A_11
  rw [View.read_writes_eq_canon _ _ _ (cover0_A_11 c i a1 h1 a2 h2 a3 h3 a4 h4 a5 h5 a6 h6 a7 h7 a8 h8 a9 h9 a10 h10 a11 h11 a12 h12 a13 h13 a14 h14 a15 h15 hc x0 x1 x2 x3 x4 x5 x6 x7 x8 x9 x10)]
  unfold kernelRun0_A
  dsimp only
  try sl_unfold_words
  rw [View.canon_unit_zero (S := S512x1024) hz2]
  simp only [View.readAt_eq_ld, h1.read_unread, h2.read_unread, h3.read_unread, h4.read_unread, h5.read_unread, h6.read_unread, h7.read_unread, h8.read_unread, h9.read_unread, h10.read_unread, h11.read_unread,
    View.ld_unit_zero (S := S1x512x1024) hz3, View.ld_unit_zero (S := S512x1024) hz2, View.ld_unit_zero (S := S1x1024) hz2, shapeCast_self]

theorem out_A12_eq (hc : cond0_0 i) : out0_A_12 c i a1 h1 a2 h2 a3 h3 a4 h4 a5 h5 a6 h6 a7 h7 a8 h8 a9 h9 a10 h10 a11 h11 a12 h12 a13 h13 a14 h14 a15 h15 hc x0 x1 x2 x3 x4 x5 x6 x7 x8 x9 x10 = stepY x0 x1 x2 x3 x4 x6 x7 x8 x9 x10 := by
  unfold out0_A_12
  rw [View.read_writes_eq_canon _ _ _ (cover0_A_12 c i a1 h1 a2 h2 a3 h3 a4 h4 a5 h5 a6 h6 a7 h7 a8 h8 a9 h9 a10 h10 a11 h11 a12 h12 a13 h13 a14 h14 a15 h15 hc x0 x1 x2 x3 x4 x5 x6 x7 x8 x9 x10)]
  unfold kernelRun0_A
  dsimp only
  try sl_unfold_words
  rw [View.canon_unit_zero (S := S512x1024) hz2]
  simp only [View.readAt_eq_ld, h1.read_unread, h2.read_unread, h3.read_unread, h4.read_unread, h5.read_unread, h6.read_unread, h7.read_unread, h8.read_unread, h9.read_unread, h10.read_unread, h11.read_unread,
    View.ld_unit_zero (S := S1x512x1024) hz3, View.ld_unit_zero (S := S512x1024) hz2, View.ld_unit_zero (S := S1x1024) hz2, shapeCast_self]

theorem out_B11_eq (hc : ¬cond0_0 i) : out0_B_11 c i a1 h1 a2 h2 a3 h3 a4 h4 a5 h5 a6 h6 a7 h7 a8 h8 a9 h9 a10 h10 a11 h11 a12 h12 a13 h13 a14 h14 a15 h15 hc x0 x1 x2 x3 x4 x5 x6 x7 x8 x9 x10 o13 o14 = stepZ x0 x1 x2 x3 x4 x6 x7 x8 x9 x10 := by
  unfold out0_B_11
  rw [View.read_writes_eq_canon _ _ _ (cover0_B_11 c i a1 h1 a2 h2 a3 h3 a4 h4 a5 h5 a6 h6 a7 h7 a8 h8 a9 h9 a10 h10 a11 h11 a12 h12 a13 h13 a14 h14 a15 h15 hc x0 x1 x2 x3 x4 x5 x6 x7 x8 x9 x10 o13 o14)]
  unfold kernelRun0_B
  dsimp only
  try sl_unfold_words
  rw [View.canon_unit_zero (S := S512x1024) hz2]
  simp only [View.readAt_eq_ld, h1.read_unread, h2.read_unread, h3.read_unread, h4.read_unread, h5.read_unread, h6.read_unread, h7.read_unread, h8.read_unread, h9.read_unread, h10.read_unread, h11.read_unread,
    View.ld_unit_zero (S := S1x512x1024) hz3, View.ld_unit_zero (S := S512x1024) hz2, View.ld_unit_zero (S := S1x1024) hz2, shapeCast_self]

theorem out_B12_eq (hc : ¬cond0_0 i) : out0_B_12 c i a1 h1 a2 h2 a3 h3 a4 h4 a5 h5 a6 h6 a7 h7 a8 h8 a9 h9 a10 h10 a11 h11 a12 h12 a13 h13 a14 h14 a15 h15 hc x0 x1 x2 x3 x4 x5 x6 x7 x8 x9 x10 o13 o14 = stepY x0 x1 x2 x3 x4 x6 x7 x8 x9 x10 := by
  unfold out0_B_12
  rw [View.read_writes_eq_canon _ _ _ (cover0_B_12 c i a1 h1 a2 h2 a3 h3 a4 h4 a5 h5 a6 h6 a7 h7 a8 h8 a9 h9 a10 h10 a11 h11 a12 h12 a13 h13 a14 h14 a15 h15 hc x0 x1 x2 x3 x4 x5 x6 x7 x8 x9 x10 o13 o14)]
  unfold kernelRun0_B
  dsimp only
  try sl_unfold_words
  rw [View.canon_unit_zero (S := S512x1024) hz2]
  simp only [View.readAt_eq_ld, h1.read_unread, h2.read_unread, h3.read_unread, h4.read_unread, h5.read_unread, h6.read_unread, h7.read_unread, h8.read_unread, h9.read_unread, h10.read_unread, h11.read_unread,
    View.ld_unit_zero (S := S1x512x1024) hz3, View.ld_unit_zero (S := S512x1024) hz2, View.ld_unit_zero (S := S1x1024) hz2, shapeCast_self]

theorem out_A13_eq (hc : cond0_0 i) (s : Fin 8) (q : Fin 1024) :
    out0_A_13 c i a1 h1 a2 h2 a3 h3 a4 h4 a5 h5 a6 h6 a7 h7 a8 h8 a9 h9 a10 h10 a11 h11 a12 h12 a13 h13 a14 h14 a15 h15 hc x0 x1 x2 x3 x4 x5 x6 x7 x8 x9 x10 (ix2 s q)
      = partRows (stepU x0 x1 x2 x3) x5 x0 x1 x2 (fun _ => 0) s q := by
  unfold out0_A_13 kernelRun0_A partRows
  dsimp only
  try sl_unfold_words
  simp only [View.readAt_eq_ld, h1.read_unread, h2.read_unread, h3.read_unread, h4.read_unread, h5.read_unread, h6.read_unread, h7.read_unread, h8.read_unread, h9.read_unread, h10.read_unread, h11.read_unread,
    View.ld_unit_zero (S := S1x512x1024) hz3, View.ld_unit_zero (S := S512x1024) hz2, View.ld_unit_zero (S := S1x1024) hz2, shapeCast_self]
  by_cases e0 : s.val = 0
  · have e := e0
    rw [if_pos e, row_miss _ _ 4 _ _ _ s q (by omega), row_miss _ _ 3 _ _ _ s q (by omega), row_miss _ _ 2 _ _ _ s q (by omega), row_miss _ _ 1 _ _ _ s q (by omega), row_hit _ _ 0 _ _ _ s q e, stored18, row_load _ 0 _ _ s q e, all_hit, stored2]
  · rw [if_neg e0]
    by_cases e1 : s.val = 1
    · have e := e1
      rw [if_pos e, row_miss _ _ 4 _ _ _ s q (by omega), row_miss _ _ 3 _ _ _ s q (by omega), row_miss _ _ 2 _ _ _ s q (by omega), row_hit _ _ 1 _ _ _ s q e, stored19, row_load _ 1 _ _ s q e, row_miss _ _ 0 _ _ _ s q (by omega), all_hit, stored2]
    · rw [if_neg e1]
      by_cases e2 : s.val = 2
      · have e := e2
        rw [if_pos e, row_miss _ _ 4 _ _ _ s q (by omega), row_miss _ _ 3 _ _ _ s q (by omega), row_hit _ _ 2 _ _ _ s q e, stored20, row_load _ 2 _ _ s q e, row_miss _ _ 1 _ _ _ s q (by omega), row_miss _ _ 0 _ _ _ s q (by omega), all_hit, stored2]
      · rw [if_neg e2]
        by_cases e3 : s.val = 3
        · have e := e3
          rw [if_pos e, row_miss _ _ 4 _ _ _ s q (by omega), row_hit _ _ 3 _ _ _ s q e, stored21, row_load _ 3 _ _ s q e, row_miss _ _ 2 _ _ _ s q (by omega), row_miss _ _ 1 _ _ _ s q (by omega), row_miss _ _ 0 _ _ _ s q (by omega), all_hit, stored2]
        · rw [if_neg e3]
          by_cases e4 : s.val = 4
          · have e := e4
            rw [if_pos e, row_hit _ _ 4 _ _ _ s q e, stored1, row_load _ 4 _ _ s q e, row_miss _ _ 3 _ _ _ s q (by omega), row_miss _ _ 2 _ _ _ s q (by omega), row_miss _ _ 1 _ _ _ s q (by omega), row_miss _ _ 0 _ _ _ s q (by omega), all_hit, stored2]
          · rw [if_neg e4]
            rw [row_miss _ _ 4 _ _ _ s q (by omega), row_miss _ _ 3 _ _ _ s q (by omega), row_miss _ _ 2 _ _ _ s q (by omega), row_miss _ _ 1 _ _ _ s q (by omega), row_miss _ _ 0 _ _ _ s q (by omega), all_hit, stored2, add_zero]

theorem out_A14_eq (hc : cond0_0 i) (s : Fin 8) (q : Fin 1024) :
    out0_A_14 c i a1 h1 a2 h2 a3 h3 a4 h4 a5 h5 a6 h6 a7 h7 a8 h8 a9 h9 a10 h10 a11 h11 a12 h12 a13 h13 a14 h14 a15 h15 hc x0 x1 x2 x3 x4 x5 x6 x7 x8 x9 x10 (ix2 s q)
      = normRows (stepD x0 x1 x2 x3 x4 x6) (stepH x7 x8 x9) (stepZ x0 x1 x2 x3 x4 x6 x7 x8 x9 x10) x8 (fun _ => 0) s q := by
  unfold out0_A_14 kernelRun0_A normRows
  dsimp only
  try sl_unfold_words
  simp only [View.readAt_eq_ld, h1.read_unread, h2.read_unread, h3.read_unread, h4.read_unread, h5.read_unread, h6.read_unread, h7.read_unread, h8.read_unread, h9.read_unread, h10.read_unread, h11.read_unread,
    View.ld_unit_zero (S := S1x512x1024) hz3, View.ld_unit_zero (S := S512x1024) hz2, View.ld_unit_zero (S := S1x1024) hz2, shapeCast_self]
  by_cases e0 : s.val = 0
  · have e := e0
    rw [if_pos e, row_miss _ _ 2 _ _ _ s q (by omega), row_miss _ _ 1 _ _ _ s q (by omega), row_hit _ _ 0 _ _ _ s q e, stored14, row_load _ 0 _ _ s q e, all_hit, stored3]
  · rw [if_neg e0]
    by_cases e1 : s.val = 1
    · have e := e1
      rw [if_pos e, row_miss _ _ 2 _ _ _ s q (by omega), row_hit _ _ 1 _ _ _ s q e, stored15, row_load _ 1 _ _ s q e, row_miss _ _ 0 _ _ _ s q (by omega), all_hit, stored3]
    · rw [if_neg e1]
      by_cases e2 : s.val = 2
      · have e := e2
        rw [if_pos e, row_hit _ _ 2 _ _ _ s q e, stored16, row_load _ 2 _ _ s q e, row_miss _ _ 1 _ _ _ s q (by omega), row_miss _ _ 0 _ _ _ s q (by omega), all_hit, stored3]
      · rw [if_neg e2]
        rw [row_miss _ _ 2 _ _ _ s q (by omega), row_miss _ _ 1 _ _ _ s q (by omega), row_miss _ _ 0 _ _ _ s q (by omega), all_hit, stored3, add_zero]

theorem out_B13_eq (hc : ¬cond0_0 i) (s : Fin 8) (q : Fin 1024) :
    out0_B_13 c i a1 h1 a2 h2 a3 h3 a4 h4 a5 h5 a6 h6 a7 h7 a8 h8 a9 h9 a10 h10 a11 h11 a12 h12 a13 h13 a14 h14 a15 h15 hc x0 x1 x2 x3 x4 x5 x6 x7 x8 x9 x10 o13 o14 (ix2 s q)
      = partRows (stepU x0 x1 x2 x3) x5 x0 x1 x2 o13 s q := by
  unfold out0_B_13 kernelRun0_B partRows
  dsimp only
  try sl_unfold_words
  simp only [View.readAt_eq_ld, h1.read_unread, h2.read_unread, h3.read_unread, h4.read_unread, h5.read_unread, h6.read_unread, h7.read_unread, h8.read_unread, h9.read_unread, h10.read_unread, h11.read_unread,
    View.ld_unit_zero (S := S1x512x1024) hz3, View.ld_unit_zero (S := S512x1024) hz2, View.ld_unit_zero (S := S1x1024) hz2, shapeCast_self]
  rw [h14.read_unread]
  by_cases e0 : s.val = 0
  · have e := e0
    rw [if_pos e, row_miss _ _ 4 _ _ _ s q (by omega), row_miss _ _ 3 _ _ _ s q (by omega), row_miss _ _ 2 _ _ _ s q (by omega), row_miss _ _ 1 _ _ _ s q (by omega), row_hit _ _ 0 _ _ _ s q e, stored18, row_ld _ 0 _ s q e]
  · rw [if_neg e0]
    by_cases e1 : s.val = 1
    · have e := e1
      rw [if_pos e, row_miss _ _ 4 _ _ _ s q (by omega), row_miss _ _ 3 _ _ _ s q (by omega), row_miss _ _ 2 _ _ _ s q (by omega), row_hit _ _ 1 _ _ _ s q e, stored19, row_ld _ 1 _ s q e]
    · rw [if_neg e1]
      by_cases e2 : s.val = 2
      · have e := e2
        rw [if_pos e, row_miss _ _ 4 _ _ _ s q (by omega), row_miss _ _ 3 _ _ _ s q (by omega), row_hit _ _ 2 _ _ _ s q e, stored20, row_ld _ 2 _ s q e]
      · rw [if_neg e2]
        by_cases e3 : s.val = 3
        · have e := e3
          rw [if_pos e, row_miss _ _ 4 _ _ _ s q (by omega), row_hit _ _ 3 _ _ _ s q e, stored21, row_ld _ 3 _ s q e]
        · rw [if_neg e3]
          by_cases e4 : s.val = 4
          · have e := e4
            rw [if_pos e, row_hit _ _ 4 _ _ _ s q e, stored1, row_ld _ 4 _ s q e]
          · rw [if_neg e4]
            rw [row_miss _ _ 4 _ _ _ s q (by omega), row_miss _ _ 3 _ _ _ s q (by omega), row_miss _ _ 2 _ _ _ s q (by omega), row_miss _ _ 1 _ _ _ s q (by omega), row_miss _ _ 0 _ _ _ s q (by omega), View.writes_nil, h14.read_unread, add_zero]

theorem out_B14_eq (hc : ¬cond0_0 i) (s : Fin 8) (q : Fin 1024) :
    out0_B_14 c i a1 h1 a2 h2 a3 h3 a4 h4 a5 h5 a6 h6 a7 h7 a8 h8 a9 h9 a10 h10 a11 h11 a12 h12 a13 h13 a14 h14 a15 h15 hc x0 x1 x2 x3 x4 x5 x6 x7 x8 x9 x10 o13 o14 (ix2 s q)
      = normRows (stepD x0 x1 x2 x3 x4 x6) (stepH x7 x8 x9) (stepZ x0 x1 x2 x3 x4 x6 x7 x8 x9 x10) x8 o14 s q := by
  unfold out0_B_14 kernelRun0_B normRows
  dsimp only
  try sl_unfold_words
  simp only [View.readAt_eq_ld, h1.read_unread, h2.read_unread, h3.read_unread, h4.read_unread, h5.read_unread, h6.read_unread, h7.read_unread, h8.read_unread, h9.read_unread, h10.read_unread, h11.read_unread,
    View.ld_unit_zero (S := S1x512x1024) hz3, View.ld_unit_zero (S := S512x1024) hz2, View.ld_unit_zero (S := S1x1024) hz2, shapeCast_self]
  rw [h15.read_unread]
  by_cases e0 : s.val = 0
  · have e := e0
    rw [if_pos e, row_miss _ _ 2 _ _ _ s q (by omega), row_miss _ _ 1 _ _ _ s q (by omega), row_hit _ _ 0 _ _ _ s q e, stored14, row_ld _ 0 _ s q e]
  · rw [if_neg e0]
    by_cases e1 : s.val = 1
    · have e := e1
      rw [if_pos e, row_miss _ _ 2 _ _ _ s q (by omega), row_hit _ _ 1 _ _ _ s q e, stored15, row_ld _ 1 _ s q e]
    · rw [if_neg e1]
      by_cases e2 : s.val = 2
      · have e := e2
        rw [if_pos e, row_hit _ _ 2 _ _ _ s q e, stored16, row_ld _ 2 _ s q e]
      · rw [if_neg e2]
        rw [row_miss _ _ 2 _ _ _ s q (by omega), row_miss _ _ 1 _ _ _ s q (by omega), row_miss _ _ 0 _ _ _ s q (by omega), View.writes_nil, h15.read_unread, add_zero]

end Steps

end Cert.Kernel16Ideal.AttnDx

end
-- ==== Proof.AttnDxSpec.lean ====
/-
  The gradient through the attention layer's q, k and v, in numbers: what it has beyond the gradient through a block's first product.
-/
module

public import proofs.«01_k».proof.Proof.MlpBackSpec

@[expose] public section

noncomputable section

namespace Cert.AttnDx

open Idealize.ShloMosaic Idealize.ShloMosaic.TcCoe
open scoped BigOperators

/-- The gradients of q, k and v beside each other. -/
def parts (d : (⟨3, ![3, 8192, 1024]⟩ : Shape).Idx → EReal) (s : Fin 8192) (j : Fin 3072) : EReal :=
  d (ix3 (⟨j.val / 1024, by have := j.isLt; omega⟩ : Fin 3) s (⟨j.val % 1024, Nat.mod_lt _ (by decide)⟩ : Fin 1024))

theorem parts0 (d : (⟨3, ![3, 8192, 1024]⟩ : Shape).Idx → EReal) (s : Fin 8192) (j : Fin 1024) (h : 0 + j.val < 3072) :
    parts d s ⟨0 + j.val, h⟩ = d (ix3 0 s j) := by
  have hj := j.isLt
  refine congrArg d (funext fun a => ?_)
  match a with
  | ⟨0, _⟩ => exact Fin.ext (show (0 + j.val) / 1024 = 0 by omega)
  | ⟨1, _⟩ => rfl
  | ⟨2, _⟩ => exact Fin.ext (show (0 + j.val) % 1024 = j.val by omega)

theorem parts1 (d : (⟨3, ![3, 8192, 1024]⟩ : Shape).Idx → EReal) (s : Fin 8192) (j : Fin 1024) (h : 1024 + j.val < 3072) :
    parts d s ⟨1024 + j.val, h⟩ = d (ix3 1 s j) := by
  have hj := j.isLt
  refine congrArg d (funext fun a => ?_)
  match a with
  | ⟨0, _⟩ => exact Fin.ext (show (1024 + j.val) / 1024 = 1 by omega)
  | ⟨1, _⟩ => rfl
  | ⟨2, _⟩ => exact Fin.ext (show (1024 + j.val) % 1024 = j.val by omega)

theorem parts2 (d : (⟨3, ![3, 8192, 1024]⟩ : Shape).Idx → EReal) (s : Fin 8192) (j : Fin 1024) (h : 2048 + j.val < 3072) :
    parts d s ⟨2048 + j.val, h⟩ = d (ix3 2 s j) := by
  have hj := j.isLt
  refine congrArg d (funext fun a => ?_)
  match a with
  | ⟨0, _⟩ => exact Fin.ext (show (2048 + j.val) / 1024 = 2 by omega)
  | ⟨1, _⟩ => rfl
  | ⟨2, _⟩ => exact Fin.ext (show (2048 + j.val) % 1024 = j.val by omega)

/-- A sum over the columns of the three parts. -/
theorem sum_parts (f : Fin 3072 → EReal) : ∑ k : Fin 3072, f k = (∑ j : Fin 1024, f ⟨0 + j.val, by have := j.isLt; omega⟩)
    + (∑ j : Fin 1024, f ⟨1024 + j.val, by have := j.isLt; omega⟩) + ∑ j : Fin 1024, f ⟨2048 + j.val, by have := j.isLt; omega⟩ := by
  refine (Fin.sum_univ_add (a := 2048) (b := 1024) f).trans (congrArg₂ (· + ·)
    ((Fin.sum_univ_add (a := 1024) (b := 1024) fun i => f (Fin.castAdd 1024 i)).trans (congrArg₂ (· + ·)
      (Finset.sum_congr rfl fun j _ => congrArg f (Fin.ext ?_)) (Finset.sum_congr rfl fun j _ => congrArg f (Fin.ext rfl))))
    (Finset.sum_congr rfl fun j _ => congrArg f (Fin.ext rfl)))
  exact (Nat.zero_add _).symm

/-- One position's part of the sums over the modulation and the bias: the gradients of the scale, of the shift and of the biases of q,
k and v, and rows of zeros. -/
def sumPart (I : Cert.MlpBack.In) (d : (⟨3, ![3, 8192, 1024]⟩ : Shape).Idx → EReal) (r : Fin 8) (q : Fin 1024) (s : Fin 8192) : EReal :=
  if r.val = 0 then I.du s q * I.mid s q else if r.val = 1 then I.du s q
  else if r.val = 2 then d (ix3 (0 : Fin 3) s q) else if r.val = 3 then d (ix3 (1 : Fin 3) s q) else if r.val = 4 then d (ix3 (2 : Fin 3) s q) else 0

def sumArr (I : Cert.MlpBack.In) (d : (⟨3, ![3, 8192, 1024]⟩ : Shape).Idx → EReal) : (⟨2, ![8, 1024]⟩ : Shape).Idx → EReal :=
  fun i => ∑ s : Fin 8192, sumPart I d (i 0) (i 1) s

end Cert.AttnDx

end
-- ==== Proof.AttnDx.lean ====
/-
  The gradient through the attention layer's q, k and v and the layer norm before it: what the steps read and what they leave.
-/
module

public import proofs.«01_k».proof.Proof.Index
public import proofs.«01_k».proof.Proof.AttnDxStep
public import proofs.«01_k».proof.Proof.AttnDxSpec

@[expose] public section

set_option maxRecDepth 16384

noncomputable section

namespace Cert.Kernel16Ideal.AttnDx

open Cert.Kernel16Ideal Cert.Kernel16Ideal.Gen Cert.Mlp Cert.Norm Cert.Rows
open Idealize.ShloMosaic Idealize.ShloMosaic.TcCoe
open Idealize.ShloMosaic.Pipeline (Window)
open scoped BigOperators

variable (m : (ℓ : Loc nD τ sig) → Buf (Elt Ideal) ℓ) (c : Dev nD)

/-- The arguments. -/
abbrev arg0 : S8192x1024.Idx → EReal := m ((c.tc : Thread nD τ).loc main_arg0)
abbrev arg1 : S8192x1024.Idx → EReal := m ((c.tc : Thread nD τ).loc main_arg1)
abbrev arg2 : S1x1024.Idx → EReal := m ((c.tc : Thread nD τ).loc main_arg2)
abbrev arg3 : S1x1024.Idx → EReal := m ((c.tc : Thread nD τ).loc main_arg3)
abbrev arg4 : S1x1024.Idx → EReal := m ((c.tc : Thread nD τ).loc main_arg4)
abbrev arg5 : S1x1024.Idx → EReal := m ((c.tc : Thread nD τ).loc main_arg5)
abbrev arg7 : S1024x3072.Idx → EReal := m ((c.tc : Thread nD τ).loc main_arg7)
abbrev arg8 : S8192x1024.Idx → EReal := m ((c.tc : Thread nD τ).loc main_arg8)
abbrev arg9 : S3x8192x1024.Idx → EReal := m ((c.tc : Thread nD τ).loc main_arg9)

/-- The arguments, in numbers. -/
def inputs : Cert.MlpBack.In := Cert.MlpBack.ofArrays (arg0 m c) (arg1 m c) (arg2 m c) (arg3 m c) (arg4 m c) (arg5 m c) (arg8 m c)
  (Cert.MlpBack.product (Cert.AttnDx.parts (arg9 m c)) (arg7 m c))

theorem V_weight (k : Fin 1024) (q : Fin 3072) : (V m c main_v1 : S1x1024x3072.Idx → EReal) (ix3 0 k q) = arg7 m c (ix2 k q) := by
  unfold V
  after_reads_at

theorem V_scale (q : Fin 1024) : (V m c main_v31 : S1x1024.Idx → EReal) (ix2 0 q) = one + (inputs m c).sc q := by
  unfold V
  after_reads_at
  rfl

theorem V_gate (q : Fin 1024) : (V m c main_v33 : S1x1024.Idx → EReal) (ix2 0 q) = one + (inputs m c).gate q := by
  unfold V
  after_reads_at
  rfl

theorem V_mid (s : Fin 8192) (k : Fin 1024) : (V m c main_v29 : S8192x1024.Idx → EReal) (ix2 s k) = (inputs m c).mid s k := by
  unfold V
  after_reads_at
  rfl

theorem index0 : ∀ t : Fin cfg0.N, win0_0.index t = ![0, t.val, 0] := (by decide +kernel : ∀ t : Fin grid0.N, win0_0.index t = ![0, t.val, 0])
theorem index1 : ∀ t : Fin cfg0.N, win0_1.index t = ![1, t.val, 0] := (by decide +kernel : ∀ t : Fin grid0.N, win0_1.index t = ![1, t.val, 0])
theorem index2 : ∀ t : Fin cfg0.N, win0_2.index t = ![2, t.val, 0] := (by decide +kernel : ∀ t : Fin grid0.N, win0_2.index t = ![2, t.val, 0])
theorem index3 : ∀ t : Fin cfg0.N, win0_3.index t = ![0, 0, 0] := (by decide +kernel : ∀ t : Fin grid0.N, win0_3.index t = ![0, 0, 0])
theorem index4 : ∀ t : Fin cfg0.N, win0_4.index t = ![t.val, 0] := (by decide +kernel : ∀ t : Fin grid0.N, win0_4.index t = ![t.val, 0])
theorem index5 : ∀ t : Fin cfg0.N, win0_5.index t = ![t.val, 0] := (by decide +kernel : ∀ t : Fin grid0.N, win0_5.index t = ![t.val, 0])
theorem index6 : ∀ t : Fin cfg0.N, win0_6.index t = ![0, 0] := (by decide +kernel : ∀ t : Fin grid0.N, win0_6.index t = ![0, 0])
theorem index7 : ∀ t : Fin cfg0.N, win0_7.index t = ![t.val, 0] := (by decide +kernel : ∀ t : Fin grid0.N, win0_7.index t = ![t.val, 0])
theorem index8 : ∀ t : Fin cfg0.N, win0_8.index t = ![t.val, 0] := (by decide +kernel : ∀ t : Fin grid0.N, win0_8.index t = ![t.val, 0])
theorem index9 : ∀ t : Fin cfg0.N, win0_9.index t = ![0, 0] := (by decide +kernel : ∀ t : Fin grid0.N, win0_9.index t = ![0, 0])
theorem index10 : ∀ t : Fin cfg0.N, win0_10.index t = ![0, 0] := (by decide +kernel : ∀ t : Fin grid0.N, win0_10.index t = ![0, 0])
theorem index11 : ∀ t : Fin cfg0.N, win0_11.index t = ![t.val, 0] := (by decide +kernel : ∀ t : Fin grid0.N, win0_11.index t = ![t.val, 0])
theorem index12 : ∀ t : Fin cfg0.N, win0_12.index t = ![t.val, 0] := (by decide +kernel : ∀ t : Fin grid0.N, win0_12.index t = ![t.val, 0])
theorem index13 : ∀ t : Fin cfg0.N, win0_13.index t = ![0, 0] := (by decide +kernel : ∀ t : Fin grid0.N, win0_13.index t = ![0, 0])
theorem index14 : ∀ t : Fin cfg0.N, win0_14.index t = ![0, 0] := (by decide +kernel : ∀ t : Fin grid0.N, win0_14.index t = ![0, 0])

theorem block0 (t : Fin cfg0.N) (r : Fin 512) (k : Fin 1024) (h : t.val * 512 + r.val < 8192) :
    (iblk m c 0 t : S1x512x1024.Idx → EReal) (ix3 0 r k) = arg9 m c (ix3 0 ⟨t.val * 512 + r.val, h⟩ k) := by
  have e0 : ((((cfg0.win 0).blk t).view.emb (ix3 0 r k : S1x512x1024.Idx) 0 : Fin _) : ℕ) = 0 := by
    blk_simp [index0]
    rfl
  have e1 : ((((cfg0.win 0).blk t).view.emb (ix3 0 r k : S1x512x1024.Idx) 1 : Fin _) : ℕ) = t.val * 512 + r.val := by blk_simp [index0]
  have e2 : ((((cfg0.win 0).blk t).view.emb (ix3 0 r k : S1x512x1024.Idx) 2 : Fin _) : ℕ) = k.val := by blk_simp [index0]
  refine Eq.trans (b := V m c main_arg9 (((cfg0.win 0).blk t).view.emb (ix3 0 r k : S1x512x1024.Idx))) rfl ?_
  refine Eq.trans (congrArg (V m c main_arg9) (a₂ := ix3 0 ⟨t.val * 512 + r.val, h⟩ k) (funext fun a => ?_)) (congrFun (V_main_arg9 m c) _)
  match a with
  | ⟨0, _⟩ => exact Fin.ext e0
  | ⟨1, _⟩ => exact Fin.ext e1
  | ⟨2, _⟩ => exact Fin.ext e2

theorem block1 (t : Fin cfg0.N) (r : Fin 512) (k : Fin 1024) (h : t.val * 512 + r.val < 8192) :
    (iblk m c 1 t : S1x512x1024.Idx → EReal) (ix3 0 r k) = arg9 m c (ix3 1 ⟨t.val * 512 + r.val, h⟩ k) := by
  have e0 : ((((cfg0.win 1).blk t).view.emb (ix3 0 r k : S1x512x1024.Idx) 0 : Fin _) : ℕ) = 1 := by
    blk_simp [index1]
    rfl
  have e1 : ((((cfg0.win 1).blk t).view.emb (ix3 0 r k : S1x512x1024.Idx) 1 : Fin _) : ℕ) = t.val * 512 + r.val := by blk_simp [index1]
  have e2 : ((((cfg0.win 1).blk t).view.emb (ix3 0 r k : S1x512x1024.Idx) 2 : Fin _) : ℕ) = k.val := by blk_simp [index1]
  refine Eq.trans (b := V m c main_arg9 (((cfg0.win 1).blk t).view.emb (ix3 0 r k : S1x512x1024.Idx))) rfl ?_
  refine Eq.trans (congrArg (V m c main_arg9) (a₂ := ix3 1 ⟨t.val * 512 + r.val, h⟩ k) (funext fun a => ?_)) (congrFun (V_main_arg9 m c) _)
  match a with
  | ⟨0, _⟩ => exact Fin.ext e0
  | ⟨1, _⟩ => exact Fin.ext e1
  | ⟨2, _⟩ => exact Fin.ext e2

theorem block2 (t : Fin cfg0.N) (r : Fin 512) (k : Fin 1024) (h : t.val * 512 + r.val < 8192) :
    (iblk m c 2 t : S1x512x1024.Idx → EReal) (ix3 0 r k) = arg9 m c (ix3 2 ⟨t.val * 512 + r.val, h⟩ k) := by
  have e0 : ((((cfg0.win 2).blk t).view.emb (ix3 0 r k : S1x512x1024.Idx) 0 : Fin _) : ℕ) = 2 := by
    blk_simp [index2]
    rfl
  have e1 : ((((cfg0.win 2).blk t).view.emb (ix3 0 r k : S1x512x1024.Idx) 1 : Fin _) : ℕ) = t.val * 512 + r.val := by blk_simp [index2]
  have e2 : ((((cfg0.win 2).blk t).view.emb (ix3 0 r k : S1x512x1024.Idx) 2 : Fin _) : ℕ) = k.val := by blk_simp [index2]
  refine Eq.trans (b := V m c main_arg9 (((cfg0.win 2).blk t).view.emb (ix3 0 r k : S1x512x1024.Idx))) rfl ?_
  refine Eq.trans (congrArg (V m c main_arg9) (a₂ := ix3 2 ⟨t.val * 512 + r.val, h⟩ k) (funext fun a => ?_)) (congrFun (V_main_arg9 m c) _)
  match a with
  | ⟨0, _⟩ => exact Fin.ext e0
  | ⟨1, _⟩ => exact Fin.ext e1
  | ⟨2, _⟩ => exact Fin.ext e2

theorem block3 (t : Fin cfg0.N) (k : Fin 1024) (q : Fin 3072) : (iblk m c 3 t : S1x1024x3072.Idx → EReal) (ix3 0 k q) = arg7 m c (ix2 k q) := by
  refine Eq.trans (b := V m c main_v1 (((cfg0.win 3).blk t).view.emb (ix3 0 k q : S1x1024x3072.Idx))) rfl ?_
  exact Eq.trans (congrArg (V m c main_v1) (a₂ := ix3 0 k q) (ext3 (only _ _) (by show _ = k.val; blk_simp [index3]) (by show _ = q.val; blk_simp [index3]))) (V_weight m c k q)

theorem block4 (t : Fin cfg0.N) (r : Fin 512) (k : Fin 1024) (h : t.val * 512 + r.val < 8192) :
    (iblk m c 4 t : S512x1024.Idx → EReal) (ix2 r k) = (inputs m c).dz2 ⟨t.val * 512 + r.val, h⟩ k := by
  refine Eq.trans (b := V m c main_arg8 (((cfg0.win 4).blk t).view.emb (ix2 r k : S512x1024.Idx))) rfl ?_
  exact Eq.trans (congrArg (V m c main_arg8) (a₂ := ix2 ⟨t.val * 512 + r.val, h⟩ k) (ext2 (by show _ = t.val * 512 + r.val; blk_simp [index4]) (by show _ = k.val; blk_simp [index4]))) (congrFun (V_main_arg8 m c) _)

theorem block5 (t : Fin cfg0.N) (r : Fin 512) (k : Fin 1024) (h : t.val * 512 + r.val < 8192) :
    (iblk m c 5 t : S512x1024.Idx → EReal) (ix2 r k) = (inputs m c).mid ⟨t.val * 512 + r.val, h⟩ k := by
  refine Eq.trans (b := V m c main_v29 (((cfg0.win 5).blk t).view.emb (ix2 r k : S512x1024.Idx))) rfl ?_
  exact Eq.trans (congrArg (V m c main_v29) (a₂ := ix2 ⟨t.val * 512 + r.val, h⟩ k) (ext2 (by show _ = t.val * 512 + r.val; blk_simp [index5]) (by show _ = k.val; blk_simp [index5]))) (V_mid m c _ k)

theorem block6 (t : Fin cfg0.N) (q : Fin 1024) : (iblk m c 6 t : S1x1024.Idx → EReal) (ix2 0 q) = one + (inputs m c).sc q := by
  refine Eq.trans (b := V m c main_v31 (((cfg0.win 6).blk t).view.emb (ix2 0 q : S1x1024.Idx))) rfl ?_
  exact Eq.trans (congrArg (V m c main_v31) (a₂ := ix2 0 q) (ext2 (only _ _) (by show _ = q.val; blk_simp [index6]))) (V_scale m c q)

theorem block7 (t : Fin cfg0.N) (r : Fin 512) (k : Fin 1024) (h : t.val * 512 + r.val < 8192) :
    (iblk m c 7 t : S512x1024.Idx → EReal) (ix2 r k) = (inputs m c).x ⟨t.val * 512 + r.val, h⟩ k := by
  refine Eq.trans (b := V m c main_arg0 (((cfg0.win 7).blk t).view.emb (ix2 r k : S512x1024.Idx))) rfl ?_
  exact Eq.trans (congrArg (V m c main_arg0) (a₂ := ix2 ⟨t.val * 512 + r.val, h⟩ k) (ext2 (by show _ = t.val * 512 + r.val; blk_simp [index7]) (by show _ = k.val; blk_simp [index7]))) (congrFun (V_main_arg0 m c) _)

theorem block8 (t : Fin cfg0.N) (r : Fin 512) (k : Fin 1024) (h : t.val * 512 + r.val < 8192) :
    (iblk m c 8 t : S512x1024.Idx → EReal) (ix2 r k) = (inputs m c).y ⟨t.val * 512 + r.val, h⟩ k := by
  refine Eq.trans (b := V m c main_arg1 (((cfg0.win 8).blk t).view.emb (ix2 r k : S512x1024.Idx))) rfl ?_
  exact Eq.trans (congrArg (V m c main_arg1) (a₂ := ix2 ⟨t.val * 512 + r.val, h⟩ k) (ext2 (by show _ = t.val * 512 + r.val; blk_simp [index8]) (by show _ = k.val; blk_simp [index8]))) (congrFun (V_main_arg1 m c) _)

theorem block9 (t : Fin cfg0.N) (q : Fin 1024) : (iblk m c 9 t : S1x1024.Idx → EReal) (ix2 0 q) = one + (inputs m c).gate q := by
  refine Eq.trans (b := V m c main_v33 (((cfg0.win 9).blk t).view.emb (ix2 0 q : S1x1024.Idx))) rfl ?_
  exact Eq.trans (congrArg (V m c main_v33) (a₂ := ix2 0 q) (ext2 (only _ _) (by show _ = q.val; blk_simp [index9]))) (V_gate m c q)

theorem block10 (t : Fin cfg0.N) (q : Fin 1024) : (iblk m c 10 t : S1x1024.Idx → EReal) (ix2 0 q) = (inputs m c).g q := by
  refine Eq.trans (b := V m c main_arg3 (((cfg0.win 10).blk t).view.emb (ix2 0 q : S1x1024.Idx))) rfl ?_
  exact Eq.trans (congrArg (V m c main_arg3) (a₂ := ix2 0 q) (ext2 (only _ _) (by show _ = q.val; blk_simp [index10]))) (congrFun (V_main_arg3 m c) _)

/-! ### A step's values -/

/-- A step's arrays, of the blocks it reads: the gradients of the block's input and of the norm's output, the normed row, and the gradients
of the stream and of the sublayer's output. -/
abbrev atU (t : Fin cfg0.N) : S512x1024.Idx → EReal := stepU (iblk m c 0 t) (iblk m c 1 t) (iblk m c 2 t) (iblk m c 3 t)
abbrev atD (t : Fin cfg0.N) : S512x1024.Idx → EReal := stepD (iblk m c 0 t) (iblk m c 1 t) (iblk m c 2 t) (iblk m c 3 t) (iblk m c 4 t) (iblk m c 6 t)
abbrev atH (t : Fin cfg0.N) : S512x1024.Idx → EReal := stepH (iblk m c 7 t) (iblk m c 8 t) (iblk m c 9 t)
abbrev atZ (t : Fin cfg0.N) : S512x1024.Idx → EReal := stepZ (iblk m c 0 t) (iblk m c 1 t) (iblk m c 2 t) (iblk m c 3 t) (iblk m c 4 t) (iblk m c 6 t) (iblk m c 7 t) (iblk m c 8 t) (iblk m c 9 t) (iblk m c 10 t)
abbrev atY (t : Fin cfg0.N) : S512x1024.Idx → EReal := stepY (iblk m c 0 t) (iblk m c 1 t) (iblk m c 2 t) (iblk m c 3 t) (iblk m c 4 t) (iblk m c 6 t) (iblk m c 7 t) (iblk m c 8 t) (iblk m c 9 t) (iblk m c 10 t)

theorem step_du (t : Fin cfg0.N) (r : Fin 512) (q : Fin 1024) (h : t.val * 512 + r.val < 8192) : atU m c t (ix2 r q) = (inputs m c).du ⟨t.val * 512 + r.val, h⟩ q := by
  change _ = ∑ k : Fin 3072, Cert.AttnDx.parts (arg9 m c) ⟨t.val * 512 + r.val, h⟩ k * arg7 m c (ix2 q k)
  rw [Cert.AttnDx.sum_parts]
  refine (stored4 _ _ _ _ _ _ r q).trans (congrArg₂ (· + ·) (congrArg₂ (· + ·) (Finset.sum_congr rfl fun k _ => ?_) (Finset.sum_congr rfl fun k _ => ?_))
    (Finset.sum_congr rfl fun k _ => ?_))
  · exact congrArg₂ (fun a b : EReal => a * b) ((block0 m c t r k h).trans (Cert.AttnDx.parts0 (arg9 m c) _ k (by have := k.isLt; omega)).symm)
      ((cols0_at _ q k (by have := k.isLt; omega)).trans (block3 m c t q _))
  · exact congrArg₂ (fun a b : EReal => a * b) ((block1 m c t r k h).trans (Cert.AttnDx.parts1 (arg9 m c) _ k (by have := k.isLt; omega)).symm)
      ((cols1_at _ q k (by have := k.isLt; omega)).trans (block3 m c t q _))
  · exact congrArg₂ (fun a b : EReal => a * b) ((block2 m c t r k h).trans (Cert.AttnDx.parts2 (arg9 m c) _ k (by have := k.isLt; omega)).symm)
      ((cols2_at _ q k (by have := k.isLt; omega)).trans (block3 m c t q _))

theorem step_dxo (t : Fin cfg0.N) (r : Fin 512) (q : Fin 1024) (h : t.val * 512 + r.val < 8192) : atD m c t (ix2 r q) = (inputs m c).dxo ⟨t.val * 512 + r.val, h⟩ q := by
  refine (stored5 _ _ _ _ _ _ _ _ r q).trans ?_
  exact congrArg₂ (· + ·) (congrArg (alpha * ·) (block4 m c t r q h)) (congrArg₂ (· * ·) (step_du m c t r q h) (block6 m c t q))

theorem step_row (t : Fin cfg0.N) (r : Fin 512) (h : t.val * 512 + r.val < 8192) :
    gated (iblk m c 7 t) (iblk m c 8 t) (iblk m c 9 t) r = (inputs m c).row ⟨t.val * 512 + r.val, h⟩ := by
  funext k
  unfold gated
  rw [block7 m c t r k h, block8 m c t r k h, block9 m c t k]
  rfl

theorem step_hat (t : Fin cfg0.N) (r : Fin 512) (q : Fin 1024) (h : t.val * 512 + r.val < 8192) : atH m c t (ix2 r q) = hat ((inputs m c).row ⟨t.val * 512 + r.val, h⟩) q := by
  refine (stored9 _ _ _ r q).trans ?_
  rw [step_row m c t r h]

theorem step_dz (t : Fin cfg0.N) (r : Fin 512) (q : Fin 1024) (h : t.val * 512 + r.val < 8192) : atZ m c t (ix2 r q) = (inputs m c).dz ⟨t.val * 512 + r.val, h⟩ q := by
  have hd : ∀ k : Fin 1024, atD m c t (ix2 r k) * (iblk m c 10 t : S1x1024.Idx → EReal) (ix2 0 k) = (inputs m c).dhat ⟨t.val * 512 + r.val, h⟩ k := fun k => by
    rw [step_dxo m c t r k h, block10 m c t k]
    rfl
  unfold Cert.MlpBack.In.dz back
  refine (stored12 _ _ r q).trans (congrArg₂ (fun a b : EReal => a * b) ((stored11 _ _ _ r q).trans (congrArg rstd (step_row m c t r h)))
    ((stored10 _ _ _ _ _ r q).trans ?_))
  rw [step_row m c t r h]
  exact congrArg₂ (· - ·) (congrArg₂ (· - ·) (hd q) (congrArg mean (funext hd)))
    (congrArg (hat _ q * ·) (congrArg mean (funext fun k => congrArg (· * hat _ k) (hd k))))

theorem step_dy (t : Fin cfg0.N) (r : Fin 512) (q : Fin 1024) (h : t.val * 512 + r.val < 8192) : atY m c t (ix2 r q) = (inputs m c).dy ⟨t.val * 512 + r.val, h⟩ q := by
  refine (stored13 _ _ _ r q).trans ?_
  exact congrArg₂ (fun a b : EReal => a * b) (block9 m c t q) (step_dz m c t r q h)

/-- What a step adds to the sums over the modulation. -/
theorem adds_sum (n : ℕ) (h : n < cfg0.N) (o : S8x1024.Idx → EReal) (s : Fin 8) (q : Fin 1024) :
    partRows (atU m c ⟨n, h⟩) (iblk m c 5 ⟨n, h⟩) (iblk m c 0 ⟨n, h⟩) (iblk m c 1 ⟨n, h⟩) (iblk m c 2 ⟨n, h⟩) o s q = o (ix2 s q) + tile 16 512 rfl (Cert.AttnDx.sumPart (inputs m c) (arg9 m c) s q) n := by
  have hn : n < 16 := h.trans_eq N_0
  have hb : ∀ t : Fin 512, n * 512 + t.val < 8192 := fun t => by have := t.isLt; omega
  rw [tile_of_lt 16 512 rfl _ n hn hb]
  unfold partRows Cert.AttnDx.sumPart
  refine congrArg (o (ix2 s q) + ·) ?_
  split_ifs
  · refine Finset.sum_congr rfl fun r _ => ?_
    rw [step_du m c ⟨n, h⟩ r q (hb r), block5 m c ⟨n, h⟩ r q (hb r)]
  · exact Finset.sum_congr rfl fun r _ => step_du m c ⟨n, h⟩ r q (hb r)
  · exact Finset.sum_congr rfl fun r _ => block0 m c ⟨n, h⟩ r q (hb r)
  · exact Finset.sum_congr rfl fun r _ => block1 m c ⟨n, h⟩ r q (hb r)
  · exact Finset.sum_congr rfl fun r _ => block2 m c ⟨n, h⟩ r q (hb r)
  · exact Finset.sum_const_zero.symm

/-- What a step adds to the sums over the norm. -/
theorem adds_norm (n : ℕ) (h : n < cfg0.N) (o : S8x1024.Idx → EReal) (s : Fin 8) (q : Fin 1024) :
    normRows (atD m c ⟨n, h⟩) (atH m c ⟨n, h⟩)
      (atZ m c ⟨n, h⟩) (iblk m c 8 ⟨n, h⟩) o s q
      = o (ix2 s q) + tile 16 512 rfl ((inputs m c).normPart s q) n := by
  have hn : n < 16 := h.trans_eq N_0
  have hb : ∀ t : Fin 512, n * 512 + t.val < 8192 := fun t => by have := t.isLt; omega
  rw [tile_of_lt 16 512 rfl _ n hn hb]
  unfold normRows Cert.MlpBack.In.normPart
  refine congrArg (o (ix2 s q) + ·) ?_
  split_ifs
  · refine Finset.sum_congr rfl fun r _ => ?_
    rw [step_dxo m c ⟨n, h⟩ r q (hb r), step_hat m c ⟨n, h⟩ r q (hb r)]
  · exact Finset.sum_congr rfl fun r _ => step_dxo m c ⟨n, h⟩ r q (hb r)
  · refine Finset.sum_congr rfl fun r _ => ?_
    rw [step_dz m c ⟨n, h⟩ r q (hb r), block8 m c ⟨n, h⟩ r q (hb r)]
  · exact Finset.sum_const_zero.symm

theorem left11 (t : Fin cfg0.N) : (outsAt0 m c t.val t.isLt).1 = atZ m c t := by
  by_cases h0 : t.val % 16 = 0
  · rw [outsAt0_A m c t h0]
    dsimp only
    rw [out_A11_eq]
  · rw [outsAt0_B m c t h0]
    dsimp only
    rw [out_B11_eq]

theorem left12 (t : Fin cfg0.N) : (outsAt0 m c t.val t.isLt).2.1 = atY m c t := by
  by_cases h0 : t.val % 16 = 0
  · rw [outsAt0_A m c t h0]
    dsimp only
    rw [out_A12_eq]
  · rw [outsAt0_B m c t h0]
    dsimp only
    rw [out_B12_eq]

theorem left13_A (t : Fin cfg0.N) (h0 : t.val % 16 = 0) (s : Fin 8) (q : Fin 1024) :
    ((outsAt0 m c t.val t.isLt).2.2.1 : S8x1024.Idx → EReal) (ix2 s q) = partRows (atU m c t) (iblk m c 5 t) (iblk m c 0 t) (iblk m c 1 t) (iblk m c 2 t) (fun _ => 0) s q := by
  rw [outsAt0_A m c t h0]
  dsimp only
  rw [out_A13_eq]

theorem left13_B (t : Fin cfg0.N) (h0 : ¬t.val % 16 = 0) (s : Fin 8) (q : Fin 1024) :
    ((outsAt0 m c t.val t.isLt).2.2.1 : S8x1024.Idx → EReal) (ix2 s q) = partRows (atU m c t) (iblk m c 5 t) (iblk m c 0 t) (iblk m c 1 t) (iblk m c 2 t) (outsAt0 m c (t.val - 1) (Nat.lt_of_le_of_lt (Nat.sub_le _ _) t.isLt)).2.2.1 s q := by
  rw [outsAt0_B m c t h0]
  dsimp only
  rw [out_B13_eq]

/-- The sums after `n` steps. -/
theorem left13 (n : ℕ) (h : n < cfg0.N) (s : Fin 8) (q : Fin 1024) :
    ((outsAt0 m c n h).2.2.1 : S8x1024.Idx → EReal) (ix2 s q) = ∑ j ∈ Finset.range (n + 1), tile 16 512 rfl (Cert.AttnDx.sumPart (inputs m c) (arg9 m c) s q) j := by
  induction n with
  | zero =>
    refine (left13_A m c ⟨0, h⟩ (Nat.zero_mod _) s q).trans ?_
    rw [adds_sum m c 0 h, zero_add, Finset.sum_range_one]
  | succ n ih =>
    have hn : n + 1 < 16 := h.trans_eq N_0
    have h0 : ¬(n + 1) % 16 = 0 := by omega
    refine (left13_B m c ⟨n + 1, h⟩ h0 s q).trans ?_
    rw [adds_sum m c (n + 1) h, Finset.sum_range_succ _ (n + 1)]
    exact congrArg (· + _) (ih (Nat.lt_of_succ_lt h))

theorem left14_A (t : Fin cfg0.N) (h0 : t.val % 16 = 0) (s : Fin 8) (q : Fin 1024) :
    ((outsAt0 m c t.val t.isLt).2.2.2 : S8x1024.Idx → EReal) (ix2 s q) = normRows (atD m c t) (atH m c t)
      (atZ m c t) (iblk m c 8 t) (fun _ => 0) s q := by
  rw [outsAt0_A m c t h0]
  dsimp only
  rw [out_A14_eq]

theorem left14_B (t : Fin cfg0.N) (h0 : ¬t.val % 16 = 0) (s : Fin 8) (q : Fin 1024) :
    ((outsAt0 m c t.val t.isLt).2.2.2 : S8x1024.Idx → EReal) (ix2 s q) = normRows (atD m c t) (atH m c t)
      (atZ m c t) (iblk m c 8 t) (outsAt0 m c (t.val - 1) (Nat.lt_of_le_of_lt (Nat.sub_le _ _) t.isLt)).2.2.2 s q := by
  rw [outsAt0_B m c t h0]
  dsimp only
  rw [out_B14_eq]

/-- The sums after `n` steps. -/
theorem left14 (n : ℕ) (h : n < cfg0.N) (s : Fin 8) (q : Fin 1024) :
    ((outsAt0 m c n h).2.2.2 : S8x1024.Idx → EReal) (ix2 s q) = ∑ j ∈ Finset.range (n + 1), tile 16 512 rfl ((inputs m c).normPart s q) j := by
  induction n with
  | zero =>
    refine (left14_A m c ⟨0, h⟩ (Nat.zero_mod _) s q).trans ?_
    rw [adds_norm m c 0 h, zero_add, Finset.sum_range_one]
  | succ n ih =>
    have hn : n + 1 < 16 := h.trans_eq N_0
    have h0 : ¬(n + 1) % 16 = 0 := by omega
    refine (left14_B m c ⟨n + 1, h⟩ h0 s q).trans ?_
    rw [adds_norm m c (n + 1) h, Finset.sum_range_succ _ (n + 1)]
    exact congrArg (· + _) (ih (Nat.lt_of_succ_lt h))

/-! ### The whole results -/

theorem result_z : (dats m 0 c).arrAt 11 cfg0.N = (inputs m c).zArr := by
  have hcov : (cfg0.win 11).Covers := by decide +kernel
  refine (dats m 0 c).arrAt_eq_of_covers (11 : Fin cfg0.W) ((inputs m c).zArr) hcov (fun t hf y => ?_) (Memref.isWhole_whole _)
  refine Eq.trans (b := (dats m 0 c).after 11 t y) (by blk_simp) ?_
  rw [after0_11, left11]
  have b0 : (y 0).val < 512 := (y 0).isLt
  have ht : t.val < 16 := t.isLt.trans_eq N_0
  have e0 : ((((cfg0.win 11).blk t).view.emb y 0 : Fin _) : ℕ) = t.val * 512 + (y 0).val := by blk_simp [index11]
  have e1 : ((((cfg0.win 11).blk t).view.emb y 1 : Fin _) : ℕ) = (y 1).val := by blk_simp [index11]
  refine ((congrArg _ (ValueIdx.eq_ix2 y)).trans (step_dz m c t (y 0) (y 1) (by omega))).trans ?_
  have q0 : (⟨t.val * 512 + (y 0).val, by omega⟩ : Fin 8192) = ((cfg0.win 11).blk t).view.emb y 0 := Fin.ext e0.symm
  have q1 : y 1 = ((cfg0.win 11).blk t).view.emb y 1 := Fin.ext e1.symm
  rw [q0, q1]
  rfl

theorem result_y : (dats m 0 c).arrAt 12 cfg0.N = (inputs m c).yArr := by
  have hcov : (cfg0.win 12).Covers := by decide +kernel
  refine (dats m 0 c).arrAt_eq_of_covers (12 : Fin cfg0.W) ((inputs m c).yArr) hcov (fun t hf y => ?_) (Memref.isWhole_whole _)
  refine Eq.trans (b := (dats m 0 c).after 12 t y) (by blk_simp) ?_
  rw [after0_12, left12]
  have b0 : (y 0).val < 512 := (y 0).isLt
  have ht : t.val < 16 := t.isLt.trans_eq N_0
  have e0 : ((((cfg0.win 12).blk t).view.emb y 0 : Fin _) : ℕ) = t.val * 512 + (y 0).val := by blk_simp [index12]
  have e1 : ((((cfg0.win 12).blk t).view.emb y 1 : Fin _) : ℕ) = (y 1).val := by blk_simp [index12]
  refine ((congrArg _ (ValueIdx.eq_ix2 y)).trans (step_dy m c t (y 0) (y 1) (by omega))).trans ?_
  have q0 : (⟨t.val * 512 + (y 0).val, by omega⟩ : Fin 8192) = ((cfg0.win 12).blk t).view.emb y 0 := Fin.ext e0.symm
  have q1 : y 1 = ((cfg0.win 12).blk t).view.emb y 1 := Fin.ext e1.symm
  rw [q0, q1]
  rfl

theorem result_sum : (dats m 0 c).arrAt 13 cfg0.N = Cert.AttnDx.sumArr (inputs m c) (arg9 m c) := by
  have hcov : (cfg0.win 13).Covers := by decide +kernel
  have hlast : ∀ t : Fin cfg0.N, (cfg0.win 13).flush t = true → t.val = 15 :=
    (by decide +kernel : ∀ t : Fin grid0.N, (cfg0.win 13).flush t = true → t.val = 15)
  refine (dats m 0 c).arrAt_eq_of_covers (13 : Fin cfg0.W) (Cert.AttnDx.sumArr (inputs m c) (arg9 m c)) hcov (fun t hf y => ?_) (Memref.isWhole_whole _)
  refine Eq.trans (b := (dats m 0 c).after 13 t y) (by blk_simp) ?_
  have e : ((cfg0.win 13).blk t).view.emb y = y := ext2 (by show _ = (y 0).val; blk_simp [index13]) (by show _ = (y 1).val; blk_simp [index13])
  rw [after0_13]
  refine ((congrArg _ (ValueIdx.eq_ix2 y)).trans (left13 m c t.val t.isLt (y 0) (y 1))).trans ?_
  rw [hlast t hf]
  refine (tiles_sum 16 512 rfl _).trans ?_
  exact congrArg (Cert.AttnDx.sumArr (inputs m c) (arg9 m c)) e.symm

theorem result_norm : (dats m 0 c).arrAt 14 cfg0.N = (inputs m c).normArr := by
  have hcov : (cfg0.win 14).Covers := by decide +kernel
  have hlast : ∀ t : Fin cfg0.N, (cfg0.win 14).flush t = true → t.val = 15 :=
    (by decide +kernel : ∀ t : Fin grid0.N, (cfg0.win 14).flush t = true → t.val = 15)
  refine (dats m 0 c).arrAt_eq_of_covers (14 : Fin cfg0.W) ((inputs m c).normArr) hcov (fun t hf y => ?_) (Memref.isWhole_whole _)
  refine Eq.trans (b := (dats m 0 c).after 14 t y) (by blk_simp) ?_
  have e : ((cfg0.win 14).blk t).view.emb y = y := ext2 (by show _ = (y 0).val; blk_simp [index14]) (by show _ = (y 1).val; blk_simp [index14])
  rw [after0_14]
  refine ((congrArg _ (ValueIdx.eq_ix2 y)).trans (left14 m c t.val t.isLt (y 0) (y 1))).trans ?_
  rw [hlast t hf]
  refine (tiles_sum 16 512 rfl _).trans ?_
  exact congrArg ((inputs m c).normArr) e.symm

end Cert.Kernel16Ideal.AttnDx

end
-- ==== Proof.AttnDxRef.lean ====
/-
  The gradient through the attention layer's q, k and v and the layer norm before it, as the reference computes it: by the chain rule through the mean and the variance.
-/
module

public import proofs.«01_k».proof.Proof.Index
public import proofs.«01_k».proof.Proof.AttnDxSpec
public import proofs.«01_k».proof.Proof.Gen.Reference16Ideal.Read
public import Idealize.ShloMosaic.Lib.Pipeline.Value

@[expose] public section

set_option maxRecDepth 16384

noncomputable section

namespace Cert.Reference16Ideal.Read

open Cert.Reference16Ideal Cert.Reference16Ideal.Gen Cert.Norm
open Idealize.ShloMosaic Idealize.ShloMosaic.TcCoe
open scoped BigOperators

/-- The arguments the results depend on. -/
structure Args where
  x0 : S8192x1024.Idx → EReal
  x1 : S8192x1024.Idx → EReal
  x2 : S1x1024.Idx → EReal
  x3 : S1x1024.Idx → EReal
  x4 : S1x1024.Idx → EReal
  x5 : S1x1024.Idx → EReal
  x7 : S1024x3072.Idx → EReal
  x8 : S8192x1024.Idx → EReal
  x9 : S3x8192x1024.Idx → EReal

/-- The arguments, in numbers. -/
def Args.nums (a : Args) : Cert.MlpBack.In :=
  Cert.MlpBack.ofArrays a.x0 a.x1 a.x2 a.x3 a.x4 a.x5 a.x8 (Cert.MlpBack.product (Cert.AttnDx.parts a.x9) a.x7)

variable (a : Args)

theorem row_value (s : Fin 8192) (k : Fin 1024) : val_main_v7 (F := Ideal) a.x0 a.x1 a.x2 (ix2 s k) = a.nums.row s k := by
  have e : idx_main_v5 (ix2 s k) = ix2 0 k := ext2 rfl rfl
  rw [val_main_v7_apply, val_main_v2_apply, val_main_v1_apply, val_main_cst_apply, val_main_v6_apply, val_main_v5_apply, val_main_v4_apply, val_main_v3_apply, val_main_cst_0_apply, val_main_v0_apply, ofBits_one, e]
  rfl

theorem mean_value (s : Fin 8192) : val_main_v19 (F := Ideal) a.x0 a.x1 a.x2 (ix2 s 0) = mean (a.nums.row s) := by
  rw [val_main_v19_apply, val_main_v17_apply, val_main_v16_apply, val_main_cst_1_apply, val_main_v18_apply, val_main_cst_2_apply, ofBits_zero]
  refine congrArg₂ Ideal.div ((zero_add _).trans (Finset.sum_congr rfl fun k _ => ?_)) rfl
  have e : idx_main_v16 (idx_main_v17 (ix2 s 0)) k = ix2 s k := ext2 rfl rfl
  rw [e]
  exact row_value a s k

theorem dev_value (s : Fin 8192) (k : Fin 1024) : val_main_v21 (F := Ideal) a.x0 a.x1 a.x2 (ix2 s k) = dev (a.nums.row s) k := by
  have e : idx_main_v20 (ix2 s k) = ix2 s 0 := ext2 rfl rfl
  rw [val_main_v21_apply, val_main_v20_apply, e, mean_value a, row_value a]
  rfl

theorem dev2_value (s : Fin 8192) (k : Fin 1024) : val_main_v30 (F := Ideal) a.x0 a.x1 a.x2 (ix2 s k) = dev (a.nums.row s) k := by
  have e : idx_main_v29 (ix2 s k) = ix2 s 0 := ext2 rfl rfl
  rw [val_main_v30_apply, val_main_v29_apply, e, mean_value a, row_value a]
  rfl

theorem var_value (s : Fin 8192) : val_main_v28 (F := Ideal) a.x0 a.x1 a.x2 (ix2 s 0) = var (a.nums.row s) := by
  rw [val_main_v28_apply, val_main_v26_apply, val_main_v25_apply, val_main_cst_4_apply, val_main_v27_apply, val_main_cst_5_apply, ofBits_zero]
  refine congrArg₂ Ideal.div ((zero_add _).trans (Finset.sum_congr rfl fun k _ => ?_)) rfl
  have e : idx_main_v25 (idx_main_v26 (ix2 s 0)) k = ix2 s k := ext2 rfl rfl
  rw [e, val_main_v22_apply, dev_value a]
  rfl

theorem under_value (s : Fin 8192) : val_main_v32 (F := Ideal) a.x0 a.x1 a.x2 (ix2 s 0) = var (a.nums.row s) + eps := by
  rw [val_main_v32_apply, var_value a, val_main_v31_apply, val_main_cst_6_apply]
  rfl

theorem rstd_value (s : Fin 8192) : val_main_v33 (F := Ideal) a.x0 a.x1 a.x2 (ix2 s 0) = rstd (a.nums.row s) := by
  rw [val_main_v33_apply, under_value a]
  rfl

theorem slope_value (s : Fin 8192) : val_main_v36 (F := Ideal) a.x0 a.x1 a.x2 (ix2 s 0) = minusHalf * Ideal.div (rstd (a.nums.row s)) (var (a.nums.row s) + eps) := by
  rw [val_main_v36_apply, val_main_v35_apply, val_main_cst_7_apply, val_main_v34_apply, rstd_value a, under_value a]
  rfl

theorem hat_value (s : Fin 8192) (k : Fin 1024) : val_main_v38 (F := Ideal) a.x0 a.x1 a.x2 (ix2 s k) = hat (a.nums.row s) k := by
  have e : idx_main_v37 (ix2 s k) = ix2 s 0 := ext2 rfl rfl
  rw [val_main_v38_apply, val_main_v37_apply, e, rstd_value a, dev2_value a]
  rfl

theorem mid_value (s : Fin 8192) (k : Fin 1024) : val_main_v42 (F := Ideal) a.x0 a.x1 a.x2 a.x3 a.x4 (ix2 s k) = a.nums.mid s k := by
  have e : idx_main_v39 (ix2 s k) = ix2 0 k := ext2 rfl rfl
  have e' : idx_main_v41 (ix2 s k) = ix2 0 k := ext2 rfl rfl
  rw [val_main_v42_apply, val_main_v40_apply, val_main_v39_apply, val_main_v41_apply, e, e', hat_value a]
  rfl

section Beside

variable (p0 p1 p2 : S8192x1024.Idx → EReal) (s : Fin 8192) (j : Fin 1024)

theorem beside0 (h : 0 + j.val < 3072) : concatenate S8192x3072 1 [⟨S8192x1024, p0⟩, ⟨S8192x1024, p1⟩, ⟨S8192x1024, p2⟩]
    concatenates_S8192x1024_S8192x1024_S8192x1024_S8192x3072_d1 (ix2 s ⟨0 + j.val, h⟩) = p0 (ix2 s j) :=
  concatenate_apply_piece (t := S8192x3072) 1 _ _ _ 0 (by show 0 < 3; decide) S8192x1024 p0 rfl rfl 0 rfl (ix2 s j)
    (fun b hb => by match b with
      | ⟨0, _⟩ => rfl
      | ⟨1, _⟩ => exact absurd rfl hb) rfl

theorem beside1 (h : 1024 + j.val < 3072) : concatenate S8192x3072 1 [⟨S8192x1024, p0⟩, ⟨S8192x1024, p1⟩, ⟨S8192x1024, p2⟩]
    concatenates_S8192x1024_S8192x1024_S8192x1024_S8192x3072_d1 (ix2 s ⟨1024 + j.val, h⟩) = p1 (ix2 s j) :=
  concatenate_apply_piece (t := S8192x3072) 1 _ _ _ 1 (by show 1 < 3; decide) S8192x1024 p1 rfl rfl 1024 rfl (ix2 s j)
    (fun b hb => by match b with
      | ⟨0, _⟩ => rfl
      | ⟨1, _⟩ => exact absurd rfl hb) rfl

theorem beside2 (h : 2048 + j.val < 3072) : concatenate S8192x3072 1 [⟨S8192x1024, p0⟩, ⟨S8192x1024, p1⟩, ⟨S8192x1024, p2⟩]
    concatenates_S8192x1024_S8192x1024_S8192x1024_S8192x3072_d1 (ix2 s ⟨2048 + j.val, h⟩) = p2 (ix2 s j) :=
  concatenate_apply_piece (t := S8192x3072) 1 _ _ _ 2 (by show 2 < 3; decide) S8192x1024 p2 rfl rfl 2048 rfl (ix2 s j)
    (fun b hb => by match b with
      | ⟨0, _⟩ => rfl
      | ⟨1, _⟩ => exact absurd rfl hb) rfl

end Beside

theorem slice0_value (s : Fin 8192) (j : Fin 1024) : val_main_v9 (F := Ideal) a.x9 (ix2 s j) = a.x9 (ix3 0 s j) := by
  rw [val_main_v9_apply, val_main_v8_apply]
  refine congrArg a.x9 (funext fun b => ?_)
  have hj : j.val < 1024 := j.isLt
  have hs : s.val < 8192 := s.isLt
  match b with
  | ⟨0, _⟩ => rfl
  | ⟨1, _⟩ => exact Fin.ext (show (s.val * 1024 + j.val) / 1024 % 8192 = s.val by omega)
  | ⟨2, _⟩ => exact Fin.ext (show (s.val * 1024 + j.val) % 1024 = j.val by omega)

theorem slice1_value (s : Fin 8192) (j : Fin 1024) : val_main_v11 (F := Ideal) a.x9 (ix2 s j) = a.x9 (ix3 1 s j) := by
  rw [val_main_v11_apply, val_main_v10_apply]
  refine congrArg a.x9 (funext fun b => ?_)
  have hj : j.val < 1024 := j.isLt
  have hs : s.val < 8192 := s.isLt
  match b with
  | ⟨0, _⟩ => rfl
  | ⟨1, _⟩ => exact Fin.ext (show (s.val * 1024 + j.val) / 1024 % 8192 = s.val by omega)
  | ⟨2, _⟩ => exact Fin.ext (show (s.val * 1024 + j.val) % 1024 = j.val by omega)

theorem slice2_value (s : Fin 8192) (j : Fin 1024) : val_main_v13 (F := Ideal) a.x9 (ix2 s j) = a.x9 (ix3 2 s j) := by
  rw [val_main_v13_apply, val_main_v12_apply]
  refine congrArg a.x9 (funext fun b => ?_)
  have hj : j.val < 1024 := j.isLt
  have hs : s.val < 8192 := s.isLt
  match b with
  | ⟨0, _⟩ => rfl
  | ⟨1, _⟩ => exact Fin.ext (show (s.val * 1024 + j.val) / 1024 % 8192 = s.val by omega)
  | ⟨2, _⟩ => exact Fin.ext (show (s.val * 1024 + j.val) % 1024 = j.val by omega)

theorem part0_value (s : Fin 8192) (j : Fin 1024) (h : 0 + j.val < 3072) :
    val_main_v15 (F := Ideal) a.x9 (ix2 s ⟨0 + j.val, h⟩) = a.x9 (ix3 0 s j) := by
  rw [val_main_v15_apply]
  exact (beside0 _ _ _ s j h).trans (slice0_value a s j)

theorem part1_value (s : Fin 8192) (j : Fin 1024) (h : 1024 + j.val < 3072) :
    val_main_v15 (F := Ideal) a.x9 (ix2 s ⟨1024 + j.val, h⟩) = a.x9 (ix3 1 s j) := by
  rw [val_main_v15_apply]
  exact (beside1 _ _ _ s j h).trans (slice1_value a s j)

theorem part2_value (s : Fin 8192) (j : Fin 1024) (h : 2048 + j.val < 3072) :
    val_main_v15 (F := Ideal) a.x9 (ix2 s ⟨2048 + j.val, h⟩) = a.x9 (ix3 2 s j) := by
  rw [val_main_v15_apply]
  exact (beside2 _ _ _ s j h).trans (slice2_value a s j)

theorem joined_value (s : Fin 8192) (j : Fin 3072) : val_main_v15 (F := Ideal) a.x9 (ix2 s j) = Cert.AttnDx.parts a.x9 s j := by
  have hj := j.isLt
  by_cases h0 : j.val < 1024
  · have e : j = ⟨0 + (⟨j.val, h0⟩ : Fin 1024).val, by show 0 + j.val < 3072; omega⟩ := Fin.ext (Nat.zero_add _).symm
    exact (congrArg (fun j => val_main_v15 (F := Ideal) a.x9 (ix2 s j)) e).trans ((part0_value a s _ _).trans
      ((congrArg (Cert.AttnDx.parts a.x9 s) e).trans (Cert.AttnDx.parts0 a.x9 s _ _)).symm)
  · by_cases h1 : j.val < 2048
    · have e : j = ⟨1024 + (⟨j.val - 1024, by omega⟩ : Fin 1024).val, by show 1024 + (j.val - 1024) < 3072; omega⟩ :=
        Fin.ext (by show j.val = 1024 + (j.val - 1024); omega)
      exact (congrArg (fun j => val_main_v15 (F := Ideal) a.x9 (ix2 s j)) e).trans ((part1_value a s _ _).trans
        ((congrArg (Cert.AttnDx.parts a.x9 s) e).trans (Cert.AttnDx.parts1 a.x9 s _ _)).symm)
    · have e : j = ⟨2048 + (⟨j.val - 2048, by omega⟩ : Fin 1024).val, by show 2048 + (j.val - 2048) < 3072; omega⟩ :=
        Fin.ext (by show j.val = 2048 + (j.val - 2048); omega)
      exact (congrArg (fun j => val_main_v15 (F := Ideal) a.x9 (ix2 s j)) e).trans ((part2_value a s _ _).trans
        ((congrArg (Cert.AttnDx.parts a.x9 s) e).trans (Cert.AttnDx.parts2 a.x9 s _ _)).symm)

theorem du_value (s : Fin 8192) (k : Fin 1024) : val_main_v56 (F := Ideal) a.x7 a.x9 (ix2 s k) = a.nums.du s k := by
  change _ = ∑ j : Fin 3072, Cert.AttnDx.parts a.x9 s j * a.x7 (ix2 k j)
  rw [val_main_v56_apply]
  refine Finset.sum_congr rfl fun j _ => ?_
  have hl : lidx_main_v56 (ix2 s k) j = ix2 s j := ext2 rfl rfl
  have hr : ridx_main_v56 (ix2 s k) j = ix2 k j := ext2 rfl rfl
  rw [hl, hr, joined_value]

theorem dxo_value (s : Fin 8192) (k : Fin 1024) : val_main_v66 (F := Ideal) a.x5 a.x7 a.x8 a.x9 (ix2 s k) = a.nums.dxo s k := by
  have e : idx_main_v62 (ix2 s k) = ix2 0 k := ext2 rfl rfl
  rw [val_main_v66_apply, val_main_v63_apply, val_main_v62_apply, e, du_value a, val_main_v46_apply, val_main_v45_apply, val_main_cst_9_apply, ofBits_one, val_main_v65_apply, val_main_v64_apply, val_main_cst_13_apply]
  exact add_comm (G := EReal) _ _

theorem dhat_value (s : Fin 8192) (k : Fin 1024) : val_main_v73 (F := Ideal) a.x3 a.x5 a.x7 a.x8 a.x9 (ix2 s k) = a.nums.dhat s k := by
  have e : idx_main_v72 (ix2 s k) = ix2 0 k := ext2 rfl rfl
  rw [val_main_v73_apply, val_main_v72_apply, e, dxo_value a]
  rfl

theorem dot_value (s : Fin 8192) : val_main_v76 (F := Ideal) a.x0 a.x1 a.x2 a.x3 a.x5 a.x7 a.x8 a.x9 (ix2 s 0) = ∑ j, dev (a.nums.row s) j * a.nums.dhat s j := by
  rw [val_main_v76_apply, val_main_v75_apply, val_main_cst_16_apply, ofBits_zero]
  refine (zero_add _).trans (Finset.sum_congr rfl fun k _ => ?_)
  have e : idx_main_v75 (idx_main_v76 (ix2 s 0)) k = ix2 s k := ext2 (show s.val * 1 + 0 = s.val by omega) rfl
  rw [e, val_main_v74_apply, dev2_value a, dhat_value a]
  rfl

theorem direct_value (s : Fin 8192) (k : Fin 1024) : val_main_v78 (F := Ideal) a.x0 a.x1 a.x2 a.x3 a.x5 a.x7 a.x8 a.x9 (ix2 s k) = a.nums.dhat s k * rstd (a.nums.row s) := by
  have e : idx_main_v77 (ix2 s k) = ix2 s 0 := ext2 rfl rfl
  rw [val_main_v78_apply, val_main_v77_apply, e, rstd_value a, dhat_value a]
  rfl

theorem viaVar_value (s : Fin 8192) : val_main_v85 (F := Ideal) a.x0 a.x1 a.x2 a.x3 a.x5 a.x7 a.x8 a.x9 (ix1 s) = viaVar (a.nums.row s) (a.nums.dhat s) := by
  rw [val_main_v85_apply, val_main_cst_19_apply, ofBits_zero]
  refine (zero_add _).trans ((Fin.sum_univ_one _).trans ?_)
  have e : idx_main_v85 (ix1 s) 0 = ix2 s 0 := ext2 rfl rfl
  rw [e, val_main_v84_apply, val_main_v79_apply, dot_value a, slope_value a, val_main_v83_apply, val_main_cst_18_apply]
  rfl

theorem spread_value (s : Fin 8192) (k : Fin 1024) : val_main_v87 (F := Ideal) a.x0 a.x1 a.x2 a.x3 a.x5 a.x7 a.x8 a.x9 (ix2 s k) = viaVar (a.nums.row s) (a.nums.dhat s) * (two * dev (a.nums.row s) k) := by
  have e : idx_main_v86 (ix2 s k) = ix1 s := funext fun a => by match a with | ⟨0, _⟩ => rfl
  rw [val_main_v87_apply, val_main_v86_apply, e, viaVar_value a, val_main_v24_apply, val_main_v23_apply, val_main_cst_3_apply, dev_value a]
  rfl

theorem less_direct_value (s : Fin 8192) : val_main_v82 (F := Ideal) a.x0 a.x1 a.x2 a.x3 a.x5 a.x7 a.x8 a.x9 (ix2 s 0) = ∑ j, -(a.nums.dhat s j * rstd (a.nums.row s)) := by
  rw [val_main_v82_apply, val_main_v81_apply, val_main_cst_17_apply, ofBits_zero]
  refine (zero_add _).trans (Finset.sum_congr rfl fun k _ => ?_)
  have e : idx_main_v81 (idx_main_v82 (ix2 s 0)) k = ix2 s k := ext2 (show s.val * 1 + 0 = s.val by omega) rfl
  rw [e, val_main_v80_apply, direct_value a]
  rfl

theorem less_spread_value (s : Fin 8192) : val_main_v90 (F := Ideal) a.x0 a.x1 a.x2 a.x3 a.x5 a.x7 a.x8 a.x9 (ix2 s 0) = ∑ j, -(viaVar (a.nums.row s) (a.nums.dhat s) * (two * dev (a.nums.row s) j)) := by
  rw [val_main_v90_apply, val_main_v89_apply, val_main_cst_20_apply, ofBits_zero]
  refine (zero_add _).trans (Finset.sum_congr rfl fun k _ => ?_)
  have e : idx_main_v89 (idx_main_v90 (ix2 s 0)) k = ix2 s k := ext2 (show s.val * 1 + 0 = s.val by omega) rfl
  rw [e, val_main_v88_apply, spread_value a]
  rfl

theorem viaMean_value (s : Fin 8192) : val_main_v95 (F := Ideal) a.x0 a.x1 a.x2 a.x3 a.x5 a.x7 a.x8 a.x9 (ix1 s) = Ideal.div ((∑ j, -(a.nums.dhat s j * rstd (a.nums.row s))) + ∑ j, -(viaVar (a.nums.row s) (a.nums.dhat s) * (two * dev (a.nums.row s) j))) width := by
  rw [val_main_v95_apply, val_main_cst_22_apply, ofBits_zero]
  refine (zero_add _).trans ((Fin.sum_univ_one _).trans ?_)
  have e : idx_main_v95 (ix1 s) 0 = ix2 s 0 := ext2 rfl rfl
  rw [e, val_main_v94_apply, val_main_v92_apply, less_direct_value a, less_spread_value a, val_main_v93_apply, val_main_cst_21_apply]
  rfl

/-- The gradient of the rows under the norm, by the chain rule. -/
theorem chained_value (s : Fin 8192) (k : Fin 1024) : val_main_v97 (F := Ideal) a.x0 a.x1 a.x2 a.x3 a.x5 a.x7 a.x8 a.x9 (ix2 s k) = chained (a.nums.row s) (a.nums.dhat s) k := by
  have e : idx_main_v96 (ix2 s k) = ix1 s := funext fun a => by match a with | ⟨0, _⟩ => rfl
  rw [val_main_v97_apply, val_main_v91_apply, val_main_v96_apply, e, viaMean_value a, direct_value a, spread_value a]
  rfl

/-- On real arguments that is the layer norm's gradient in closed form. -/
theorem dz_value (h : a.nums.Real) (s : Fin 8192) (k : Fin 1024) : val_main_v97 (F := Ideal) a.x0 a.x1 a.x2 a.x3 a.x5 a.x7 a.x8 a.x9 (ix2 s k) = a.nums.dz s k := by
  exact (chained_value a s k).trans (chained_eq_back _ _ (h.1 s) (h.2 s) k)

theorem dy_value (h : a.nums.Real) (s : Fin 8192) (k : Fin 1024) : val_main_v103 (F := Ideal) a.x0 a.x1 a.x2 a.x3 a.x5 a.x7 a.x8 a.x9 (ix2 s k) = a.nums.dy s k := by
  have e : idx_main_v98 (ix2 s k) = ix2 0 k := ext2 rfl rfl
  rw [val_main_v103_apply, val_main_v99_apply, val_main_v98_apply, e, dz_value a h, val_main_v4_apply, val_main_v3_apply, val_main_cst_0_apply, ofBits_one]
  rfl

theorem sum_du_value (k : Fin 1024) : val_main_v58 (F := Ideal) a.x7 a.x9 (ix2 0 k : S1x1024.Idx) = ∑ s : Fin 8192, a.nums.du s k := by
  rw [val_main_v58_apply, val_main_v57_apply, val_main_cst_11_apply, ofBits_zero]
  refine (zero_add _).trans (Finset.sum_congr rfl fun s _ => ?_)
  have e : idx_main_v57 (idx_main_v58 (ix2 0 k : S1x1024.Idx)) s = ix2 s k := ext2 rfl (show 0 * 1024 + k.val = k.val by omega)
  rw [e, du_value a]

theorem sum_mid_value (k : Fin 1024) : val_main_v61 (F := Ideal) a.x0 a.x1 a.x2 a.x3 a.x4 a.x7 a.x9 (ix2 0 k : S1x1024.Idx) = ∑ s : Fin 8192, a.nums.du s k * a.nums.mid s k := by
  rw [val_main_v61_apply, val_main_v60_apply, val_main_cst_12_apply, ofBits_zero]
  refine (zero_add _).trans (Finset.sum_congr rfl fun s _ => ?_)
  have e : idx_main_v60 (idx_main_v61 (ix2 0 k : S1x1024.Idx)) s = ix2 s k := ext2 rfl (show 0 * 1024 + k.val = k.val by omega)
  rw [e, val_main_v59_apply, du_value a, mid_value a]
  exact mul_comm (G := EReal) _ _

theorem sum_dxo_value (k : Fin 1024) : val_main_v68 (F := Ideal) a.x5 a.x7 a.x8 a.x9 (ix2 0 k : S1x1024.Idx) = ∑ s : Fin 8192, a.nums.dxo s k := by
  rw [val_main_v68_apply, val_main_v67_apply, val_main_cst_14_apply, ofBits_zero]
  refine (zero_add _).trans (Finset.sum_congr rfl fun s _ => ?_)
  have e : idx_main_v67 (idx_main_v68 (ix2 0 k : S1x1024.Idx)) s = ix2 s k := ext2 rfl (show 0 * 1024 + k.val = k.val by omega)
  rw [e, dxo_value a]

theorem sum_hat_value (k : Fin 1024) : val_main_v71 (F := Ideal) a.x0 a.x1 a.x2 a.x5 a.x7 a.x8 a.x9 (ix2 0 k : S1x1024.Idx) = ∑ s : Fin 8192, a.nums.dxo s k * hat (a.nums.row s) k := by
  rw [val_main_v71_apply, val_main_v70_apply, val_main_cst_15_apply, ofBits_zero]
  refine (zero_add _).trans (Finset.sum_congr rfl fun s _ => ?_)
  have e : idx_main_v70 (idx_main_v71 (ix2 0 k : S1x1024.Idx)) s = ix2 s k := ext2 rfl (show 0 * 1024 + k.val = k.val by omega)
  rw [e, val_main_v69_apply, dxo_value a, hat_value a]
  exact mul_comm (G := EReal) _ _

theorem sum_gate_value (h : a.nums.Real) (k : Fin 1024) : val_main_v102 (F := Ideal) a.x0 a.x1 a.x2 a.x3 a.x5 a.x7 a.x8 a.x9 (ix2 0 k : S1x1024.Idx) = ∑ s : Fin 8192, a.nums.dz s k * a.nums.y s k := by
  rw [val_main_v102_apply, val_main_v101_apply, val_main_cst_23_apply, ofBits_zero]
  refine (zero_add _).trans (Finset.sum_congr rfl fun s _ => ?_)
  have e : idx_main_v101 (idx_main_v102 (ix2 0 k : S1x1024.Idx)) s = ix2 s k := ext2 rfl (show 0 * 1024 + k.val = k.val by omega)
  rw [e, val_main_v100_apply, dz_value a h, val_main_v0_apply]
  rfl

theorem reference_z (h : a.nums.Real) : val_main_v97 (F := Ideal) a.x0 a.x1 a.x2 a.x3 a.x5 a.x7 a.x8 a.x9 = a.nums.zArr := by
  funext i
  exact (congrArg _ (ValueIdx.eq_ix2 i)).trans (dz_value a h (i 0) (i 1))

theorem reference_y (h : a.nums.Real) : val_main_v103 (F := Ideal) a.x0 a.x1 a.x2 a.x3 a.x5 a.x7 a.x8 a.x9 = a.nums.yArr := by
  funext i
  exact (congrArg _ (ValueIdx.eq_ix2 i)).trans (dy_value a h (i 0) (i 1))

theorem bias0_value (k : Fin 1024) : val_main_v104 (F := Ideal) a.x9 (ix2 0 k : S1x1024.Idx) = ∑ s : Fin 8192, a.x9 (ix3 0 s k) := by
  have hk := k.isLt
  rw [val_main_v104_apply, val_main_v55_apply, val_main_v54_apply, val_main_cst_10_apply, ofBits_zero]
  refine (zero_add _).trans (Finset.sum_congr rfl fun s _ => ?_)
  have e : idx_main_v54 (idx_main_v55 (idx_main_v104 (ix2 0 k : S1x1024.Idx))) s = ix2 s ⟨0 + k.val, by omega⟩ := funext fun a => by
    match a with
    | ⟨0, _⟩ => rfl
    | ⟨1, _⟩ => exact Fin.ext (show 0 * 3072 + k.val = 0 + k.val by omega)
  rw [e]
  exact part0_value a s k _

theorem bias1_value (k : Fin 1024) : val_main_v105 (F := Ideal) a.x9 (ix2 0 k : S1x1024.Idx) = ∑ s : Fin 8192, a.x9 (ix3 1 s k) := by
  have hk := k.isLt
  rw [val_main_v105_apply, val_main_v55_apply, val_main_v54_apply, val_main_cst_10_apply, ofBits_zero]
  refine (zero_add _).trans (Finset.sum_congr rfl fun s _ => ?_)
  have e : idx_main_v54 (idx_main_v55 (idx_main_v105 (ix2 0 k : S1x1024.Idx))) s = ix2 s ⟨1024 + k.val, by omega⟩ := funext fun a => by
    match a with
    | ⟨0, _⟩ => rfl
    | ⟨1, _⟩ => exact Fin.ext (show 0 * 3072 + (1024 + k.val) = 1024 + k.val by omega)
  rw [e]
  exact part1_value a s k _

theorem bias2_value (k : Fin 1024) : val_main_v106 (F := Ideal) a.x9 (ix2 0 k : S1x1024.Idx) = ∑ s : Fin 8192, a.x9 (ix3 2 s k) := by
  have hk := k.isLt
  rw [val_main_v106_apply, val_main_v55_apply, val_main_v54_apply, val_main_cst_10_apply, ofBits_zero]
  refine (zero_add _).trans (Finset.sum_congr rfl fun s _ => ?_)
  have e : idx_main_v54 (idx_main_v55 (idx_main_v106 (ix2 0 k : S1x1024.Idx))) s = ix2 s ⟨2048 + k.val, by omega⟩ := funext fun a => by
    match a with
    | ⟨0, _⟩ => rfl
    | ⟨1, _⟩ => exact Fin.ext (show 0 * 3072 + (2048 + k.val) = 2048 + k.val by omega)
  rw [e]
  exact part2_value a s k _

theorem sum_rows (r : Fin 8) (k : Fin 1024) : val_main_v108 (F := Ideal) a.x0 a.x1 a.x2 a.x3 a.x4 a.x7 a.x9 (ix2 r k : S8x1024.Idx) = ∑ s : Fin 8192, Cert.AttnDx.sumPart a.nums a.x9 r k s := by
  have hc : val_main_v108 (F := Ideal) a.x0 a.x1 a.x2 a.x3 a.x4 a.x7 a.x9 (ix2 r k : S8x1024.Idx) = concatenate S8x1024 0 ([⟨S1x1024, (val_main_v61 (F := Ideal) a.x0 a.x1 a.x2 a.x3 a.x4 a.x7 a.x9 : S1x1024.Idx → EReal)⟩, ⟨S1x1024, (val_main_v58 (F := Ideal) a.x7 a.x9 : S1x1024.Idx → EReal)⟩, ⟨S1x1024, (val_main_v104 (F := Ideal) a.x9 : S1x1024.Idx → EReal)⟩, ⟨S1x1024, (val_main_v105 (F := Ideal) a.x9 : S1x1024.Idx → EReal)⟩, ⟨S1x1024, (val_main_v106 (F := Ideal) a.x9 : S1x1024.Idx → EReal)⟩, ⟨S3x1024, (val_main_v107 (F := Ideal) : S3x1024.Idx → EReal)⟩] : List ((s : Shape) × (s.Idx → EReal)))
      concatenates_S1x1024_S1x1024_S1x1024_S1x1024_S1x1024_S3x1024_S8x1024_d0 (ix2 r k : S8x1024.Idx) := rfl
  rw [hc]
  unfold Cert.AttnDx.sumPart
  by_cases c0 : r.val = 0
  · refine Eq.trans (stacked k 0 (by show 0 < 6; omega) (val_main_v61 (F := Ideal) a.x0 a.x1 a.x2 a.x3 a.x4 a.x7 a.x9) (by rfl) (by rfl) (0 : Fin 1) c0.symm) ?_
    · refine (sum_mid_value a k).trans (Finset.sum_congr rfl fun s _ => ?_)
      rw [if_pos c0]
  by_cases c1 : r.val = 1
  · refine Eq.trans (stacked k 1 (by show 1 < 6; omega) (val_main_v58 (F := Ideal) a.x7 a.x9) (by rfl) (by rfl) (0 : Fin 1) c1.symm) ?_
    · refine (sum_du_value a k).trans (Finset.sum_congr rfl fun s _ => ?_)
      rw [if_neg c0]; rw [if_pos c1]
  by_cases c2 : r.val = 2
  · refine Eq.trans (stacked k 2 (by show 2 < 6; omega) (val_main_v104 (F := Ideal) a.x9) (by rfl) (by rfl) (0 : Fin 1) c2.symm) ?_
    · refine (bias0_value a k).trans (Finset.sum_congr rfl fun s _ => ?_)
      rw [if_neg c0]; rw [if_neg c1]; rw [if_pos c2]
  by_cases c3 : r.val = 3
  · refine Eq.trans (stacked k 3 (by show 3 < 6; omega) (val_main_v105 (F := Ideal) a.x9) (by rfl) (by rfl) (0 : Fin 1) c3.symm) ?_
    · refine (bias1_value a k).trans (Finset.sum_congr rfl fun s _ => ?_)
      rw [if_neg c0]; rw [if_neg c1]; rw [if_neg c2]; rw [if_pos c3]
  by_cases c4 : r.val = 4
  · refine Eq.trans (stacked k 4 (by show 4 < 6; omega) (val_main_v106 (F := Ideal) a.x9) (by rfl) (by rfl) (0 : Fin 1) c4.symm) ?_
    · refine (bias2_value a k).trans (Finset.sum_congr rfl fun s _ => ?_)
      rw [if_neg c0]; rw [if_neg c1]; rw [if_neg c2]; rw [if_neg c3]; rw [if_pos c4]
  · have hr := r.isLt
    refine Eq.trans (stacked k 5 (by show 5 < 6; omega) (val_main_v107 (F := Ideal)) (by rfl) (by rfl) ⟨r.val - 5, by omega⟩ (show 5 + (r.val - 5) = r.val by omega)) ?_
    · rw [val_main_v107_apply, val_main_cst_24_apply, ofBits_zero]
      refine (Finset.sum_eq_zero fun s _ => ?_).symm
      rw [if_neg c0]; rw [if_neg c1]; rw [if_neg c2]; rw [if_neg c3]; rw [if_neg c4]

theorem reference_sum  : val_main_v108 (F := Ideal) a.x0 a.x1 a.x2 a.x3 a.x4 a.x7 a.x9 = Cert.AttnDx.sumArr a.nums a.x9 := by
  funext i
  exact (congrArg _ (ValueIdx.eq_ix2 i)).trans (sum_rows a (i 0) (i 1))

theorem norm_rows (h : a.nums.Real) (r : Fin 8) (k : Fin 1024) : val_main_v110 (F := Ideal) a.x0 a.x1 a.x2 a.x3 a.x5 a.x7 a.x8 a.x9 (ix2 r k : S8x1024.Idx) = ∑ s : Fin 8192, a.nums.normPart r k s := by
  have hc : val_main_v110 (F := Ideal) a.x0 a.x1 a.x2 a.x3 a.x5 a.x7 a.x8 a.x9 (ix2 r k : S8x1024.Idx) = concatenate S8x1024 0 ([⟨S1x1024, (val_main_v71 (F := Ideal) a.x0 a.x1 a.x2 a.x5 a.x7 a.x8 a.x9 : S1x1024.Idx → EReal)⟩, ⟨S1x1024, (val_main_v68 (F := Ideal) a.x5 a.x7 a.x8 a.x9 : S1x1024.Idx → EReal)⟩, ⟨S1x1024, (val_main_v102 (F := Ideal) a.x0 a.x1 a.x2 a.x3 a.x5 a.x7 a.x8 a.x9 : S1x1024.Idx → EReal)⟩, ⟨S5x1024, (val_main_v109 (F := Ideal) : S5x1024.Idx → EReal)⟩] : List ((s : Shape) × (s.Idx → EReal)))
      concatenates_S1x1024_S1x1024_S1x1024_S5x1024_S8x1024_d0 (ix2 r k : S8x1024.Idx) := rfl
  rw [hc]
  unfold Cert.MlpBack.In.normPart
  by_cases c0 : r.val = 0
  · refine Eq.trans (stacked k 0 (by show 0 < 4; omega) (val_main_v71 (F := Ideal) a.x0 a.x1 a.x2 a.x5 a.x7 a.x8 a.x9) (by rfl) (by rfl) (0 : Fin 1) c0.symm) ?_
    · refine (sum_hat_value a k).trans (Finset.sum_congr rfl fun s _ => ?_)
      rw [if_pos c0]
  by_cases c1 : r.val = 1
  · refine Eq.trans (stacked k 1 (by show 1 < 4; omega) (val_main_v68 (F := Ideal) a.x5 a.x7 a.x8 a.x9) (by rfl) (by rfl) (0 : Fin 1) c1.symm) ?_
    · refine (sum_dxo_value a k).trans (Finset.sum_congr rfl fun s _ => ?_)
      rw [if_neg c0]; rw [if_pos c1]
  by_cases c2 : r.val = 2
  · refine Eq.trans (stacked k 2 (by show 2 < 4; omega) (val_main_v102 (F := Ideal) a.x0 a.x1 a.x2 a.x3 a.x5 a.x7 a.x8 a.x9) (by rfl) (by rfl) (0 : Fin 1) c2.symm) ?_
    · refine (sum_gate_value a h k).trans (Finset.sum_congr rfl fun s _ => ?_)
      rw [if_neg c0]; rw [if_neg c1]; rw [if_pos c2]
  · have hr := r.isLt
    refine Eq.trans (stacked k 3 (by show 3 < 4; omega) (val_main_v109 (F := Ideal)) (by rfl) (by rfl) ⟨r.val - 3, by omega⟩ (show 3 + (r.val - 3) = r.val by omega)) ?_
    · rw [val_main_v109_apply, val_main_cst_25_apply, ofBits_zero]
      refine (Finset.sum_eq_zero fun s _ => ?_).symm
      rw [if_neg c0]; rw [if_neg c1]; rw [if_neg c2]

theorem reference_norm (h : a.nums.Real) : val_main_v110 (F := Ideal) a.x0 a.x1 a.x2 a.x3 a.x5 a.x7 a.x8 a.x9 = a.nums.normArr := by
  funext i
  exact (congrArg _ (ValueIdx.eq_ix2 i)).trans (norm_rows a h (i 0) (i 1))

end Cert.Reference16Ideal.Read

end
-- ==== Proof.AttnDxFinite.lean ====
/-
  What the precondition of the gradient through the attention layer's q, k and v says: the entries of the arguments are real numbers, and so are
  those of the rows under the norm and of their normalised rows' gradient.
-/
module

public import proofs.«01_k».proof.Proof.MlpBackFinite
public import proofs.«01_k».proof.Proof.AttnDxSpec
public import proofs.«01_k».proof.Proof.Gen.Pre_finite16

@[expose] public section

noncomputable section

namespace Cert.AttnDx

open Cert.MlpBack Idealize.ShloMosaic Idealize.ShloMosaic.TcCoe Cert.Pre_finite16 Cert.Pre_finite16.Gen Cert.Norm
open scoped BigOperators

instance : Subsingleton Cert.Pre_finite16.S_.Idx := ⟨fun f g => funext fun a => a.elim0⟩

section

variable (a0 a1 : S8192x1024.Idx → EReal) (a2 a3 a4 a5 a6 : S1x1024.Idx → EReal) (a7 : S1024x3072.Idx → EReal) (a8 : S8192x1024.Idx → EReal)
  (a9 : S3x8192x1024.Idx → EReal) (a10 : S1x3072.Idx → EReal)

theorem reals (h : Cert.Pre_finite16.fn (F := Ideal) a0 a1 a2 a3 a4 a5 a6 a7 a8 a9 a10 = fun _ => 1#1) :
    (∀ i, IsReal (a0 i)) ∧ (∀ i, IsReal (a1 i)) ∧ (∀ i, IsReal (a2 i)) ∧ (∀ i, IsReal (a3 i)) ∧ (∀ i, IsReal (a5 i)) ∧ (∀ i, IsReal (a7 i))
      ∧ (∀ i, IsReal (a8 i)) ∧ ∀ i, IsReal (a9 i) := by
  have e := congrFun h (Shape.Idx.first h_S_)
  unfold Cert.Pre_finite16.fn Cert.Pre_finite16.fn_part1 Cert.Pre_finite16.fn_part2 at e
  obtain ⟨e, e9⟩ := IntOp.andi_eq_one.1 e
  obtain ⟨e, e8⟩ := IntOp.andi_eq_one.1 e
  obtain ⟨e, e7⟩ := IntOp.andi_eq_one.1 e
  obtain ⟨e, e5⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨fun i => isReal_of_lt _ (Host.reduce_andi_all _ _ _ _ _ e0 i), fun i => isReal_of_lt _ (Host.reduce_andi_all _ _ _ _ _ e1 i),
    fun i => isReal_of_lt _ (Host.reduce_andi_all _ _ _ _ _ e2 i), fun i => isReal_of_lt _ (Host.reduce_andi_all _ _ _ _ _ e3 i),
    fun i => isReal_of_lt _ (Host.reduce_andi_all _ _ _ _ _ e5 i), fun i => isReal_of_lt _ (Host.reduce_andi_all _ _ _ _ _ e7 i),
    fun i => isReal_of_lt _ (Host.reduce_andi_all _ _ _ _ _ e8 i), fun i => isReal_of_lt _ (Host.reduce_andi_all _ _ _ _ _ e9 i)⟩

theorem nums_real (h : Cert.Pre_finite16.fn (F := Ideal) a0 a1 a2 a3 a4 a5 a6 a7 a8 a9 a10 = fun _ => 1#1) :
    (ofArrays a0 a1 a2 a3 a4 a5 a8 (product (parts a9) a7)).Real := by
  obtain ⟨r0, r1, r2, r3, r5, r7, r8, r9⟩ := reals a0 a1 a2 a3 a4 a5 a6 a7 a8 a9 a10 h
  exact real_of a0 a1 a2 a3 a4 a5 a8 _ r0 r1 r2 r3 r5 r8 (product_real _ a7 (fun _ _ => r9 _) r7)

end

end Cert.AttnDx

end
-- ==== Proof.GlaDxStep.lean ====
/-
  One step of the gradient through the gla layer's projections and the layer norm before it: the stored blocks by rows and columns.
-/
module

public import proofs.«01_k».proof.Proof.Gen.Kernel17Ideal.Value
public import proofs.«01_k».proof.Proof.Rows

@[expose] public section

set_option maxRecDepth 16384

noncomputable section

namespace Cert.Kernel17Ideal.GlaDx

open Cert.Kernel17Ideal Cert.Kernel17Ideal.Gen Cert.Mlp Cert.Norm Cert.Rows
open Idealize.ShloMosaic Idealize.ShloMosaic.TcCoe
open Idealize.ShloMosaic.Pipeline (Window)
open scoped BigOperators

/-! ### The payloads -/

theorem stored7 (x0 : Vec Ideal S512x3200 .bf16) (x1 : Vec Ideal S1x1024x3200 .bf16) (r : Fin 512) (q : Fin 1024) :
    (k0_pay7 x0 x1 : S512x1024.Idx → EReal) (ix2 r q) = ∑ k : Fin 3200, (x0 (ix2 r k) : EReal) * x1 (ix3 0 q k) := by
  pointwise [k0_pay7]

theorem stored8 (x0 : Vec Ideal S512x3200 .bf16) (x1 : Vec Ideal S1x1024x3200 .bf16) (x2 : Vec Ideal S512x1024 .f32) (x4 : Vec Ideal S1x1024 .f32)
    (r : Fin 512) (q : Fin 1024) :
    (k0_pay8 x0 x1 x2 x4 : S512x1024.Idx → EReal) (ix2 r q)
      = alpha * x2 (ix2 r q) + (k0_pay7 x0 x1 : S512x1024.Idx → EReal) (ix2 r q) * x4 (ix2 0 q) := by
  unfold k0_pay8
  generalize k0_pay7 x0 x1 = y
  pointwise
  rfl

theorem stored10 (x6 : Vec Ideal S512x1024 .bf16) (x5 : Vec Ideal S512x1024 .f32) (x7 : Vec Ideal S1x1024 .f32) (r : Fin 512) (q : Fin 1024) :
    (k0_pay10 x6 x5 x7 : S512x1024.Idx → EReal) (ix2 r q) = dev (gated x5 x6 x7 r) q := by
  pointwise [k0_pay10, k0_pay9]
  rfl

theorem stored11 (x6 : Vec Ideal S512x1024 .bf16) (x5 : Vec Ideal S512x1024 .f32) (x7 : Vec Ideal S1x1024 .f32) (r : Fin 512) :
    (k0_pay11 x6 x5 x7 : S512x1.Idx → EReal) (ix2 r 0) = ∑ k : Fin 1024, dev (gated x5 x6 x7 r) k * dev (gated x5 x6 x7 r) k := by
  have h := stored10 x6 x5 x7 r
  unfold k0_pay11
  generalize k0_pay10 x6 x5 x7 = y at h
  simp only [← h]
  pointwise

theorem stored12 (v : Vec Ideal S512x1 .f32) (r : Fin 512) :
    (k0_pay12 (F := Ideal) v : S512x1.Idx → EReal) (ix2 r 0) = Ideal.rsqrt (Ideal.div (v (ix2 r 0)) width + eps) := by
  pointwise [k0_pay12]
  rfl

theorem stored13 (z : Vec Ideal S512x1024 .f32) (v : Vec Ideal S512x1 .f32) (r : Fin 512) (q : Fin 1024) :
    (k0_pay13 (F := Ideal) z v : S512x1024.Idx → EReal) (ix2 r q) = z (ix2 r q) * (k0_pay12 (F := Ideal) v : S512x1.Idx → EReal) (ix2 r 0) := by
  unfold k0_pay13
  generalize k0_pay12 (F := Ideal) v = y
  pointwise

theorem stored14 (d z : Vec Ideal S512x1024 .f32) (v : Vec Ideal S512x1 .f32) (g : Vec Ideal S1x1024 .f32) (r : Fin 512) (q : Fin 1024) :
    (k0_pay14 (F := Ideal) d z v g : S512x1024.Idx → EReal) (ix2 r q)
      = (k0_pay12 (F := Ideal) v : S512x1.Idx → EReal) (ix2 r 0)
        * (((d (ix2 r q) : EReal) * g (ix2 0 q) - mean (fun k => (d (ix2 r k) : EReal) * g (ix2 0 k)))
          - (k0_pay13 (F := Ideal) z v : S512x1024.Idx → EReal) (ix2 r q)
            * mean (fun k => (d (ix2 r k) : EReal) * g (ix2 0 k) * (k0_pay13 (F := Ideal) z v : S512x1024.Idx → EReal) (ix2 r k))) := by
  unfold k0_pay14
  generalize k0_pay12 (F := Ideal) v = y
  generalize k0_pay13 (F := Ideal) z v = y'
  pointwise
  rfl

theorem stored15 (d z : Vec Ideal S512x1024 .f32) (v : Vec Ideal S512x1 .f32) (g gate : Vec Ideal S1x1024 .f32) (r : Fin 512) (q : Fin 1024) :
    (k0_pay15 (F := Ideal) d z v g gate : S512x1024.Idx → EReal) (ix2 r q)
      = (gate (ix2 0 q) : EReal) * (k0_pay14 (F := Ideal) d z v g : S512x1024.Idx → EReal) (ix2 r q) := by
  unfold k0_pay15
  generalize k0_pay14 (F := Ideal) d z v g = y
  pointwise

theorem stored16 (d z : Vec Ideal S512x1024 .f32) (v : Vec Ideal S512x1 .f32) (o : Vec Ideal S1x1024 .f32) (q : Fin 1024) :
    (k0_pay16 (F := Ideal) d z v o : S1x1024.Idx → EReal) (ix2 0 q)
      = (o (ix2 0 q) : EReal) + ∑ r : Fin 512, (d (ix2 r q) : EReal) * (k0_pay13 (F := Ideal) z v : S512x1024.Idx → EReal) (ix2 r q) := by
  unfold k0_pay16
  generalize k0_pay13 (F := Ideal) z v = y'
  pointwise

theorem stored1 (d : Vec Ideal S512x1024 .f32) (o : Vec Ideal S1x1024 .f32) (q : Fin 1024) :
    (k0_pay1 (F := Ideal) d o : S1x1024.Idx → EReal) (ix2 0 q) = (o (ix2 0 q) : EReal) + ∑ r : Fin 512, (d (ix2 r q) : EReal) := by
  pointwise [k0_pay1]

theorem stored2 (y d : Vec Ideal S512x1024 .f32) (o : Vec Ideal S1x1024 .f32) (q : Fin 1024) :
    (k0_pay2 (F := Ideal) y d o : S1x1024.Idx → EReal) (ix2 0 q) = (o (ix2 0 q) : EReal) + ∑ r : Fin 512, (d (ix2 r q) : EReal) * y (ix2 r q) := by
  pointwise [k0_pay2]

theorem stored3 (u : Vec Ideal S512x1024 .f32) (o : Vec Ideal S1x1024 .f32) (x : Vec Ideal S512x1024 .f32) (q : Fin 1024) :
    (k0_pay3 (F := Ideal) u o x : S1x1024.Idx → EReal) (ix2 0 q) = (o (ix2 0 q) : EReal) + ∑ r : Fin 512, (u (ix2 r q) : EReal) * x (ix2 r q) := by
  pointwise [k0_pay3]

theorem stored4 (u : Vec Ideal S512x1024 .f32) (o : Vec Ideal S1x1024 .f32) (q : Fin 1024) :
    (k0_pay4 (F := Ideal) u o : S1x1024.Idx → EReal) (ix2 0 q) = (o (ix2 0 q) : EReal) + ∑ r : Fin 512, (u (ix2 r q) : EReal) := by
  pointwise [k0_pay4]

theorem stored5 (i : S8x1024.Idx) : (k0_pay5 (F := Ideal) : S8x1024.Idx → EReal) i = 0 := by
  refine (congrArg _ (ValueIdx.eq_ix2 i)).trans ?_
  pointwise [k0_pay5]

theorem stored6 (i : S8x1024.Idx) : (k0_pay6 (F := Ideal) : S8x1024.Idx → EReal) i = 0 := by
  refine (congrArg _ (ValueIdx.eq_ix2 i)).trans ?_
  pointwise [k0_pay6]

section Steps

variable (c : Dev nD) (i : grid0.Coords)
  (a1 : Memref sig .tc .vmem S512x3200 .bf16) (h1 : a1.IsWhole)
  (a2 : Memref sig .tc .vmem S1x1024x3200 .bf16) (h2 : a2.IsWhole)
  (a3 : Memref sig .tc .vmem S512x1024 .f32) (h3 : a3.IsWhole)
  (a4 : Memref sig .tc .vmem S512x1024 .f32) (h4 : a4.IsWhole)
  (a5 : Memref sig .tc .vmem S1x1024 .f32) (h5 : a5.IsWhole)
  (a6 : Memref sig .tc .vmem S512x1024 .f32) (h6 : a6.IsWhole)
  (a7 : Memref sig .tc .vmem S512x1024 .bf16) (h7 : a7.IsWhole)
  (a8 : Memref sig .tc .vmem S1x1024 .f32) (h8 : a8.IsWhole)
  (a9 : Memref sig .tc .vmem S1x1024 .f32) (h9 : a9.IsWhole)
  (a10 : Memref sig .tc .vmem S512x1024 .f32) (h10 : a10.IsWhole)
  (a11 : Memref sig .tc .vmem S512x1024 .bf16) (h11 : a11.IsWhole)
  (a12 : Memref sig .tc .vmem S8x1024 .f32) (h12 : a12.IsWhole)
  (a13 : Memref sig .tc .vmem S8x1024 .f32) (h13 : a13.IsWhole)
  (x0 : Vec Ideal S512x3200 .bf16) (x1 : Vec Ideal S1x1024x3200 .bf16) (x2 : Vec Ideal S512x1024 .f32) (x3 : Vec Ideal S512x1024 .f32) (x4 : Vec Ideal S1x1024 .f32) (x5 : Vec Ideal S512x1024 .f32) (x6 : Vec Ideal S512x1024 .bf16) (x7 : Vec Ideal S1x1024 .f32) (x8 : Vec Ideal S1x1024 .f32) (o11 o12 : Vec Ideal S8x1024 .f32)

/-- A step's gradient of the stream before the norm, of the row under it and of the sublayer's output. -/
abbrev stepU : Vec Ideal S512x1024 .f32 := k0_pay7 x0 x1
abbrev stepD : Vec Ideal S512x1024 .f32 := k0_pay8 x0 x1 x2 x4
abbrev stepZ : Vec Ideal S512x1024 .f32 := k0_pay14 (F := Ideal) (k0_pay8 x0 x1 x2 x4) (k0_pay10 x6 x5 x7) (k0_pay11 x6 x5 x7) x8
abbrev stepY : Vec Ideal S512x1024 .bf16 :=
  k0_pay15 (F := Ideal) (k0_pay8 x0 x1 x2 x4) (k0_pay10 x6 x5 x7) (k0_pay11 x6 x5 x7) x8 x7

/-- A step's normalised rows. -/
abbrev stepH : Vec Ideal S512x1024 .f32 := k0_pay13 (F := Ideal) (k0_pay10 x6 x5 x7) (k0_pay11 x6 x5 x7)

theorem out_A9_eq (hc : cond0_0 i) : out0_A_9 c i a1 h1 a2 h2 a3 h3 a4 h4 a5 h5 a6 h6 a7 h7 a8 h8 a9 h9 a10 h10 a11 h11 a12 h12 a13 h13 hc x0 x1 x2 x3 x4 x5 x6 x7 x8 = stepZ x0 x1 x2 x4 x5 x6 x7 x8 := by
  unfold out0_A_9
  rw [View.read_writes_eq_canon _ _ _ (cover0_A_9 c i a1 h1 a2 h2 a3 h3 a4 h4 a5 h5 a6 h6 a7 h7 a8 h8 a9 h9 a10 h10 a11 h11 a12 h12 a13 h13 hc x0 x1 x2 x3 x4 x5 x6 x7 x8)]
  unfold kernelRun0_A
  dsimp only
  try sl_unfold_words
  rw [View.canon_unit_zero (S := S512x1024) hz2]
  simp only [View.readAt_eq_ld, h1.read_unread, h2.read_unread, h3.read_unread, h4.read_unread, h5.read_unread, h6.read_unread, h7.read_unread,
    h8.read_unread, h9.read_unread, View.ld_unit_zero (S := S512x3200) hz2, View.ld_unit_zero (S := S1x1024x3200) hz3,
    View.ld_unit_zero (S := S512x1024) hz2, View.ld_unit_zero (S := S1x1024) hz2, shapeCast_self]

theorem out_A10_eq (hc : cond0_0 i) : out0_A_10 c i a1 h1 a2 h2 a3 h3 a4 h4 a5 h5 a6 h6 a7 h7 a8 h8 a9 h9 a10 h10 a11 h11 a12 h12 a13 h13 hc x0 x1 x2 x3 x4 x5 x6 x7 x8 = stepY x0 x1 x2 x4 x5 x6 x7 x8 := by
  unfold out0_A_10
  rw [View.read_writes_eq_canon _ _ _ (cover0_A_10 c i a1 h1 a2 h2 a3 h3 a4 h4 a5 h5 a6 h6 a7 h7 a8 h8 a9 h9 a10 h10 a11 h11 a12 h12 a13 h13 hc x0 x1 x2 x3 x4 x5 x6 x7 x8)]
  unfold kernelRun0_A
  dsimp only
  try sl_unfold_words
  rw [View.canon_unit_zero (S := S512x1024) hz2]
  simp only [View.readAt_eq_ld, h1.read_unread, h2.read_unread, h3.read_unread, h4.read_unread, h5.read_unread, h6.read_unread, h7.read_unread,
    h8.read_unread, h9.read_unread, View.ld_unit_zero (S := S512x3200) hz2, View.ld_unit_zero (S := S1x1024x3200) hz3,
    View.ld_unit_zero (S := S512x1024) hz2, View.ld_unit_zero (S := S1x1024) hz2, shapeCast_self]

theorem out_B9_eq (hc : ¬cond0_0 i) : out0_B_9 c i a1 h1 a2 h2 a3 h3 a4 h4 a5 h5 a6 h6 a7 h7 a8 h8 a9 h9 a10 h10 a11 h11 a12 h12 a13 h13 hc x0 x1 x2 x3 x4 x5 x6 x7 x8 o11 o12 = stepZ x0 x1 x2 x4 x5 x6 x7 x8 := by
  unfold out0_B_9
  rw [View.read_writes_eq_canon _ _ _ (cover0_B_9 c i a1 h1 a2 h2 a3 h3 a4 h4 a5 h5 a6 h6 a7 h7 a8 h8 a9 h9 a10 h10 a11 h11 a12 h12 a13 h13 hc x0 x1 x2 x3 x4 x5 x6 x7 x8 o11 o12)]
  unfold kernelRun0_B
  dsimp only
  try sl_unfold_words
  rw [View.canon_unit_zero (S := S512x1024) hz2]
  simp only [View.readAt_eq_ld, h1.read_unread, h2.read_unread, h3.read_unread, h4.read_unread, h5.read_unread, h6.read_unread, h7.read_unread,
    h8.read_unread, h9.read_unread, View.ld_unit_zero (S := S512x3200) hz2, View.ld_unit_zero (S := S1x1024x3200) hz3,
    View.ld_unit_zero (S := S512x1024) hz2, View.ld_unit_zero (S := S1x1024) hz2, shapeCast_self]

theorem out_B10_eq (hc : ¬cond0_0 i) : out0_B_10 c i a1 h1 a2 h2 a3 h3 a4 h4 a5 h5 a6 h6 a7 h7 a8 h8 a9 h9 a10 h10 a11 h11 a12 h12 a13 h13 hc x0 x1 x2 x3 x4 x5 x6 x7 x8 o11 o12 = stepY x0 x1 x2 x4 x5 x6 x7 x8 := by
  unfold out0_B_10
  rw [View.read_writes_eq_canon _ _ _ (cover0_B_10 c i a1 h1 a2 h2 a3 h3 a4 h4 a5 h5 a6 h6 a7 h7 a8 h8 a9 h9 a10 h10 a11 h11 a12 h12 a13 h13 hc x0 x1 x2 x3 x4 x5 x6 x7 x8 o11 o12)]
  unfold kernelRun0_B
  dsimp only
  try sl_unfold_words
  rw [View.canon_unit_zero (S := S512x1024) hz2]
  simp only [View.readAt_eq_ld, h1.read_unread, h2.read_unread, h3.read_unread, h4.read_unread, h5.read_unread, h6.read_unread, h7.read_unread,
    h8.read_unread, h9.read_unread, View.ld_unit_zero (S := S512x3200) hz2, View.ld_unit_zero (S := S1x1024x3200) hz3,
    View.ld_unit_zero (S := S512x1024) hz2, View.ld_unit_zero (S := S1x1024) hz2, shapeCast_self]

theorem out_A11_eq (hc : cond0_0 i) (s : Fin 8) (q : Fin 1024) : out0_A_11 c i a1 h1 a2 h2 a3 h3 a4 h4 a5 h5 a6 h6 a7 h7 a8 h8 a9 h9 a10 h10 a11 h11 a12 h12 a13 h13 hc x0 x1 x2 x3 x4 x5 x6 x7 x8 (ix2 s q) = sumRows (stepU x0 x1) x3 (fun _ => 0) s q := by
  unfold out0_A_11 kernelRun0_A sumRows
  dsimp only
  try sl_unfold_words
  simp only [View.readAt_eq_ld, h1.read_unread, h2.read_unread, h3.read_unread, h4.read_unread, h5.read_unread, h6.read_unread, h7.read_unread,
    h8.read_unread, h9.read_unread, View.ld_unit_zero (S := S512x3200) hz2, View.ld_unit_zero (S := S1x1024x3200) hz3,
    View.ld_unit_zero (S := S512x1024) hz2, View.ld_unit_zero (S := S1x1024) hz2, shapeCast_self]
  by_cases e0 : s.val = 0
  · have e := e0
    rw [if_pos e0, row_miss _ _ 1 _ _ _ s q (by omega), row_hit _ _ 0 _ _ _ s q e0, stored3, row_load _ 0 _ _ s q e, all_hit, stored5]
  · rw [if_neg e0]
    by_cases e : s.val = 1
    · rw [if_pos e, row_hit _ _ 1 _ _ _ s q e, stored4, row_load _ 1 _ _ s q e, row_miss _ _ 0 _ _ _ s q (by omega), all_hit, stored5]
    · rw [if_neg e, row_miss _ _ 1 _ _ _ s q (by omega), row_miss _ _ 0 _ _ _ s q (by omega), all_hit, stored5, add_zero]

theorem out_A12_eq (hc : cond0_0 i) (s : Fin 8) (q : Fin 1024) :
    out0_A_12 c i a1 h1 a2 h2 a3 h3 a4 h4 a5 h5 a6 h6 a7 h7 a8 h8 a9 h9 a10 h10 a11 h11 a12 h12 a13 h13 hc x0 x1 x2 x3 x4 x5 x6 x7 x8 (ix2 s q)
      = normRows (stepD x0 x1 x2 x4) (stepH x5 x6 x7) (stepZ x0 x1 x2 x4 x5 x6 x7 x8) x6 (fun _ => 0) s q := by
  unfold out0_A_12 kernelRun0_A normRows
  dsimp only
  try sl_unfold_words
  simp only [View.readAt_eq_ld, h1.read_unread, h2.read_unread, h3.read_unread, h4.read_unread, h5.read_unread, h6.read_unread, h7.read_unread,
    h8.read_unread, h9.read_unread, View.ld_unit_zero (S := S512x3200) hz2, View.ld_unit_zero (S := S1x1024x3200) hz3,
    View.ld_unit_zero (S := S512x1024) hz2, View.ld_unit_zero (S := S1x1024) hz2, shapeCast_self]
  by_cases e0 : s.val = 0
  · have e := e0
    rw [if_pos e0, row_miss _ _ 2 _ _ _ s q (by omega), row_miss _ _ 1 _ _ _ s q (by omega), row_hit _ _ 0 _ _ _ s q e0, stored16, row_load _ 0 _ _ s q e, all_hit, stored6]
  · rw [if_neg e0]
    by_cases e1 : s.val = 1
    · have e := e1
      rw [if_pos e, row_miss _ _ 2 _ _ _ s q (by omega), row_hit _ _ 1 _ _ _ s q e, stored1, row_load _ 1 _ _ s q e, row_miss _ _ 0 _ _ _ s q (by omega), all_hit, stored6]
    · rw [if_neg e1]
      by_cases e : s.val = 2
      · rw [if_pos e, row_hit _ _ 2 _ _ _ s q e, stored2, row_load _ 2 _ _ s q e, row_miss _ _ 1 _ _ _ s q (by omega), row_miss _ _ 0 _ _ _ s q (by omega), all_hit, stored6]
        rfl
      · rw [if_neg e, row_miss _ _ 2 _ _ _ s q (by omega), row_miss _ _ 1 _ _ _ s q (by omega), row_miss _ _ 0 _ _ _ s q (by omega), all_hit, stored6, add_zero]

theorem out_B11_eq (hc : ¬cond0_0 i) (s : Fin 8) (q : Fin 1024) : out0_B_11 c i a1 h1 a2 h2 a3 h3 a4 h4 a5 h5 a6 h6 a7 h7 a8 h8 a9 h9 a10 h10 a11 h11 a12 h12 a13 h13 hc x0 x1 x2 x3 x4 x5 x6 x7 x8 o11 o12 (ix2 s q) = sumRows (stepU x0 x1) x3 o11 s q := by
  unfold out0_B_11 kernelRun0_B sumRows
  dsimp only
  try sl_unfold_words
  simp only [View.readAt_eq_ld, h1.read_unread, h2.read_unread, h3.read_unread, h4.read_unread, h5.read_unread, h6.read_unread, h7.read_unread,
    h8.read_unread, h9.read_unread, View.ld_unit_zero (S := S512x3200) hz2, View.ld_unit_zero (S := S1x1024x3200) hz3,
    View.ld_unit_zero (S := S512x1024) hz2, View.ld_unit_zero (S := S1x1024) hz2, shapeCast_self]
  rw [h12.read_unread]
  by_cases e0 : s.val = 0
  · have e := e0
    rw [if_pos e0, row_miss _ _ 1 _ _ _ s q (by omega), row_hit _ _ 0 _ _ _ s q e0, stored3, row_ld _ 0 _ s q e]
  · rw [if_neg e0]
    by_cases e : s.val = 1
    · rw [if_pos e, row_hit _ _ 1 _ _ _ s q e, stored4, row_ld _ 1 _ s q e]
    · rw [if_neg e, row_miss _ _ 1 _ _ _ s q (by omega), row_miss _ _ 0 _ _ _ s q (by omega), View.writes_nil, h12.read_unread, add_zero]

theorem out_B12_eq (hc : ¬cond0_0 i) (s : Fin 8) (q : Fin 1024) :
    out0_B_12 c i a1 h1 a2 h2 a3 h3 a4 h4 a5 h5 a6 h6 a7 h7 a8 h8 a9 h9 a10 h10 a11 h11 a12 h12 a13 h13 hc x0 x1 x2 x3 x4 x5 x6 x7 x8 o11 o12 (ix2 s q)
      = normRows (stepD x0 x1 x2 x4) (stepH x5 x6 x7) (stepZ x0 x1 x2 x4 x5 x6 x7 x8) x6 o12 s q := by
  unfold out0_B_12 kernelRun0_B normRows
  dsimp only
  try sl_unfold_words
  simp only [View.readAt_eq_ld, h1.read_unread, h2.read_unread, h3.read_unread, h4.read_unread, h5.read_unread, h6.read_unread, h7.read_unread,
    h8.read_unread, h9.read_unread, View.ld_unit_zero (S := S512x3200) hz2, View.ld_unit_zero (S := S1x1024x3200) hz3,
    View.ld_unit_zero (S := S512x1024) hz2, View.ld_unit_zero (S := S1x1024) hz2, shapeCast_self]
  rw [h13.read_unread]
  by_cases e0 : s.val = 0
  · have e := e0
    rw [if_pos e0, row_miss _ _ 2 _ _ _ s q (by omega), row_miss _ _ 1 _ _ _ s q (by omega), row_hit _ _ 0 _ _ _ s q e0, stored16, row_ld _ 0 _ s q e]
  · rw [if_neg e0]
    by_cases e1 : s.val = 1
    · have e := e1
      rw [if_pos e, row_miss _ _ 2 _ _ _ s q (by omega), row_hit _ _ 1 _ _ _ s q e, stored1, row_ld _ 1 _ s q e]
    · rw [if_neg e1]
      by_cases e : s.val = 2
      · rw [if_pos e, row_hit _ _ 2 _ _ _ s q e, stored2, row_ld _ 2 _ s q e]
        rfl
      · rw [if_neg e, row_miss _ _ 2 _ _ _ s q (by omega), row_miss _ _ 1 _ _ _ s q (by omega), row_miss _ _ 0 _ _ _ s q (by omega), View.writes_nil, h13.read_unread, add_zero]

end Steps

end Cert.Kernel17Ideal.GlaDx

end
-- ==== Proof.GlaDx.lean ====
/-
  The gradient through the gla layer's projections and the layer norm before it: what the steps read and what they leave.
-/
module

public import proofs.«01_k».proof.Proof.GlaDxStep
public import proofs.«01_k».proof.Proof.Padded
public import proofs.«01_k».proof.Proof.MlpBackSpec

@[expose] public section

set_option maxRecDepth 16384

noncomputable section

namespace Cert.Kernel17Ideal.GlaDx

open Cert.Kernel17Ideal Cert.Kernel17Ideal.Gen Cert.Mlp Cert.Norm Cert.Rows Cert.Padded
open Idealize.ShloMosaic Idealize.ShloMosaic.TcCoe
open Idealize.ShloMosaic.Pipeline (Window)
open scoped BigOperators

variable (m : (ℓ : Loc nD τ sig) → Buf (Elt Ideal) ℓ) (c : Dev nD)

/-- The arguments. -/
abbrev arg0 : S8192x1024.Idx → EReal := m ((c.tc : Thread nD τ).loc main_arg0)
abbrev arg1 : S8192x1024.Idx → EReal := m ((c.tc : Thread nD τ).loc main_arg1)
abbrev arg2 : S1x1024.Idx → EReal := m ((c.tc : Thread nD τ).loc main_arg2)
abbrev arg3 : S1x1024.Idx → EReal := m ((c.tc : Thread nD τ).loc main_arg3)
abbrev arg4 : S1x1024.Idx → EReal := m ((c.tc : Thread nD τ).loc main_arg4)
abbrev arg5 : S1x1024.Idx → EReal := m ((c.tc : Thread nD τ).loc main_arg5)
abbrev arg7 : S1024x3088.Idx → EReal := m ((c.tc : Thread nD τ).loc main_arg7)
abbrev arg8 : S8192x1024.Idx → EReal := m ((c.tc : Thread nD τ).loc main_arg8)
abbrev arg9 : S8192x3088.Idx → EReal := m ((c.tc : Thread nD τ).loc main_arg9)

/-- The arguments, in numbers. -/
def inputs : Cert.MlpBack.In := Cert.MlpBack.ofArrays (arg0 m c) (arg1 m c) (arg2 m c) (arg3 m c) (arg4 m c) (arg5 m c) (arg8 m c)
  (Cert.MlpBack.product (fun s j => arg9 m c (ix2 s j)) (arg7 m c))

theorem V_weight (k : Fin 1024) (q : Fin 3200) : (V m c main_v3 : S1x1024x3200.Idx → EReal) (ix3 0 k q) = padded (fun j => arg7 m c (ix2 k j)) q := by
  unfold V
  after_reads_at
  by_cases h : q.val < 3088
  · rw [padded_lt _ q h]
    pointwise
    simp [h]
  · rw [padded_ge _ q h]
    pointwise
    simp [h]
    exact sitofp_zero _

theorem V_wide (s : Fin 8192) (q : Fin 3200) : (V m c main_v0 : S8192x3200.Idx → EReal) (ix2 s q) = padded (fun j => arg9 m c (ix2 s j)) q := by
  unfold V
  after_reads_at
  by_cases h : q.val < 3088
  · rw [padded_lt _ q h]
    pointwise
    simp [h]
  · rw [padded_ge _ q h]
    pointwise
    simp [h]
    exact sitofp_zero _

theorem V_scale (q : Fin 1024) : (V m c main_v33 : S1x1024.Idx → EReal) (ix2 0 q) = one + (inputs m c).sc q := by
  unfold V
  after_reads_at
  rfl

theorem V_gate (q : Fin 1024) : (V m c main_v35 : S1x1024.Idx → EReal) (ix2 0 q) = one + (inputs m c).gate q := by
  unfold V
  after_reads_at
  rfl

theorem V_mid (s : Fin 8192) (k : Fin 1024) : (V m c main_v31 : S8192x1024.Idx → EReal) (ix2 s k) = (inputs m c).mid s k := by
  unfold V
  after_reads_at
  rfl

theorem index0 : ∀ t : Fin cfg0.N, win0_0.index t = ![t.val, 0] := (by decide +kernel : ∀ t : Fin grid0.N, win0_0.index t = ![t.val, 0])
theorem index1 : ∀ t : Fin cfg0.N, win0_1.index t = ![0, 0, 0] := (by decide +kernel : ∀ t : Fin grid0.N, win0_1.index t = ![0, 0, 0])
theorem index2 : ∀ t : Fin cfg0.N, win0_2.index t = ![t.val, 0] := (by decide +kernel : ∀ t : Fin grid0.N, win0_2.index t = ![t.val, 0])
theorem index3 : ∀ t : Fin cfg0.N, win0_3.index t = ![t.val, 0] := (by decide +kernel : ∀ t : Fin grid0.N, win0_3.index t = ![t.val, 0])
theorem index4 : ∀ t : Fin cfg0.N, win0_4.index t = ![0, 0] := (by decide +kernel : ∀ t : Fin grid0.N, win0_4.index t = ![0, 0])
theorem index5 : ∀ t : Fin cfg0.N, win0_5.index t = ![t.val, 0] := (by decide +kernel : ∀ t : Fin grid0.N, win0_5.index t = ![t.val, 0])
theorem index6 : ∀ t : Fin cfg0.N, win0_6.index t = ![t.val, 0] := (by decide +kernel : ∀ t : Fin grid0.N, win0_6.index t = ![t.val, 0])
theorem index7 : ∀ t : Fin cfg0.N, win0_7.index t = ![0, 0] := (by decide +kernel : ∀ t : Fin grid0.N, win0_7.index t = ![0, 0])
theorem index8 : ∀ t : Fin cfg0.N, win0_8.index t = ![0, 0] := (by decide +kernel : ∀ t : Fin grid0.N, win0_8.index t = ![0, 0])
theorem index9 : ∀ t : Fin cfg0.N, win0_9.index t = ![t.val, 0] := (by decide +kernel : ∀ t : Fin grid0.N, win0_9.index t = ![t.val, 0])
theorem index10 : ∀ t : Fin cfg0.N, win0_10.index t = ![t.val, 0] := (by decide +kernel : ∀ t : Fin grid0.N, win0_10.index t = ![t.val, 0])
theorem index11 : ∀ t : Fin cfg0.N, win0_11.index t = ![0, 0] := (by decide +kernel : ∀ t : Fin grid0.N, win0_11.index t = ![0, 0])
theorem index12 : ∀ t : Fin cfg0.N, win0_12.index t = ![0, 0] := (by decide +kernel : ∀ t : Fin grid0.N, win0_12.index t = ![0, 0])

theorem block0 (t : Fin cfg0.N) (r : Fin 512) (k : Fin 3200) (h : t.val * 512 + r.val < 8192) :
    (iblk m c 0 t : S512x3200.Idx → EReal) (ix2 r k) = padded (fun j => arg9 m c (ix2 ⟨t.val * 512 + r.val, h⟩ j)) k := by
  refine Eq.trans (b := V m c main_v0 (((cfg0.win 0).blk t).view.emb (ix2 r k : S512x3200.Idx))) rfl ?_
  exact Eq.trans (congrArg (V m c main_v0) (a₂ := ix2 ⟨t.val * 512 + r.val, h⟩ k) (ext2 (by show _ = t.val * 512 + r.val; blk_simp [index0]) (by show _ = k.val; blk_simp [index0]))) (V_wide m c _ k)

theorem block1 (t : Fin cfg0.N) (k : Fin 1024) (q : Fin 3200) : (iblk m c 1 t : S1x1024x3200.Idx → EReal) (ix3 0 k q) = padded (fun j => arg7 m c (ix2 k j)) q := by
  refine Eq.trans (b := V m c main_v3 (((cfg0.win 1).blk t).view.emb (ix3 0 k q : S1x1024x3200.Idx))) rfl ?_
  exact Eq.trans (congrArg (V m c main_v3) (a₂ := ix3 0 k q) (ext3 (only _ _) (by show _ = k.val; blk_simp [index1]) (by show _ = q.val; blk_simp [index1]))) (V_weight m c k q)

theorem block2 (t : Fin cfg0.N) (r : Fin 512) (k : Fin 1024) (h : t.val * 512 + r.val < 8192) :
    (iblk m c 2 t : S512x1024.Idx → EReal) (ix2 r k) = (inputs m c).dz2 ⟨t.val * 512 + r.val, h⟩ k := by
  refine Eq.trans (b := V m c main_arg8 (((cfg0.win 2).blk t).view.emb (ix2 r k : S512x1024.Idx))) rfl ?_
  exact Eq.trans (congrArg (V m c main_arg8) (a₂ := ix2 ⟨t.val * 512 + r.val, h⟩ k) (ext2 (by show _ = t.val * 512 + r.val; blk_simp [index2]) (by show _ = k.val; blk_simp [index2]))) (congrFun (V_main_arg8 m c) _)

theorem block3 (t : Fin cfg0.N) (r : Fin 512) (k : Fin 1024) (h : t.val * 512 + r.val < 8192) :
    (iblk m c 3 t : S512x1024.Idx → EReal) (ix2 r k) = (inputs m c).mid ⟨t.val * 512 + r.val, h⟩ k := by
  refine Eq.trans (b := V m c main_v31 (((cfg0.win 3).blk t).view.emb (ix2 r k : S512x1024.Idx))) rfl ?_
  exact Eq.trans (congrArg (V m c main_v31) (a₂ := ix2 ⟨t.val * 512 + r.val, h⟩ k) (ext2 (by show _ = t.val * 512 + r.val; blk_simp [index3]) (by show _ = k.val; blk_simp [index3]))) (V_mid m c _ k)

theorem block4 (t : Fin cfg0.N) (q : Fin 1024) : (iblk m c 4 t : S1x1024.Idx → EReal) (ix2 0 q) = one + (inputs m c).sc q := by
  refine Eq.trans (b := V m c main_v33 (((cfg0.win 4).blk t).view.emb (ix2 0 q : S1x1024.Idx))) rfl ?_
  exact Eq.trans (congrArg (V m c main_v33) (a₂ := ix2 0 q) (ext2 (only _ _) (by show _ = q.val; blk_simp [index4]))) (V_scale m c q)

theorem block5 (t : Fin cfg0.N) (r : Fin 512) (k : Fin 1024) (h : t.val * 512 + r.val < 8192) :
    (iblk m c 5 t : S512x1024.Idx → EReal) (ix2 r k) = (inputs m c).x ⟨t.val * 512 + r.val, h⟩ k := by
  refine Eq.trans (b := V m c main_arg0 (((cfg0.win 5).blk t).view.emb (ix2 r k : S512x1024.Idx))) rfl ?_
  exact Eq.trans (congrArg (V m c main_arg0) (a₂ := ix2 ⟨t.val * 512 + r.val, h⟩ k) (ext2 (by show _ = t.val * 512 + r.val; blk_simp [index5]) (by show _ = k.val; blk_simp [index5]))) (congrFun (V_main_arg0 m c) _)

theorem block6 (t : Fin cfg0.N) (r : Fin 512) (k : Fin 1024) (h : t.val * 512 + r.val < 8192) :
    (iblk m c 6 t : S512x1024.Idx → EReal) (ix2 r k) = (inputs m c).y ⟨t.val * 512 + r.val, h⟩ k := by
  refine Eq.trans (b := V m c main_arg1 (((cfg0.win 6).blk t).view.emb (ix2 r k : S512x1024.Idx))) rfl ?_
  exact Eq.trans (congrArg (V m c main_arg1) (a₂ := ix2 ⟨t.val * 512 + r.val, h⟩ k) (ext2 (by show _ = t.val * 512 + r.val; blk_simp [index6]) (by show _ = k.val; blk_simp [index6]))) (congrFun (V_main_arg1 m c) _)

theorem block7 (t : Fin cfg0.N) (q : Fin 1024) : (iblk m c 7 t : S1x1024.Idx → EReal) (ix2 0 q) = one + (inputs m c).gate q := by
  refine Eq.trans (b := V m c main_v35 (((cfg0.win 7).blk t).view.emb (ix2 0 q : S1x1024.Idx))) rfl ?_
  exact Eq.trans (congrArg (V m c main_v35) (a₂ := ix2 0 q) (ext2 (only _ _) (by show _ = q.val; blk_simp [index7]))) (V_gate m c q)

theorem block8 (t : Fin cfg0.N) (q : Fin 1024) : (iblk m c 8 t : S1x1024.Idx → EReal) (ix2 0 q) = (inputs m c).g q := by
  refine Eq.trans (b := V m c main_arg3 (((cfg0.win 8).blk t).view.emb (ix2 0 q : S1x1024.Idx))) rfl ?_
  exact Eq.trans (congrArg (V m c main_arg3) (a₂ := ix2 0 q) (ext2 (only _ _) (by show _ = q.val; blk_simp [index8]))) (congrFun (V_main_arg3 m c) _)

/-! ### A step's values -/

/-- A step's arrays, of the blocks it reads: the gradients of the block's input and of the norm's output, the normed row, and the gradients
of the stream and of the sublayer's output. -/
abbrev atU (t : Fin cfg0.N) : S512x1024.Idx → EReal := stepU (iblk m c 0 t) (iblk m c 1 t)
abbrev atD (t : Fin cfg0.N) : S512x1024.Idx → EReal := stepD (iblk m c 0 t) (iblk m c 1 t) (iblk m c 2 t) (iblk m c 4 t)
abbrev atH (t : Fin cfg0.N) : S512x1024.Idx → EReal := stepH (iblk m c 5 t) (iblk m c 6 t) (iblk m c 7 t)
abbrev atZ (t : Fin cfg0.N) : S512x1024.Idx → EReal := stepZ (iblk m c 0 t) (iblk m c 1 t) (iblk m c 2 t) (iblk m c 4 t) (iblk m c 5 t) (iblk m c 6 t) (iblk m c 7 t) (iblk m c 8 t)
abbrev atY (t : Fin cfg0.N) : S512x1024.Idx → EReal := stepY (iblk m c 0 t) (iblk m c 1 t) (iblk m c 2 t) (iblk m c 4 t) (iblk m c 5 t) (iblk m c 6 t) (iblk m c 7 t) (iblk m c 8 t)

theorem step_du (t : Fin cfg0.N) (r : Fin 512) (q : Fin 1024) (h : t.val * 512 + r.val < 8192) : atU m c t (ix2 r q) = (inputs m c).du ⟨t.val * 512 + r.val, h⟩ q := by
  refine (stored7 _ _ r q).trans ((Finset.sum_congr rfl fun k _ => ?_).trans (sum_padded_mul (fun j => arg9 m c (ix2 ⟨t.val * 512 + r.val, h⟩ j)) (fun j => arg7 m c (ix2 q j))))
  rw [block0 m c t r k h, block1 m c t q k]

theorem step_dxo (t : Fin cfg0.N) (r : Fin 512) (q : Fin 1024) (h : t.val * 512 + r.val < 8192) : atD m c t (ix2 r q) = (inputs m c).dxo ⟨t.val * 512 + r.val, h⟩ q := by
  refine (stored8 _ _ _ _ r q).trans ?_
  exact congrArg₂ (· + ·) (congrArg (alpha * ·) (block2 m c t r q h)) (congrArg₂ (· * ·) (step_du m c t r q h) (block4 m c t q))

theorem step_row (t : Fin cfg0.N) (r : Fin 512) (h : t.val * 512 + r.val < 8192) :
    gated (iblk m c 5 t) (iblk m c 6 t) (iblk m c 7 t) r = (inputs m c).row ⟨t.val * 512 + r.val, h⟩ := by
  funext k
  unfold gated
  rw [block5 m c t r k h, block6 m c t r k h, block7 m c t k]
  rfl

theorem step_rstd (t : Fin cfg0.N) (r : Fin 512) (h : t.val * 512 + r.val < 8192) :
    (k0_pay12 (F := Ideal) (k0_pay11 (iblk m c 6 t) (iblk m c 5 t) (iblk m c 7 t)) : S512x1.Idx → EReal) (ix2 r 0)
      = rstd ((inputs m c).row ⟨t.val * 512 + r.val, h⟩) := by
  rw [stored12, stored11, step_row m c t r h]
  rfl

theorem step_hat (t : Fin cfg0.N) (r : Fin 512) (q : Fin 1024) (h : t.val * 512 + r.val < 8192) : atH m c t (ix2 r q) = hat ((inputs m c).row ⟨t.val * 512 + r.val, h⟩) q := by
  refine (stored13 _ _ r q).trans ?_
  rw [step_rstd m c t r h, stored10, step_row m c t r h]
  rfl

theorem step_dz (t : Fin cfg0.N) (r : Fin 512) (q : Fin 1024) (h : t.val * 512 + r.val < 8192) : atZ m c t (ix2 r q) = (inputs m c).dz ⟨t.val * 512 + r.val, h⟩ q := by
  refine (stored14 _ _ _ _ r q).trans ?_
  have hd : ∀ k : Fin 1024, atD m c t (ix2 r k) * (iblk m c 8 t : S1x1024.Idx → EReal) (ix2 0 k) = (inputs m c).dhat ⟨t.val * 512 + r.val, h⟩ k := fun k => by
    rw [step_dxo m c t r k h, block8 m c t k]
    rfl
  have hh : ∀ k : Fin 1024, atH m c t (ix2 r k) = hat ((inputs m c).row ⟨t.val * 512 + r.val, h⟩) k := fun k => step_hat m c t r k h
  unfold Cert.MlpBack.In.dz back
  rw [step_rstd m c t r h]
  refine congrArg (rstd _ * ·) (congrArg₂ (· - ·) (congrArg₂ (· - ·) (hd q) (congrArg mean (funext hd))) (congrArg₂ (· * ·) (hh q) (congrArg mean (funext fun k => ?_))))
  exact congrArg₂ (· * ·) (hd k) (hh k)

theorem step_dy (t : Fin cfg0.N) (r : Fin 512) (q : Fin 1024) (h : t.val * 512 + r.val < 8192) : atY m c t (ix2 r q) = (inputs m c).dy ⟨t.val * 512 + r.val, h⟩ q := by
  refine (stored15 _ _ _ _ _ r q).trans ?_
  exact congrArg₂ (fun a b : EReal => a * b) (block7 m c t q) (step_dz m c t r q h)

/-- What a step adds to the sums over the modulation. -/
theorem adds_sum (n : ℕ) (h : n < cfg0.N) (o : S8x1024.Idx → EReal) (s : Fin 8) (q : Fin 1024) :
    sumRows (atU m c ⟨n, h⟩) (iblk m c 3 ⟨n, h⟩) o s q = o (ix2 s q) + tile 16 512 rfl ((inputs m c).sumPart s q) n := by
  have hn : n < 16 := h.trans_eq N_0
  have hb : ∀ t : Fin 512, n * 512 + t.val < 8192 := fun t => by have := t.isLt; omega
  rw [tile_of_lt 16 512 rfl _ n hn hb]
  unfold sumRows Cert.MlpBack.In.sumPart
  refine congrArg (o (ix2 s q) + ·) ?_
  split_ifs
  · refine Finset.sum_congr rfl fun r _ => ?_
    rw [step_du m c ⟨n, h⟩ r q (hb r), block3 m c ⟨n, h⟩ r q (hb r)]
  · exact Finset.sum_congr rfl fun r _ => step_du m c ⟨n, h⟩ r q (hb r)
  · exact Finset.sum_const_zero.symm

/-- What a step adds to the sums over the norm. -/
theorem adds_norm (n : ℕ) (h : n < cfg0.N) (o : S8x1024.Idx → EReal) (s : Fin 8) (q : Fin 1024) :
    normRows (atD m c ⟨n, h⟩) (atH m c ⟨n, h⟩)
      (atZ m c ⟨n, h⟩) (iblk m c 6 ⟨n, h⟩) o s q
      = o (ix2 s q) + tile 16 512 rfl ((inputs m c).normPart s q) n := by
  have hn : n < 16 := h.trans_eq N_0
  have hb : ∀ t : Fin 512, n * 512 + t.val < 8192 := fun t => by have := t.isLt; omega
  rw [tile_of_lt 16 512 rfl _ n hn hb]
  unfold normRows Cert.MlpBack.In.normPart
  refine congrArg (o (ix2 s q) + ·) ?_
  split_ifs
  · refine Finset.sum_congr rfl fun r _ => ?_
    rw [step_dxo m c ⟨n, h⟩ r q (hb r), step_hat m c ⟨n, h⟩ r q (hb r)]
  · exact Finset.sum_congr rfl fun r _ => step_dxo m c ⟨n, h⟩ r q (hb r)
  · refine Finset.sum_congr rfl fun r _ => ?_
    rw [step_dz m c ⟨n, h⟩ r q (hb r), block6 m c ⟨n, h⟩ r q (hb r)]
  · exact Finset.sum_const_zero.symm

theorem left9 (t : Fin cfg0.N) : (outsAt0 m c t.val t.isLt).1 = atZ m c t := by
  by_cases h0 : t.val % 16 = 0
  · rw [outsAt0_A m c t h0]
    dsimp only
    rw [out_A9_eq]
  · rw [outsAt0_B m c t h0]
    dsimp only
    rw [out_B9_eq]

theorem left10 (t : Fin cfg0.N) : (outsAt0 m c t.val t.isLt).2.1 = atY m c t := by
  by_cases h0 : t.val % 16 = 0
  · rw [outsAt0_A m c t h0]
    dsimp only
    rw [out_A10_eq]
  · rw [outsAt0_B m c t h0]
    dsimp only
    rw [out_B10_eq]

theorem left11_A (t : Fin cfg0.N) (h0 : t.val % 16 = 0) (s : Fin 8) (q : Fin 1024) :
    ((outsAt0 m c t.val t.isLt).2.2.1 : S8x1024.Idx → EReal) (ix2 s q) = sumRows (atU m c t) (iblk m c 3 t) (fun _ => 0) s q := by
  rw [outsAt0_A m c t h0]
  dsimp only
  rw [out_A11_eq]

theorem left11_B (t : Fin cfg0.N) (h0 : ¬t.val % 16 = 0) (s : Fin 8) (q : Fin 1024) :
    ((outsAt0 m c t.val t.isLt).2.2.1 : S8x1024.Idx → EReal) (ix2 s q) = sumRows (atU m c t) (iblk m c 3 t) (outsAt0 m c (t.val - 1) (Nat.lt_of_le_of_lt (Nat.sub_le _ _) t.isLt)).2.2.1 s q := by
  rw [outsAt0_B m c t h0]
  dsimp only
  rw [out_B11_eq]

/-- The sums after `n` steps. -/
theorem left11 (n : ℕ) (h : n < cfg0.N) (s : Fin 8) (q : Fin 1024) :
    ((outsAt0 m c n h).2.2.1 : S8x1024.Idx → EReal) (ix2 s q) = ∑ j ∈ Finset.range (n + 1), tile 16 512 rfl ((inputs m c).sumPart s q) j := by
  induction n with
  | zero =>
    refine (left11_A m c ⟨0, h⟩ (Nat.zero_mod _) s q).trans ?_
    rw [adds_sum m c 0 h, zero_add, Finset.sum_range_one]
  | succ n ih =>
    have hn : n + 1 < 16 := h.trans_eq N_0
    have h0 : ¬(n + 1) % 16 = 0 := by omega
    refine (left11_B m c ⟨n + 1, h⟩ h0 s q).trans ?_
    rw [adds_sum m c (n + 1) h, Finset.sum_range_succ _ (n + 1)]
    exact congrArg (· + _) (ih (Nat.lt_of_succ_lt h))

theorem left12_A (t : Fin cfg0.N) (h0 : t.val % 16 = 0) (s : Fin 8) (q : Fin 1024) :
    ((outsAt0 m c t.val t.isLt).2.2.2 : S8x1024.Idx → EReal) (ix2 s q) = normRows (atD m c t) (atH m c t)
      (atZ m c t) (iblk m c 6 t) (fun _ => 0) s q := by
  rw [outsAt0_A m c t h0]
  dsimp only
  rw [out_A12_eq]

theorem left12_B (t : Fin cfg0.N) (h0 : ¬t.val % 16 = 0) (s : Fin 8) (q : Fin 1024) :
    ((outsAt0 m c t.val t.isLt).2.2.2 : S8x1024.Idx → EReal) (ix2 s q) = normRows (atD m c t) (atH m c t)
      (atZ m c t) (iblk m c 6 t) (outsAt0 m c (t.val - 1) (Nat.lt_of_le_of_lt (Nat.sub_le _ _) t.isLt)).2.2.2 s q := by
  rw [outsAt0_B m c t h0]
  dsimp only
  rw [out_B12_eq]

/-- The sums after `n` steps. -/
theorem left12 (n : ℕ) (h : n < cfg0.N) (s : Fin 8) (q : Fin 1024) :
    ((outsAt0 m c n h).2.2.2 : S8x1024.Idx → EReal) (ix2 s q) = ∑ j ∈ Finset.range (n + 1), tile 16 512 rfl ((inputs m c).normPart s q) j := by
  induction n with
  | zero =>
    refine (left12_A m c ⟨0, h⟩ (Nat.zero_mod _) s q).trans ?_
    rw [adds_norm m c 0 h, zero_add, Finset.sum_range_one]
  | succ n ih =>
    have hn : n + 1 < 16 := h.trans_eq N_0
    have h0 : ¬(n + 1) % 16 = 0 := by omega
    refine (left12_B m c ⟨n + 1, h⟩ h0 s q).trans ?_
    rw [adds_norm m c (n + 1) h, Finset.sum_range_succ _ (n + 1)]
    exact congrArg (· + _) (ih (Nat.lt_of_succ_lt h))

/-! ### The whole results -/

theorem result_z : (dats m 0 c).arrAt 9 cfg0.N = (inputs m c).zArr := by
  have hcov : (cfg0.win 9).Covers := by decide +kernel
  refine (dats m 0 c).arrAt_eq_of_covers (9 : Fin cfg0.W) ((inputs m c).zArr) hcov (fun t hf y => ?_) (Memref.isWhole_whole _)
  refine Eq.trans (b := (dats m 0 c).after 9 t y) (by blk_simp) ?_
  rw [after0_9, left9]
  have b0 : (y 0).val < 512 := (y 0).isLt
  have ht : t.val < 16 := t.isLt.trans_eq N_0
  have e0 : ((((cfg0.win 9).blk t).view.emb y 0 : Fin _) : ℕ) = t.val * 512 + (y 0).val := by blk_simp [index9]
  have e1 : ((((cfg0.win 9).blk t).view.emb y 1 : Fin _) : ℕ) = (y 1).val := by blk_simp [index9]
  refine ((congrArg _ (ValueIdx.eq_ix2 y)).trans (step_dz m c t (y 0) (y 1) (by omega))).trans ?_
  have q0 : (⟨t.val * 512 + (y 0).val, by omega⟩ : Fin 8192) = ((cfg0.win 9).blk t).view.emb y 0 := Fin.ext e0.symm
  have q1 : y 1 = ((cfg0.win 9).blk t).view.emb y 1 := Fin.ext e1.symm
  rw [q0, q1]
  rfl

theorem result_y : (dats m 0 c).arrAt 10 cfg0.N = (inputs m c).yArr := by
  have hcov : (cfg0.win 10).Covers := by decide +kernel
  refine (dats m 0 c).arrAt_eq_of_covers (10 : Fin cfg0.W) ((inputs m c).yArr) hcov (fun t hf y => ?_) (Memref.isWhole_whole _)
  refine Eq.trans (b := (dats m 0 c).after 10 t y) (by blk_simp) ?_
  rw [after0_10, left10]
  have b0 : (y 0).val < 512 := (y 0).isLt
  have ht : t.val < 16 := t.isLt.trans_eq N_0
  have e0 : ((((cfg0.win 10).blk t).view.emb y 0 : Fin _) : ℕ) = t.val * 512 + (y 0).val := by blk_simp [index10]
  have e1 : ((((cfg0.win 10).blk t).view.emb y 1 : Fin _) : ℕ) = (y 1).val := by blk_simp [index10]
  refine ((congrArg _ (ValueIdx.eq_ix2 y)).trans (step_dy m c t (y 0) (y 1) (by omega))).trans ?_
  have q0 : (⟨t.val * 512 + (y 0).val, by omega⟩ : Fin 8192) = ((cfg0.win 10).blk t).view.emb y 0 := Fin.ext e0.symm
  have q1 : y 1 = ((cfg0.win 10).blk t).view.emb y 1 := Fin.ext e1.symm
  rw [q0, q1]
  rfl

theorem result_sum : (dats m 0 c).arrAt 11 cfg0.N = (inputs m c).sumArr := by
  have hcov : (cfg0.win 11).Covers := by decide +kernel
  have hlast : ∀ t : Fin cfg0.N, (cfg0.win 11).flush t = true → t.val = 15 :=
    (by decide +kernel : ∀ t : Fin grid0.N, (cfg0.win 11).flush t = true → t.val = 15)
  refine (dats m 0 c).arrAt_eq_of_covers (11 : Fin cfg0.W) ((inputs m c).sumArr) hcov (fun t hf y => ?_) (Memref.isWhole_whole _)
  refine Eq.trans (b := (dats m 0 c).after 11 t y) (by blk_simp) ?_
  have e : ((cfg0.win 11).blk t).view.emb y = y := ext2 (by show _ = (y 0).val; blk_simp [index11]) (by show _ = (y 1).val; blk_simp [index11])
  rw [after0_11]
  refine ((congrArg _ (ValueIdx.eq_ix2 y)).trans (left11 m c t.val t.isLt (y 0) (y 1))).trans ?_
  rw [hlast t hf]
  refine (tiles_sum 16 512 rfl _).trans ?_
  exact congrArg ((inputs m c).sumArr) e.symm

theorem result_norm : (dats m 0 c).arrAt 12 cfg0.N = (inputs m c).normArr := by
  have hcov : (cfg0.win 12).Covers := by decide +kernel
  have hlast : ∀ t : Fin cfg0.N, (cfg0.win 12).flush t = true → t.val = 15 :=
    (by decide +kernel : ∀ t : Fin grid0.N, (cfg0.win 12).flush t = true → t.val = 15)
  refine (dats m 0 c).arrAt_eq_of_covers (12 : Fin cfg0.W) ((inputs m c).normArr) hcov (fun t hf y => ?_) (Memref.isWhole_whole _)
  refine Eq.trans (b := (dats m 0 c).after 12 t y) (by blk_simp) ?_
  have e : ((cfg0.win 12).blk t).view.emb y = y := ext2 (by show _ = (y 0).val; blk_simp [index12]) (by show _ = (y 1).val; blk_simp [index12])
  rw [after0_12]
  refine ((congrArg _ (ValueIdx.eq_ix2 y)).trans (left12 m c t.val t.isLt (y 0) (y 1))).trans ?_
  rw [hlast t hf]
  refine (tiles_sum 16 512 rfl _).trans ?_
  exact congrArg ((inputs m c).normArr) e.symm

end Cert.Kernel17Ideal.GlaDx

end
-- ==== Proof.GlaDxRef.lean ====
/-
  The gradient through the gla layer's projections and the layer norm before it, as the reference computes it: by the chain rule through the mean and the variance.
-/
module

public import proofs.«01_k».proof.Proof.Index
public import proofs.«01_k».proof.Proof.MlpBackSpec
public import proofs.«01_k».proof.Proof.Gen.Reference17Ideal.Read
public import Idealize.ShloMosaic.Lib.Pipeline.Value

@[expose] public section

set_option maxRecDepth 16384

noncomputable section

namespace Cert.Reference17Ideal.Read

open Cert.Reference17Ideal Cert.Reference17Ideal.Gen Cert.Norm
open Idealize.ShloMosaic Idealize.ShloMosaic.TcCoe
open scoped BigOperators

/-- The arguments the results depend on. -/
structure Args where
  x0 : S8192x1024.Idx → EReal
  x1 : S8192x1024.Idx → EReal
  x2 : S1x1024.Idx → EReal
  x3 : S1x1024.Idx → EReal
  x4 : S1x1024.Idx → EReal
  x5 : S1x1024.Idx → EReal
  x7 : S1024x3088.Idx → EReal
  x8 : S8192x1024.Idx → EReal
  x9 : S8192x3088.Idx → EReal

/-- The arguments, in numbers. -/
def Args.nums (a : Args) : Cert.MlpBack.In :=
  Cert.MlpBack.ofArrays a.x0 a.x1 a.x2 a.x3 a.x4 a.x5 a.x8 (Cert.MlpBack.product (fun s j => a.x9 (ix2 s j)) a.x7)

variable (a : Args)

theorem row_value (s : Fin 8192) (k : Fin 1024) : val_main_v7 (F := Ideal) a.x0 a.x1 a.x2 (ix2 s k) = a.nums.row s k := by
  have e : idx_main_v5 (ix2 s k) = ix2 0 k := ext2 rfl rfl
  rw [val_main_v7_apply, val_main_v2_apply, val_main_v1_apply, val_main_cst_apply, val_main_v6_apply, val_main_v5_apply, val_main_v4_apply, val_main_v3_apply, val_main_cst_0_apply, val_main_v0_apply, ofBits_one, e]
  rfl

theorem mean_value (s : Fin 8192) : val_main_v11 (F := Ideal) a.x0 a.x1 a.x2 (ix2 s 0) = mean (a.nums.row s) := by
  rw [val_main_v11_apply, val_main_v9_apply, val_main_v8_apply, val_main_cst_1_apply, val_main_v10_apply, val_main_cst_2_apply, ofBits_zero]
  refine congrArg₂ Ideal.div ((zero_add _).trans (Finset.sum_congr rfl fun k _ => ?_)) rfl
  have e : idx_main_v8 (idx_main_v9 (ix2 s 0)) k = ix2 s k := ext2 rfl rfl
  rw [e]
  exact row_value a s k

theorem dev_value (s : Fin 8192) (k : Fin 1024) : val_main_v13 (F := Ideal) a.x0 a.x1 a.x2 (ix2 s k) = dev (a.nums.row s) k := by
  have e : idx_main_v12 (ix2 s k) = ix2 s 0 := ext2 rfl rfl
  rw [val_main_v13_apply, val_main_v12_apply, e, mean_value a, row_value a]
  rfl

theorem dev2_value (s : Fin 8192) (k : Fin 1024) : val_main_v22 (F := Ideal) a.x0 a.x1 a.x2 (ix2 s k) = dev (a.nums.row s) k := by
  have e : idx_main_v21 (ix2 s k) = ix2 s 0 := ext2 rfl rfl
  rw [val_main_v22_apply, val_main_v21_apply, e, mean_value a, row_value a]
  rfl

theorem var_value (s : Fin 8192) : val_main_v20 (F := Ideal) a.x0 a.x1 a.x2 (ix2 s 0) = var (a.nums.row s) := by
  rw [val_main_v20_apply, val_main_v18_apply, val_main_v17_apply, val_main_cst_4_apply, val_main_v19_apply, val_main_cst_5_apply, ofBits_zero]
  refine congrArg₂ Ideal.div ((zero_add _).trans (Finset.sum_congr rfl fun k _ => ?_)) rfl
  have e : idx_main_v17 (idx_main_v18 (ix2 s 0)) k = ix2 s k := ext2 rfl rfl
  rw [e, val_main_v14_apply, dev_value a]
  rfl

theorem under_value (s : Fin 8192) : val_main_v24 (F := Ideal) a.x0 a.x1 a.x2 (ix2 s 0) = var (a.nums.row s) + eps := by
  rw [val_main_v24_apply, var_value a, val_main_v23_apply, val_main_cst_6_apply]
  rfl

theorem rstd_value (s : Fin 8192) : val_main_v25 (F := Ideal) a.x0 a.x1 a.x2 (ix2 s 0) = rstd (a.nums.row s) := by
  rw [val_main_v25_apply, under_value a]
  rfl

theorem slope_value (s : Fin 8192) : val_main_v28 (F := Ideal) a.x0 a.x1 a.x2 (ix2 s 0) = minusHalf * Ideal.div (rstd (a.nums.row s)) (var (a.nums.row s) + eps) := by
  rw [val_main_v28_apply, val_main_v27_apply, val_main_cst_7_apply, val_main_v26_apply, rstd_value a, under_value a]
  rfl

theorem hat_value (s : Fin 8192) (k : Fin 1024) : val_main_v30 (F := Ideal) a.x0 a.x1 a.x2 (ix2 s k) = hat (a.nums.row s) k := by
  have e : idx_main_v29 (ix2 s k) = ix2 s 0 := ext2 rfl rfl
  rw [val_main_v30_apply, val_main_v29_apply, e, rstd_value a, dev2_value a]
  rfl

theorem mid_value (s : Fin 8192) (k : Fin 1024) : val_main_v34 (F := Ideal) a.x0 a.x1 a.x2 a.x3 a.x4 (ix2 s k) = a.nums.mid s k := by
  have e : idx_main_v31 (ix2 s k) = ix2 0 k := ext2 rfl rfl
  have e' : idx_main_v33 (ix2 s k) = ix2 0 k := ext2 rfl rfl
  rw [val_main_v34_apply, val_main_v32_apply, val_main_v31_apply, val_main_v33_apply, e, e', hat_value a]
  rfl

theorem du_value (s : Fin 8192) (k : Fin 1024) : val_main_v45 (F := Ideal) a.x7 a.x9 (ix2 s k) = a.nums.du s k := by
  change _ = ∑ j : Fin 3088, a.x9 (ix2 s j) * a.x7 (ix2 k j)
  rw [val_main_v45_apply]
  refine Finset.sum_congr rfl fun j _ => ?_
  have hl : lidx_main_v45 (ix2 s k) j = ix2 s j := ext2 rfl rfl
  have hr : ridx_main_v45 (ix2 s k) j = ix2 k j := ext2 rfl rfl
  rw [hl, hr, val_main_v44_apply]
  rfl

theorem dxo_value (s : Fin 8192) (k : Fin 1024) : val_main_v55 (F := Ideal) a.x5 a.x7 a.x8 a.x9 (ix2 s k) = a.nums.dxo s k := by
  have e : idx_main_v51 (ix2 s k) = ix2 0 k := ext2 rfl rfl
  rw [val_main_v55_apply, val_main_v52_apply, val_main_v51_apply, e, du_value a, val_main_v38_apply, val_main_v37_apply, val_main_cst_9_apply, ofBits_one, val_main_v54_apply, val_main_v53_apply, val_main_cst_12_apply]
  exact add_comm (G := EReal) _ _

theorem dhat_value (s : Fin 8192) (k : Fin 1024) : val_main_v62 (F := Ideal) a.x3 a.x5 a.x7 a.x8 a.x9 (ix2 s k) = a.nums.dhat s k := by
  have e : idx_main_v61 (ix2 s k) = ix2 0 k := ext2 rfl rfl
  rw [val_main_v62_apply, val_main_v61_apply, e, dxo_value a]
  rfl

theorem dot_value (s : Fin 8192) : val_main_v65 (F := Ideal) a.x0 a.x1 a.x2 a.x3 a.x5 a.x7 a.x8 a.x9 (ix2 s 0) = ∑ j, dev (a.nums.row s) j * a.nums.dhat s j := by
  rw [val_main_v65_apply, val_main_v64_apply, val_main_cst_15_apply, ofBits_zero]
  refine (zero_add _).trans (Finset.sum_congr rfl fun k _ => ?_)
  have e : idx_main_v64 (idx_main_v65 (ix2 s 0)) k = ix2 s k := ext2 (show s.val * 1 + 0 = s.val by omega) rfl
  rw [e, val_main_v63_apply, dev2_value a, dhat_value a]
  rfl

theorem direct_value (s : Fin 8192) (k : Fin 1024) : val_main_v67 (F := Ideal) a.x0 a.x1 a.x2 a.x3 a.x5 a.x7 a.x8 a.x9 (ix2 s k) = a.nums.dhat s k * rstd (a.nums.row s) := by
  have e : idx_main_v66 (ix2 s k) = ix2 s 0 := ext2 rfl rfl
  rw [val_main_v67_apply, val_main_v66_apply, e, rstd_value a, dhat_value a]
  rfl

theorem viaVar_value (s : Fin 8192) : val_main_v74 (F := Ideal) a.x0 a.x1 a.x2 a.x3 a.x5 a.x7 a.x8 a.x9 (ix1 s) = viaVar (a.nums.row s) (a.nums.dhat s) := by
  rw [val_main_v74_apply, val_main_cst_18_apply, ofBits_zero]
  refine (zero_add _).trans ((Fin.sum_univ_one _).trans ?_)
  have e : idx_main_v74 (ix1 s) 0 = ix2 s 0 := ext2 rfl rfl
  rw [e, val_main_v73_apply, val_main_v68_apply, dot_value a, slope_value a, val_main_v72_apply, val_main_cst_17_apply]
  rfl

theorem spread_value (s : Fin 8192) (k : Fin 1024) : val_main_v76 (F := Ideal) a.x0 a.x1 a.x2 a.x3 a.x5 a.x7 a.x8 a.x9 (ix2 s k) = viaVar (a.nums.row s) (a.nums.dhat s) * (two * dev (a.nums.row s) k) := by
  have e : idx_main_v75 (ix2 s k) = ix1 s := funext fun a => by match a with | ⟨0, _⟩ => rfl
  rw [val_main_v76_apply, val_main_v75_apply, e, viaVar_value a, val_main_v16_apply, val_main_v15_apply, val_main_cst_3_apply, dev_value a]
  rfl

theorem less_direct_value (s : Fin 8192) : val_main_v71 (F := Ideal) a.x0 a.x1 a.x2 a.x3 a.x5 a.x7 a.x8 a.x9 (ix2 s 0) = ∑ j, -(a.nums.dhat s j * rstd (a.nums.row s)) := by
  rw [val_main_v71_apply, val_main_v70_apply, val_main_cst_16_apply, ofBits_zero]
  refine (zero_add _).trans (Finset.sum_congr rfl fun k _ => ?_)
  have e : idx_main_v70 (idx_main_v71 (ix2 s 0)) k = ix2 s k := ext2 (show s.val * 1 + 0 = s.val by omega) rfl
  rw [e, val_main_v69_apply, direct_value a]
  rfl

theorem less_spread_value (s : Fin 8192) : val_main_v79 (F := Ideal) a.x0 a.x1 a.x2 a.x3 a.x5 a.x7 a.x8 a.x9 (ix2 s 0) = ∑ j, -(viaVar (a.nums.row s) (a.nums.dhat s) * (two * dev (a.nums.row s) j)) := by
  rw [val_main_v79_apply, val_main_v78_apply, val_main_cst_19_apply, ofBits_zero]
  refine (zero_add _).trans (Finset.sum_congr rfl fun k _ => ?_)
  have e : idx_main_v78 (idx_main_v79 (ix2 s 0)) k = ix2 s k := ext2 (show s.val * 1 + 0 = s.val by omega) rfl
  rw [e, val_main_v77_apply, spread_value a]
  rfl

theorem viaMean_value (s : Fin 8192) : val_main_v84 (F := Ideal) a.x0 a.x1 a.x2 a.x3 a.x5 a.x7 a.x8 a.x9 (ix1 s) = Ideal.div ((∑ j, -(a.nums.dhat s j * rstd (a.nums.row s))) + ∑ j, -(viaVar (a.nums.row s) (a.nums.dhat s) * (two * dev (a.nums.row s) j))) width := by
  rw [val_main_v84_apply, val_main_cst_21_apply, ofBits_zero]
  refine (zero_add _).trans ((Fin.sum_univ_one _).trans ?_)
  have e : idx_main_v84 (ix1 s) 0 = ix2 s 0 := ext2 rfl rfl
  rw [e, val_main_v83_apply, val_main_v81_apply, less_direct_value a, less_spread_value a, val_main_v82_apply, val_main_cst_20_apply]
  rfl

/-- The gradient of the rows under the norm, by the chain rule. -/
theorem chained_value (s : Fin 8192) (k : Fin 1024) : val_main_v86 (F := Ideal) a.x0 a.x1 a.x2 a.x3 a.x5 a.x7 a.x8 a.x9 (ix2 s k) = chained (a.nums.row s) (a.nums.dhat s) k := by
  have e : idx_main_v85 (ix2 s k) = ix1 s := funext fun a => by match a with | ⟨0, _⟩ => rfl
  rw [val_main_v86_apply, val_main_v80_apply, val_main_v85_apply, e, viaMean_value a, direct_value a, spread_value a]
  rfl

/-- On real arguments that is the layer norm's gradient in closed form. -/
theorem dz_value (h : a.nums.Real) (s : Fin 8192) (k : Fin 1024) : val_main_v86 (F := Ideal) a.x0 a.x1 a.x2 a.x3 a.x5 a.x7 a.x8 a.x9 (ix2 s k) = a.nums.dz s k := by
  exact (chained_value a s k).trans (chained_eq_back _ _ (h.1 s) (h.2 s) k)

theorem dy_value (h : a.nums.Real) (s : Fin 8192) (k : Fin 1024) : val_main_v92 (F := Ideal) a.x0 a.x1 a.x2 a.x3 a.x5 a.x7 a.x8 a.x9 (ix2 s k) = a.nums.dy s k := by
  have e : idx_main_v87 (ix2 s k) = ix2 0 k := ext2 rfl rfl
  rw [val_main_v92_apply, val_main_v88_apply, val_main_v87_apply, e, dz_value a h, val_main_v4_apply, val_main_v3_apply, val_main_cst_0_apply, ofBits_one]
  rfl

theorem sum_du_value (k : Fin 1024) : val_main_v47 (F := Ideal) a.x7 a.x9 (ix2 0 k : S1x1024.Idx) = ∑ s : Fin 8192, a.nums.du s k := by
  rw [val_main_v47_apply, val_main_v46_apply, val_main_cst_10_apply, ofBits_zero]
  refine (zero_add _).trans (Finset.sum_congr rfl fun s _ => ?_)
  have e : idx_main_v46 (idx_main_v47 (ix2 0 k : S1x1024.Idx)) s = ix2 s k := ext2 rfl (show 0 * 1024 + k.val = k.val by omega)
  rw [e, du_value a]

theorem sum_mid_value (k : Fin 1024) : val_main_v50 (F := Ideal) a.x0 a.x1 a.x2 a.x3 a.x4 a.x7 a.x9 (ix2 0 k : S1x1024.Idx) = ∑ s : Fin 8192, a.nums.du s k * a.nums.mid s k := by
  rw [val_main_v50_apply, val_main_v49_apply, val_main_cst_11_apply, ofBits_zero]
  refine (zero_add _).trans (Finset.sum_congr rfl fun s _ => ?_)
  have e : idx_main_v49 (idx_main_v50 (ix2 0 k : S1x1024.Idx)) s = ix2 s k := ext2 rfl (show 0 * 1024 + k.val = k.val by omega)
  rw [e, val_main_v48_apply, du_value a, mid_value a]
  exact mul_comm (G := EReal) _ _

theorem sum_dxo_value (k : Fin 1024) : val_main_v57 (F := Ideal) a.x5 a.x7 a.x8 a.x9 (ix2 0 k : S1x1024.Idx) = ∑ s : Fin 8192, a.nums.dxo s k := by
  rw [val_main_v57_apply, val_main_v56_apply, val_main_cst_13_apply, ofBits_zero]
  refine (zero_add _).trans (Finset.sum_congr rfl fun s _ => ?_)
  have e : idx_main_v56 (idx_main_v57 (ix2 0 k : S1x1024.Idx)) s = ix2 s k := ext2 rfl (show 0 * 1024 + k.val = k.val by omega)
  rw [e, dxo_value a]

theorem sum_hat_value (k : Fin 1024) : val_main_v60 (F := Ideal) a.x0 a.x1 a.x2 a.x5 a.x7 a.x8 a.x9 (ix2 0 k : S1x1024.Idx) = ∑ s : Fin 8192, a.nums.dxo s k * hat (a.nums.row s) k := by
  rw [val_main_v60_apply, val_main_v59_apply, val_main_cst_14_apply, ofBits_zero]
  refine (zero_add _).trans (Finset.sum_congr rfl fun s _ => ?_)
  have e : idx_main_v59 (idx_main_v60 (ix2 0 k : S1x1024.Idx)) s = ix2 s k := ext2 rfl (show 0 * 1024 + k.val = k.val by omega)
  rw [e, val_main_v58_apply, dxo_value a, hat_value a]
  exact mul_comm (G := EReal) _ _

theorem sum_gate_value (h : a.nums.Real) (k : Fin 1024) : val_main_v91 (F := Ideal) a.x0 a.x1 a.x2 a.x3 a.x5 a.x7 a.x8 a.x9 (ix2 0 k : S1x1024.Idx) = ∑ s : Fin 8192, a.nums.dz s k * a.nums.y s k := by
  rw [val_main_v91_apply, val_main_v90_apply, val_main_cst_22_apply, ofBits_zero]
  refine (zero_add _).trans (Finset.sum_congr rfl fun s _ => ?_)
  have e : idx_main_v90 (idx_main_v91 (ix2 0 k : S1x1024.Idx)) s = ix2 s k := ext2 rfl (show 0 * 1024 + k.val = k.val by omega)
  rw [e, val_main_v89_apply, dz_value a h, val_main_v0_apply]
  rfl

theorem reference_z (h : a.nums.Real) : val_main_v86 (F := Ideal) a.x0 a.x1 a.x2 a.x3 a.x5 a.x7 a.x8 a.x9 = a.nums.zArr := by
  funext i
  exact (congrArg _ (ValueIdx.eq_ix2 i)).trans (dz_value a h (i 0) (i 1))

theorem reference_y (h : a.nums.Real) : val_main_v92 (F := Ideal) a.x0 a.x1 a.x2 a.x3 a.x5 a.x7 a.x8 a.x9 = a.nums.yArr := by
  funext i
  exact (congrArg _ (ValueIdx.eq_ix2 i)).trans (dy_value a h (i 0) (i 1))

theorem sum_rows (r : Fin 8) (k : Fin 1024) : val_main_v94 (F := Ideal) a.x0 a.x1 a.x2 a.x3 a.x4 a.x7 a.x9 (ix2 r k : S8x1024.Idx) = ∑ s : Fin 8192, a.nums.sumPart r k s := by
  have hc : val_main_v94 (F := Ideal) a.x0 a.x1 a.x2 a.x3 a.x4 a.x7 a.x9 (ix2 r k : S8x1024.Idx) = concatenate S8x1024 0 ([⟨S1x1024, (val_main_v50 (F := Ideal) a.x0 a.x1 a.x2 a.x3 a.x4 a.x7 a.x9 : S1x1024.Idx → EReal)⟩, ⟨S1x1024, (val_main_v47 (F := Ideal) a.x7 a.x9 : S1x1024.Idx → EReal)⟩, ⟨S6x1024, (val_main_v93 (F := Ideal) : S6x1024.Idx → EReal)⟩] : List ((s : Shape) × (s.Idx → EReal)))
      concatenates_S1x1024_S1x1024_S6x1024_S8x1024_d0 (ix2 r k : S8x1024.Idx) := rfl
  rw [hc]
  unfold Cert.MlpBack.In.sumPart
  by_cases c0 : r.val = 0
  · refine Eq.trans (stacked k 0 (by show 0 < 3; omega) (val_main_v50 (F := Ideal) a.x0 a.x1 a.x2 a.x3 a.x4 a.x7 a.x9) (by rfl) (by rfl) (0 : Fin 1) c0.symm) ?_
    · refine (sum_mid_value a k).trans (Finset.sum_congr rfl fun s _ => ?_)
      rw [if_pos c0]
  by_cases c1 : r.val = 1
  · refine Eq.trans (stacked k 1 (by show 1 < 3; omega) (val_main_v47 (F := Ideal) a.x7 a.x9) (by rfl) (by rfl) (0 : Fin 1) c1.symm) ?_
    · refine (sum_du_value a k).trans (Finset.sum_congr rfl fun s _ => ?_)
      rw [if_neg c0]; rw [if_pos c1]
  · have hr := r.isLt
    refine Eq.trans (stacked k 2 (by show 2 < 3; omega) (val_main_v93 (F := Ideal)) (by rfl) (by rfl) ⟨r.val - 2, by omega⟩ (show 2 + (r.val - 2) = r.val by omega)) ?_
    · rw [val_main_v93_apply, val_main_cst_23_apply, ofBits_zero]
      refine (Finset.sum_eq_zero fun s _ => ?_).symm
      rw [if_neg c0]; rw [if_neg c1]

theorem reference_sum  : val_main_v94 (F := Ideal) a.x0 a.x1 a.x2 a.x3 a.x4 a.x7 a.x9 = a.nums.sumArr := by
  funext i
  exact (congrArg _ (ValueIdx.eq_ix2 i)).trans (sum_rows a (i 0) (i 1))

theorem norm_rows (h : a.nums.Real) (r : Fin 8) (k : Fin 1024) : val_main_v96 (F := Ideal) a.x0 a.x1 a.x2 a.x3 a.x5 a.x7 a.x8 a.x9 (ix2 r k : S8x1024.Idx) = ∑ s : Fin 8192, a.nums.normPart r k s := by
  have hc : val_main_v96 (F := Ideal) a.x0 a.x1 a.x2 a.x3 a.x5 a.x7 a.x8 a.x9 (ix2 r k : S8x1024.Idx) = concatenate S8x1024 0 ([⟨S1x1024, (val_main_v60 (F := Ideal) a.x0 a.x1 a.x2 a.x5 a.x7 a.x8 a.x9 : S1x1024.Idx → EReal)⟩, ⟨S1x1024, (val_main_v57 (F := Ideal) a.x5 a.x7 a.x8 a.x9 : S1x1024.Idx → EReal)⟩, ⟨S1x1024, (val_main_v91 (F := Ideal) a.x0 a.x1 a.x2 a.x3 a.x5 a.x7 a.x8 a.x9 : S1x1024.Idx → EReal)⟩, ⟨S5x1024, (val_main_v95 (F := Ideal) : S5x1024.Idx → EReal)⟩] : List ((s : Shape) × (s.Idx → EReal)))
      concatenates_S1x1024_S1x1024_S1x1024_S5x1024_S8x1024_d0 (ix2 r k : S8x1024.Idx) := rfl
  rw [hc]
  unfold Cert.MlpBack.In.normPart
  by_cases c0 : r.val = 0
  · refine Eq.trans (stacked k 0 (by show 0 < 4; omega) (val_main_v60 (F := Ideal) a.x0 a.x1 a.x2 a.x5 a.x7 a.x8 a.x9) (by rfl) (by rfl) (0 : Fin 1) c0.symm) ?_
    · refine (sum_hat_value a k).trans (Finset.sum_congr rfl fun s _ => ?_)
      rw [if_pos c0]
  by_cases c1 : r.val = 1
  · refine Eq.trans (stacked k 1 (by show 1 < 4; omega) (val_main_v57 (F := Ideal) a.x5 a.x7 a.x8 a.x9) (by rfl) (by rfl) (0 : Fin 1) c1.symm) ?_
    · refine (sum_dxo_value a k).trans (Finset.sum_congr rfl fun s _ => ?_)
      rw [if_neg c0]; rw [if_pos c1]
  by_cases c2 : r.val = 2
  · refine Eq.trans (stacked k 2 (by show 2 < 4; omega) (val_main_v91 (F := Ideal) a.x0 a.x1 a.x2 a.x3 a.x5 a.x7 a.x8 a.x9) (by rfl) (by rfl) (0 : Fin 1) c2.symm) ?_
    · refine (sum_gate_value a h k).trans (Finset.sum_congr rfl fun s _ => ?_)
      rw [if_neg c0]; rw [if_neg c1]; rw [if_pos c2]
  · have hr := r.isLt
    refine Eq.trans (stacked k 3 (by show 3 < 4; omega) (val_main_v95 (F := Ideal)) (by rfl) (by rfl) ⟨r.val - 3, by omega⟩ (show 3 + (r.val - 3) = r.val by omega)) ?_
    · rw [val_main_v95_apply, val_main_cst_24_apply, ofBits_zero]
      refine (Finset.sum_eq_zero fun s _ => ?_).symm
      rw [if_neg c0]; rw [if_neg c1]; rw [if_neg c2]

theorem reference_norm (h : a.nums.Real) : val_main_v96 (F := Ideal) a.x0 a.x1 a.x2 a.x3 a.x5 a.x7 a.x8 a.x9 = a.nums.normArr := by
  funext i
  exact (congrArg _ (ValueIdx.eq_ix2 i)).trans (norm_rows a h (i 0) (i 1))

end Cert.Reference17Ideal.Read

end
-- ==== Proof.GlaDxFinite.lean ====
/-
  What the precondition of the gradient through the gla layer's projections says: the entries of the arguments are real numbers, and so are
  those of the rows under the norm and of their normalised rows' gradient.
-/
module

public import proofs.«01_k».proof.Proof.MlpBackFinite
public import proofs.«01_k».proof.Proof.Gen.Pre_finite17

@[expose] public section

noncomputable section

namespace Cert.GlaDx

open Cert.MlpBack Idealize.ShloMosaic Idealize.ShloMosaic.TcCoe Cert.Pre_finite17 Cert.Pre_finite17.Gen Cert.Norm
open scoped BigOperators

instance : Subsingleton Cert.Pre_finite17.S_.Idx := ⟨fun f g => funext fun a => a.elim0⟩

section

variable (a0 a1 : S8192x1024.Idx → EReal) (a2 a3 a4 a5 a6 : S1x1024.Idx → EReal) (a7 : S1024x3088.Idx → EReal) (a8 : S8192x1024.Idx → EReal)
  (a9 : S8192x3088.Idx → EReal)

theorem reals (h : Cert.Pre_finite17.fn (F := Ideal) a0 a1 a2 a3 a4 a5 a6 a7 a8 a9 = fun _ => 1#1) :
    (∀ i, IsReal (a0 i)) ∧ (∀ i, IsReal (a1 i)) ∧ (∀ i, IsReal (a2 i)) ∧ (∀ i, IsReal (a3 i)) ∧ (∀ i, IsReal (a5 i)) ∧ (∀ i, IsReal (a7 i))
      ∧ (∀ i, IsReal (a8 i)) ∧ ∀ i, IsReal (a9 i) := by
  have e := congrFun h (Shape.Idx.first h_S_)
  unfold Cert.Pre_finite17.fn Cert.Pre_finite17.fn_part1 Cert.Pre_finite17.fn_part2 at e
  obtain ⟨e, e9⟩ := IntOp.andi_eq_one.1 e
  obtain ⟨e, e8⟩ := IntOp.andi_eq_one.1 e
  obtain ⟨e, e7⟩ := IntOp.andi_eq_one.1 e
  obtain ⟨e, e5⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨fun i => isReal_of_lt _ (Host.reduce_andi_all _ _ _ _ _ e0 i), fun i => isReal_of_lt _ (Host.reduce_andi_all _ _ _ _ _ e1 i),
    fun i => isReal_of_lt _ (Host.reduce_andi_all _ _ _ _ _ e2 i), fun i => isReal_of_lt _ (Host.reduce_andi_all _ _ _ _ _ e3 i),
    fun i => isReal_of_lt _ (Host.reduce_andi_all _ _ _ _ _ e5 i), fun i => isReal_of_lt _ (Host.reduce_andi_all _ _ _ _ _ e7 i),
    fun i => isReal_of_lt _ (Host.reduce_andi_all _ _ _ _ _ e8 i), fun i => isReal_of_lt _ (Host.reduce_andi_all _ _ _ _ _ e9 i)⟩

theorem nums_real (h : Cert.Pre_finite17.fn (F := Ideal) a0 a1 a2 a3 a4 a5 a6 a7 a8 a9 = fun _ => 1#1) :
    (ofArrays a0 a1 a2 a3 a4 a5 a8 (product (fun s j => a9 (ix2 s j)) a7)).Real := by
  obtain ⟨r0, r1, r2, r3, r5, r7, r8, r9⟩ := reals a0 a1 a2 a3 a4 a5 a6 a7 a8 a9 h
  exact real_of a0 a1 a2 a3 a4 a5 a8 _ r0 r1 r2 r3 r5 r8 (product_real _ a7 (fun _ _ => r9 _) r7)

end

end Cert.GlaDx

end
-- ==== Proof.GlaDxFirst.lean ====
/-
  The gradient through the first gla layer's projections, which no layer norm precedes: what the steps leave, and the reference.
-/
module

public import proofs.«01_k».proof.Proof.Gen.Kernel18Ideal.Value
public import proofs.«01_k».proof.Proof.Gen.Reference18Ideal.Read
public import proofs.«01_k».proof.Proof.Rows
public import proofs.«01_k».proof.Proof.Padded
public import proofs.«01_k».proof.Proof.MlpBackSpec

@[expose] public section

set_option maxRecDepth 16384

noncomputable section

namespace Cert.GlaDxFirst

open Cert.Norm Idealize.ShloMosaic Idealize.ShloMosaic.TcCoe
open scoped BigOperators

section

variable (u : Fin 8192 → Fin 1024 → EReal)

/-- The gradient of the stream: along the residual and through the modulation. -/
def dx (sc : (⟨2, ![1, 1024]⟩ : Shape).Idx → EReal) (dz : (⟨2, ![8192, 1024]⟩ : Shape).Idx → EReal) : (⟨2, ![8192, 1024]⟩ : Shape).Idx → EReal :=
  fun i => alpha * dz (ix2 (i 0) (i 1)) + u (i 0) (i 1) * (one + sc (ix2 0 (i 1)))

/-- One position's part of the sums: the gradients of the modulation's scale and shift, and rows of zeros. -/
def sumPart (x : (⟨2, ![8192, 1024]⟩ : Shape).Idx → EReal) (r : Fin 8) (q : Fin 1024) (s : Fin 8192) : EReal :=
  if r.val = 0 then u s q * x (ix2 s q) else if r.val = 1 then u s q else 0

def sumArr (x : (⟨2, ![8192, 1024]⟩ : Shape).Idx → EReal) : (⟨2, ![8, 1024]⟩ : Shape).Idx → EReal := fun i => ∑ s : Fin 8192, sumPart u x (i 0) (i 1) s

end

end Cert.GlaDxFirst

namespace Cert.Kernel18Ideal.GlaDxFirst

open Cert.Kernel18Ideal Cert.Kernel18Ideal.Gen Cert.Mlp Cert.Norm Cert.Rows Cert.Padded
open Idealize.ShloMosaic Idealize.ShloMosaic.TcCoe
open Idealize.ShloMosaic.Pipeline (Window)
open scoped BigOperators

theorem stored1 (i : S8x1024.Idx) : (k0_pay1 (F := Ideal) : S8x1024.Idx → EReal) i = 0 := by
  refine (congrArg _ (ValueIdx.eq_ix2 i)).trans ?_
  pointwise [k0_pay1]

section

variable (x0 : Vec Ideal S512x3200 .bf16) (x1 : Vec Ideal S1x1024x3200 .bf16)

theorem stored2 (r : Fin 512) (q : Fin 1024) : (k0_pay2 x0 x1 : S512x1024.Idx → EReal) (ix2 r q) = ∑ k : Fin 3200, (x0 (ix2 r k) : EReal) * x1 (ix3 0 q k) := by
  pointwise [k0_pay2]

theorem stored3 (z : Vec Ideal S512x1024 .f32) (s : Vec Ideal S1x1024 .f32) (r : Fin 512) (q : Fin 1024) :
    (k0_pay3 x0 x1 z s : S512x1024.Idx → EReal) (ix2 r q) = alpha * z (ix2 r q) + (k0_pay2 x0 x1 : S512x1024.Idx → EReal) (ix2 r q) * s (ix2 0 q) := by
  unfold k0_pay3
  generalize k0_pay2 x0 x1 = y
  pointwise
  rfl

theorem stored4 (o : Vec Ideal S1x1024 .f32) (x : Vec Ideal S512x1024 .f32) (q : Fin 1024) :
    (k0_pay4 x0 x1 o x : S1x1024.Idx → EReal) (ix2 0 q) = (o (ix2 0 q) : EReal) + ∑ r : Fin 512, (k0_pay2 x0 x1 : S512x1024.Idx → EReal) (ix2 r q) * x (ix2 r q) := by
  unfold k0_pay4
  generalize k0_pay2 x0 x1 = y
  pointwise

theorem stored5 (o : Vec Ideal S1x1024 .f32) (q : Fin 1024) :
    (k0_pay5 x0 x1 o : S1x1024.Idx → EReal) (ix2 0 q) = (o (ix2 0 q) : EReal) + ∑ r : Fin 512, (k0_pay2 x0 x1 : S512x1024.Idx → EReal) (ix2 r q) := by
  unfold k0_pay5
  generalize k0_pay2 x0 x1 = y
  pointwise

end

section Steps

variable (c : Dev nD) (i : grid0.Coords)
  (a1 : Memref sig .tc .vmem S512x3200 .bf16) (h1 : a1.IsWhole)
  (a2 : Memref sig .tc .vmem S1x1024x3200 .bf16) (h2 : a2.IsWhole)
  (a3 : Memref sig .tc .vmem S512x1024 .f32) (h3 : a3.IsWhole)
  (a4 : Memref sig .tc .vmem S512x1024 .f32) (h4 : a4.IsWhole)
  (a5 : Memref sig .tc .vmem S1x1024 .f32) (h5 : a5.IsWhole)
  (a6 : Memref sig .tc .vmem S512x1024 .f32) (h6 : a6.IsWhole)
  (a7 : Memref sig .tc .vmem S8x1024 .f32) (h7 : a7.IsWhole)
  (x0 : Vec Ideal S512x3200 .bf16) (x1 : Vec Ideal S1x1024x3200 .bf16) (x2 : Vec Ideal S512x1024 .f32) (x3 : Vec Ideal S512x1024 .f32) (x4 : Vec Ideal S1x1024 .f32) (o6 : Vec Ideal S8x1024 .f32)

theorem out_A5_eq (hc : cond0_0 i) : out0_A_5 c i a1 h1 a2 h2 a3 h3 a4 h4 a5 h5 a6 h6 a7 h7 hc x0 x1 x2 x3 x4 = k0_pay3 x0 x1 x2 x4 := by
  unfold out0_A_5
  rw [View.read_writes_eq_canon _ _ _ (cover0_A_5 c i a1 h1 a2 h2 a3 h3 a4 h4 a5 h5 a6 h6 a7 h7 hc x0 x1 x2 x3 x4)]
  unfold kernelRun0_A
  dsimp only
  try sl_unfold_words
  rw [View.canon_unit_zero (S := S512x1024) hz2]
  simp only [View.readAt_eq_ld, h1.read_unread, h2.read_unread, h3.read_unread, h4.read_unread, h5.read_unread,
    View.ld_unit_zero (S := S512x3200) hz2, View.ld_unit_zero (S := S1x1024x3200) hz3, View.ld_unit_zero (S := S512x1024) hz2,
    View.ld_unit_zero (S := S1x1024) hz2, shapeCast_self]

theorem out_A6_eq (hc : cond0_0 i) (s : Fin 8) (q : Fin 1024) : out0_A_6 c i a1 h1 a2 h2 a3 h3 a4 h4 a5 h5 a6 h6 a7 h7 hc x0 x1 x2 x3 x4 (ix2 s q) = sumRows (k0_pay2 x0 x1) x3 (fun _ => 0) s q := by
  unfold out0_A_6 kernelRun0_A sumRows
  dsimp only
  try sl_unfold_words
  simp only [View.readAt_eq_ld, h1.read_unread, h2.read_unread, h3.read_unread, h4.read_unread, h5.read_unread,
    View.ld_unit_zero (S := S512x3200) hz2, View.ld_unit_zero (S := S1x1024x3200) hz3, View.ld_unit_zero (S := S512x1024) hz2,
    View.ld_unit_zero (S := S1x1024) hz2, shapeCast_self]
  by_cases e0 : s.val = 0
  · have e := e0
    rw [if_pos e0, row_miss _ _ 1 _ _ _ s q (by omega), row_hit _ _ 0 _ _ _ s q e0, stored4, row_load _ 0 _ _ s q e, all_hit, stored1]
  · rw [if_neg e0]
    by_cases e : s.val = 1
    · rw [if_pos e, row_hit _ _ 1 _ _ _ s q e, stored5, row_load _ 1 _ _ s q e, row_miss _ _ 0 _ _ _ s q (by omega), all_hit, stored1]
    · rw [if_neg e, row_miss _ _ 1 _ _ _ s q (by omega), row_miss _ _ 0 _ _ _ s q (by omega), all_hit, stored1, add_zero]

theorem out_B5_eq (hc : ¬cond0_0 i) : out0_B_5 c i a1 h1 a2 h2 a3 h3 a4 h4 a5 h5 a6 h6 a7 h7 hc x0 x1 x2 x3 x4 o6 = k0_pay3 x0 x1 x2 x4 := by
  unfold out0_B_5
  rw [View.read_writes_eq_canon _ _ _ (cover0_B_5 c i a1 h1 a2 h2 a3 h3 a4 h4 a5 h5 a6 h6 a7 h7 hc x0 x1 x2 x3 x4 o6)]
  unfold kernelRun0_B
  dsimp only
  try sl_unfold_words
  rw [View.canon_unit_zero (S := S512x1024) hz2]
  simp only [View.readAt_eq_ld, h1.read_unread, h2.read_unread, h3.read_unread, h4.read_unread, h5.read_unread,
    View.ld_unit_zero (S := S512x3200) hz2, View.ld_unit_zero (S := S1x1024x3200) hz3, View.ld_unit_zero (S := S512x1024) hz2,
    View.ld_unit_zero (S := S1x1024) hz2, shapeCast_self]

theorem out_B6_eq (hc : ¬cond0_0 i) (s : Fin 8) (q : Fin 1024) : out0_B_6 c i a1 h1 a2 h2 a3 h3 a4 h4 a5 h5 a6 h6 a7 h7 hc x0 x1 x2 x3 x4 o6 (ix2 s q) = sumRows (k0_pay2 x0 x1) x3 o6 s q := by
  unfold out0_B_6 kernelRun0_B sumRows
  dsimp only
  try sl_unfold_words
  simp only [View.readAt_eq_ld, h1.read_unread, h2.read_unread, h3.read_unread, h4.read_unread, h5.read_unread,
    View.ld_unit_zero (S := S512x3200) hz2, View.ld_unit_zero (S := S1x1024x3200) hz3, View.ld_unit_zero (S := S512x1024) hz2,
    View.ld_unit_zero (S := S1x1024) hz2, shapeCast_self]
  rw [h7.read_unread]
  by_cases e0 : s.val = 0
  · have e := e0
    rw [if_pos e0, row_miss _ _ 1 _ _ _ s q (by omega), row_hit _ _ 0 _ _ _ s q e0, stored4, row_ld _ 0 _ s q e]
  · rw [if_neg e0]
    by_cases e : s.val = 1
    · rw [if_pos e, row_hit _ _ 1 _ _ _ s q e, stored5, row_ld _ 1 _ s q e]
    · rw [if_neg e, row_miss _ _ 1 _ _ _ s q (by omega), row_miss _ _ 0 _ _ _ s q (by omega), View.writes_nil, h7.read_unread, add_zero]

end Steps

variable (m : (ℓ : Loc nD τ sig) → Buf (Elt Ideal) ℓ) (c : Dev nD)

/-- The arguments. -/
abbrev arg0 : S8192x1024.Idx → EReal := m ((c.tc : Thread nD τ).loc main_arg0)
abbrev arg1 : S1x1024.Idx → EReal := m ((c.tc : Thread nD τ).loc main_arg1)
abbrev arg3 : S1024x3088.Idx → EReal := m ((c.tc : Thread nD τ).loc main_arg3)
abbrev arg4 : S8192x1024.Idx → EReal := m ((c.tc : Thread nD τ).loc main_arg4)
abbrev arg5 : S8192x3088.Idx → EReal := m ((c.tc : Thread nD τ).loc main_arg5)

/-- The gradient of the block's input. -/
def du : Fin 8192 → Fin 1024 → EReal := Cert.MlpBack.product (fun s j => arg5 m c (ix2 s j)) (arg3 m c)

theorem V_weight (k : Fin 1024) (q : Fin 3200) : (V m c main_v3 : S1x1024x3200.Idx → EReal) (ix3 0 k q) = padded (fun j => arg3 m c (ix2 k j)) q := by
  unfold V
  after_reads_at
  by_cases h : q.val < 3088
  · rw [padded_lt _ q h]
    pointwise
    simp [h]
  · rw [padded_ge _ q h]
    pointwise
    simp [h]
    exact sitofp_zero _

theorem V_wide (s : Fin 8192) (q : Fin 3200) : (V m c main_v0 : S8192x3200.Idx → EReal) (ix2 s q) = padded (fun j => arg5 m c (ix2 s j)) q := by
  unfold V
  after_reads_at
  by_cases h : q.val < 3088
  · rw [padded_lt _ q h]
    pointwise
    simp [h]
  · rw [padded_ge _ q h]
    pointwise
    simp [h]
    exact sitofp_zero _

theorem V_scale (q : Fin 1024) : (V m c main_v5 : S1x1024.Idx → EReal) (ix2 0 q) = one + arg1 m c (ix2 0 q) := by
  unfold V
  after_reads_at
  rfl

theorem index0 : ∀ t : Fin cfg0.N, win0_0.index t = ![t.val, 0] := (by decide +kernel : ∀ t : Fin grid0.N, win0_0.index t = ![t.val, 0])
theorem index1 : ∀ t : Fin cfg0.N, win0_1.index t = ![0, 0, 0] := (by decide +kernel : ∀ t : Fin grid0.N, win0_1.index t = ![0, 0, 0])
theorem index2 : ∀ t : Fin cfg0.N, win0_2.index t = ![t.val, 0] := (by decide +kernel : ∀ t : Fin grid0.N, win0_2.index t = ![t.val, 0])
theorem index3 : ∀ t : Fin cfg0.N, win0_3.index t = ![t.val, 0] := (by decide +kernel : ∀ t : Fin grid0.N, win0_3.index t = ![t.val, 0])
theorem index4 : ∀ t : Fin cfg0.N, win0_4.index t = ![0, 0] := (by decide +kernel : ∀ t : Fin grid0.N, win0_4.index t = ![0, 0])
theorem index5 : ∀ t : Fin cfg0.N, win0_5.index t = ![t.val, 0] := (by decide +kernel : ∀ t : Fin grid0.N, win0_5.index t = ![t.val, 0])
theorem index6 : ∀ t : Fin cfg0.N, win0_6.index t = ![0, 0] := (by decide +kernel : ∀ t : Fin grid0.N, win0_6.index t = ![0, 0])

theorem block0 (t : Fin cfg0.N) (r : Fin 512) (k : Fin 3200) (h : t.val * 512 + r.val < 8192) :
    (iblk m c 0 t : S512x3200.Idx → EReal) (ix2 r k) = padded (fun j => arg5 m c (ix2 ⟨t.val * 512 + r.val, h⟩ j)) k := by
  refine Eq.trans (b := V m c main_v0 (((cfg0.win 0).blk t).view.emb (ix2 r k : S512x3200.Idx))) rfl ?_
  exact Eq.trans (congrArg (V m c main_v0) (a₂ := ix2 ⟨t.val * 512 + r.val, h⟩ k) (ext2 (by show _ = t.val * 512 + r.val; blk_simp [index0]) (by show _ = k.val; blk_simp [index0]))) (V_wide m c _ k)

theorem block1 (t : Fin cfg0.N) (k : Fin 1024) (q : Fin 3200) : (iblk m c 1 t : S1x1024x3200.Idx → EReal) (ix3 0 k q) = padded (fun j => arg3 m c (ix2 k j)) q := by
  refine Eq.trans (b := V m c main_v3 (((cfg0.win 1).blk t).view.emb (ix3 0 k q : S1x1024x3200.Idx))) rfl ?_
  exact Eq.trans (congrArg (V m c main_v3) (a₂ := ix3 0 k q) (ext3 (only _ _) (by show _ = k.val; blk_simp [index1]) (by show _ = q.val; blk_simp [index1]))) (V_weight m c k q)

theorem block2 (t : Fin cfg0.N) (r : Fin 512) (k : Fin 1024) (h : t.val * 512 + r.val < 8192) :
    (iblk m c 2 t : S512x1024.Idx → EReal) (ix2 r k) = arg4 m c (ix2 ⟨t.val * 512 + r.val, h⟩ k) := by
  refine Eq.trans (b := V m c main_arg4 (((cfg0.win 2).blk t).view.emb (ix2 r k : S512x1024.Idx))) rfl ?_
  exact Eq.trans (congrArg (V m c main_arg4) (a₂ := ix2 ⟨t.val * 512 + r.val, h⟩ k) (ext2 (by show _ = t.val * 512 + r.val; blk_simp [index2]) (by show _ = k.val; blk_simp [index2]))) (congrFun (V_main_arg4 m c) _)

theorem block3 (t : Fin cfg0.N) (r : Fin 512) (k : Fin 1024) (h : t.val * 512 + r.val < 8192) :
    (iblk m c 3 t : S512x1024.Idx → EReal) (ix2 r k) = arg0 m c (ix2 ⟨t.val * 512 + r.val, h⟩ k) := by
  refine Eq.trans (b := V m c main_arg0 (((cfg0.win 3).blk t).view.emb (ix2 r k : S512x1024.Idx))) rfl ?_
  exact Eq.trans (congrArg (V m c main_arg0) (a₂ := ix2 ⟨t.val * 512 + r.val, h⟩ k) (ext2 (by show _ = t.val * 512 + r.val; blk_simp [index3]) (by show _ = k.val; blk_simp [index3]))) (congrFun (V_main_arg0 m c) _)

theorem block4 (t : Fin cfg0.N) (q : Fin 1024) : (iblk m c 4 t : S1x1024.Idx → EReal) (ix2 0 q) = one + arg1 m c (ix2 0 q) := by
  refine Eq.trans (b := V m c main_v5 (((cfg0.win 4).blk t).view.emb (ix2 0 q : S1x1024.Idx))) rfl ?_
  exact Eq.trans (congrArg (V m c main_v5) (a₂ := ix2 0 q) (ext2 (only _ _) (by show _ = q.val; blk_simp [index4]))) (V_scale m c q)

theorem step_du (t : Fin cfg0.N) (r : Fin 512) (q : Fin 1024) (h : t.val * 512 + r.val < 8192) : (k0_pay2 (iblk m c 0 t) (iblk m c 1 t) : S512x1024.Idx → EReal) (ix2 r q) = du m c ⟨t.val * 512 + r.val, h⟩ q := by
  refine (stored2 _ _ r q).trans ((Finset.sum_congr rfl fun k _ => ?_).trans (sum_padded_mul (fun j => arg5 m c (ix2 ⟨t.val * 512 + r.val, h⟩ j)) (fun j => arg3 m c (ix2 q j))))
  rw [block0 m c t r k h, block1 m c t q k]

theorem step_dx (t : Fin cfg0.N) (r : Fin 512) (q : Fin 1024) (h : t.val * 512 + r.val < 8192) :
    (k0_pay3 (iblk m c 0 t) (iblk m c 1 t) (iblk m c 2 t) (iblk m c 4 t) : S512x1024.Idx → EReal) (ix2 r q)
      = Cert.GlaDxFirst.dx (du m c) (arg1 m c) (arg4 m c) (ix2 ⟨t.val * 512 + r.val, h⟩ q) := by
  refine (stored3 _ _ _ _ r q).trans ?_
  exact congrArg₂ (· + ·) (congrArg (alpha * ·) (block2 m c t r q h)) (congrArg₂ (· * ·) (step_du m c t r q h) (block4 m c t q))

/-- What a step adds to the sums over the modulation. -/
theorem adds_sum (n : ℕ) (h : n < cfg0.N) (o : S8x1024.Idx → EReal) (s : Fin 8) (q : Fin 1024) :
    sumRows (k0_pay2 (iblk m c 0 ⟨n, h⟩) (iblk m c 1 ⟨n, h⟩)) (iblk m c 3 ⟨n, h⟩) o s q = o (ix2 s q) + tile 16 512 rfl (Cert.GlaDxFirst.sumPart (du m c) (arg0 m c) s q) n := by
  have hn : n < 16 := h.trans_eq N_0
  have hb : ∀ t : Fin 512, n * 512 + t.val < 8192 := fun t => by have := t.isLt; omega
  rw [tile_of_lt 16 512 rfl _ n hn hb]
  unfold sumRows Cert.GlaDxFirst.sumPart
  refine congrArg (o (ix2 s q) + ·) ?_
  split_ifs
  · refine Finset.sum_congr rfl fun r _ => ?_
    rw [step_du m c ⟨n, h⟩ r q (hb r), block3 m c ⟨n, h⟩ r q (hb r)]
  · exact Finset.sum_congr rfl fun r _ => step_du m c ⟨n, h⟩ r q (hb r)
  · exact Finset.sum_const_zero.symm

theorem left5 (t : Fin cfg0.N) : (outsAt0 m c t.val t.isLt).1 = k0_pay3 (iblk m c 0 t) (iblk m c 1 t) (iblk m c 2 t) (iblk m c 4 t) := by
  by_cases h0 : t.val % 16 = 0
  · rw [outsAt0_A m c t h0]
    dsimp only
    rw [out_A5_eq]
  · rw [outsAt0_B m c t h0]
    dsimp only
    rw [out_B5_eq]

theorem left6_A (t : Fin cfg0.N) (h0 : t.val % 16 = 0) (s : Fin 8) (q : Fin 1024) :
    ((outsAt0 m c t.val t.isLt).2 : S8x1024.Idx → EReal) (ix2 s q) = sumRows (k0_pay2 (iblk m c 0 t) (iblk m c 1 t)) (iblk m c 3 t) (fun _ => 0) s q := by
  rw [outsAt0_A m c t h0]
  dsimp only
  rw [out_A6_eq]

theorem left6_B (t : Fin cfg0.N) (h0 : ¬t.val % 16 = 0) (s : Fin 8) (q : Fin 1024) :
    ((outsAt0 m c t.val t.isLt).2 : S8x1024.Idx → EReal) (ix2 s q) = sumRows (k0_pay2 (iblk m c 0 t) (iblk m c 1 t)) (iblk m c 3 t) (outsAt0 m c (t.val - 1) (Nat.lt_of_le_of_lt (Nat.sub_le _ _) t.isLt)).2 s q := by
  rw [outsAt0_B m c t h0]
  dsimp only
  rw [out_B6_eq]

/-- The sums after `n` steps. -/
theorem left6 (n : ℕ) (h : n < cfg0.N) (s : Fin 8) (q : Fin 1024) :
    ((outsAt0 m c n h).2 : S8x1024.Idx → EReal) (ix2 s q) = ∑ j ∈ Finset.range (n + 1), tile 16 512 rfl (Cert.GlaDxFirst.sumPart (du m c) (arg0 m c) s q) j := by
  induction n with
  | zero =>
    refine (left6_A m c ⟨0, h⟩ (Nat.zero_mod _) s q).trans ?_
    rw [adds_sum m c 0 h, zero_add, Finset.sum_range_one]
  | succ n ih =>
    have hn : n + 1 < 16 := h.trans_eq N_0
    have h0 : ¬(n + 1) % 16 = 0 := by omega
    refine (left6_B m c ⟨n + 1, h⟩ h0 s q).trans ?_
    rw [adds_sum m c (n + 1) h, Finset.sum_range_succ _ (n + 1)]
    exact congrArg (· + _) (ih (Nat.lt_of_succ_lt h))

/-! ### The whole results -/

theorem result_dx : (dats m 0 c).arrAt 5 cfg0.N = Cert.GlaDxFirst.dx (du m c) (arg1 m c) (arg4 m c) := by
  have hcov : (cfg0.win 5).Covers := by decide +kernel
  refine (dats m 0 c).arrAt_eq_of_covers (5 : Fin cfg0.W) (Cert.GlaDxFirst.dx (du m c) (arg1 m c) (arg4 m c)) hcov (fun t hf y => ?_) (Memref.isWhole_whole _)
  refine Eq.trans (b := (dats m 0 c).after 5 t y) (by blk_simp) ?_
  rw [after0_5, left5]
  have b0 : (y 0).val < 512 := (y 0).isLt
  have ht : t.val < 16 := t.isLt.trans_eq N_0
  have e0 : ((((cfg0.win 5).blk t).view.emb y 0 : Fin _) : ℕ) = t.val * 512 + (y 0).val := by blk_simp [index5]
  have e1 : ((((cfg0.win 5).blk t).view.emb y 1 : Fin _) : ℕ) = (y 1).val := by blk_simp [index5]
  refine ((congrArg _ (ValueIdx.eq_ix2 y)).trans (step_dx m c t (y 0) (y 1) (by omega))).trans ?_
  have q0 : (⟨t.val * 512 + (y 0).val, by omega⟩ : Fin 8192) = ((cfg0.win 5).blk t).view.emb y 0 := Fin.ext e0.symm
  have q1 : y 1 = ((cfg0.win 5).blk t).view.emb y 1 := Fin.ext e1.symm
  rw [q0, q1]
  exact congrArg (Cert.GlaDxFirst.dx (du m c) (arg1 m c) (arg4 m c)) (ValueIdx.eq_ix2 _).symm

theorem result_sum : (dats m 0 c).arrAt 6 cfg0.N = Cert.GlaDxFirst.sumArr (du m c) (arg0 m c) := by
  have hcov : (cfg0.win 6).Covers := by decide +kernel
  have hlast : ∀ t : Fin cfg0.N, (cfg0.win 6).flush t = true → t.val = 15 :=
    (by decide +kernel : ∀ t : Fin grid0.N, (cfg0.win 6).flush t = true → t.val = 15)
  refine (dats m 0 c).arrAt_eq_of_covers (6 : Fin cfg0.W) (Cert.GlaDxFirst.sumArr (du m c) (arg0 m c)) hcov (fun t hf y => ?_) (Memref.isWhole_whole _)
  refine Eq.trans (b := (dats m 0 c).after 6 t y) (by blk_simp) ?_
  have e : ((cfg0.win 6).blk t).view.emb y = y := ext2 (by show _ = (y 0).val; blk_simp [index6]) (by show _ = (y 1).val; blk_simp [index6])
  rw [after0_6]
  refine ((congrArg _ (ValueIdx.eq_ix2 y)).trans (left6 m c t.val t.isLt (y 0) (y 1))).trans ?_
  rw [hlast t hf]
  refine (tiles_sum 16 512 rfl _).trans ?_
  exact congrArg (Cert.GlaDxFirst.sumArr (du m c) (arg0 m c)) e.symm

end Cert.Kernel18Ideal.GlaDxFirst

namespace Cert.Reference18Ideal.Read

open Cert.Reference18Ideal Cert.Reference18Ideal.Gen Cert.Norm
open Idealize.ShloMosaic Idealize.ShloMosaic.TcCoe
open scoped BigOperators

variable (x0 : S8192x1024.Idx → EReal) (x1 : S1x1024.Idx → EReal) (x3 : S1024x3088.Idx → EReal) (x4 : S8192x1024.Idx → EReal) (x5 : S8192x3088.Idx → EReal)

/-- The gradient of the block's input. -/
def du : Fin 8192 → Fin 1024 → EReal := Cert.MlpBack.product (fun s j => x5 (ix2 s j)) x3

theorem du_value (s : Fin 8192) (k : Fin 1024) : val_main_v10 (F := Ideal) x3 x5 (ix2 s k) = du x3 x5 s k := by
  change _ = ∑ j : Fin 3088, x5 (ix2 s j) * x3 (ix2 k j)
  rw [val_main_v10_apply]
  refine Finset.sum_congr rfl fun j _ => ?_
  have hl : lidx_main_v10 (ix2 s k) j = ix2 s j := ext2 rfl rfl
  have hr : ridx_main_v10 (ix2 s k) j = ix2 k j := ext2 rfl rfl
  rw [hl, hr, val_main_v9_apply]
  rfl

theorem reference_dx : val_main_v20 (F := Ideal) x1 x3 x4 x5 = Cert.GlaDxFirst.dx (du x3 x5) x1 x4 := by
  have hv : ∀ (s : Fin 8192) (k : Fin 1024), val_main_v20 (F := Ideal) x1 x3 x4 x5 (ix2 s k) = Cert.GlaDxFirst.dx (du x3 x5) x1 x4 (ix2 s k) := fun s k => by
    have e : idx_main_v16 (ix2 s k) = ix2 0 k := ext2 rfl rfl
    rw [val_main_v20_apply, val_main_v17_apply, val_main_v16_apply, e, du_value, val_main_v3_apply, val_main_v2_apply, val_main_cst_0_apply, ofBits_one,
      val_main_v19_apply, val_main_v18_apply, val_main_cst_3_apply]
    exact add_comm (G := EReal) _ _
  funext i
  exact (congrArg _ (ValueIdx.eq_ix2 i)).trans ((hv (i 0) (i 1)).trans
    (congrArg (Cert.GlaDxFirst.dx (du x3 x5) x1 x4) (ValueIdx.eq_ix2 i).symm))

theorem sum_du_value (k : Fin 1024) : val_main_v12 (F := Ideal) x3 x5 (ix2 0 k : S1x1024.Idx) = ∑ s : Fin 8192, du x3 x5 s k := by
  rw [val_main_v12_apply, val_main_v11_apply, val_main_cst_1_apply, ofBits_zero]
  refine (zero_add _).trans (Finset.sum_congr rfl fun s _ => ?_)
  have e : idx_main_v11 (idx_main_v12 (ix2 0 k : S1x1024.Idx)) s = ix2 s k := ext2 rfl (show 0 * 1024 + k.val = k.val by omega)
  rw [e, du_value]

theorem sum_x_value (k : Fin 1024) : val_main_v15 (F := Ideal) x0 x3 x5 (ix2 0 k : S1x1024.Idx) = ∑ s : Fin 8192, du x3 x5 s k * x0 (ix2 s k) := by
  rw [val_main_v15_apply, val_main_v14_apply, val_main_cst_2_apply, ofBits_zero]
  refine (zero_add _).trans (Finset.sum_congr rfl fun s _ => ?_)
  have e : idx_main_v14 (idx_main_v15 (ix2 0 k : S1x1024.Idx)) s = ix2 s k := ext2 rfl (show 0 * 1024 + k.val = k.val by omega)
  rw [e, val_main_v13_apply, du_value]
  exact mul_comm (G := EReal) _ _

theorem sum_rows (r : Fin 8) (k : Fin 1024) : val_main_v22 (F := Ideal) x0 x3 x5 (ix2 r k : S8x1024.Idx) = ∑ s : Fin 8192, Cert.GlaDxFirst.sumPart (du x3 x5) x0 r k s := by
  have hc : val_main_v22 (F := Ideal) x0 x3 x5 (ix2 r k : S8x1024.Idx) = concatenate S8x1024 0 ([⟨S1x1024, (val_main_v15 (F := Ideal) x0 x3 x5 : S1x1024.Idx → EReal)⟩, ⟨S1x1024, (val_main_v12 (F := Ideal) x3 x5 : S1x1024.Idx → EReal)⟩, ⟨S6x1024, (val_main_v21 (F := Ideal) : S6x1024.Idx → EReal)⟩] : List ((s : Shape) × (s.Idx → EReal)))
      concatenates_S1x1024_S1x1024_S6x1024_S8x1024_d0 (ix2 r k : S8x1024.Idx) := rfl
  rw [hc]
  unfold Cert.GlaDxFirst.sumPart
  by_cases c0 : r.val = 0
  · refine Eq.trans (stacked k 0 (by show 0 < 3; omega) (val_main_v15 (F := Ideal) x0 x3 x5) (by rfl) (by rfl) (0 : Fin 1) c0.symm) ?_
    · refine (sum_x_value x0 x3 x5 k).trans (Finset.sum_congr rfl fun s _ => ?_)
      rw [if_pos c0]
  by_cases c1 : r.val = 1
  · refine Eq.trans (stacked k 1 (by show 1 < 3; omega) (val_main_v12 (F := Ideal) x3 x5) (by rfl) (by rfl) (0 : Fin 1) c1.symm) ?_
    · refine (sum_du_value x3 x5 k).trans (Finset.sum_congr rfl fun s _ => ?_)
      rw [if_neg c0]; rw [if_pos c1]
  · have hr := r.isLt
    refine Eq.trans (stacked k 2 (by show 2 < 3; omega) (val_main_v21 (F := Ideal)) (by rfl) (by rfl) ⟨r.val - 2, by omega⟩ (show 2 + (r.val - 2) = r.val by omega)) ?_
    · rw [val_main_v21_apply, val_main_cst_4_apply, ofBits_zero]
      refine (Finset.sum_eq_zero fun s _ => ?_).symm
      rw [if_neg c0]; rw [if_neg c1]

theorem reference_sum  : val_main_v22 (F := Ideal) x0 x3 x5 = Cert.GlaDxFirst.sumArr (du x3 x5) x0 := by
  funext i
  exact (congrArg _ (ValueIdx.eq_ix2 i)).trans (sum_rows x0 x3 x5 (i 0) (i 1))

end Cert.Reference18Ideal.Read

end
-- ==== Proof.lean ====
/-
  The proof of `Cert.Claim`.
-/
module

public import proofs.«01_k».proof.Defs
public import proofs.«01_k».proof.Proof.Gen.Kernel
public import proofs.«01_k».proof.Proof.Gen.KernelIdeal
public import proofs.«01_k».proof.Proof.Gen.ReferenceIdeal.Run
public import proofs.«01_k».proof.Proof.Gen.ReferenceIdeal.Read
public import proofs.«01_k».proof.Proof.Gen.Pre_finite
public import proofs.«01_k».proof.Proof.Run
public import proofs.«01_k».proof.Proof.KernelValue
public import proofs.«01_k».proof.Proof.RefValue
public import proofs.«01_k».proof.Proof.Finite
public import Idealize.ShloMosaic.Adequacy
public import Idealize.ShloMosaic.Init
public import proofs.«01_k».proof.Proof.Gen.Kernel2
public import proofs.«01_k».proof.Proof.Gen.Kernel2Ideal
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Up
public import proofs.«01_k».proof.Proof.Gen.Kernel3
public import proofs.«01_k».proof.Proof.Gen.Kernel3Ideal
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.DownInput
public import proofs.«01_k».proof.Proof.Gen.Kernel4
public import proofs.«01_k».proof.Proof.Gen.Kernel4Ideal
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.DownWeight
public import proofs.«01_k».proof.Proof.Gen.Kernel5
public import proofs.«01_k».proof.Proof.Gen.Kernel5Ideal
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.UpWeight
public import proofs.«01_k».proof.Proof.Gen.Kernel6
public import proofs.«01_k».proof.Proof.Gen.Kernel6Ideal
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.MlpOut
public import proofs.«01_k».proof.Proof.Gen.Kernel7
public import proofs.«01_k».proof.Proof.Gen.Kernel7Ideal
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.MixOut
public import proofs.«01_k».proof.Proof.Gen.Kernel8
public import proofs.«01_k».proof.Proof.Gen.Kernel8Ideal
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.AttnIn
public import proofs.«01_k».proof.Proof.Gen.Kernel9
public import proofs.«01_k».proof.Proof.Gen.Kernel9Ideal
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.GlaIn
public import proofs.«01_k».proof.Proof.Gen.Kernel10
public import proofs.«01_k».proof.Proof.Gen.Kernel10Ideal
public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.GlaInWeight
public import proofs.«01_k».proof.Proof.Gen.Kernel11
public import proofs.«01_k».proof.Proof.Gen.Kernel11Ideal
public import proofs.«01_k».proof.Proof.Gen.Kernel11.Frame
public import proofs.«01_k».proof.Proof.Gen.Kernel11Ideal.Frame
public import proofs.«01_k».proof.Proof.Gen.Kernel11Ideal.Value
public import proofs.«01_k».proof.Proof.Gen.Reference11Ideal.Run
public import proofs.«01_k».proof.Proof.Gen.Reference11Ideal.Read
public import proofs.«01_k».proof.Proof.OutWeight
public import proofs.«01_k».proof.Proof.Gen.Kernel12
public import proofs.«01_k».proof.Proof.Gen.Kernel12Ideal
public import proofs.«01_k».proof.Proof.Gen.Kernel12.Frame
public import proofs.«01_k».proof.Proof.Gen.Kernel12Ideal.Frame
public import proofs.«01_k».proof.Proof.Gen.Kernel12Ideal.Value
public import proofs.«01_k».proof.Proof.Gen.Reference12Ideal.Run
public import proofs.«01_k».proof.Proof.Gen.Reference12Ideal.Read
public import proofs.«01_k».proof.Proof.AttnInWeight
public import proofs.«01_k».proof.Proof.Gen.Kernel13
public import proofs.«01_k».proof.Proof.Gen.Kernel13Ideal
public import proofs.«01_k».proof.Proof.Gen.Kernel13.Frame
public import proofs.«01_k».proof.Proof.Gen.Kernel13Ideal.Frame
public import proofs.«01_k».proof.Proof.Gen.Kernel13Ideal.Value
public import proofs.«01_k».proof.Proof.Gen.Reference13Ideal.Run
public import proofs.«01_k».proof.Proof.Gen.Reference13Ideal.Read
public import proofs.«01_k».proof.Proof.AttnBack
public import proofs.«01_k».proof.Proof.Gen.Kernel14
public import proofs.«01_k».proof.Proof.Gen.Kernel14Ideal
public import proofs.«01_k».proof.Proof.Gen.Kernel14.Frame
public import proofs.«01_k».proof.Proof.Gen.Kernel14Ideal.Frame
public import proofs.«01_k».proof.Proof.Gen.Kernel14Ideal.Value
public import proofs.«01_k».proof.Proof.Gen.Reference14Ideal.Run
public import proofs.«01_k».proof.Proof.Gen.Reference14Ideal.Read
public import proofs.«01_k».proof.Proof.GlaBack
public import proofs.«01_k».proof.Proof.Gen.Kernel15
public import proofs.«01_k».proof.Proof.Gen.Kernel15Ideal
public import proofs.«01_k».proof.Proof.Gen.Kernel15.Frame
public import proofs.«01_k».proof.Proof.Gen.Kernel15Ideal.Frame
public import proofs.«01_k».proof.Proof.Gen.Kernel15Ideal.Value
public import proofs.«01_k».proof.Proof.Gen.Reference15Ideal.Run
public import proofs.«01_k».proof.Proof.Gen.Reference15Ideal.Read
public import proofs.«01_k».proof.Proof.Gen.Pre_finite15
public import proofs.«01_k».proof.Proof.MlpBack
public import proofs.«01_k».proof.Proof.MlpBackRef
public import proofs.«01_k».proof.Proof.MlpBackFinite
public import proofs.«01_k».proof.Proof.Gen.Kernel16
public import proofs.«01_k».proof.Proof.Gen.Kernel16Ideal
public import proofs.«01_k».proof.Proof.Gen.Kernel16.Frame
public import proofs.«01_k».proof.Proof.Gen.Kernel16Ideal.Frame
public import proofs.«01_k».proof.Proof.Gen.Kernel16Ideal.Value
public import proofs.«01_k».proof.Proof.Gen.Reference16Ideal.Run
public import proofs.«01_k».proof.Proof.Gen.Reference16Ideal.Read
public import proofs.«01_k».proof.Proof.Gen.Pre_finite16
public import proofs.«01_k».proof.Proof.Gen.Kernel17
public import proofs.«01_k».proof.Proof.Gen.Kernel17Ideal
public import proofs.«01_k».proof.Proof.Gen.Kernel17.Frame
public import proofs.«01_k».proof.Proof.Gen.Kernel17Ideal.Frame
public import proofs.«01_k».proof.Proof.Gen.Kernel17Ideal.Value
public import proofs.«01_k».proof.Proof.Gen.Reference17Ideal.Run
public import proofs.«01_k».proof.Proof.Gen.Reference17Ideal.Read
public import proofs.«01_k».proof.Proof.Gen.Pre_finite17
public import proofs.«01_k».proof.Proof.Gen.Kernel18
public import proofs.«01_k».proof.Proof.Gen.Kernel18Ideal
public import proofs.«01_k».proof.Proof.Gen.Kernel18.Frame
public import proofs.«01_k».proof.Proof.Gen.Kernel18Ideal.Frame
public import proofs.«01_k».proof.Proof.Gen.Kernel18Ideal.Value
public import proofs.«01_k».proof.Proof.Gen.Reference18Ideal.Run
public import proofs.«01_k».proof.Proof.Gen.Reference18Ideal.Read
public import proofs.«01_k».proof.Proof.AttnDx
public import proofs.«01_k».proof.Proof.AttnDxRef
public import proofs.«01_k».proof.Proof.AttnDxFinite
public import proofs.«01_k».proof.Proof.GlaDx
public import proofs.«01_k».proof.Proof.GlaDxRef
public import proofs.«01_k».proof.Proof.GlaDxFinite
public import proofs.«01_k».proof.Proof.GlaDxFirst

@[expose] public section

noncomputable section

namespace Cert.Proof

open Idealize.ShloMosaic Idealize.SL.Sem

/-- The printed kernel and the idealized one are one text: the two frames state one run, at two instances. -/
theorem kernel_frame_eq : quiescent_Kernel = ∀ (m : (ℓ : Loc KernelIdeal.nD KernelIdeal.τ KernelIdeal.sig) → Buf (Elt Bits) ℓ)
    (g : Dev KernelIdeal.nD → PrngReg), True →
    θ_run (KernelIdeal.defs (F := Bits)) (onTc (τ := KernelIdeal.τ) (KernelIdeal.main (F := Bits))) ⟨m, fun _ => 0, g⟩ (fun r => (∀ c : Dev KernelIdeal.nD,
      r.2.mem ((c.tc : Thread KernelIdeal.nD KernelIdeal.τ).loc KernelIdeal.main_arg0) = m ((c.tc : Thread KernelIdeal.nD KernelIdeal.τ).loc KernelIdeal.main_arg0)
      ∧ r.2.mem ((c.tc : Thread KernelIdeal.nD KernelIdeal.τ).loc KernelIdeal.main_arg1) = m ((c.tc : Thread KernelIdeal.nD KernelIdeal.τ).loc KernelIdeal.main_arg1)
      ∧ r.2.mem ((c.tc : Thread KernelIdeal.nD KernelIdeal.τ).loc KernelIdeal.main_arg2) = m ((c.tc : Thread KernelIdeal.nD KernelIdeal.τ).loc KernelIdeal.main_arg2))
      ∧ r.2.sem = fun _ => 0) := by
  chain_rfl

theorem frame_kernel : quiescent_Kernel := kernel_frame_eq.mpr fun m ρ _ => KernelIdeal.Steps.run_args (F := Bits) m ρ

theorem frame_ideal : quiescent_KernelIdeal := fun m ρ _ => KernelIdeal.Steps.run_args (F := Ideal) m ρ

theorem frame_reference : quiescent_ReferenceIdeal := fun m ρ _ =>
  (θ_run ReferenceIdeal.defs _ _).mono (fun r h => ⟨fun c => (h c).2, sem_eq_zero_of_no_sems (by decide) r.2⟩)
    (ReferenceIdeal.Value.run (F := Ideal) m ρ)

/-- The kernel ends with the three gradients of the numbers its arguments hold, and so does the reference. -/
theorem value : algebraic_KernelIdeal_ReferenceIdeal_pre_finite := by
  intro m g m' g' hpre hargs
  have hr := fun c => Attn.reals _ _ _ (hpre c)
  refine ⟨fun c => KernelIdeal.Steps.whole (KernelIdeal.Steps.numbers m c), ?_, ?_⟩
  · refine (θ_run KernelIdeal.defs _ _).mono (fun r h c => ?_) (KernelIdeal.Steps.run_main (F := Ideal) m g)
    exact ⟨KernelIdeal.Steps.kernel_value m c (hr c).1 (hr c).2.1 (hr c).2.2 r h.1, KernelIdeal.Steps.args_kept m h.1 c⟩
  · refine (θ_run ReferenceIdeal.defs _ _).mono (fun r h c => ?_) (ReferenceIdeal.Value.run (F := Ideal) m' g')
    refine ⟨((h c).1.trans (ReferenceIdeal.Read.val_main_v101_eq (F := Ideal) _)).trans ?_, (h c).2⟩
    obtain ⟨e0, e1, e2⟩ := hargs c
    refine Eq.trans ?_ (ReferenceIdeal.Read.reference_value _ _ _ (hr c).1 (hr c).2.1 (hr c).2.2)
    exact congr (congr (congrArg (ReferenceIdeal.Read.val_main_v101 (F := Ideal)) e0) e1) e2

/-! ### Program 2 -/

theorem frame_kernel2 : quiescent_Kernel2 := fun m ρ _ => Kernel2.Gen.frame (F := Bits) m ρ

theorem frame_ideal2 : quiescent_Kernel2Ideal := fun m ρ _ => Kernel2Ideal.Gen.frame (F := Ideal) m ρ

theorem frame_reference2 : quiescent_Reference2Ideal := fun m ρ _ =>
  (θ_run Reference2Ideal.defs _ _).mono (fun r h => ⟨fun c => (h c).2, sem_eq_zero_of_no_sems (by decide) r.2⟩)
    (Reference2Ideal.Value.run (F := Ideal) m ρ)

theorem value2 : algebraic_Kernel2Ideal_Reference2Ideal := by
  intro m g m' g' _ hargs
  refine ⟨fun c => Kernel2Ideal.Up.act (Kernel2Ideal.Up.arg0 m c) (Kernel2Ideal.Up.arg1 m c), ?_, ?_⟩
  · refine (θ_run Kernel2Ideal.defs _ _).mono (fun r h c => ?_) (Kernel2Ideal.Value.run_blocks (F := Ideal) m g)
    exact ⟨(h c).1.trans (Kernel2Ideal.Up.result m c), (h c).2⟩
  · refine (θ_run Reference2Ideal.defs _ _).mono (fun r h c => ?_) (Reference2Ideal.Value.run (F := Ideal) m' g')
    refine ⟨((h c).1.trans (Reference2Ideal.Read.val_main_v4_eq (F := Ideal) _ _)).trans ?_, (h c).2⟩
    obtain ⟨e0, e1⟩ := hargs c
    refine Eq.trans ?_ (Reference2Ideal.Read.reference_value _ _)
    exact congr (congrArg (Reference2Ideal.Read.val_main_v4 (F := Ideal)) e0) e1

/-! ### Program 3 -/

theorem frame_kernel3 : quiescent_Kernel3 := fun m ρ _ => Kernel3.Gen.frame (F := Bits) m ρ

theorem frame_ideal3 : quiescent_Kernel3Ideal := fun m ρ _ => Kernel3Ideal.Gen.frame (F := Ideal) m ρ

theorem frame_reference3 : quiescent_Reference3Ideal := fun m ρ _ =>
  (θ_run Reference3Ideal.defs _ _).mono (fun r h => ⟨fun c => (h c).2, sem_eq_zero_of_no_sems (by decide) r.2⟩)
    (Reference3Ideal.Value.run (F := Ideal) m ρ)

theorem value3 : algebraic_Kernel3Ideal_Reference3Ideal := by
  intro m g m' g' _ hargs
  refine ⟨fun c => Kernel3Ideal.DownInput.grad (Kernel3Ideal.DownInput.arg0 m c) (Kernel3Ideal.DownInput.arg1 m c) (Kernel3Ideal.DownInput.arg2 m c) (Kernel3Ideal.DownInput.arg3 m c), ?_, ?_⟩
  · refine (θ_run Kernel3Ideal.defs _ _).mono (fun r h c => ?_) (Kernel3Ideal.Value.run_blocks (F := Ideal) m g)
    exact ⟨(h c).1.trans (Kernel3Ideal.DownInput.result m c), (h c).2⟩
  · refine (θ_run Reference3Ideal.defs _ _).mono (fun r h c => ?_) (Reference3Ideal.Value.run (F := Ideal) m' g')
    refine ⟨((h c).1.trans (Reference3Ideal.Read.val_main_v15_eq (F := Ideal) _ _ _ _)).trans ?_, (h c).2⟩
    obtain ⟨e0, e1, e2, e3⟩ := hargs c
    refine Eq.trans ?_ (Reference3Ideal.Read.reference_value _ _ _ _)
    exact congr (congr (congr (congrArg (Reference3Ideal.Read.val_main_v15 (F := Ideal)) e0) e1) e2) e3

/-! ### Program 4 -/

theorem frame_kernel4 : quiescent_Kernel4 := fun m ρ _ => Kernel4.Gen.frame (F := Bits) m ρ

theorem frame_ideal4 : quiescent_Kernel4Ideal := fun m ρ _ => Kernel4Ideal.Gen.frame (F := Ideal) m ρ

theorem frame_reference4 : quiescent_Reference4Ideal := fun m ρ _ =>
  (θ_run Reference4Ideal.defs _ _).mono (fun r h => ⟨fun c => (h c).2, sem_eq_zero_of_no_sems (by decide) r.2⟩)
    (Reference4Ideal.Value.run (F := Ideal) m ρ)

theorem value4 : algebraic_Kernel4Ideal_Reference4Ideal := by
  intro m g m' g' _ hargs
  refine ⟨fun c => Kernel4Ideal.DownWeight.grad (Kernel4Ideal.DownWeight.arg0 m c) (Kernel4Ideal.DownWeight.arg1 m c) (Kernel4Ideal.DownWeight.arg3 m c), ?_, ?_⟩
  · refine (θ_run Kernel4Ideal.defs _ _).mono (fun r h c => ?_) (Kernel4Ideal.Value.run (F := Ideal) m g)
    exact ⟨(h c).1.trans (Kernel4Ideal.DownWeight.result m c), (h c).2⟩
  · refine (θ_run Reference4Ideal.defs _ _).mono (fun r h c => ?_) (Reference4Ideal.Value.run (F := Ideal) m' g')
    refine ⟨((h c).1.trans (Reference4Ideal.Read.val_main_v7_eq (F := Ideal) _ _ _)).trans ?_, (h c).2⟩
    obtain ⟨e0, e1, e2, e3⟩ := hargs c
    refine Eq.trans ?_ (Reference4Ideal.Read.reference_value _ _ _)
    exact congr (congr (congrArg (Reference4Ideal.Read.val_main_v7 (F := Ideal)) e0) e1) e3

/-! ### Program 5 -/

theorem frame_kernel5 : quiescent_Kernel5 := fun m ρ _ => Kernel5.Gen.frame (F := Bits) m ρ

theorem frame_ideal5 : quiescent_Kernel5Ideal := fun m ρ _ => Kernel5Ideal.Gen.frame (F := Ideal) m ρ

theorem frame_reference5 : quiescent_Reference5Ideal := fun m ρ _ =>
  (θ_run Reference5Ideal.defs _ _).mono (fun r h => ⟨fun c => (h c).2, sem_eq_zero_of_no_sems (by decide) r.2⟩)
    (Reference5Ideal.Value.run (F := Ideal) m ρ)

theorem value5 : algebraic_Kernel5Ideal_Reference5Ideal := by
  intro m g m' g' _ hargs
  refine ⟨fun c => Kernel5Ideal.UpWeight.grad (Kernel5Ideal.UpWeight.arg0 m c) (Kernel5Ideal.UpWeight.arg1 m c) (Kernel5Ideal.UpWeight.arg2 m c) (Kernel5Ideal.UpWeight.arg3 m c), ?_, ?_⟩
  · refine (θ_run Kernel5Ideal.defs _ _).mono (fun r h c => ?_) (Kernel5Ideal.Value.run_blocks (F := Ideal) m g)
    exact ⟨(h c).1.trans (Kernel5Ideal.UpWeight.result m c), (h c).2⟩
  · refine (θ_run Reference5Ideal.defs _ _).mono (fun r h c => ?_) (Reference5Ideal.Value.run (F := Ideal) m' g')
    refine ⟨((h c).1.trans (Reference5Ideal.Read.val_main_v25_eq (F := Ideal) _ _)).trans ?_, (h c).2⟩
    obtain ⟨e0, e1, e2, e3⟩ := hargs c
    refine Eq.trans ?_ (Reference5Ideal.Read.reference_value _ _ _ _)
    exact congr (congr (congr (congrArg (Reference5Ideal.Read.val_main_v25 (F := Ideal)) e0) e1) e2) e3

/-! ### Program 6 -/

theorem frame_kernel6 : quiescent_Kernel6 := fun m ρ _ => Kernel6.Gen.frame (F := Bits) m ρ

theorem frame_ideal6 : quiescent_Kernel6Ideal := fun m ρ _ => Kernel6Ideal.Gen.frame (F := Ideal) m ρ

theorem frame_reference6 : quiescent_Reference6Ideal := fun m ρ _ =>
  (θ_run Reference6Ideal.defs _ _).mono (fun r h => ⟨fun c => (h c).2.2.2, sem_eq_zero_of_no_sems (by decide) r.2⟩)
    (Reference6Ideal.Value.run (F := Ideal) m ρ)

theorem value6 : algebraic_Kernel6Ideal_Reference6Ideal := by
  intro m g m' g' _ hargs
  refine ⟨fun c => Kernel6Ideal.MlpOut.out (Kernel6Ideal.MlpOut.arg1 m c) (Kernel6Ideal.MlpOut.arg2 m c) (Kernel6Ideal.MlpOut.arg3 m c),
    fun c => Kernel6Ideal.MlpOut.stream (Kernel6Ideal.MlpOut.arg0 m c) (Kernel6Ideal.MlpOut.out (Kernel6Ideal.MlpOut.arg1 m c) (Kernel6Ideal.MlpOut.arg2 m c) (Kernel6Ideal.MlpOut.arg3 m c)) (Kernel6Ideal.MlpOut.arg4 m c) (Kernel6Ideal.MlpOut.arg5 m c) (Kernel6Ideal.MlpOut.arg6 m c),
    fun c => Kernel6Ideal.MlpOut.next (Kernel6Ideal.MlpOut.arg0 m c) (Kernel6Ideal.MlpOut.out (Kernel6Ideal.MlpOut.arg1 m c) (Kernel6Ideal.MlpOut.arg2 m c) (Kernel6Ideal.MlpOut.arg3 m c)) (Kernel6Ideal.MlpOut.arg4 m c) (Kernel6Ideal.MlpOut.arg5 m c) (Kernel6Ideal.MlpOut.arg6 m c) (Kernel6Ideal.MlpOut.arg7 m c) (Kernel6Ideal.MlpOut.arg8 m c), ?_, ?_⟩
  · refine (θ_run Kernel6Ideal.defs _ _).mono (fun r h c => ?_) (Kernel6Ideal.Value.run_blocks (F := Ideal) m g)
    exact ⟨(h c).1.trans (Kernel6Ideal.MlpOut.result_out m c), (h c).2.1.trans (Kernel6Ideal.MlpOut.result_stream m c), (h c).2.2.1.trans (Kernel6Ideal.MlpOut.result_next m c), (h c).2.2.2⟩
  · refine (θ_run Reference6Ideal.defs _ _).mono (fun r h c => ?_) (Reference6Ideal.Value.run (F := Ideal) m' g')
    obtain ⟨e0, e1, e2, e3, e4, e5, e6, e7, e8⟩ := hargs c
    refine ⟨((h c).1.trans (Reference6Ideal.Read.val_main_v34_eq (F := Ideal) _ _ _)).trans ?_, ((h c).2.1.trans (Reference6Ideal.Read.val_main_v33_eq (F := Ideal) _ _)).trans ?_,
      ((h c).2.2.1.trans (Reference6Ideal.Read.val_main_v41_eq (F := Ideal) _ _)).trans ?_, (h c).2.2.2⟩
    · refine Eq.trans ?_ (Reference6Ideal.Read.reference_out _ _ _)
      exact congr (congr (congrArg (Reference6Ideal.Read.val_main_v34 (F := Ideal)) e1) e2) e3
    · refine Eq.trans ?_ (Reference6Ideal.Read.reference_stream _ _ _ _ _ _ _)
      exact congr (congr (congr (congr (congr (congr (congrArg (Reference6Ideal.Read.val_main_v33 (F := Ideal)) e0) e1) e2) e3) e4) e5) e6
    · refine Eq.trans ?_ (Reference6Ideal.Read.reference_next _ _ _ _ _ _ _ _ _)
      exact congr (congr (congr (congr (congr (congr (congr (congr (congrArg (Reference6Ideal.Read.val_main_v41 (F := Ideal)) e0) e1) e2) e3) e4) e5) e6) e7) e8

/-! ### Program 7 -/

theorem frame_kernel7 : quiescent_Kernel7 := fun m ρ _ => Kernel7.Gen.frame (F := Bits) m ρ

theorem frame_ideal7 : quiescent_Kernel7Ideal := fun m ρ _ => Kernel7Ideal.Gen.frame (F := Ideal) m ρ

theorem frame_reference7 : quiescent_Reference7Ideal := fun m ρ _ =>
  (θ_run Reference7Ideal.defs _ _).mono (fun r h => ⟨fun c => (h c).2.2.2, sem_eq_zero_of_no_sems (by decide) r.2⟩)
    (Reference7Ideal.Value.run (F := Ideal) m ρ)

theorem value7 : algebraic_Kernel7Ideal_Reference7Ideal := by
  intro m g m' g' _ hargs
  refine ⟨fun c => Kernel7Ideal.MixOut.out (Kernel7Ideal.MixOut.arg1 m c) (Kernel7Ideal.MixOut.arg2 m c),
    fun c => Kernel7Ideal.MixOut.stream (Kernel7Ideal.MixOut.arg0 m c) (Kernel7Ideal.MixOut.out (Kernel7Ideal.MixOut.arg1 m c) (Kernel7Ideal.MixOut.arg2 m c)) (Kernel7Ideal.MixOut.arg3 m c) (Kernel7Ideal.MixOut.arg4 m c) (Kernel7Ideal.MixOut.arg5 m c),
    fun c => Kernel7Ideal.MixOut.next (Kernel7Ideal.MixOut.arg0 m c) (Kernel7Ideal.MixOut.out (Kernel7Ideal.MixOut.arg1 m c) (Kernel7Ideal.MixOut.arg2 m c)) (Kernel7Ideal.MixOut.arg3 m c) (Kernel7Ideal.MixOut.arg4 m c) (Kernel7Ideal.MixOut.arg5 m c) (Kernel7Ideal.MixOut.arg6 m c) (Kernel7Ideal.MixOut.arg7 m c), ?_, ?_⟩
  · refine (θ_run Kernel7Ideal.defs _ _).mono (fun r h c => ?_) (Kernel7Ideal.Value.run_blocks (F := Ideal) m g)
    exact ⟨(h c).1.trans (Kernel7Ideal.MixOut.result_out m c), (h c).2.1.trans (Kernel7Ideal.MixOut.result_stream m c), (h c).2.2.1.trans (Kernel7Ideal.MixOut.result_next m c), (h c).2.2.2⟩
  · refine (θ_run Reference7Ideal.defs _ _).mono (fun r h c => ?_) (Reference7Ideal.Value.run (F := Ideal) m' g')
    obtain ⟨e0, e1, e2, e3, e4, e5, e6, e7⟩ := hargs c
    refine ⟨((h c).1.trans (Reference7Ideal.Read.val_main_v31_eq (F := Ideal) _ _)).trans ?_, ((h c).2.1.trans (Reference7Ideal.Read.val_main_v30_eq (F := Ideal) _ _)).trans ?_,
      ((h c).2.2.1.trans (Reference7Ideal.Read.val_main_v38_eq (F := Ideal) _ _)).trans ?_, (h c).2.2.2⟩
    · refine Eq.trans ?_ (Reference7Ideal.Read.reference_out _ _)
      exact congr (congrArg (Reference7Ideal.Read.val_main_v31 (F := Ideal)) e1) e2
    · refine Eq.trans ?_ (Reference7Ideal.Read.reference_stream _ _ _ _ _ _)
      exact congr (congr (congr (congr (congr (congrArg (Reference7Ideal.Read.val_main_v30 (F := Ideal)) e0) e1) e2) e3) e4) e5
    · refine Eq.trans ?_ (Reference7Ideal.Read.reference_next _ _ _ _ _ _ _ _)
      exact congr (congr (congr (congr (congr (congr (congr (congrArg (Reference7Ideal.Read.val_main_v38 (F := Ideal)) e0) e1) e2) e3) e4) e5) e6) e7

/-! ### Program 8 -/

theorem frame_kernel8 : quiescent_Kernel8 := fun m ρ _ => Kernel8.Gen.frame (F := Bits) m ρ

theorem frame_ideal8 : quiescent_Kernel8Ideal := fun m ρ _ => Kernel8Ideal.Gen.frame (F := Ideal) m ρ

theorem frame_reference8 : quiescent_Reference8Ideal := fun m ρ _ =>
  (θ_run Reference8Ideal.defs _ _).mono (fun r h => ⟨fun c => (h c).2, sem_eq_zero_of_no_sems (by decide) r.2⟩)
    (Reference8Ideal.Value.run (F := Ideal) m ρ)

theorem value8 : algebraic_Kernel8Ideal_Reference8Ideal := by
  intro m g m' g' _ hargs
  refine ⟨fun c => Kernel8Ideal.AttnIn.proj (Kernel8Ideal.AttnIn.arg0 m c) (Kernel8Ideal.AttnIn.arg1 m c) (Kernel8Ideal.AttnIn.arg2 m c), ?_, ?_⟩
  · refine (θ_run Kernel8Ideal.defs _ _).mono (fun r h c => ?_) (Kernel8Ideal.Value.run_blocks (F := Ideal) m g)
    exact ⟨(h c).1.trans (Kernel8Ideal.AttnIn.result m c), (h c).2⟩
  · refine (θ_run Reference8Ideal.defs _ _).mono (fun r h c => ?_) (Reference8Ideal.Value.run (F := Ideal) m' g')
    refine ⟨((h c).1.trans (Reference8Ideal.Read.val_main_v4_eq (F := Ideal) _ _ _)).trans ?_, (h c).2⟩
    obtain ⟨e0, e1, e2⟩ := hargs c
    refine Eq.trans ?_ (Reference8Ideal.Read.reference_value _ _ _)
    exact congr (congr (congrArg (Reference8Ideal.Read.val_main_v4 (F := Ideal)) e0) e1) e2

/-! ### Program 9 -/

theorem frame_kernel9 : quiescent_Kernel9 := fun m ρ _ => Kernel9.Gen.frame (F := Bits) m ρ

theorem frame_ideal9 : quiescent_Kernel9Ideal := fun m ρ _ => Kernel9Ideal.Gen.frame (F := Ideal) m ρ

theorem frame_reference9 : quiescent_Reference9Ideal := fun m ρ _ =>
  (θ_run Reference9Ideal.defs _ _).mono (fun r h => ⟨fun c => (h c).2, sem_eq_zero_of_no_sems (by decide) r.2⟩)
    (Reference9Ideal.Value.run (F := Ideal) m ρ)

theorem value9 : algebraic_Kernel9Ideal_Reference9Ideal := by
  intro m g m' g' _ hargs
  refine ⟨fun c => Kernel9Ideal.GlaIn.proj (Kernel9Ideal.GlaIn.arg0 m c) (Kernel9Ideal.GlaIn.arg1 m c), ?_, ?_⟩
  · refine (θ_run Kernel9Ideal.defs _ _).mono (fun r h c => ?_) (Kernel9Ideal.Value.run_blocks (F := Ideal) m g)
    exact ⟨(h c).1.trans (Kernel9Ideal.GlaIn.result m c), (h c).2⟩
  · refine (θ_run Reference9Ideal.defs _ _).mono (fun r h c => ?_) (Reference9Ideal.Value.run (F := Ideal) m' g')
    refine ⟨((h c).1.trans (Reference9Ideal.Read.val_main_v2_eq (F := Ideal) _ _)).trans ?_, (h c).2⟩
    obtain ⟨e0, e1⟩ := hargs c
    refine Eq.trans ?_ (Reference9Ideal.Read.reference_value _ _)
    exact congr (congrArg (Reference9Ideal.Read.val_main_v2 (F := Ideal)) e0) e1

/-! ### Program 10 -/

theorem frame_kernel10 : quiescent_Kernel10 := fun m ρ _ => Kernel10.Gen.frame (F := Bits) m ρ

theorem frame_ideal10 : quiescent_Kernel10Ideal := fun m ρ _ => Kernel10Ideal.Gen.frame (F := Ideal) m ρ

theorem frame_reference10 : quiescent_Reference10Ideal := fun m ρ _ =>
  (θ_run Reference10Ideal.defs _ _).mono (fun r h => ⟨fun c => (h c).2, sem_eq_zero_of_no_sems (by decide) r.2⟩)
    (Reference10Ideal.Value.run (F := Ideal) m ρ)

theorem value10 : algebraic_Kernel10Ideal_Reference10Ideal := by
  intro m g m' g' _ hargs
  refine ⟨fun c => Kernel10Ideal.GlaInWeight.grad (Kernel10Ideal.GlaInWeight.arg0 m c) (Kernel10Ideal.GlaInWeight.arg2 m c), ?_, ?_⟩
  · refine (θ_run Kernel10Ideal.defs _ _).mono (fun r h c => ?_) (Kernel10Ideal.Value.run (F := Ideal) m g)
    exact ⟨(h c).1.trans (Kernel10Ideal.GlaInWeight.result m c), (h c).2⟩
  · refine (θ_run Reference10Ideal.defs _ _).mono (fun r h c => ?_) (Reference10Ideal.Value.run (F := Ideal) m' g')
    refine ⟨((h c).1.trans (Reference10Ideal.Read.val_main_v5_eq (F := Ideal) _ _)).trans ?_, (h c).2⟩
    obtain ⟨e0, e1, e2⟩ := hargs c
    refine Eq.trans ?_ (Reference10Ideal.Read.reference_value _ _)
    exact congr (congrArg (Reference10Ideal.Read.val_main_v5 (F := Ideal)) e0) e2

/-! ### Program 11 -/

theorem frame_kernel11 : quiescent_Kernel11 := fun m ρ _ => Kernel11.Gen.frame (F := Bits) m ρ

theorem frame_ideal11 : quiescent_Kernel11Ideal := fun m ρ _ => Kernel11Ideal.Gen.frame (F := Ideal) m ρ

theorem frame_reference11 : quiescent_Reference11Ideal := fun m ρ _ =>
  (θ_run Reference11Ideal.defs _ _).mono (fun r h => ⟨fun c => (h c).2, sem_eq_zero_of_no_sems (by decide) r.2⟩)
    (Reference11Ideal.Value.run (F := Ideal) m ρ)

theorem value11 : algebraic_Kernel11Ideal_Reference11Ideal := by
  intro m g m' g' _ hargs
  refine ⟨fun c => Kernel11Ideal.OutWeight.grad (Kernel11Ideal.OutWeight.arg0 m c) (Kernel11Ideal.OutWeight.arg2 m c), ?_, ?_⟩
  · refine (θ_run Kernel11Ideal.defs _ _).mono (fun r h c => ?_) (Kernel11Ideal.Value.run (F := Ideal) m g)
    exact ⟨(h c).1.trans (Kernel11Ideal.OutWeight.result m c), (h c).2⟩
  · refine (θ_run Reference11Ideal.defs _ _).mono (fun r h c => ?_) (Reference11Ideal.Value.run (F := Ideal) m' g')
    refine ⟨((h c).1.trans (Reference11Ideal.Read.val_main_v4_eq (F := Ideal) _ _)).trans ?_, (h c).2⟩
    obtain ⟨e0, e1, e2⟩ := hargs c
    refine Eq.trans ?_ (Reference11Ideal.Read.reference_value _ _)
    exact congr (congrArg (Reference11Ideal.Read.val_main_v4 (F := Ideal)) e0) e2

/-! ### Program 12 -/

theorem frame_kernel12 : quiescent_Kernel12 := fun m ρ _ => Kernel12.Gen.frame (F := Bits) m ρ

theorem frame_ideal12 : quiescent_Kernel12Ideal := fun m ρ _ => Kernel12Ideal.Gen.frame (F := Ideal) m ρ

theorem frame_reference12 : quiescent_Reference12Ideal := fun m ρ _ =>
  (θ_run Reference12Ideal.defs _ _).mono (fun r h => ⟨fun c => (h c).2, sem_eq_zero_of_no_sems (by decide) r.2⟩)
    (Reference12Ideal.Value.run (F := Ideal) m ρ)

theorem value12 : algebraic_Kernel12Ideal_Reference12Ideal := by
  intro m g m' g' _ hargs
  refine ⟨fun c => Kernel12Ideal.AttnInWeight.grad (Kernel12Ideal.AttnInWeight.arg0 m c) (Kernel12Ideal.AttnInWeight.arg3 m c), ?_, ?_⟩
  · refine (θ_run Kernel12Ideal.defs _ _).mono (fun r h c => ?_) (Kernel12Ideal.Value.run_blocks (F := Ideal) m g)
    exact ⟨(h c).1.trans (Kernel12Ideal.AttnInWeight.result m c), (h c).2⟩
  · refine (θ_run Reference12Ideal.defs _ _).mono (fun r h c => ?_) (Reference12Ideal.Value.run (F := Ideal) m' g')
    refine ⟨((h c).1.trans (Reference12Ideal.Read.val_main_v22_eq (F := Ideal) _ _)).trans ?_, (h c).2⟩
    obtain ⟨e0, e1, e2, e3⟩ := hargs c
    refine Eq.trans ?_ (Reference12Ideal.Read.reference_value _ _)
    exact congr (congrArg (Reference12Ideal.Read.val_main_v22 (F := Ideal)) e0) e3

/-! ### Program 13 -/

theorem frame_kernel13 : quiescent_Kernel13 := fun m ρ _ => Kernel13.Gen.frame (F := Bits) m ρ

theorem frame_ideal13 : quiescent_Kernel13Ideal := fun m ρ _ => Kernel13Ideal.Gen.frame (F := Ideal) m ρ

theorem frame_reference13 : quiescent_Reference13Ideal := fun m ρ _ =>
  (θ_run Reference13Ideal.defs _ _).mono (fun r h => ⟨fun c => (h c).2, sem_eq_zero_of_no_sems (by decide) r.2⟩)
    (Reference13Ideal.Value.run (F := Ideal) m ρ)

theorem value13 : algebraic_Kernel13Ideal_Reference13Ideal := by
  intro m g m' g' _ hargs
  refine ⟨fun c => Kernel13Ideal.AttnBack.grad (Kernel13Ideal.AttnBack.arg1 m c) (Kernel13Ideal.AttnBack.arg2 m c), ?_, ?_⟩
  · refine (θ_run Kernel13Ideal.defs _ _).mono (fun r h c => ?_) (Kernel13Ideal.Value.run_blocks (F := Ideal) m g)
    exact ⟨(h c).1.trans (Kernel13Ideal.AttnBack.result m c), (h c).2⟩
  · refine (θ_run Reference13Ideal.defs _ _).mono (fun r h c => ?_) (Reference13Ideal.Value.run (F := Ideal) m' g')
    refine ⟨((h c).1.trans (Reference13Ideal.Read.val_main_v4_eq (F := Ideal) _ _)).trans ?_, (h c).2⟩
    obtain ⟨e0, e1, e2⟩ := hargs c
    refine Eq.trans ?_ (Reference13Ideal.Read.reference_value _ _)
    exact congr (congrArg (Reference13Ideal.Read.val_main_v4 (F := Ideal)) e1) e2

/-! ### Program 14 -/

theorem frame_kernel14 : quiescent_Kernel14 := fun m ρ _ => Kernel14.Gen.frame (F := Bits) m ρ

theorem frame_ideal14 : quiescent_Kernel14Ideal := fun m ρ _ => Kernel14Ideal.Gen.frame (F := Ideal) m ρ

theorem frame_reference14 : quiescent_Reference14Ideal := fun m ρ _ =>
  (θ_run Reference14Ideal.defs _ _).mono (fun r h => ⟨fun c => (h c).2, sem_eq_zero_of_no_sems (by decide) r.2⟩)
    (Reference14Ideal.Value.run (F := Ideal) m ρ)

theorem value14 : algebraic_Kernel14Ideal_Reference14Ideal := by
  intro m g m' g' _ hargs
  refine ⟨fun c => Kernel14Ideal.GlaBack.grad (Kernel14Ideal.GlaBack.arg1 m c) (Kernel14Ideal.GlaBack.arg2 m c), ?_, ?_⟩
  · refine (θ_run Kernel14Ideal.defs _ _).mono (fun r h c => ?_) (Kernel14Ideal.Value.run_blocks (F := Ideal) m g)
    exact ⟨(h c).1.trans (Kernel14Ideal.GlaBack.result m c), (h c).2⟩
  · refine (θ_run Reference14Ideal.defs _ _).mono (fun r h c => ?_) (Reference14Ideal.Value.run (F := Ideal) m' g')
    refine ⟨((h c).1.trans (Reference14Ideal.Read.val_main_v3_eq (F := Ideal) _ _)).trans ?_, (h c).2⟩
    obtain ⟨e0, e1, e2⟩ := hargs c
    refine Eq.trans ?_ (Reference14Ideal.Read.reference_value _ _)
    exact congr (congrArg (Reference14Ideal.Read.val_main_v3 (F := Ideal)) e1) e2

/-! ### Program 15 -/

theorem frame_kernel15 : quiescent_Kernel15 := fun m ρ _ => Kernel15.Gen.frame (F := Bits) m ρ

theorem frame_ideal15 : quiescent_Kernel15Ideal := fun m ρ _ => Kernel15Ideal.Gen.frame (F := Ideal) m ρ

theorem frame_reference15 : quiescent_Reference15Ideal := fun m ρ _ =>
  (θ_run Reference15Ideal.defs _ _).mono (fun r h => ⟨fun c => (h c).2.2.2.2, sem_eq_zero_of_no_sems (by decide) r.2⟩)
    (Reference15Ideal.Value.run (F := Ideal) m ρ)

/-- The kernel ends with the gradients of the numbers its arguments hold, in the layer norm's closed form; so does the reference, where those
numbers are real. -/
theorem value15 : algebraic_Kernel15Ideal_Reference15Ideal_pre_finite15 := by
  intro m g m' g' hpre hargs
  let a : Dev Kernel15Ideal.nD → Reference15Ideal.Read.Args := fun c => ⟨Kernel15Ideal.MlpBack.arg0 m c, Kernel15Ideal.MlpBack.arg1 m c, Kernel15Ideal.MlpBack.arg2 m c, Kernel15Ideal.MlpBack.arg3 m c, Kernel15Ideal.MlpBack.arg4 m c, Kernel15Ideal.MlpBack.arg5 m c, Kernel15Ideal.MlpBack.arg7 m c, Kernel15Ideal.MlpBack.arg8 m c, Kernel15Ideal.MlpBack.arg9 m c⟩
  have hr : ∀ c, (a c).nums.Real := fun c => MlpBack.nums_real _ _ _ _ _ _ _ _ _ _ (hpre c)
  refine ⟨fun c => (Kernel15Ideal.MlpBack.inputs m c).zArr, fun c => (Kernel15Ideal.MlpBack.inputs m c).yArr, fun c => (Kernel15Ideal.MlpBack.inputs m c).sumArr,
    fun c => (Kernel15Ideal.MlpBack.inputs m c).normArr, ?_, ?_⟩
  · refine (θ_run Kernel15Ideal.defs _ _).mono (fun r h c => ?_) (Kernel15Ideal.Value.run_blocks (F := Ideal) m g)
    exact ⟨(h c).1.trans (Kernel15Ideal.MlpBack.result_z m c), (h c).2.1.trans (Kernel15Ideal.MlpBack.result_y m c), (h c).2.2.1.trans (Kernel15Ideal.MlpBack.result_sum m c),
      (h c).2.2.2.1.trans (Kernel15Ideal.MlpBack.result_norm m c), (h c).2.2.2.2⟩
  · refine (θ_run Reference15Ideal.defs _ _).mono (fun r h c => ?_) (Reference15Ideal.Value.run (F := Ideal) m' g')
    obtain ⟨e0, e1, e2, e3, e4, e5, e6, e7, e8, e9⟩ := hargs c
    refine ⟨((h c).1.trans (Reference15Ideal.Read.val_main_v86_eq (F := Ideal) _ _)).trans ?_, ((h c).2.1.trans (Reference15Ideal.Read.val_main_v92_eq (F := Ideal) _ _)).trans ?_,
      ((h c).2.2.1.trans (Reference15Ideal.Read.val_main_v94_eq (F := Ideal) _ _)).trans ?_, ((h c).2.2.2.1.trans (Reference15Ideal.Read.val_main_v96_eq (F := Ideal) _ _)).trans ?_, (h c).2.2.2.2⟩
    · refine Eq.trans ?_ (Reference15Ideal.Read.reference_z (a c) (hr c))
      exact congr (congr (congr (congr (congr (congr (congr (congrArg (Reference15Ideal.Read.val_main_v86 (F := Ideal)) e0) e1) e2) e3) e5) e7) e8) e9
    · refine Eq.trans ?_ (Reference15Ideal.Read.reference_y (a c) (hr c))
      exact congr (congr (congr (congr (congr (congr (congr (congrArg (Reference15Ideal.Read.val_main_v92 (F := Ideal)) e0) e1) e2) e3) e5) e7) e8) e9
    · refine Eq.trans ?_ (Reference15Ideal.Read.reference_sum (a c))
      exact congr (congr (congr (congr (congr (congr (congrArg (Reference15Ideal.Read.val_main_v94 (F := Ideal)) e0) e1) e2) e3) e4) e7) e9
    · refine Eq.trans ?_ (Reference15Ideal.Read.reference_norm (a c) (hr c))
      exact congr (congr (congr (congr (congr (congr (congr (congrArg (Reference15Ideal.Read.val_main_v96 (F := Ideal)) e0) e1) e2) e3) e5) e7) e8) e9

/-! ### Program 16 -/

theorem frame_kernel16 : quiescent_Kernel16 := fun m ρ _ => Kernel16.Gen.frame (F := Bits) m ρ

theorem frame_ideal16 : quiescent_Kernel16Ideal := fun m ρ _ => Kernel16Ideal.Gen.frame (F := Ideal) m ρ

theorem frame_reference16 : quiescent_Reference16Ideal := fun m ρ _ =>
  (θ_run Reference16Ideal.defs _ _).mono (fun r h => ⟨fun c => (h c).2.2.2.2, sem_eq_zero_of_no_sems (by decide) r.2⟩)
    (Reference16Ideal.Value.run (F := Ideal) m ρ)

/-- The kernel ends with the gradients of the numbers its arguments hold, in the layer norm's closed form; so does the reference, where those
numbers are real. -/
theorem value16 : algebraic_Kernel16Ideal_Reference16Ideal_pre_finite16 := by
  intro m g m' g' hpre hargs
  let a : Dev Kernel16Ideal.nD → Reference16Ideal.Read.Args := fun c => ⟨Kernel16Ideal.AttnDx.arg0 m c, Kernel16Ideal.AttnDx.arg1 m c, Kernel16Ideal.AttnDx.arg2 m c, Kernel16Ideal.AttnDx.arg3 m c, Kernel16Ideal.AttnDx.arg4 m c, Kernel16Ideal.AttnDx.arg5 m c, Kernel16Ideal.AttnDx.arg7 m c, Kernel16Ideal.AttnDx.arg8 m c, Kernel16Ideal.AttnDx.arg9 m c⟩
  have hr : ∀ c, (a c).nums.Real := fun c => AttnDx.nums_real _ _ _ _ _ _ _ _ _ _ _ (hpre c)
  refine ⟨fun c => (Kernel16Ideal.AttnDx.inputs m c).zArr, fun c => (Kernel16Ideal.AttnDx.inputs m c).yArr, fun c => AttnDx.sumArr (Kernel16Ideal.AttnDx.inputs m c) (Kernel16Ideal.AttnDx.arg9 m c),
    fun c => (Kernel16Ideal.AttnDx.inputs m c).normArr, ?_, ?_⟩
  · refine (θ_run Kernel16Ideal.defs _ _).mono (fun r h c => ?_) (Kernel16Ideal.Value.run_blocks (F := Ideal) m g)
    exact ⟨(h c).1.trans (Kernel16Ideal.AttnDx.result_z m c), (h c).2.1.trans (Kernel16Ideal.AttnDx.result_y m c), (h c).2.2.1.trans (Kernel16Ideal.AttnDx.result_sum m c),
      (h c).2.2.2.1.trans (Kernel16Ideal.AttnDx.result_norm m c), (h c).2.2.2.2⟩
  · refine (θ_run Reference16Ideal.defs _ _).mono (fun r h c => ?_) (Reference16Ideal.Value.run (F := Ideal) m' g')
    obtain ⟨e0, e1, e2, e3, e4, e5, e6, e7, e8, e9, e10⟩ := hargs c
    refine ⟨((h c).1.trans (Reference16Ideal.Read.val_main_v97_eq (F := Ideal) _ _)).trans ?_, ((h c).2.1.trans (Reference16Ideal.Read.val_main_v103_eq (F := Ideal) _ _)).trans ?_,
      ((h c).2.2.1.trans (Reference16Ideal.Read.val_main_v108_eq (F := Ideal) _ _)).trans ?_, ((h c).2.2.2.1.trans (Reference16Ideal.Read.val_main_v110_eq (F := Ideal) _ _)).trans ?_, (h c).2.2.2.2⟩
    · refine Eq.trans ?_ (Reference16Ideal.Read.reference_z (a c) (hr c))
      exact congr (congr (congr (congr (congr (congr (congr (congrArg (Reference16Ideal.Read.val_main_v97 (F := Ideal)) e0) e1) e2) e3) e5) e7) e8) e9
    · refine Eq.trans ?_ (Reference16Ideal.Read.reference_y (a c) (hr c))
      exact congr (congr (congr (congr (congr (congr (congr (congrArg (Reference16Ideal.Read.val_main_v103 (F := Ideal)) e0) e1) e2) e3) e5) e7) e8) e9
    · refine Eq.trans ?_ (Reference16Ideal.Read.reference_sum (a c))
      exact congr (congr (congr (congr (congr (congr (congrArg (Reference16Ideal.Read.val_main_v108 (F := Ideal)) e0) e1) e2) e3) e4) e7) e9
    · refine Eq.trans ?_ (Reference16Ideal.Read.reference_norm (a c) (hr c))
      exact congr (congr (congr (congr (congr (congr (congr (congrArg (Reference16Ideal.Read.val_main_v110 (F := Ideal)) e0) e1) e2) e3) e5) e7) e8) e9

/-! ### Program 17 -/

theorem frame_kernel17 : quiescent_Kernel17 := fun m ρ _ => Kernel17.Gen.frame (F := Bits) m ρ

theorem frame_ideal17 : quiescent_Kernel17Ideal := fun m ρ _ => Kernel17Ideal.Gen.frame (F := Ideal) m ρ

theorem frame_reference17 : quiescent_Reference17Ideal := fun m ρ _ =>
  (θ_run Reference17Ideal.defs _ _).mono (fun r h => ⟨fun c => (h c).2.2.2.2, sem_eq_zero_of_no_sems (by decide) r.2⟩)
    (Reference17Ideal.Value.run (F := Ideal) m ρ)

/-- The kernel ends with the gradients of the numbers its arguments hold, in the layer norm's closed form; so does the reference, where those
numbers are real. -/
theorem value17 : algebraic_Kernel17Ideal_Reference17Ideal_pre_finite17 := by
  intro m g m' g' hpre hargs
  let a : Dev Kernel17Ideal.nD → Reference17Ideal.Read.Args := fun c => ⟨Kernel17Ideal.GlaDx.arg0 m c, Kernel17Ideal.GlaDx.arg1 m c, Kernel17Ideal.GlaDx.arg2 m c, Kernel17Ideal.GlaDx.arg3 m c, Kernel17Ideal.GlaDx.arg4 m c, Kernel17Ideal.GlaDx.arg5 m c, Kernel17Ideal.GlaDx.arg7 m c, Kernel17Ideal.GlaDx.arg8 m c, Kernel17Ideal.GlaDx.arg9 m c⟩
  have hr : ∀ c, (a c).nums.Real := fun c => GlaDx.nums_real _ _ _ _ _ _ _ _ _ _ (hpre c)
  refine ⟨fun c => (Kernel17Ideal.GlaDx.inputs m c).zArr, fun c => (Kernel17Ideal.GlaDx.inputs m c).yArr, fun c => (Kernel17Ideal.GlaDx.inputs m c).sumArr,
    fun c => (Kernel17Ideal.GlaDx.inputs m c).normArr, ?_, ?_⟩
  · refine (θ_run Kernel17Ideal.defs _ _).mono (fun r h c => ?_) (Kernel17Ideal.Value.run_blocks (F := Ideal) m g)
    exact ⟨(h c).1.trans (Kernel17Ideal.GlaDx.result_z m c), (h c).2.1.trans (Kernel17Ideal.GlaDx.result_y m c), (h c).2.2.1.trans (Kernel17Ideal.GlaDx.result_sum m c),
      (h c).2.2.2.1.trans (Kernel17Ideal.GlaDx.result_norm m c), (h c).2.2.2.2⟩
  · refine (θ_run Reference17Ideal.defs _ _).mono (fun r h c => ?_) (Reference17Ideal.Value.run (F := Ideal) m' g')
    obtain ⟨e0, e1, e2, e3, e4, e5, e6, e7, e8, e9⟩ := hargs c
    refine ⟨((h c).1.trans (Reference17Ideal.Read.val_main_v86_eq (F := Ideal) _ _)).trans ?_, ((h c).2.1.trans (Reference17Ideal.Read.val_main_v92_eq (F := Ideal) _ _)).trans ?_,
      ((h c).2.2.1.trans (Reference17Ideal.Read.val_main_v94_eq (F := Ideal) _ _)).trans ?_, ((h c).2.2.2.1.trans (Reference17Ideal.Read.val_main_v96_eq (F := Ideal) _ _)).trans ?_, (h c).2.2.2.2⟩
    · refine Eq.trans ?_ (Reference17Ideal.Read.reference_z (a c) (hr c))
      exact congr (congr (congr (congr (congr (congr (congr (congrArg (Reference17Ideal.Read.val_main_v86 (F := Ideal)) e0) e1) e2) e3) e5) e7) e8) e9
    · refine Eq.trans ?_ (Reference17Ideal.Read.reference_y (a c) (hr c))
      exact congr (congr (congr (congr (congr (congr (congr (congrArg (Reference17Ideal.Read.val_main_v92 (F := Ideal)) e0) e1) e2) e3) e5) e7) e8) e9
    · refine Eq.trans ?_ (Reference17Ideal.Read.reference_sum (a c))
      exact congr (congr (congr (congr (congr (congr (congrArg (Reference17Ideal.Read.val_main_v94 (F := Ideal)) e0) e1) e2) e3) e4) e7) e9
    · refine Eq.trans ?_ (Reference17Ideal.Read.reference_norm (a c) (hr c))
      exact congr (congr (congr (congr (congr (congr (congr (congrArg (Reference17Ideal.Read.val_main_v96 (F := Ideal)) e0) e1) e2) e3) e5) e7) e8) e9

/-! ### Program 18 -/

theorem frame_kernel18 : quiescent_Kernel18 := fun m ρ _ => Kernel18.Gen.frame (F := Bits) m ρ

theorem frame_ideal18 : quiescent_Kernel18Ideal := fun m ρ _ => Kernel18Ideal.Gen.frame (F := Ideal) m ρ

theorem frame_reference18 : quiescent_Reference18Ideal := fun m ρ _ =>
  (θ_run Reference18Ideal.defs _ _).mono (fun r h => ⟨fun c => (h c).2.2, sem_eq_zero_of_no_sems (by decide) r.2⟩)
    (Reference18Ideal.Value.run (F := Ideal) m ρ)

theorem value18 : algebraic_Kernel18Ideal_Reference18Ideal := by
  intro m g m' g' _ hargs
  refine ⟨fun c => GlaDxFirst.dx (Kernel18Ideal.GlaDxFirst.du m c) (Kernel18Ideal.GlaDxFirst.arg1 m c) (Kernel18Ideal.GlaDxFirst.arg4 m c), fun c => GlaDxFirst.sumArr (Kernel18Ideal.GlaDxFirst.du m c) (Kernel18Ideal.GlaDxFirst.arg0 m c), ?_, ?_⟩
  · refine (θ_run Kernel18Ideal.defs _ _).mono (fun r h c => ?_) (Kernel18Ideal.Value.run_blocks (F := Ideal) m g)
    exact ⟨(h c).1.trans (Kernel18Ideal.GlaDxFirst.result_dx m c), (h c).2.1.trans (Kernel18Ideal.GlaDxFirst.result_sum m c), (h c).2.2⟩
  · refine (θ_run Reference18Ideal.defs _ _).mono (fun r h c => ?_) (Reference18Ideal.Value.run (F := Ideal) m' g')
    obtain ⟨e0, e1, e2, e3, e4, e5⟩ := hargs c
    refine ⟨((h c).1.trans (Reference18Ideal.Read.val_main_v20_eq (F := Ideal) _ _ _ _)).trans ?_, ((h c).2.1.trans (Reference18Ideal.Read.val_main_v22_eq (F := Ideal) _ _ _)).trans ?_, (h c).2.2⟩
    · refine Eq.trans ?_ (Reference18Ideal.Read.reference_dx _ _ _ _)
      exact congr (congr (congr (congrArg (Reference18Ideal.Read.val_main_v20 (F := Ideal)) e1) e3) e4) e5
    · refine Eq.trans ?_ (Reference18Ideal.Read.reference_sum _ _ _)
      exact congr (congr (congrArg (Reference18Ideal.Read.val_main_v22 (F := Ideal)) e0) e3) e5

theorem claim : Cert.Claim := ⟨Kernel.Gen.facts,
  KernelIdeal.Gen.facts,
  ReferenceIdeal.Gen.facts,
  Kernel2.Gen.facts,
  Kernel2Ideal.Gen.facts,
  Reference2Ideal.Gen.facts,
  Kernel3.Gen.facts,
  Kernel3Ideal.Gen.facts,
  Reference3Ideal.Gen.facts,
  Kernel4.Gen.facts,
  Kernel4Ideal.Gen.facts,
  Reference4Ideal.Gen.facts,
  Kernel5.Gen.facts,
  Kernel5Ideal.Gen.facts,
  Reference5Ideal.Gen.facts,
  Kernel6.Gen.facts,
  Kernel6Ideal.Gen.facts,
  Reference6Ideal.Gen.facts,
  Kernel7.Gen.facts,
  Kernel7Ideal.Gen.facts,
  Reference7Ideal.Gen.facts,
  Kernel8.Gen.facts,
  Kernel8Ideal.Gen.facts,
  Reference8Ideal.Gen.facts,
  Kernel9.Gen.facts,
  Kernel9Ideal.Gen.facts,
  Reference9Ideal.Gen.facts,
  Kernel10.Gen.facts,
  Kernel10Ideal.Gen.facts,
  Reference10Ideal.Gen.facts,
  Kernel11.Gen.facts,
  Kernel11Ideal.Gen.facts,
  Reference11Ideal.Gen.facts,
  Kernel12.Gen.facts,
  Kernel12Ideal.Gen.facts,
  Reference12Ideal.Gen.facts,
  Kernel13.Gen.facts,
  Kernel13Ideal.Gen.facts,
  Reference13Ideal.Gen.facts,
  Kernel14.Gen.facts,
  Kernel14Ideal.Gen.facts,
  Reference14Ideal.Gen.facts,
  Kernel15.Gen.facts,
  Kernel15Ideal.Gen.facts,
  Reference15Ideal.Gen.facts,
  Kernel16.Gen.facts,
  Kernel16Ideal.Gen.facts,
  Reference16Ideal.Gen.facts,
  Kernel17.Gen.facts,
  Kernel17Ideal.Gen.facts,
  Reference17Ideal.Gen.facts,
  Kernel18.Gen.facts,
  Kernel18Ideal.Gen.facts,
  Reference18Ideal.Gen.facts,
  Pre_finite.Gen.facts,
  Pre_finite15.Gen.facts,
  Pre_finite16.Gen.facts,
  Pre_finite17.Gen.facts,
  frame_kernel,
  frame_ideal,
  fun m ρ _ => frame_ideal m ρ trivial,
  frame_reference,
  fun m ρ _ => frame_reference m ρ trivial,
  frame_kernel2,
  frame_ideal2,
  frame_reference2,
  frame_kernel3,
  frame_ideal3,
  frame_reference3,
  frame_kernel4,
  frame_ideal4,
  frame_reference4,
  frame_kernel5,
  frame_ideal5,
  frame_reference5,
  frame_kernel6,
  frame_ideal6,
  frame_reference6,
  frame_kernel7,
  frame_ideal7,
  frame_reference7,
  frame_kernel8,
  frame_ideal8,
  frame_reference8,
  frame_kernel9,
  frame_ideal9,
  frame_reference9,
  frame_kernel10,
  frame_ideal10,
  frame_reference10,
  frame_kernel11,
  frame_ideal11,
  frame_reference11,
  frame_kernel12,
  frame_ideal12,
  frame_reference12,
  frame_kernel13,
  frame_ideal13,
  frame_reference13,
  frame_kernel14,
  frame_ideal14,
  frame_reference14,
  frame_kernel15,
  frame_ideal15,
  fun m ρ _ => frame_ideal15 m ρ trivial,
  frame_reference15,
  fun m ρ _ => frame_reference15 m ρ trivial,
  frame_kernel16,
  frame_ideal16,
  fun m ρ _ => frame_ideal16 m ρ trivial,
  frame_reference16,
  fun m ρ _ => frame_reference16 m ρ trivial,
  frame_kernel17,
  frame_ideal17,
  fun m ρ _ => frame_ideal17 m ρ trivial,
  frame_reference17,
  fun m ρ _ => frame_reference17 m ρ trivial,
  frame_kernel18,
  frame_ideal18,
  frame_reference18,
  trivial,
  value,
  trivial,
  value2,
  trivial,
  value3,
  trivial,
  value4,
  trivial,
  value5,
  trivial,
  value6,
  trivial,
  value7,
  trivial,
  value8,
  trivial,
  value9,
  trivial,
  value10,
  trivial,
  value11,
  trivial,
  value12,
  trivial,
  value13,
  trivial,
  value14,
  trivial,
  value15,
  trivial,
  value16,
  trivial,
  value17,
  trivial,
  value18⟩

end Cert.Proof

end
